-- ==== Defs.lean ====
def Pre_Kernel (m : (ℓ : Loc Cert.Kernel.nD Cert.Kernel.τ Cert.Kernel.sig) → Buf (Elt Bits) ℓ) : Prop :=
  True

def Pre_Kernel_plus_zero_normal_or_inf [hPre_plus_zero_normal_or_inf : Cert.Pre_plus_zero_normal_or_inf.Facts] (m : (ℓ : Loc Cert.Kernel.nD Cert.Kernel.τ Cert.Kernel.sig) → Buf (Elt Bits) ℓ) : Prop :=
  ∀ c : Dev Cert.Kernel.nD,
    (Cert.Pre_plus_zero_normal_or_inf.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_plus_zero_normal_or_inf [hPre_plus_zero_normal_or_inf : Cert.Pre_plus_zero_normal_or_inf.Facts] (m : (ℓ : Loc Cert.Reference.nD Cert.Reference.τ Cert.Reference.sig) → Buf (Elt Bits) ℓ) : Prop :=
  ∀ c : Dev Cert.Reference.nD,
    (Cert.Pre_plus_zero_normal_or_inf.fn (F := Bits) (m ((c.tc : Thread Cert.Reference.nD Cert.Reference.τ).loc Cert.Reference.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_plus_zero_normal_or_inf [hKernel : Cert.Kernel.Facts] [hPre_plus_zero_normal_or_inf : Cert.Pre_plus_zero_normal_or_inf.Facts] : Prop :=
  ∀ (m : (ℓ : Loc Cert.Kernel.nD Cert.Kernel.τ Cert.Kernel.sig) → Buf (Elt Bits) ℓ) (g : Dev Cert.Kernel.nD → PrngReg), Pre_Kernel_plus_zero_normal_or_inf m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_plus_zero_normal_or_inf [hReference : Cert.Reference.Facts] [hPre_plus_zero_normal_or_inf : Cert.Pre_plus_zero_normal_or_inf.Facts] : Prop :=
  ∀ (m : (ℓ : Loc Cert.Reference.nD Cert.Reference.τ Cert.Reference.sig) → Buf (Elt Bits) ℓ) (g : Dev Cert.Reference.nD → PrngReg), Pre_Reference_plus_zero_normal_or_inf m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference_pre_plus_zero_normal_or_inf [hKernel : Cert.Kernel.Facts] [hReference : Cert.Reference.Facts] [hPre_plus_zero_normal_or_inf : Cert.Pre_plus_zero_normal_or_inf.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_plus_zero_normal_or_inf m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts) (hPre_plus_zero_normal_or_inf : Cert.Pre_plus_zero_normal_or_inf.Facts),
    quiescent_Kernel (hKernel := hKernel)
    ∧ quiescent_Kernel_pre_plus_zero_normal_or_inf (hKernel := hKernel) (hPre_plus_zero_normal_or_inf := hPre_plus_zero_normal_or_inf)
    ∧ quiescent_Reference (hReference := hReference)
    ∧ quiescent_Reference_pre_plus_zero_normal_or_inf (hReference := hReference) (hPre_plus_zero_normal_or_inf := hPre_plus_zero_normal_or_inf)
    ∧ bitexact_Kernel_Reference_pre_plus_zero_normal_or_inf (hKernel := hKernel) (hReference := hReference) (hPre_plus_zero_normal_or_inf := hPre_plus_zero_normal_or_inf)
-- ==== Pre_plus_zero_normal_or_inf.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)

variable [Facts]

def fn_part1 {F : FTy → Type} [BitOps F] (main_v11 : IVec S128x32768 1) (main_v16 : IVec S128x32768 1) : IVec S128x32768 1 :=
  let main_v17 : IVec S128x32768 1 := andi main_v11 main_v16
  main_v17

def fn {F : FTy → Type} [BitOps F] (main_arg0 : FVec F S128x32768 .f32) : IVec S128x32768 1 :=
  let main_v0 : IVec S128x32768 32 := bitcastToInt main_arg0
  let main_c : IVec S_ 32 := constantI S_ 32 23#32
  let main_v1 : IVec S128x32768 32 := broadcastInDim S128x32768 ![] bcast_S_S128x32768 main_c
  let main_v2 : IVec S128x32768 32 := Host.shrui main_v0 main_v1
  let main_c_0 : IVec S_ 32 := constantI S_ 32 255#32
  let main_v3 : IVec S128x32768 32 := broadcastInDim S128x32768 ![] bcast_S_S128x32768 main_c_0
  let main_v4 : IVec S128x32768 32 := andi main_v2 main_v3
  let main_c_1 : IVec S_ 32 := constantI S_ 32 8388607#32
  let main_v5 : IVec S128x32768 32 := broadcastInDim S128x32768 ![] bcast_S_S128x32768 main_c_1
  let main_v6 : IVec S128x32768 32 := andi main_v0 main_v5
  let main_c_2 : IVec S_ 32 := constantI S_ 32 255#32
  let main_v7 : IVec S128x32768 32 := broadcastInDim S128x32768 ![] bcast_S_S128x32768 main_c_2
  let main_v8 : IVec S128x32768 1 := cmpi .ne main_v4 main_v7
  let main_c_3 : IVec S_ 32 := constantI S_ 32 0#32
  let main_v9 : IVec S128x32768 32 := broadcastInDim S128x32768 ![] bcast_S_S128x32768 main_c_3
  let main_v10 : IVec S128x32768 1 := cmpi .eq main_v6 main_v9
  let main_v11 : IVec S128x32768 1 := ori main_v8 main_v10
  let main_c_4 : IVec S_ 32 := constantI S_ 32 0#32
  let main_v12 : IVec S128x32768 32 := broadcastInDim S128x32768 ![] bcast_S_S128x32768 main_c_4
  let main_v13 : IVec S128x32768 1 := cmpi .ne main_v4 main_v12
  let main_c_5 : IVec S_ 32 := constantI S_ 32 0#32
  let main_v14 : IVec S128x32768 32 := broadcastInDim S128x32768 ![] bcast_S_S128x32768 main_c_5
  let main_v15 : IVec S128x32768 1 := cmpi .eq main_v0 main_v14
  let main_v16 : IVec S128x32768 1 := ori main_v13 main_v15
  fn_part1 (F := F) main_v11 main_v16
-- ==== Kernel.lean ====
abbrev S128x32768 : Shape := ⟨2, ![128, 32768]⟩
abbrev S32768 : Shape := ⟨1, ![32768]⟩
abbrev S4096 : Shape := ⟨1, ![4096]⟩
abbrev S2048 : Shape := ⟨1, ![2048]⟩
abbrev S_ : Shape := ⟨0, ![]⟩
abbrev S16 : Shape := ⟨1, ![16]⟩
abbrev S1x32768 : Shape := ⟨2, ![1, 32768]⟩

abbrev nBuf : Table → Nat
  | .hbm => 4
  | .local .scVector .vmem => 9
  | _ => 0

abbrev bufTy : (tb : Table) → Fin (nBuf tb) → BufTy
  | .hbm, ⟨0, _⟩ => ⟨S128x32768, .f32⟩
  | .hbm, ⟨1, _⟩ => ⟨S128x32768, .i32⟩
  | .hbm, ⟨2, _⟩ => ⟨S128x32768, .i32⟩
  | .hbm, ⟨3, _⟩ => ⟨S128x32768, .f32⟩
  | .local .scVector .vmem, ⟨0, _⟩ => ⟨S32768, .i32⟩
  | .local .scVector .vmem, ⟨1, _⟩ => ⟨S32768, .i32⟩
  | .local .scVector .vmem, ⟨2, _⟩ => ⟨S32768, .i32⟩
  | .local .scVector .vmem, ⟨3, _⟩ => ⟨S4096, .i32⟩
  | .local .scVector .vmem, ⟨4, _⟩ => ⟨S4096, .i32⟩
  | .local .scVector .vmem, ⟨5, _⟩ => ⟨S4096, .i32⟩
  | .local .scVector .vmem, ⟨6, _⟩ => ⟨S2048, .i32⟩
  | .local .scVector .vmem, ⟨7, _⟩ => ⟨S2048, .i32⟩
  | .local .scVector .vmem, ⟨8, _⟩ => ⟨S2048, .i32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_2 : BitVec 32 := 0#32
  let c256_i32 : BitVec 32 := 256#32
  let v5 : BitVec 32 := Scalar.addi c0_i32_2 c256_i32
  let c1_i32 : BitVec 32 := 1#32
  ⟨c0_i32_2, v5, c1_i32⟩
def k0_off1 (k0_t1 : Fin k0_t1_loop.trips) : Fin 1 → Nat :=
  let c0_i32_2 : BitVec 32 := 0#32
  let c1_i32 : BitVec 32 := 1#32
  let arg15 : BitVec 32 := Scf.iv c0_i32_2 c1_i32 k0_t1
  let c16_i32 : BitVec 32 := 16#32
  let v145 : BitVec 32 := Scalar.muli arg15 c16_i32
  let v146 : Index := Scalar.indexCast v145
  ![v146.toNat]
@[reducible] def k0_t2_loop : Scf.Loop 32 :=
  let c0_i32_6 : BitVec 32 := 0#32
  let c256_i32_7 : BitVec 32 := 256#32
  let v7 : BitVec 32 := Scalar.addi c0_i32_6 c256_i32_7
  let c1_i32_8 : BitVec 32 := 1#32
  ⟨c0_i32_6, v7, c1_i32_8⟩
def k0_off2 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c16_i32 : BitVec 32 := 16#32
  let v145 : BitVec 32 := Scalar.muli arg15 c16_i32
  let v146 : Index := Scalar.indexCast v145
  ![v146.toNat]
@[reducible] def k0_t3_loop : Scf.Loop 32 :=
  let c0_i32_12 : BitVec 32 := 0#32
  let c256_i32_13 : BitVec 32 := 256#32
  let v9 : BitVec 32 := Scalar.addi c0_i32_12 c256_i32_13
  let c1_i32_14 : BitVec 32 := 1#32
  ⟨c0_i32_12, v9, c1_i32_14⟩
def k0_off3 (k0_t3 : Fin k0_t3_loop.trips) : Fin 1 → Nat :=
  let c0_i32_12 : BitVec 32 := 0#32
  let c1_i32_14 : BitVec 32 := 1#32
  let arg15 : BitVec 32 := Scf.iv c0_i32_12 c1_i32_14 k0_t3
  let c16_i32 : BitVec 32 := 16#32
  let v145 : BitVec 32 := Scalar.muli arg15 c16_i32
  let v146 : Index := Scalar.indexCast v145
  ![v146.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_16 : BitVec 32 := 0#32
  ![v2.toNat, 0]
def k0_off5 (i : grid0.Coords) (c1_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v18 : BitVec 32 := Scalar.addi v2 c1_i32_20
  let c0_i32_21 : BitVec 32 := 0#32
  ![v18.toNat, 0]
@[reducible] def k0_t4_loop : Scf.Loop 32 :=
  let c0_i32_24 : BitVec 32 := 0#32
  let c64_i32 : BitVec 32 := 64#32
  let v23 : BitVec 32 := Scalar.addi c0_i32_24 c64_i32
  let c1_i32_25 : BitVec 32 := 1#32
  ⟨c0_i32_24, v23, c1_i32_25⟩
def k0_off6 (k0_t4 : Fin k0_t4_loop.trips) (c0_i32_312 : BitVec 32) (c0_i32_313 : BitVec 32) : Fin 1 → Nat :=
  let c0_i32_24 : BitVec 32 := 0#32
  let c1_i32_25 : BitVec 32 := 1#32
  let arg15 : BitVec 32 := Scf.iv c0_i32_24 c1_i32_25 k0_t4
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_314 : BitVec 32 := 16#32
  let v148 : BitVec 32 := Scalar.muli v147 c16_i32_314
  let v273 : Index := Scalar.indexCast v148
  ![v273.toNat]

def k0_chk1 (v658 : IVec S16 32) : Prop :=
  (∀ a x, ((![v658] : Fin 1 → IVec S16 32) a x).toNat < S4096.size a)
theorem k0_idx1_inb : ∀ (v658 : IVec S16 32) (k0_hw1 : k0_chk1 v658), ∀ a x, ((![v658] : Fin 1 → IVec S16 32) a x).toNat < S4096.size a := fun v658 k0_hw1 => k0_hw1

def k0_chk2 (v660 : IVec S16 32) : Prop :=
  (∀ a x, ((![v660] : Fin 1 → IVec S16 32) a x).toNat < S4096.size a)
theorem k0_idx2_inb : ∀ (v660 : IVec S16 32) (k0_hw2 : k0_chk2 v660), ∀ a x, ((![v660] : Fin 1 → IVec S16 32) a x).toNat < S4096.size a := fun v660 k0_hw2 => k0_hw2

def k0_chk3 (v662 : IVec S16 32) : Prop :=
  (∀ a x, ((![v662] : Fin 1 → IVec S16 32) a x).toNat < S4096.size a)
theorem k0_idx3_inb : ∀ (v662 : IVec S16 32) (k0_hw3 : k0_chk3 v662), ∀ a x, ((![v662] : Fin 1 → IVec S16 32) a x).toNat < S4096.size a := fun v662 k0_hw3 => k0_hw3

def k0_chk4 (v664 : IVec S16 32) : Prop :=
  (∀ a x, ((![v664] : Fin 1 → IVec S16 32) a x).toNat < S4096.size a)
theorem k0_idx4_inb : ∀ (v664 : IVec S16 32) (k0_hw4 : k0_chk4 v664), ∀ a x, ((![v664] : Fin 1 → IVec S16 32) a x).toNat < S4096.size a := fun v664 k0_hw4 => k0_hw4

def k0_chk5 (v666 : IVec S16 32) : Prop :=
  (∀ a x, ((![v666] : Fin 1 → IVec S16 32) a x).toNat < S4096.size a)
theorem k0_idx5_inb : ∀ (v666 : IVec S16 32) (k0_hw5 : k0_chk5 v666), ∀ a x, ((![v666] : Fin 1 → IVec S16 32) a x).toNat < S4096.size a := fun v666 k0_hw5 => k0_hw5

def k0_chk6 (v668 : IVec S16 32) : Prop :=
  (∀ a x, ((![v668] : Fin 1 → IVec S16 32) a x).toNat < S4096.size a)
theorem k0_idx6_inb : ∀ (v668 : IVec S16 32) (k0_hw6 : k0_chk6 v668), ∀ a x, ((![v668] : Fin 1 → IVec S16 32) a x).toNat < S4096.size a := fun v668 k0_hw6 => k0_hw6

def k0_chk7 (v670 : IVec S16 32) : Prop :=
  (∀ a x, ((![v670] : Fin 1 → IVec S16 32) a x).toNat < S4096.size a)
theorem k0_idx7_inb : ∀ (v670 : IVec S16 32) (k0_hw7 : k0_chk7 v670), ∀ a x, ((![v670] : Fin 1 → IVec S16 32) a x).toNat < S4096.size a := fun v670 k0_hw7 => k0_hw7

def k0_chk8 (v672 : IVec S16 32) : Prop :=
  (∀ a x, ((![v672] : Fin 1 → IVec S16 32) a x).toNat < S4096.size a)
theorem k0_idx8_inb : ∀ (v672 : IVec S16 32) (k0_hw8 : k0_chk8 v672), ∀ a x, ((![v672] : Fin 1 → IVec S16 32) a x).toNat < S4096.size a := fun v672 k0_hw8 => k0_hw8

def k0_chk9 (v674 : IVec S16 32) : Prop :=
  (∀ a x, ((![v674] : Fin 1 → IVec S16 32) a x).toNat < S4096.size a)
theorem k0_idx9_inb : ∀ (v674 : IVec S16 32) (k0_hw9 : k0_chk9 v674), ∀ a x, ((![v674] : Fin 1 → IVec S16 32) a x).toNat < S4096.size a := fun v674 k0_hw9 => k0_hw9

def k0_chk10 (v676 : IVec S16 32) : Prop :=
  (∀ a x, ((![v676] : Fin 1 → IVec S16 32) a x).toNat < S4096.size a)
theorem k0_idx10_inb : ∀ (v676 : IVec S16 32) (k0_hw10 : k0_chk10 v676), ∀ a x, ((![v676] : Fin 1 → IVec S16 32) a x).toNat < S4096.size a := fun v676 k0_hw10 => k0_hw10

def k0_chk11 (v678 : IVec S16 32) : Prop :=
  (∀ a x, ((![v678] : Fin 1 → IVec S16 32) a x).toNat < S4096.size a)
theorem k0_idx11_inb : ∀ (v678 : IVec S16 32) (k0_hw11 : k0_chk11 v678), ∀ a x, ((![v678] : Fin 1 → IVec S16 32) a x).toNat < S4096.size a := fun v678 k0_hw11 => k0_hw11

def k0_chk12 (v680 : IVec S16 32) : Prop :=
  (∀ a x, ((![v680] : Fin 1 → IVec S16 32) a x).toNat < S4096.size a)
theorem k0_idx12_inb : ∀ (v680 : IVec S16 32) (k0_hw12 : k0_chk12 v680), ∀ a x, ((![v680] : Fin 1 → IVec S16 32) a x).toNat < S4096.size a := fun v680 k0_hw12 => k0_hw12

def k0_chk13 (v682 : IVec S16 32) : Prop :=
  (∀ a x, ((![v682] : Fin 1 → IVec S16 32) a x).toNat < S4096.size a)
theorem k0_idx13_inb : ∀ (v682 : IVec S16 32) (k0_hw13 : k0_chk13 v682), ∀ a x, ((![v682] : Fin 1 → IVec S16 32) a x).toNat < S4096.size a := fun v682 k0_hw13 => k0_hw13

def k0_chk14 (v684 : IVec S16 32) : Prop :=
  (∀ a x, ((![v684] : Fin 1 → IVec S16 32) a x).toNat < S4096.size a)
theorem k0_idx14_inb : ∀ (v684 : IVec S16 32) (k0_hw14 : k0_chk14 v684), ∀ a x, ((![v684] : Fin 1 → IVec S16 32) a x).toNat < S4096.size a := fun v684 k0_hw14 => k0_hw14

def k0_chk15 (v686 : IVec S16 32) : Prop :=
  (∀ a x, ((![v686] : Fin 1 → IVec S16 32) a x).toNat < S4096.size a)
theorem k0_idx15_inb : ∀ (v686 : IVec S16 32) (k0_hw15 : k0_chk15 v686), ∀ a x, ((![v686] : Fin 1 → IVec S16 32) a x).toNat < S4096.size a := fun v686 k0_hw15 => k0_hw15

def k0_chk16 (v688 : IVec S16 32) : Prop :=
  (∀ a x, ((![v688] : Fin 1 → IVec S16 32) a x).toNat < S4096.size a)
theorem k0_idx16_inb : ∀ (v688 : IVec S16 32) (k0_hw16 : k0_chk16 v688), ∀ a x, ((![v688] : Fin 1 → IVec S16 32) a x).toNat < S4096.size a := fun v688 k0_hw16 => k0_hw16

def k0_chk17 (v690 : IVec S16 32) : Prop :=
  (∀ a x, ((![v690] : Fin 1 → IVec S16 32) a x).toNat < S4096.size a)
theorem k0_idx17_inb : ∀ (v690 : IVec S16 32) (k0_hw17 : k0_chk17 v690), ∀ a x, ((![v690] : Fin 1 → IVec S16 32) a x).toNat < S4096.size a := fun v690 k0_hw17 => k0_hw17

def k0_chk18 (v692 : IVec S16 32) : Prop :=
  (∀ a x, ((![v692] : Fin 1 → IVec S16 32) a x).toNat < S4096.size a)
theorem k0_idx18_inb : ∀ (v692 : IVec S16 32) (k0_hw18 : k0_chk18 v692), ∀ a x, ((![v692] : Fin 1 → IVec S16 32) a x).toNat < S4096.size a := fun v692 k0_hw18 => k0_hw18

def k0_chk19 (v694 : IVec S16 32) : Prop :=
  (∀ a x, ((![v694] : Fin 1 → IVec S16 32) a x).toNat < S4096.size a)
theorem k0_idx19_inb : ∀ (v694 : IVec S16 32) (k0_hw19 : k0_chk19 v694), ∀ a x, ((![v694] : Fin 1 → IVec S16 32) a x).toNat < S4096.size a := fun v694 k0_hw19 => k0_hw19

def k0_chk20 (v696 : IVec S16 32) : Prop :=
  (∀ a x, ((![v696] : Fin 1 → IVec S16 32) a x).toNat < S4096.size a)
theorem k0_idx20_inb : ∀ (v696 : IVec S16 32) (k0_hw20 : k0_chk20 v696), ∀ a x, ((![v696] : Fin 1 → IVec S16 32) a x).toNat < S4096.size a := fun v696 k0_hw20 => k0_hw20

def k0_chk21 (v698 : IVec S16 32) : Prop :=
  (∀ a x, ((![v698] : Fin 1 → IVec S16 32) a x).toNat < S4096.size a)
theorem k0_idx21_inb : ∀ (v698 : IVec S16 32) (k0_hw21 : k0_chk21 v698), ∀ a x, ((![v698] : Fin 1 → IVec S16 32) a x).toNat < S4096.size a := fun v698 k0_hw21 => k0_hw21

def k0_chk22 (v700 : IVec S16 32) : Prop :=
  (∀ a x, ((![v700] : Fin 1 → IVec S16 32) a x).toNat < S4096.size a)
theorem k0_idx22_inb : ∀ (v700 : IVec S16 32) (k0_hw22 : k0_chk22 v700), ∀ a x, ((![v700] : Fin 1 → IVec S16 32) a x).toNat < S4096.size a := fun v700 k0_hw22 => k0_hw22

def k0_chk23 (v702 : IVec S16 32) : Prop :=
  (∀ a x, ((![v702] : Fin 1 → IVec S16 32) a x).toNat < S4096.size a)
theorem k0_idx23_inb : ∀ (v702 : IVec S16 32) (k0_hw23 : k0_chk23 v702), ∀ a x, ((![v702] : Fin 1 → IVec S16 32) a x).toNat < S4096.size a := fun v702 k0_hw23 => k0_hw23

def k0_chk24 (v704 : IVec S16 32) : Prop :=
  (∀ a x, ((![v704] : Fin 1 → IVec S16 32) a x).toNat < S4096.size a)
theorem k0_idx24_inb : ∀ (v704 : IVec S16 32) (k0_hw24 : k0_chk24 v704), ∀ a x, ((![v704] : Fin 1 → IVec S16 32) a x).toNat < S4096.size a := fun v704 k0_hw24 => k0_hw24

def k0_chk25 (v706 : IVec S16 32) : Prop :=
  (∀ a x, ((![v706] : Fin 1 → IVec S16 32) a x).toNat < S4096.size a)
theorem k0_idx25_inb : ∀ (v706 : IVec S16 32) (k0_hw25 : k0_chk25 v706), ∀ a x, ((![v706] : Fin 1 → IVec S16 32) a x).toNat < S4096.size a := fun v706 k0_hw25 => k0_hw25

def k0_chk26 (v708 : IVec S16 32) : Prop :=
  (∀ a x, ((![v708] : Fin 1 → IVec S16 32) a x).toNat < S4096.size a)
theorem k0_idx26_inb : ∀ (v708 : IVec S16 32) (k0_hw26 : k0_chk26 v708), ∀ a x, ((![v708] : Fin 1 → IVec S16 32) a x).toNat < S4096.size a := fun v708 k0_hw26 => k0_hw26

def k0_chk27 (v710 : IVec S16 32) : Prop :=
  (∀ a x, ((![v710] : Fin 1 → IVec S16 32) a x).toNat < S4096.size a)
theorem k0_idx27_inb : ∀ (v710 : IVec S16 32) (k0_hw27 : k0_chk27 v710), ∀ a x, ((![v710] : Fin 1 → IVec S16 32) a x).toNat < S4096.size a := fun v710 k0_hw27 => k0_hw27

def k0_chk28 (v712 : IVec S16 32) : Prop :=
  (∀ a x, ((![v712] : Fin 1 → IVec S16 32) a x).toNat < S4096.size a)
theorem k0_idx28_inb : ∀ (v712 : IVec S16 32) (k0_hw28 : k0_chk28 v712), ∀ a x, ((![v712] : Fin 1 → IVec S16 32) a x).toNat < S4096.size a := fun v712 k0_hw28 => k0_hw28

def k0_chk29 (v714 : IVec S16 32) : Prop :=
  (∀ a x, ((![v714] : Fin 1 → IVec S16 32) a x).toNat < S4096.size a)
theorem k0_idx29_inb : ∀ (v714 : IVec S16 32) (k0_hw29 : k0_chk29 v714), ∀ a x, ((![v714] : Fin 1 → IVec S16 32) a x).toNat < S4096.size a := fun v714 k0_hw29 => k0_hw29

def k0_chk30 (v716 : IVec S16 32) : Prop :=
  (∀ a x, ((![v716] : Fin 1 → IVec S16 32) a x).toNat < S4096.size a)
theorem k0_idx30_inb : ∀ (v716 : IVec S16 32) (k0_hw30 : k0_chk30 v716), ∀ a x, ((![v716] : Fin 1 → IVec S16 32) a x).toNat < S4096.size a := fun v716 k0_hw30 => k0_hw30

def k0_chk31 (v718 : IVec S16 32) : Prop :=
  (∀ a x, ((![v718] : Fin 1 → IVec S16 32) a x).toNat < S4096.size a)
theorem k0_idx31_inb : ∀ (v718 : IVec S16 32) (k0_hw31 : k0_chk31 v718), ∀ a x, ((![v718] : Fin 1 → IVec S16 32) a x).toNat < S4096.size a := fun v718 k0_hw31 => k0_hw31

def k0_chk32 (v720 : IVec S16 32) : Prop :=
  (∀ a x, ((![v720] : Fin 1 → IVec S16 32) a x).toNat < S4096.size a)
theorem k0_idx32_inb : ∀ (v720 : IVec S16 32) (k0_hw32 : k0_chk32 v720), ∀ a x, ((![v720] : Fin 1 → IVec S16 32) a x).toNat < S4096.size a := fun v720 k0_hw32 => k0_hw32
@[reducible] def k0_t5_loop : Scf.Loop 32 :=
  let c0_i32_28 : BitVec 32 := 0#32
  let c128_i32 : BitVec 32 := 128#32
  let v24 : BitVec 32 := Scalar.addi c0_i32_28 c128_i32
  let c1_i32_29 : BitVec 32 := 1#32
  ⟨c0_i32_28, v24, c1_i32_29⟩
def k0_off7 (k0_t5 : Fin k0_t5_loop.trips) : Fin 1 → Nat :=
  let c0_i32_28 : BitVec 32 := 0#32
  let c1_i32_29 : BitVec 32 := 1#32
  let arg15 : BitVec 32 := Scf.iv c0_i32_28 c1_i32_29 k0_t5
  let c16_i32_312 : BitVec 32 := 16#32
  let v146 : BitVec 32 := Scalar.muli arg15 c16_i32_312
  let v147 : Index := Scalar.indexCast v146
  ![v147.toNat]
def k0_off8 (k0_t5 : Fin k0_t5_loop.trips) : Fin 1 → Nat :=
  let c2048_i32 : BitVec 32 := 2048#32
  let c0_i32_28 : BitVec 32 := 0#32
  let c1_i32_29 : BitVec 32 := 1#32
  let arg15 : BitVec 32 := Scf.iv c0_i32_28 c1_i32_29 k0_t5
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off9 (k0_t5 : Fin k0_t5_loop.trips) : Fin 1 → Nat :=
  let c0_i32_28 : BitVec 32 := 0#32
  let c1_i32_29 : BitVec 32 := 1#32
  let arg15 : BitVec 32 := Scf.iv c0_i32_28 c1_i32_29 k0_t5
  let c16_i32 : BitVec 32 := 16#32
  let v145 : BitVec 32 := Scalar.muli arg15 c16_i32
  let v154 : Index := Scalar.indexCast v145
  ![v154.toNat]
@[reducible] def k0_t6_loop : Scf.Loop 32 :=
  let c0_i32_32 : BitVec 32 := 0#32
  let c128_i32_33 : BitVec 32 := 128#32
  let v25 : BitVec 32 := Scalar.addi c0_i32_32 c128_i32_33
  let c1_i32_34 : BitVec 32 := 1#32
  ⟨c0_i32_32, v25, c1_i32_34⟩
def k0_off10 (k0_t6 : Fin k0_t6_loop.trips) : Fin 1 → Nat :=
  let c0_i32_32 : BitVec 32 := 0#32
  let c1_i32_34 : BitVec 32 := 1#32
  let arg15 : BitVec 32 := Scf.iv c0_i32_32 c1_i32_34 k0_t6
  let c16_i32 : BitVec 32 := 16#32
  let v145 : BitVec 32 := Scalar.muli arg15 c16_i32
  let v146 : Index := Scalar.indexCast v145
  ![v146.toNat]
@[reducible] def k0_t7_loop : Scf.Loop 32 :=
  let c0_i32_37 : BitVec 32 := 0#32
  let c128_i32_38 : BitVec 32 := 128#32
  let v27 : BitVec 32 := Scalar.addi c0_i32_37 c128_i32_38
  let c1_i32_39 : BitVec 32 := 1#32
  ⟨c0_i32_37, v27, c1_i32_39⟩
def k0_off11 (k0_t7 : Fin k0_t7_loop.trips) : Fin 1 → Nat :=
  let c0_i32_37 : BitVec 32 := 0#32
  let c1_i32_39 : BitVec 32 := 1#32
  let arg15 : BitVec 32 := Scf.iv c0_i32_37 c1_i32_39 k0_t7
  let c16_i32 : BitVec 32 := 16#32
  let v145 : BitVec 32 := Scalar.muli arg15 c16_i32
  let v146 : Index := Scalar.indexCast v145
  ![v146.toNat]
def k0_off12 (k0_t7 : Fin k0_t7_loop.trips) : Fin 1 → Nat :=
  let c0_i32_37 : BitVec 32 := 0#32
  let c1_i32_39 : BitVec 32 := 1#32
  let arg15 : BitVec 32 := Scf.iv c0_i32_37 c1_i32_39 k0_t7
  let c16_i32_312 : BitVec 32 := 16#32
  let v150 : BitVec 32 := Scalar.muli arg15 c16_i32_312
  let v151 : Index := Scalar.indexCast v150
  ![v151.toNat]
def k0_off13 (k0_t7 : Fin k0_t7_loop.trips) : Fin 1 → Nat :=
  let c2048_i32 : BitVec 32 := 2048#32
  let c0_i32_37 : BitVec 32 := 0#32
  let c1_i32_39 : BitVec 32 := 1#32
  let arg15 : BitVec 32 := Scf.iv c0_i32_37 c1_i32_39 k0_t7
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t8_loop : Scf.Loop 32 :=
  let c0_i32_42 : BitVec 32 := 0#32
  let c64_i32_43 : BitVec 32 := 64#32
  let v28 : BitVec 32 := Scalar.addi c0_i32_42 c64_i32_43
  let c1_i32_44 : BitVec 32 := 1#32
  ⟨c0_i32_42, v28, c1_i32_44⟩
def k0_off14 (k0_t8 : Fin k0_t8_loop.trips) (c0_i32_312 : BitVec 32) (c0_i32_313 : BitVec 32) : Fin 1 → Nat :=
  let c0_i32_42 : BitVec 32 := 0#32
  let c1_i32_44 : BitVec 32 := 1#32
  let arg15 : BitVec 32 := Scf.iv c0_i32_42 c1_i32_44 k0_t8
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk33 (v500 : IVec S16 32) : Prop :=
  (∀ a x, ((![v500] : Fin 1 → IVec S16 32) a x).toNat < S2048.size a) ∧
  (∀ a x, ((![v500] : Fin 1 → IVec S16 32) a x).toNat < S2048.size a)
theorem k0_idx33_inb : ∀ (v500 : IVec S16 32) (k0_hw33 : k0_chk33 v500), ∀ a x, ((![v500] : Fin 1 → IVec S16 32) a x).toNat < S2048.size a := fun v500 k0_hw33 => k0_hw33.1
theorem k0_idx34_inb : ∀ (v500 : IVec S16 32) (k0_hw33 : k0_chk33 v500), ∀ a x, ((![v500] : Fin 1 → IVec S16 32) a x).toNat < S2048.size a := fun v500 k0_hw33 => k0_hw33.2

def k0_chk34 (v660 : IVec S16 32) : Prop :=
  (∀ a x, ((![v660] : Fin 1 → IVec S16 32) a x).toNat < S32768.size a)
theorem k0_idx35_inb : ∀ (v660 : IVec S16 32) (k0_hw34 : k0_chk34 v660), ∀ a x, ((![v660] : Fin 1 → IVec S16 32) a x).toNat < S32768.size a := fun v660 k0_hw34 => k0_hw34

def k0_chk35 (v504 : IVec S16 32) : Prop :=
  (∀ a x, ((![v504] : Fin 1 → IVec S16 32) a x).toNat < S2048.size a) ∧
  (∀ a x, ((![v504] : Fin 1 → IVec S16 32) a x).toNat < S2048.size a)
theorem k0_idx36_inb : ∀ (v504 : IVec S16 32) (k0_hw35 : k0_chk35 v504), ∀ a x, ((![v504] : Fin 1 → IVec S16 32) a x).toNat < S2048.size a := fun v504 k0_hw35 => k0_hw35.1
theorem k0_idx37_inb : ∀ (v504 : IVec S16 32) (k0_hw35 : k0_chk35 v504), ∀ a x, ((![v504] : Fin 1 → IVec S16 32) a x).toNat < S2048.size a := fun v504 k0_hw35 => k0_hw35.2

def k0_chk36 (v666 : IVec S16 32) : Prop :=
  (∀ a x, ((![v666] : Fin 1 → IVec S16 32) a x).toNat < S32768.size a)
theorem k0_idx38_inb : ∀ (v666 : IVec S16 32) (k0_hw36 : k0_chk36 v666), ∀ a x, ((![v666] : Fin 1 → IVec S16 32) a x).toNat < S32768.size a := fun v666 k0_hw36 => k0_hw36

def k0_chk37 (v508 : IVec S16 32) : Prop :=
  (∀ a x, ((![v508] : Fin 1 → IVec S16 32) a x).toNat < S2048.size a) ∧
  (∀ a x, ((![v508] : Fin 1 → IVec S16 32) a x).toNat < S2048.size a)
theorem k0_idx39_inb : ∀ (v508 : IVec S16 32) (k0_hw37 : k0_chk37 v508), ∀ a x, ((![v508] : Fin 1 → IVec S16 32) a x).toNat < S2048.size a := fun v508 k0_hw37 => k0_hw37.1
theorem k0_idx40_inb : ∀ (v508 : IVec S16 32) (k0_hw37 : k0_chk37 v508), ∀ a x, ((![v508] : Fin 1 → IVec S16 32) a x).toNat < S2048.size a := fun v508 k0_hw37 => k0_hw37.2

def k0_chk38 (v672 : IVec S16 32) : Prop :=
  (∀ a x, ((![v672] : Fin 1 → IVec S16 32) a x).toNat < S32768.size a)
theorem k0_idx41_inb : ∀ (v672 : IVec S16 32) (k0_hw38 : k0_chk38 v672), ∀ a x, ((![v672] : Fin 1 → IVec S16 32) a x).toNat < S32768.size a := fun v672 k0_hw38 => k0_hw38

def k0_chk39 (v512 : IVec S16 32) : Prop :=
  (∀ a x, ((![v512] : Fin 1 → IVec S16 32) a x).toNat < S2048.size a) ∧
  (∀ a x, ((![v512] : Fin 1 → IVec S16 32) a x).toNat < S2048.size a)
theorem k0_idx42_inb : ∀ (v512 : IVec S16 32) (k0_hw39 : k0_chk39 v512), ∀ a x, ((![v512] : Fin 1 → IVec S16 32) a x).toNat < S2048.size a := fun v512 k0_hw39 => k0_hw39.1
theorem k0_idx43_inb : ∀ (v512 : IVec S16 32) (k0_hw39 : k0_chk39 v512), ∀ a x, ((![v512] : Fin 1 → IVec S16 32) a x).toNat < S2048.size a := fun v512 k0_hw39 => k0_hw39.2

def k0_chk40 (v678 : IVec S16 32) : Prop :=
  (∀ a x, ((![v678] : Fin 1 → IVec S16 32) a x).toNat < S32768.size a)
theorem k0_idx44_inb : ∀ (v678 : IVec S16 32) (k0_hw40 : k0_chk40 v678), ∀ a x, ((![v678] : Fin 1 → IVec S16 32) a x).toNat < S32768.size a := fun v678 k0_hw40 => k0_hw40

def k0_chk41 (v516 : IVec S16 32) : Prop :=
  (∀ a x, ((![v516] : Fin 1 → IVec S16 32) a x).toNat < S2048.size a) ∧
  (∀ a x, ((![v516] : Fin 1 → IVec S16 32) a x).toNat < S2048.size a)
theorem k0_idx45_inb : ∀ (v516 : IVec S16 32) (k0_hw41 : k0_chk41 v516), ∀ a x, ((![v516] : Fin 1 → IVec S16 32) a x).toNat < S2048.size a := fun v516 k0_hw41 => k0_hw41.1
theorem k0_idx46_inb : ∀ (v516 : IVec S16 32) (k0_hw41 : k0_chk41 v516), ∀ a x, ((![v516] : Fin 1 → IVec S16 32) a x).toNat < S2048.size a := fun v516 k0_hw41 => k0_hw41.2

def k0_chk42 (v684 : IVec S16 32) : Prop :=
  (∀ a x, ((![v684] : Fin 1 → IVec S16 32) a x).toNat < S32768.size a)
theorem k0_idx47_inb : ∀ (v684 : IVec S16 32) (k0_hw42 : k0_chk42 v684), ∀ a x, ((![v684] : Fin 1 → IVec S16 32) a x).toNat < S32768.size a := fun v684 k0_hw42 => k0_hw42

def k0_chk43 (v520 : IVec S16 32) : Prop :=
  (∀ a x, ((![v520] : Fin 1 → IVec S16 32) a x).toNat < S2048.size a) ∧
  (∀ a x, ((![v520] : Fin 1 → IVec S16 32) a x).toNat < S2048.size a)
theorem k0_idx48_inb : ∀ (v520 : IVec S16 32) (k0_hw43 : k0_chk43 v520), ∀ a x, ((![v520] : Fin 1 → IVec S16 32) a x).toNat < S2048.size a := fun v520 k0_hw43 => k0_hw43.1
theorem k0_idx49_inb : ∀ (v520 : IVec S16 32) (k0_hw43 : k0_chk43 v520), ∀ a x, ((![v520] : Fin 1 → IVec S16 32) a x).toNat < S2048.size a := fun v520 k0_hw43 => k0_hw43.2

def k0_chk44 (v690 : IVec S16 32) : Prop :=
  (∀ a x, ((![v690] : Fin 1 → IVec S16 32) a x).toNat < S32768.size a)
theorem k0_idx50_inb : ∀ (v690 : IVec S16 32) (k0_hw44 : k0_chk44 v690), ∀ a x, ((![v690] : Fin 1 → IVec S16 32) a x).toNat < S32768.size a := fun v690 k0_hw44 => k0_hw44

def k0_chk45 (v524 : IVec S16 32) : Prop :=
  (∀ a x, ((![v524] : Fin 1 → IVec S16 32) a x).toNat < S2048.size a) ∧
  (∀ a x, ((![v524] : Fin 1 → IVec S16 32) a x).toNat < S2048.size a)
theorem k0_idx51_inb : ∀ (v524 : IVec S16 32) (k0_hw45 : k0_chk45 v524), ∀ a x, ((![v524] : Fin 1 → IVec S16 32) a x).toNat < S2048.size a := fun v524 k0_hw45 => k0_hw45.1
theorem k0_idx52_inb : ∀ (v524 : IVec S16 32) (k0_hw45 : k0_chk45 v524), ∀ a x, ((![v524] : Fin 1 → IVec S16 32) a x).toNat < S2048.size a := fun v524 k0_hw45 => k0_hw45.2

def k0_chk46 (v696 : IVec S16 32) : Prop :=
  (∀ a x, ((![v696] : Fin 1 → IVec S16 32) a x).toNat < S32768.size a)
theorem k0_idx53_inb : ∀ (v696 : IVec S16 32) (k0_hw46 : k0_chk46 v696), ∀ a x, ((![v696] : Fin 1 → IVec S16 32) a x).toNat < S32768.size a := fun v696 k0_hw46 => k0_hw46

def k0_chk47 (v528 : IVec S16 32) : Prop :=
  (∀ a x, ((![v528] : Fin 1 → IVec S16 32) a x).toNat < S2048.size a) ∧
  (∀ a x, ((![v528] : Fin 1 → IVec S16 32) a x).toNat < S2048.size a)
theorem k0_idx54_inb : ∀ (v528 : IVec S16 32) (k0_hw47 : k0_chk47 v528), ∀ a x, ((![v528] : Fin 1 → IVec S16 32) a x).toNat < S2048.size a := fun v528 k0_hw47 => k0_hw47.1
theorem k0_idx55_inb : ∀ (v528 : IVec S16 32) (k0_hw47 : k0_chk47 v528), ∀ a x, ((![v528] : Fin 1 → IVec S16 32) a x).toNat < S2048.size a := fun v528 k0_hw47 => k0_hw47.2

def k0_chk48 (v702 : IVec S16 32) : Prop :=
  (∀ a x, ((![v702] : Fin 1 → IVec S16 32) a x).toNat < S32768.size a)
theorem k0_idx56_inb : ∀ (v702 : IVec S16 32) (k0_hw48 : k0_chk48 v702), ∀ a x, ((![v702] : Fin 1 → IVec S16 32) a x).toNat < S32768.size a := fun v702 k0_hw48 => k0_hw48

def k0_chk49 (v532 : IVec S16 32) : Prop :=
  (∀ a x, ((![v532] : Fin 1 → IVec S16 32) a x).toNat < S2048.size a) ∧
  (∀ a x, ((![v532] : Fin 1 → IVec S16 32) a x).toNat < S2048.size a)
theorem k0_idx57_inb : ∀ (v532 : IVec S16 32) (k0_hw49 : k0_chk49 v532), ∀ a x, ((![v532] : Fin 1 → IVec S16 32) a x).toNat < S2048.size a := fun v532 k0_hw49 => k0_hw49.1
theorem k0_idx58_inb : ∀ (v532 : IVec S16 32) (k0_hw49 : k0_chk49 v532), ∀ a x, ((![v532] : Fin 1 → IVec S16 32) a x).toNat < S2048.size a := fun v532 k0_hw49 => k0_hw49.2

def k0_chk50 (v708 : IVec S16 32) : Prop :=
  (∀ a x, ((![v708] : Fin 1 → IVec S16 32) a x).toNat < S32768.size a)
theorem k0_idx59_inb : ∀ (v708 : IVec S16 32) (k0_hw50 : k0_chk50 v708), ∀ a x, ((![v708] : Fin 1 → IVec S16 32) a x).toNat < S32768.size a := fun v708 k0_hw50 => k0_hw50

def k0_chk51 (v536 : IVec S16 32) : Prop :=
  (∀ a x, ((![v536] : Fin 1 → IVec S16 32) a x).toNat < S2048.size a) ∧
  (∀ a x, ((![v536] : Fin 1 → IVec S16 32) a x).toNat < S2048.size a)
theorem k0_idx60_inb : ∀ (v536 : IVec S16 32) (k0_hw51 : k0_chk51 v536), ∀ a x, ((![v536] : Fin 1 → IVec S16 32) a x).toNat < S2048.size a := fun v536 k0_hw51 => k0_hw51.1
theorem k0_idx61_inb : ∀ (v536 : IVec S16 32) (k0_hw51 : k0_chk51 v536), ∀ a x, ((![v536] : Fin 1 → IVec S16 32) a x).toNat < S2048.size a := fun v536 k0_hw51 => k0_hw51.2

def k0_chk52 (v714 : IVec S16 32) : Prop :=
  (∀ a x, ((![v714] : Fin 1 → IVec S16 32) a x).toNat < S32768.size a)
theorem k0_idx62_inb : ∀ (v714 : IVec S16 32) (k0_hw52 : k0_chk52 v714), ∀ a x, ((![v714] : Fin 1 → IVec S16 32) a x).toNat < S32768.size a := fun v714 k0_hw52 => k0_hw52

def k0_chk53 (v540 : IVec S16 32) : Prop :=
  (∀ a x, ((![v540] : Fin 1 → IVec S16 32) a x).toNat < S2048.size a) ∧
  (∀ a x, ((![v540] : Fin 1 → IVec S16 32) a x).toNat < S2048.size a)
theorem k0_idx63_inb : ∀ (v540 : IVec S16 32) (k0_hw53 : k0_chk53 v540), ∀ a x, ((![v540] : Fin 1 → IVec S16 32) a x).toNat < S2048.size a := fun v540 k0_hw53 => k0_hw53.1
theorem k0_idx64_inb : ∀ (v540 : IVec S16 32) (k0_hw53 : k0_chk53 v540), ∀ a x, ((![v540] : Fin 1 → IVec S16 32) a x).toNat < S2048.size a := fun v540 k0_hw53 => k0_hw53.2

def k0_chk54 (v720 : IVec S16 32) : Prop :=
  (∀ a x, ((![v720] : Fin 1 → IVec S16 32) a x).toNat < S32768.size a)
theorem k0_idx65_inb : ∀ (v720 : IVec S16 32) (k0_hw54 : k0_chk54 v720), ∀ a x, ((![v720] : Fin 1 → IVec S16 32) a x).toNat < S32768.size a := fun v720 k0_hw54 => k0_hw54

def k0_chk55 (v544 : IVec S16 32) : Prop :=
  (∀ a x, ((![v544] : Fin 1 → IVec S16 32) a x).toNat < S2048.size a) ∧
  (∀ a x, ((![v544] : Fin 1 → IVec S16 32) a x).toNat < S2048.size a)
theorem k0_idx66_inb : ∀ (v544 : IVec S16 32) (k0_hw55 : k0_chk55 v544), ∀ a x, ((![v544] : Fin 1 → IVec S16 32) a x).toNat < S2048.size a := fun v544 k0_hw55 => k0_hw55.1
theorem k0_idx67_inb : ∀ (v544 : IVec S16 32) (k0_hw55 : k0_chk55 v544), ∀ a x, ((![v544] : Fin 1 → IVec S16 32) a x).toNat < S2048.size a := fun v544 k0_hw55 => k0_hw55.2

def k0_chk56 (v726 : IVec S16 32) : Prop :=
  (∀ a x, ((![v726] : Fin 1 → IVec S16 32) a x).toNat < S32768.size a)
theorem k0_idx68_inb : ∀ (v726 : IVec S16 32) (k0_hw56 : k0_chk56 v726), ∀ a x, ((![v726] : Fin 1 → IVec S16 32) a x).toNat < S32768.size a := fun v726 k0_hw56 => k0_hw56

def k0_chk57 (v548 : IVec S16 32) : Prop :=
  (∀ a x, ((![v548] : Fin 1 → IVec S16 32) a x).toNat < S2048.size a) ∧
  (∀ a x, ((![v548] : Fin 1 → IVec S16 32) a x).toNat < S2048.size a)
theorem k0_idx69_inb : ∀ (v548 : IVec S16 32) (k0_hw57 : k0_chk57 v548), ∀ a x, ((![v548] : Fin 1 → IVec S16 32) a x).toNat < S2048.size a := fun v548 k0_hw57 => k0_hw57.1
theorem k0_idx70_inb : ∀ (v548 : IVec S16 32) (k0_hw57 : k0_chk57 v548), ∀ a x, ((![v548] : Fin 1 → IVec S16 32) a x).toNat < S2048.size a := fun v548 k0_hw57 => k0_hw57.2

def k0_chk58 (v732 : IVec S16 32) : Prop :=
  (∀ a x, ((![v732] : Fin 1 → IVec S16 32) a x).toNat < S32768.size a)
theorem k0_idx71_inb : ∀ (v732 : IVec S16 32) (k0_hw58 : k0_chk58 v732), ∀ a x, ((![v732] : Fin 1 → IVec S16 32) a x).toNat < S32768.size a := fun v732 k0_hw58 => k0_hw58

def k0_chk59 (v552 : IVec S16 32) : Prop :=
  (∀ a x, ((![v552] : Fin 1 → IVec S16 32) a x).toNat < S2048.size a) ∧
  (∀ a x, ((![v552] : Fin 1 → IVec S16 32) a x).toNat < S2048.size a)
theorem k0_idx72_inb : ∀ (v552 : IVec S16 32) (k0_hw59 : k0_chk59 v552), ∀ a x, ((![v552] : Fin 1 → IVec S16 32) a x).toNat < S2048.size a := fun v552 k0_hw59 => k0_hw59.1
theorem k0_idx73_inb : ∀ (v552 : IVec S16 32) (k0_hw59 : k0_chk59 v552), ∀ a x, ((![v552] : Fin 1 → IVec S16 32) a x).toNat < S2048.size a := fun v552 k0_hw59 => k0_hw59.2

def k0_chk60 (v738 : IVec S16 32) : Prop :=
  (∀ a x, ((![v738] : Fin 1 → IVec S16 32) a x).toNat < S32768.size a)
theorem k0_idx74_inb : ∀ (v738 : IVec S16 32) (k0_hw60 : k0_chk60 v738), ∀ a x, ((![v738] : Fin 1 → IVec S16 32) a x).toNat < S32768.size a := fun v738 k0_hw60 => k0_hw60

def k0_chk61 (v556 : IVec S16 32) : Prop :=
  (∀ a x, ((![v556] : Fin 1 → IVec S16 32) a x).toNat < S2048.size a) ∧
  (∀ a x, ((![v556] : Fin 1 → IVec S16 32) a x).toNat < S2048.size a)
theorem k0_idx75_inb : ∀ (v556 : IVec S16 32) (k0_hw61 : k0_chk61 v556), ∀ a x, ((![v556] : Fin 1 → IVec S16 32) a x).toNat < S2048.size a := fun v556 k0_hw61 => k0_hw61.1
theorem k0_idx76_inb : ∀ (v556 : IVec S16 32) (k0_hw61 : k0_chk61 v556), ∀ a x, ((![v556] : Fin 1 → IVec S16 32) a x).toNat < S2048.size a := fun v556 k0_hw61 => k0_hw61.2

def k0_chk62 (v744 : IVec S16 32) : Prop :=
  (∀ a x, ((![v744] : Fin 1 → IVec S16 32) a x).toNat < S32768.size a)
theorem k0_idx77_inb : ∀ (v744 : IVec S16 32) (k0_hw62 : k0_chk62 v744), ∀ a x, ((![v744] : Fin 1 → IVec S16 32) a x).toNat < S32768.size a := fun v744 k0_hw62 => k0_hw62

def k0_chk63 (v560 : IVec S16 32) : Prop :=
  (∀ a x, ((![v560] : Fin 1 → IVec S16 32) a x).toNat < S2048.size a) ∧
  (∀ a x, ((![v560] : Fin 1 → IVec S16 32) a x).toNat < S2048.size a)
theorem k0_idx78_inb : ∀ (v560 : IVec S16 32) (k0_hw63 : k0_chk63 v560), ∀ a x, ((![v560] : Fin 1 → IVec S16 32) a x).toNat < S2048.size a := fun v560 k0_hw63 => k0_hw63.1
theorem k0_idx79_inb : ∀ (v560 : IVec S16 32) (k0_hw63 : k0_chk63 v560), ∀ a x, ((![v560] : Fin 1 → IVec S16 32) a x).toNat < S2048.size a := fun v560 k0_hw63 => k0_hw63.2

def k0_chk64 (v750 : IVec S16 32) : Prop :=
  (∀ a x, ((![v750] : Fin 1 → IVec S16 32) a x).toNat < S32768.size a)
theorem k0_idx80_inb : ∀ (v750 : IVec S16 32) (k0_hw64 : k0_chk64 v750), ∀ a x, ((![v750] : Fin 1 → IVec S16 32) a x).toNat < S32768.size a := fun v750 k0_hw64 => k0_hw64

def k0_chk65 (v564 : IVec S16 32) : Prop :=
  (∀ a x, ((![v564] : Fin 1 → IVec S16 32) a x).toNat < S2048.size a) ∧
  (∀ a x, ((![v564] : Fin 1 → IVec S16 32) a x).toNat < S2048.size a)
theorem k0_idx81_inb : ∀ (v564 : IVec S16 32) (k0_hw65 : k0_chk65 v564), ∀ a x, ((![v564] : Fin 1 → IVec S16 32) a x).toNat < S2048.size a := fun v564 k0_hw65 => k0_hw65.1
theorem k0_idx82_inb : ∀ (v564 : IVec S16 32) (k0_hw65 : k0_chk65 v564), ∀ a x, ((![v564] : Fin 1 → IVec S16 32) a x).toNat < S2048.size a := fun v564 k0_hw65 => k0_hw65.2

def k0_chk66 (v756 : IVec S16 32) : Prop :=
  (∀ a x, ((![v756] : Fin 1 → IVec S16 32) a x).toNat < S32768.size a)
theorem k0_idx83_inb : ∀ (v756 : IVec S16 32) (k0_hw66 : k0_chk66 v756), ∀ a x, ((![v756] : Fin 1 → IVec S16 32) a x).toNat < S32768.size a := fun v756 k0_hw66 => k0_hw66

def k0_chk67 (v568 : IVec S16 32) : Prop :=
  (∀ a x, ((![v568] : Fin 1 → IVec S16 32) a x).toNat < S2048.size a) ∧
  (∀ a x, ((![v568] : Fin 1 → IVec S16 32) a x).toNat < S2048.size a)
theorem k0_idx84_inb : ∀ (v568 : IVec S16 32) (k0_hw67 : k0_chk67 v568), ∀ a x, ((![v568] : Fin 1 → IVec S16 32) a x).toNat < S2048.size a := fun v568 k0_hw67 => k0_hw67.1
theorem k0_idx85_inb : ∀ (v568 : IVec S16 32) (k0_hw67 : k0_chk67 v568), ∀ a x, ((![v568] : Fin 1 → IVec S16 32) a x).toNat < S2048.size a := fun v568 k0_hw67 => k0_hw67.2

def k0_chk68 (v762 : IVec S16 32) : Prop :=
  (∀ a x, ((![v762] : Fin 1 → IVec S16 32) a x).toNat < S32768.size a)
theorem k0_idx86_inb : ∀ (v762 : IVec S16 32) (k0_hw68 : k0_chk68 v762), ∀ a x, ((![v762] : Fin 1 → IVec S16 32) a x).toNat < S32768.size a := fun v762 k0_hw68 => k0_hw68

def k0_chk69 (v572 : IVec S16 32) : Prop :=
  (∀ a x, ((![v572] : Fin 1 → IVec S16 32) a x).toNat < S2048.size a) ∧
  (∀ a x, ((![v572] : Fin 1 → IVec S16 32) a x).toNat < S2048.size a)
theorem k0_idx87_inb : ∀ (v572 : IVec S16 32) (k0_hw69 : k0_chk69 v572), ∀ a x, ((![v572] : Fin 1 → IVec S16 32) a x).toNat < S2048.size a := fun v572 k0_hw69 => k0_hw69.1
theorem k0_idx88_inb : ∀ (v572 : IVec S16 32) (k0_hw69 : k0_chk69 v572), ∀ a x, ((![v572] : Fin 1 → IVec S16 32) a x).toNat < S2048.size a := fun v572 k0_hw69 => k0_hw69.2

def k0_chk70 (v768 : IVec S16 32) : Prop :=
  (∀ a x, ((![v768] : Fin 1 → IVec S16 32) a x).toNat < S32768.size a)
theorem k0_idx89_inb : ∀ (v768 : IVec S16 32) (k0_hw70 : k0_chk70 v768), ∀ a x, ((![v768] : Fin 1 → IVec S16 32) a x).toNat < S32768.size a := fun v768 k0_hw70 => k0_hw70

def k0_chk71 (v576 : IVec S16 32) : Prop :=
  (∀ a x, ((![v576] : Fin 1 → IVec S16 32) a x).toNat < S2048.size a) ∧
  (∀ a x, ((![v576] : Fin 1 → IVec S16 32) a x).toNat < S2048.size a)
theorem k0_idx90_inb : ∀ (v576 : IVec S16 32) (k0_hw71 : k0_chk71 v576), ∀ a x, ((![v576] : Fin 1 → IVec S16 32) a x).toNat < S2048.size a := fun v576 k0_hw71 => k0_hw71.1
theorem k0_idx91_inb : ∀ (v576 : IVec S16 32) (k0_hw71 : k0_chk71 v576), ∀ a x, ((![v576] : Fin 1 → IVec S16 32) a x).toNat < S2048.size a := fun v576 k0_hw71 => k0_hw71.2

def k0_chk72 (v774 : IVec S16 32) : Prop :=
  (∀ a x, ((![v774] : Fin 1 → IVec S16 32) a x).toNat < S32768.size a)
theorem k0_idx92_inb : ∀ (v774 : IVec S16 32) (k0_hw72 : k0_chk72 v774), ∀ a x, ((![v774] : Fin 1 → IVec S16 32) a x).toNat < S32768.size a := fun v774 k0_hw72 => k0_hw72

def k0_chk73 (v580 : IVec S16 32) : Prop :=
  (∀ a x, ((![v580] : Fin 1 → IVec S16 32) a x).toNat < S2048.size a) ∧
  (∀ a x, ((![v580] : Fin 1 → IVec S16 32) a x).toNat < S2048.size a)
theorem k0_idx93_inb : ∀ (v580 : IVec S16 32) (k0_hw73 : k0_chk73 v580), ∀ a x, ((![v580] : Fin 1 → IVec S16 32) a x).toNat < S2048.size a := fun v580 k0_hw73 => k0_hw73.1
theorem k0_idx94_inb : ∀ (v580 : IVec S16 32) (k0_hw73 : k0_chk73 v580), ∀ a x, ((![v580] : Fin 1 → IVec S16 32) a x).toNat < S2048.size a := fun v580 k0_hw73 => k0_hw73.2

def k0_chk74 (v780 : IVec S16 32) : Prop :=
  (∀ a x, ((![v780] : Fin 1 → IVec S16 32) a x).toNat < S32768.size a)
theorem k0_idx95_inb : ∀ (v780 : IVec S16 32) (k0_hw74 : k0_chk74 v780), ∀ a x, ((![v780] : Fin 1 → IVec S16 32) a x).toNat < S32768.size a := fun v780 k0_hw74 => k0_hw74

def k0_chk75 (v584 : IVec S16 32) : Prop :=
  (∀ a x, ((![v584] : Fin 1 → IVec S16 32) a x).toNat < S2048.size a) ∧
  (∀ a x, ((![v584] : Fin 1 → IVec S16 32) a x).toNat < S2048.size a)
theorem k0_idx96_inb : ∀ (v584 : IVec S16 32) (k0_hw75 : k0_chk75 v584), ∀ a x, ((![v584] : Fin 1 → IVec S16 32) a x).toNat < S2048.size a := fun v584 k0_hw75 => k0_hw75.1
theorem k0_idx97_inb : ∀ (v584 : IVec S16 32) (k0_hw75 : k0_chk75 v584), ∀ a x, ((![v584] : Fin 1 → IVec S16 32) a x).toNat < S2048.size a := fun v584 k0_hw75 => k0_hw75.2

def k0_chk76 (v786 : IVec S16 32) : Prop :=
  (∀ a x, ((![v786] : Fin 1 → IVec S16 32) a x).toNat < S32768.size a)
theorem k0_idx98_inb : ∀ (v786 : IVec S16 32) (k0_hw76 : k0_chk76 v786), ∀ a x, ((![v786] : Fin 1 → IVec S16 32) a x).toNat < S32768.size a := fun v786 k0_hw76 => k0_hw76

def k0_chk77 (v588 : IVec S16 32) : Prop :=
  (∀ a x, ((![v588] : Fin 1 → IVec S16 32) a x).toNat < S2048.size a) ∧
  (∀ a x, ((![v588] : Fin 1 → IVec S16 32) a x).toNat < S2048.size a)
theorem k0_idx99_inb : ∀ (v588 : IVec S16 32) (k0_hw77 : k0_chk77 v588), ∀ a x, ((![v588] : Fin 1 → IVec S16 32) a x).toNat < S2048.size a := fun v588 k0_hw77 => k0_hw77.1
theorem k0_idx100_inb : ∀ (v588 : IVec S16 32) (k0_hw77 : k0_chk77 v588), ∀ a x, ((![v588] : Fin 1 → IVec S16 32) a x).toNat < S2048.size a := fun v588 k0_hw77 => k0_hw77.2

def k0_chk78 (v792 : IVec S16 32) : Prop :=
  (∀ a x, ((![v792] : Fin 1 → IVec S16 32) a x).toNat < S32768.size a)
theorem k0_idx101_inb : ∀ (v792 : IVec S16 32) (k0_hw78 : k0_chk78 v792), ∀ a x, ((![v792] : Fin 1 → IVec S16 32) a x).toNat < S32768.size a := fun v792 k0_hw78 => k0_hw78

def k0_chk79 (v592 : IVec S16 32) : Prop :=
  (∀ a x, ((![v592] : Fin 1 → IVec S16 32) a x).toNat < S2048.size a) ∧
  (∀ a x, ((![v592] : Fin 1 → IVec S16 32) a x).toNat < S2048.size a)
theorem k0_idx102_inb : ∀ (v592 : IVec S16 32) (k0_hw79 : k0_chk79 v592), ∀ a x, ((![v592] : Fin 1 → IVec S16 32) a x).toNat < S2048.size a := fun v592 k0_hw79 => k0_hw79.1
theorem k0_idx103_inb : ∀ (v592 : IVec S16 32) (k0_hw79 : k0_chk79 v592), ∀ a x, ((![v592] : Fin 1 → IVec S16 32) a x).toNat < S2048.size a := fun v592 k0_hw79 => k0_hw79.2

def k0_chk80 (v798 : IVec S16 32) : Prop :=
  (∀ a x, ((![v798] : Fin 1 → IVec S16 32) a x).toNat < S32768.size a)
theorem k0_idx104_inb : ∀ (v798 : IVec S16 32) (k0_hw80 : k0_chk80 v798), ∀ a x, ((![v798] : Fin 1 → IVec S16 32) a x).toNat < S32768.size a := fun v798 k0_hw80 => k0_hw80

def k0_chk81 (v596 : IVec S16 32) : Prop :=
  (∀ a x, ((![v596] : Fin 1 → IVec S16 32) a x).toNat < S2048.size a) ∧
  (∀ a x, ((![v596] : Fin 1 → IVec S16 32) a x).toNat < S2048.size a)
theorem k0_idx105_inb : ∀ (v596 : IVec S16 32) (k0_hw81 : k0_chk81 v596), ∀ a x, ((![v596] : Fin 1 → IVec S16 32) a x).toNat < S2048.size a := fun v596 k0_hw81 => k0_hw81.1
theorem k0_idx106_inb : ∀ (v596 : IVec S16 32) (k0_hw81 : k0_chk81 v596), ∀ a x, ((![v596] : Fin 1 → IVec S16 32) a x).toNat < S2048.size a := fun v596 k0_hw81 => k0_hw81.2

def k0_chk82 (v804 : IVec S16 32) : Prop :=
  (∀ a x, ((![v804] : Fin 1 → IVec S16 32) a x).toNat < S32768.size a)
theorem k0_idx107_inb : ∀ (v804 : IVec S16 32) (k0_hw82 : k0_chk82 v804), ∀ a x, ((![v804] : Fin 1 → IVec S16 32) a x).toNat < S32768.size a := fun v804 k0_hw82 => k0_hw82

def k0_chk83 (v600 : IVec S16 32) : Prop :=
  (∀ a x, ((![v600] : Fin 1 → IVec S16 32) a x).toNat < S2048.size a) ∧
  (∀ a x, ((![v600] : Fin 1 → IVec S16 32) a x).toNat < S2048.size a)
theorem k0_idx108_inb : ∀ (v600 : IVec S16 32) (k0_hw83 : k0_chk83 v600), ∀ a x, ((![v600] : Fin 1 → IVec S16 32) a x).toNat < S2048.size a := fun v600 k0_hw83 => k0_hw83.1
theorem k0_idx109_inb : ∀ (v600 : IVec S16 32) (k0_hw83 : k0_chk83 v600), ∀ a x, ((![v600] : Fin 1 → IVec S16 32) a x).toNat < S2048.size a := fun v600 k0_hw83 => k0_hw83.2

def k0_chk84 (v810 : IVec S16 32) : Prop :=
  (∀ a x, ((![v810] : Fin 1 → IVec S16 32) a x).toNat < S32768.size a)
theorem k0_idx110_inb : ∀ (v810 : IVec S16 32) (k0_hw84 : k0_chk84 v810), ∀ a x, ((![v810] : Fin 1 → IVec S16 32) a x).toNat < S32768.size a := fun v810 k0_hw84 => k0_hw84

def k0_chk85 (v604 : IVec S16 32) : Prop :=
  (∀ a x, ((![v604] : Fin 1 → IVec S16 32) a x).toNat < S2048.size a) ∧
  (∀ a x, ((![v604] : Fin 1 → IVec S16 32) a x).toNat < S2048.size a)
theorem k0_idx111_inb : ∀ (v604 : IVec S16 32) (k0_hw85 : k0_chk85 v604), ∀ a x, ((![v604] : Fin 1 → IVec S16 32) a x).toNat < S2048.size a := fun v604 k0_hw85 => k0_hw85.1
theorem k0_idx112_inb : ∀ (v604 : IVec S16 32) (k0_hw85 : k0_chk85 v604), ∀ a x, ((![v604] : Fin 1 → IVec S16 32) a x).toNat < S2048.size a := fun v604 k0_hw85 => k0_hw85.2

def k0_chk86 (v816 : IVec S16 32) : Prop :=
  (∀ a x, ((![v816] : Fin 1 → IVec S16 32) a x).toNat < S32768.size a)
theorem k0_idx113_inb : ∀ (v816 : IVec S16 32) (k0_hw86 : k0_chk86 v816), ∀ a x, ((![v816] : Fin 1 → IVec S16 32) a x).toNat < S32768.size a := fun v816 k0_hw86 => k0_hw86

def k0_chk87 (v608 : IVec S16 32) : Prop :=
  (∀ a x, ((![v608] : Fin 1 → IVec S16 32) a x).toNat < S2048.size a) ∧
  (∀ a x, ((![v608] : Fin 1 → IVec S16 32) a x).toNat < S2048.size a)
theorem k0_idx114_inb : ∀ (v608 : IVec S16 32) (k0_hw87 : k0_chk87 v608), ∀ a x, ((![v608] : Fin 1 → IVec S16 32) a x).toNat < S2048.size a := fun v608 k0_hw87 => k0_hw87.1
theorem k0_idx115_inb : ∀ (v608 : IVec S16 32) (k0_hw87 : k0_chk87 v608), ∀ a x, ((![v608] : Fin 1 → IVec S16 32) a x).toNat < S2048.size a := fun v608 k0_hw87 => k0_hw87.2

def k0_chk88 (v822 : IVec S16 32) : Prop :=
  (∀ a x, ((![v822] : Fin 1 → IVec S16 32) a x).toNat < S32768.size a)
theorem k0_idx116_inb : ∀ (v822 : IVec S16 32) (k0_hw88 : k0_chk88 v822), ∀ a x, ((![v822] : Fin 1 → IVec S16 32) a x).toNat < S32768.size a := fun v822 k0_hw88 => k0_hw88

def k0_chk89 (v612 : IVec S16 32) : Prop :=
  (∀ a x, ((![v612] : Fin 1 → IVec S16 32) a x).toNat < S2048.size a) ∧
  (∀ a x, ((![v612] : Fin 1 → IVec S16 32) a x).toNat < S2048.size a)
theorem k0_idx117_inb : ∀ (v612 : IVec S16 32) (k0_hw89 : k0_chk89 v612), ∀ a x, ((![v612] : Fin 1 → IVec S16 32) a x).toNat < S2048.size a := fun v612 k0_hw89 => k0_hw89.1
theorem k0_idx118_inb : ∀ (v612 : IVec S16 32) (k0_hw89 : k0_chk89 v612), ∀ a x, ((![v612] : Fin 1 → IVec S16 32) a x).toNat < S2048.size a := fun v612 k0_hw89 => k0_hw89.2

def k0_chk90 (v828 : IVec S16 32) : Prop :=
  (∀ a x, ((![v828] : Fin 1 → IVec S16 32) a x).toNat < S32768.size a)
theorem k0_idx119_inb : ∀ (v828 : IVec S16 32) (k0_hw90 : k0_chk90 v828), ∀ a x, ((![v828] : Fin 1 → IVec S16 32) a x).toNat < S32768.size a := fun v828 k0_hw90 => k0_hw90

def k0_chk91 (v616 : IVec S16 32) : Prop :=
  (∀ a x, ((![v616] : Fin 1 → IVec S16 32) a x).toNat < S2048.size a) ∧
  (∀ a x, ((![v616] : Fin 1 → IVec S16 32) a x).toNat < S2048.size a)
theorem k0_idx120_inb : ∀ (v616 : IVec S16 32) (k0_hw91 : k0_chk91 v616), ∀ a x, ((![v616] : Fin 1 → IVec S16 32) a x).toNat < S2048.size a := fun v616 k0_hw91 => k0_hw91.1
theorem k0_idx121_inb : ∀ (v616 : IVec S16 32) (k0_hw91 : k0_chk91 v616), ∀ a x, ((![v616] : Fin 1 → IVec S16 32) a x).toNat < S2048.size a := fun v616 k0_hw91 => k0_hw91.2

def k0_chk92 (v834 : IVec S16 32) : Prop :=
  (∀ a x, ((![v834] : Fin 1 → IVec S16 32) a x).toNat < S32768.size a)
theorem k0_idx122_inb : ∀ (v834 : IVec S16 32) (k0_hw92 : k0_chk92 v834), ∀ a x, ((![v834] : Fin 1 → IVec S16 32) a x).toNat < S32768.size a := fun v834 k0_hw92 => k0_hw92

def k0_chk93 (v620 : IVec S16 32) : Prop :=
  (∀ a x, ((![v620] : Fin 1 → IVec S16 32) a x).toNat < S2048.size a) ∧
  (∀ a x, ((![v620] : Fin 1 → IVec S16 32) a x).toNat < S2048.size a)
theorem k0_idx123_inb : ∀ (v620 : IVec S16 32) (k0_hw93 : k0_chk93 v620), ∀ a x, ((![v620] : Fin 1 → IVec S16 32) a x).toNat < S2048.size a := fun v620 k0_hw93 => k0_hw93.1
theorem k0_idx124_inb : ∀ (v620 : IVec S16 32) (k0_hw93 : k0_chk93 v620), ∀ a x, ((![v620] : Fin 1 → IVec S16 32) a x).toNat < S2048.size a := fun v620 k0_hw93 => k0_hw93.2

def k0_chk94 (v840 : IVec S16 32) : Prop :=
  (∀ a x, ((![v840] : Fin 1 → IVec S16 32) a x).toNat < S32768.size a)
theorem k0_idx125_inb : ∀ (v840 : IVec S16 32) (k0_hw94 : k0_chk94 v840), ∀ a x, ((![v840] : Fin 1 → IVec S16 32) a x).toNat < S32768.size a := fun v840 k0_hw94 => k0_hw94

def k0_chk95 (v624 : IVec S16 32) : Prop :=
  (∀ a x, ((![v624] : Fin 1 → IVec S16 32) a x).toNat < S2048.size a) ∧
  (∀ a x, ((![v624] : Fin 1 → IVec S16 32) a x).toNat < S2048.size a)
theorem k0_idx126_inb : ∀ (v624 : IVec S16 32) (k0_hw95 : k0_chk95 v624), ∀ a x, ((![v624] : Fin 1 → IVec S16 32) a x).toNat < S2048.size a := fun v624 k0_hw95 => k0_hw95.1
theorem k0_idx127_inb : ∀ (v624 : IVec S16 32) (k0_hw95 : k0_chk95 v624), ∀ a x, ((![v624] : Fin 1 → IVec S16 32) a x).toNat < S2048.size a := fun v624 k0_hw95 => k0_hw95.2

def k0_chk96 (v846 : IVec S16 32) : Prop :=
  (∀ a x, ((![v846] : Fin 1 → IVec S16 32) a x).toNat < S32768.size a)
theorem k0_idx128_inb : ∀ (v846 : IVec S16 32) (k0_hw96 : k0_chk96 v846), ∀ a x, ((![v846] : Fin 1 → IVec S16 32) a x).toNat < S32768.size a := fun v846 k0_hw96 => k0_hw96

def k0_chk97 (v857 : IVec S16 32) : Prop :=
  (∀ a x, ((![v857] : Fin 1 → IVec S16 32) a x).toNat < S4096.size a)
theorem k0_idx129_inb : ∀ (v857 : IVec S16 32) (k0_hw97 : k0_chk97 v857), ∀ a x, ((![v857] : Fin 1 → IVec S16 32) a x).toNat < S4096.size a := fun v857 k0_hw97 => k0_hw97

def k0_chk98 (v866 : IVec S16 32) : Prop :=
  (∀ a x, ((![v866] : Fin 1 → IVec S16 32) a x).toNat < S4096.size a)
theorem k0_idx130_inb : ∀ (v866 : IVec S16 32) (k0_hw98 : k0_chk98 v866), ∀ a x, ((![v866] : Fin 1 → IVec S16 32) a x).toNat < S4096.size a := fun v866 k0_hw98 => k0_hw98

def k0_chk99 (v875 : IVec S16 32) : Prop :=
  (∀ a x, ((![v875] : Fin 1 → IVec S16 32) a x).toNat < S4096.size a)
theorem k0_idx131_inb : ∀ (v875 : IVec S16 32) (k0_hw99 : k0_chk99 v875), ∀ a x, ((![v875] : Fin 1 → IVec S16 32) a x).toNat < S4096.size a := fun v875 k0_hw99 => k0_hw99

def k0_chk100 (v884 : IVec S16 32) : Prop :=
  (∀ a x, ((![v884] : Fin 1 → IVec S16 32) a x).toNat < S4096.size a)
theorem k0_idx132_inb : ∀ (v884 : IVec S16 32) (k0_hw100 : k0_chk100 v884), ∀ a x, ((![v884] : Fin 1 → IVec S16 32) a x).toNat < S4096.size a := fun v884 k0_hw100 => k0_hw100

def k0_chk101 (v893 : IVec S16 32) : Prop :=
  (∀ a x, ((![v893] : Fin 1 → IVec S16 32) a x).toNat < S4096.size a)
theorem k0_idx133_inb : ∀ (v893 : IVec S16 32) (k0_hw101 : k0_chk101 v893), ∀ a x, ((![v893] : Fin 1 → IVec S16 32) a x).toNat < S4096.size a := fun v893 k0_hw101 => k0_hw101

def k0_chk102 (v902 : IVec S16 32) : Prop :=
  (∀ a x, ((![v902] : Fin 1 → IVec S16 32) a x).toNat < S4096.size a)
theorem k0_idx134_inb : ∀ (v902 : IVec S16 32) (k0_hw102 : k0_chk102 v902), ∀ a x, ((![v902] : Fin 1 → IVec S16 32) a x).toNat < S4096.size a := fun v902 k0_hw102 => k0_hw102

def k0_chk103 (v911 : IVec S16 32) : Prop :=
  (∀ a x, ((![v911] : Fin 1 → IVec S16 32) a x).toNat < S4096.size a)
theorem k0_idx135_inb : ∀ (v911 : IVec S16 32) (k0_hw103 : k0_chk103 v911), ∀ a x, ((![v911] : Fin 1 → IVec S16 32) a x).toNat < S4096.size a := fun v911 k0_hw103 => k0_hw103

def k0_chk104 (v920 : IVec S16 32) : Prop :=
  (∀ a x, ((![v920] : Fin 1 → IVec S16 32) a x).toNat < S4096.size a)
theorem k0_idx136_inb : ∀ (v920 : IVec S16 32) (k0_hw104 : k0_chk104 v920), ∀ a x, ((![v920] : Fin 1 → IVec S16 32) a x).toNat < S4096.size a := fun v920 k0_hw104 => k0_hw104

def k0_chk105 (v929 : IVec S16 32) : Prop :=
  (∀ a x, ((![v929] : Fin 1 → IVec S16 32) a x).toNat < S4096.size a)
theorem k0_idx137_inb : ∀ (v929 : IVec S16 32) (k0_hw105 : k0_chk105 v929), ∀ a x, ((![v929] : Fin 1 → IVec S16 32) a x).toNat < S4096.size a := fun v929 k0_hw105 => k0_hw105

def k0_chk106 (v938 : IVec S16 32) : Prop :=
  (∀ a x, ((![v938] : Fin 1 → IVec S16 32) a x).toNat < S4096.size a)
theorem k0_idx138_inb : ∀ (v938 : IVec S16 32) (k0_hw106 : k0_chk106 v938), ∀ a x, ((![v938] : Fin 1 → IVec S16 32) a x).toNat < S4096.size a := fun v938 k0_hw106 => k0_hw106

def k0_chk107 (v947 : IVec S16 32) : Prop :=
  (∀ a x, ((![v947] : Fin 1 → IVec S16 32) a x).toNat < S4096.size a)
theorem k0_idx139_inb : ∀ (v947 : IVec S16 32) (k0_hw107 : k0_chk107 v947), ∀ a x, ((![v947] : Fin 1 → IVec S16 32) a x).toNat < S4096.size a := fun v947 k0_hw107 => k0_hw107

def k0_chk108 (v956 : IVec S16 32) : Prop :=
  (∀ a x, ((![v956] : Fin 1 → IVec S16 32) a x).toNat < S4096.size a)
theorem k0_idx140_inb : ∀ (v956 : IVec S16 32) (k0_hw108 : k0_chk108 v956), ∀ a x, ((![v956] : Fin 1 → IVec S16 32) a x).toNat < S4096.size a := fun v956 k0_hw108 => k0_hw108

def k0_chk109 (v965 : IVec S16 32) : Prop :=
  (∀ a x, ((![v965] : Fin 1 → IVec S16 32) a x).toNat < S4096.size a)
theorem k0_idx141_inb : ∀ (v965 : IVec S16 32) (k0_hw109 : k0_chk109 v965), ∀ a x, ((![v965] : Fin 1 → IVec S16 32) a x).toNat < S4096.size a := fun v965 k0_hw109 => k0_hw109

def k0_chk110 (v974 : IVec S16 32) : Prop :=
  (∀ a x, ((![v974] : Fin 1 → IVec S16 32) a x).toNat < S4096.size a)
theorem k0_idx142_inb : ∀ (v974 : IVec S16 32) (k0_hw110 : k0_chk110 v974), ∀ a x, ((![v974] : Fin 1 → IVec S16 32) a x).toNat < S4096.size a := fun v974 k0_hw110 => k0_hw110

def k0_chk111 (v983 : IVec S16 32) : Prop :=
  (∀ a x, ((![v983] : Fin 1 → IVec S16 32) a x).toNat < S4096.size a)
theorem k0_idx143_inb : ∀ (v983 : IVec S16 32) (k0_hw111 : k0_chk111 v983), ∀ a x, ((![v983] : Fin 1 → IVec S16 32) a x).toNat < S4096.size a := fun v983 k0_hw111 => k0_hw111

def k0_chk112 (v992 : IVec S16 32) : Prop :=
  (∀ a x, ((![v992] : Fin 1 → IVec S16 32) a x).toNat < S4096.size a)
theorem k0_idx144_inb : ∀ (v992 : IVec S16 32) (k0_hw112 : k0_chk112 v992), ∀ a x, ((![v992] : Fin 1 → IVec S16 32) a x).toNat < S4096.size a := fun v992 k0_hw112 => k0_hw112

def k0_chk113 (v1001 : IVec S16 32) : Prop :=
  (∀ a x, ((![v1001] : Fin 1 → IVec S16 32) a x).toNat < S4096.size a)
theorem k0_idx145_inb : ∀ (v1001 : IVec S16 32) (k0_hw113 : k0_chk113 v1001), ∀ a x, ((![v1001] : Fin 1 → IVec S16 32) a x).toNat < S4096.size a := fun v1001 k0_hw113 => k0_hw113

def k0_chk114 (v1010 : IVec S16 32) : Prop :=
  (∀ a x, ((![v1010] : Fin 1 → IVec S16 32) a x).toNat < S4096.size a)
theorem k0_idx146_inb : ∀ (v1010 : IVec S16 32) (k0_hw114 : k0_chk114 v1010), ∀ a x, ((![v1010] : Fin 1 → IVec S16 32) a x).toNat < S4096.size a := fun v1010 k0_hw114 => k0_hw114

def k0_chk115 (v1019 : IVec S16 32) : Prop :=
  (∀ a x, ((![v1019] : Fin 1 → IVec S16 32) a x).toNat < S4096.size a)
theorem k0_idx147_inb : ∀ (v1019 : IVec S16 32) (k0_hw115 : k0_chk115 v1019), ∀ a x, ((![v1019] : Fin 1 → IVec S16 32) a x).toNat < S4096.size a := fun v1019 k0_hw115 => k0_hw115

def k0_chk116 (v1028 : IVec S16 32) : Prop :=
  (∀ a x, ((![v1028] : Fin 1 → IVec S16 32) a x).toNat < S4096.size a)
theorem k0_idx148_inb : ∀ (v1028 : IVec S16 32) (k0_hw116 : k0_chk116 v1028), ∀ a x, ((![v1028] : Fin 1 → IVec S16 32) a x).toNat < S4096.size a := fun v1028 k0_hw116 => k0_hw116

def k0_chk117 (v1037 : IVec S16 32) : Prop :=
  (∀ a x, ((![v1037] : Fin 1 → IVec S16 32) a x).toNat < S4096.size a)
theorem k0_idx149_inb : ∀ (v1037 : IVec S16 32) (k0_hw117 : k0_chk117 v1037), ∀ a x, ((![v1037] : Fin 1 → IVec S16 32) a x).toNat < S4096.size a := fun v1037 k0_hw117 => k0_hw117

def k0_chk118 (v1046 : IVec S16 32) : Prop :=
  (∀ a x, ((![v1046] : Fin 1 → IVec S16 32) a x).toNat < S4096.size a)
theorem k0_idx150_inb : ∀ (v1046 : IVec S16 32) (k0_hw118 : k0_chk118 v1046), ∀ a x, ((![v1046] : Fin 1 → IVec S16 32) a x).toNat < S4096.size a := fun v1046 k0_hw118 => k0_hw118

def k0_chk119 (v1055 : IVec S16 32) : Prop :=
  (∀ a x, ((![v1055] : Fin 1 → IVec S16 32) a x).toNat < S4096.size a)
theorem k0_idx151_inb : ∀ (v1055 : IVec S16 32) (k0_hw119 : k0_chk119 v1055), ∀ a x, ((![v1055] : Fin 1 → IVec S16 32) a x).toNat < S4096.size a := fun v1055 k0_hw119 => k0_hw119

def k0_chk120 (v1064 : IVec S16 32) : Prop :=
  (∀ a x, ((![v1064] : Fin 1 → IVec S16 32) a x).toNat < S4096.size a)
theorem k0_idx152_inb : ∀ (v1064 : IVec S16 32) (k0_hw120 : k0_chk120 v1064), ∀ a x, ((![v1064] : Fin 1 → IVec S16 32) a x).toNat < S4096.size a := fun v1064 k0_hw120 => k0_hw120

def k0_chk121 (v1073 : IVec S16 32) : Prop :=
  (∀ a x, ((![v1073] : Fin 1 → IVec S16 32) a x).toNat < S4096.size a)
theorem k0_idx153_inb : ∀ (v1073 : IVec S16 32) (k0_hw121 : k0_chk121 v1073), ∀ a x, ((![v1073] : Fin 1 → IVec S16 32) a x).toNat < S4096.size a := fun v1073 k0_hw121 => k0_hw121

def k0_chk122 (v1082 : IVec S16 32) : Prop :=
  (∀ a x, ((![v1082] : Fin 1 → IVec S16 32) a x).toNat < S4096.size a)
theorem k0_idx154_inb : ∀ (v1082 : IVec S16 32) (k0_hw122 : k0_chk122 v1082), ∀ a x, ((![v1082] : Fin 1 → IVec S16 32) a x).toNat < S4096.size a := fun v1082 k0_hw122 => k0_hw122

def k0_chk123 (v1091 : IVec S16 32) : Prop :=
  (∀ a x, ((![v1091] : Fin 1 → IVec S16 32) a x).toNat < S4096.size a)
theorem k0_idx155_inb : ∀ (v1091 : IVec S16 32) (k0_hw123 : k0_chk123 v1091), ∀ a x, ((![v1091] : Fin 1 → IVec S16 32) a x).toNat < S4096.size a := fun v1091 k0_hw123 => k0_hw123

def k0_chk124 (v1100 : IVec S16 32) : Prop :=
  (∀ a x, ((![v1100] : Fin 1 → IVec S16 32) a x).toNat < S4096.size a)
theorem k0_idx156_inb : ∀ (v1100 : IVec S16 32) (k0_hw124 : k0_chk124 v1100), ∀ a x, ((![v1100] : Fin 1 → IVec S16 32) a x).toNat < S4096.size a := fun v1100 k0_hw124 => k0_hw124

def k0_chk125 (v1109 : IVec S16 32) : Prop :=
  (∀ a x, ((![v1109] : Fin 1 → IVec S16 32) a x).toNat < S4096.size a)
theorem k0_idx157_inb : ∀ (v1109 : IVec S16 32) (k0_hw125 : k0_chk125 v1109), ∀ a x, ((![v1109] : Fin 1 → IVec S16 32) a x).toNat < S4096.size a := fun v1109 k0_hw125 => k0_hw125

def k0_chk126 (v1118 : IVec S16 32) : Prop :=
  (∀ a x, ((![v1118] : Fin 1 → IVec S16 32) a x).toNat < S4096.size a)
theorem k0_idx158_inb : ∀ (v1118 : IVec S16 32) (k0_hw126 : k0_chk126 v1118), ∀ a x, ((![v1118] : Fin 1 → IVec S16 32) a x).toNat < S4096.size a := fun v1118 k0_hw126 => k0_hw126

def k0_chk127 (v1127 : IVec S16 32) : Prop :=
  (∀ a x, ((![v1127] : Fin 1 → IVec S16 32) a x).toNat < S4096.size a)
theorem k0_idx159_inb : ∀ (v1127 : IVec S16 32) (k0_hw127 : k0_chk127 v1127), ∀ a x, ((![v1127] : Fin 1 → IVec S16 32) a x).toNat < S4096.size a := fun v1127 k0_hw127 => k0_hw127

def k0_chk128 (v1136 : IVec S16 32) : Prop :=
  (∀ a x, ((![v1136] : Fin 1 → IVec S16 32) a x).toNat < S4096.size a)
theorem k0_idx160_inb : ∀ (v1136 : IVec S16 32) (k0_hw128 : k0_chk128 v1136), ∀ a x, ((![v1136] : Fin 1 → IVec S16 32) a x).toNat < S4096.size a := fun v1136 k0_hw128 => k0_hw128
@[reducible] def k0_t9_loop : Scf.Loop 32 :=
  let c0_i32_47 : BitVec 32 := 0#32
  let c128_i32_48 : BitVec 32 := 128#32
  let v29 : BitVec 32 := Scalar.addi c0_i32_47 c128_i32_48
  let c1_i32_49 : BitVec 32 := 1#32
  ⟨c0_i32_47, v29, c1_i32_49⟩
def k0_off15 (k0_t9 : Fin k0_t9_loop.trips) : Fin 1 → Nat :=
  let c0_i32_47 : BitVec 32 := 0#32
  let c1_i32_49 : BitVec 32 := 1#32
  let arg15 : BitVec 32 := Scf.iv c0_i32_47 c1_i32_49 k0_t9
  let c16_i32_312 : BitVec 32 := 16#32
  let v146 : BitVec 32 := Scalar.muli arg15 c16_i32_312
  let v147 : Index := Scalar.indexCast v146
  ![v147.toNat]
def k0_off16 (k0_t9 : Fin k0_t9_loop.trips) : Fin 1 → Nat :=
  let c2048_i32 : BitVec 32 := 2048#32
  let c0_i32_47 : BitVec 32 := 0#32
  let c1_i32_49 : BitVec 32 := 1#32
  let arg15 : BitVec 32 := Scf.iv c0_i32_47 c1_i32_49 k0_t9
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off17 (k0_t9 : Fin k0_t9_loop.trips) : Fin 1 → Nat :=
  let c0_i32_47 : BitVec 32 := 0#32
  let c1_i32_49 : BitVec 32 := 1#32
  let arg15 : BitVec 32 := Scf.iv c0_i32_47 c1_i32_49 k0_t9
  let c16_i32 : BitVec 32 := 16#32
  let v145 : BitVec 32 := Scalar.muli arg15 c16_i32
  let v154 : Index := Scalar.indexCast v145
  ![v154.toNat]
@[reducible] def k0_t10_loop : Scf.Loop 32 :=
  let c0_i32_52 : BitVec 32 := 0#32
  let c128_i32_53 : BitVec 32 := 128#32
  let v30 : BitVec 32 := Scalar.addi c0_i32_52 c128_i32_53
  let c1_i32_54 : BitVec 32 := 1#32
  ⟨c0_i32_52, v30, c1_i32_54⟩
def k0_off18 (k0_t10 : Fin k0_t10_loop.trips) : Fin 1 → Nat :=
  let c0_i32_52 : BitVec 32 := 0#32
  let c1_i32_54 : BitVec 32 := 1#32
  let arg15 : BitVec 32 := Scf.iv c0_i32_52 c1_i32_54 k0_t10
  let c16_i32 : BitVec 32 := 16#32
  let v145 : BitVec 32 := Scalar.muli arg15 c16_i32
  let v146 : Index := Scalar.indexCast v145
  ![v146.toNat]
@[reducible] def k0_t11_loop : Scf.Loop 32 :=
  let c0_i32_57 : BitVec 32 := 0#32
  let c128_i32_58 : BitVec 32 := 128#32
  let v32 : BitVec 32 := Scalar.addi c0_i32_57 c128_i32_58
  let c1_i32_59 : BitVec 32 := 1#32
  ⟨c0_i32_57, v32, c1_i32_59⟩
def k0_off19 (k0_t11 : Fin k0_t11_loop.trips) : Fin 1 → Nat :=
  let c0_i32_57 : BitVec 32 := 0#32
  let c1_i32_59 : BitVec 32 := 1#32
  let arg15 : BitVec 32 := Scf.iv c0_i32_57 c1_i32_59 k0_t11
  let c16_i32 : BitVec 32 := 16#32
  let v145 : BitVec 32 := Scalar.muli arg15 c16_i32
  let v146 : Index := Scalar.indexCast v145
  ![v146.toNat]
def k0_off20 (k0_t11 : Fin k0_t11_loop.trips) : Fin 1 → Nat :=
  let c0_i32_57 : BitVec 32 := 0#32
  let c1_i32_59 : BitVec 32 := 1#32
  let arg15 : BitVec 32 := Scf.iv c0_i32_57 c1_i32_59 k0_t11
  let c16_i32_312 : BitVec 32 := 16#32
  let v150 : BitVec 32 := Scalar.muli arg15 c16_i32_312
  let v151 : Index := Scalar.indexCast v150
  ![v151.toNat]
def k0_off21 (k0_t11 : Fin k0_t11_loop.trips) : Fin 1 → Nat :=
  let c2048_i32 : BitVec 32 := 2048#32
  let c0_i32_57 : BitVec 32 := 0#32
  let c1_i32_59 : BitVec 32 := 1#32
  let arg15 : BitVec 32 := Scf.iv c0_i32_57 c1_i32_59 k0_t11
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t12_loop : Scf.Loop 32 :=
  let c0_i32_62 : BitVec 32 := 0#32
  let c64_i32_63 : BitVec 32 := 64#32
  let v33 : BitVec 32 := Scalar.addi c0_i32_62 c64_i32_63
  let c1_i32_64 : BitVec 32 := 1#32
  ⟨c0_i32_62, v33, c1_i32_64⟩
def k0_off22 (k0_t12 : Fin k0_t12_loop.trips) (c0_i32_312 : BitVec 32) (c0_i32_313 : BitVec 32) : Fin 1 → Nat :=
  let c0_i32_62 : BitVec 32 := 0#32
  let c1_i32_64 : BitVec 32 := 1#32
  let arg15 : BitVec 32 := Scf.iv c0_i32_62 c1_i32_64 k0_t12
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk129 (v340 : IVec S16 32) : Prop :=
  (∀ a x, ((![v340] : Fin 1 → IVec S16 32) a x).toNat < S2048.size a) ∧
  (∀ a x, ((![v340] : Fin 1 → IVec S16 32) a x).toNat < S2048.size a)
theorem k0_idx161_inb : ∀ (v340 : IVec S16 32) (k0_hw129 : k0_chk129 v340), ∀ a x, ((![v340] : Fin 1 → IVec S16 32) a x).toNat < S2048.size a := fun v340 k0_hw129 => k0_hw129.1
theorem k0_idx162_inb : ∀ (v340 : IVec S16 32) (k0_hw129 : k0_chk129 v340), ∀ a x, ((![v340] : Fin 1 → IVec S16 32) a x).toNat < S2048.size a := fun v340 k0_hw129 => k0_hw129.2

def k0_chk130 (v500 : IVec S16 32) : Prop :=
  (∀ a x, ((![v500] : Fin 1 → IVec S16 32) a x).toNat < S32768.size a)
theorem k0_idx163_inb : ∀ (v500 : IVec S16 32) (k0_hw130 : k0_chk130 v500), ∀ a x, ((![v500] : Fin 1 → IVec S16 32) a x).toNat < S32768.size a := fun v500 k0_hw130 => k0_hw130

def k0_chk131 (v344 : IVec S16 32) : Prop :=
  (∀ a x, ((![v344] : Fin 1 → IVec S16 32) a x).toNat < S2048.size a) ∧
  (∀ a x, ((![v344] : Fin 1 → IVec S16 32) a x).toNat < S2048.size a)
theorem k0_idx164_inb : ∀ (v344 : IVec S16 32) (k0_hw131 : k0_chk131 v344), ∀ a x, ((![v344] : Fin 1 → IVec S16 32) a x).toNat < S2048.size a := fun v344 k0_hw131 => k0_hw131.1
theorem k0_idx165_inb : ∀ (v344 : IVec S16 32) (k0_hw131 : k0_chk131 v344), ∀ a x, ((![v344] : Fin 1 → IVec S16 32) a x).toNat < S2048.size a := fun v344 k0_hw131 => k0_hw131.2

def k0_chk132 (v506 : IVec S16 32) : Prop :=
  (∀ a x, ((![v506] : Fin 1 → IVec S16 32) a x).toNat < S32768.size a)
theorem k0_idx166_inb : ∀ (v506 : IVec S16 32) (k0_hw132 : k0_chk132 v506), ∀ a x, ((![v506] : Fin 1 → IVec S16 32) a x).toNat < S32768.size a := fun v506 k0_hw132 => k0_hw132

def k0_chk133 (v348 : IVec S16 32) : Prop :=
  (∀ a x, ((![v348] : Fin 1 → IVec S16 32) a x).toNat < S2048.size a) ∧
  (∀ a x, ((![v348] : Fin 1 → IVec S16 32) a x).toNat < S2048.size a)
theorem k0_idx167_inb : ∀ (v348 : IVec S16 32) (k0_hw133 : k0_chk133 v348), ∀ a x, ((![v348] : Fin 1 → IVec S16 32) a x).toNat < S2048.size a := fun v348 k0_hw133 => k0_hw133.1
theorem k0_idx168_inb : ∀ (v348 : IVec S16 32) (k0_hw133 : k0_chk133 v348), ∀ a x, ((![v348] : Fin 1 → IVec S16 32) a x).toNat < S2048.size a := fun v348 k0_hw133 => k0_hw133.2

def k0_chk134 (v512 : IVec S16 32) : Prop :=
  (∀ a x, ((![v512] : Fin 1 → IVec S16 32) a x).toNat < S32768.size a)
theorem k0_idx169_inb : ∀ (v512 : IVec S16 32) (k0_hw134 : k0_chk134 v512), ∀ a x, ((![v512] : Fin 1 → IVec S16 32) a x).toNat < S32768.size a := fun v512 k0_hw134 => k0_hw134

def k0_chk135 (v352 : IVec S16 32) : Prop :=
  (∀ a x, ((![v352] : Fin 1 → IVec S16 32) a x).toNat < S2048.size a) ∧
  (∀ a x, ((![v352] : Fin 1 → IVec S16 32) a x).toNat < S2048.size a)
theorem k0_idx170_inb : ∀ (v352 : IVec S16 32) (k0_hw135 : k0_chk135 v352), ∀ a x, ((![v352] : Fin 1 → IVec S16 32) a x).toNat < S2048.size a := fun v352 k0_hw135 => k0_hw135.1
theorem k0_idx171_inb : ∀ (v352 : IVec S16 32) (k0_hw135 : k0_chk135 v352), ∀ a x, ((![v352] : Fin 1 → IVec S16 32) a x).toNat < S2048.size a := fun v352 k0_hw135 => k0_hw135.2

def k0_chk136 (v518 : IVec S16 32) : Prop :=
  (∀ a x, ((![v518] : Fin 1 → IVec S16 32) a x).toNat < S32768.size a)
theorem k0_idx172_inb : ∀ (v518 : IVec S16 32) (k0_hw136 : k0_chk136 v518), ∀ a x, ((![v518] : Fin 1 → IVec S16 32) a x).toNat < S32768.size a := fun v518 k0_hw136 => k0_hw136

def k0_chk137 (v356 : IVec S16 32) : Prop :=
  (∀ a x, ((![v356] : Fin 1 → IVec S16 32) a x).toNat < S2048.size a) ∧
  (∀ a x, ((![v356] : Fin 1 → IVec S16 32) a x).toNat < S2048.size a)
theorem k0_idx173_inb : ∀ (v356 : IVec S16 32) (k0_hw137 : k0_chk137 v356), ∀ a x, ((![v356] : Fin 1 → IVec S16 32) a x).toNat < S2048.size a := fun v356 k0_hw137 => k0_hw137.1
theorem k0_idx174_inb : ∀ (v356 : IVec S16 32) (k0_hw137 : k0_chk137 v356), ∀ a x, ((![v356] : Fin 1 → IVec S16 32) a x).toNat < S2048.size a := fun v356 k0_hw137 => k0_hw137.2

def k0_chk138 (v524 : IVec S16 32) : Prop :=
  (∀ a x, ((![v524] : Fin 1 → IVec S16 32) a x).toNat < S32768.size a)
theorem k0_idx175_inb : ∀ (v524 : IVec S16 32) (k0_hw138 : k0_chk138 v524), ∀ a x, ((![v524] : Fin 1 → IVec S16 32) a x).toNat < S32768.size a := fun v524 k0_hw138 => k0_hw138

def k0_chk139 (v360 : IVec S16 32) : Prop :=
  (∀ a x, ((![v360] : Fin 1 → IVec S16 32) a x).toNat < S2048.size a) ∧
  (∀ a x, ((![v360] : Fin 1 → IVec S16 32) a x).toNat < S2048.size a)
theorem k0_idx176_inb : ∀ (v360 : IVec S16 32) (k0_hw139 : k0_chk139 v360), ∀ a x, ((![v360] : Fin 1 → IVec S16 32) a x).toNat < S2048.size a := fun v360 k0_hw139 => k0_hw139.1
theorem k0_idx177_inb : ∀ (v360 : IVec S16 32) (k0_hw139 : k0_chk139 v360), ∀ a x, ((![v360] : Fin 1 → IVec S16 32) a x).toNat < S2048.size a := fun v360 k0_hw139 => k0_hw139.2

def k0_chk140 (v530 : IVec S16 32) : Prop :=
  (∀ a x, ((![v530] : Fin 1 → IVec S16 32) a x).toNat < S32768.size a)
theorem k0_idx178_inb : ∀ (v530 : IVec S16 32) (k0_hw140 : k0_chk140 v530), ∀ a x, ((![v530] : Fin 1 → IVec S16 32) a x).toNat < S32768.size a := fun v530 k0_hw140 => k0_hw140

def k0_chk141 (v364 : IVec S16 32) : Prop :=
  (∀ a x, ((![v364] : Fin 1 → IVec S16 32) a x).toNat < S2048.size a) ∧
  (∀ a x, ((![v364] : Fin 1 → IVec S16 32) a x).toNat < S2048.size a)
theorem k0_idx179_inb : ∀ (v364 : IVec S16 32) (k0_hw141 : k0_chk141 v364), ∀ a x, ((![v364] : Fin 1 → IVec S16 32) a x).toNat < S2048.size a := fun v364 k0_hw141 => k0_hw141.1
theorem k0_idx180_inb : ∀ (v364 : IVec S16 32) (k0_hw141 : k0_chk141 v364), ∀ a x, ((![v364] : Fin 1 → IVec S16 32) a x).toNat < S2048.size a := fun v364 k0_hw141 => k0_hw141.2

def k0_chk142 (v536 : IVec S16 32) : Prop :=
  (∀ a x, ((![v536] : Fin 1 → IVec S16 32) a x).toNat < S32768.size a)
theorem k0_idx181_inb : ∀ (v536 : IVec S16 32) (k0_hw142 : k0_chk142 v536), ∀ a x, ((![v536] : Fin 1 → IVec S16 32) a x).toNat < S32768.size a := fun v536 k0_hw142 => k0_hw142

def k0_chk143 (v368 : IVec S16 32) : Prop :=
  (∀ a x, ((![v368] : Fin 1 → IVec S16 32) a x).toNat < S2048.size a) ∧
  (∀ a x, ((![v368] : Fin 1 → IVec S16 32) a x).toNat < S2048.size a)
theorem k0_idx182_inb : ∀ (v368 : IVec S16 32) (k0_hw143 : k0_chk143 v368), ∀ a x, ((![v368] : Fin 1 → IVec S16 32) a x).toNat < S2048.size a := fun v368 k0_hw143 => k0_hw143.1
theorem k0_idx183_inb : ∀ (v368 : IVec S16 32) (k0_hw143 : k0_chk143 v368), ∀ a x, ((![v368] : Fin 1 → IVec S16 32) a x).toNat < S2048.size a := fun v368 k0_hw143 => k0_hw143.2

def k0_chk144 (v542 : IVec S16 32) : Prop :=
  (∀ a x, ((![v542] : Fin 1 → IVec S16 32) a x).toNat < S32768.size a)
theorem k0_idx184_inb : ∀ (v542 : IVec S16 32) (k0_hw144 : k0_chk144 v542), ∀ a x, ((![v542] : Fin 1 → IVec S16 32) a x).toNat < S32768.size a := fun v542 k0_hw144 => k0_hw144

def k0_chk145 (v372 : IVec S16 32) : Prop :=
  (∀ a x, ((![v372] : Fin 1 → IVec S16 32) a x).toNat < S2048.size a) ∧
  (∀ a x, ((![v372] : Fin 1 → IVec S16 32) a x).toNat < S2048.size a)
theorem k0_idx185_inb : ∀ (v372 : IVec S16 32) (k0_hw145 : k0_chk145 v372), ∀ a x, ((![v372] : Fin 1 → IVec S16 32) a x).toNat < S2048.size a := fun v372 k0_hw145 => k0_hw145.1
theorem k0_idx186_inb : ∀ (v372 : IVec S16 32) (k0_hw145 : k0_chk145 v372), ∀ a x, ((![v372] : Fin 1 → IVec S16 32) a x).toNat < S2048.size a := fun v372 k0_hw145 => k0_hw145.2

def k0_chk146 (v548 : IVec S16 32) : Prop :=
  (∀ a x, ((![v548] : Fin 1 → IVec S16 32) a x).toNat < S32768.size a)
theorem k0_idx187_inb : ∀ (v548 : IVec S16 32) (k0_hw146 : k0_chk146 v548), ∀ a x, ((![v548] : Fin 1 → IVec S16 32) a x).toNat < S32768.size a := fun v548 k0_hw146 => k0_hw146

def k0_chk147 (v376 : IVec S16 32) : Prop :=
  (∀ a x, ((![v376] : Fin 1 → IVec S16 32) a x).toNat < S2048.size a) ∧
  (∀ a x, ((![v376] : Fin 1 → IVec S16 32) a x).toNat < S2048.size a)
theorem k0_idx188_inb : ∀ (v376 : IVec S16 32) (k0_hw147 : k0_chk147 v376), ∀ a x, ((![v376] : Fin 1 → IVec S16 32) a x).toNat < S2048.size a := fun v376 k0_hw147 => k0_hw147.1
theorem k0_idx189_inb : ∀ (v376 : IVec S16 32) (k0_hw147 : k0_chk147 v376), ∀ a x, ((![v376] : Fin 1 → IVec S16 32) a x).toNat < S2048.size a := fun v376 k0_hw147 => k0_hw147.2

def k0_chk148 (v554 : IVec S16 32) : Prop :=
  (∀ a x, ((![v554] : Fin 1 → IVec S16 32) a x).toNat < S32768.size a)
theorem k0_idx190_inb : ∀ (v554 : IVec S16 32) (k0_hw148 : k0_chk148 v554), ∀ a x, ((![v554] : Fin 1 → IVec S16 32) a x).toNat < S32768.size a := fun v554 k0_hw148 => k0_hw148

def k0_chk149 (v380 : IVec S16 32) : Prop :=
  (∀ a x, ((![v380] : Fin 1 → IVec S16 32) a x).toNat < S2048.size a) ∧
  (∀ a x, ((![v380] : Fin 1 → IVec S16 32) a x).toNat < S2048.size a)
theorem k0_idx191_inb : ∀ (v380 : IVec S16 32) (k0_hw149 : k0_chk149 v380), ∀ a x, ((![v380] : Fin 1 → IVec S16 32) a x).toNat < S2048.size a := fun v380 k0_hw149 => k0_hw149.1
theorem k0_idx192_inb : ∀ (v380 : IVec S16 32) (k0_hw149 : k0_chk149 v380), ∀ a x, ((![v380] : Fin 1 → IVec S16 32) a x).toNat < S2048.size a := fun v380 k0_hw149 => k0_hw149.2

def k0_chk150 (v560 : IVec S16 32) : Prop :=
  (∀ a x, ((![v560] : Fin 1 → IVec S16 32) a x).toNat < S32768.size a)
theorem k0_idx193_inb : ∀ (v560 : IVec S16 32) (k0_hw150 : k0_chk150 v560), ∀ a x, ((![v560] : Fin 1 → IVec S16 32) a x).toNat < S32768.size a := fun v560 k0_hw150 => k0_hw150

def k0_chk151 (v384 : IVec S16 32) : Prop :=
  (∀ a x, ((![v384] : Fin 1 → IVec S16 32) a x).toNat < S2048.size a) ∧
  (∀ a x, ((![v384] : Fin 1 → IVec S16 32) a x).toNat < S2048.size a)
theorem k0_idx194_inb : ∀ (v384 : IVec S16 32) (k0_hw151 : k0_chk151 v384), ∀ a x, ((![v384] : Fin 1 → IVec S16 32) a x).toNat < S2048.size a := fun v384 k0_hw151 => k0_hw151.1
theorem k0_idx195_inb : ∀ (v384 : IVec S16 32) (k0_hw151 : k0_chk151 v384), ∀ a x, ((![v384] : Fin 1 → IVec S16 32) a x).toNat < S2048.size a := fun v384 k0_hw151 => k0_hw151.2

def k0_chk152 (v566 : IVec S16 32) : Prop :=
  (∀ a x, ((![v566] : Fin 1 → IVec S16 32) a x).toNat < S32768.size a)
theorem k0_idx196_inb : ∀ (v566 : IVec S16 32) (k0_hw152 : k0_chk152 v566), ∀ a x, ((![v566] : Fin 1 → IVec S16 32) a x).toNat < S32768.size a := fun v566 k0_hw152 => k0_hw152

def k0_chk153 (v388 : IVec S16 32) : Prop :=
  (∀ a x, ((![v388] : Fin 1 → IVec S16 32) a x).toNat < S2048.size a) ∧
  (∀ a x, ((![v388] : Fin 1 → IVec S16 32) a x).toNat < S2048.size a)
theorem k0_idx197_inb : ∀ (v388 : IVec S16 32) (k0_hw153 : k0_chk153 v388), ∀ a x, ((![v388] : Fin 1 → IVec S16 32) a x).toNat < S2048.size a := fun v388 k0_hw153 => k0_hw153.1
theorem k0_idx198_inb : ∀ (v388 : IVec S16 32) (k0_hw153 : k0_chk153 v388), ∀ a x, ((![v388] : Fin 1 → IVec S16 32) a x).toNat < S2048.size a := fun v388 k0_hw153 => k0_hw153.2

def k0_chk154 (v572 : IVec S16 32) : Prop :=
  (∀ a x, ((![v572] : Fin 1 → IVec S16 32) a x).toNat < S32768.size a)
theorem k0_idx199_inb : ∀ (v572 : IVec S16 32) (k0_hw154 : k0_chk154 v572), ∀ a x, ((![v572] : Fin 1 → IVec S16 32) a x).toNat < S32768.size a := fun v572 k0_hw154 => k0_hw154

def k0_chk155 (v392 : IVec S16 32) : Prop :=
  (∀ a x, ((![v392] : Fin 1 → IVec S16 32) a x).toNat < S2048.size a) ∧
  (∀ a x, ((![v392] : Fin 1 → IVec S16 32) a x).toNat < S2048.size a)
theorem k0_idx200_inb : ∀ (v392 : IVec S16 32) (k0_hw155 : k0_chk155 v392), ∀ a x, ((![v392] : Fin 1 → IVec S16 32) a x).toNat < S2048.size a := fun v392 k0_hw155 => k0_hw155.1
theorem k0_idx201_inb : ∀ (v392 : IVec S16 32) (k0_hw155 : k0_chk155 v392), ∀ a x, ((![v392] : Fin 1 → IVec S16 32) a x).toNat < S2048.size a := fun v392 k0_hw155 => k0_hw155.2

def k0_chk156 (v578 : IVec S16 32) : Prop :=
  (∀ a x, ((![v578] : Fin 1 → IVec S16 32) a x).toNat < S32768.size a)
theorem k0_idx202_inb : ∀ (v578 : IVec S16 32) (k0_hw156 : k0_chk156 v578), ∀ a x, ((![v578] : Fin 1 → IVec S16 32) a x).toNat < S32768.size a := fun v578 k0_hw156 => k0_hw156

def k0_chk157 (v396 : IVec S16 32) : Prop :=
  (∀ a x, ((![v396] : Fin 1 → IVec S16 32) a x).toNat < S2048.size a) ∧
  (∀ a x, ((![v396] : Fin 1 → IVec S16 32) a x).toNat < S2048.size a)
theorem k0_idx203_inb : ∀ (v396 : IVec S16 32) (k0_hw157 : k0_chk157 v396), ∀ a x, ((![v396] : Fin 1 → IVec S16 32) a x).toNat < S2048.size a := fun v396 k0_hw157 => k0_hw157.1
theorem k0_idx204_inb : ∀ (v396 : IVec S16 32) (k0_hw157 : k0_chk157 v396), ∀ a x, ((![v396] : Fin 1 → IVec S16 32) a x).toNat < S2048.size a := fun v396 k0_hw157 => k0_hw157.2

def k0_chk158 (v584 : IVec S16 32) : Prop :=
  (∀ a x, ((![v584] : Fin 1 → IVec S16 32) a x).toNat < S32768.size a)
theorem k0_idx205_inb : ∀ (v584 : IVec S16 32) (k0_hw158 : k0_chk158 v584), ∀ a x, ((![v584] : Fin 1 → IVec S16 32) a x).toNat < S32768.size a := fun v584 k0_hw158 => k0_hw158

def k0_chk159 (v400 : IVec S16 32) : Prop :=
  (∀ a x, ((![v400] : Fin 1 → IVec S16 32) a x).toNat < S2048.size a) ∧
  (∀ a x, ((![v400] : Fin 1 → IVec S16 32) a x).toNat < S2048.size a)
theorem k0_idx206_inb : ∀ (v400 : IVec S16 32) (k0_hw159 : k0_chk159 v400), ∀ a x, ((![v400] : Fin 1 → IVec S16 32) a x).toNat < S2048.size a := fun v400 k0_hw159 => k0_hw159.1
theorem k0_idx207_inb : ∀ (v400 : IVec S16 32) (k0_hw159 : k0_chk159 v400), ∀ a x, ((![v400] : Fin 1 → IVec S16 32) a x).toNat < S2048.size a := fun v400 k0_hw159 => k0_hw159.2

def k0_chk160 (v590 : IVec S16 32) : Prop :=
  (∀ a x, ((![v590] : Fin 1 → IVec S16 32) a x).toNat < S32768.size a)
theorem k0_idx208_inb : ∀ (v590 : IVec S16 32) (k0_hw160 : k0_chk160 v590), ∀ a x, ((![v590] : Fin 1 → IVec S16 32) a x).toNat < S32768.size a := fun v590 k0_hw160 => k0_hw160

def k0_chk161 (v404 : IVec S16 32) : Prop :=
  (∀ a x, ((![v404] : Fin 1 → IVec S16 32) a x).toNat < S2048.size a) ∧
  (∀ a x, ((![v404] : Fin 1 → IVec S16 32) a x).toNat < S2048.size a)
theorem k0_idx209_inb : ∀ (v404 : IVec S16 32) (k0_hw161 : k0_chk161 v404), ∀ a x, ((![v404] : Fin 1 → IVec S16 32) a x).toNat < S2048.size a := fun v404 k0_hw161 => k0_hw161.1
theorem k0_idx210_inb : ∀ (v404 : IVec S16 32) (k0_hw161 : k0_chk161 v404), ∀ a x, ((![v404] : Fin 1 → IVec S16 32) a x).toNat < S2048.size a := fun v404 k0_hw161 => k0_hw161.2

def k0_chk162 (v596 : IVec S16 32) : Prop :=
  (∀ a x, ((![v596] : Fin 1 → IVec S16 32) a x).toNat < S32768.size a)
theorem k0_idx211_inb : ∀ (v596 : IVec S16 32) (k0_hw162 : k0_chk162 v596), ∀ a x, ((![v596] : Fin 1 → IVec S16 32) a x).toNat < S32768.size a := fun v596 k0_hw162 => k0_hw162

def k0_chk163 (v408 : IVec S16 32) : Prop :=
  (∀ a x, ((![v408] : Fin 1 → IVec S16 32) a x).toNat < S2048.size a) ∧
  (∀ a x, ((![v408] : Fin 1 → IVec S16 32) a x).toNat < S2048.size a)
theorem k0_idx212_inb : ∀ (v408 : IVec S16 32) (k0_hw163 : k0_chk163 v408), ∀ a x, ((![v408] : Fin 1 → IVec S16 32) a x).toNat < S2048.size a := fun v408 k0_hw163 => k0_hw163.1
theorem k0_idx213_inb : ∀ (v408 : IVec S16 32) (k0_hw163 : k0_chk163 v408), ∀ a x, ((![v408] : Fin 1 → IVec S16 32) a x).toNat < S2048.size a := fun v408 k0_hw163 => k0_hw163.2

def k0_chk164 (v602 : IVec S16 32) : Prop :=
  (∀ a x, ((![v602] : Fin 1 → IVec S16 32) a x).toNat < S32768.size a)
theorem k0_idx214_inb : ∀ (v602 : IVec S16 32) (k0_hw164 : k0_chk164 v602), ∀ a x, ((![v602] : Fin 1 → IVec S16 32) a x).toNat < S32768.size a := fun v602 k0_hw164 => k0_hw164

def k0_chk165 (v412 : IVec S16 32) : Prop :=
  (∀ a x, ((![v412] : Fin 1 → IVec S16 32) a x).toNat < S2048.size a) ∧
  (∀ a x, ((![v412] : Fin 1 → IVec S16 32) a x).toNat < S2048.size a)
theorem k0_idx215_inb : ∀ (v412 : IVec S16 32) (k0_hw165 : k0_chk165 v412), ∀ a x, ((![v412] : Fin 1 → IVec S16 32) a x).toNat < S2048.size a := fun v412 k0_hw165 => k0_hw165.1
theorem k0_idx216_inb : ∀ (v412 : IVec S16 32) (k0_hw165 : k0_chk165 v412), ∀ a x, ((![v412] : Fin 1 → IVec S16 32) a x).toNat < S2048.size a := fun v412 k0_hw165 => k0_hw165.2

def k0_chk166 (v608 : IVec S16 32) : Prop :=
  (∀ a x, ((![v608] : Fin 1 → IVec S16 32) a x).toNat < S32768.size a)
theorem k0_idx217_inb : ∀ (v608 : IVec S16 32) (k0_hw166 : k0_chk166 v608), ∀ a x, ((![v608] : Fin 1 → IVec S16 32) a x).toNat < S32768.size a := fun v608 k0_hw166 => k0_hw166

def k0_chk167 (v416 : IVec S16 32) : Prop :=
  (∀ a x, ((![v416] : Fin 1 → IVec S16 32) a x).toNat < S2048.size a) ∧
  (∀ a x, ((![v416] : Fin 1 → IVec S16 32) a x).toNat < S2048.size a)
theorem k0_idx218_inb : ∀ (v416 : IVec S16 32) (k0_hw167 : k0_chk167 v416), ∀ a x, ((![v416] : Fin 1 → IVec S16 32) a x).toNat < S2048.size a := fun v416 k0_hw167 => k0_hw167.1
theorem k0_idx219_inb : ∀ (v416 : IVec S16 32) (k0_hw167 : k0_chk167 v416), ∀ a x, ((![v416] : Fin 1 → IVec S16 32) a x).toNat < S2048.size a := fun v416 k0_hw167 => k0_hw167.2

def k0_chk168 (v614 : IVec S16 32) : Prop :=
  (∀ a x, ((![v614] : Fin 1 → IVec S16 32) a x).toNat < S32768.size a)
theorem k0_idx220_inb : ∀ (v614 : IVec S16 32) (k0_hw168 : k0_chk168 v614), ∀ a x, ((![v614] : Fin 1 → IVec S16 32) a x).toNat < S32768.size a := fun v614 k0_hw168 => k0_hw168

def k0_chk169 (v420 : IVec S16 32) : Prop :=
  (∀ a x, ((![v420] : Fin 1 → IVec S16 32) a x).toNat < S2048.size a) ∧
  (∀ a x, ((![v420] : Fin 1 → IVec S16 32) a x).toNat < S2048.size a)
theorem k0_idx221_inb : ∀ (v420 : IVec S16 32) (k0_hw169 : k0_chk169 v420), ∀ a x, ((![v420] : Fin 1 → IVec S16 32) a x).toNat < S2048.size a := fun v420 k0_hw169 => k0_hw169.1
theorem k0_idx222_inb : ∀ (v420 : IVec S16 32) (k0_hw169 : k0_chk169 v420), ∀ a x, ((![v420] : Fin 1 → IVec S16 32) a x).toNat < S2048.size a := fun v420 k0_hw169 => k0_hw169.2

def k0_chk170 (v620 : IVec S16 32) : Prop :=
  (∀ a x, ((![v620] : Fin 1 → IVec S16 32) a x).toNat < S32768.size a)
theorem k0_idx223_inb : ∀ (v620 : IVec S16 32) (k0_hw170 : k0_chk170 v620), ∀ a x, ((![v620] : Fin 1 → IVec S16 32) a x).toNat < S32768.size a := fun v620 k0_hw170 => k0_hw170

def k0_chk171 (v424 : IVec S16 32) : Prop :=
  (∀ a x, ((![v424] : Fin 1 → IVec S16 32) a x).toNat < S2048.size a) ∧
  (∀ a x, ((![v424] : Fin 1 → IVec S16 32) a x).toNat < S2048.size a)
theorem k0_idx224_inb : ∀ (v424 : IVec S16 32) (k0_hw171 : k0_chk171 v424), ∀ a x, ((![v424] : Fin 1 → IVec S16 32) a x).toNat < S2048.size a := fun v424 k0_hw171 => k0_hw171.1
theorem k0_idx225_inb : ∀ (v424 : IVec S16 32) (k0_hw171 : k0_chk171 v424), ∀ a x, ((![v424] : Fin 1 → IVec S16 32) a x).toNat < S2048.size a := fun v424 k0_hw171 => k0_hw171.2

def k0_chk172 (v626 : IVec S16 32) : Prop :=
  (∀ a x, ((![v626] : Fin 1 → IVec S16 32) a x).toNat < S32768.size a)
theorem k0_idx226_inb : ∀ (v626 : IVec S16 32) (k0_hw172 : k0_chk172 v626), ∀ a x, ((![v626] : Fin 1 → IVec S16 32) a x).toNat < S32768.size a := fun v626 k0_hw172 => k0_hw172

def k0_chk173 (v428 : IVec S16 32) : Prop :=
  (∀ a x, ((![v428] : Fin 1 → IVec S16 32) a x).toNat < S2048.size a) ∧
  (∀ a x, ((![v428] : Fin 1 → IVec S16 32) a x).toNat < S2048.size a)
theorem k0_idx227_inb : ∀ (v428 : IVec S16 32) (k0_hw173 : k0_chk173 v428), ∀ a x, ((![v428] : Fin 1 → IVec S16 32) a x).toNat < S2048.size a := fun v428 k0_hw173 => k0_hw173.1
theorem k0_idx228_inb : ∀ (v428 : IVec S16 32) (k0_hw173 : k0_chk173 v428), ∀ a x, ((![v428] : Fin 1 → IVec S16 32) a x).toNat < S2048.size a := fun v428 k0_hw173 => k0_hw173.2

def k0_chk174 (v632 : IVec S16 32) : Prop :=
  (∀ a x, ((![v632] : Fin 1 → IVec S16 32) a x).toNat < S32768.size a)
theorem k0_idx229_inb : ∀ (v632 : IVec S16 32) (k0_hw174 : k0_chk174 v632), ∀ a x, ((![v632] : Fin 1 → IVec S16 32) a x).toNat < S32768.size a := fun v632 k0_hw174 => k0_hw174

def k0_chk175 (v432 : IVec S16 32) : Prop :=
  (∀ a x, ((![v432] : Fin 1 → IVec S16 32) a x).toNat < S2048.size a) ∧
  (∀ a x, ((![v432] : Fin 1 → IVec S16 32) a x).toNat < S2048.size a)
theorem k0_idx230_inb : ∀ (v432 : IVec S16 32) (k0_hw175 : k0_chk175 v432), ∀ a x, ((![v432] : Fin 1 → IVec S16 32) a x).toNat < S2048.size a := fun v432 k0_hw175 => k0_hw175.1
theorem k0_idx231_inb : ∀ (v432 : IVec S16 32) (k0_hw175 : k0_chk175 v432), ∀ a x, ((![v432] : Fin 1 → IVec S16 32) a x).toNat < S2048.size a := fun v432 k0_hw175 => k0_hw175.2

def k0_chk176 (v638 : IVec S16 32) : Prop :=
  (∀ a x, ((![v638] : Fin 1 → IVec S16 32) a x).toNat < S32768.size a)
theorem k0_idx232_inb : ∀ (v638 : IVec S16 32) (k0_hw176 : k0_chk176 v638), ∀ a x, ((![v638] : Fin 1 → IVec S16 32) a x).toNat < S32768.size a := fun v638 k0_hw176 => k0_hw176

def k0_chk177 (v436 : IVec S16 32) : Prop :=
  (∀ a x, ((![v436] : Fin 1 → IVec S16 32) a x).toNat < S2048.size a) ∧
  (∀ a x, ((![v436] : Fin 1 → IVec S16 32) a x).toNat < S2048.size a)
theorem k0_idx233_inb : ∀ (v436 : IVec S16 32) (k0_hw177 : k0_chk177 v436), ∀ a x, ((![v436] : Fin 1 → IVec S16 32) a x).toNat < S2048.size a := fun v436 k0_hw177 => k0_hw177.1
theorem k0_idx234_inb : ∀ (v436 : IVec S16 32) (k0_hw177 : k0_chk177 v436), ∀ a x, ((![v436] : Fin 1 → IVec S16 32) a x).toNat < S2048.size a := fun v436 k0_hw177 => k0_hw177.2

def k0_chk178 (v644 : IVec S16 32) : Prop :=
  (∀ a x, ((![v644] : Fin 1 → IVec S16 32) a x).toNat < S32768.size a)
theorem k0_idx235_inb : ∀ (v644 : IVec S16 32) (k0_hw178 : k0_chk178 v644), ∀ a x, ((![v644] : Fin 1 → IVec S16 32) a x).toNat < S32768.size a := fun v644 k0_hw178 => k0_hw178

def k0_chk179 (v440 : IVec S16 32) : Prop :=
  (∀ a x, ((![v440] : Fin 1 → IVec S16 32) a x).toNat < S2048.size a) ∧
  (∀ a x, ((![v440] : Fin 1 → IVec S16 32) a x).toNat < S2048.size a)
theorem k0_idx236_inb : ∀ (v440 : IVec S16 32) (k0_hw179 : k0_chk179 v440), ∀ a x, ((![v440] : Fin 1 → IVec S16 32) a x).toNat < S2048.size a := fun v440 k0_hw179 => k0_hw179.1
theorem k0_idx237_inb : ∀ (v440 : IVec S16 32) (k0_hw179 : k0_chk179 v440), ∀ a x, ((![v440] : Fin 1 → IVec S16 32) a x).toNat < S2048.size a := fun v440 k0_hw179 => k0_hw179.2

def k0_chk180 (v650 : IVec S16 32) : Prop :=
  (∀ a x, ((![v650] : Fin 1 → IVec S16 32) a x).toNat < S32768.size a)
theorem k0_idx238_inb : ∀ (v650 : IVec S16 32) (k0_hw180 : k0_chk180 v650), ∀ a x, ((![v650] : Fin 1 → IVec S16 32) a x).toNat < S32768.size a := fun v650 k0_hw180 => k0_hw180

def k0_chk181 (v444 : IVec S16 32) : Prop :=
  (∀ a x, ((![v444] : Fin 1 → IVec S16 32) a x).toNat < S2048.size a) ∧
  (∀ a x, ((![v444] : Fin 1 → IVec S16 32) a x).toNat < S2048.size a)
theorem k0_idx239_inb : ∀ (v444 : IVec S16 32) (k0_hw181 : k0_chk181 v444), ∀ a x, ((![v444] : Fin 1 → IVec S16 32) a x).toNat < S2048.size a := fun v444 k0_hw181 => k0_hw181.1
theorem k0_idx240_inb : ∀ (v444 : IVec S16 32) (k0_hw181 : k0_chk181 v444), ∀ a x, ((![v444] : Fin 1 → IVec S16 32) a x).toNat < S2048.size a := fun v444 k0_hw181 => k0_hw181.2

def k0_chk182 (v656 : IVec S16 32) : Prop :=
  (∀ a x, ((![v656] : Fin 1 → IVec S16 32) a x).toNat < S32768.size a)
theorem k0_idx241_inb : ∀ (v656 : IVec S16 32) (k0_hw182 : k0_chk182 v656), ∀ a x, ((![v656] : Fin 1 → IVec S16 32) a x).toNat < S32768.size a := fun v656 k0_hw182 => k0_hw182

def k0_chk183 (v448 : IVec S16 32) : Prop :=
  (∀ a x, ((![v448] : Fin 1 → IVec S16 32) a x).toNat < S2048.size a) ∧
  (∀ a x, ((![v448] : Fin 1 → IVec S16 32) a x).toNat < S2048.size a)
theorem k0_idx242_inb : ∀ (v448 : IVec S16 32) (k0_hw183 : k0_chk183 v448), ∀ a x, ((![v448] : Fin 1 → IVec S16 32) a x).toNat < S2048.size a := fun v448 k0_hw183 => k0_hw183.1
theorem k0_idx243_inb : ∀ (v448 : IVec S16 32) (k0_hw183 : k0_chk183 v448), ∀ a x, ((![v448] : Fin 1 → IVec S16 32) a x).toNat < S2048.size a := fun v448 k0_hw183 => k0_hw183.2

def k0_chk184 (v662 : IVec S16 32) : Prop :=
  (∀ a x, ((![v662] : Fin 1 → IVec S16 32) a x).toNat < S32768.size a)
theorem k0_idx244_inb : ∀ (v662 : IVec S16 32) (k0_hw184 : k0_chk184 v662), ∀ a x, ((![v662] : Fin 1 → IVec S16 32) a x).toNat < S32768.size a := fun v662 k0_hw184 => k0_hw184

def k0_chk185 (v452 : IVec S16 32) : Prop :=
  (∀ a x, ((![v452] : Fin 1 → IVec S16 32) a x).toNat < S2048.size a) ∧
  (∀ a x, ((![v452] : Fin 1 → IVec S16 32) a x).toNat < S2048.size a)
theorem k0_idx245_inb : ∀ (v452 : IVec S16 32) (k0_hw185 : k0_chk185 v452), ∀ a x, ((![v452] : Fin 1 → IVec S16 32) a x).toNat < S2048.size a := fun v452 k0_hw185 => k0_hw185.1
theorem k0_idx246_inb : ∀ (v452 : IVec S16 32) (k0_hw185 : k0_chk185 v452), ∀ a x, ((![v452] : Fin 1 → IVec S16 32) a x).toNat < S2048.size a := fun v452 k0_hw185 => k0_hw185.2

def k0_chk186 (v668 : IVec S16 32) : Prop :=
  (∀ a x, ((![v668] : Fin 1 → IVec S16 32) a x).toNat < S32768.size a)
theorem k0_idx247_inb : ∀ (v668 : IVec S16 32) (k0_hw186 : k0_chk186 v668), ∀ a x, ((![v668] : Fin 1 → IVec S16 32) a x).toNat < S32768.size a := fun v668 k0_hw186 => k0_hw186

def k0_chk187 (v456 : IVec S16 32) : Prop :=
  (∀ a x, ((![v456] : Fin 1 → IVec S16 32) a x).toNat < S2048.size a) ∧
  (∀ a x, ((![v456] : Fin 1 → IVec S16 32) a x).toNat < S2048.size a)
theorem k0_idx248_inb : ∀ (v456 : IVec S16 32) (k0_hw187 : k0_chk187 v456), ∀ a x, ((![v456] : Fin 1 → IVec S16 32) a x).toNat < S2048.size a := fun v456 k0_hw187 => k0_hw187.1
theorem k0_idx249_inb : ∀ (v456 : IVec S16 32) (k0_hw187 : k0_chk187 v456), ∀ a x, ((![v456] : Fin 1 → IVec S16 32) a x).toNat < S2048.size a := fun v456 k0_hw187 => k0_hw187.2

def k0_chk188 (v674 : IVec S16 32) : Prop :=
  (∀ a x, ((![v674] : Fin 1 → IVec S16 32) a x).toNat < S32768.size a)
theorem k0_idx250_inb : ∀ (v674 : IVec S16 32) (k0_hw188 : k0_chk188 v674), ∀ a x, ((![v674] : Fin 1 → IVec S16 32) a x).toNat < S32768.size a := fun v674 k0_hw188 => k0_hw188

def k0_chk189 (v460 : IVec S16 32) : Prop :=
  (∀ a x, ((![v460] : Fin 1 → IVec S16 32) a x).toNat < S2048.size a) ∧
  (∀ a x, ((![v460] : Fin 1 → IVec S16 32) a x).toNat < S2048.size a)
theorem k0_idx251_inb : ∀ (v460 : IVec S16 32) (k0_hw189 : k0_chk189 v460), ∀ a x, ((![v460] : Fin 1 → IVec S16 32) a x).toNat < S2048.size a := fun v460 k0_hw189 => k0_hw189.1
theorem k0_idx252_inb : ∀ (v460 : IVec S16 32) (k0_hw189 : k0_chk189 v460), ∀ a x, ((![v460] : Fin 1 → IVec S16 32) a x).toNat < S2048.size a := fun v460 k0_hw189 => k0_hw189.2

def k0_chk190 (v680 : IVec S16 32) : Prop :=
  (∀ a x, ((![v680] : Fin 1 → IVec S16 32) a x).toNat < S32768.size a)
theorem k0_idx253_inb : ∀ (v680 : IVec S16 32) (k0_hw190 : k0_chk190 v680), ∀ a x, ((![v680] : Fin 1 → IVec S16 32) a x).toNat < S32768.size a := fun v680 k0_hw190 => k0_hw190

def k0_chk191 (v464 : IVec S16 32) : Prop :=
  (∀ a x, ((![v464] : Fin 1 → IVec S16 32) a x).toNat < S2048.size a) ∧
  (∀ a x, ((![v464] : Fin 1 → IVec S16 32) a x).toNat < S2048.size a)
theorem k0_idx254_inb : ∀ (v464 : IVec S16 32) (k0_hw191 : k0_chk191 v464), ∀ a x, ((![v464] : Fin 1 → IVec S16 32) a x).toNat < S2048.size a := fun v464 k0_hw191 => k0_hw191.1
theorem k0_idx255_inb : ∀ (v464 : IVec S16 32) (k0_hw191 : k0_chk191 v464), ∀ a x, ((![v464] : Fin 1 → IVec S16 32) a x).toNat < S2048.size a := fun v464 k0_hw191 => k0_hw191.2

def k0_chk192 (v686 : IVec S16 32) : Prop :=
  (∀ a x, ((![v686] : Fin 1 → IVec S16 32) a x).toNat < S32768.size a)
theorem k0_idx256_inb : ∀ (v686 : IVec S16 32) (k0_hw192 : k0_chk192 v686), ∀ a x, ((![v686] : Fin 1 → IVec S16 32) a x).toNat < S32768.size a := fun v686 k0_hw192 => k0_hw192

def k0_chk193 (v697 : IVec S16 32) : Prop :=
  (∀ a x, ((![v697] : Fin 1 → IVec S16 32) a x).toNat < S4096.size a)
theorem k0_idx257_inb : ∀ (v697 : IVec S16 32) (k0_hw193 : k0_chk193 v697), ∀ a x, ((![v697] : Fin 1 → IVec S16 32) a x).toNat < S4096.size a := fun v697 k0_hw193 => k0_hw193

def k0_chk194 (v706 : IVec S16 32) : Prop :=
  (∀ a x, ((![v706] : Fin 1 → IVec S16 32) a x).toNat < S4096.size a)
theorem k0_idx258_inb : ∀ (v706 : IVec S16 32) (k0_hw194 : k0_chk194 v706), ∀ a x, ((![v706] : Fin 1 → IVec S16 32) a x).toNat < S4096.size a := fun v706 k0_hw194 => k0_hw194

def k0_chk195 (v715 : IVec S16 32) : Prop :=
  (∀ a x, ((![v715] : Fin 1 → IVec S16 32) a x).toNat < S4096.size a)
theorem k0_idx259_inb : ∀ (v715 : IVec S16 32) (k0_hw195 : k0_chk195 v715), ∀ a x, ((![v715] : Fin 1 → IVec S16 32) a x).toNat < S4096.size a := fun v715 k0_hw195 => k0_hw195

def k0_chk196 (v724 : IVec S16 32) : Prop :=
  (∀ a x, ((![v724] : Fin 1 → IVec S16 32) a x).toNat < S4096.size a)
theorem k0_idx260_inb : ∀ (v724 : IVec S16 32) (k0_hw196 : k0_chk196 v724), ∀ a x, ((![v724] : Fin 1 → IVec S16 32) a x).toNat < S4096.size a := fun v724 k0_hw196 => k0_hw196

def k0_chk197 (v733 : IVec S16 32) : Prop :=
  (∀ a x, ((![v733] : Fin 1 → IVec S16 32) a x).toNat < S4096.size a)
theorem k0_idx261_inb : ∀ (v733 : IVec S16 32) (k0_hw197 : k0_chk197 v733), ∀ a x, ((![v733] : Fin 1 → IVec S16 32) a x).toNat < S4096.size a := fun v733 k0_hw197 => k0_hw197

def k0_chk198 (v742 : IVec S16 32) : Prop :=
  (∀ a x, ((![v742] : Fin 1 → IVec S16 32) a x).toNat < S4096.size a)
theorem k0_idx262_inb : ∀ (v742 : IVec S16 32) (k0_hw198 : k0_chk198 v742), ∀ a x, ((![v742] : Fin 1 → IVec S16 32) a x).toNat < S4096.size a := fun v742 k0_hw198 => k0_hw198

def k0_chk199 (v751 : IVec S16 32) : Prop :=
  (∀ a x, ((![v751] : Fin 1 → IVec S16 32) a x).toNat < S4096.size a)
theorem k0_idx263_inb : ∀ (v751 : IVec S16 32) (k0_hw199 : k0_chk199 v751), ∀ a x, ((![v751] : Fin 1 → IVec S16 32) a x).toNat < S4096.size a := fun v751 k0_hw199 => k0_hw199

def k0_chk200 (v760 : IVec S16 32) : Prop :=
  (∀ a x, ((![v760] : Fin 1 → IVec S16 32) a x).toNat < S4096.size a)
theorem k0_idx264_inb : ∀ (v760 : IVec S16 32) (k0_hw200 : k0_chk200 v760), ∀ a x, ((![v760] : Fin 1 → IVec S16 32) a x).toNat < S4096.size a := fun v760 k0_hw200 => k0_hw200

def k0_chk201 (v769 : IVec S16 32) : Prop :=
  (∀ a x, ((![v769] : Fin 1 → IVec S16 32) a x).toNat < S4096.size a)
theorem k0_idx265_inb : ∀ (v769 : IVec S16 32) (k0_hw201 : k0_chk201 v769), ∀ a x, ((![v769] : Fin 1 → IVec S16 32) a x).toNat < S4096.size a := fun v769 k0_hw201 => k0_hw201

def k0_chk202 (v778 : IVec S16 32) : Prop :=
  (∀ a x, ((![v778] : Fin 1 → IVec S16 32) a x).toNat < S4096.size a)
theorem k0_idx266_inb : ∀ (v778 : IVec S16 32) (k0_hw202 : k0_chk202 v778), ∀ a x, ((![v778] : Fin 1 → IVec S16 32) a x).toNat < S4096.size a := fun v778 k0_hw202 => k0_hw202

def k0_chk203 (v787 : IVec S16 32) : Prop :=
  (∀ a x, ((![v787] : Fin 1 → IVec S16 32) a x).toNat < S4096.size a)
theorem k0_idx267_inb : ∀ (v787 : IVec S16 32) (k0_hw203 : k0_chk203 v787), ∀ a x, ((![v787] : Fin 1 → IVec S16 32) a x).toNat < S4096.size a := fun v787 k0_hw203 => k0_hw203

def k0_chk204 (v796 : IVec S16 32) : Prop :=
  (∀ a x, ((![v796] : Fin 1 → IVec S16 32) a x).toNat < S4096.size a)
theorem k0_idx268_inb : ∀ (v796 : IVec S16 32) (k0_hw204 : k0_chk204 v796), ∀ a x, ((![v796] : Fin 1 → IVec S16 32) a x).toNat < S4096.size a := fun v796 k0_hw204 => k0_hw204

def k0_chk205 (v805 : IVec S16 32) : Prop :=
  (∀ a x, ((![v805] : Fin 1 → IVec S16 32) a x).toNat < S4096.size a)
theorem k0_idx269_inb : ∀ (v805 : IVec S16 32) (k0_hw205 : k0_chk205 v805), ∀ a x, ((![v805] : Fin 1 → IVec S16 32) a x).toNat < S4096.size a := fun v805 k0_hw205 => k0_hw205

def k0_chk206 (v814 : IVec S16 32) : Prop :=
  (∀ a x, ((![v814] : Fin 1 → IVec S16 32) a x).toNat < S4096.size a)
theorem k0_idx270_inb : ∀ (v814 : IVec S16 32) (k0_hw206 : k0_chk206 v814), ∀ a x, ((![v814] : Fin 1 → IVec S16 32) a x).toNat < S4096.size a := fun v814 k0_hw206 => k0_hw206

def k0_chk207 (v823 : IVec S16 32) : Prop :=
  (∀ a x, ((![v823] : Fin 1 → IVec S16 32) a x).toNat < S4096.size a)
theorem k0_idx271_inb : ∀ (v823 : IVec S16 32) (k0_hw207 : k0_chk207 v823), ∀ a x, ((![v823] : Fin 1 → IVec S16 32) a x).toNat < S4096.size a := fun v823 k0_hw207 => k0_hw207

def k0_chk208 (v832 : IVec S16 32) : Prop :=
  (∀ a x, ((![v832] : Fin 1 → IVec S16 32) a x).toNat < S4096.size a)
theorem k0_idx272_inb : ∀ (v832 : IVec S16 32) (k0_hw208 : k0_chk208 v832), ∀ a x, ((![v832] : Fin 1 → IVec S16 32) a x).toNat < S4096.size a := fun v832 k0_hw208 => k0_hw208

def k0_chk209 (v841 : IVec S16 32) : Prop :=
  (∀ a x, ((![v841] : Fin 1 → IVec S16 32) a x).toNat < S4096.size a)
theorem k0_idx273_inb : ∀ (v841 : IVec S16 32) (k0_hw209 : k0_chk209 v841), ∀ a x, ((![v841] : Fin 1 → IVec S16 32) a x).toNat < S4096.size a := fun v841 k0_hw209 => k0_hw209

def k0_chk210 (v850 : IVec S16 32) : Prop :=
  (∀ a x, ((![v850] : Fin 1 → IVec S16 32) a x).toNat < S4096.size a)
theorem k0_idx274_inb : ∀ (v850 : IVec S16 32) (k0_hw210 : k0_chk210 v850), ∀ a x, ((![v850] : Fin 1 → IVec S16 32) a x).toNat < S4096.size a := fun v850 k0_hw210 => k0_hw210

def k0_chk211 (v859 : IVec S16 32) : Prop :=
  (∀ a x, ((![v859] : Fin 1 → IVec S16 32) a x).toNat < S4096.size a)
theorem k0_idx275_inb : ∀ (v859 : IVec S16 32) (k0_hw211 : k0_chk211 v859), ∀ a x, ((![v859] : Fin 1 → IVec S16 32) a x).toNat < S4096.size a := fun v859 k0_hw211 => k0_hw211

def k0_chk212 (v868 : IVec S16 32) : Prop :=
  (∀ a x, ((![v868] : Fin 1 → IVec S16 32) a x).toNat < S4096.size a)
theorem k0_idx276_inb : ∀ (v868 : IVec S16 32) (k0_hw212 : k0_chk212 v868), ∀ a x, ((![v868] : Fin 1 → IVec S16 32) a x).toNat < S4096.size a := fun v868 k0_hw212 => k0_hw212

def k0_chk213 (v877 : IVec S16 32) : Prop :=
  (∀ a x, ((![v877] : Fin 1 → IVec S16 32) a x).toNat < S4096.size a)
theorem k0_idx277_inb : ∀ (v877 : IVec S16 32) (k0_hw213 : k0_chk213 v877), ∀ a x, ((![v877] : Fin 1 → IVec S16 32) a x).toNat < S4096.size a := fun v877 k0_hw213 => k0_hw213

def k0_chk214 (v886 : IVec S16 32) : Prop :=
  (∀ a x, ((![v886] : Fin 1 → IVec S16 32) a x).toNat < S4096.size a)
theorem k0_idx278_inb : ∀ (v886 : IVec S16 32) (k0_hw214 : k0_chk214 v886), ∀ a x, ((![v886] : Fin 1 → IVec S16 32) a x).toNat < S4096.size a := fun v886 k0_hw214 => k0_hw214

def k0_chk215 (v895 : IVec S16 32) : Prop :=
  (∀ a x, ((![v895] : Fin 1 → IVec S16 32) a x).toNat < S4096.size a)
theorem k0_idx279_inb : ∀ (v895 : IVec S16 32) (k0_hw215 : k0_chk215 v895), ∀ a x, ((![v895] : Fin 1 → IVec S16 32) a x).toNat < S4096.size a := fun v895 k0_hw215 => k0_hw215

def k0_chk216 (v904 : IVec S16 32) : Prop :=
  (∀ a x, ((![v904] : Fin 1 → IVec S16 32) a x).toNat < S4096.size a)
theorem k0_idx280_inb : ∀ (v904 : IVec S16 32) (k0_hw216 : k0_chk216 v904), ∀ a x, ((![v904] : Fin 1 → IVec S16 32) a x).toNat < S4096.size a := fun v904 k0_hw216 => k0_hw216

def k0_chk217 (v913 : IVec S16 32) : Prop :=
  (∀ a x, ((![v913] : Fin 1 → IVec S16 32) a x).toNat < S4096.size a)
theorem k0_idx281_inb : ∀ (v913 : IVec S16 32) (k0_hw217 : k0_chk217 v913), ∀ a x, ((![v913] : Fin 1 → IVec S16 32) a x).toNat < S4096.size a := fun v913 k0_hw217 => k0_hw217

def k0_chk218 (v922 : IVec S16 32) : Prop :=
  (∀ a x, ((![v922] : Fin 1 → IVec S16 32) a x).toNat < S4096.size a)
theorem k0_idx282_inb : ∀ (v922 : IVec S16 32) (k0_hw218 : k0_chk218 v922), ∀ a x, ((![v922] : Fin 1 → IVec S16 32) a x).toNat < S4096.size a := fun v922 k0_hw218 => k0_hw218

def k0_chk219 (v931 : IVec S16 32) : Prop :=
  (∀ a x, ((![v931] : Fin 1 → IVec S16 32) a x).toNat < S4096.size a)
theorem k0_idx283_inb : ∀ (v931 : IVec S16 32) (k0_hw219 : k0_chk219 v931), ∀ a x, ((![v931] : Fin 1 → IVec S16 32) a x).toNat < S4096.size a := fun v931 k0_hw219 => k0_hw219

def k0_chk220 (v940 : IVec S16 32) : Prop :=
  (∀ a x, ((![v940] : Fin 1 → IVec S16 32) a x).toNat < S4096.size a)
theorem k0_idx284_inb : ∀ (v940 : IVec S16 32) (k0_hw220 : k0_chk220 v940), ∀ a x, ((![v940] : Fin 1 → IVec S16 32) a x).toNat < S4096.size a := fun v940 k0_hw220 => k0_hw220

def k0_chk221 (v949 : IVec S16 32) : Prop :=
  (∀ a x, ((![v949] : Fin 1 → IVec S16 32) a x).toNat < S4096.size a)
theorem k0_idx285_inb : ∀ (v949 : IVec S16 32) (k0_hw221 : k0_chk221 v949), ∀ a x, ((![v949] : Fin 1 → IVec S16 32) a x).toNat < S4096.size a := fun v949 k0_hw221 => k0_hw221

def k0_chk222 (v958 : IVec S16 32) : Prop :=
  (∀ a x, ((![v958] : Fin 1 → IVec S16 32) a x).toNat < S4096.size a)
theorem k0_idx286_inb : ∀ (v958 : IVec S16 32) (k0_hw222 : k0_chk222 v958), ∀ a x, ((![v958] : Fin 1 → IVec S16 32) a x).toNat < S4096.size a := fun v958 k0_hw222 => k0_hw222

def k0_chk223 (v967 : IVec S16 32) : Prop :=
  (∀ a x, ((![v967] : Fin 1 → IVec S16 32) a x).toNat < S4096.size a)
theorem k0_idx287_inb : ∀ (v967 : IVec S16 32) (k0_hw223 : k0_chk223 v967), ∀ a x, ((![v967] : Fin 1 → IVec S16 32) a x).toNat < S4096.size a := fun v967 k0_hw223 => k0_hw223

def k0_chk224 (v976 : IVec S16 32) : Prop :=
  (∀ a x, ((![v976] : Fin 1 → IVec S16 32) a x).toNat < S4096.size a)
theorem k0_idx288_inb : ∀ (v976 : IVec S16 32) (k0_hw224 : k0_chk224 v976), ∀ a x, ((![v976] : Fin 1 → IVec S16 32) a x).toNat < S4096.size a := fun v976 k0_hw224 => k0_hw224
@[reducible] def k0_t13_loop : Scf.Loop 32 :=
  let c0_i32_67 : BitVec 32 := 0#32
  let c64_i32_68 : BitVec 32 := 64#32
  let v34 : BitVec 32 := Scalar.addi c0_i32_67 c64_i32_68
  let c1_i32_69 : BitVec 32 := 1#32
  ⟨c0_i32_67, v34, c1_i32_69⟩
def k0_off23 (k0_t13 : Fin k0_t13_loop.trips) : Fin 1 → Nat :=
  let c0_i32_67 : BitVec 32 := 0#32
  let c1_i32_69 : BitVec 32 := 1#32
  let arg15 : BitVec 32 := Scf.iv c0_i32_67 c1_i32_69 k0_t13
  let c16_i32_312 : BitVec 32 := 16#32
  let v146 : BitVec 32 := Scalar.muli arg15 c16_i32_312
  let v147 : Index := Scalar.indexCast v146
  ![v147.toNat]
def k0_off24 (k0_t13 : Fin k0_t13_loop.trips) : Fin 1 → Nat :=
  let c2048_i32 : BitVec 32 := 2048#32
  let c0_i32_67 : BitVec 32 := 0#32
  let c1_i32_69 : BitVec 32 := 1#32
  let arg15 : BitVec 32 := Scf.iv c0_i32_67 c1_i32_69 k0_t13
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off25 (k0_t13 : Fin k0_t13_loop.trips) : Fin 1 → Nat :=
  let c0_i32_67 : BitVec 32 := 0#32
  let c1_i32_69 : BitVec 32 := 1#32
  let arg15 : BitVec 32 := Scf.iv c0_i32_67 c1_i32_69 k0_t13
  let c16_i32 : BitVec 32 := 16#32
  let v145 : BitVec 32 := Scalar.muli arg15 c16_i32
  let v154 : Index := Scalar.indexCast v145
  ![v154.toNat]
@[reducible] def k0_t14_loop : Scf.Loop 32 :=
  let c0_i32_72 : BitVec 32 := 0#32
  let c64_i32_73 : BitVec 32 := 64#32
  let v35 : BitVec 32 := Scalar.addi c0_i32_72 c64_i32_73
  let c1_i32_74 : BitVec 32 := 1#32
  ⟨c0_i32_72, v35, c1_i32_74⟩
def k0_off26 (k0_t14 : Fin k0_t14_loop.trips) : Fin 1 → Nat :=
  let c0_i32_72 : BitVec 32 := 0#32
  let c1_i32_74 : BitVec 32 := 1#32
  let arg15 : BitVec 32 := Scf.iv c0_i32_72 c1_i32_74 k0_t14
  let c16_i32 : BitVec 32 := 16#32
  let v145 : BitVec 32 := Scalar.muli arg15 c16_i32
  let v146 : Index := Scalar.indexCast v145
  ![v146.toNat]
@[reducible] def k0_t15_loop : Scf.Loop 32 :=
  let c0_i32_77 : BitVec 32 := 0#32
  let c64_i32_78 : BitVec 32 := 64#32
  let v37 : BitVec 32 := Scalar.addi c0_i32_77 c64_i32_78
  let c1_i32_79 : BitVec 32 := 1#32
  ⟨c0_i32_77, v37, c1_i32_79⟩
def k0_off27 (k0_t15 : Fin k0_t15_loop.trips) : Fin 1 → Nat :=
  let c0_i32_77 : BitVec 32 := 0#32
  let c1_i32_79 : BitVec 32 := 1#32
  let arg15 : BitVec 32 := Scf.iv c0_i32_77 c1_i32_79 k0_t15
  let c16_i32 : BitVec 32 := 16#32
  let v145 : BitVec 32 := Scalar.muli arg15 c16_i32
  let v146 : Index := Scalar.indexCast v145
  ![v146.toNat]
def k0_off28 (k0_t15 : Fin k0_t15_loop.trips) : Fin 1 → Nat :=
  let c0_i32_77 : BitVec 32 := 0#32
  let c1_i32_79 : BitVec 32 := 1#32
  let arg15 : BitVec 32 := Scf.iv c0_i32_77 c1_i32_79 k0_t15
  let c16_i32_312 : BitVec 32 := 16#32
  let v150 : BitVec 32 := Scalar.muli arg15 c16_i32_312
  let v151 : Index := Scalar.indexCast v150
  ![v151.toNat]
def k0_off29 (k0_t15 : Fin k0_t15_loop.trips) : Fin 1 → Nat :=
  let c2048_i32 : BitVec 32 := 2048#32
  let c0_i32_77 : BitVec 32 := 0#32
  let c1_i32_79 : BitVec 32 := 1#32
  let arg15 : BitVec 32 := Scf.iv c0_i32_77 c1_i32_79 k0_t15
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t16_loop : Scf.Loop 32 :=
  let c0_i32_82 : BitVec 32 := 0#32
  let c64_i32_83 : BitVec 32 := 64#32
  let v38 : BitVec 32 := Scalar.addi c0_i32_82 c64_i32_83
  let c1_i32_84 : BitVec 32 := 1#32
  ⟨c0_i32_82, v38, c1_i32_84⟩
def k0_off30 (k0_t16 : Fin k0_t16_loop.trips) (c0_i32_312 : BitVec 32) (c0_i32_313 : BitVec 32) : Fin 1 → Nat :=
  let c0_i32_82 : BitVec 32 := 0#32
  let c1_i32_84 : BitVec 32 := 1#32
  let arg15 : BitVec 32 := Scf.iv c0_i32_82 c1_i32_84 k0_t16
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk225 (v340 : IVec S16 32) : Prop :=
  (∀ a x, ((![v340] : Fin 1 → IVec S16 32) a x).toNat < S2048.size a) ∧
  (∀ a x, ((![v340] : Fin 1 → IVec S16 32) a x).toNat < S2048.size a)
theorem k0_idx289_inb : ∀ (v340 : IVec S16 32) (k0_hw225 : k0_chk225 v340), ∀ a x, ((![v340] : Fin 1 → IVec S16 32) a x).toNat < S2048.size a := fun v340 k0_hw225 => k0_hw225.1
theorem k0_idx290_inb : ∀ (v340 : IVec S16 32) (k0_hw225 : k0_chk225 v340), ∀ a x, ((![v340] : Fin 1 → IVec S16 32) a x).toNat < S2048.size a := fun v340 k0_hw225 => k0_hw225.2

def k0_chk226 (v692 : IVec S16 32) : Prop :=
  (∀ a x, ((![v692] : Fin 1 → IVec S16 32) a x).toNat < S32768.size a)
theorem k0_idx291_inb : ∀ (v692 : IVec S16 32) (k0_hw226 : k0_chk226 v692), ∀ a x, ((![v692] : Fin 1 → IVec S16 32) a x).toNat < S32768.size a := fun v692 k0_hw226 => k0_hw226

def k0_chk227 (v344 : IVec S16 32) : Prop :=
  (∀ a x, ((![v344] : Fin 1 → IVec S16 32) a x).toNat < S2048.size a) ∧
  (∀ a x, ((![v344] : Fin 1 → IVec S16 32) a x).toNat < S2048.size a)
theorem k0_idx292_inb : ∀ (v344 : IVec S16 32) (k0_hw227 : k0_chk227 v344), ∀ a x, ((![v344] : Fin 1 → IVec S16 32) a x).toNat < S2048.size a := fun v344 k0_hw227 => k0_hw227.1
theorem k0_idx293_inb : ∀ (v344 : IVec S16 32) (k0_hw227 : k0_chk227 v344), ∀ a x, ((![v344] : Fin 1 → IVec S16 32) a x).toNat < S2048.size a := fun v344 k0_hw227 => k0_hw227.2

def k0_chk228 (v698 : IVec S16 32) : Prop :=
  (∀ a x, ((![v698] : Fin 1 → IVec S16 32) a x).toNat < S32768.size a)
theorem k0_idx294_inb : ∀ (v698 : IVec S16 32) (k0_hw228 : k0_chk228 v698), ∀ a x, ((![v698] : Fin 1 → IVec S16 32) a x).toNat < S32768.size a := fun v698 k0_hw228 => k0_hw228

def k0_chk229 (v348 : IVec S16 32) : Prop :=
  (∀ a x, ((![v348] : Fin 1 → IVec S16 32) a x).toNat < S2048.size a) ∧
  (∀ a x, ((![v348] : Fin 1 → IVec S16 32) a x).toNat < S2048.size a)
theorem k0_idx295_inb : ∀ (v348 : IVec S16 32) (k0_hw229 : k0_chk229 v348), ∀ a x, ((![v348] : Fin 1 → IVec S16 32) a x).toNat < S2048.size a := fun v348 k0_hw229 => k0_hw229.1
theorem k0_idx296_inb : ∀ (v348 : IVec S16 32) (k0_hw229 : k0_chk229 v348), ∀ a x, ((![v348] : Fin 1 → IVec S16 32) a x).toNat < S2048.size a := fun v348 k0_hw229 => k0_hw229.2

def k0_chk230 (v704 : IVec S16 32) : Prop :=
  (∀ a x, ((![v704] : Fin 1 → IVec S16 32) a x).toNat < S32768.size a)
theorem k0_idx297_inb : ∀ (v704 : IVec S16 32) (k0_hw230 : k0_chk230 v704), ∀ a x, ((![v704] : Fin 1 → IVec S16 32) a x).toNat < S32768.size a := fun v704 k0_hw230 => k0_hw230

def k0_chk231 (v352 : IVec S16 32) : Prop :=
  (∀ a x, ((![v352] : Fin 1 → IVec S16 32) a x).toNat < S2048.size a) ∧
  (∀ a x, ((![v352] : Fin 1 → IVec S16 32) a x).toNat < S2048.size a)
theorem k0_idx298_inb : ∀ (v352 : IVec S16 32) (k0_hw231 : k0_chk231 v352), ∀ a x, ((![v352] : Fin 1 → IVec S16 32) a x).toNat < S2048.size a := fun v352 k0_hw231 => k0_hw231.1
theorem k0_idx299_inb : ∀ (v352 : IVec S16 32) (k0_hw231 : k0_chk231 v352), ∀ a x, ((![v352] : Fin 1 → IVec S16 32) a x).toNat < S2048.size a := fun v352 k0_hw231 => k0_hw231.2

def k0_chk232 (v710 : IVec S16 32) : Prop :=
  (∀ a x, ((![v710] : Fin 1 → IVec S16 32) a x).toNat < S32768.size a)
theorem k0_idx300_inb : ∀ (v710 : IVec S16 32) (k0_hw232 : k0_chk232 v710), ∀ a x, ((![v710] : Fin 1 → IVec S16 32) a x).toNat < S32768.size a := fun v710 k0_hw232 => k0_hw232

def k0_chk233 (v356 : IVec S16 32) : Prop :=
  (∀ a x, ((![v356] : Fin 1 → IVec S16 32) a x).toNat < S2048.size a) ∧
  (∀ a x, ((![v356] : Fin 1 → IVec S16 32) a x).toNat < S2048.size a)
theorem k0_idx301_inb : ∀ (v356 : IVec S16 32) (k0_hw233 : k0_chk233 v356), ∀ a x, ((![v356] : Fin 1 → IVec S16 32) a x).toNat < S2048.size a := fun v356 k0_hw233 => k0_hw233.1
theorem k0_idx302_inb : ∀ (v356 : IVec S16 32) (k0_hw233 : k0_chk233 v356), ∀ a x, ((![v356] : Fin 1 → IVec S16 32) a x).toNat < S2048.size a := fun v356 k0_hw233 => k0_hw233.2

def k0_chk234 (v716 : IVec S16 32) : Prop :=
  (∀ a x, ((![v716] : Fin 1 → IVec S16 32) a x).toNat < S32768.size a)
theorem k0_idx303_inb : ∀ (v716 : IVec S16 32) (k0_hw234 : k0_chk234 v716), ∀ a x, ((![v716] : Fin 1 → IVec S16 32) a x).toNat < S32768.size a := fun v716 k0_hw234 => k0_hw234

def k0_chk235 (v360 : IVec S16 32) : Prop :=
  (∀ a x, ((![v360] : Fin 1 → IVec S16 32) a x).toNat < S2048.size a) ∧
  (∀ a x, ((![v360] : Fin 1 → IVec S16 32) a x).toNat < S2048.size a)
theorem k0_idx304_inb : ∀ (v360 : IVec S16 32) (k0_hw235 : k0_chk235 v360), ∀ a x, ((![v360] : Fin 1 → IVec S16 32) a x).toNat < S2048.size a := fun v360 k0_hw235 => k0_hw235.1
theorem k0_idx305_inb : ∀ (v360 : IVec S16 32) (k0_hw235 : k0_chk235 v360), ∀ a x, ((![v360] : Fin 1 → IVec S16 32) a x).toNat < S2048.size a := fun v360 k0_hw235 => k0_hw235.2

def k0_chk236 (v722 : IVec S16 32) : Prop :=
  (∀ a x, ((![v722] : Fin 1 → IVec S16 32) a x).toNat < S32768.size a)
theorem k0_idx306_inb : ∀ (v722 : IVec S16 32) (k0_hw236 : k0_chk236 v722), ∀ a x, ((![v722] : Fin 1 → IVec S16 32) a x).toNat < S32768.size a := fun v722 k0_hw236 => k0_hw236

def k0_chk237 (v364 : IVec S16 32) : Prop :=
  (∀ a x, ((![v364] : Fin 1 → IVec S16 32) a x).toNat < S2048.size a) ∧
  (∀ a x, ((![v364] : Fin 1 → IVec S16 32) a x).toNat < S2048.size a)
theorem k0_idx307_inb : ∀ (v364 : IVec S16 32) (k0_hw237 : k0_chk237 v364), ∀ a x, ((![v364] : Fin 1 → IVec S16 32) a x).toNat < S2048.size a := fun v364 k0_hw237 => k0_hw237.1
theorem k0_idx308_inb : ∀ (v364 : IVec S16 32) (k0_hw237 : k0_chk237 v364), ∀ a x, ((![v364] : Fin 1 → IVec S16 32) a x).toNat < S2048.size a := fun v364 k0_hw237 => k0_hw237.2

def k0_chk238 (v728 : IVec S16 32) : Prop :=
  (∀ a x, ((![v728] : Fin 1 → IVec S16 32) a x).toNat < S32768.size a)
theorem k0_idx309_inb : ∀ (v728 : IVec S16 32) (k0_hw238 : k0_chk238 v728), ∀ a x, ((![v728] : Fin 1 → IVec S16 32) a x).toNat < S32768.size a := fun v728 k0_hw238 => k0_hw238

def k0_chk239 (v368 : IVec S16 32) : Prop :=
  (∀ a x, ((![v368] : Fin 1 → IVec S16 32) a x).toNat < S2048.size a) ∧
  (∀ a x, ((![v368] : Fin 1 → IVec S16 32) a x).toNat < S2048.size a)
theorem k0_idx310_inb : ∀ (v368 : IVec S16 32) (k0_hw239 : k0_chk239 v368), ∀ a x, ((![v368] : Fin 1 → IVec S16 32) a x).toNat < S2048.size a := fun v368 k0_hw239 => k0_hw239.1
theorem k0_idx311_inb : ∀ (v368 : IVec S16 32) (k0_hw239 : k0_chk239 v368), ∀ a x, ((![v368] : Fin 1 → IVec S16 32) a x).toNat < S2048.size a := fun v368 k0_hw239 => k0_hw239.2

def k0_chk240 (v734 : IVec S16 32) : Prop :=
  (∀ a x, ((![v734] : Fin 1 → IVec S16 32) a x).toNat < S32768.size a)
theorem k0_idx312_inb : ∀ (v734 : IVec S16 32) (k0_hw240 : k0_chk240 v734), ∀ a x, ((![v734] : Fin 1 → IVec S16 32) a x).toNat < S32768.size a := fun v734 k0_hw240 => k0_hw240

def k0_chk241 (v372 : IVec S16 32) : Prop :=
  (∀ a x, ((![v372] : Fin 1 → IVec S16 32) a x).toNat < S2048.size a) ∧
  (∀ a x, ((![v372] : Fin 1 → IVec S16 32) a x).toNat < S2048.size a)
theorem k0_idx313_inb : ∀ (v372 : IVec S16 32) (k0_hw241 : k0_chk241 v372), ∀ a x, ((![v372] : Fin 1 → IVec S16 32) a x).toNat < S2048.size a := fun v372 k0_hw241 => k0_hw241.1
theorem k0_idx314_inb : ∀ (v372 : IVec S16 32) (k0_hw241 : k0_chk241 v372), ∀ a x, ((![v372] : Fin 1 → IVec S16 32) a x).toNat < S2048.size a := fun v372 k0_hw241 => k0_hw241.2

def k0_chk242 (v740 : IVec S16 32) : Prop :=
  (∀ a x, ((![v740] : Fin 1 → IVec S16 32) a x).toNat < S32768.size a)
theorem k0_idx315_inb : ∀ (v740 : IVec S16 32) (k0_hw242 : k0_chk242 v740), ∀ a x, ((![v740] : Fin 1 → IVec S16 32) a x).toNat < S32768.size a := fun v740 k0_hw242 => k0_hw242

def k0_chk243 (v376 : IVec S16 32) : Prop :=
  (∀ a x, ((![v376] : Fin 1 → IVec S16 32) a x).toNat < S2048.size a) ∧
  (∀ a x, ((![v376] : Fin 1 → IVec S16 32) a x).toNat < S2048.size a)
theorem k0_idx316_inb : ∀ (v376 : IVec S16 32) (k0_hw243 : k0_chk243 v376), ∀ a x, ((![v376] : Fin 1 → IVec S16 32) a x).toNat < S2048.size a := fun v376 k0_hw243 => k0_hw243.1
theorem k0_idx317_inb : ∀ (v376 : IVec S16 32) (k0_hw243 : k0_chk243 v376), ∀ a x, ((![v376] : Fin 1 → IVec S16 32) a x).toNat < S2048.size a := fun v376 k0_hw243 => k0_hw243.2

def k0_chk244 (v746 : IVec S16 32) : Prop :=
  (∀ a x, ((![v746] : Fin 1 → IVec S16 32) a x).toNat < S32768.size a)
theorem k0_idx318_inb : ∀ (v746 : IVec S16 32) (k0_hw244 : k0_chk244 v746), ∀ a x, ((![v746] : Fin 1 → IVec S16 32) a x).toNat < S32768.size a := fun v746 k0_hw244 => k0_hw244

def k0_chk245 (v380 : IVec S16 32) : Prop :=
  (∀ a x, ((![v380] : Fin 1 → IVec S16 32) a x).toNat < S2048.size a) ∧
  (∀ a x, ((![v380] : Fin 1 → IVec S16 32) a x).toNat < S2048.size a)
theorem k0_idx319_inb : ∀ (v380 : IVec S16 32) (k0_hw245 : k0_chk245 v380), ∀ a x, ((![v380] : Fin 1 → IVec S16 32) a x).toNat < S2048.size a := fun v380 k0_hw245 => k0_hw245.1
theorem k0_idx320_inb : ∀ (v380 : IVec S16 32) (k0_hw245 : k0_chk245 v380), ∀ a x, ((![v380] : Fin 1 → IVec S16 32) a x).toNat < S2048.size a := fun v380 k0_hw245 => k0_hw245.2

def k0_chk246 (v752 : IVec S16 32) : Prop :=
  (∀ a x, ((![v752] : Fin 1 → IVec S16 32) a x).toNat < S32768.size a)
theorem k0_idx321_inb : ∀ (v752 : IVec S16 32) (k0_hw246 : k0_chk246 v752), ∀ a x, ((![v752] : Fin 1 → IVec S16 32) a x).toNat < S32768.size a := fun v752 k0_hw246 => k0_hw246

def k0_chk247 (v384 : IVec S16 32) : Prop :=
  (∀ a x, ((![v384] : Fin 1 → IVec S16 32) a x).toNat < S2048.size a) ∧
  (∀ a x, ((![v384] : Fin 1 → IVec S16 32) a x).toNat < S2048.size a)
theorem k0_idx322_inb : ∀ (v384 : IVec S16 32) (k0_hw247 : k0_chk247 v384), ∀ a x, ((![v384] : Fin 1 → IVec S16 32) a x).toNat < S2048.size a := fun v384 k0_hw247 => k0_hw247.1
theorem k0_idx323_inb : ∀ (v384 : IVec S16 32) (k0_hw247 : k0_chk247 v384), ∀ a x, ((![v384] : Fin 1 → IVec S16 32) a x).toNat < S2048.size a := fun v384 k0_hw247 => k0_hw247.2

def k0_chk248 (v758 : IVec S16 32) : Prop :=
  (∀ a x, ((![v758] : Fin 1 → IVec S16 32) a x).toNat < S32768.size a)
theorem k0_idx324_inb : ∀ (v758 : IVec S16 32) (k0_hw248 : k0_chk248 v758), ∀ a x, ((![v758] : Fin 1 → IVec S16 32) a x).toNat < S32768.size a := fun v758 k0_hw248 => k0_hw248

def k0_chk249 (v388 : IVec S16 32) : Prop :=
  (∀ a x, ((![v388] : Fin 1 → IVec S16 32) a x).toNat < S2048.size a) ∧
  (∀ a x, ((![v388] : Fin 1 → IVec S16 32) a x).toNat < S2048.size a)
theorem k0_idx325_inb : ∀ (v388 : IVec S16 32) (k0_hw249 : k0_chk249 v388), ∀ a x, ((![v388] : Fin 1 → IVec S16 32) a x).toNat < S2048.size a := fun v388 k0_hw249 => k0_hw249.1
theorem k0_idx326_inb : ∀ (v388 : IVec S16 32) (k0_hw249 : k0_chk249 v388), ∀ a x, ((![v388] : Fin 1 → IVec S16 32) a x).toNat < S2048.size a := fun v388 k0_hw249 => k0_hw249.2

def k0_chk250 (v764 : IVec S16 32) : Prop :=
  (∀ a x, ((![v764] : Fin 1 → IVec S16 32) a x).toNat < S32768.size a)
theorem k0_idx327_inb : ∀ (v764 : IVec S16 32) (k0_hw250 : k0_chk250 v764), ∀ a x, ((![v764] : Fin 1 → IVec S16 32) a x).toNat < S32768.size a := fun v764 k0_hw250 => k0_hw250

def k0_chk251 (v392 : IVec S16 32) : Prop :=
  (∀ a x, ((![v392] : Fin 1 → IVec S16 32) a x).toNat < S2048.size a) ∧
  (∀ a x, ((![v392] : Fin 1 → IVec S16 32) a x).toNat < S2048.size a)
theorem k0_idx328_inb : ∀ (v392 : IVec S16 32) (k0_hw251 : k0_chk251 v392), ∀ a x, ((![v392] : Fin 1 → IVec S16 32) a x).toNat < S2048.size a := fun v392 k0_hw251 => k0_hw251.1
theorem k0_idx329_inb : ∀ (v392 : IVec S16 32) (k0_hw251 : k0_chk251 v392), ∀ a x, ((![v392] : Fin 1 → IVec S16 32) a x).toNat < S2048.size a := fun v392 k0_hw251 => k0_hw251.2

def k0_chk252 (v770 : IVec S16 32) : Prop :=
  (∀ a x, ((![v770] : Fin 1 → IVec S16 32) a x).toNat < S32768.size a)
theorem k0_idx330_inb : ∀ (v770 : IVec S16 32) (k0_hw252 : k0_chk252 v770), ∀ a x, ((![v770] : Fin 1 → IVec S16 32) a x).toNat < S32768.size a := fun v770 k0_hw252 => k0_hw252

def k0_chk253 (v396 : IVec S16 32) : Prop :=
  (∀ a x, ((![v396] : Fin 1 → IVec S16 32) a x).toNat < S2048.size a) ∧
  (∀ a x, ((![v396] : Fin 1 → IVec S16 32) a x).toNat < S2048.size a)
theorem k0_idx331_inb : ∀ (v396 : IVec S16 32) (k0_hw253 : k0_chk253 v396), ∀ a x, ((![v396] : Fin 1 → IVec S16 32) a x).toNat < S2048.size a := fun v396 k0_hw253 => k0_hw253.1
theorem k0_idx332_inb : ∀ (v396 : IVec S16 32) (k0_hw253 : k0_chk253 v396), ∀ a x, ((![v396] : Fin 1 → IVec S16 32) a x).toNat < S2048.size a := fun v396 k0_hw253 => k0_hw253.2

def k0_chk254 (v776 : IVec S16 32) : Prop :=
  (∀ a x, ((![v776] : Fin 1 → IVec S16 32) a x).toNat < S32768.size a)
theorem k0_idx333_inb : ∀ (v776 : IVec S16 32) (k0_hw254 : k0_chk254 v776), ∀ a x, ((![v776] : Fin 1 → IVec S16 32) a x).toNat < S32768.size a := fun v776 k0_hw254 => k0_hw254

def k0_chk255 (v400 : IVec S16 32) : Prop :=
  (∀ a x, ((![v400] : Fin 1 → IVec S16 32) a x).toNat < S2048.size a) ∧
  (∀ a x, ((![v400] : Fin 1 → IVec S16 32) a x).toNat < S2048.size a)
theorem k0_idx334_inb : ∀ (v400 : IVec S16 32) (k0_hw255 : k0_chk255 v400), ∀ a x, ((![v400] : Fin 1 → IVec S16 32) a x).toNat < S2048.size a := fun v400 k0_hw255 => k0_hw255.1
theorem k0_idx335_inb : ∀ (v400 : IVec S16 32) (k0_hw255 : k0_chk255 v400), ∀ a x, ((![v400] : Fin 1 → IVec S16 32) a x).toNat < S2048.size a := fun v400 k0_hw255 => k0_hw255.2

def k0_chk256 (v782 : IVec S16 32) : Prop :=
  (∀ a x, ((![v782] : Fin 1 → IVec S16 32) a x).toNat < S32768.size a)
theorem k0_idx336_inb : ∀ (v782 : IVec S16 32) (k0_hw256 : k0_chk256 v782), ∀ a x, ((![v782] : Fin 1 → IVec S16 32) a x).toNat < S32768.size a := fun v782 k0_hw256 => k0_hw256

def k0_chk257 (v404 : IVec S16 32) : Prop :=
  (∀ a x, ((![v404] : Fin 1 → IVec S16 32) a x).toNat < S2048.size a) ∧
  (∀ a x, ((![v404] : Fin 1 → IVec S16 32) a x).toNat < S2048.size a)
theorem k0_idx337_inb : ∀ (v404 : IVec S16 32) (k0_hw257 : k0_chk257 v404), ∀ a x, ((![v404] : Fin 1 → IVec S16 32) a x).toNat < S2048.size a := fun v404 k0_hw257 => k0_hw257.1
theorem k0_idx338_inb : ∀ (v404 : IVec S16 32) (k0_hw257 : k0_chk257 v404), ∀ a x, ((![v404] : Fin 1 → IVec S16 32) a x).toNat < S2048.size a := fun v404 k0_hw257 => k0_hw257.2

def k0_chk258 (v788 : IVec S16 32) : Prop :=
  (∀ a x, ((![v788] : Fin 1 → IVec S16 32) a x).toNat < S32768.size a)
theorem k0_idx339_inb : ∀ (v788 : IVec S16 32) (k0_hw258 : k0_chk258 v788), ∀ a x, ((![v788] : Fin 1 → IVec S16 32) a x).toNat < S32768.size a := fun v788 k0_hw258 => k0_hw258

def k0_chk259 (v408 : IVec S16 32) : Prop :=
  (∀ a x, ((![v408] : Fin 1 → IVec S16 32) a x).toNat < S2048.size a) ∧
  (∀ a x, ((![v408] : Fin 1 → IVec S16 32) a x).toNat < S2048.size a)
theorem k0_idx340_inb : ∀ (v408 : IVec S16 32) (k0_hw259 : k0_chk259 v408), ∀ a x, ((![v408] : Fin 1 → IVec S16 32) a x).toNat < S2048.size a := fun v408 k0_hw259 => k0_hw259.1
theorem k0_idx341_inb : ∀ (v408 : IVec S16 32) (k0_hw259 : k0_chk259 v408), ∀ a x, ((![v408] : Fin 1 → IVec S16 32) a x).toNat < S2048.size a := fun v408 k0_hw259 => k0_hw259.2

def k0_chk260 (v794 : IVec S16 32) : Prop :=
  (∀ a x, ((![v794] : Fin 1 → IVec S16 32) a x).toNat < S32768.size a)
theorem k0_idx342_inb : ∀ (v794 : IVec S16 32) (k0_hw260 : k0_chk260 v794), ∀ a x, ((![v794] : Fin 1 → IVec S16 32) a x).toNat < S32768.size a := fun v794 k0_hw260 => k0_hw260

def k0_chk261 (v412 : IVec S16 32) : Prop :=
  (∀ a x, ((![v412] : Fin 1 → IVec S16 32) a x).toNat < S2048.size a) ∧
  (∀ a x, ((![v412] : Fin 1 → IVec S16 32) a x).toNat < S2048.size a)
theorem k0_idx343_inb : ∀ (v412 : IVec S16 32) (k0_hw261 : k0_chk261 v412), ∀ a x, ((![v412] : Fin 1 → IVec S16 32) a x).toNat < S2048.size a := fun v412 k0_hw261 => k0_hw261.1
theorem k0_idx344_inb : ∀ (v412 : IVec S16 32) (k0_hw261 : k0_chk261 v412), ∀ a x, ((![v412] : Fin 1 → IVec S16 32) a x).toNat < S2048.size a := fun v412 k0_hw261 => k0_hw261.2

def k0_chk262 (v800 : IVec S16 32) : Prop :=
  (∀ a x, ((![v800] : Fin 1 → IVec S16 32) a x).toNat < S32768.size a)
theorem k0_idx345_inb : ∀ (v800 : IVec S16 32) (k0_hw262 : k0_chk262 v800), ∀ a x, ((![v800] : Fin 1 → IVec S16 32) a x).toNat < S32768.size a := fun v800 k0_hw262 => k0_hw262

def k0_chk263 (v416 : IVec S16 32) : Prop :=
  (∀ a x, ((![v416] : Fin 1 → IVec S16 32) a x).toNat < S2048.size a) ∧
  (∀ a x, ((![v416] : Fin 1 → IVec S16 32) a x).toNat < S2048.size a)
theorem k0_idx346_inb : ∀ (v416 : IVec S16 32) (k0_hw263 : k0_chk263 v416), ∀ a x, ((![v416] : Fin 1 → IVec S16 32) a x).toNat < S2048.size a := fun v416 k0_hw263 => k0_hw263.1
theorem k0_idx347_inb : ∀ (v416 : IVec S16 32) (k0_hw263 : k0_chk263 v416), ∀ a x, ((![v416] : Fin 1 → IVec S16 32) a x).toNat < S2048.size a := fun v416 k0_hw263 => k0_hw263.2

def k0_chk264 (v806 : IVec S16 32) : Prop :=
  (∀ a x, ((![v806] : Fin 1 → IVec S16 32) a x).toNat < S32768.size a)
theorem k0_idx348_inb : ∀ (v806 : IVec S16 32) (k0_hw264 : k0_chk264 v806), ∀ a x, ((![v806] : Fin 1 → IVec S16 32) a x).toNat < S32768.size a := fun v806 k0_hw264 => k0_hw264

def k0_chk265 (v420 : IVec S16 32) : Prop :=
  (∀ a x, ((![v420] : Fin 1 → IVec S16 32) a x).toNat < S2048.size a) ∧
  (∀ a x, ((![v420] : Fin 1 → IVec S16 32) a x).toNat < S2048.size a)
theorem k0_idx349_inb : ∀ (v420 : IVec S16 32) (k0_hw265 : k0_chk265 v420), ∀ a x, ((![v420] : Fin 1 → IVec S16 32) a x).toNat < S2048.size a := fun v420 k0_hw265 => k0_hw265.1
theorem k0_idx350_inb : ∀ (v420 : IVec S16 32) (k0_hw265 : k0_chk265 v420), ∀ a x, ((![v420] : Fin 1 → IVec S16 32) a x).toNat < S2048.size a := fun v420 k0_hw265 => k0_hw265.2

def k0_chk266 (v812 : IVec S16 32) : Prop :=
  (∀ a x, ((![v812] : Fin 1 → IVec S16 32) a x).toNat < S32768.size a)
theorem k0_idx351_inb : ∀ (v812 : IVec S16 32) (k0_hw266 : k0_chk266 v812), ∀ a x, ((![v812] : Fin 1 → IVec S16 32) a x).toNat < S32768.size a := fun v812 k0_hw266 => k0_hw266

def k0_chk267 (v424 : IVec S16 32) : Prop :=
  (∀ a x, ((![v424] : Fin 1 → IVec S16 32) a x).toNat < S2048.size a) ∧
  (∀ a x, ((![v424] : Fin 1 → IVec S16 32) a x).toNat < S2048.size a)
theorem k0_idx352_inb : ∀ (v424 : IVec S16 32) (k0_hw267 : k0_chk267 v424), ∀ a x, ((![v424] : Fin 1 → IVec S16 32) a x).toNat < S2048.size a := fun v424 k0_hw267 => k0_hw267.1
theorem k0_idx353_inb : ∀ (v424 : IVec S16 32) (k0_hw267 : k0_chk267 v424), ∀ a x, ((![v424] : Fin 1 → IVec S16 32) a x).toNat < S2048.size a := fun v424 k0_hw267 => k0_hw267.2

def k0_chk268 (v818 : IVec S16 32) : Prop :=
  (∀ a x, ((![v818] : Fin 1 → IVec S16 32) a x).toNat < S32768.size a)
theorem k0_idx354_inb : ∀ (v818 : IVec S16 32) (k0_hw268 : k0_chk268 v818), ∀ a x, ((![v818] : Fin 1 → IVec S16 32) a x).toNat < S32768.size a := fun v818 k0_hw268 => k0_hw268

def k0_chk269 (v428 : IVec S16 32) : Prop :=
  (∀ a x, ((![v428] : Fin 1 → IVec S16 32) a x).toNat < S2048.size a) ∧
  (∀ a x, ((![v428] : Fin 1 → IVec S16 32) a x).toNat < S2048.size a)
theorem k0_idx355_inb : ∀ (v428 : IVec S16 32) (k0_hw269 : k0_chk269 v428), ∀ a x, ((![v428] : Fin 1 → IVec S16 32) a x).toNat < S2048.size a := fun v428 k0_hw269 => k0_hw269.1
theorem k0_idx356_inb : ∀ (v428 : IVec S16 32) (k0_hw269 : k0_chk269 v428), ∀ a x, ((![v428] : Fin 1 → IVec S16 32) a x).toNat < S2048.size a := fun v428 k0_hw269 => k0_hw269.2

def k0_chk270 (v824 : IVec S16 32) : Prop :=
  (∀ a x, ((![v824] : Fin 1 → IVec S16 32) a x).toNat < S32768.size a)
theorem k0_idx357_inb : ∀ (v824 : IVec S16 32) (k0_hw270 : k0_chk270 v824), ∀ a x, ((![v824] : Fin 1 → IVec S16 32) a x).toNat < S32768.size a := fun v824 k0_hw270 => k0_hw270

def k0_chk271 (v432 : IVec S16 32) : Prop :=
  (∀ a x, ((![v432] : Fin 1 → IVec S16 32) a x).toNat < S2048.size a) ∧
  (∀ a x, ((![v432] : Fin 1 → IVec S16 32) a x).toNat < S2048.size a)
theorem k0_idx358_inb : ∀ (v432 : IVec S16 32) (k0_hw271 : k0_chk271 v432), ∀ a x, ((![v432] : Fin 1 → IVec S16 32) a x).toNat < S2048.size a := fun v432 k0_hw271 => k0_hw271.1
theorem k0_idx359_inb : ∀ (v432 : IVec S16 32) (k0_hw271 : k0_chk271 v432), ∀ a x, ((![v432] : Fin 1 → IVec S16 32) a x).toNat < S2048.size a := fun v432 k0_hw271 => k0_hw271.2

def k0_chk272 (v830 : IVec S16 32) : Prop :=
  (∀ a x, ((![v830] : Fin 1 → IVec S16 32) a x).toNat < S32768.size a)
theorem k0_idx360_inb : ∀ (v830 : IVec S16 32) (k0_hw272 : k0_chk272 v830), ∀ a x, ((![v830] : Fin 1 → IVec S16 32) a x).toNat < S32768.size a := fun v830 k0_hw272 => k0_hw272

def k0_chk273 (v436 : IVec S16 32) : Prop :=
  (∀ a x, ((![v436] : Fin 1 → IVec S16 32) a x).toNat < S2048.size a) ∧
  (∀ a x, ((![v436] : Fin 1 → IVec S16 32) a x).toNat < S2048.size a)
theorem k0_idx361_inb : ∀ (v436 : IVec S16 32) (k0_hw273 : k0_chk273 v436), ∀ a x, ((![v436] : Fin 1 → IVec S16 32) a x).toNat < S2048.size a := fun v436 k0_hw273 => k0_hw273.1
theorem k0_idx362_inb : ∀ (v436 : IVec S16 32) (k0_hw273 : k0_chk273 v436), ∀ a x, ((![v436] : Fin 1 → IVec S16 32) a x).toNat < S2048.size a := fun v436 k0_hw273 => k0_hw273.2

def k0_chk274 (v836 : IVec S16 32) : Prop :=
  (∀ a x, ((![v836] : Fin 1 → IVec S16 32) a x).toNat < S32768.size a)
theorem k0_idx363_inb : ∀ (v836 : IVec S16 32) (k0_hw274 : k0_chk274 v836), ∀ a x, ((![v836] : Fin 1 → IVec S16 32) a x).toNat < S32768.size a := fun v836 k0_hw274 => k0_hw274

def k0_chk275 (v440 : IVec S16 32) : Prop :=
  (∀ a x, ((![v440] : Fin 1 → IVec S16 32) a x).toNat < S2048.size a) ∧
  (∀ a x, ((![v440] : Fin 1 → IVec S16 32) a x).toNat < S2048.size a)
theorem k0_idx364_inb : ∀ (v440 : IVec S16 32) (k0_hw275 : k0_chk275 v440), ∀ a x, ((![v440] : Fin 1 → IVec S16 32) a x).toNat < S2048.size a := fun v440 k0_hw275 => k0_hw275.1
theorem k0_idx365_inb : ∀ (v440 : IVec S16 32) (k0_hw275 : k0_chk275 v440), ∀ a x, ((![v440] : Fin 1 → IVec S16 32) a x).toNat < S2048.size a := fun v440 k0_hw275 => k0_hw275.2

def k0_chk276 (v842 : IVec S16 32) : Prop :=
  (∀ a x, ((![v842] : Fin 1 → IVec S16 32) a x).toNat < S32768.size a)
theorem k0_idx366_inb : ∀ (v842 : IVec S16 32) (k0_hw276 : k0_chk276 v842), ∀ a x, ((![v842] : Fin 1 → IVec S16 32) a x).toNat < S32768.size a := fun v842 k0_hw276 => k0_hw276

def k0_chk277 (v444 : IVec S16 32) : Prop :=
  (∀ a x, ((![v444] : Fin 1 → IVec S16 32) a x).toNat < S2048.size a) ∧
  (∀ a x, ((![v444] : Fin 1 → IVec S16 32) a x).toNat < S2048.size a)
theorem k0_idx367_inb : ∀ (v444 : IVec S16 32) (k0_hw277 : k0_chk277 v444), ∀ a x, ((![v444] : Fin 1 → IVec S16 32) a x).toNat < S2048.size a := fun v444 k0_hw277 => k0_hw277.1
theorem k0_idx368_inb : ∀ (v444 : IVec S16 32) (k0_hw277 : k0_chk277 v444), ∀ a x, ((![v444] : Fin 1 → IVec S16 32) a x).toNat < S2048.size a := fun v444 k0_hw277 => k0_hw277.2

def k0_chk278 (v848 : IVec S16 32) : Prop :=
  (∀ a x, ((![v848] : Fin 1 → IVec S16 32) a x).toNat < S32768.size a)
theorem k0_idx369_inb : ∀ (v848 : IVec S16 32) (k0_hw278 : k0_chk278 v848), ∀ a x, ((![v848] : Fin 1 → IVec S16 32) a x).toNat < S32768.size a := fun v848 k0_hw278 => k0_hw278

def k0_chk279 (v448 : IVec S16 32) : Prop :=
  (∀ a x, ((![v448] : Fin 1 → IVec S16 32) a x).toNat < S2048.size a) ∧
  (∀ a x, ((![v448] : Fin 1 → IVec S16 32) a x).toNat < S2048.size a)
theorem k0_idx370_inb : ∀ (v448 : IVec S16 32) (k0_hw279 : k0_chk279 v448), ∀ a x, ((![v448] : Fin 1 → IVec S16 32) a x).toNat < S2048.size a := fun v448 k0_hw279 => k0_hw279.1
theorem k0_idx371_inb : ∀ (v448 : IVec S16 32) (k0_hw279 : k0_chk279 v448), ∀ a x, ((![v448] : Fin 1 → IVec S16 32) a x).toNat < S2048.size a := fun v448 k0_hw279 => k0_hw279.2

def k0_chk280 (v854 : IVec S16 32) : Prop :=
  (∀ a x, ((![v854] : Fin 1 → IVec S16 32) a x).toNat < S32768.size a)
theorem k0_idx372_inb : ∀ (v854 : IVec S16 32) (k0_hw280 : k0_chk280 v854), ∀ a x, ((![v854] : Fin 1 → IVec S16 32) a x).toNat < S32768.size a := fun v854 k0_hw280 => k0_hw280

def k0_chk281 (v452 : IVec S16 32) : Prop :=
  (∀ a x, ((![v452] : Fin 1 → IVec S16 32) a x).toNat < S2048.size a) ∧
  (∀ a x, ((![v452] : Fin 1 → IVec S16 32) a x).toNat < S2048.size a)
theorem k0_idx373_inb : ∀ (v452 : IVec S16 32) (k0_hw281 : k0_chk281 v452), ∀ a x, ((![v452] : Fin 1 → IVec S16 32) a x).toNat < S2048.size a := fun v452 k0_hw281 => k0_hw281.1
theorem k0_idx374_inb : ∀ (v452 : IVec S16 32) (k0_hw281 : k0_chk281 v452), ∀ a x, ((![v452] : Fin 1 → IVec S16 32) a x).toNat < S2048.size a := fun v452 k0_hw281 => k0_hw281.2

def k0_chk282 (v860 : IVec S16 32) : Prop :=
  (∀ a x, ((![v860] : Fin 1 → IVec S16 32) a x).toNat < S32768.size a)
theorem k0_idx375_inb : ∀ (v860 : IVec S16 32) (k0_hw282 : k0_chk282 v860), ∀ a x, ((![v860] : Fin 1 → IVec S16 32) a x).toNat < S32768.size a := fun v860 k0_hw282 => k0_hw282

def k0_chk283 (v456 : IVec S16 32) : Prop :=
  (∀ a x, ((![v456] : Fin 1 → IVec S16 32) a x).toNat < S2048.size a) ∧
  (∀ a x, ((![v456] : Fin 1 → IVec S16 32) a x).toNat < S2048.size a)
theorem k0_idx376_inb : ∀ (v456 : IVec S16 32) (k0_hw283 : k0_chk283 v456), ∀ a x, ((![v456] : Fin 1 → IVec S16 32) a x).toNat < S2048.size a := fun v456 k0_hw283 => k0_hw283.1
theorem k0_idx377_inb : ∀ (v456 : IVec S16 32) (k0_hw283 : k0_chk283 v456), ∀ a x, ((![v456] : Fin 1 → IVec S16 32) a x).toNat < S2048.size a := fun v456 k0_hw283 => k0_hw283.2

def k0_chk284 (v866 : IVec S16 32) : Prop :=
  (∀ a x, ((![v866] : Fin 1 → IVec S16 32) a x).toNat < S32768.size a)
theorem k0_idx378_inb : ∀ (v866 : IVec S16 32) (k0_hw284 : k0_chk284 v866), ∀ a x, ((![v866] : Fin 1 → IVec S16 32) a x).toNat < S32768.size a := fun v866 k0_hw284 => k0_hw284

def k0_chk285 (v460 : IVec S16 32) : Prop :=
  (∀ a x, ((![v460] : Fin 1 → IVec S16 32) a x).toNat < S2048.size a) ∧
  (∀ a x, ((![v460] : Fin 1 → IVec S16 32) a x).toNat < S2048.size a)
theorem k0_idx379_inb : ∀ (v460 : IVec S16 32) (k0_hw285 : k0_chk285 v460), ∀ a x, ((![v460] : Fin 1 → IVec S16 32) a x).toNat < S2048.size a := fun v460 k0_hw285 => k0_hw285.1
theorem k0_idx380_inb : ∀ (v460 : IVec S16 32) (k0_hw285 : k0_chk285 v460), ∀ a x, ((![v460] : Fin 1 → IVec S16 32) a x).toNat < S2048.size a := fun v460 k0_hw285 => k0_hw285.2

def k0_chk286 (v872 : IVec S16 32) : Prop :=
  (∀ a x, ((![v872] : Fin 1 → IVec S16 32) a x).toNat < S32768.size a)
theorem k0_idx381_inb : ∀ (v872 : IVec S16 32) (k0_hw286 : k0_chk286 v872), ∀ a x, ((![v872] : Fin 1 → IVec S16 32) a x).toNat < S32768.size a := fun v872 k0_hw286 => k0_hw286

def k0_chk287 (v464 : IVec S16 32) : Prop :=
  (∀ a x, ((![v464] : Fin 1 → IVec S16 32) a x).toNat < S2048.size a) ∧
  (∀ a x, ((![v464] : Fin 1 → IVec S16 32) a x).toNat < S2048.size a)
theorem k0_idx382_inb : ∀ (v464 : IVec S16 32) (k0_hw287 : k0_chk287 v464), ∀ a x, ((![v464] : Fin 1 → IVec S16 32) a x).toNat < S2048.size a := fun v464 k0_hw287 => k0_hw287.1
theorem k0_idx383_inb : ∀ (v464 : IVec S16 32) (k0_hw287 : k0_chk287 v464), ∀ a x, ((![v464] : Fin 1 → IVec S16 32) a x).toNat < S2048.size a := fun v464 k0_hw287 => k0_hw287.2

def k0_chk288 (v878 : IVec S16 32) : Prop :=
  (∀ a x, ((![v878] : Fin 1 → IVec S16 32) a x).toNat < S32768.size a)
theorem k0_idx384_inb : ∀ (v878 : IVec S16 32) (k0_hw288 : k0_chk288 v878), ∀ a x, ((![v878] : Fin 1 → IVec S16 32) a x).toNat < S32768.size a := fun v878 k0_hw288 => k0_hw288
@[reducible] def k0_t17_loop : Scf.Loop 32 :=
  let c0_i32_97 : BitVec 32 := 0#32
  let c64_i32_98 : BitVec 32 := 64#32
  let v57 : BitVec 32 := Scalar.addi c0_i32_97 c64_i32_98
  let c1_i32_99 : BitVec 32 := 1#32
  ⟨c0_i32_97, v57, c1_i32_99⟩
def k0_off31 (k0_t17 : Fin k0_t17_loop.trips) (c0_i32_312 : BitVec 32) (c0_i32_313 : BitVec 32) : Fin 1 → Nat :=
  let c0_i32_97 : BitVec 32 := 0#32
  let c1_i32_99 : BitVec 32 := 1#32
  let arg15 : BitVec 32 := Scf.iv c0_i32_97 c1_i32_99 k0_t17
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_314 : BitVec 32 := 16#32
  let v148 : BitVec 32 := Scalar.muli v147 c16_i32_314
  let v273 : Index := Scalar.indexCast v148
  ![v273.toNat]

def k0_chk289 (v658 : IVec S16 32) : Prop :=
  (∀ a x, ((![v658] : Fin 1 → IVec S16 32) a x).toNat < S4096.size a)
theorem k0_idx385_inb : ∀ (v658 : IVec S16 32) (k0_hw289 : k0_chk289 v658), ∀ a x, ((![v658] : Fin 1 → IVec S16 32) a x).toNat < S4096.size a := fun v658 k0_hw289 => k0_hw289

def k0_chk290 (v660 : IVec S16 32) : Prop :=
  (∀ a x, ((![v660] : Fin 1 → IVec S16 32) a x).toNat < S4096.size a)
theorem k0_idx386_inb : ∀ (v660 : IVec S16 32) (k0_hw290 : k0_chk290 v660), ∀ a x, ((![v660] : Fin 1 → IVec S16 32) a x).toNat < S4096.size a := fun v660 k0_hw290 => k0_hw290

def k0_chk291 (v662 : IVec S16 32) : Prop :=
  (∀ a x, ((![v662] : Fin 1 → IVec S16 32) a x).toNat < S4096.size a)
theorem k0_idx387_inb : ∀ (v662 : IVec S16 32) (k0_hw291 : k0_chk291 v662), ∀ a x, ((![v662] : Fin 1 → IVec S16 32) a x).toNat < S4096.size a := fun v662 k0_hw291 => k0_hw291

def k0_chk292 (v664 : IVec S16 32) : Prop :=
  (∀ a x, ((![v664] : Fin 1 → IVec S16 32) a x).toNat < S4096.size a)
theorem k0_idx388_inb : ∀ (v664 : IVec S16 32) (k0_hw292 : k0_chk292 v664), ∀ a x, ((![v664] : Fin 1 → IVec S16 32) a x).toNat < S4096.size a := fun v664 k0_hw292 => k0_hw292

def k0_chk293 (v666 : IVec S16 32) : Prop :=
  (∀ a x, ((![v666] : Fin 1 → IVec S16 32) a x).toNat < S4096.size a)
theorem k0_idx389_inb : ∀ (v666 : IVec S16 32) (k0_hw293 : k0_chk293 v666), ∀ a x, ((![v666] : Fin 1 → IVec S16 32) a x).toNat < S4096.size a := fun v666 k0_hw293 => k0_hw293

def k0_chk294 (v668 : IVec S16 32) : Prop :=
  (∀ a x, ((![v668] : Fin 1 → IVec S16 32) a x).toNat < S4096.size a)
theorem k0_idx390_inb : ∀ (v668 : IVec S16 32) (k0_hw294 : k0_chk294 v668), ∀ a x, ((![v668] : Fin 1 → IVec S16 32) a x).toNat < S4096.size a := fun v668 k0_hw294 => k0_hw294

def k0_chk295 (v670 : IVec S16 32) : Prop :=
  (∀ a x, ((![v670] : Fin 1 → IVec S16 32) a x).toNat < S4096.size a)
theorem k0_idx391_inb : ∀ (v670 : IVec S16 32) (k0_hw295 : k0_chk295 v670), ∀ a x, ((![v670] : Fin 1 → IVec S16 32) a x).toNat < S4096.size a := fun v670 k0_hw295 => k0_hw295

def k0_chk296 (v672 : IVec S16 32) : Prop :=
  (∀ a x, ((![v672] : Fin 1 → IVec S16 32) a x).toNat < S4096.size a)
theorem k0_idx392_inb : ∀ (v672 : IVec S16 32) (k0_hw296 : k0_chk296 v672), ∀ a x, ((![v672] : Fin 1 → IVec S16 32) a x).toNat < S4096.size a := fun v672 k0_hw296 => k0_hw296

def k0_chk297 (v674 : IVec S16 32) : Prop :=
  (∀ a x, ((![v674] : Fin 1 → IVec S16 32) a x).toNat < S4096.size a)
theorem k0_idx393_inb : ∀ (v674 : IVec S16 32) (k0_hw297 : k0_chk297 v674), ∀ a x, ((![v674] : Fin 1 → IVec S16 32) a x).toNat < S4096.size a := fun v674 k0_hw297 => k0_hw297

def k0_chk298 (v676 : IVec S16 32) : Prop :=
  (∀ a x, ((![v676] : Fin 1 → IVec S16 32) a x).toNat < S4096.size a)
theorem k0_idx394_inb : ∀ (v676 : IVec S16 32) (k0_hw298 : k0_chk298 v676), ∀ a x, ((![v676] : Fin 1 → IVec S16 32) a x).toNat < S4096.size a := fun v676 k0_hw298 => k0_hw298

def k0_chk299 (v678 : IVec S16 32) : Prop :=
  (∀ a x, ((![v678] : Fin 1 → IVec S16 32) a x).toNat < S4096.size a)
theorem k0_idx395_inb : ∀ (v678 : IVec S16 32) (k0_hw299 : k0_chk299 v678), ∀ a x, ((![v678] : Fin 1 → IVec S16 32) a x).toNat < S4096.size a := fun v678 k0_hw299 => k0_hw299

def k0_chk300 (v680 : IVec S16 32) : Prop :=
  (∀ a x, ((![v680] : Fin 1 → IVec S16 32) a x).toNat < S4096.size a)
theorem k0_idx396_inb : ∀ (v680 : IVec S16 32) (k0_hw300 : k0_chk300 v680), ∀ a x, ((![v680] : Fin 1 → IVec S16 32) a x).toNat < S4096.size a := fun v680 k0_hw300 => k0_hw300

def k0_chk301 (v682 : IVec S16 32) : Prop :=
  (∀ a x, ((![v682] : Fin 1 → IVec S16 32) a x).toNat < S4096.size a)
theorem k0_idx397_inb : ∀ (v682 : IVec S16 32) (k0_hw301 : k0_chk301 v682), ∀ a x, ((![v682] : Fin 1 → IVec S16 32) a x).toNat < S4096.size a := fun v682 k0_hw301 => k0_hw301

def k0_chk302 (v684 : IVec S16 32) : Prop :=
  (∀ a x, ((![v684] : Fin 1 → IVec S16 32) a x).toNat < S4096.size a)
theorem k0_idx398_inb : ∀ (v684 : IVec S16 32) (k0_hw302 : k0_chk302 v684), ∀ a x, ((![v684] : Fin 1 → IVec S16 32) a x).toNat < S4096.size a := fun v684 k0_hw302 => k0_hw302

def k0_chk303 (v686 : IVec S16 32) : Prop :=
  (∀ a x, ((![v686] : Fin 1 → IVec S16 32) a x).toNat < S4096.size a)
theorem k0_idx399_inb : ∀ (v686 : IVec S16 32) (k0_hw303 : k0_chk303 v686), ∀ a x, ((![v686] : Fin 1 → IVec S16 32) a x).toNat < S4096.size a := fun v686 k0_hw303 => k0_hw303

def k0_chk304 (v688 : IVec S16 32) : Prop :=
  (∀ a x, ((![v688] : Fin 1 → IVec S16 32) a x).toNat < S4096.size a)
theorem k0_idx400_inb : ∀ (v688 : IVec S16 32) (k0_hw304 : k0_chk304 v688), ∀ a x, ((![v688] : Fin 1 → IVec S16 32) a x).toNat < S4096.size a := fun v688 k0_hw304 => k0_hw304

def k0_chk305 (v690 : IVec S16 32) : Prop :=
  (∀ a x, ((![v690] : Fin 1 → IVec S16 32) a x).toNat < S4096.size a)
theorem k0_idx401_inb : ∀ (v690 : IVec S16 32) (k0_hw305 : k0_chk305 v690), ∀ a x, ((![v690] : Fin 1 → IVec S16 32) a x).toNat < S4096.size a := fun v690 k0_hw305 => k0_hw305

def k0_chk306 (v692 : IVec S16 32) : Prop :=
  (∀ a x, ((![v692] : Fin 1 → IVec S16 32) a x).toNat < S4096.size a)
theorem k0_idx402_inb : ∀ (v692 : IVec S16 32) (k0_hw306 : k0_chk306 v692), ∀ a x, ((![v692] : Fin 1 → IVec S16 32) a x).toNat < S4096.size a := fun v692 k0_hw306 => k0_hw306

def k0_chk307 (v694 : IVec S16 32) : Prop :=
  (∀ a x, ((![v694] : Fin 1 → IVec S16 32) a x).toNat < S4096.size a)
theorem k0_idx403_inb : ∀ (v694 : IVec S16 32) (k0_hw307 : k0_chk307 v694), ∀ a x, ((![v694] : Fin 1 → IVec S16 32) a x).toNat < S4096.size a := fun v694 k0_hw307 => k0_hw307

def k0_chk308 (v696 : IVec S16 32) : Prop :=
  (∀ a x, ((![v696] : Fin 1 → IVec S16 32) a x).toNat < S4096.size a)
theorem k0_idx404_inb : ∀ (v696 : IVec S16 32) (k0_hw308 : k0_chk308 v696), ∀ a x, ((![v696] : Fin 1 → IVec S16 32) a x).toNat < S4096.size a := fun v696 k0_hw308 => k0_hw308

def k0_chk309 (v698 : IVec S16 32) : Prop :=
  (∀ a x, ((![v698] : Fin 1 → IVec S16 32) a x).toNat < S4096.size a)
theorem k0_idx405_inb : ∀ (v698 : IVec S16 32) (k0_hw309 : k0_chk309 v698), ∀ a x, ((![v698] : Fin 1 → IVec S16 32) a x).toNat < S4096.size a := fun v698 k0_hw309 => k0_hw309

def k0_chk310 (v700 : IVec S16 32) : Prop :=
  (∀ a x, ((![v700] : Fin 1 → IVec S16 32) a x).toNat < S4096.size a)
theorem k0_idx406_inb : ∀ (v700 : IVec S16 32) (k0_hw310 : k0_chk310 v700), ∀ a x, ((![v700] : Fin 1 → IVec S16 32) a x).toNat < S4096.size a := fun v700 k0_hw310 => k0_hw310

def k0_chk311 (v702 : IVec S16 32) : Prop :=
  (∀ a x, ((![v702] : Fin 1 → IVec S16 32) a x).toNat < S4096.size a)
theorem k0_idx407_inb : ∀ (v702 : IVec S16 32) (k0_hw311 : k0_chk311 v702), ∀ a x, ((![v702] : Fin 1 → IVec S16 32) a x).toNat < S4096.size a := fun v702 k0_hw311 => k0_hw311

def k0_chk312 (v704 : IVec S16 32) : Prop :=
  (∀ a x, ((![v704] : Fin 1 → IVec S16 32) a x).toNat < S4096.size a)
theorem k0_idx408_inb : ∀ (v704 : IVec S16 32) (k0_hw312 : k0_chk312 v704), ∀ a x, ((![v704] : Fin 1 → IVec S16 32) a x).toNat < S4096.size a := fun v704 k0_hw312 => k0_hw312

def k0_chk313 (v706 : IVec S16 32) : Prop :=
  (∀ a x, ((![v706] : Fin 1 → IVec S16 32) a x).toNat < S4096.size a)
theorem k0_idx409_inb : ∀ (v706 : IVec S16 32) (k0_hw313 : k0_chk313 v706), ∀ a x, ((![v706] : Fin 1 → IVec S16 32) a x).toNat < S4096.size a := fun v706 k0_hw313 => k0_hw313

def k0_chk314 (v708 : IVec S16 32) : Prop :=
  (∀ a x, ((![v708] : Fin 1 → IVec S16 32) a x).toNat < S4096.size a)
theorem k0_idx410_inb : ∀ (v708 : IVec S16 32) (k0_hw314 : k0_chk314 v708), ∀ a x, ((![v708] : Fin 1 → IVec S16 32) a x).toNat < S4096.size a := fun v708 k0_hw314 => k0_hw314

def k0_chk315 (v710 : IVec S16 32) : Prop :=
  (∀ a x, ((![v710] : Fin 1 → IVec S16 32) a x).toNat < S4096.size a)
theorem k0_idx411_inb : ∀ (v710 : IVec S16 32) (k0_hw315 : k0_chk315 v710), ∀ a x, ((![v710] : Fin 1 → IVec S16 32) a x).toNat < S4096.size a := fun v710 k0_hw315 => k0_hw315

def k0_chk316 (v712 : IVec S16 32) : Prop :=
  (∀ a x, ((![v712] : Fin 1 → IVec S16 32) a x).toNat < S4096.size a)
theorem k0_idx412_inb : ∀ (v712 : IVec S16 32) (k0_hw316 : k0_chk316 v712), ∀ a x, ((![v712] : Fin 1 → IVec S16 32) a x).toNat < S4096.size a := fun v712 k0_hw316 => k0_hw316

def k0_chk317 (v714 : IVec S16 32) : Prop :=
  (∀ a x, ((![v714] : Fin 1 → IVec S16 32) a x).toNat < S4096.size a)
theorem k0_idx413_inb : ∀ (v714 : IVec S16 32) (k0_hw317 : k0_chk317 v714), ∀ a x, ((![v714] : Fin 1 → IVec S16 32) a x).toNat < S4096.size a := fun v714 k0_hw317 => k0_hw317

def k0_chk318 (v716 : IVec S16 32) : Prop :=
  (∀ a x, ((![v716] : Fin 1 → IVec S16 32) a x).toNat < S4096.size a)
theorem k0_idx414_inb : ∀ (v716 : IVec S16 32) (k0_hw318 : k0_chk318 v716), ∀ a x, ((![v716] : Fin 1 → IVec S16 32) a x).toNat < S4096.size a := fun v716 k0_hw318 => k0_hw318

def k0_chk319 (v718 : IVec S16 32) : Prop :=
  (∀ a x, ((![v718] : Fin 1 → IVec S16 32) a x).toNat < S4096.size a)
theorem k0_idx415_inb : ∀ (v718 : IVec S16 32) (k0_hw319 : k0_chk319 v718), ∀ a x, ((![v718] : Fin 1 → IVec S16 32) a x).toNat < S4096.size a := fun v718 k0_hw319 => k0_hw319

def k0_chk320 (v720 : IVec S16 32) : Prop :=
  (∀ a x, ((![v720] : Fin 1 → IVec S16 32) a x).toNat < S4096.size a)
theorem k0_idx416_inb : ∀ (v720 : IVec S16 32) (k0_hw320 : k0_chk320 v720), ∀ a x, ((![v720] : Fin 1 → IVec S16 32) a x).toNat < S4096.size a := fun v720 k0_hw320 => k0_hw320
@[reducible] def k0_t18_loop : Scf.Loop 32 :=
  let c0_i32_102 : BitVec 32 := 0#32
  let c128_i32_103 : BitVec 32 := 128#32
  let v58 : BitVec 32 := Scalar.addi c0_i32_102 c128_i32_103
  let c1_i32_104 : BitVec 32 := 1#32
  ⟨c0_i32_102, v58, c1_i32_104⟩
def k0_off32 (k0_t18 : Fin k0_t18_loop.trips) : Fin 1 → Nat :=
  let c0_i32_102 : BitVec 32 := 0#32
  let c1_i32_104 : BitVec 32 := 1#32
  let arg15 : BitVec 32 := Scf.iv c0_i32_102 c1_i32_104 k0_t18
  let c16_i32_312 : BitVec 32 := 16#32
  let v146 : BitVec 32 := Scalar.muli arg15 c16_i32_312
  let v147 : Index := Scalar.indexCast v146
  ![v147.toNat]
def k0_off33 (k0_t18 : Fin k0_t18_loop.trips) : Fin 1 → Nat :=
  let c2048_i32 : BitVec 32 := 2048#32
  let c0_i32_102 : BitVec 32 := 0#32
  let c1_i32_104 : BitVec 32 := 1#32
  let arg15 : BitVec 32 := Scf.iv c0_i32_102 c1_i32_104 k0_t18
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off34 (k0_t18 : Fin k0_t18_loop.trips) : Fin 1 → Nat :=
  let c0_i32_102 : BitVec 32 := 0#32
  let c1_i32_104 : BitVec 32 := 1#32
  let arg15 : BitVec 32 := Scf.iv c0_i32_102 c1_i32_104 k0_t18
  let c16_i32 : BitVec 32 := 16#32
  let v145 : BitVec 32 := Scalar.muli arg15 c16_i32
  let v154 : Index := Scalar.indexCast v145
  ![v154.toNat]
@[reducible] def k0_t19_loop : Scf.Loop 32 :=
  let c0_i32_107 : BitVec 32 := 0#32
  let c128_i32_108 : BitVec 32 := 128#32
  let v59 : BitVec 32 := Scalar.addi c0_i32_107 c128_i32_108
  let c1_i32_109 : BitVec 32 := 1#32
  ⟨c0_i32_107, v59, c1_i32_109⟩
def k0_off35 (k0_t19 : Fin k0_t19_loop.trips) : Fin 1 → Nat :=
  let c0_i32_107 : BitVec 32 := 0#32
  let c1_i32_109 : BitVec 32 := 1#32
  let arg15 : BitVec 32 := Scf.iv c0_i32_107 c1_i32_109 k0_t19
  let c16_i32 : BitVec 32 := 16#32
  let v145 : BitVec 32 := Scalar.muli arg15 c16_i32
  let v146 : Index := Scalar.indexCast v145
  ![v146.toNat]
@[reducible] def k0_t20_loop : Scf.Loop 32 :=
  let c0_i32_112 : BitVec 32 := 0#32
  let c128_i32_113 : BitVec 32 := 128#32
  let v61 : BitVec 32 := Scalar.addi c0_i32_112 c128_i32_113
  let c1_i32_114 : BitVec 32 := 1#32
  ⟨c0_i32_112, v61, c1_i32_114⟩
def k0_off36 (k0_t20 : Fin k0_t20_loop.trips) : Fin 1 → Nat :=
  let c0_i32_112 : BitVec 32 := 0#32
  let c1_i32_114 : BitVec 32 := 1#32
  let arg15 : BitVec 32 := Scf.iv c0_i32_112 c1_i32_114 k0_t20
  let c16_i32 : BitVec 32 := 16#32
  let v145 : BitVec 32 := Scalar.muli arg15 c16_i32
  let v146 : Index := Scalar.indexCast v145
  ![v146.toNat]
def k0_off37 (k0_t20 : Fin k0_t20_loop.trips) : Fin 1 → Nat :=
  let c0_i32_112 : BitVec 32 := 0#32
  let c1_i32_114 : BitVec 32 := 1#32
  let arg15 : BitVec 32 := Scf.iv c0_i32_112 c1_i32_114 k0_t20
  let c16_i32_312 : BitVec 32 := 16#32
  let v150 : BitVec 32 := Scalar.muli arg15 c16_i32_312
  let v151 : Index := Scalar.indexCast v150
  ![v151.toNat]
def k0_off38 (k0_t20 : Fin k0_t20_loop.trips) : Fin 1 → Nat :=
  let c2048_i32 : BitVec 32 := 2048#32
  let c0_i32_112 : BitVec 32 := 0#32
  let c1_i32_114 : BitVec 32 := 1#32
  let arg15 : BitVec 32 := Scf.iv c0_i32_112 c1_i32_114 k0_t20
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t21_loop : Scf.Loop 32 :=
  let c0_i32_117 : BitVec 32 := 0#32
  let c64_i32_118 : BitVec 32 := 64#32
  let v62 : BitVec 32 := Scalar.addi c0_i32_117 c64_i32_118
  let c1_i32_119 : BitVec 32 := 1#32
  ⟨c0_i32_117, v62, c1_i32_119⟩
def k0_off39 (k0_t21 : Fin k0_t21_loop.trips) (c0_i32_312 : BitVec 32) (c0_i32_313 : BitVec 32) : Fin 1 → Nat :=
  let c0_i32_117 : BitVec 32 := 0#32
  let c1_i32_119 : BitVec 32 := 1#32
  let arg15 : BitVec 32 := Scf.iv c0_i32_117 c1_i32_119 k0_t21
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk321 (v500 : IVec S16 32) : Prop :=
  (∀ a x, ((![v500] : Fin 1 → IVec S16 32) a x).toNat < S2048.size a) ∧
  (∀ a x, ((![v500] : Fin 1 → IVec S16 32) a x).toNat < S2048.size a)
theorem k0_idx417_inb : ∀ (v500 : IVec S16 32) (k0_hw321 : k0_chk321 v500), ∀ a x, ((![v500] : Fin 1 → IVec S16 32) a x).toNat < S2048.size a := fun v500 k0_hw321 => k0_hw321.1
theorem k0_idx418_inb : ∀ (v500 : IVec S16 32) (k0_hw321 : k0_chk321 v500), ∀ a x, ((![v500] : Fin 1 → IVec S16 32) a x).toNat < S2048.size a := fun v500 k0_hw321 => k0_hw321.2

def k0_chk322 (v660 : IVec S16 32) : Prop :=
  (∀ a x, ((![v660] : Fin 1 → IVec S16 32) a x).toNat < S32768.size a)
theorem k0_idx419_inb : ∀ (v660 : IVec S16 32) (k0_hw322 : k0_chk322 v660), ∀ a x, ((![v660] : Fin 1 → IVec S16 32) a x).toNat < S32768.size a := fun v660 k0_hw322 => k0_hw322

def k0_chk323 (v504 : IVec S16 32) : Prop :=
  (∀ a x, ((![v504] : Fin 1 → IVec S16 32) a x).toNat < S2048.size a) ∧
  (∀ a x, ((![v504] : Fin 1 → IVec S16 32) a x).toNat < S2048.size a)
theorem k0_idx420_inb : ∀ (v504 : IVec S16 32) (k0_hw323 : k0_chk323 v504), ∀ a x, ((![v504] : Fin 1 → IVec S16 32) a x).toNat < S2048.size a := fun v504 k0_hw323 => k0_hw323.1
theorem k0_idx421_inb : ∀ (v504 : IVec S16 32) (k0_hw323 : k0_chk323 v504), ∀ a x, ((![v504] : Fin 1 → IVec S16 32) a x).toNat < S2048.size a := fun v504 k0_hw323 => k0_hw323.2

def k0_chk324 (v666 : IVec S16 32) : Prop :=
  (∀ a x, ((![v666] : Fin 1 → IVec S16 32) a x).toNat < S32768.size a)
theorem k0_idx422_inb : ∀ (v666 : IVec S16 32) (k0_hw324 : k0_chk324 v666), ∀ a x, ((![v666] : Fin 1 → IVec S16 32) a x).toNat < S32768.size a := fun v666 k0_hw324 => k0_hw324

def k0_chk325 (v508 : IVec S16 32) : Prop :=
  (∀ a x, ((![v508] : Fin 1 → IVec S16 32) a x).toNat < S2048.size a) ∧
  (∀ a x, ((![v508] : Fin 1 → IVec S16 32) a x).toNat < S2048.size a)
theorem k0_idx423_inb : ∀ (v508 : IVec S16 32) (k0_hw325 : k0_chk325 v508), ∀ a x, ((![v508] : Fin 1 → IVec S16 32) a x).toNat < S2048.size a := fun v508 k0_hw325 => k0_hw325.1
theorem k0_idx424_inb : ∀ (v508 : IVec S16 32) (k0_hw325 : k0_chk325 v508), ∀ a x, ((![v508] : Fin 1 → IVec S16 32) a x).toNat < S2048.size a := fun v508 k0_hw325 => k0_hw325.2

def k0_chk326 (v672 : IVec S16 32) : Prop :=
  (∀ a x, ((![v672] : Fin 1 → IVec S16 32) a x).toNat < S32768.size a)
theorem k0_idx425_inb : ∀ (v672 : IVec S16 32) (k0_hw326 : k0_chk326 v672), ∀ a x, ((![v672] : Fin 1 → IVec S16 32) a x).toNat < S32768.size a := fun v672 k0_hw326 => k0_hw326

def k0_chk327 (v512 : IVec S16 32) : Prop :=
  (∀ a x, ((![v512] : Fin 1 → IVec S16 32) a x).toNat < S2048.size a) ∧
  (∀ a x, ((![v512] : Fin 1 → IVec S16 32) a x).toNat < S2048.size a)
theorem k0_idx426_inb : ∀ (v512 : IVec S16 32) (k0_hw327 : k0_chk327 v512), ∀ a x, ((![v512] : Fin 1 → IVec S16 32) a x).toNat < S2048.size a := fun v512 k0_hw327 => k0_hw327.1
theorem k0_idx427_inb : ∀ (v512 : IVec S16 32) (k0_hw327 : k0_chk327 v512), ∀ a x, ((![v512] : Fin 1 → IVec S16 32) a x).toNat < S2048.size a := fun v512 k0_hw327 => k0_hw327.2

def k0_chk328 (v678 : IVec S16 32) : Prop :=
  (∀ a x, ((![v678] : Fin 1 → IVec S16 32) a x).toNat < S32768.size a)
theorem k0_idx428_inb : ∀ (v678 : IVec S16 32) (k0_hw328 : k0_chk328 v678), ∀ a x, ((![v678] : Fin 1 → IVec S16 32) a x).toNat < S32768.size a := fun v678 k0_hw328 => k0_hw328

def k0_chk329 (v516 : IVec S16 32) : Prop :=
  (∀ a x, ((![v516] : Fin 1 → IVec S16 32) a x).toNat < S2048.size a) ∧
  (∀ a x, ((![v516] : Fin 1 → IVec S16 32) a x).toNat < S2048.size a)
theorem k0_idx429_inb : ∀ (v516 : IVec S16 32) (k0_hw329 : k0_chk329 v516), ∀ a x, ((![v516] : Fin 1 → IVec S16 32) a x).toNat < S2048.size a := fun v516 k0_hw329 => k0_hw329.1
theorem k0_idx430_inb : ∀ (v516 : IVec S16 32) (k0_hw329 : k0_chk329 v516), ∀ a x, ((![v516] : Fin 1 → IVec S16 32) a x).toNat < S2048.size a := fun v516 k0_hw329 => k0_hw329.2

def k0_chk330 (v684 : IVec S16 32) : Prop :=
  (∀ a x, ((![v684] : Fin 1 → IVec S16 32) a x).toNat < S32768.size a)
theorem k0_idx431_inb : ∀ (v684 : IVec S16 32) (k0_hw330 : k0_chk330 v684), ∀ a x, ((![v684] : Fin 1 → IVec S16 32) a x).toNat < S32768.size a := fun v684 k0_hw330 => k0_hw330

def k0_chk331 (v520 : IVec S16 32) : Prop :=
  (∀ a x, ((![v520] : Fin 1 → IVec S16 32) a x).toNat < S2048.size a) ∧
  (∀ a x, ((![v520] : Fin 1 → IVec S16 32) a x).toNat < S2048.size a)
theorem k0_idx432_inb : ∀ (v520 : IVec S16 32) (k0_hw331 : k0_chk331 v520), ∀ a x, ((![v520] : Fin 1 → IVec S16 32) a x).toNat < S2048.size a := fun v520 k0_hw331 => k0_hw331.1
theorem k0_idx433_inb : ∀ (v520 : IVec S16 32) (k0_hw331 : k0_chk331 v520), ∀ a x, ((![v520] : Fin 1 → IVec S16 32) a x).toNat < S2048.size a := fun v520 k0_hw331 => k0_hw331.2

def k0_chk332 (v690 : IVec S16 32) : Prop :=
  (∀ a x, ((![v690] : Fin 1 → IVec S16 32) a x).toNat < S32768.size a)
theorem k0_idx434_inb : ∀ (v690 : IVec S16 32) (k0_hw332 : k0_chk332 v690), ∀ a x, ((![v690] : Fin 1 → IVec S16 32) a x).toNat < S32768.size a := fun v690 k0_hw332 => k0_hw332

def k0_chk333 (v524 : IVec S16 32) : Prop :=
  (∀ a x, ((![v524] : Fin 1 → IVec S16 32) a x).toNat < S2048.size a) ∧
  (∀ a x, ((![v524] : Fin 1 → IVec S16 32) a x).toNat < S2048.size a)
theorem k0_idx435_inb : ∀ (v524 : IVec S16 32) (k0_hw333 : k0_chk333 v524), ∀ a x, ((![v524] : Fin 1 → IVec S16 32) a x).toNat < S2048.size a := fun v524 k0_hw333 => k0_hw333.1
theorem k0_idx436_inb : ∀ (v524 : IVec S16 32) (k0_hw333 : k0_chk333 v524), ∀ a x, ((![v524] : Fin 1 → IVec S16 32) a x).toNat < S2048.size a := fun v524 k0_hw333 => k0_hw333.2

def k0_chk334 (v696 : IVec S16 32) : Prop :=
  (∀ a x, ((![v696] : Fin 1 → IVec S16 32) a x).toNat < S32768.size a)
theorem k0_idx437_inb : ∀ (v696 : IVec S16 32) (k0_hw334 : k0_chk334 v696), ∀ a x, ((![v696] : Fin 1 → IVec S16 32) a x).toNat < S32768.size a := fun v696 k0_hw334 => k0_hw334

def k0_chk335 (v528 : IVec S16 32) : Prop :=
  (∀ a x, ((![v528] : Fin 1 → IVec S16 32) a x).toNat < S2048.size a) ∧
  (∀ a x, ((![v528] : Fin 1 → IVec S16 32) a x).toNat < S2048.size a)
theorem k0_idx438_inb : ∀ (v528 : IVec S16 32) (k0_hw335 : k0_chk335 v528), ∀ a x, ((![v528] : Fin 1 → IVec S16 32) a x).toNat < S2048.size a := fun v528 k0_hw335 => k0_hw335.1
theorem k0_idx439_inb : ∀ (v528 : IVec S16 32) (k0_hw335 : k0_chk335 v528), ∀ a x, ((![v528] : Fin 1 → IVec S16 32) a x).toNat < S2048.size a := fun v528 k0_hw335 => k0_hw335.2

def k0_chk336 (v702 : IVec S16 32) : Prop :=
  (∀ a x, ((![v702] : Fin 1 → IVec S16 32) a x).toNat < S32768.size a)
theorem k0_idx440_inb : ∀ (v702 : IVec S16 32) (k0_hw336 : k0_chk336 v702), ∀ a x, ((![v702] : Fin 1 → IVec S16 32) a x).toNat < S32768.size a := fun v702 k0_hw336 => k0_hw336

def k0_chk337 (v532 : IVec S16 32) : Prop :=
  (∀ a x, ((![v532] : Fin 1 → IVec S16 32) a x).toNat < S2048.size a) ∧
  (∀ a x, ((![v532] : Fin 1 → IVec S16 32) a x).toNat < S2048.size a)
theorem k0_idx441_inb : ∀ (v532 : IVec S16 32) (k0_hw337 : k0_chk337 v532), ∀ a x, ((![v532] : Fin 1 → IVec S16 32) a x).toNat < S2048.size a := fun v532 k0_hw337 => k0_hw337.1
theorem k0_idx442_inb : ∀ (v532 : IVec S16 32) (k0_hw337 : k0_chk337 v532), ∀ a x, ((![v532] : Fin 1 → IVec S16 32) a x).toNat < S2048.size a := fun v532 k0_hw337 => k0_hw337.2

def k0_chk338 (v708 : IVec S16 32) : Prop :=
  (∀ a x, ((![v708] : Fin 1 → IVec S16 32) a x).toNat < S32768.size a)
theorem k0_idx443_inb : ∀ (v708 : IVec S16 32) (k0_hw338 : k0_chk338 v708), ∀ a x, ((![v708] : Fin 1 → IVec S16 32) a x).toNat < S32768.size a := fun v708 k0_hw338 => k0_hw338

def k0_chk339 (v536 : IVec S16 32) : Prop :=
  (∀ a x, ((![v536] : Fin 1 → IVec S16 32) a x).toNat < S2048.size a) ∧
  (∀ a x, ((![v536] : Fin 1 → IVec S16 32) a x).toNat < S2048.size a)
theorem k0_idx444_inb : ∀ (v536 : IVec S16 32) (k0_hw339 : k0_chk339 v536), ∀ a x, ((![v536] : Fin 1 → IVec S16 32) a x).toNat < S2048.size a := fun v536 k0_hw339 => k0_hw339.1
theorem k0_idx445_inb : ∀ (v536 : IVec S16 32) (k0_hw339 : k0_chk339 v536), ∀ a x, ((![v536] : Fin 1 → IVec S16 32) a x).toNat < S2048.size a := fun v536 k0_hw339 => k0_hw339.2

def k0_chk340 (v714 : IVec S16 32) : Prop :=
  (∀ a x, ((![v714] : Fin 1 → IVec S16 32) a x).toNat < S32768.size a)
theorem k0_idx446_inb : ∀ (v714 : IVec S16 32) (k0_hw340 : k0_chk340 v714), ∀ a x, ((![v714] : Fin 1 → IVec S16 32) a x).toNat < S32768.size a := fun v714 k0_hw340 => k0_hw340

def k0_chk341 (v540 : IVec S16 32) : Prop :=
  (∀ a x, ((![v540] : Fin 1 → IVec S16 32) a x).toNat < S2048.size a) ∧
  (∀ a x, ((![v540] : Fin 1 → IVec S16 32) a x).toNat < S2048.size a)
theorem k0_idx447_inb : ∀ (v540 : IVec S16 32) (k0_hw341 : k0_chk341 v540), ∀ a x, ((![v540] : Fin 1 → IVec S16 32) a x).toNat < S2048.size a := fun v540 k0_hw341 => k0_hw341.1
theorem k0_idx448_inb : ∀ (v540 : IVec S16 32) (k0_hw341 : k0_chk341 v540), ∀ a x, ((![v540] : Fin 1 → IVec S16 32) a x).toNat < S2048.size a := fun v540 k0_hw341 => k0_hw341.2

def k0_chk342 (v720 : IVec S16 32) : Prop :=
  (∀ a x, ((![v720] : Fin 1 → IVec S16 32) a x).toNat < S32768.size a)
theorem k0_idx449_inb : ∀ (v720 : IVec S16 32) (k0_hw342 : k0_chk342 v720), ∀ a x, ((![v720] : Fin 1 → IVec S16 32) a x).toNat < S32768.size a := fun v720 k0_hw342 => k0_hw342

def k0_chk343 (v544 : IVec S16 32) : Prop :=
  (∀ a x, ((![v544] : Fin 1 → IVec S16 32) a x).toNat < S2048.size a) ∧
  (∀ a x, ((![v544] : Fin 1 → IVec S16 32) a x).toNat < S2048.size a)
theorem k0_idx450_inb : ∀ (v544 : IVec S16 32) (k0_hw343 : k0_chk343 v544), ∀ a x, ((![v544] : Fin 1 → IVec S16 32) a x).toNat < S2048.size a := fun v544 k0_hw343 => k0_hw343.1
theorem k0_idx451_inb : ∀ (v544 : IVec S16 32) (k0_hw343 : k0_chk343 v544), ∀ a x, ((![v544] : Fin 1 → IVec S16 32) a x).toNat < S2048.size a := fun v544 k0_hw343 => k0_hw343.2

def k0_chk344 (v726 : IVec S16 32) : Prop :=
  (∀ a x, ((![v726] : Fin 1 → IVec S16 32) a x).toNat < S32768.size a)
theorem k0_idx452_inb : ∀ (v726 : IVec S16 32) (k0_hw344 : k0_chk344 v726), ∀ a x, ((![v726] : Fin 1 → IVec S16 32) a x).toNat < S32768.size a := fun v726 k0_hw344 => k0_hw344

def k0_chk345 (v548 : IVec S16 32) : Prop :=
  (∀ a x, ((![v548] : Fin 1 → IVec S16 32) a x).toNat < S2048.size a) ∧
  (∀ a x, ((![v548] : Fin 1 → IVec S16 32) a x).toNat < S2048.size a)
theorem k0_idx453_inb : ∀ (v548 : IVec S16 32) (k0_hw345 : k0_chk345 v548), ∀ a x, ((![v548] : Fin 1 → IVec S16 32) a x).toNat < S2048.size a := fun v548 k0_hw345 => k0_hw345.1
theorem k0_idx454_inb : ∀ (v548 : IVec S16 32) (k0_hw345 : k0_chk345 v548), ∀ a x, ((![v548] : Fin 1 → IVec S16 32) a x).toNat < S2048.size a := fun v548 k0_hw345 => k0_hw345.2

def k0_chk346 (v732 : IVec S16 32) : Prop :=
  (∀ a x, ((![v732] : Fin 1 → IVec S16 32) a x).toNat < S32768.size a)
theorem k0_idx455_inb : ∀ (v732 : IVec S16 32) (k0_hw346 : k0_chk346 v732), ∀ a x, ((![v732] : Fin 1 → IVec S16 32) a x).toNat < S32768.size a := fun v732 k0_hw346 => k0_hw346

def k0_chk347 (v552 : IVec S16 32) : Prop :=
  (∀ a x, ((![v552] : Fin 1 → IVec S16 32) a x).toNat < S2048.size a) ∧
  (∀ a x, ((![v552] : Fin 1 → IVec S16 32) a x).toNat < S2048.size a)
theorem k0_idx456_inb : ∀ (v552 : IVec S16 32) (k0_hw347 : k0_chk347 v552), ∀ a x, ((![v552] : Fin 1 → IVec S16 32) a x).toNat < S2048.size a := fun v552 k0_hw347 => k0_hw347.1
theorem k0_idx457_inb : ∀ (v552 : IVec S16 32) (k0_hw347 : k0_chk347 v552), ∀ a x, ((![v552] : Fin 1 → IVec S16 32) a x).toNat < S2048.size a := fun v552 k0_hw347 => k0_hw347.2

def k0_chk348 (v738 : IVec S16 32) : Prop :=
  (∀ a x, ((![v738] : Fin 1 → IVec S16 32) a x).toNat < S32768.size a)
theorem k0_idx458_inb : ∀ (v738 : IVec S16 32) (k0_hw348 : k0_chk348 v738), ∀ a x, ((![v738] : Fin 1 → IVec S16 32) a x).toNat < S32768.size a := fun v738 k0_hw348 => k0_hw348

def k0_chk349 (v556 : IVec S16 32) : Prop :=
  (∀ a x, ((![v556] : Fin 1 → IVec S16 32) a x).toNat < S2048.size a) ∧
  (∀ a x, ((![v556] : Fin 1 → IVec S16 32) a x).toNat < S2048.size a)
theorem k0_idx459_inb : ∀ (v556 : IVec S16 32) (k0_hw349 : k0_chk349 v556), ∀ a x, ((![v556] : Fin 1 → IVec S16 32) a x).toNat < S2048.size a := fun v556 k0_hw349 => k0_hw349.1
theorem k0_idx460_inb : ∀ (v556 : IVec S16 32) (k0_hw349 : k0_chk349 v556), ∀ a x, ((![v556] : Fin 1 → IVec S16 32) a x).toNat < S2048.size a := fun v556 k0_hw349 => k0_hw349.2

def k0_chk350 (v744 : IVec S16 32) : Prop :=
  (∀ a x, ((![v744] : Fin 1 → IVec S16 32) a x).toNat < S32768.size a)
theorem k0_idx461_inb : ∀ (v744 : IVec S16 32) (k0_hw350 : k0_chk350 v744), ∀ a x, ((![v744] : Fin 1 → IVec S16 32) a x).toNat < S32768.size a := fun v744 k0_hw350 => k0_hw350

def k0_chk351 (v560 : IVec S16 32) : Prop :=
  (∀ a x, ((![v560] : Fin 1 → IVec S16 32) a x).toNat < S2048.size a) ∧
  (∀ a x, ((![v560] : Fin 1 → IVec S16 32) a x).toNat < S2048.size a)
theorem k0_idx462_inb : ∀ (v560 : IVec S16 32) (k0_hw351 : k0_chk351 v560), ∀ a x, ((![v560] : Fin 1 → IVec S16 32) a x).toNat < S2048.size a := fun v560 k0_hw351 => k0_hw351.1
theorem k0_idx463_inb : ∀ (v560 : IVec S16 32) (k0_hw351 : k0_chk351 v560), ∀ a x, ((![v560] : Fin 1 → IVec S16 32) a x).toNat < S2048.size a := fun v560 k0_hw351 => k0_hw351.2

def k0_chk352 (v750 : IVec S16 32) : Prop :=
  (∀ a x, ((![v750] : Fin 1 → IVec S16 32) a x).toNat < S32768.size a)
theorem k0_idx464_inb : ∀ (v750 : IVec S16 32) (k0_hw352 : k0_chk352 v750), ∀ a x, ((![v750] : Fin 1 → IVec S16 32) a x).toNat < S32768.size a := fun v750 k0_hw352 => k0_hw352

def k0_chk353 (v564 : IVec S16 32) : Prop :=
  (∀ a x, ((![v564] : Fin 1 → IVec S16 32) a x).toNat < S2048.size a) ∧
  (∀ a x, ((![v564] : Fin 1 → IVec S16 32) a x).toNat < S2048.size a)
theorem k0_idx465_inb : ∀ (v564 : IVec S16 32) (k0_hw353 : k0_chk353 v564), ∀ a x, ((![v564] : Fin 1 → IVec S16 32) a x).toNat < S2048.size a := fun v564 k0_hw353 => k0_hw353.1
theorem k0_idx466_inb : ∀ (v564 : IVec S16 32) (k0_hw353 : k0_chk353 v564), ∀ a x, ((![v564] : Fin 1 → IVec S16 32) a x).toNat < S2048.size a := fun v564 k0_hw353 => k0_hw353.2

def k0_chk354 (v756 : IVec S16 32) : Prop :=
  (∀ a x, ((![v756] : Fin 1 → IVec S16 32) a x).toNat < S32768.size a)
theorem k0_idx467_inb : ∀ (v756 : IVec S16 32) (k0_hw354 : k0_chk354 v756), ∀ a x, ((![v756] : Fin 1 → IVec S16 32) a x).toNat < S32768.size a := fun v756 k0_hw354 => k0_hw354

def k0_chk355 (v568 : IVec S16 32) : Prop :=
  (∀ a x, ((![v568] : Fin 1 → IVec S16 32) a x).toNat < S2048.size a) ∧
  (∀ a x, ((![v568] : Fin 1 → IVec S16 32) a x).toNat < S2048.size a)
theorem k0_idx468_inb : ∀ (v568 : IVec S16 32) (k0_hw355 : k0_chk355 v568), ∀ a x, ((![v568] : Fin 1 → IVec S16 32) a x).toNat < S2048.size a := fun v568 k0_hw355 => k0_hw355.1
theorem k0_idx469_inb : ∀ (v568 : IVec S16 32) (k0_hw355 : k0_chk355 v568), ∀ a x, ((![v568] : Fin 1 → IVec S16 32) a x).toNat < S2048.size a := fun v568 k0_hw355 => k0_hw355.2

def k0_chk356 (v762 : IVec S16 32) : Prop :=
  (∀ a x, ((![v762] : Fin 1 → IVec S16 32) a x).toNat < S32768.size a)
theorem k0_idx470_inb : ∀ (v762 : IVec S16 32) (k0_hw356 : k0_chk356 v762), ∀ a x, ((![v762] : Fin 1 → IVec S16 32) a x).toNat < S32768.size a := fun v762 k0_hw356 => k0_hw356

def k0_chk357 (v572 : IVec S16 32) : Prop :=
  (∀ a x, ((![v572] : Fin 1 → IVec S16 32) a x).toNat < S2048.size a) ∧
  (∀ a x, ((![v572] : Fin 1 → IVec S16 32) a x).toNat < S2048.size a)
theorem k0_idx471_inb : ∀ (v572 : IVec S16 32) (k0_hw357 : k0_chk357 v572), ∀ a x, ((![v572] : Fin 1 → IVec S16 32) a x).toNat < S2048.size a := fun v572 k0_hw357 => k0_hw357.1
theorem k0_idx472_inb : ∀ (v572 : IVec S16 32) (k0_hw357 : k0_chk357 v572), ∀ a x, ((![v572] : Fin 1 → IVec S16 32) a x).toNat < S2048.size a := fun v572 k0_hw357 => k0_hw357.2

def k0_chk358 (v768 : IVec S16 32) : Prop :=
  (∀ a x, ((![v768] : Fin 1 → IVec S16 32) a x).toNat < S32768.size a)
theorem k0_idx473_inb : ∀ (v768 : IVec S16 32) (k0_hw358 : k0_chk358 v768), ∀ a x, ((![v768] : Fin 1 → IVec S16 32) a x).toNat < S32768.size a := fun v768 k0_hw358 => k0_hw358

def k0_chk359 (v576 : IVec S16 32) : Prop :=
  (∀ a x, ((![v576] : Fin 1 → IVec S16 32) a x).toNat < S2048.size a) ∧
  (∀ a x, ((![v576] : Fin 1 → IVec S16 32) a x).toNat < S2048.size a)
theorem k0_idx474_inb : ∀ (v576 : IVec S16 32) (k0_hw359 : k0_chk359 v576), ∀ a x, ((![v576] : Fin 1 → IVec S16 32) a x).toNat < S2048.size a := fun v576 k0_hw359 => k0_hw359.1
theorem k0_idx475_inb : ∀ (v576 : IVec S16 32) (k0_hw359 : k0_chk359 v576), ∀ a x, ((![v576] : Fin 1 → IVec S16 32) a x).toNat < S2048.size a := fun v576 k0_hw359 => k0_hw359.2

def k0_chk360 (v774 : IVec S16 32) : Prop :=
  (∀ a x, ((![v774] : Fin 1 → IVec S16 32) a x).toNat < S32768.size a)
theorem k0_idx476_inb : ∀ (v774 : IVec S16 32) (k0_hw360 : k0_chk360 v774), ∀ a x, ((![v774] : Fin 1 → IVec S16 32) a x).toNat < S32768.size a := fun v774 k0_hw360 => k0_hw360

def k0_chk361 (v580 : IVec S16 32) : Prop :=
  (∀ a x, ((![v580] : Fin 1 → IVec S16 32) a x).toNat < S2048.size a) ∧
  (∀ a x, ((![v580] : Fin 1 → IVec S16 32) a x).toNat < S2048.size a)
theorem k0_idx477_inb : ∀ (v580 : IVec S16 32) (k0_hw361 : k0_chk361 v580), ∀ a x, ((![v580] : Fin 1 → IVec S16 32) a x).toNat < S2048.size a := fun v580 k0_hw361 => k0_hw361.1
theorem k0_idx478_inb : ∀ (v580 : IVec S16 32) (k0_hw361 : k0_chk361 v580), ∀ a x, ((![v580] : Fin 1 → IVec S16 32) a x).toNat < S2048.size a := fun v580 k0_hw361 => k0_hw361.2

def k0_chk362 (v780 : IVec S16 32) : Prop :=
  (∀ a x, ((![v780] : Fin 1 → IVec S16 32) a x).toNat < S32768.size a)
theorem k0_idx479_inb : ∀ (v780 : IVec S16 32) (k0_hw362 : k0_chk362 v780), ∀ a x, ((![v780] : Fin 1 → IVec S16 32) a x).toNat < S32768.size a := fun v780 k0_hw362 => k0_hw362

def k0_chk363 (v584 : IVec S16 32) : Prop :=
  (∀ a x, ((![v584] : Fin 1 → IVec S16 32) a x).toNat < S2048.size a) ∧
  (∀ a x, ((![v584] : Fin 1 → IVec S16 32) a x).toNat < S2048.size a)
theorem k0_idx480_inb : ∀ (v584 : IVec S16 32) (k0_hw363 : k0_chk363 v584), ∀ a x, ((![v584] : Fin 1 → IVec S16 32) a x).toNat < S2048.size a := fun v584 k0_hw363 => k0_hw363.1
theorem k0_idx481_inb : ∀ (v584 : IVec S16 32) (k0_hw363 : k0_chk363 v584), ∀ a x, ((![v584] : Fin 1 → IVec S16 32) a x).toNat < S2048.size a := fun v584 k0_hw363 => k0_hw363.2

def k0_chk364 (v786 : IVec S16 32) : Prop :=
  (∀ a x, ((![v786] : Fin 1 → IVec S16 32) a x).toNat < S32768.size a)
theorem k0_idx482_inb : ∀ (v786 : IVec S16 32) (k0_hw364 : k0_chk364 v786), ∀ a x, ((![v786] : Fin 1 → IVec S16 32) a x).toNat < S32768.size a := fun v786 k0_hw364 => k0_hw364

def k0_chk365 (v588 : IVec S16 32) : Prop :=
  (∀ a x, ((![v588] : Fin 1 → IVec S16 32) a x).toNat < S2048.size a) ∧
  (∀ a x, ((![v588] : Fin 1 → IVec S16 32) a x).toNat < S2048.size a)
theorem k0_idx483_inb : ∀ (v588 : IVec S16 32) (k0_hw365 : k0_chk365 v588), ∀ a x, ((![v588] : Fin 1 → IVec S16 32) a x).toNat < S2048.size a := fun v588 k0_hw365 => k0_hw365.1
theorem k0_idx484_inb : ∀ (v588 : IVec S16 32) (k0_hw365 : k0_chk365 v588), ∀ a x, ((![v588] : Fin 1 → IVec S16 32) a x).toNat < S2048.size a := fun v588 k0_hw365 => k0_hw365.2

def k0_chk366 (v792 : IVec S16 32) : Prop :=
  (∀ a x, ((![v792] : Fin 1 → IVec S16 32) a x).toNat < S32768.size a)
theorem k0_idx485_inb : ∀ (v792 : IVec S16 32) (k0_hw366 : k0_chk366 v792), ∀ a x, ((![v792] : Fin 1 → IVec S16 32) a x).toNat < S32768.size a := fun v792 k0_hw366 => k0_hw366

def k0_chk367 (v592 : IVec S16 32) : Prop :=
  (∀ a x, ((![v592] : Fin 1 → IVec S16 32) a x).toNat < S2048.size a) ∧
  (∀ a x, ((![v592] : Fin 1 → IVec S16 32) a x).toNat < S2048.size a)
theorem k0_idx486_inb : ∀ (v592 : IVec S16 32) (k0_hw367 : k0_chk367 v592), ∀ a x, ((![v592] : Fin 1 → IVec S16 32) a x).toNat < S2048.size a := fun v592 k0_hw367 => k0_hw367.1
theorem k0_idx487_inb : ∀ (v592 : IVec S16 32) (k0_hw367 : k0_chk367 v592), ∀ a x, ((![v592] : Fin 1 → IVec S16 32) a x).toNat < S2048.size a := fun v592 k0_hw367 => k0_hw367.2

def k0_chk368 (v798 : IVec S16 32) : Prop :=
  (∀ a x, ((![v798] : Fin 1 → IVec S16 32) a x).toNat < S32768.size a)
theorem k0_idx488_inb : ∀ (v798 : IVec S16 32) (k0_hw368 : k0_chk368 v798), ∀ a x, ((![v798] : Fin 1 → IVec S16 32) a x).toNat < S32768.size a := fun v798 k0_hw368 => k0_hw368

def k0_chk369 (v596 : IVec S16 32) : Prop :=
  (∀ a x, ((![v596] : Fin 1 → IVec S16 32) a x).toNat < S2048.size a) ∧
  (∀ a x, ((![v596] : Fin 1 → IVec S16 32) a x).toNat < S2048.size a)
theorem k0_idx489_inb : ∀ (v596 : IVec S16 32) (k0_hw369 : k0_chk369 v596), ∀ a x, ((![v596] : Fin 1 → IVec S16 32) a x).toNat < S2048.size a := fun v596 k0_hw369 => k0_hw369.1
theorem k0_idx490_inb : ∀ (v596 : IVec S16 32) (k0_hw369 : k0_chk369 v596), ∀ a x, ((![v596] : Fin 1 → IVec S16 32) a x).toNat < S2048.size a := fun v596 k0_hw369 => k0_hw369.2

def k0_chk370 (v804 : IVec S16 32) : Prop :=
  (∀ a x, ((![v804] : Fin 1 → IVec S16 32) a x).toNat < S32768.size a)
theorem k0_idx491_inb : ∀ (v804 : IVec S16 32) (k0_hw370 : k0_chk370 v804), ∀ a x, ((![v804] : Fin 1 → IVec S16 32) a x).toNat < S32768.size a := fun v804 k0_hw370 => k0_hw370

def k0_chk371 (v600 : IVec S16 32) : Prop :=
  (∀ a x, ((![v600] : Fin 1 → IVec S16 32) a x).toNat < S2048.size a) ∧
  (∀ a x, ((![v600] : Fin 1 → IVec S16 32) a x).toNat < S2048.size a)
theorem k0_idx492_inb : ∀ (v600 : IVec S16 32) (k0_hw371 : k0_chk371 v600), ∀ a x, ((![v600] : Fin 1 → IVec S16 32) a x).toNat < S2048.size a := fun v600 k0_hw371 => k0_hw371.1
theorem k0_idx493_inb : ∀ (v600 : IVec S16 32) (k0_hw371 : k0_chk371 v600), ∀ a x, ((![v600] : Fin 1 → IVec S16 32) a x).toNat < S2048.size a := fun v600 k0_hw371 => k0_hw371.2

def k0_chk372 (v810 : IVec S16 32) : Prop :=
  (∀ a x, ((![v810] : Fin 1 → IVec S16 32) a x).toNat < S32768.size a)
theorem k0_idx494_inb : ∀ (v810 : IVec S16 32) (k0_hw372 : k0_chk372 v810), ∀ a x, ((![v810] : Fin 1 → IVec S16 32) a x).toNat < S32768.size a := fun v810 k0_hw372 => k0_hw372

def k0_chk373 (v604 : IVec S16 32) : Prop :=
  (∀ a x, ((![v604] : Fin 1 → IVec S16 32) a x).toNat < S2048.size a) ∧
  (∀ a x, ((![v604] : Fin 1 → IVec S16 32) a x).toNat < S2048.size a)
theorem k0_idx495_inb : ∀ (v604 : IVec S16 32) (k0_hw373 : k0_chk373 v604), ∀ a x, ((![v604] : Fin 1 → IVec S16 32) a x).toNat < S2048.size a := fun v604 k0_hw373 => k0_hw373.1
theorem k0_idx496_inb : ∀ (v604 : IVec S16 32) (k0_hw373 : k0_chk373 v604), ∀ a x, ((![v604] : Fin 1 → IVec S16 32) a x).toNat < S2048.size a := fun v604 k0_hw373 => k0_hw373.2

def k0_chk374 (v816 : IVec S16 32) : Prop :=
  (∀ a x, ((![v816] : Fin 1 → IVec S16 32) a x).toNat < S32768.size a)
theorem k0_idx497_inb : ∀ (v816 : IVec S16 32) (k0_hw374 : k0_chk374 v816), ∀ a x, ((![v816] : Fin 1 → IVec S16 32) a x).toNat < S32768.size a := fun v816 k0_hw374 => k0_hw374

def k0_chk375 (v608 : IVec S16 32) : Prop :=
  (∀ a x, ((![v608] : Fin 1 → IVec S16 32) a x).toNat < S2048.size a) ∧
  (∀ a x, ((![v608] : Fin 1 → IVec S16 32) a x).toNat < S2048.size a)
theorem k0_idx498_inb : ∀ (v608 : IVec S16 32) (k0_hw375 : k0_chk375 v608), ∀ a x, ((![v608] : Fin 1 → IVec S16 32) a x).toNat < S2048.size a := fun v608 k0_hw375 => k0_hw375.1
theorem k0_idx499_inb : ∀ (v608 : IVec S16 32) (k0_hw375 : k0_chk375 v608), ∀ a x, ((![v608] : Fin 1 → IVec S16 32) a x).toNat < S2048.size a := fun v608 k0_hw375 => k0_hw375.2

def k0_chk376 (v822 : IVec S16 32) : Prop :=
  (∀ a x, ((![v822] : Fin 1 → IVec S16 32) a x).toNat < S32768.size a)
theorem k0_idx500_inb : ∀ (v822 : IVec S16 32) (k0_hw376 : k0_chk376 v822), ∀ a x, ((![v822] : Fin 1 → IVec S16 32) a x).toNat < S32768.size a := fun v822 k0_hw376 => k0_hw376

def k0_chk377 (v612 : IVec S16 32) : Prop :=
  (∀ a x, ((![v612] : Fin 1 → IVec S16 32) a x).toNat < S2048.size a) ∧
  (∀ a x, ((![v612] : Fin 1 → IVec S16 32) a x).toNat < S2048.size a)
theorem k0_idx501_inb : ∀ (v612 : IVec S16 32) (k0_hw377 : k0_chk377 v612), ∀ a x, ((![v612] : Fin 1 → IVec S16 32) a x).toNat < S2048.size a := fun v612 k0_hw377 => k0_hw377.1
theorem k0_idx502_inb : ∀ (v612 : IVec S16 32) (k0_hw377 : k0_chk377 v612), ∀ a x, ((![v612] : Fin 1 → IVec S16 32) a x).toNat < S2048.size a := fun v612 k0_hw377 => k0_hw377.2

def k0_chk378 (v828 : IVec S16 32) : Prop :=
  (∀ a x, ((![v828] : Fin 1 → IVec S16 32) a x).toNat < S32768.size a)
theorem k0_idx503_inb : ∀ (v828 : IVec S16 32) (k0_hw378 : k0_chk378 v828), ∀ a x, ((![v828] : Fin 1 → IVec S16 32) a x).toNat < S32768.size a := fun v828 k0_hw378 => k0_hw378

def k0_chk379 (v616 : IVec S16 32) : Prop :=
  (∀ a x, ((![v616] : Fin 1 → IVec S16 32) a x).toNat < S2048.size a) ∧
  (∀ a x, ((![v616] : Fin 1 → IVec S16 32) a x).toNat < S2048.size a)
theorem k0_idx504_inb : ∀ (v616 : IVec S16 32) (k0_hw379 : k0_chk379 v616), ∀ a x, ((![v616] : Fin 1 → IVec S16 32) a x).toNat < S2048.size a := fun v616 k0_hw379 => k0_hw379.1
theorem k0_idx505_inb : ∀ (v616 : IVec S16 32) (k0_hw379 : k0_chk379 v616), ∀ a x, ((![v616] : Fin 1 → IVec S16 32) a x).toNat < S2048.size a := fun v616 k0_hw379 => k0_hw379.2

def k0_chk380 (v834 : IVec S16 32) : Prop :=
  (∀ a x, ((![v834] : Fin 1 → IVec S16 32) a x).toNat < S32768.size a)
theorem k0_idx506_inb : ∀ (v834 : IVec S16 32) (k0_hw380 : k0_chk380 v834), ∀ a x, ((![v834] : Fin 1 → IVec S16 32) a x).toNat < S32768.size a := fun v834 k0_hw380 => k0_hw380

def k0_chk381 (v620 : IVec S16 32) : Prop :=
  (∀ a x, ((![v620] : Fin 1 → IVec S16 32) a x).toNat < S2048.size a) ∧
  (∀ a x, ((![v620] : Fin 1 → IVec S16 32) a x).toNat < S2048.size a)
theorem k0_idx507_inb : ∀ (v620 : IVec S16 32) (k0_hw381 : k0_chk381 v620), ∀ a x, ((![v620] : Fin 1 → IVec S16 32) a x).toNat < S2048.size a := fun v620 k0_hw381 => k0_hw381.1
theorem k0_idx508_inb : ∀ (v620 : IVec S16 32) (k0_hw381 : k0_chk381 v620), ∀ a x, ((![v620] : Fin 1 → IVec S16 32) a x).toNat < S2048.size a := fun v620 k0_hw381 => k0_hw381.2

def k0_chk382 (v840 : IVec S16 32) : Prop :=
  (∀ a x, ((![v840] : Fin 1 → IVec S16 32) a x).toNat < S32768.size a)
theorem k0_idx509_inb : ∀ (v840 : IVec S16 32) (k0_hw382 : k0_chk382 v840), ∀ a x, ((![v840] : Fin 1 → IVec S16 32) a x).toNat < S32768.size a := fun v840 k0_hw382 => k0_hw382

def k0_chk383 (v624 : IVec S16 32) : Prop :=
  (∀ a x, ((![v624] : Fin 1 → IVec S16 32) a x).toNat < S2048.size a) ∧
  (∀ a x, ((![v624] : Fin 1 → IVec S16 32) a x).toNat < S2048.size a)
theorem k0_idx510_inb : ∀ (v624 : IVec S16 32) (k0_hw383 : k0_chk383 v624), ∀ a x, ((![v624] : Fin 1 → IVec S16 32) a x).toNat < S2048.size a := fun v624 k0_hw383 => k0_hw383.1
theorem k0_idx511_inb : ∀ (v624 : IVec S16 32) (k0_hw383 : k0_chk383 v624), ∀ a x, ((![v624] : Fin 1 → IVec S16 32) a x).toNat < S2048.size a := fun v624 k0_hw383 => k0_hw383.2

def k0_chk384 (v846 : IVec S16 32) : Prop :=
  (∀ a x, ((![v846] : Fin 1 → IVec S16 32) a x).toNat < S32768.size a)
theorem k0_idx512_inb : ∀ (v846 : IVec S16 32) (k0_hw384 : k0_chk384 v846), ∀ a x, ((![v846] : Fin 1 → IVec S16 32) a x).toNat < S32768.size a := fun v846 k0_hw384 => k0_hw384

def k0_chk385 (v857 : IVec S16 32) : Prop :=
  (∀ a x, ((![v857] : Fin 1 → IVec S16 32) a x).toNat < S4096.size a)
theorem k0_idx513_inb : ∀ (v857 : IVec S16 32) (k0_hw385 : k0_chk385 v857), ∀ a x, ((![v857] : Fin 1 → IVec S16 32) a x).toNat < S4096.size a := fun v857 k0_hw385 => k0_hw385

def k0_chk386 (v866 : IVec S16 32) : Prop :=
  (∀ a x, ((![v866] : Fin 1 → IVec S16 32) a x).toNat < S4096.size a)
theorem k0_idx514_inb : ∀ (v866 : IVec S16 32) (k0_hw386 : k0_chk386 v866), ∀ a x, ((![v866] : Fin 1 → IVec S16 32) a x).toNat < S4096.size a := fun v866 k0_hw386 => k0_hw386

def k0_chk387 (v875 : IVec S16 32) : Prop :=
  (∀ a x, ((![v875] : Fin 1 → IVec S16 32) a x).toNat < S4096.size a)
theorem k0_idx515_inb : ∀ (v875 : IVec S16 32) (k0_hw387 : k0_chk387 v875), ∀ a x, ((![v875] : Fin 1 → IVec S16 32) a x).toNat < S4096.size a := fun v875 k0_hw387 => k0_hw387

def k0_chk388 (v884 : IVec S16 32) : Prop :=
  (∀ a x, ((![v884] : Fin 1 → IVec S16 32) a x).toNat < S4096.size a)
theorem k0_idx516_inb : ∀ (v884 : IVec S16 32) (k0_hw388 : k0_chk388 v884), ∀ a x, ((![v884] : Fin 1 → IVec S16 32) a x).toNat < S4096.size a := fun v884 k0_hw388 => k0_hw388

def k0_chk389 (v893 : IVec S16 32) : Prop :=
  (∀ a x, ((![v893] : Fin 1 → IVec S16 32) a x).toNat < S4096.size a)
theorem k0_idx517_inb : ∀ (v893 : IVec S16 32) (k0_hw389 : k0_chk389 v893), ∀ a x, ((![v893] : Fin 1 → IVec S16 32) a x).toNat < S4096.size a := fun v893 k0_hw389 => k0_hw389

def k0_chk390 (v902 : IVec S16 32) : Prop :=
  (∀ a x, ((![v902] : Fin 1 → IVec S16 32) a x).toNat < S4096.size a)
theorem k0_idx518_inb : ∀ (v902 : IVec S16 32) (k0_hw390 : k0_chk390 v902), ∀ a x, ((![v902] : Fin 1 → IVec S16 32) a x).toNat < S4096.size a := fun v902 k0_hw390 => k0_hw390

def k0_chk391 (v911 : IVec S16 32) : Prop :=
  (∀ a x, ((![v911] : Fin 1 → IVec S16 32) a x).toNat < S4096.size a)
theorem k0_idx519_inb : ∀ (v911 : IVec S16 32) (k0_hw391 : k0_chk391 v911), ∀ a x, ((![v911] : Fin 1 → IVec S16 32) a x).toNat < S4096.size a := fun v911 k0_hw391 => k0_hw391

def k0_chk392 (v920 : IVec S16 32) : Prop :=
  (∀ a x, ((![v920] : Fin 1 → IVec S16 32) a x).toNat < S4096.size a)
theorem k0_idx520_inb : ∀ (v920 : IVec S16 32) (k0_hw392 : k0_chk392 v920), ∀ a x, ((![v920] : Fin 1 → IVec S16 32) a x).toNat < S4096.size a := fun v920 k0_hw392 => k0_hw392

def k0_chk393 (v929 : IVec S16 32) : Prop :=
  (∀ a x, ((![v929] : Fin 1 → IVec S16 32) a x).toNat < S4096.size a)
theorem k0_idx521_inb : ∀ (v929 : IVec S16 32) (k0_hw393 : k0_chk393 v929), ∀ a x, ((![v929] : Fin 1 → IVec S16 32) a x).toNat < S4096.size a := fun v929 k0_hw393 => k0_hw393

def k0_chk394 (v938 : IVec S16 32) : Prop :=
  (∀ a x, ((![v938] : Fin 1 → IVec S16 32) a x).toNat < S4096.size a)
theorem k0_idx522_inb : ∀ (v938 : IVec S16 32) (k0_hw394 : k0_chk394 v938), ∀ a x, ((![v938] : Fin 1 → IVec S16 32) a x).toNat < S4096.size a := fun v938 k0_hw394 => k0_hw394

def k0_chk395 (v947 : IVec S16 32) : Prop :=
  (∀ a x, ((![v947] : Fin 1 → IVec S16 32) a x).toNat < S4096.size a)
theorem k0_idx523_inb : ∀ (v947 : IVec S16 32) (k0_hw395 : k0_chk395 v947), ∀ a x, ((![v947] : Fin 1 → IVec S16 32) a x).toNat < S4096.size a := fun v947 k0_hw395 => k0_hw395

def k0_chk396 (v956 : IVec S16 32) : Prop :=
  (∀ a x, ((![v956] : Fin 1 → IVec S16 32) a x).toNat < S4096.size a)
theorem k0_idx524_inb : ∀ (v956 : IVec S16 32) (k0_hw396 : k0_chk396 v956), ∀ a x, ((![v956] : Fin 1 → IVec S16 32) a x).toNat < S4096.size a := fun v956 k0_hw396 => k0_hw396

def k0_chk397 (v965 : IVec S16 32) : Prop :=
  (∀ a x, ((![v965] : Fin 1 → IVec S16 32) a x).toNat < S4096.size a)
theorem k0_idx525_inb : ∀ (v965 : IVec S16 32) (k0_hw397 : k0_chk397 v965), ∀ a x, ((![v965] : Fin 1 → IVec S16 32) a x).toNat < S4096.size a := fun v965 k0_hw397 => k0_hw397

def k0_chk398 (v974 : IVec S16 32) : Prop :=
  (∀ a x, ((![v974] : Fin 1 → IVec S16 32) a x).toNat < S4096.size a)
theorem k0_idx526_inb : ∀ (v974 : IVec S16 32) (k0_hw398 : k0_chk398 v974), ∀ a x, ((![v974] : Fin 1 → IVec S16 32) a x).toNat < S4096.size a := fun v974 k0_hw398 => k0_hw398

def k0_chk399 (v983 : IVec S16 32) : Prop :=
  (∀ a x, ((![v983] : Fin 1 → IVec S16 32) a x).toNat < S4096.size a)
theorem k0_idx527_inb : ∀ (v983 : IVec S16 32) (k0_hw399 : k0_chk399 v983), ∀ a x, ((![v983] : Fin 1 → IVec S16 32) a x).toNat < S4096.size a := fun v983 k0_hw399 => k0_hw399

def k0_chk400 (v992 : IVec S16 32) : Prop :=
  (∀ a x, ((![v992] : Fin 1 → IVec S16 32) a x).toNat < S4096.size a)
theorem k0_idx528_inb : ∀ (v992 : IVec S16 32) (k0_hw400 : k0_chk400 v992), ∀ a x, ((![v992] : Fin 1 → IVec S16 32) a x).toNat < S4096.size a := fun v992 k0_hw400 => k0_hw400

def k0_chk401 (v1001 : IVec S16 32) : Prop :=
  (∀ a x, ((![v1001] : Fin 1 → IVec S16 32) a x).toNat < S4096.size a)
theorem k0_idx529_inb : ∀ (v1001 : IVec S16 32) (k0_hw401 : k0_chk401 v1001), ∀ a x, ((![v1001] : Fin 1 → IVec S16 32) a x).toNat < S4096.size a := fun v1001 k0_hw401 => k0_hw401

def k0_chk402 (v1010 : IVec S16 32) : Prop :=
  (∀ a x, ((![v1010] : Fin 1 → IVec S16 32) a x).toNat < S4096.size a)
theorem k0_idx530_inb : ∀ (v1010 : IVec S16 32) (k0_hw402 : k0_chk402 v1010), ∀ a x, ((![v1010] : Fin 1 → IVec S16 32) a x).toNat < S4096.size a := fun v1010 k0_hw402 => k0_hw402

def k0_chk403 (v1019 : IVec S16 32) : Prop :=
  (∀ a x, ((![v1019] : Fin 1 → IVec S16 32) a x).toNat < S4096.size a)
theorem k0_idx531_inb : ∀ (v1019 : IVec S16 32) (k0_hw403 : k0_chk403 v1019), ∀ a x, ((![v1019] : Fin 1 → IVec S16 32) a x).toNat < S4096.size a := fun v1019 k0_hw403 => k0_hw403

def k0_chk404 (v1028 : IVec S16 32) : Prop :=
  (∀ a x, ((![v1028] : Fin 1 → IVec S16 32) a x).toNat < S4096.size a)
theorem k0_idx532_inb : ∀ (v1028 : IVec S16 32) (k0_hw404 : k0_chk404 v1028), ∀ a x, ((![v1028] : Fin 1 → IVec S16 32) a x).toNat < S4096.size a := fun v1028 k0_hw404 => k0_hw404

def k0_chk405 (v1037 : IVec S16 32) : Prop :=
  (∀ a x, ((![v1037] : Fin 1 → IVec S16 32) a x).toNat < S4096.size a)
theorem k0_idx533_inb : ∀ (v1037 : IVec S16 32) (k0_hw405 : k0_chk405 v1037), ∀ a x, ((![v1037] : Fin 1 → IVec S16 32) a x).toNat < S4096.size a := fun v1037 k0_hw405 => k0_hw405

def k0_chk406 (v1046 : IVec S16 32) : Prop :=
  (∀ a x, ((![v1046] : Fin 1 → IVec S16 32) a x).toNat < S4096.size a)
theorem k0_idx534_inb : ∀ (v1046 : IVec S16 32) (k0_hw406 : k0_chk406 v1046), ∀ a x, ((![v1046] : Fin 1 → IVec S16 32) a x).toNat < S4096.size a := fun v1046 k0_hw406 => k0_hw406

def k0_chk407 (v1055 : IVec S16 32) : Prop :=
  (∀ a x, ((![v1055] : Fin 1 → IVec S16 32) a x).toNat < S4096.size a)
theorem k0_idx535_inb : ∀ (v1055 : IVec S16 32) (k0_hw407 : k0_chk407 v1055), ∀ a x, ((![v1055] : Fin 1 → IVec S16 32) a x).toNat < S4096.size a := fun v1055 k0_hw407 => k0_hw407

def k0_chk408 (v1064 : IVec S16 32) : Prop :=
  (∀ a x, ((![v1064] : Fin 1 → IVec S16 32) a x).toNat < S4096.size a)
theorem k0_idx536_inb : ∀ (v1064 : IVec S16 32) (k0_hw408 : k0_chk408 v1064), ∀ a x, ((![v1064] : Fin 1 → IVec S16 32) a x).toNat < S4096.size a := fun v1064 k0_hw408 => k0_hw408

def k0_chk409 (v1073 : IVec S16 32) : Prop :=
  (∀ a x, ((![v1073] : Fin 1 → IVec S16 32) a x).toNat < S4096.size a)
theorem k0_idx537_inb : ∀ (v1073 : IVec S16 32) (k0_hw409 : k0_chk409 v1073), ∀ a x, ((![v1073] : Fin 1 → IVec S16 32) a x).toNat < S4096.size a := fun v1073 k0_hw409 => k0_hw409

def k0_chk410 (v1082 : IVec S16 32) : Prop :=
  (∀ a x, ((![v1082] : Fin 1 → IVec S16 32) a x).toNat < S4096.size a)
theorem k0_idx538_inb : ∀ (v1082 : IVec S16 32) (k0_hw410 : k0_chk410 v1082), ∀ a x, ((![v1082] : Fin 1 → IVec S16 32) a x).toNat < S4096.size a := fun v1082 k0_hw410 => k0_hw410

def k0_chk411 (v1091 : IVec S16 32) : Prop :=
  (∀ a x, ((![v1091] : Fin 1 → IVec S16 32) a x).toNat < S4096.size a)
theorem k0_idx539_inb : ∀ (v1091 : IVec S16 32) (k0_hw411 : k0_chk411 v1091), ∀ a x, ((![v1091] : Fin 1 → IVec S16 32) a x).toNat < S4096.size a := fun v1091 k0_hw411 => k0_hw411

def k0_chk412 (v1100 : IVec S16 32) : Prop :=
  (∀ a x, ((![v1100] : Fin 1 → IVec S16 32) a x).toNat < S4096.size a)
theorem k0_idx540_inb : ∀ (v1100 : IVec S16 32) (k0_hw412 : k0_chk412 v1100), ∀ a x, ((![v1100] : Fin 1 → IVec S16 32) a x).toNat < S4096.size a := fun v1100 k0_hw412 => k0_hw412

def k0_chk413 (v1109 : IVec S16 32) : Prop :=
  (∀ a x, ((![v1109] : Fin 1 → IVec S16 32) a x).toNat < S4096.size a)
theorem k0_idx541_inb : ∀ (v1109 : IVec S16 32) (k0_hw413 : k0_chk413 v1109), ∀ a x, ((![v1109] : Fin 1 → IVec S16 32) a x).toNat < S4096.size a := fun v1109 k0_hw413 => k0_hw413

def k0_chk414 (v1118 : IVec S16 32) : Prop :=
  (∀ a x, ((![v1118] : Fin 1 → IVec S16 32) a x).toNat < S4096.size a)
theorem k0_idx542_inb : ∀ (v1118 : IVec S16 32) (k0_hw414 : k0_chk414 v1118), ∀ a x, ((![v1118] : Fin 1 → IVec S16 32) a x).toNat < S4096.size a := fun v1118 k0_hw414 => k0_hw414

def k0_chk415 (v1127 : IVec S16 32) : Prop :=
  (∀ a x, ((![v1127] : Fin 1 → IVec S16 32) a x).toNat < S4096.size a)
theorem k0_idx543_inb : ∀ (v1127 : IVec S16 32) (k0_hw415 : k0_chk415 v1127), ∀ a x, ((![v1127] : Fin 1 → IVec S16 32) a x).toNat < S4096.size a := fun v1127 k0_hw415 => k0_hw415

def k0_chk416 (v1136 : IVec S16 32) : Prop :=
  (∀ a x, ((![v1136] : Fin 1 → IVec S16 32) a x).toNat < S4096.size a)
theorem k0_idx544_inb : ∀ (v1136 : IVec S16 32) (k0_hw416 : k0_chk416 v1136), ∀ a x, ((![v1136] : Fin 1 → IVec S16 32) a x).toNat < S4096.size a := fun v1136 k0_hw416 => k0_hw416
@[reducible] def k0_t22_loop : Scf.Loop 32 :=
  let c0_i32_122 : BitVec 32 := 0#32
  let c128_i32_123 : BitVec 32 := 128#32
  let v63 : BitVec 32 := Scalar.addi c0_i32_122 c128_i32_123
  let c1_i32_124 : BitVec 32 := 1#32
  ⟨c0_i32_122, v63, c1_i32_124⟩
def k0_off40 (k0_t22 : Fin k0_t22_loop.trips) : Fin 1 → Nat :=
  let c0_i32_122 : BitVec 32 := 0#32
  let c1_i32_124 : BitVec 32 := 1#32
  let arg15 : BitVec 32 := Scf.iv c0_i32_122 c1_i32_124 k0_t22
  let c16_i32_312 : BitVec 32 := 16#32
  let v146 : BitVec 32 := Scalar.muli arg15 c16_i32_312
  let v147 : Index := Scalar.indexCast v146
  ![v147.toNat]
def k0_off41 (k0_t22 : Fin k0_t22_loop.trips) : Fin 1 → Nat :=
  let c2048_i32 : BitVec 32 := 2048#32
  let c0_i32_122 : BitVec 32 := 0#32
  let c1_i32_124 : BitVec 32 := 1#32
  let arg15 : BitVec 32 := Scf.iv c0_i32_122 c1_i32_124 k0_t22
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off42 (k0_t22 : Fin k0_t22_loop.trips) : Fin 1 → Nat :=
  let c0_i32_122 : BitVec 32 := 0#32
  let c1_i32_124 : BitVec 32 := 1#32
  let arg15 : BitVec 32 := Scf.iv c0_i32_122 c1_i32_124 k0_t22
  let c16_i32 : BitVec 32 := 16#32
  let v145 : BitVec 32 := Scalar.muli arg15 c16_i32
  let v154 : Index := Scalar.indexCast v145
  ![v154.toNat]
@[reducible] def k0_t23_loop : Scf.Loop 32 :=
  let c0_i32_127 : BitVec 32 := 0#32
  let c128_i32_128 : BitVec 32 := 128#32
  let v64 : BitVec 32 := Scalar.addi c0_i32_127 c128_i32_128
  let c1_i32_129 : BitVec 32 := 1#32
  ⟨c0_i32_127, v64, c1_i32_129⟩
def k0_off43 (k0_t23 : Fin k0_t23_loop.trips) : Fin 1 → Nat :=
  let c0_i32_127 : BitVec 32 := 0#32
  let c1_i32_129 : BitVec 32 := 1#32
  let arg15 : BitVec 32 := Scf.iv c0_i32_127 c1_i32_129 k0_t23
  let c16_i32 : BitVec 32 := 16#32
  let v145 : BitVec 32 := Scalar.muli arg15 c16_i32
  let v146 : Index := Scalar.indexCast v145
  ![v146.toNat]
@[reducible] def k0_t24_loop : Scf.Loop 32 :=
  let c0_i32_132 : BitVec 32 := 0#32
  let c128_i32_133 : BitVec 32 := 128#32
  let v66 : BitVec 32 := Scalar.addi c0_i32_132 c128_i32_133
  let c1_i32_134 : BitVec 32 := 1#32
  ⟨c0_i32_132, v66, c1_i32_134⟩
def k0_off44 (k0_t24 : Fin k0_t24_loop.trips) : Fin 1 → Nat :=
  let c0_i32_132 : BitVec 32 := 0#32
  let c1_i32_134 : BitVec 32 := 1#32
  let arg15 : BitVec 32 := Scf.iv c0_i32_132 c1_i32_134 k0_t24
  let c16_i32 : BitVec 32 := 16#32
  let v145 : BitVec 32 := Scalar.muli arg15 c16_i32
  let v146 : Index := Scalar.indexCast v145
  ![v146.toNat]
def k0_off45 (k0_t24 : Fin k0_t24_loop.trips) : Fin 1 → Nat :=
  let c0_i32_132 : BitVec 32 := 0#32
  let c1_i32_134 : BitVec 32 := 1#32
  let arg15 : BitVec 32 := Scf.iv c0_i32_132 c1_i32_134 k0_t24
  let c16_i32_312 : BitVec 32 := 16#32
  let v150 : BitVec 32 := Scalar.muli arg15 c16_i32_312
  let v151 : Index := Scalar.indexCast v150
  ![v151.toNat]
def k0_off46 (k0_t24 : Fin k0_t24_loop.trips) : Fin 1 → Nat :=
  let c2048_i32 : BitVec 32 := 2048#32
  let c0_i32_132 : BitVec 32 := 0#32
  let c1_i32_134 : BitVec 32 := 1#32
  let arg15 : BitVec 32 := Scf.iv c0_i32_132 c1_i32_134 k0_t24
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t25_loop : Scf.Loop 32 :=
  let c0_i32_137 : BitVec 32 := 0#32
  let c64_i32_138 : BitVec 32 := 64#32
  let v67 : BitVec 32 := Scalar.addi c0_i32_137 c64_i32_138
  let c1_i32_139 : BitVec 32 := 1#32
  ⟨c0_i32_137, v67, c1_i32_139⟩
def k0_off47 (k0_t25 : Fin k0_t25_loop.trips) (c0_i32_312 : BitVec 32) (c0_i32_313 : BitVec 32) : Fin 1 → Nat :=
  let c0_i32_137 : BitVec 32 := 0#32
  let c1_i32_139 : BitVec 32 := 1#32
  let arg15 : BitVec 32 := Scf.iv c0_i32_137 c1_i32_139 k0_t25
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk417 (v340 : IVec S16 32) : Prop :=
  (∀ a x, ((![v340] : Fin 1 → IVec S16 32) a x).toNat < S2048.size a) ∧
  (∀ a x, ((![v340] : Fin 1 → IVec S16 32) a x).toNat < S2048.size a)
theorem k0_idx545_inb : ∀ (v340 : IVec S16 32) (k0_hw417 : k0_chk417 v340), ∀ a x, ((![v340] : Fin 1 → IVec S16 32) a x).toNat < S2048.size a := fun v340 k0_hw417 => k0_hw417.1
theorem k0_idx546_inb : ∀ (v340 : IVec S16 32) (k0_hw417 : k0_chk417 v340), ∀ a x, ((![v340] : Fin 1 → IVec S16 32) a x).toNat < S2048.size a := fun v340 k0_hw417 => k0_hw417.2

def k0_chk418 (v500 : IVec S16 32) : Prop :=
  (∀ a x, ((![v500] : Fin 1 → IVec S16 32) a x).toNat < S32768.size a)
theorem k0_idx547_inb : ∀ (v500 : IVec S16 32) (k0_hw418 : k0_chk418 v500), ∀ a x, ((![v500] : Fin 1 → IVec S16 32) a x).toNat < S32768.size a := fun v500 k0_hw418 => k0_hw418

def k0_chk419 (v344 : IVec S16 32) : Prop :=
  (∀ a x, ((![v344] : Fin 1 → IVec S16 32) a x).toNat < S2048.size a) ∧
  (∀ a x, ((![v344] : Fin 1 → IVec S16 32) a x).toNat < S2048.size a)
theorem k0_idx548_inb : ∀ (v344 : IVec S16 32) (k0_hw419 : k0_chk419 v344), ∀ a x, ((![v344] : Fin 1 → IVec S16 32) a x).toNat < S2048.size a := fun v344 k0_hw419 => k0_hw419.1
theorem k0_idx549_inb : ∀ (v344 : IVec S16 32) (k0_hw419 : k0_chk419 v344), ∀ a x, ((![v344] : Fin 1 → IVec S16 32) a x).toNat < S2048.size a := fun v344 k0_hw419 => k0_hw419.2

def k0_chk420 (v506 : IVec S16 32) : Prop :=
  (∀ a x, ((![v506] : Fin 1 → IVec S16 32) a x).toNat < S32768.size a)
theorem k0_idx550_inb : ∀ (v506 : IVec S16 32) (k0_hw420 : k0_chk420 v506), ∀ a x, ((![v506] : Fin 1 → IVec S16 32) a x).toNat < S32768.size a := fun v506 k0_hw420 => k0_hw420

def k0_chk421 (v348 : IVec S16 32) : Prop :=
  (∀ a x, ((![v348] : Fin 1 → IVec S16 32) a x).toNat < S2048.size a) ∧
  (∀ a x, ((![v348] : Fin 1 → IVec S16 32) a x).toNat < S2048.size a)
theorem k0_idx551_inb : ∀ (v348 : IVec S16 32) (k0_hw421 : k0_chk421 v348), ∀ a x, ((![v348] : Fin 1 → IVec S16 32) a x).toNat < S2048.size a := fun v348 k0_hw421 => k0_hw421.1
theorem k0_idx552_inb : ∀ (v348 : IVec S16 32) (k0_hw421 : k0_chk421 v348), ∀ a x, ((![v348] : Fin 1 → IVec S16 32) a x).toNat < S2048.size a := fun v348 k0_hw421 => k0_hw421.2

def k0_chk422 (v512 : IVec S16 32) : Prop :=
  (∀ a x, ((![v512] : Fin 1 → IVec S16 32) a x).toNat < S32768.size a)
theorem k0_idx553_inb : ∀ (v512 : IVec S16 32) (k0_hw422 : k0_chk422 v512), ∀ a x, ((![v512] : Fin 1 → IVec S16 32) a x).toNat < S32768.size a := fun v512 k0_hw422 => k0_hw422

def k0_chk423 (v352 : IVec S16 32) : Prop :=
  (∀ a x, ((![v352] : Fin 1 → IVec S16 32) a x).toNat < S2048.size a) ∧
  (∀ a x, ((![v352] : Fin 1 → IVec S16 32) a x).toNat < S2048.size a)
theorem k0_idx554_inb : ∀ (v352 : IVec S16 32) (k0_hw423 : k0_chk423 v352), ∀ a x, ((![v352] : Fin 1 → IVec S16 32) a x).toNat < S2048.size a := fun v352 k0_hw423 => k0_hw423.1
theorem k0_idx555_inb : ∀ (v352 : IVec S16 32) (k0_hw423 : k0_chk423 v352), ∀ a x, ((![v352] : Fin 1 → IVec S16 32) a x).toNat < S2048.size a := fun v352 k0_hw423 => k0_hw423.2

def k0_chk424 (v518 : IVec S16 32) : Prop :=
  (∀ a x, ((![v518] : Fin 1 → IVec S16 32) a x).toNat < S32768.size a)
theorem k0_idx556_inb : ∀ (v518 : IVec S16 32) (k0_hw424 : k0_chk424 v518), ∀ a x, ((![v518] : Fin 1 → IVec S16 32) a x).toNat < S32768.size a := fun v518 k0_hw424 => k0_hw424

def k0_chk425 (v356 : IVec S16 32) : Prop :=
  (∀ a x, ((![v356] : Fin 1 → IVec S16 32) a x).toNat < S2048.size a) ∧
  (∀ a x, ((![v356] : Fin 1 → IVec S16 32) a x).toNat < S2048.size a)
theorem k0_idx557_inb : ∀ (v356 : IVec S16 32) (k0_hw425 : k0_chk425 v356), ∀ a x, ((![v356] : Fin 1 → IVec S16 32) a x).toNat < S2048.size a := fun v356 k0_hw425 => k0_hw425.1
theorem k0_idx558_inb : ∀ (v356 : IVec S16 32) (k0_hw425 : k0_chk425 v356), ∀ a x, ((![v356] : Fin 1 → IVec S16 32) a x).toNat < S2048.size a := fun v356 k0_hw425 => k0_hw425.2

def k0_chk426 (v524 : IVec S16 32) : Prop :=
  (∀ a x, ((![v524] : Fin 1 → IVec S16 32) a x).toNat < S32768.size a)
theorem k0_idx559_inb : ∀ (v524 : IVec S16 32) (k0_hw426 : k0_chk426 v524), ∀ a x, ((![v524] : Fin 1 → IVec S16 32) a x).toNat < S32768.size a := fun v524 k0_hw426 => k0_hw426

def k0_chk427 (v360 : IVec S16 32) : Prop :=
  (∀ a x, ((![v360] : Fin 1 → IVec S16 32) a x).toNat < S2048.size a) ∧
  (∀ a x, ((![v360] : Fin 1 → IVec S16 32) a x).toNat < S2048.size a)
theorem k0_idx560_inb : ∀ (v360 : IVec S16 32) (k0_hw427 : k0_chk427 v360), ∀ a x, ((![v360] : Fin 1 → IVec S16 32) a x).toNat < S2048.size a := fun v360 k0_hw427 => k0_hw427.1
theorem k0_idx561_inb : ∀ (v360 : IVec S16 32) (k0_hw427 : k0_chk427 v360), ∀ a x, ((![v360] : Fin 1 → IVec S16 32) a x).toNat < S2048.size a := fun v360 k0_hw427 => k0_hw427.2

def k0_chk428 (v530 : IVec S16 32) : Prop :=
  (∀ a x, ((![v530] : Fin 1 → IVec S16 32) a x).toNat < S32768.size a)
theorem k0_idx562_inb : ∀ (v530 : IVec S16 32) (k0_hw428 : k0_chk428 v530), ∀ a x, ((![v530] : Fin 1 → IVec S16 32) a x).toNat < S32768.size a := fun v530 k0_hw428 => k0_hw428

def k0_chk429 (v364 : IVec S16 32) : Prop :=
  (∀ a x, ((![v364] : Fin 1 → IVec S16 32) a x).toNat < S2048.size a) ∧
  (∀ a x, ((![v364] : Fin 1 → IVec S16 32) a x).toNat < S2048.size a)
theorem k0_idx563_inb : ∀ (v364 : IVec S16 32) (k0_hw429 : k0_chk429 v364), ∀ a x, ((![v364] : Fin 1 → IVec S16 32) a x).toNat < S2048.size a := fun v364 k0_hw429 => k0_hw429.1
theorem k0_idx564_inb : ∀ (v364 : IVec S16 32) (k0_hw429 : k0_chk429 v364), ∀ a x, ((![v364] : Fin 1 → IVec S16 32) a x).toNat < S2048.size a := fun v364 k0_hw429 => k0_hw429.2

def k0_chk430 (v536 : IVec S16 32) : Prop :=
  (∀ a x, ((![v536] : Fin 1 → IVec S16 32) a x).toNat < S32768.size a)
theorem k0_idx565_inb : ∀ (v536 : IVec S16 32) (k0_hw430 : k0_chk430 v536), ∀ a x, ((![v536] : Fin 1 → IVec S16 32) a x).toNat < S32768.size a := fun v536 k0_hw430 => k0_hw430

def k0_chk431 (v368 : IVec S16 32) : Prop :=
  (∀ a x, ((![v368] : Fin 1 → IVec S16 32) a x).toNat < S2048.size a) ∧
  (∀ a x, ((![v368] : Fin 1 → IVec S16 32) a x).toNat < S2048.size a)
theorem k0_idx566_inb : ∀ (v368 : IVec S16 32) (k0_hw431 : k0_chk431 v368), ∀ a x, ((![v368] : Fin 1 → IVec S16 32) a x).toNat < S2048.size a := fun v368 k0_hw431 => k0_hw431.1
theorem k0_idx567_inb : ∀ (v368 : IVec S16 32) (k0_hw431 : k0_chk431 v368), ∀ a x, ((![v368] : Fin 1 → IVec S16 32) a x).toNat < S2048.size a := fun v368 k0_hw431 => k0_hw431.2

def k0_chk432 (v542 : IVec S16 32) : Prop :=
  (∀ a x, ((![v542] : Fin 1 → IVec S16 32) a x).toNat < S32768.size a)
theorem k0_idx568_inb : ∀ (v542 : IVec S16 32) (k0_hw432 : k0_chk432 v542), ∀ a x, ((![v542] : Fin 1 → IVec S16 32) a x).toNat < S32768.size a := fun v542 k0_hw432 => k0_hw432

def k0_chk433 (v372 : IVec S16 32) : Prop :=
  (∀ a x, ((![v372] : Fin 1 → IVec S16 32) a x).toNat < S2048.size a) ∧
  (∀ a x, ((![v372] : Fin 1 → IVec S16 32) a x).toNat < S2048.size a)
theorem k0_idx569_inb : ∀ (v372 : IVec S16 32) (k0_hw433 : k0_chk433 v372), ∀ a x, ((![v372] : Fin 1 → IVec S16 32) a x).toNat < S2048.size a := fun v372 k0_hw433 => k0_hw433.1
theorem k0_idx570_inb : ∀ (v372 : IVec S16 32) (k0_hw433 : k0_chk433 v372), ∀ a x, ((![v372] : Fin 1 → IVec S16 32) a x).toNat < S2048.size a := fun v372 k0_hw433 => k0_hw433.2

def k0_chk434 (v548 : IVec S16 32) : Prop :=
  (∀ a x, ((![v548] : Fin 1 → IVec S16 32) a x).toNat < S32768.size a)
theorem k0_idx571_inb : ∀ (v548 : IVec S16 32) (k0_hw434 : k0_chk434 v548), ∀ a x, ((![v548] : Fin 1 → IVec S16 32) a x).toNat < S32768.size a := fun v548 k0_hw434 => k0_hw434

def k0_chk435 (v376 : IVec S16 32) : Prop :=
  (∀ a x, ((![v376] : Fin 1 → IVec S16 32) a x).toNat < S2048.size a) ∧
  (∀ a x, ((![v376] : Fin 1 → IVec S16 32) a x).toNat < S2048.size a)
theorem k0_idx572_inb : ∀ (v376 : IVec S16 32) (k0_hw435 : k0_chk435 v376), ∀ a x, ((![v376] : Fin 1 → IVec S16 32) a x).toNat < S2048.size a := fun v376 k0_hw435 => k0_hw435.1
theorem k0_idx573_inb : ∀ (v376 : IVec S16 32) (k0_hw435 : k0_chk435 v376), ∀ a x, ((![v376] : Fin 1 → IVec S16 32) a x).toNat < S2048.size a := fun v376 k0_hw435 => k0_hw435.2

def k0_chk436 (v554 : IVec S16 32) : Prop :=
  (∀ a x, ((![v554] : Fin 1 → IVec S16 32) a x).toNat < S32768.size a)
theorem k0_idx574_inb : ∀ (v554 : IVec S16 32) (k0_hw436 : k0_chk436 v554), ∀ a x, ((![v554] : Fin 1 → IVec S16 32) a x).toNat < S32768.size a := fun v554 k0_hw436 => k0_hw436

def k0_chk437 (v380 : IVec S16 32) : Prop :=
  (∀ a x, ((![v380] : Fin 1 → IVec S16 32) a x).toNat < S2048.size a) ∧
  (∀ a x, ((![v380] : Fin 1 → IVec S16 32) a x).toNat < S2048.size a)
theorem k0_idx575_inb : ∀ (v380 : IVec S16 32) (k0_hw437 : k0_chk437 v380), ∀ a x, ((![v380] : Fin 1 → IVec S16 32) a x).toNat < S2048.size a := fun v380 k0_hw437 => k0_hw437.1
theorem k0_idx576_inb : ∀ (v380 : IVec S16 32) (k0_hw437 : k0_chk437 v380), ∀ a x, ((![v380] : Fin 1 → IVec S16 32) a x).toNat < S2048.size a := fun v380 k0_hw437 => k0_hw437.2

def k0_chk438 (v560 : IVec S16 32) : Prop :=
  (∀ a x, ((![v560] : Fin 1 → IVec S16 32) a x).toNat < S32768.size a)
theorem k0_idx577_inb : ∀ (v560 : IVec S16 32) (k0_hw438 : k0_chk438 v560), ∀ a x, ((![v560] : Fin 1 → IVec S16 32) a x).toNat < S32768.size a := fun v560 k0_hw438 => k0_hw438

def k0_chk439 (v384 : IVec S16 32) : Prop :=
  (∀ a x, ((![v384] : Fin 1 → IVec S16 32) a x).toNat < S2048.size a) ∧
  (∀ a x, ((![v384] : Fin 1 → IVec S16 32) a x).toNat < S2048.size a)
theorem k0_idx578_inb : ∀ (v384 : IVec S16 32) (k0_hw439 : k0_chk439 v384), ∀ a x, ((![v384] : Fin 1 → IVec S16 32) a x).toNat < S2048.size a := fun v384 k0_hw439 => k0_hw439.1
theorem k0_idx579_inb : ∀ (v384 : IVec S16 32) (k0_hw439 : k0_chk439 v384), ∀ a x, ((![v384] : Fin 1 → IVec S16 32) a x).toNat < S2048.size a := fun v384 k0_hw439 => k0_hw439.2

def k0_chk440 (v566 : IVec S16 32) : Prop :=
  (∀ a x, ((![v566] : Fin 1 → IVec S16 32) a x).toNat < S32768.size a)
theorem k0_idx580_inb : ∀ (v566 : IVec S16 32) (k0_hw440 : k0_chk440 v566), ∀ a x, ((![v566] : Fin 1 → IVec S16 32) a x).toNat < S32768.size a := fun v566 k0_hw440 => k0_hw440

def k0_chk441 (v388 : IVec S16 32) : Prop :=
  (∀ a x, ((![v388] : Fin 1 → IVec S16 32) a x).toNat < S2048.size a) ∧
  (∀ a x, ((![v388] : Fin 1 → IVec S16 32) a x).toNat < S2048.size a)
theorem k0_idx581_inb : ∀ (v388 : IVec S16 32) (k0_hw441 : k0_chk441 v388), ∀ a x, ((![v388] : Fin 1 → IVec S16 32) a x).toNat < S2048.size a := fun v388 k0_hw441 => k0_hw441.1
theorem k0_idx582_inb : ∀ (v388 : IVec S16 32) (k0_hw441 : k0_chk441 v388), ∀ a x, ((![v388] : Fin 1 → IVec S16 32) a x).toNat < S2048.size a := fun v388 k0_hw441 => k0_hw441.2

def k0_chk442 (v572 : IVec S16 32) : Prop :=
  (∀ a x, ((![v572] : Fin 1 → IVec S16 32) a x).toNat < S32768.size a)
theorem k0_idx583_inb : ∀ (v572 : IVec S16 32) (k0_hw442 : k0_chk442 v572), ∀ a x, ((![v572] : Fin 1 → IVec S16 32) a x).toNat < S32768.size a := fun v572 k0_hw442 => k0_hw442

def k0_chk443 (v392 : IVec S16 32) : Prop :=
  (∀ a x, ((![v392] : Fin 1 → IVec S16 32) a x).toNat < S2048.size a) ∧
  (∀ a x, ((![v392] : Fin 1 → IVec S16 32) a x).toNat < S2048.size a)
theorem k0_idx584_inb : ∀ (v392 : IVec S16 32) (k0_hw443 : k0_chk443 v392), ∀ a x, ((![v392] : Fin 1 → IVec S16 32) a x).toNat < S2048.size a := fun v392 k0_hw443 => k0_hw443.1
theorem k0_idx585_inb : ∀ (v392 : IVec S16 32) (k0_hw443 : k0_chk443 v392), ∀ a x, ((![v392] : Fin 1 → IVec S16 32) a x).toNat < S2048.size a := fun v392 k0_hw443 => k0_hw443.2

def k0_chk444 (v578 : IVec S16 32) : Prop :=
  (∀ a x, ((![v578] : Fin 1 → IVec S16 32) a x).toNat < S32768.size a)
theorem k0_idx586_inb : ∀ (v578 : IVec S16 32) (k0_hw444 : k0_chk444 v578), ∀ a x, ((![v578] : Fin 1 → IVec S16 32) a x).toNat < S32768.size a := fun v578 k0_hw444 => k0_hw444

def k0_chk445 (v396 : IVec S16 32) : Prop :=
  (∀ a x, ((![v396] : Fin 1 → IVec S16 32) a x).toNat < S2048.size a) ∧
  (∀ a x, ((![v396] : Fin 1 → IVec S16 32) a x).toNat < S2048.size a)
theorem k0_idx587_inb : ∀ (v396 : IVec S16 32) (k0_hw445 : k0_chk445 v396), ∀ a x, ((![v396] : Fin 1 → IVec S16 32) a x).toNat < S2048.size a := fun v396 k0_hw445 => k0_hw445.1
theorem k0_idx588_inb : ∀ (v396 : IVec S16 32) (k0_hw445 : k0_chk445 v396), ∀ a x, ((![v396] : Fin 1 → IVec S16 32) a x).toNat < S2048.size a := fun v396 k0_hw445 => k0_hw445.2

def k0_chk446 (v584 : IVec S16 32) : Prop :=
  (∀ a x, ((![v584] : Fin 1 → IVec S16 32) a x).toNat < S32768.size a)
theorem k0_idx589_inb : ∀ (v584 : IVec S16 32) (k0_hw446 : k0_chk446 v584), ∀ a x, ((![v584] : Fin 1 → IVec S16 32) a x).toNat < S32768.size a := fun v584 k0_hw446 => k0_hw446

def k0_chk447 (v400 : IVec S16 32) : Prop :=
  (∀ a x, ((![v400] : Fin 1 → IVec S16 32) a x).toNat < S2048.size a) ∧
  (∀ a x, ((![v400] : Fin 1 → IVec S16 32) a x).toNat < S2048.size a)
theorem k0_idx590_inb : ∀ (v400 : IVec S16 32) (k0_hw447 : k0_chk447 v400), ∀ a x, ((![v400] : Fin 1 → IVec S16 32) a x).toNat < S2048.size a := fun v400 k0_hw447 => k0_hw447.1
theorem k0_idx591_inb : ∀ (v400 : IVec S16 32) (k0_hw447 : k0_chk447 v400), ∀ a x, ((![v400] : Fin 1 → IVec S16 32) a x).toNat < S2048.size a := fun v400 k0_hw447 => k0_hw447.2

def k0_chk448 (v590 : IVec S16 32) : Prop :=
  (∀ a x, ((![v590] : Fin 1 → IVec S16 32) a x).toNat < S32768.size a)
theorem k0_idx592_inb : ∀ (v590 : IVec S16 32) (k0_hw448 : k0_chk448 v590), ∀ a x, ((![v590] : Fin 1 → IVec S16 32) a x).toNat < S32768.size a := fun v590 k0_hw448 => k0_hw448

def k0_chk449 (v404 : IVec S16 32) : Prop :=
  (∀ a x, ((![v404] : Fin 1 → IVec S16 32) a x).toNat < S2048.size a) ∧
  (∀ a x, ((![v404] : Fin 1 → IVec S16 32) a x).toNat < S2048.size a)
theorem k0_idx593_inb : ∀ (v404 : IVec S16 32) (k0_hw449 : k0_chk449 v404), ∀ a x, ((![v404] : Fin 1 → IVec S16 32) a x).toNat < S2048.size a := fun v404 k0_hw449 => k0_hw449.1
theorem k0_idx594_inb : ∀ (v404 : IVec S16 32) (k0_hw449 : k0_chk449 v404), ∀ a x, ((![v404] : Fin 1 → IVec S16 32) a x).toNat < S2048.size a := fun v404 k0_hw449 => k0_hw449.2

def k0_chk450 (v596 : IVec S16 32) : Prop :=
  (∀ a x, ((![v596] : Fin 1 → IVec S16 32) a x).toNat < S32768.size a)
theorem k0_idx595_inb : ∀ (v596 : IVec S16 32) (k0_hw450 : k0_chk450 v596), ∀ a x, ((![v596] : Fin 1 → IVec S16 32) a x).toNat < S32768.size a := fun v596 k0_hw450 => k0_hw450

def k0_chk451 (v408 : IVec S16 32) : Prop :=
  (∀ a x, ((![v408] : Fin 1 → IVec S16 32) a x).toNat < S2048.size a) ∧
  (∀ a x, ((![v408] : Fin 1 → IVec S16 32) a x).toNat < S2048.size a)
theorem k0_idx596_inb : ∀ (v408 : IVec S16 32) (k0_hw451 : k0_chk451 v408), ∀ a x, ((![v408] : Fin 1 → IVec S16 32) a x).toNat < S2048.size a := fun v408 k0_hw451 => k0_hw451.1
theorem k0_idx597_inb : ∀ (v408 : IVec S16 32) (k0_hw451 : k0_chk451 v408), ∀ a x, ((![v408] : Fin 1 → IVec S16 32) a x).toNat < S2048.size a := fun v408 k0_hw451 => k0_hw451.2

def k0_chk452 (v602 : IVec S16 32) : Prop :=
  (∀ a x, ((![v602] : Fin 1 → IVec S16 32) a x).toNat < S32768.size a)
theorem k0_idx598_inb : ∀ (v602 : IVec S16 32) (k0_hw452 : k0_chk452 v602), ∀ a x, ((![v602] : Fin 1 → IVec S16 32) a x).toNat < S32768.size a := fun v602 k0_hw452 => k0_hw452

def k0_chk453 (v412 : IVec S16 32) : Prop :=
  (∀ a x, ((![v412] : Fin 1 → IVec S16 32) a x).toNat < S2048.size a) ∧
  (∀ a x, ((![v412] : Fin 1 → IVec S16 32) a x).toNat < S2048.size a)
theorem k0_idx599_inb : ∀ (v412 : IVec S16 32) (k0_hw453 : k0_chk453 v412), ∀ a x, ((![v412] : Fin 1 → IVec S16 32) a x).toNat < S2048.size a := fun v412 k0_hw453 => k0_hw453.1
theorem k0_idx600_inb : ∀ (v412 : IVec S16 32) (k0_hw453 : k0_chk453 v412), ∀ a x, ((![v412] : Fin 1 → IVec S16 32) a x).toNat < S2048.size a := fun v412 k0_hw453 => k0_hw453.2

def k0_chk454 (v608 : IVec S16 32) : Prop :=
  (∀ a x, ((![v608] : Fin 1 → IVec S16 32) a x).toNat < S32768.size a)
theorem k0_idx601_inb : ∀ (v608 : IVec S16 32) (k0_hw454 : k0_chk454 v608), ∀ a x, ((![v608] : Fin 1 → IVec S16 32) a x).toNat < S32768.size a := fun v608 k0_hw454 => k0_hw454

def k0_chk455 (v416 : IVec S16 32) : Prop :=
  (∀ a x, ((![v416] : Fin 1 → IVec S16 32) a x).toNat < S2048.size a) ∧
  (∀ a x, ((![v416] : Fin 1 → IVec S16 32) a x).toNat < S2048.size a)
theorem k0_idx602_inb : ∀ (v416 : IVec S16 32) (k0_hw455 : k0_chk455 v416), ∀ a x, ((![v416] : Fin 1 → IVec S16 32) a x).toNat < S2048.size a := fun v416 k0_hw455 => k0_hw455.1
theorem k0_idx603_inb : ∀ (v416 : IVec S16 32) (k0_hw455 : k0_chk455 v416), ∀ a x, ((![v416] : Fin 1 → IVec S16 32) a x).toNat < S2048.size a := fun v416 k0_hw455 => k0_hw455.2

def k0_chk456 (v614 : IVec S16 32) : Prop :=
  (∀ a x, ((![v614] : Fin 1 → IVec S16 32) a x).toNat < S32768.size a)
theorem k0_idx604_inb : ∀ (v614 : IVec S16 32) (k0_hw456 : k0_chk456 v614), ∀ a x, ((![v614] : Fin 1 → IVec S16 32) a x).toNat < S32768.size a := fun v614 k0_hw456 => k0_hw456

def k0_chk457 (v420 : IVec S16 32) : Prop :=
  (∀ a x, ((![v420] : Fin 1 → IVec S16 32) a x).toNat < S2048.size a) ∧
  (∀ a x, ((![v420] : Fin 1 → IVec S16 32) a x).toNat < S2048.size a)
theorem k0_idx605_inb : ∀ (v420 : IVec S16 32) (k0_hw457 : k0_chk457 v420), ∀ a x, ((![v420] : Fin 1 → IVec S16 32) a x).toNat < S2048.size a := fun v420 k0_hw457 => k0_hw457.1
theorem k0_idx606_inb : ∀ (v420 : IVec S16 32) (k0_hw457 : k0_chk457 v420), ∀ a x, ((![v420] : Fin 1 → IVec S16 32) a x).toNat < S2048.size a := fun v420 k0_hw457 => k0_hw457.2

def k0_chk458 (v620 : IVec S16 32) : Prop :=
  (∀ a x, ((![v620] : Fin 1 → IVec S16 32) a x).toNat < S32768.size a)
theorem k0_idx607_inb : ∀ (v620 : IVec S16 32) (k0_hw458 : k0_chk458 v620), ∀ a x, ((![v620] : Fin 1 → IVec S16 32) a x).toNat < S32768.size a := fun v620 k0_hw458 => k0_hw458

def k0_chk459 (v424 : IVec S16 32) : Prop :=
  (∀ a x, ((![v424] : Fin 1 → IVec S16 32) a x).toNat < S2048.size a) ∧
  (∀ a x, ((![v424] : Fin 1 → IVec S16 32) a x).toNat < S2048.size a)
theorem k0_idx608_inb : ∀ (v424 : IVec S16 32) (k0_hw459 : k0_chk459 v424), ∀ a x, ((![v424] : Fin 1 → IVec S16 32) a x).toNat < S2048.size a := fun v424 k0_hw459 => k0_hw459.1
theorem k0_idx609_inb : ∀ (v424 : IVec S16 32) (k0_hw459 : k0_chk459 v424), ∀ a x, ((![v424] : Fin 1 → IVec S16 32) a x).toNat < S2048.size a := fun v424 k0_hw459 => k0_hw459.2

def k0_chk460 (v626 : IVec S16 32) : Prop :=
  (∀ a x, ((![v626] : Fin 1 → IVec S16 32) a x).toNat < S32768.size a)
theorem k0_idx610_inb : ∀ (v626 : IVec S16 32) (k0_hw460 : k0_chk460 v626), ∀ a x, ((![v626] : Fin 1 → IVec S16 32) a x).toNat < S32768.size a := fun v626 k0_hw460 => k0_hw460

def k0_chk461 (v428 : IVec S16 32) : Prop :=
  (∀ a x, ((![v428] : Fin 1 → IVec S16 32) a x).toNat < S2048.size a) ∧
  (∀ a x, ((![v428] : Fin 1 → IVec S16 32) a x).toNat < S2048.size a)
theorem k0_idx611_inb : ∀ (v428 : IVec S16 32) (k0_hw461 : k0_chk461 v428), ∀ a x, ((![v428] : Fin 1 → IVec S16 32) a x).toNat < S2048.size a := fun v428 k0_hw461 => k0_hw461.1
theorem k0_idx612_inb : ∀ (v428 : IVec S16 32) (k0_hw461 : k0_chk461 v428), ∀ a x, ((![v428] : Fin 1 → IVec S16 32) a x).toNat < S2048.size a := fun v428 k0_hw461 => k0_hw461.2

def k0_chk462 (v632 : IVec S16 32) : Prop :=
  (∀ a x, ((![v632] : Fin 1 → IVec S16 32) a x).toNat < S32768.size a)
theorem k0_idx613_inb : ∀ (v632 : IVec S16 32) (k0_hw462 : k0_chk462 v632), ∀ a x, ((![v632] : Fin 1 → IVec S16 32) a x).toNat < S32768.size a := fun v632 k0_hw462 => k0_hw462

def k0_chk463 (v432 : IVec S16 32) : Prop :=
  (∀ a x, ((![v432] : Fin 1 → IVec S16 32) a x).toNat < S2048.size a) ∧
  (∀ a x, ((![v432] : Fin 1 → IVec S16 32) a x).toNat < S2048.size a)
theorem k0_idx614_inb : ∀ (v432 : IVec S16 32) (k0_hw463 : k0_chk463 v432), ∀ a x, ((![v432] : Fin 1 → IVec S16 32) a x).toNat < S2048.size a := fun v432 k0_hw463 => k0_hw463.1
theorem k0_idx615_inb : ∀ (v432 : IVec S16 32) (k0_hw463 : k0_chk463 v432), ∀ a x, ((![v432] : Fin 1 → IVec S16 32) a x).toNat < S2048.size a := fun v432 k0_hw463 => k0_hw463.2

def k0_chk464 (v638 : IVec S16 32) : Prop :=
  (∀ a x, ((![v638] : Fin 1 → IVec S16 32) a x).toNat < S32768.size a)
theorem k0_idx616_inb : ∀ (v638 : IVec S16 32) (k0_hw464 : k0_chk464 v638), ∀ a x, ((![v638] : Fin 1 → IVec S16 32) a x).toNat < S32768.size a := fun v638 k0_hw464 => k0_hw464

def k0_chk465 (v436 : IVec S16 32) : Prop :=
  (∀ a x, ((![v436] : Fin 1 → IVec S16 32) a x).toNat < S2048.size a) ∧
  (∀ a x, ((![v436] : Fin 1 → IVec S16 32) a x).toNat < S2048.size a)
theorem k0_idx617_inb : ∀ (v436 : IVec S16 32) (k0_hw465 : k0_chk465 v436), ∀ a x, ((![v436] : Fin 1 → IVec S16 32) a x).toNat < S2048.size a := fun v436 k0_hw465 => k0_hw465.1
theorem k0_idx618_inb : ∀ (v436 : IVec S16 32) (k0_hw465 : k0_chk465 v436), ∀ a x, ((![v436] : Fin 1 → IVec S16 32) a x).toNat < S2048.size a := fun v436 k0_hw465 => k0_hw465.2

def k0_chk466 (v644 : IVec S16 32) : Prop :=
  (∀ a x, ((![v644] : Fin 1 → IVec S16 32) a x).toNat < S32768.size a)
theorem k0_idx619_inb : ∀ (v644 : IVec S16 32) (k0_hw466 : k0_chk466 v644), ∀ a x, ((![v644] : Fin 1 → IVec S16 32) a x).toNat < S32768.size a := fun v644 k0_hw466 => k0_hw466

def k0_chk467 (v440 : IVec S16 32) : Prop :=
  (∀ a x, ((![v440] : Fin 1 → IVec S16 32) a x).toNat < S2048.size a) ∧
  (∀ a x, ((![v440] : Fin 1 → IVec S16 32) a x).toNat < S2048.size a)
theorem k0_idx620_inb : ∀ (v440 : IVec S16 32) (k0_hw467 : k0_chk467 v440), ∀ a x, ((![v440] : Fin 1 → IVec S16 32) a x).toNat < S2048.size a := fun v440 k0_hw467 => k0_hw467.1
theorem k0_idx621_inb : ∀ (v440 : IVec S16 32) (k0_hw467 : k0_chk467 v440), ∀ a x, ((![v440] : Fin 1 → IVec S16 32) a x).toNat < S2048.size a := fun v440 k0_hw467 => k0_hw467.2

def k0_chk468 (v650 : IVec S16 32) : Prop :=
  (∀ a x, ((![v650] : Fin 1 → IVec S16 32) a x).toNat < S32768.size a)
theorem k0_idx622_inb : ∀ (v650 : IVec S16 32) (k0_hw468 : k0_chk468 v650), ∀ a x, ((![v650] : Fin 1 → IVec S16 32) a x).toNat < S32768.size a := fun v650 k0_hw468 => k0_hw468

def k0_chk469 (v444 : IVec S16 32) : Prop :=
  (∀ a x, ((![v444] : Fin 1 → IVec S16 32) a x).toNat < S2048.size a) ∧
  (∀ a x, ((![v444] : Fin 1 → IVec S16 32) a x).toNat < S2048.size a)
theorem k0_idx623_inb : ∀ (v444 : IVec S16 32) (k0_hw469 : k0_chk469 v444), ∀ a x, ((![v444] : Fin 1 → IVec S16 32) a x).toNat < S2048.size a := fun v444 k0_hw469 => k0_hw469.1
theorem k0_idx624_inb : ∀ (v444 : IVec S16 32) (k0_hw469 : k0_chk469 v444), ∀ a x, ((![v444] : Fin 1 → IVec S16 32) a x).toNat < S2048.size a := fun v444 k0_hw469 => k0_hw469.2

def k0_chk470 (v656 : IVec S16 32) : Prop :=
  (∀ a x, ((![v656] : Fin 1 → IVec S16 32) a x).toNat < S32768.size a)
theorem k0_idx625_inb : ∀ (v656 : IVec S16 32) (k0_hw470 : k0_chk470 v656), ∀ a x, ((![v656] : Fin 1 → IVec S16 32) a x).toNat < S32768.size a := fun v656 k0_hw470 => k0_hw470

def k0_chk471 (v448 : IVec S16 32) : Prop :=
  (∀ a x, ((![v448] : Fin 1 → IVec S16 32) a x).toNat < S2048.size a) ∧
  (∀ a x, ((![v448] : Fin 1 → IVec S16 32) a x).toNat < S2048.size a)
theorem k0_idx626_inb : ∀ (v448 : IVec S16 32) (k0_hw471 : k0_chk471 v448), ∀ a x, ((![v448] : Fin 1 → IVec S16 32) a x).toNat < S2048.size a := fun v448 k0_hw471 => k0_hw471.1
theorem k0_idx627_inb : ∀ (v448 : IVec S16 32) (k0_hw471 : k0_chk471 v448), ∀ a x, ((![v448] : Fin 1 → IVec S16 32) a x).toNat < S2048.size a := fun v448 k0_hw471 => k0_hw471.2

def k0_chk472 (v662 : IVec S16 32) : Prop :=
  (∀ a x, ((![v662] : Fin 1 → IVec S16 32) a x).toNat < S32768.size a)
theorem k0_idx628_inb : ∀ (v662 : IVec S16 32) (k0_hw472 : k0_chk472 v662), ∀ a x, ((![v662] : Fin 1 → IVec S16 32) a x).toNat < S32768.size a := fun v662 k0_hw472 => k0_hw472

def k0_chk473 (v452 : IVec S16 32) : Prop :=
  (∀ a x, ((![v452] : Fin 1 → IVec S16 32) a x).toNat < S2048.size a) ∧
  (∀ a x, ((![v452] : Fin 1 → IVec S16 32) a x).toNat < S2048.size a)
theorem k0_idx629_inb : ∀ (v452 : IVec S16 32) (k0_hw473 : k0_chk473 v452), ∀ a x, ((![v452] : Fin 1 → IVec S16 32) a x).toNat < S2048.size a := fun v452 k0_hw473 => k0_hw473.1
theorem k0_idx630_inb : ∀ (v452 : IVec S16 32) (k0_hw473 : k0_chk473 v452), ∀ a x, ((![v452] : Fin 1 → IVec S16 32) a x).toNat < S2048.size a := fun v452 k0_hw473 => k0_hw473.2

def k0_chk474 (v668 : IVec S16 32) : Prop :=
  (∀ a x, ((![v668] : Fin 1 → IVec S16 32) a x).toNat < S32768.size a)
theorem k0_idx631_inb : ∀ (v668 : IVec S16 32) (k0_hw474 : k0_chk474 v668), ∀ a x, ((![v668] : Fin 1 → IVec S16 32) a x).toNat < S32768.size a := fun v668 k0_hw474 => k0_hw474

def k0_chk475 (v456 : IVec S16 32) : Prop :=
  (∀ a x, ((![v456] : Fin 1 → IVec S16 32) a x).toNat < S2048.size a) ∧
  (∀ a x, ((![v456] : Fin 1 → IVec S16 32) a x).toNat < S2048.size a)
theorem k0_idx632_inb : ∀ (v456 : IVec S16 32) (k0_hw475 : k0_chk475 v456), ∀ a x, ((![v456] : Fin 1 → IVec S16 32) a x).toNat < S2048.size a := fun v456 k0_hw475 => k0_hw475.1
theorem k0_idx633_inb : ∀ (v456 : IVec S16 32) (k0_hw475 : k0_chk475 v456), ∀ a x, ((![v456] : Fin 1 → IVec S16 32) a x).toNat < S2048.size a := fun v456 k0_hw475 => k0_hw475.2

def k0_chk476 (v674 : IVec S16 32) : Prop :=
  (∀ a x, ((![v674] : Fin 1 → IVec S16 32) a x).toNat < S32768.size a)
theorem k0_idx634_inb : ∀ (v674 : IVec S16 32) (k0_hw476 : k0_chk476 v674), ∀ a x, ((![v674] : Fin 1 → IVec S16 32) a x).toNat < S32768.size a := fun v674 k0_hw476 => k0_hw476

def k0_chk477 (v460 : IVec S16 32) : Prop :=
  (∀ a x, ((![v460] : Fin 1 → IVec S16 32) a x).toNat < S2048.size a) ∧
  (∀ a x, ((![v460] : Fin 1 → IVec S16 32) a x).toNat < S2048.size a)
theorem k0_idx635_inb : ∀ (v460 : IVec S16 32) (k0_hw477 : k0_chk477 v460), ∀ a x, ((![v460] : Fin 1 → IVec S16 32) a x).toNat < S2048.size a := fun v460 k0_hw477 => k0_hw477.1
theorem k0_idx636_inb : ∀ (v460 : IVec S16 32) (k0_hw477 : k0_chk477 v460), ∀ a x, ((![v460] : Fin 1 → IVec S16 32) a x).toNat < S2048.size a := fun v460 k0_hw477 => k0_hw477.2

def k0_chk478 (v680 : IVec S16 32) : Prop :=
  (∀ a x, ((![v680] : Fin 1 → IVec S16 32) a x).toNat < S32768.size a)
theorem k0_idx637_inb : ∀ (v680 : IVec S16 32) (k0_hw478 : k0_chk478 v680), ∀ a x, ((![v680] : Fin 1 → IVec S16 32) a x).toNat < S32768.size a := fun v680 k0_hw478 => k0_hw478

def k0_chk479 (v464 : IVec S16 32) : Prop :=
  (∀ a x, ((![v464] : Fin 1 → IVec S16 32) a x).toNat < S2048.size a) ∧
  (∀ a x, ((![v464] : Fin 1 → IVec S16 32) a x).toNat < S2048.size a)
theorem k0_idx638_inb : ∀ (v464 : IVec S16 32) (k0_hw479 : k0_chk479 v464), ∀ a x, ((![v464] : Fin 1 → IVec S16 32) a x).toNat < S2048.size a := fun v464 k0_hw479 => k0_hw479.1
theorem k0_idx639_inb : ∀ (v464 : IVec S16 32) (k0_hw479 : k0_chk479 v464), ∀ a x, ((![v464] : Fin 1 → IVec S16 32) a x).toNat < S2048.size a := fun v464 k0_hw479 => k0_hw479.2

def k0_chk480 (v686 : IVec S16 32) : Prop :=
  (∀ a x, ((![v686] : Fin 1 → IVec S16 32) a x).toNat < S32768.size a)
theorem k0_idx640_inb : ∀ (v686 : IVec S16 32) (k0_hw480 : k0_chk480 v686), ∀ a x, ((![v686] : Fin 1 → IVec S16 32) a x).toNat < S32768.size a := fun v686 k0_hw480 => k0_hw480

def k0_chk481 (v697 : IVec S16 32) : Prop :=
  (∀ a x, ((![v697] : Fin 1 → IVec S16 32) a x).toNat < S4096.size a)
theorem k0_idx641_inb : ∀ (v697 : IVec S16 32) (k0_hw481 : k0_chk481 v697), ∀ a x, ((![v697] : Fin 1 → IVec S16 32) a x).toNat < S4096.size a := fun v697 k0_hw481 => k0_hw481

def k0_chk482 (v706 : IVec S16 32) : Prop :=
  (∀ a x, ((![v706] : Fin 1 → IVec S16 32) a x).toNat < S4096.size a)
theorem k0_idx642_inb : ∀ (v706 : IVec S16 32) (k0_hw482 : k0_chk482 v706), ∀ a x, ((![v706] : Fin 1 → IVec S16 32) a x).toNat < S4096.size a := fun v706 k0_hw482 => k0_hw482

def k0_chk483 (v715 : IVec S16 32) : Prop :=
  (∀ a x, ((![v715] : Fin 1 → IVec S16 32) a x).toNat < S4096.size a)
theorem k0_idx643_inb : ∀ (v715 : IVec S16 32) (k0_hw483 : k0_chk483 v715), ∀ a x, ((![v715] : Fin 1 → IVec S16 32) a x).toNat < S4096.size a := fun v715 k0_hw483 => k0_hw483

def k0_chk484 (v724 : IVec S16 32) : Prop :=
  (∀ a x, ((![v724] : Fin 1 → IVec S16 32) a x).toNat < S4096.size a)
theorem k0_idx644_inb : ∀ (v724 : IVec S16 32) (k0_hw484 : k0_chk484 v724), ∀ a x, ((![v724] : Fin 1 → IVec S16 32) a x).toNat < S4096.size a := fun v724 k0_hw484 => k0_hw484

def k0_chk485 (v733 : IVec S16 32) : Prop :=
  (∀ a x, ((![v733] : Fin 1 → IVec S16 32) a x).toNat < S4096.size a)
theorem k0_idx645_inb : ∀ (v733 : IVec S16 32) (k0_hw485 : k0_chk485 v733), ∀ a x, ((![v733] : Fin 1 → IVec S16 32) a x).toNat < S4096.size a := fun v733 k0_hw485 => k0_hw485

def k0_chk486 (v742 : IVec S16 32) : Prop :=
  (∀ a x, ((![v742] : Fin 1 → IVec S16 32) a x).toNat < S4096.size a)
theorem k0_idx646_inb : ∀ (v742 : IVec S16 32) (k0_hw486 : k0_chk486 v742), ∀ a x, ((![v742] : Fin 1 → IVec S16 32) a x).toNat < S4096.size a := fun v742 k0_hw486 => k0_hw486

def k0_chk487 (v751 : IVec S16 32) : Prop :=
  (∀ a x, ((![v751] : Fin 1 → IVec S16 32) a x).toNat < S4096.size a)
theorem k0_idx647_inb : ∀ (v751 : IVec S16 32) (k0_hw487 : k0_chk487 v751), ∀ a x, ((![v751] : Fin 1 → IVec S16 32) a x).toNat < S4096.size a := fun v751 k0_hw487 => k0_hw487

def k0_chk488 (v760 : IVec S16 32) : Prop :=
  (∀ a x, ((![v760] : Fin 1 → IVec S16 32) a x).toNat < S4096.size a)
theorem k0_idx648_inb : ∀ (v760 : IVec S16 32) (k0_hw488 : k0_chk488 v760), ∀ a x, ((![v760] : Fin 1 → IVec S16 32) a x).toNat < S4096.size a := fun v760 k0_hw488 => k0_hw488

def k0_chk489 (v769 : IVec S16 32) : Prop :=
  (∀ a x, ((![v769] : Fin 1 → IVec S16 32) a x).toNat < S4096.size a)
theorem k0_idx649_inb : ∀ (v769 : IVec S16 32) (k0_hw489 : k0_chk489 v769), ∀ a x, ((![v769] : Fin 1 → IVec S16 32) a x).toNat < S4096.size a := fun v769 k0_hw489 => k0_hw489

def k0_chk490 (v778 : IVec S16 32) : Prop :=
  (∀ a x, ((![v778] : Fin 1 → IVec S16 32) a x).toNat < S4096.size a)
theorem k0_idx650_inb : ∀ (v778 : IVec S16 32) (k0_hw490 : k0_chk490 v778), ∀ a x, ((![v778] : Fin 1 → IVec S16 32) a x).toNat < S4096.size a := fun v778 k0_hw490 => k0_hw490

def k0_chk491 (v787 : IVec S16 32) : Prop :=
  (∀ a x, ((![v787] : Fin 1 → IVec S16 32) a x).toNat < S4096.size a)
theorem k0_idx651_inb : ∀ (v787 : IVec S16 32) (k0_hw491 : k0_chk491 v787), ∀ a x, ((![v787] : Fin 1 → IVec S16 32) a x).toNat < S4096.size a := fun v787 k0_hw491 => k0_hw491

def k0_chk492 (v796 : IVec S16 32) : Prop :=
  (∀ a x, ((![v796] : Fin 1 → IVec S16 32) a x).toNat < S4096.size a)
theorem k0_idx652_inb : ∀ (v796 : IVec S16 32) (k0_hw492 : k0_chk492 v796), ∀ a x, ((![v796] : Fin 1 → IVec S16 32) a x).toNat < S4096.size a := fun v796 k0_hw492 => k0_hw492

def k0_chk493 (v805 : IVec S16 32) : Prop :=
  (∀ a x, ((![v805] : Fin 1 → IVec S16 32) a x).toNat < S4096.size a)
theorem k0_idx653_inb : ∀ (v805 : IVec S16 32) (k0_hw493 : k0_chk493 v805), ∀ a x, ((![v805] : Fin 1 → IVec S16 32) a x).toNat < S4096.size a := fun v805 k0_hw493 => k0_hw493

def k0_chk494 (v814 : IVec S16 32) : Prop :=
  (∀ a x, ((![v814] : Fin 1 → IVec S16 32) a x).toNat < S4096.size a)
theorem k0_idx654_inb : ∀ (v814 : IVec S16 32) (k0_hw494 : k0_chk494 v814), ∀ a x, ((![v814] : Fin 1 → IVec S16 32) a x).toNat < S4096.size a := fun v814 k0_hw494 => k0_hw494

def k0_chk495 (v823 : IVec S16 32) : Prop :=
  (∀ a x, ((![v823] : Fin 1 → IVec S16 32) a x).toNat < S4096.size a)
theorem k0_idx655_inb : ∀ (v823 : IVec S16 32) (k0_hw495 : k0_chk495 v823), ∀ a x, ((![v823] : Fin 1 → IVec S16 32) a x).toNat < S4096.size a := fun v823 k0_hw495 => k0_hw495

def k0_chk496 (v832 : IVec S16 32) : Prop :=
  (∀ a x, ((![v832] : Fin 1 → IVec S16 32) a x).toNat < S4096.size a)
theorem k0_idx656_inb : ∀ (v832 : IVec S16 32) (k0_hw496 : k0_chk496 v832), ∀ a x, ((![v832] : Fin 1 → IVec S16 32) a x).toNat < S4096.size a := fun v832 k0_hw496 => k0_hw496

def k0_chk497 (v841 : IVec S16 32) : Prop :=
  (∀ a x, ((![v841] : Fin 1 → IVec S16 32) a x).toNat < S4096.size a)
theorem k0_idx657_inb : ∀ (v841 : IVec S16 32) (k0_hw497 : k0_chk497 v841), ∀ a x, ((![v841] : Fin 1 → IVec S16 32) a x).toNat < S4096.size a := fun v841 k0_hw497 => k0_hw497

def k0_chk498 (v850 : IVec S16 32) : Prop :=
  (∀ a x, ((![v850] : Fin 1 → IVec S16 32) a x).toNat < S4096.size a)
theorem k0_idx658_inb : ∀ (v850 : IVec S16 32) (k0_hw498 : k0_chk498 v850), ∀ a x, ((![v850] : Fin 1 → IVec S16 32) a x).toNat < S4096.size a := fun v850 k0_hw498 => k0_hw498

def k0_chk499 (v859 : IVec S16 32) : Prop :=
  (∀ a x, ((![v859] : Fin 1 → IVec S16 32) a x).toNat < S4096.size a)
theorem k0_idx659_inb : ∀ (v859 : IVec S16 32) (k0_hw499 : k0_chk499 v859), ∀ a x, ((![v859] : Fin 1 → IVec S16 32) a x).toNat < S4096.size a := fun v859 k0_hw499 => k0_hw499

def k0_chk500 (v868 : IVec S16 32) : Prop :=
  (∀ a x, ((![v868] : Fin 1 → IVec S16 32) a x).toNat < S4096.size a)
theorem k0_idx660_inb : ∀ (v868 : IVec S16 32) (k0_hw500 : k0_chk500 v868), ∀ a x, ((![v868] : Fin 1 → IVec S16 32) a x).toNat < S4096.size a := fun v868 k0_hw500 => k0_hw500

def k0_chk501 (v877 : IVec S16 32) : Prop :=
  (∀ a x, ((![v877] : Fin 1 → IVec S16 32) a x).toNat < S4096.size a)
theorem k0_idx661_inb : ∀ (v877 : IVec S16 32) (k0_hw501 : k0_chk501 v877), ∀ a x, ((![v877] : Fin 1 → IVec S16 32) a x).toNat < S4096.size a := fun v877 k0_hw501 => k0_hw501

def k0_chk502 (v886 : IVec S16 32) : Prop :=
  (∀ a x, ((![v886] : Fin 1 → IVec S16 32) a x).toNat < S4096.size a)
theorem k0_idx662_inb : ∀ (v886 : IVec S16 32) (k0_hw502 : k0_chk502 v886), ∀ a x, ((![v886] : Fin 1 → IVec S16 32) a x).toNat < S4096.size a := fun v886 k0_hw502 => k0_hw502

def k0_chk503 (v895 : IVec S16 32) : Prop :=
  (∀ a x, ((![v895] : Fin 1 → IVec S16 32) a x).toNat < S4096.size a)
theorem k0_idx663_inb : ∀ (v895 : IVec S16 32) (k0_hw503 : k0_chk503 v895), ∀ a x, ((![v895] : Fin 1 → IVec S16 32) a x).toNat < S4096.size a := fun v895 k0_hw503 => k0_hw503

def k0_chk504 (v904 : IVec S16 32) : Prop :=
  (∀ a x, ((![v904] : Fin 1 → IVec S16 32) a x).toNat < S4096.size a)
theorem k0_idx664_inb : ∀ (v904 : IVec S16 32) (k0_hw504 : k0_chk504 v904), ∀ a x, ((![v904] : Fin 1 → IVec S16 32) a x).toNat < S4096.size a := fun v904 k0_hw504 => k0_hw504

def k0_chk505 (v913 : IVec S16 32) : Prop :=
  (∀ a x, ((![v913] : Fin 1 → IVec S16 32) a x).toNat < S4096.size a)
theorem k0_idx665_inb : ∀ (v913 : IVec S16 32) (k0_hw505 : k0_chk505 v913), ∀ a x, ((![v913] : Fin 1 → IVec S16 32) a x).toNat < S4096.size a := fun v913 k0_hw505 => k0_hw505

def k0_chk506 (v922 : IVec S16 32) : Prop :=
  (∀ a x, ((![v922] : Fin 1 → IVec S16 32) a x).toNat < S4096.size a)
theorem k0_idx666_inb : ∀ (v922 : IVec S16 32) (k0_hw506 : k0_chk506 v922), ∀ a x, ((![v922] : Fin 1 → IVec S16 32) a x).toNat < S4096.size a := fun v922 k0_hw506 => k0_hw506

def k0_chk507 (v931 : IVec S16 32) : Prop :=
  (∀ a x, ((![v931] : Fin 1 → IVec S16 32) a x).toNat < S4096.size a)
theorem k0_idx667_inb : ∀ (v931 : IVec S16 32) (k0_hw507 : k0_chk507 v931), ∀ a x, ((![v931] : Fin 1 → IVec S16 32) a x).toNat < S4096.size a := fun v931 k0_hw507 => k0_hw507

def k0_chk508 (v940 : IVec S16 32) : Prop :=
  (∀ a x, ((![v940] : Fin 1 → IVec S16 32) a x).toNat < S4096.size a)
theorem k0_idx668_inb : ∀ (v940 : IVec S16 32) (k0_hw508 : k0_chk508 v940), ∀ a x, ((![v940] : Fin 1 → IVec S16 32) a x).toNat < S4096.size a := fun v940 k0_hw508 => k0_hw508

def k0_chk509 (v949 : IVec S16 32) : Prop :=
  (∀ a x, ((![v949] : Fin 1 → IVec S16 32) a x).toNat < S4096.size a)
theorem k0_idx669_inb : ∀ (v949 : IVec S16 32) (k0_hw509 : k0_chk509 v949), ∀ a x, ((![v949] : Fin 1 → IVec S16 32) a x).toNat < S4096.size a := fun v949 k0_hw509 => k0_hw509

def k0_chk510 (v958 : IVec S16 32) : Prop :=
  (∀ a x, ((![v958] : Fin 1 → IVec S16 32) a x).toNat < S4096.size a)
theorem k0_idx670_inb : ∀ (v958 : IVec S16 32) (k0_hw510 : k0_chk510 v958), ∀ a x, ((![v958] : Fin 1 → IVec S16 32) a x).toNat < S4096.size a := fun v958 k0_hw510 => k0_hw510

def k0_chk511 (v967 : IVec S16 32) : Prop :=
  (∀ a x, ((![v967] : Fin 1 → IVec S16 32) a x).toNat < S4096.size a)
theorem k0_idx671_inb : ∀ (v967 : IVec S16 32) (k0_hw511 : k0_chk511 v967), ∀ a x, ((![v967] : Fin 1 → IVec S16 32) a x).toNat < S4096.size a := fun v967 k0_hw511 => k0_hw511

def k0_chk512 (v976 : IVec S16 32) : Prop :=
  (∀ a x, ((![v976] : Fin 1 → IVec S16 32) a x).toNat < S4096.size a)
theorem k0_idx672_inb : ∀ (v976 : IVec S16 32) (k0_hw512 : k0_chk512 v976), ∀ a x, ((![v976] : Fin 1 → IVec S16 32) a x).toNat < S4096.size a := fun v976 k0_hw512 => k0_hw512
@[reducible] def k0_t26_loop : Scf.Loop 32 :=
  let c0_i32_142 : BitVec 32 := 0#32
  let c64_i32_143 : BitVec 32 := 64#32
  let v68 : BitVec 32 := Scalar.addi c0_i32_142 c64_i32_143
  let c1_i32_144 : BitVec 32 := 1#32
  ⟨c0_i32_142, v68, c1_i32_144⟩
def k0_off48 (k0_t26 : Fin k0_t26_loop.trips) : Fin 1 → Nat :=
  let c0_i32_142 : BitVec 32 := 0#32
  let c1_i32_144 : BitVec 32 := 1#32
  let arg15 : BitVec 32 := Scf.iv c0_i32_142 c1_i32_144 k0_t26
  let c16_i32_312 : BitVec 32 := 16#32
  let v146 : BitVec 32 := Scalar.muli arg15 c16_i32_312
  let v147 : Index := Scalar.indexCast v146
  ![v147.toNat]
def k0_off49 (k0_t26 : Fin k0_t26_loop.trips) : Fin 1 → Nat :=
  let c2048_i32 : BitVec 32 := 2048#32
  let c0_i32_142 : BitVec 32 := 0#32
  let c1_i32_144 : BitVec 32 := 1#32
  let arg15 : BitVec 32 := Scf.iv c0_i32_142 c1_i32_144 k0_t26
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off50 (k0_t26 : Fin k0_t26_loop.trips) : Fin 1 → Nat :=
  let c0_i32_142 : BitVec 32 := 0#32
  let c1_i32_144 : BitVec 32 := 1#32
  let arg15 : BitVec 32 := Scf.iv c0_i32_142 c1_i32_144 k0_t26
  let c16_i32 : BitVec 32 := 16#32
  let v145 : BitVec 32 := Scalar.muli arg15 c16_i32
  let v154 : Index := Scalar.indexCast v145
  ![v154.toNat]
@[reducible] def k0_t27_loop : Scf.Loop 32 :=
  let c0_i32_147 : BitVec 32 := 0#32
  let c64_i32_148 : BitVec 32 := 64#32
  let v69 : BitVec 32 := Scalar.addi c0_i32_147 c64_i32_148
  let c1_i32_149 : BitVec 32 := 1#32
  ⟨c0_i32_147, v69, c1_i32_149⟩
def k0_off51 (k0_t27 : Fin k0_t27_loop.trips) : Fin 1 → Nat :=
  let c0_i32_147 : BitVec 32 := 0#32
  let c1_i32_149 : BitVec 32 := 1#32
  let arg15 : BitVec 32 := Scf.iv c0_i32_147 c1_i32_149 k0_t27
  let c16_i32 : BitVec 32 := 16#32
  let v145 : BitVec 32 := Scalar.muli arg15 c16_i32
  let v146 : Index := Scalar.indexCast v145
  ![v146.toNat]
@[reducible] def k0_t28_loop : Scf.Loop 32 :=
  let c0_i32_152 : BitVec 32 := 0#32
  let c64_i32_153 : BitVec 32 := 64#32
  let v71 : BitVec 32 := Scalar.addi c0_i32_152 c64_i32_153
  let c1_i32_154 : BitVec 32 := 1#32
  ⟨c0_i32_152, v71, c1_i32_154⟩
def k0_off52 (k0_t28 : Fin k0_t28_loop.trips) : Fin 1 → Nat :=
  let c0_i32_152 : BitVec 32 := 0#32
  let c1_i32_154 : BitVec 32 := 1#32
  let arg15 : BitVec 32 := Scf.iv c0_i32_152 c1_i32_154 k0_t28
  let c16_i32 : BitVec 32 := 16#32
  let v145 : BitVec 32 := Scalar.muli arg15 c16_i32
  let v146 : Index := Scalar.indexCast v145
  ![v146.toNat]
def k0_off53 (k0_t28 : Fin k0_t28_loop.trips) : Fin 1 → Nat :=
  let c0_i32_152 : BitVec 32 := 0#32
  let c1_i32_154 : BitVec 32 := 1#32
  let arg15 : BitVec 32 := Scf.iv c0_i32_152 c1_i32_154 k0_t28
  let c16_i32_312 : BitVec 32 := 16#32
  let v150 : BitVec 32 := Scalar.muli arg15 c16_i32_312
  let v151 : Index := Scalar.indexCast v150
  ![v151.toNat]
def k0_off54 (k0_t28 : Fin k0_t28_loop.trips) : Fin 1 → Nat :=
  let c2048_i32 : BitVec 32 := 2048#32
  let c0_i32_152 : BitVec 32 := 0#32
  let c1_i32_154 : BitVec 32 := 1#32
  let arg15 : BitVec 32 := Scf.iv c0_i32_152 c1_i32_154 k0_t28
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t29_loop : Scf.Loop 32 :=
  let c0_i32_157 : BitVec 32 := 0#32
  let c64_i32_158 : BitVec 32 := 64#32
  let v72 : BitVec 32 := Scalar.addi c0_i32_157 c64_i32_158
  let c1_i32_159 : BitVec 32 := 1#32
  ⟨c0_i32_157, v72, c1_i32_159⟩
def k0_off55 (k0_t29 : Fin k0_t29_loop.trips) (c0_i32_312 : BitVec 32) (c0_i32_313 : BitVec 32) : Fin 1 → Nat :=
  let c0_i32_157 : BitVec 32 := 0#32
  let c1_i32_159 : BitVec 32 := 1#32
  let arg15 : BitVec 32 := Scf.iv c0_i32_157 c1_i32_159 k0_t29
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk513 (v340 : IVec S16 32) : Prop :=
  (∀ a x, ((![v340] : Fin 1 → IVec S16 32) a x).toNat < S2048.size a) ∧
  (∀ a x, ((![v340] : Fin 1 → IVec S16 32) a x).toNat < S2048.size a)
theorem k0_idx673_inb : ∀ (v340 : IVec S16 32) (k0_hw513 : k0_chk513 v340), ∀ a x, ((![v340] : Fin 1 → IVec S16 32) a x).toNat < S2048.size a := fun v340 k0_hw513 => k0_hw513.1
theorem k0_idx674_inb : ∀ (v340 : IVec S16 32) (k0_hw513 : k0_chk513 v340), ∀ a x, ((![v340] : Fin 1 → IVec S16 32) a x).toNat < S2048.size a := fun v340 k0_hw513 => k0_hw513.2

def k0_chk514 (v692 : IVec S16 32) : Prop :=
  (∀ a x, ((![v692] : Fin 1 → IVec S16 32) a x).toNat < S32768.size a)
theorem k0_idx675_inb : ∀ (v692 : IVec S16 32) (k0_hw514 : k0_chk514 v692), ∀ a x, ((![v692] : Fin 1 → IVec S16 32) a x).toNat < S32768.size a := fun v692 k0_hw514 => k0_hw514

def k0_chk515 (v344 : IVec S16 32) : Prop :=
  (∀ a x, ((![v344] : Fin 1 → IVec S16 32) a x).toNat < S2048.size a) ∧
  (∀ a x, ((![v344] : Fin 1 → IVec S16 32) a x).toNat < S2048.size a)
theorem k0_idx676_inb : ∀ (v344 : IVec S16 32) (k0_hw515 : k0_chk515 v344), ∀ a x, ((![v344] : Fin 1 → IVec S16 32) a x).toNat < S2048.size a := fun v344 k0_hw515 => k0_hw515.1
theorem k0_idx677_inb : ∀ (v344 : IVec S16 32) (k0_hw515 : k0_chk515 v344), ∀ a x, ((![v344] : Fin 1 → IVec S16 32) a x).toNat < S2048.size a := fun v344 k0_hw515 => k0_hw515.2

def k0_chk516 (v698 : IVec S16 32) : Prop :=
  (∀ a x, ((![v698] : Fin 1 → IVec S16 32) a x).toNat < S32768.size a)
theorem k0_idx678_inb : ∀ (v698 : IVec S16 32) (k0_hw516 : k0_chk516 v698), ∀ a x, ((![v698] : Fin 1 → IVec S16 32) a x).toNat < S32768.size a := fun v698 k0_hw516 => k0_hw516

def k0_chk517 (v348 : IVec S16 32) : Prop :=
  (∀ a x, ((![v348] : Fin 1 → IVec S16 32) a x).toNat < S2048.size a) ∧
  (∀ a x, ((![v348] : Fin 1 → IVec S16 32) a x).toNat < S2048.size a)
theorem k0_idx679_inb : ∀ (v348 : IVec S16 32) (k0_hw517 : k0_chk517 v348), ∀ a x, ((![v348] : Fin 1 → IVec S16 32) a x).toNat < S2048.size a := fun v348 k0_hw517 => k0_hw517.1
theorem k0_idx680_inb : ∀ (v348 : IVec S16 32) (k0_hw517 : k0_chk517 v348), ∀ a x, ((![v348] : Fin 1 → IVec S16 32) a x).toNat < S2048.size a := fun v348 k0_hw517 => k0_hw517.2

def k0_chk518 (v704 : IVec S16 32) : Prop :=
  (∀ a x, ((![v704] : Fin 1 → IVec S16 32) a x).toNat < S32768.size a)
theorem k0_idx681_inb : ∀ (v704 : IVec S16 32) (k0_hw518 : k0_chk518 v704), ∀ a x, ((![v704] : Fin 1 → IVec S16 32) a x).toNat < S32768.size a := fun v704 k0_hw518 => k0_hw518

def k0_chk519 (v352 : IVec S16 32) : Prop :=
  (∀ a x, ((![v352] : Fin 1 → IVec S16 32) a x).toNat < S2048.size a) ∧
  (∀ a x, ((![v352] : Fin 1 → IVec S16 32) a x).toNat < S2048.size a)
theorem k0_idx682_inb : ∀ (v352 : IVec S16 32) (k0_hw519 : k0_chk519 v352), ∀ a x, ((![v352] : Fin 1 → IVec S16 32) a x).toNat < S2048.size a := fun v352 k0_hw519 => k0_hw519.1
theorem k0_idx683_inb : ∀ (v352 : IVec S16 32) (k0_hw519 : k0_chk519 v352), ∀ a x, ((![v352] : Fin 1 → IVec S16 32) a x).toNat < S2048.size a := fun v352 k0_hw519 => k0_hw519.2

def k0_chk520 (v710 : IVec S16 32) : Prop :=
  (∀ a x, ((![v710] : Fin 1 → IVec S16 32) a x).toNat < S32768.size a)
theorem k0_idx684_inb : ∀ (v710 : IVec S16 32) (k0_hw520 : k0_chk520 v710), ∀ a x, ((![v710] : Fin 1 → IVec S16 32) a x).toNat < S32768.size a := fun v710 k0_hw520 => k0_hw520

def k0_chk521 (v356 : IVec S16 32) : Prop :=
  (∀ a x, ((![v356] : Fin 1 → IVec S16 32) a x).toNat < S2048.size a) ∧
  (∀ a x, ((![v356] : Fin 1 → IVec S16 32) a x).toNat < S2048.size a)
theorem k0_idx685_inb : ∀ (v356 : IVec S16 32) (k0_hw521 : k0_chk521 v356), ∀ a x, ((![v356] : Fin 1 → IVec S16 32) a x).toNat < S2048.size a := fun v356 k0_hw521 => k0_hw521.1
theorem k0_idx686_inb : ∀ (v356 : IVec S16 32) (k0_hw521 : k0_chk521 v356), ∀ a x, ((![v356] : Fin 1 → IVec S16 32) a x).toNat < S2048.size a := fun v356 k0_hw521 => k0_hw521.2

def k0_chk522 (v716 : IVec S16 32) : Prop :=
  (∀ a x, ((![v716] : Fin 1 → IVec S16 32) a x).toNat < S32768.size a)
theorem k0_idx687_inb : ∀ (v716 : IVec S16 32) (k0_hw522 : k0_chk522 v716), ∀ a x, ((![v716] : Fin 1 → IVec S16 32) a x).toNat < S32768.size a := fun v716 k0_hw522 => k0_hw522

def k0_chk523 (v360 : IVec S16 32) : Prop :=
  (∀ a x, ((![v360] : Fin 1 → IVec S16 32) a x).toNat < S2048.size a) ∧
  (∀ a x, ((![v360] : Fin 1 → IVec S16 32) a x).toNat < S2048.size a)
theorem k0_idx688_inb : ∀ (v360 : IVec S16 32) (k0_hw523 : k0_chk523 v360), ∀ a x, ((![v360] : Fin 1 → IVec S16 32) a x).toNat < S2048.size a := fun v360 k0_hw523 => k0_hw523.1
theorem k0_idx689_inb : ∀ (v360 : IVec S16 32) (k0_hw523 : k0_chk523 v360), ∀ a x, ((![v360] : Fin 1 → IVec S16 32) a x).toNat < S2048.size a := fun v360 k0_hw523 => k0_hw523.2

def k0_chk524 (v722 : IVec S16 32) : Prop :=
  (∀ a x, ((![v722] : Fin 1 → IVec S16 32) a x).toNat < S32768.size a)
theorem k0_idx690_inb : ∀ (v722 : IVec S16 32) (k0_hw524 : k0_chk524 v722), ∀ a x, ((![v722] : Fin 1 → IVec S16 32) a x).toNat < S32768.size a := fun v722 k0_hw524 => k0_hw524

def k0_chk525 (v364 : IVec S16 32) : Prop :=
  (∀ a x, ((![v364] : Fin 1 → IVec S16 32) a x).toNat < S2048.size a) ∧
  (∀ a x, ((![v364] : Fin 1 → IVec S16 32) a x).toNat < S2048.size a)
theorem k0_idx691_inb : ∀ (v364 : IVec S16 32) (k0_hw525 : k0_chk525 v364), ∀ a x, ((![v364] : Fin 1 → IVec S16 32) a x).toNat < S2048.size a := fun v364 k0_hw525 => k0_hw525.1
theorem k0_idx692_inb : ∀ (v364 : IVec S16 32) (k0_hw525 : k0_chk525 v364), ∀ a x, ((![v364] : Fin 1 → IVec S16 32) a x).toNat < S2048.size a := fun v364 k0_hw525 => k0_hw525.2

def k0_chk526 (v728 : IVec S16 32) : Prop :=
  (∀ a x, ((![v728] : Fin 1 → IVec S16 32) a x).toNat < S32768.size a)
theorem k0_idx693_inb : ∀ (v728 : IVec S16 32) (k0_hw526 : k0_chk526 v728), ∀ a x, ((![v728] : Fin 1 → IVec S16 32) a x).toNat < S32768.size a := fun v728 k0_hw526 => k0_hw526

def k0_chk527 (v368 : IVec S16 32) : Prop :=
  (∀ a x, ((![v368] : Fin 1 → IVec S16 32) a x).toNat < S2048.size a) ∧
  (∀ a x, ((![v368] : Fin 1 → IVec S16 32) a x).toNat < S2048.size a)
theorem k0_idx694_inb : ∀ (v368 : IVec S16 32) (k0_hw527 : k0_chk527 v368), ∀ a x, ((![v368] : Fin 1 → IVec S16 32) a x).toNat < S2048.size a := fun v368 k0_hw527 => k0_hw527.1
theorem k0_idx695_inb : ∀ (v368 : IVec S16 32) (k0_hw527 : k0_chk527 v368), ∀ a x, ((![v368] : Fin 1 → IVec S16 32) a x).toNat < S2048.size a := fun v368 k0_hw527 => k0_hw527.2

def k0_chk528 (v734 : IVec S16 32) : Prop :=
  (∀ a x, ((![v734] : Fin 1 → IVec S16 32) a x).toNat < S32768.size a)
theorem k0_idx696_inb : ∀ (v734 : IVec S16 32) (k0_hw528 : k0_chk528 v734), ∀ a x, ((![v734] : Fin 1 → IVec S16 32) a x).toNat < S32768.size a := fun v734 k0_hw528 => k0_hw528

def k0_chk529 (v372 : IVec S16 32) : Prop :=
  (∀ a x, ((![v372] : Fin 1 → IVec S16 32) a x).toNat < S2048.size a) ∧
  (∀ a x, ((![v372] : Fin 1 → IVec S16 32) a x).toNat < S2048.size a)
theorem k0_idx697_inb : ∀ (v372 : IVec S16 32) (k0_hw529 : k0_chk529 v372), ∀ a x, ((![v372] : Fin 1 → IVec S16 32) a x).toNat < S2048.size a := fun v372 k0_hw529 => k0_hw529.1
theorem k0_idx698_inb : ∀ (v372 : IVec S16 32) (k0_hw529 : k0_chk529 v372), ∀ a x, ((![v372] : Fin 1 → IVec S16 32) a x).toNat < S2048.size a := fun v372 k0_hw529 => k0_hw529.2

def k0_chk530 (v740 : IVec S16 32) : Prop :=
  (∀ a x, ((![v740] : Fin 1 → IVec S16 32) a x).toNat < S32768.size a)
theorem k0_idx699_inb : ∀ (v740 : IVec S16 32) (k0_hw530 : k0_chk530 v740), ∀ a x, ((![v740] : Fin 1 → IVec S16 32) a x).toNat < S32768.size a := fun v740 k0_hw530 => k0_hw530

def k0_chk531 (v376 : IVec S16 32) : Prop :=
  (∀ a x, ((![v376] : Fin 1 → IVec S16 32) a x).toNat < S2048.size a) ∧
  (∀ a x, ((![v376] : Fin 1 → IVec S16 32) a x).toNat < S2048.size a)
theorem k0_idx700_inb : ∀ (v376 : IVec S16 32) (k0_hw531 : k0_chk531 v376), ∀ a x, ((![v376] : Fin 1 → IVec S16 32) a x).toNat < S2048.size a := fun v376 k0_hw531 => k0_hw531.1
theorem k0_idx701_inb : ∀ (v376 : IVec S16 32) (k0_hw531 : k0_chk531 v376), ∀ a x, ((![v376] : Fin 1 → IVec S16 32) a x).toNat < S2048.size a := fun v376 k0_hw531 => k0_hw531.2

def k0_chk532 (v746 : IVec S16 32) : Prop :=
  (∀ a x, ((![v746] : Fin 1 → IVec S16 32) a x).toNat < S32768.size a)
theorem k0_idx702_inb : ∀ (v746 : IVec S16 32) (k0_hw532 : k0_chk532 v746), ∀ a x, ((![v746] : Fin 1 → IVec S16 32) a x).toNat < S32768.size a := fun v746 k0_hw532 => k0_hw532

def k0_chk533 (v380 : IVec S16 32) : Prop :=
  (∀ a x, ((![v380] : Fin 1 → IVec S16 32) a x).toNat < S2048.size a) ∧
  (∀ a x, ((![v380] : Fin 1 → IVec S16 32) a x).toNat < S2048.size a)
theorem k0_idx703_inb : ∀ (v380 : IVec S16 32) (k0_hw533 : k0_chk533 v380), ∀ a x, ((![v380] : Fin 1 → IVec S16 32) a x).toNat < S2048.size a := fun v380 k0_hw533 => k0_hw533.1
theorem k0_idx704_inb : ∀ (v380 : IVec S16 32) (k0_hw533 : k0_chk533 v380), ∀ a x, ((![v380] : Fin 1 → IVec S16 32) a x).toNat < S2048.size a := fun v380 k0_hw533 => k0_hw533.2

def k0_chk534 (v752 : IVec S16 32) : Prop :=
  (∀ a x, ((![v752] : Fin 1 → IVec S16 32) a x).toNat < S32768.size a)
theorem k0_idx705_inb : ∀ (v752 : IVec S16 32) (k0_hw534 : k0_chk534 v752), ∀ a x, ((![v752] : Fin 1 → IVec S16 32) a x).toNat < S32768.size a := fun v752 k0_hw534 => k0_hw534

def k0_chk535 (v384 : IVec S16 32) : Prop :=
  (∀ a x, ((![v384] : Fin 1 → IVec S16 32) a x).toNat < S2048.size a) ∧
  (∀ a x, ((![v384] : Fin 1 → IVec S16 32) a x).toNat < S2048.size a)
theorem k0_idx706_inb : ∀ (v384 : IVec S16 32) (k0_hw535 : k0_chk535 v384), ∀ a x, ((![v384] : Fin 1 → IVec S16 32) a x).toNat < S2048.size a := fun v384 k0_hw535 => k0_hw535.1
theorem k0_idx707_inb : ∀ (v384 : IVec S16 32) (k0_hw535 : k0_chk535 v384), ∀ a x, ((![v384] : Fin 1 → IVec S16 32) a x).toNat < S2048.size a := fun v384 k0_hw535 => k0_hw535.2

def k0_chk536 (v758 : IVec S16 32) : Prop :=
  (∀ a x, ((![v758] : Fin 1 → IVec S16 32) a x).toNat < S32768.size a)
theorem k0_idx708_inb : ∀ (v758 : IVec S16 32) (k0_hw536 : k0_chk536 v758), ∀ a x, ((![v758] : Fin 1 → IVec S16 32) a x).toNat < S32768.size a := fun v758 k0_hw536 => k0_hw536

def k0_chk537 (v388 : IVec S16 32) : Prop :=
  (∀ a x, ((![v388] : Fin 1 → IVec S16 32) a x).toNat < S2048.size a) ∧
  (∀ a x, ((![v388] : Fin 1 → IVec S16 32) a x).toNat < S2048.size a)
theorem k0_idx709_inb : ∀ (v388 : IVec S16 32) (k0_hw537 : k0_chk537 v388), ∀ a x, ((![v388] : Fin 1 → IVec S16 32) a x).toNat < S2048.size a := fun v388 k0_hw537 => k0_hw537.1
theorem k0_idx710_inb : ∀ (v388 : IVec S16 32) (k0_hw537 : k0_chk537 v388), ∀ a x, ((![v388] : Fin 1 → IVec S16 32) a x).toNat < S2048.size a := fun v388 k0_hw537 => k0_hw537.2

def k0_chk538 (v764 : IVec S16 32) : Prop :=
  (∀ a x, ((![v764] : Fin 1 → IVec S16 32) a x).toNat < S32768.size a)
theorem k0_idx711_inb : ∀ (v764 : IVec S16 32) (k0_hw538 : k0_chk538 v764), ∀ a x, ((![v764] : Fin 1 → IVec S16 32) a x).toNat < S32768.size a := fun v764 k0_hw538 => k0_hw538

def k0_chk539 (v392 : IVec S16 32) : Prop :=
  (∀ a x, ((![v392] : Fin 1 → IVec S16 32) a x).toNat < S2048.size a) ∧
  (∀ a x, ((![v392] : Fin 1 → IVec S16 32) a x).toNat < S2048.size a)
theorem k0_idx712_inb : ∀ (v392 : IVec S16 32) (k0_hw539 : k0_chk539 v392), ∀ a x, ((![v392] : Fin 1 → IVec S16 32) a x).toNat < S2048.size a := fun v392 k0_hw539 => k0_hw539.1
theorem k0_idx713_inb : ∀ (v392 : IVec S16 32) (k0_hw539 : k0_chk539 v392), ∀ a x, ((![v392] : Fin 1 → IVec S16 32) a x).toNat < S2048.size a := fun v392 k0_hw539 => k0_hw539.2

def k0_chk540 (v770 : IVec S16 32) : Prop :=
  (∀ a x, ((![v770] : Fin 1 → IVec S16 32) a x).toNat < S32768.size a)
theorem k0_idx714_inb : ∀ (v770 : IVec S16 32) (k0_hw540 : k0_chk540 v770), ∀ a x, ((![v770] : Fin 1 → IVec S16 32) a x).toNat < S32768.size a := fun v770 k0_hw540 => k0_hw540

def k0_chk541 (v396 : IVec S16 32) : Prop :=
  (∀ a x, ((![v396] : Fin 1 → IVec S16 32) a x).toNat < S2048.size a) ∧
  (∀ a x, ((![v396] : Fin 1 → IVec S16 32) a x).toNat < S2048.size a)
theorem k0_idx715_inb : ∀ (v396 : IVec S16 32) (k0_hw541 : k0_chk541 v396), ∀ a x, ((![v396] : Fin 1 → IVec S16 32) a x).toNat < S2048.size a := fun v396 k0_hw541 => k0_hw541.1
theorem k0_idx716_inb : ∀ (v396 : IVec S16 32) (k0_hw541 : k0_chk541 v396), ∀ a x, ((![v396] : Fin 1 → IVec S16 32) a x).toNat < S2048.size a := fun v396 k0_hw541 => k0_hw541.2

def k0_chk542 (v776 : IVec S16 32) : Prop :=
  (∀ a x, ((![v776] : Fin 1 → IVec S16 32) a x).toNat < S32768.size a)
theorem k0_idx717_inb : ∀ (v776 : IVec S16 32) (k0_hw542 : k0_chk542 v776), ∀ a x, ((![v776] : Fin 1 → IVec S16 32) a x).toNat < S32768.size a := fun v776 k0_hw542 => k0_hw542

def k0_chk543 (v400 : IVec S16 32) : Prop :=
  (∀ a x, ((![v400] : Fin 1 → IVec S16 32) a x).toNat < S2048.size a) ∧
  (∀ a x, ((![v400] : Fin 1 → IVec S16 32) a x).toNat < S2048.size a)
theorem k0_idx718_inb : ∀ (v400 : IVec S16 32) (k0_hw543 : k0_chk543 v400), ∀ a x, ((![v400] : Fin 1 → IVec S16 32) a x).toNat < S2048.size a := fun v400 k0_hw543 => k0_hw543.1
theorem k0_idx719_inb : ∀ (v400 : IVec S16 32) (k0_hw543 : k0_chk543 v400), ∀ a x, ((![v400] : Fin 1 → IVec S16 32) a x).toNat < S2048.size a := fun v400 k0_hw543 => k0_hw543.2

def k0_chk544 (v782 : IVec S16 32) : Prop :=
  (∀ a x, ((![v782] : Fin 1 → IVec S16 32) a x).toNat < S32768.size a)
theorem k0_idx720_inb : ∀ (v782 : IVec S16 32) (k0_hw544 : k0_chk544 v782), ∀ a x, ((![v782] : Fin 1 → IVec S16 32) a x).toNat < S32768.size a := fun v782 k0_hw544 => k0_hw544

def k0_chk545 (v404 : IVec S16 32) : Prop :=
  (∀ a x, ((![v404] : Fin 1 → IVec S16 32) a x).toNat < S2048.size a) ∧
  (∀ a x, ((![v404] : Fin 1 → IVec S16 32) a x).toNat < S2048.size a)
theorem k0_idx721_inb : ∀ (v404 : IVec S16 32) (k0_hw545 : k0_chk545 v404), ∀ a x, ((![v404] : Fin 1 → IVec S16 32) a x).toNat < S2048.size a := fun v404 k0_hw545 => k0_hw545.1
theorem k0_idx722_inb : ∀ (v404 : IVec S16 32) (k0_hw545 : k0_chk545 v404), ∀ a x, ((![v404] : Fin 1 → IVec S16 32) a x).toNat < S2048.size a := fun v404 k0_hw545 => k0_hw545.2

def k0_chk546 (v788 : IVec S16 32) : Prop :=
  (∀ a x, ((![v788] : Fin 1 → IVec S16 32) a x).toNat < S32768.size a)
theorem k0_idx723_inb : ∀ (v788 : IVec S16 32) (k0_hw546 : k0_chk546 v788), ∀ a x, ((![v788] : Fin 1 → IVec S16 32) a x).toNat < S32768.size a := fun v788 k0_hw546 => k0_hw546

def k0_chk547 (v408 : IVec S16 32) : Prop :=
  (∀ a x, ((![v408] : Fin 1 → IVec S16 32) a x).toNat < S2048.size a) ∧
  (∀ a x, ((![v408] : Fin 1 → IVec S16 32) a x).toNat < S2048.size a)
theorem k0_idx724_inb : ∀ (v408 : IVec S16 32) (k0_hw547 : k0_chk547 v408), ∀ a x, ((![v408] : Fin 1 → IVec S16 32) a x).toNat < S2048.size a := fun v408 k0_hw547 => k0_hw547.1
theorem k0_idx725_inb : ∀ (v408 : IVec S16 32) (k0_hw547 : k0_chk547 v408), ∀ a x, ((![v408] : Fin 1 → IVec S16 32) a x).toNat < S2048.size a := fun v408 k0_hw547 => k0_hw547.2

def k0_chk548 (v794 : IVec S16 32) : Prop :=
  (∀ a x, ((![v794] : Fin 1 → IVec S16 32) a x).toNat < S32768.size a)
theorem k0_idx726_inb : ∀ (v794 : IVec S16 32) (k0_hw548 : k0_chk548 v794), ∀ a x, ((![v794] : Fin 1 → IVec S16 32) a x).toNat < S32768.size a := fun v794 k0_hw548 => k0_hw548

def k0_chk549 (v412 : IVec S16 32) : Prop :=
  (∀ a x, ((![v412] : Fin 1 → IVec S16 32) a x).toNat < S2048.size a) ∧
  (∀ a x, ((![v412] : Fin 1 → IVec S16 32) a x).toNat < S2048.size a)
theorem k0_idx727_inb : ∀ (v412 : IVec S16 32) (k0_hw549 : k0_chk549 v412), ∀ a x, ((![v412] : Fin 1 → IVec S16 32) a x).toNat < S2048.size a := fun v412 k0_hw549 => k0_hw549.1
theorem k0_idx728_inb : ∀ (v412 : IVec S16 32) (k0_hw549 : k0_chk549 v412), ∀ a x, ((![v412] : Fin 1 → IVec S16 32) a x).toNat < S2048.size a := fun v412 k0_hw549 => k0_hw549.2

def k0_chk550 (v800 : IVec S16 32) : Prop :=
  (∀ a x, ((![v800] : Fin 1 → IVec S16 32) a x).toNat < S32768.size a)
theorem k0_idx729_inb : ∀ (v800 : IVec S16 32) (k0_hw550 : k0_chk550 v800), ∀ a x, ((![v800] : Fin 1 → IVec S16 32) a x).toNat < S32768.size a := fun v800 k0_hw550 => k0_hw550

def k0_chk551 (v416 : IVec S16 32) : Prop :=
  (∀ a x, ((![v416] : Fin 1 → IVec S16 32) a x).toNat < S2048.size a) ∧
  (∀ a x, ((![v416] : Fin 1 → IVec S16 32) a x).toNat < S2048.size a)
theorem k0_idx730_inb : ∀ (v416 : IVec S16 32) (k0_hw551 : k0_chk551 v416), ∀ a x, ((![v416] : Fin 1 → IVec S16 32) a x).toNat < S2048.size a := fun v416 k0_hw551 => k0_hw551.1
theorem k0_idx731_inb : ∀ (v416 : IVec S16 32) (k0_hw551 : k0_chk551 v416), ∀ a x, ((![v416] : Fin 1 → IVec S16 32) a x).toNat < S2048.size a := fun v416 k0_hw551 => k0_hw551.2

def k0_chk552 (v806 : IVec S16 32) : Prop :=
  (∀ a x, ((![v806] : Fin 1 → IVec S16 32) a x).toNat < S32768.size a)
theorem k0_idx732_inb : ∀ (v806 : IVec S16 32) (k0_hw552 : k0_chk552 v806), ∀ a x, ((![v806] : Fin 1 → IVec S16 32) a x).toNat < S32768.size a := fun v806 k0_hw552 => k0_hw552

def k0_chk553 (v420 : IVec S16 32) : Prop :=
  (∀ a x, ((![v420] : Fin 1 → IVec S16 32) a x).toNat < S2048.size a) ∧
  (∀ a x, ((![v420] : Fin 1 → IVec S16 32) a x).toNat < S2048.size a)
theorem k0_idx733_inb : ∀ (v420 : IVec S16 32) (k0_hw553 : k0_chk553 v420), ∀ a x, ((![v420] : Fin 1 → IVec S16 32) a x).toNat < S2048.size a := fun v420 k0_hw553 => k0_hw553.1
theorem k0_idx734_inb : ∀ (v420 : IVec S16 32) (k0_hw553 : k0_chk553 v420), ∀ a x, ((![v420] : Fin 1 → IVec S16 32) a x).toNat < S2048.size a := fun v420 k0_hw553 => k0_hw553.2

def k0_chk554 (v812 : IVec S16 32) : Prop :=
  (∀ a x, ((![v812] : Fin 1 → IVec S16 32) a x).toNat < S32768.size a)
theorem k0_idx735_inb : ∀ (v812 : IVec S16 32) (k0_hw554 : k0_chk554 v812), ∀ a x, ((![v812] : Fin 1 → IVec S16 32) a x).toNat < S32768.size a := fun v812 k0_hw554 => k0_hw554

def k0_chk555 (v424 : IVec S16 32) : Prop :=
  (∀ a x, ((![v424] : Fin 1 → IVec S16 32) a x).toNat < S2048.size a) ∧
  (∀ a x, ((![v424] : Fin 1 → IVec S16 32) a x).toNat < S2048.size a)
theorem k0_idx736_inb : ∀ (v424 : IVec S16 32) (k0_hw555 : k0_chk555 v424), ∀ a x, ((![v424] : Fin 1 → IVec S16 32) a x).toNat < S2048.size a := fun v424 k0_hw555 => k0_hw555.1
theorem k0_idx737_inb : ∀ (v424 : IVec S16 32) (k0_hw555 : k0_chk555 v424), ∀ a x, ((![v424] : Fin 1 → IVec S16 32) a x).toNat < S2048.size a := fun v424 k0_hw555 => k0_hw555.2

def k0_chk556 (v818 : IVec S16 32) : Prop :=
  (∀ a x, ((![v818] : Fin 1 → IVec S16 32) a x).toNat < S32768.size a)
theorem k0_idx738_inb : ∀ (v818 : IVec S16 32) (k0_hw556 : k0_chk556 v818), ∀ a x, ((![v818] : Fin 1 → IVec S16 32) a x).toNat < S32768.size a := fun v818 k0_hw556 => k0_hw556

def k0_chk557 (v428 : IVec S16 32) : Prop :=
  (∀ a x, ((![v428] : Fin 1 → IVec S16 32) a x).toNat < S2048.size a) ∧
  (∀ a x, ((![v428] : Fin 1 → IVec S16 32) a x).toNat < S2048.size a)
theorem k0_idx739_inb : ∀ (v428 : IVec S16 32) (k0_hw557 : k0_chk557 v428), ∀ a x, ((![v428] : Fin 1 → IVec S16 32) a x).toNat < S2048.size a := fun v428 k0_hw557 => k0_hw557.1
theorem k0_idx740_inb : ∀ (v428 : IVec S16 32) (k0_hw557 : k0_chk557 v428), ∀ a x, ((![v428] : Fin 1 → IVec S16 32) a x).toNat < S2048.size a := fun v428 k0_hw557 => k0_hw557.2

def k0_chk558 (v824 : IVec S16 32) : Prop :=
  (∀ a x, ((![v824] : Fin 1 → IVec S16 32) a x).toNat < S32768.size a)
theorem k0_idx741_inb : ∀ (v824 : IVec S16 32) (k0_hw558 : k0_chk558 v824), ∀ a x, ((![v824] : Fin 1 → IVec S16 32) a x).toNat < S32768.size a := fun v824 k0_hw558 => k0_hw558

def k0_chk559 (v432 : IVec S16 32) : Prop :=
  (∀ a x, ((![v432] : Fin 1 → IVec S16 32) a x).toNat < S2048.size a) ∧
  (∀ a x, ((![v432] : Fin 1 → IVec S16 32) a x).toNat < S2048.size a)
theorem k0_idx742_inb : ∀ (v432 : IVec S16 32) (k0_hw559 : k0_chk559 v432), ∀ a x, ((![v432] : Fin 1 → IVec S16 32) a x).toNat < S2048.size a := fun v432 k0_hw559 => k0_hw559.1
theorem k0_idx743_inb : ∀ (v432 : IVec S16 32) (k0_hw559 : k0_chk559 v432), ∀ a x, ((![v432] : Fin 1 → IVec S16 32) a x).toNat < S2048.size a := fun v432 k0_hw559 => k0_hw559.2

def k0_chk560 (v830 : IVec S16 32) : Prop :=
  (∀ a x, ((![v830] : Fin 1 → IVec S16 32) a x).toNat < S32768.size a)
theorem k0_idx744_inb : ∀ (v830 : IVec S16 32) (k0_hw560 : k0_chk560 v830), ∀ a x, ((![v830] : Fin 1 → IVec S16 32) a x).toNat < S32768.size a := fun v830 k0_hw560 => k0_hw560

def k0_chk561 (v436 : IVec S16 32) : Prop :=
  (∀ a x, ((![v436] : Fin 1 → IVec S16 32) a x).toNat < S2048.size a) ∧
  (∀ a x, ((![v436] : Fin 1 → IVec S16 32) a x).toNat < S2048.size a)
theorem k0_idx745_inb : ∀ (v436 : IVec S16 32) (k0_hw561 : k0_chk561 v436), ∀ a x, ((![v436] : Fin 1 → IVec S16 32) a x).toNat < S2048.size a := fun v436 k0_hw561 => k0_hw561.1
theorem k0_idx746_inb : ∀ (v436 : IVec S16 32) (k0_hw561 : k0_chk561 v436), ∀ a x, ((![v436] : Fin 1 → IVec S16 32) a x).toNat < S2048.size a := fun v436 k0_hw561 => k0_hw561.2

def k0_chk562 (v836 : IVec S16 32) : Prop :=
  (∀ a x, ((![v836] : Fin 1 → IVec S16 32) a x).toNat < S32768.size a)
theorem k0_idx747_inb : ∀ (v836 : IVec S16 32) (k0_hw562 : k0_chk562 v836), ∀ a x, ((![v836] : Fin 1 → IVec S16 32) a x).toNat < S32768.size a := fun v836 k0_hw562 => k0_hw562

def k0_chk563 (v440 : IVec S16 32) : Prop :=
  (∀ a x, ((![v440] : Fin 1 → IVec S16 32) a x).toNat < S2048.size a) ∧
  (∀ a x, ((![v440] : Fin 1 → IVec S16 32) a x).toNat < S2048.size a)
theorem k0_idx748_inb : ∀ (v440 : IVec S16 32) (k0_hw563 : k0_chk563 v440), ∀ a x, ((![v440] : Fin 1 → IVec S16 32) a x).toNat < S2048.size a := fun v440 k0_hw563 => k0_hw563.1
theorem k0_idx749_inb : ∀ (v440 : IVec S16 32) (k0_hw563 : k0_chk563 v440), ∀ a x, ((![v440] : Fin 1 → IVec S16 32) a x).toNat < S2048.size a := fun v440 k0_hw563 => k0_hw563.2

def k0_chk564 (v842 : IVec S16 32) : Prop :=
  (∀ a x, ((![v842] : Fin 1 → IVec S16 32) a x).toNat < S32768.size a)
theorem k0_idx750_inb : ∀ (v842 : IVec S16 32) (k0_hw564 : k0_chk564 v842), ∀ a x, ((![v842] : Fin 1 → IVec S16 32) a x).toNat < S32768.size a := fun v842 k0_hw564 => k0_hw564

def k0_chk565 (v444 : IVec S16 32) : Prop :=
  (∀ a x, ((![v444] : Fin 1 → IVec S16 32) a x).toNat < S2048.size a) ∧
  (∀ a x, ((![v444] : Fin 1 → IVec S16 32) a x).toNat < S2048.size a)
theorem k0_idx751_inb : ∀ (v444 : IVec S16 32) (k0_hw565 : k0_chk565 v444), ∀ a x, ((![v444] : Fin 1 → IVec S16 32) a x).toNat < S2048.size a := fun v444 k0_hw565 => k0_hw565.1
theorem k0_idx752_inb : ∀ (v444 : IVec S16 32) (k0_hw565 : k0_chk565 v444), ∀ a x, ((![v444] : Fin 1 → IVec S16 32) a x).toNat < S2048.size a := fun v444 k0_hw565 => k0_hw565.2

def k0_chk566 (v848 : IVec S16 32) : Prop :=
  (∀ a x, ((![v848] : Fin 1 → IVec S16 32) a x).toNat < S32768.size a)
theorem k0_idx753_inb : ∀ (v848 : IVec S16 32) (k0_hw566 : k0_chk566 v848), ∀ a x, ((![v848] : Fin 1 → IVec S16 32) a x).toNat < S32768.size a := fun v848 k0_hw566 => k0_hw566

def k0_chk567 (v448 : IVec S16 32) : Prop :=
  (∀ a x, ((![v448] : Fin 1 → IVec S16 32) a x).toNat < S2048.size a) ∧
  (∀ a x, ((![v448] : Fin 1 → IVec S16 32) a x).toNat < S2048.size a)
theorem k0_idx754_inb : ∀ (v448 : IVec S16 32) (k0_hw567 : k0_chk567 v448), ∀ a x, ((![v448] : Fin 1 → IVec S16 32) a x).toNat < S2048.size a := fun v448 k0_hw567 => k0_hw567.1
theorem k0_idx755_inb : ∀ (v448 : IVec S16 32) (k0_hw567 : k0_chk567 v448), ∀ a x, ((![v448] : Fin 1 → IVec S16 32) a x).toNat < S2048.size a := fun v448 k0_hw567 => k0_hw567.2

def k0_chk568 (v854 : IVec S16 32) : Prop :=
  (∀ a x, ((![v854] : Fin 1 → IVec S16 32) a x).toNat < S32768.size a)
theorem k0_idx756_inb : ∀ (v854 : IVec S16 32) (k0_hw568 : k0_chk568 v854), ∀ a x, ((![v854] : Fin 1 → IVec S16 32) a x).toNat < S32768.size a := fun v854 k0_hw568 => k0_hw568

def k0_chk569 (v452 : IVec S16 32) : Prop :=
  (∀ a x, ((![v452] : Fin 1 → IVec S16 32) a x).toNat < S2048.size a) ∧
  (∀ a x, ((![v452] : Fin 1 → IVec S16 32) a x).toNat < S2048.size a)
theorem k0_idx757_inb : ∀ (v452 : IVec S16 32) (k0_hw569 : k0_chk569 v452), ∀ a x, ((![v452] : Fin 1 → IVec S16 32) a x).toNat < S2048.size a := fun v452 k0_hw569 => k0_hw569.1
theorem k0_idx758_inb : ∀ (v452 : IVec S16 32) (k0_hw569 : k0_chk569 v452), ∀ a x, ((![v452] : Fin 1 → IVec S16 32) a x).toNat < S2048.size a := fun v452 k0_hw569 => k0_hw569.2

def k0_chk570 (v860 : IVec S16 32) : Prop :=
  (∀ a x, ((![v860] : Fin 1 → IVec S16 32) a x).toNat < S32768.size a)
theorem k0_idx759_inb : ∀ (v860 : IVec S16 32) (k0_hw570 : k0_chk570 v860), ∀ a x, ((![v860] : Fin 1 → IVec S16 32) a x).toNat < S32768.size a := fun v860 k0_hw570 => k0_hw570

def k0_chk571 (v456 : IVec S16 32) : Prop :=
  (∀ a x, ((![v456] : Fin 1 → IVec S16 32) a x).toNat < S2048.size a) ∧
  (∀ a x, ((![v456] : Fin 1 → IVec S16 32) a x).toNat < S2048.size a)
theorem k0_idx760_inb : ∀ (v456 : IVec S16 32) (k0_hw571 : k0_chk571 v456), ∀ a x, ((![v456] : Fin 1 → IVec S16 32) a x).toNat < S2048.size a := fun v456 k0_hw571 => k0_hw571.1
theorem k0_idx761_inb : ∀ (v456 : IVec S16 32) (k0_hw571 : k0_chk571 v456), ∀ a x, ((![v456] : Fin 1 → IVec S16 32) a x).toNat < S2048.size a := fun v456 k0_hw571 => k0_hw571.2

def k0_chk572 (v866 : IVec S16 32) : Prop :=
  (∀ a x, ((![v866] : Fin 1 → IVec S16 32) a x).toNat < S32768.size a)
theorem k0_idx762_inb : ∀ (v866 : IVec S16 32) (k0_hw572 : k0_chk572 v866), ∀ a x, ((![v866] : Fin 1 → IVec S16 32) a x).toNat < S32768.size a := fun v866 k0_hw572 => k0_hw572

def k0_chk573 (v460 : IVec S16 32) : Prop :=
  (∀ a x, ((![v460] : Fin 1 → IVec S16 32) a x).toNat < S2048.size a) ∧
  (∀ a x, ((![v460] : Fin 1 → IVec S16 32) a x).toNat < S2048.size a)
theorem k0_idx763_inb : ∀ (v460 : IVec S16 32) (k0_hw573 : k0_chk573 v460), ∀ a x, ((![v460] : Fin 1 → IVec S16 32) a x).toNat < S2048.size a := fun v460 k0_hw573 => k0_hw573.1
theorem k0_idx764_inb : ∀ (v460 : IVec S16 32) (k0_hw573 : k0_chk573 v460), ∀ a x, ((![v460] : Fin 1 → IVec S16 32) a x).toNat < S2048.size a := fun v460 k0_hw573 => k0_hw573.2

def k0_chk574 (v872 : IVec S16 32) : Prop :=
  (∀ a x, ((![v872] : Fin 1 → IVec S16 32) a x).toNat < S32768.size a)
theorem k0_idx765_inb : ∀ (v872 : IVec S16 32) (k0_hw574 : k0_chk574 v872), ∀ a x, ((![v872] : Fin 1 → IVec S16 32) a x).toNat < S32768.size a := fun v872 k0_hw574 => k0_hw574

def k0_chk575 (v464 : IVec S16 32) : Prop :=
  (∀ a x, ((![v464] : Fin 1 → IVec S16 32) a x).toNat < S2048.size a) ∧
  (∀ a x, ((![v464] : Fin 1 → IVec S16 32) a x).toNat < S2048.size a)
theorem k0_idx766_inb : ∀ (v464 : IVec S16 32) (k0_hw575 : k0_chk575 v464), ∀ a x, ((![v464] : Fin 1 → IVec S16 32) a x).toNat < S2048.size a := fun v464 k0_hw575 => k0_hw575.1
theorem k0_idx767_inb : ∀ (v464 : IVec S16 32) (k0_hw575 : k0_chk575 v464), ∀ a x, ((![v464] : Fin 1 → IVec S16 32) a x).toNat < S2048.size a := fun v464 k0_hw575 => k0_hw575.2

def k0_chk576 (v878 : IVec S16 32) : Prop :=
  (∀ a x, ((![v878] : Fin 1 → IVec S16 32) a x).toNat < S32768.size a)
theorem k0_idx768_inb : ∀ (v878 : IVec S16 32) (k0_hw576 : k0_chk576 v878), ∀ a x, ((![v878] : Fin 1 → IVec S16 32) a x).toNat < S32768.size a := fun v878 k0_hw576 => k0_hw576
@[reducible] def k0_t30_loop : Scf.Loop 32 :=
  let c0_i32_171 : BitVec 32 := 0#32
  let c64_i32_172 : BitVec 32 := 64#32
  let v91 : BitVec 32 := Scalar.addi c0_i32_171 c64_i32_172
  let c1_i32_173 : BitVec 32 := 1#32
  ⟨c0_i32_171, v91, c1_i32_173⟩
def k0_off56 (k0_t30 : Fin k0_t30_loop.trips) (c0_i32_312 : BitVec 32) (c0_i32_313 : BitVec 32) : Fin 1 → Nat :=
  let c0_i32_171 : BitVec 32 := 0#32
  let c1_i32_173 : BitVec 32 := 1#32
  let arg15 : BitVec 32 := Scf.iv c0_i32_171 c1_i32_173 k0_t30
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_314 : BitVec 32 := 16#32
  let v148 : BitVec 32 := Scalar.muli v147 c16_i32_314
  let v273 : Index := Scalar.indexCast v148
  ![v273.toNat]

def k0_chk577 (v658 : IVec S16 32) : Prop :=
  (∀ a x, ((![v658] : Fin 1 → IVec S16 32) a x).toNat < S4096.size a)
theorem k0_idx769_inb : ∀ (v658 : IVec S16 32) (k0_hw577 : k0_chk577 v658), ∀ a x, ((![v658] : Fin 1 → IVec S16 32) a x).toNat < S4096.size a := fun v658 k0_hw577 => k0_hw577

def k0_chk578 (v660 : IVec S16 32) : Prop :=
  (∀ a x, ((![v660] : Fin 1 → IVec S16 32) a x).toNat < S4096.size a)
theorem k0_idx770_inb : ∀ (v660 : IVec S16 32) (k0_hw578 : k0_chk578 v660), ∀ a x, ((![v660] : Fin 1 → IVec S16 32) a x).toNat < S4096.size a := fun v660 k0_hw578 => k0_hw578

def k0_chk579 (v662 : IVec S16 32) : Prop :=
  (∀ a x, ((![v662] : Fin 1 → IVec S16 32) a x).toNat < S4096.size a)
theorem k0_idx771_inb : ∀ (v662 : IVec S16 32) (k0_hw579 : k0_chk579 v662), ∀ a x, ((![v662] : Fin 1 → IVec S16 32) a x).toNat < S4096.size a := fun v662 k0_hw579 => k0_hw579

def k0_chk580 (v664 : IVec S16 32) : Prop :=
  (∀ a x, ((![v664] : Fin 1 → IVec S16 32) a x).toNat < S4096.size a)
theorem k0_idx772_inb : ∀ (v664 : IVec S16 32) (k0_hw580 : k0_chk580 v664), ∀ a x, ((![v664] : Fin 1 → IVec S16 32) a x).toNat < S4096.size a := fun v664 k0_hw580 => k0_hw580

def k0_chk581 (v666 : IVec S16 32) : Prop :=
  (∀ a x, ((![v666] : Fin 1 → IVec S16 32) a x).toNat < S4096.size a)
theorem k0_idx773_inb : ∀ (v666 : IVec S16 32) (k0_hw581 : k0_chk581 v666), ∀ a x, ((![v666] : Fin 1 → IVec S16 32) a x).toNat < S4096.size a := fun v666 k0_hw581 => k0_hw581

def k0_chk582 (v668 : IVec S16 32) : Prop :=
  (∀ a x, ((![v668] : Fin 1 → IVec S16 32) a x).toNat < S4096.size a)
theorem k0_idx774_inb : ∀ (v668 : IVec S16 32) (k0_hw582 : k0_chk582 v668), ∀ a x, ((![v668] : Fin 1 → IVec S16 32) a x).toNat < S4096.size a := fun v668 k0_hw582 => k0_hw582

def k0_chk583 (v670 : IVec S16 32) : Prop :=
  (∀ a x, ((![v670] : Fin 1 → IVec S16 32) a x).toNat < S4096.size a)
theorem k0_idx775_inb : ∀ (v670 : IVec S16 32) (k0_hw583 : k0_chk583 v670), ∀ a x, ((![v670] : Fin 1 → IVec S16 32) a x).toNat < S4096.size a := fun v670 k0_hw583 => k0_hw583

def k0_chk584 (v672 : IVec S16 32) : Prop :=
  (∀ a x, ((![v672] : Fin 1 → IVec S16 32) a x).toNat < S4096.size a)
theorem k0_idx776_inb : ∀ (v672 : IVec S16 32) (k0_hw584 : k0_chk584 v672), ∀ a x, ((![v672] : Fin 1 → IVec S16 32) a x).toNat < S4096.size a := fun v672 k0_hw584 => k0_hw584

def k0_chk585 (v674 : IVec S16 32) : Prop :=
  (∀ a x, ((![v674] : Fin 1 → IVec S16 32) a x).toNat < S4096.size a)
theorem k0_idx777_inb : ∀ (v674 : IVec S16 32) (k0_hw585 : k0_chk585 v674), ∀ a x, ((![v674] : Fin 1 → IVec S16 32) a x).toNat < S4096.size a := fun v674 k0_hw585 => k0_hw585

def k0_chk586 (v676 : IVec S16 32) : Prop :=
  (∀ a x, ((![v676] : Fin 1 → IVec S16 32) a x).toNat < S4096.size a)
theorem k0_idx778_inb : ∀ (v676 : IVec S16 32) (k0_hw586 : k0_chk586 v676), ∀ a x, ((![v676] : Fin 1 → IVec S16 32) a x).toNat < S4096.size a := fun v676 k0_hw586 => k0_hw586

def k0_chk587 (v678 : IVec S16 32) : Prop :=
  (∀ a x, ((![v678] : Fin 1 → IVec S16 32) a x).toNat < S4096.size a)
theorem k0_idx779_inb : ∀ (v678 : IVec S16 32) (k0_hw587 : k0_chk587 v678), ∀ a x, ((![v678] : Fin 1 → IVec S16 32) a x).toNat < S4096.size a := fun v678 k0_hw587 => k0_hw587

def k0_chk588 (v680 : IVec S16 32) : Prop :=
  (∀ a x, ((![v680] : Fin 1 → IVec S16 32) a x).toNat < S4096.size a)
theorem k0_idx780_inb : ∀ (v680 : IVec S16 32) (k0_hw588 : k0_chk588 v680), ∀ a x, ((![v680] : Fin 1 → IVec S16 32) a x).toNat < S4096.size a := fun v680 k0_hw588 => k0_hw588

def k0_chk589 (v682 : IVec S16 32) : Prop :=
  (∀ a x, ((![v682] : Fin 1 → IVec S16 32) a x).toNat < S4096.size a)
theorem k0_idx781_inb : ∀ (v682 : IVec S16 32) (k0_hw589 : k0_chk589 v682), ∀ a x, ((![v682] : Fin 1 → IVec S16 32) a x).toNat < S4096.size a := fun v682 k0_hw589 => k0_hw589

def k0_chk590 (v684 : IVec S16 32) : Prop :=
  (∀ a x, ((![v684] : Fin 1 → IVec S16 32) a x).toNat < S4096.size a)
theorem k0_idx782_inb : ∀ (v684 : IVec S16 32) (k0_hw590 : k0_chk590 v684), ∀ a x, ((![v684] : Fin 1 → IVec S16 32) a x).toNat < S4096.size a := fun v684 k0_hw590 => k0_hw590

def k0_chk591 (v686 : IVec S16 32) : Prop :=
  (∀ a x, ((![v686] : Fin 1 → IVec S16 32) a x).toNat < S4096.size a)
theorem k0_idx783_inb : ∀ (v686 : IVec S16 32) (k0_hw591 : k0_chk591 v686), ∀ a x, ((![v686] : Fin 1 → IVec S16 32) a x).toNat < S4096.size a := fun v686 k0_hw591 => k0_hw591

def k0_chk592 (v688 : IVec S16 32) : Prop :=
  (∀ a x, ((![v688] : Fin 1 → IVec S16 32) a x).toNat < S4096.size a)
theorem k0_idx784_inb : ∀ (v688 : IVec S16 32) (k0_hw592 : k0_chk592 v688), ∀ a x, ((![v688] : Fin 1 → IVec S16 32) a x).toNat < S4096.size a := fun v688 k0_hw592 => k0_hw592

def k0_chk593 (v690 : IVec S16 32) : Prop :=
  (∀ a x, ((![v690] : Fin 1 → IVec S16 32) a x).toNat < S4096.size a)
theorem k0_idx785_inb : ∀ (v690 : IVec S16 32) (k0_hw593 : k0_chk593 v690), ∀ a x, ((![v690] : Fin 1 → IVec S16 32) a x).toNat < S4096.size a := fun v690 k0_hw593 => k0_hw593

def k0_chk594 (v692 : IVec S16 32) : Prop :=
  (∀ a x, ((![v692] : Fin 1 → IVec S16 32) a x).toNat < S4096.size a)
theorem k0_idx786_inb : ∀ (v692 : IVec S16 32) (k0_hw594 : k0_chk594 v692), ∀ a x, ((![v692] : Fin 1 → IVec S16 32) a x).toNat < S4096.size a := fun v692 k0_hw594 => k0_hw594

def k0_chk595 (v694 : IVec S16 32) : Prop :=
  (∀ a x, ((![v694] : Fin 1 → IVec S16 32) a x).toNat < S4096.size a)
theorem k0_idx787_inb : ∀ (v694 : IVec S16 32) (k0_hw595 : k0_chk595 v694), ∀ a x, ((![v694] : Fin 1 → IVec S16 32) a x).toNat < S4096.size a := fun v694 k0_hw595 => k0_hw595

def k0_chk596 (v696 : IVec S16 32) : Prop :=
  (∀ a x, ((![v696] : Fin 1 → IVec S16 32) a x).toNat < S4096.size a)
theorem k0_idx788_inb : ∀ (v696 : IVec S16 32) (k0_hw596 : k0_chk596 v696), ∀ a x, ((![v696] : Fin 1 → IVec S16 32) a x).toNat < S4096.size a := fun v696 k0_hw596 => k0_hw596

def k0_chk597 (v698 : IVec S16 32) : Prop :=
  (∀ a x, ((![v698] : Fin 1 → IVec S16 32) a x).toNat < S4096.size a)
theorem k0_idx789_inb : ∀ (v698 : IVec S16 32) (k0_hw597 : k0_chk597 v698), ∀ a x, ((![v698] : Fin 1 → IVec S16 32) a x).toNat < S4096.size a := fun v698 k0_hw597 => k0_hw597

def k0_chk598 (v700 : IVec S16 32) : Prop :=
  (∀ a x, ((![v700] : Fin 1 → IVec S16 32) a x).toNat < S4096.size a)
theorem k0_idx790_inb : ∀ (v700 : IVec S16 32) (k0_hw598 : k0_chk598 v700), ∀ a x, ((![v700] : Fin 1 → IVec S16 32) a x).toNat < S4096.size a := fun v700 k0_hw598 => k0_hw598

def k0_chk599 (v702 : IVec S16 32) : Prop :=
  (∀ a x, ((![v702] : Fin 1 → IVec S16 32) a x).toNat < S4096.size a)
theorem k0_idx791_inb : ∀ (v702 : IVec S16 32) (k0_hw599 : k0_chk599 v702), ∀ a x, ((![v702] : Fin 1 → IVec S16 32) a x).toNat < S4096.size a := fun v702 k0_hw599 => k0_hw599

def k0_chk600 (v704 : IVec S16 32) : Prop :=
  (∀ a x, ((![v704] : Fin 1 → IVec S16 32) a x).toNat < S4096.size a)
theorem k0_idx792_inb : ∀ (v704 : IVec S16 32) (k0_hw600 : k0_chk600 v704), ∀ a x, ((![v704] : Fin 1 → IVec S16 32) a x).toNat < S4096.size a := fun v704 k0_hw600 => k0_hw600

def k0_chk601 (v706 : IVec S16 32) : Prop :=
  (∀ a x, ((![v706] : Fin 1 → IVec S16 32) a x).toNat < S4096.size a)
theorem k0_idx793_inb : ∀ (v706 : IVec S16 32) (k0_hw601 : k0_chk601 v706), ∀ a x, ((![v706] : Fin 1 → IVec S16 32) a x).toNat < S4096.size a := fun v706 k0_hw601 => k0_hw601

def k0_chk602 (v708 : IVec S16 32) : Prop :=
  (∀ a x, ((![v708] : Fin 1 → IVec S16 32) a x).toNat < S4096.size a)
theorem k0_idx794_inb : ∀ (v708 : IVec S16 32) (k0_hw602 : k0_chk602 v708), ∀ a x, ((![v708] : Fin 1 → IVec S16 32) a x).toNat < S4096.size a := fun v708 k0_hw602 => k0_hw602

def k0_chk603 (v710 : IVec S16 32) : Prop :=
  (∀ a x, ((![v710] : Fin 1 → IVec S16 32) a x).toNat < S4096.size a)
theorem k0_idx795_inb : ∀ (v710 : IVec S16 32) (k0_hw603 : k0_chk603 v710), ∀ a x, ((![v710] : Fin 1 → IVec S16 32) a x).toNat < S4096.size a := fun v710 k0_hw603 => k0_hw603

def k0_chk604 (v712 : IVec S16 32) : Prop :=
  (∀ a x, ((![v712] : Fin 1 → IVec S16 32) a x).toNat < S4096.size a)
theorem k0_idx796_inb : ∀ (v712 : IVec S16 32) (k0_hw604 : k0_chk604 v712), ∀ a x, ((![v712] : Fin 1 → IVec S16 32) a x).toNat < S4096.size a := fun v712 k0_hw604 => k0_hw604

def k0_chk605 (v714 : IVec S16 32) : Prop :=
  (∀ a x, ((![v714] : Fin 1 → IVec S16 32) a x).toNat < S4096.size a)
theorem k0_idx797_inb : ∀ (v714 : IVec S16 32) (k0_hw605 : k0_chk605 v714), ∀ a x, ((![v714] : Fin 1 → IVec S16 32) a x).toNat < S4096.size a := fun v714 k0_hw605 => k0_hw605

def k0_chk606 (v716 : IVec S16 32) : Prop :=
  (∀ a x, ((![v716] : Fin 1 → IVec S16 32) a x).toNat < S4096.size a)
theorem k0_idx798_inb : ∀ (v716 : IVec S16 32) (k0_hw606 : k0_chk606 v716), ∀ a x, ((![v716] : Fin 1 → IVec S16 32) a x).toNat < S4096.size a := fun v716 k0_hw606 => k0_hw606

def k0_chk607 (v718 : IVec S16 32) : Prop :=
  (∀ a x, ((![v718] : Fin 1 → IVec S16 32) a x).toNat < S4096.size a)
theorem k0_idx799_inb : ∀ (v718 : IVec S16 32) (k0_hw607 : k0_chk607 v718), ∀ a x, ((![v718] : Fin 1 → IVec S16 32) a x).toNat < S4096.size a := fun v718 k0_hw607 => k0_hw607

def k0_chk608 (v720 : IVec S16 32) : Prop :=
  (∀ a x, ((![v720] : Fin 1 → IVec S16 32) a x).toNat < S4096.size a)
theorem k0_idx800_inb : ∀ (v720 : IVec S16 32) (k0_hw608 : k0_chk608 v720), ∀ a x, ((![v720] : Fin 1 → IVec S16 32) a x).toNat < S4096.size a := fun v720 k0_hw608 => k0_hw608
@[reducible] def k0_t31_loop : Scf.Loop 32 :=
  let c0_i32_176 : BitVec 32 := 0#32
  let c128_i32_177 : BitVec 32 := 128#32
  let v92 : BitVec 32 := Scalar.addi c0_i32_176 c128_i32_177
  let c1_i32_178 : BitVec 32 := 1#32
  ⟨c0_i32_176, v92, c1_i32_178⟩
def k0_off57 (k0_t31 : Fin k0_t31_loop.trips) : Fin 1 → Nat :=
  let c0_i32_176 : BitVec 32 := 0#32
  let c1_i32_178 : BitVec 32 := 1#32
  let arg15 : BitVec 32 := Scf.iv c0_i32_176 c1_i32_178 k0_t31
  let c16_i32_312 : BitVec 32 := 16#32
  let v146 : BitVec 32 := Scalar.muli arg15 c16_i32_312
  let v147 : Index := Scalar.indexCast v146
  ![v147.toNat]
def k0_off58 (k0_t31 : Fin k0_t31_loop.trips) : Fin 1 → Nat :=
  let c2048_i32 : BitVec 32 := 2048#32
  let c0_i32_176 : BitVec 32 := 0#32
  let c1_i32_178 : BitVec 32 := 1#32
  let arg15 : BitVec 32 := Scf.iv c0_i32_176 c1_i32_178 k0_t31
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off59 (k0_t31 : Fin k0_t31_loop.trips) : Fin 1 → Nat :=
  let c0_i32_176 : BitVec 32 := 0#32
  let c1_i32_178 : BitVec 32 := 1#32
  let arg15 : BitVec 32 := Scf.iv c0_i32_176 c1_i32_178 k0_t31
  let c16_i32 : BitVec 32 := 16#32
  let v145 : BitVec 32 := Scalar.muli arg15 c16_i32
  let v154 : Index := Scalar.indexCast v145
  ![v154.toNat]
@[reducible] def k0_t32_loop : Scf.Loop 32 :=
  let c0_i32_181 : BitVec 32 := 0#32
  let c128_i32_182 : BitVec 32 := 128#32
  let v93 : BitVec 32 := Scalar.addi c0_i32_181 c128_i32_182
  let c1_i32_183 : BitVec 32 := 1#32
  ⟨c0_i32_181, v93, c1_i32_183⟩
def k0_off60 (k0_t32 : Fin k0_t32_loop.trips) : Fin 1 → Nat :=
  let c0_i32_181 : BitVec 32 := 0#32
  let c1_i32_183 : BitVec 32 := 1#32
  let arg15 : BitVec 32 := Scf.iv c0_i32_181 c1_i32_183 k0_t32
  let c16_i32 : BitVec 32 := 16#32
  let v145 : BitVec 32 := Scalar.muli arg15 c16_i32
  let v146 : Index := Scalar.indexCast v145
  ![v146.toNat]
@[reducible] def k0_t33_loop : Scf.Loop 32 :=
  let c0_i32_186 : BitVec 32 := 0#32
  let c128_i32_187 : BitVec 32 := 128#32
  let v95 : BitVec 32 := Scalar.addi c0_i32_186 c128_i32_187
  let c1_i32_188 : BitVec 32 := 1#32
  ⟨c0_i32_186, v95, c1_i32_188⟩
def k0_off61 (k0_t33 : Fin k0_t33_loop.trips) : Fin 1 → Nat :=
  let c0_i32_186 : BitVec 32 := 0#32
  let c1_i32_188 : BitVec 32 := 1#32
  let arg15 : BitVec 32 := Scf.iv c0_i32_186 c1_i32_188 k0_t33
  let c16_i32 : BitVec 32 := 16#32
  let v145 : BitVec 32 := Scalar.muli arg15 c16_i32
  let v146 : Index := Scalar.indexCast v145
  ![v146.toNat]
def k0_off62 (k0_t33 : Fin k0_t33_loop.trips) : Fin 1 → Nat :=
  let c0_i32_186 : BitVec 32 := 0#32
  let c1_i32_188 : BitVec 32 := 1#32
  let arg15 : BitVec 32 := Scf.iv c0_i32_186 c1_i32_188 k0_t33
  let c16_i32_312 : BitVec 32 := 16#32
  let v150 : BitVec 32 := Scalar.muli arg15 c16_i32_312
  let v151 : Index := Scalar.indexCast v150
  ![v151.toNat]
def k0_off63 (k0_t33 : Fin k0_t33_loop.trips) : Fin 1 → Nat :=
  let c2048_i32 : BitVec 32 := 2048#32
  let c0_i32_186 : BitVec 32 := 0#32
  let c1_i32_188 : BitVec 32 := 1#32
  let arg15 : BitVec 32 := Scf.iv c0_i32_186 c1_i32_188 k0_t33
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t34_loop : Scf.Loop 32 :=
  let c0_i32_191 : BitVec 32 := 0#32
  let c64_i32_192 : BitVec 32 := 64#32
  let v96 : BitVec 32 := Scalar.addi c0_i32_191 c64_i32_192
  let c1_i32_193 : BitVec 32 := 1#32
  ⟨c0_i32_191, v96, c1_i32_193⟩
def k0_off64 (k0_t34 : Fin k0_t34_loop.trips) (c0_i32_312 : BitVec 32) (c0_i32_313 : BitVec 32) : Fin 1 → Nat :=
  let c0_i32_191 : BitVec 32 := 0#32
  let c1_i32_193 : BitVec 32 := 1#32
  let arg15 : BitVec 32 := Scf.iv c0_i32_191 c1_i32_193 k0_t34
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk609 (v500 : IVec S16 32) : Prop :=
  (∀ a x, ((![v500] : Fin 1 → IVec S16 32) a x).toNat < S2048.size a) ∧
  (∀ a x, ((![v500] : Fin 1 → IVec S16 32) a x).toNat < S2048.size a)
theorem k0_idx801_inb : ∀ (v500 : IVec S16 32) (k0_hw609 : k0_chk609 v500), ∀ a x, ((![v500] : Fin 1 → IVec S16 32) a x).toNat < S2048.size a := fun v500 k0_hw609 => k0_hw609.1
theorem k0_idx802_inb : ∀ (v500 : IVec S16 32) (k0_hw609 : k0_chk609 v500), ∀ a x, ((![v500] : Fin 1 → IVec S16 32) a x).toNat < S2048.size a := fun v500 k0_hw609 => k0_hw609.2

def k0_chk610 (v660 : IVec S16 32) : Prop :=
  (∀ a x, ((![v660] : Fin 1 → IVec S16 32) a x).toNat < S32768.size a)
theorem k0_idx803_inb : ∀ (v660 : IVec S16 32) (k0_hw610 : k0_chk610 v660), ∀ a x, ((![v660] : Fin 1 → IVec S16 32) a x).toNat < S32768.size a := fun v660 k0_hw610 => k0_hw610

def k0_chk611 (v504 : IVec S16 32) : Prop :=
  (∀ a x, ((![v504] : Fin 1 → IVec S16 32) a x).toNat < S2048.size a) ∧
  (∀ a x, ((![v504] : Fin 1 → IVec S16 32) a x).toNat < S2048.size a)
theorem k0_idx804_inb : ∀ (v504 : IVec S16 32) (k0_hw611 : k0_chk611 v504), ∀ a x, ((![v504] : Fin 1 → IVec S16 32) a x).toNat < S2048.size a := fun v504 k0_hw611 => k0_hw611.1
theorem k0_idx805_inb : ∀ (v504 : IVec S16 32) (k0_hw611 : k0_chk611 v504), ∀ a x, ((![v504] : Fin 1 → IVec S16 32) a x).toNat < S2048.size a := fun v504 k0_hw611 => k0_hw611.2

def k0_chk612 (v666 : IVec S16 32) : Prop :=
  (∀ a x, ((![v666] : Fin 1 → IVec S16 32) a x).toNat < S32768.size a)
theorem k0_idx806_inb : ∀ (v666 : IVec S16 32) (k0_hw612 : k0_chk612 v666), ∀ a x, ((![v666] : Fin 1 → IVec S16 32) a x).toNat < S32768.size a := fun v666 k0_hw612 => k0_hw612

def k0_chk613 (v508 : IVec S16 32) : Prop :=
  (∀ a x, ((![v508] : Fin 1 → IVec S16 32) a x).toNat < S2048.size a) ∧
  (∀ a x, ((![v508] : Fin 1 → IVec S16 32) a x).toNat < S2048.size a)
theorem k0_idx807_inb : ∀ (v508 : IVec S16 32) (k0_hw613 : k0_chk613 v508), ∀ a x, ((![v508] : Fin 1 → IVec S16 32) a x).toNat < S2048.size a := fun v508 k0_hw613 => k0_hw613.1
theorem k0_idx808_inb : ∀ (v508 : IVec S16 32) (k0_hw613 : k0_chk613 v508), ∀ a x, ((![v508] : Fin 1 → IVec S16 32) a x).toNat < S2048.size a := fun v508 k0_hw613 => k0_hw613.2

def k0_chk614 (v672 : IVec S16 32) : Prop :=
  (∀ a x, ((![v672] : Fin 1 → IVec S16 32) a x).toNat < S32768.size a)
theorem k0_idx809_inb : ∀ (v672 : IVec S16 32) (k0_hw614 : k0_chk614 v672), ∀ a x, ((![v672] : Fin 1 → IVec S16 32) a x).toNat < S32768.size a := fun v672 k0_hw614 => k0_hw614

def k0_chk615 (v512 : IVec S16 32) : Prop :=
  (∀ a x, ((![v512] : Fin 1 → IVec S16 32) a x).toNat < S2048.size a) ∧
  (∀ a x, ((![v512] : Fin 1 → IVec S16 32) a x).toNat < S2048.size a)
theorem k0_idx810_inb : ∀ (v512 : IVec S16 32) (k0_hw615 : k0_chk615 v512), ∀ a x, ((![v512] : Fin 1 → IVec S16 32) a x).toNat < S2048.size a := fun v512 k0_hw615 => k0_hw615.1
theorem k0_idx811_inb : ∀ (v512 : IVec S16 32) (k0_hw615 : k0_chk615 v512), ∀ a x, ((![v512] : Fin 1 → IVec S16 32) a x).toNat < S2048.size a := fun v512 k0_hw615 => k0_hw615.2

def k0_chk616 (v678 : IVec S16 32) : Prop :=
  (∀ a x, ((![v678] : Fin 1 → IVec S16 32) a x).toNat < S32768.size a)
theorem k0_idx812_inb : ∀ (v678 : IVec S16 32) (k0_hw616 : k0_chk616 v678), ∀ a x, ((![v678] : Fin 1 → IVec S16 32) a x).toNat < S32768.size a := fun v678 k0_hw616 => k0_hw616

def k0_chk617 (v516 : IVec S16 32) : Prop :=
  (∀ a x, ((![v516] : Fin 1 → IVec S16 32) a x).toNat < S2048.size a) ∧
  (∀ a x, ((![v516] : Fin 1 → IVec S16 32) a x).toNat < S2048.size a)
theorem k0_idx813_inb : ∀ (v516 : IVec S16 32) (k0_hw617 : k0_chk617 v516), ∀ a x, ((![v516] : Fin 1 → IVec S16 32) a x).toNat < S2048.size a := fun v516 k0_hw617 => k0_hw617.1
theorem k0_idx814_inb : ∀ (v516 : IVec S16 32) (k0_hw617 : k0_chk617 v516), ∀ a x, ((![v516] : Fin 1 → IVec S16 32) a x).toNat < S2048.size a := fun v516 k0_hw617 => k0_hw617.2

def k0_chk618 (v684 : IVec S16 32) : Prop :=
  (∀ a x, ((![v684] : Fin 1 → IVec S16 32) a x).toNat < S32768.size a)
theorem k0_idx815_inb : ∀ (v684 : IVec S16 32) (k0_hw618 : k0_chk618 v684), ∀ a x, ((![v684] : Fin 1 → IVec S16 32) a x).toNat < S32768.size a := fun v684 k0_hw618 => k0_hw618

def k0_chk619 (v520 : IVec S16 32) : Prop :=
  (∀ a x, ((![v520] : Fin 1 → IVec S16 32) a x).toNat < S2048.size a) ∧
  (∀ a x, ((![v520] : Fin 1 → IVec S16 32) a x).toNat < S2048.size a)
theorem k0_idx816_inb : ∀ (v520 : IVec S16 32) (k0_hw619 : k0_chk619 v520), ∀ a x, ((![v520] : Fin 1 → IVec S16 32) a x).toNat < S2048.size a := fun v520 k0_hw619 => k0_hw619.1
theorem k0_idx817_inb : ∀ (v520 : IVec S16 32) (k0_hw619 : k0_chk619 v520), ∀ a x, ((![v520] : Fin 1 → IVec S16 32) a x).toNat < S2048.size a := fun v520 k0_hw619 => k0_hw619.2

def k0_chk620 (v690 : IVec S16 32) : Prop :=
  (∀ a x, ((![v690] : Fin 1 → IVec S16 32) a x).toNat < S32768.size a)
theorem k0_idx818_inb : ∀ (v690 : IVec S16 32) (k0_hw620 : k0_chk620 v690), ∀ a x, ((![v690] : Fin 1 → IVec S16 32) a x).toNat < S32768.size a := fun v690 k0_hw620 => k0_hw620

def k0_chk621 (v524 : IVec S16 32) : Prop :=
  (∀ a x, ((![v524] : Fin 1 → IVec S16 32) a x).toNat < S2048.size a) ∧
  (∀ a x, ((![v524] : Fin 1 → IVec S16 32) a x).toNat < S2048.size a)
theorem k0_idx819_inb : ∀ (v524 : IVec S16 32) (k0_hw621 : k0_chk621 v524), ∀ a x, ((![v524] : Fin 1 → IVec S16 32) a x).toNat < S2048.size a := fun v524 k0_hw621 => k0_hw621.1
theorem k0_idx820_inb : ∀ (v524 : IVec S16 32) (k0_hw621 : k0_chk621 v524), ∀ a x, ((![v524] : Fin 1 → IVec S16 32) a x).toNat < S2048.size a := fun v524 k0_hw621 => k0_hw621.2

def k0_chk622 (v696 : IVec S16 32) : Prop :=
  (∀ a x, ((![v696] : Fin 1 → IVec S16 32) a x).toNat < S32768.size a)
theorem k0_idx821_inb : ∀ (v696 : IVec S16 32) (k0_hw622 : k0_chk622 v696), ∀ a x, ((![v696] : Fin 1 → IVec S16 32) a x).toNat < S32768.size a := fun v696 k0_hw622 => k0_hw622

def k0_chk623 (v528 : IVec S16 32) : Prop :=
  (∀ a x, ((![v528] : Fin 1 → IVec S16 32) a x).toNat < S2048.size a) ∧
  (∀ a x, ((![v528] : Fin 1 → IVec S16 32) a x).toNat < S2048.size a)
theorem k0_idx822_inb : ∀ (v528 : IVec S16 32) (k0_hw623 : k0_chk623 v528), ∀ a x, ((![v528] : Fin 1 → IVec S16 32) a x).toNat < S2048.size a := fun v528 k0_hw623 => k0_hw623.1
theorem k0_idx823_inb : ∀ (v528 : IVec S16 32) (k0_hw623 : k0_chk623 v528), ∀ a x, ((![v528] : Fin 1 → IVec S16 32) a x).toNat < S2048.size a := fun v528 k0_hw623 => k0_hw623.2

def k0_chk624 (v702 : IVec S16 32) : Prop :=
  (∀ a x, ((![v702] : Fin 1 → IVec S16 32) a x).toNat < S32768.size a)
theorem k0_idx824_inb : ∀ (v702 : IVec S16 32) (k0_hw624 : k0_chk624 v702), ∀ a x, ((![v702] : Fin 1 → IVec S16 32) a x).toNat < S32768.size a := fun v702 k0_hw624 => k0_hw624

def k0_chk625 (v532 : IVec S16 32) : Prop :=
  (∀ a x, ((![v532] : Fin 1 → IVec S16 32) a x).toNat < S2048.size a) ∧
  (∀ a x, ((![v532] : Fin 1 → IVec S16 32) a x).toNat < S2048.size a)
theorem k0_idx825_inb : ∀ (v532 : IVec S16 32) (k0_hw625 : k0_chk625 v532), ∀ a x, ((![v532] : Fin 1 → IVec S16 32) a x).toNat < S2048.size a := fun v532 k0_hw625 => k0_hw625.1
theorem k0_idx826_inb : ∀ (v532 : IVec S16 32) (k0_hw625 : k0_chk625 v532), ∀ a x, ((![v532] : Fin 1 → IVec S16 32) a x).toNat < S2048.size a := fun v532 k0_hw625 => k0_hw625.2

def k0_chk626 (v708 : IVec S16 32) : Prop :=
  (∀ a x, ((![v708] : Fin 1 → IVec S16 32) a x).toNat < S32768.size a)
theorem k0_idx827_inb : ∀ (v708 : IVec S16 32) (k0_hw626 : k0_chk626 v708), ∀ a x, ((![v708] : Fin 1 → IVec S16 32) a x).toNat < S32768.size a := fun v708 k0_hw626 => k0_hw626

def k0_chk627 (v536 : IVec S16 32) : Prop :=
  (∀ a x, ((![v536] : Fin 1 → IVec S16 32) a x).toNat < S2048.size a) ∧
  (∀ a x, ((![v536] : Fin 1 → IVec S16 32) a x).toNat < S2048.size a)
theorem k0_idx828_inb : ∀ (v536 : IVec S16 32) (k0_hw627 : k0_chk627 v536), ∀ a x, ((![v536] : Fin 1 → IVec S16 32) a x).toNat < S2048.size a := fun v536 k0_hw627 => k0_hw627.1
theorem k0_idx829_inb : ∀ (v536 : IVec S16 32) (k0_hw627 : k0_chk627 v536), ∀ a x, ((![v536] : Fin 1 → IVec S16 32) a x).toNat < S2048.size a := fun v536 k0_hw627 => k0_hw627.2

def k0_chk628 (v714 : IVec S16 32) : Prop :=
  (∀ a x, ((![v714] : Fin 1 → IVec S16 32) a x).toNat < S32768.size a)
theorem k0_idx830_inb : ∀ (v714 : IVec S16 32) (k0_hw628 : k0_chk628 v714), ∀ a x, ((![v714] : Fin 1 → IVec S16 32) a x).toNat < S32768.size a := fun v714 k0_hw628 => k0_hw628

def k0_chk629 (v540 : IVec S16 32) : Prop :=
  (∀ a x, ((![v540] : Fin 1 → IVec S16 32) a x).toNat < S2048.size a) ∧
  (∀ a x, ((![v540] : Fin 1 → IVec S16 32) a x).toNat < S2048.size a)
theorem k0_idx831_inb : ∀ (v540 : IVec S16 32) (k0_hw629 : k0_chk629 v540), ∀ a x, ((![v540] : Fin 1 → IVec S16 32) a x).toNat < S2048.size a := fun v540 k0_hw629 => k0_hw629.1
theorem k0_idx832_inb : ∀ (v540 : IVec S16 32) (k0_hw629 : k0_chk629 v540), ∀ a x, ((![v540] : Fin 1 → IVec S16 32) a x).toNat < S2048.size a := fun v540 k0_hw629 => k0_hw629.2

def k0_chk630 (v720 : IVec S16 32) : Prop :=
  (∀ a x, ((![v720] : Fin 1 → IVec S16 32) a x).toNat < S32768.size a)
theorem k0_idx833_inb : ∀ (v720 : IVec S16 32) (k0_hw630 : k0_chk630 v720), ∀ a x, ((![v720] : Fin 1 → IVec S16 32) a x).toNat < S32768.size a := fun v720 k0_hw630 => k0_hw630

def k0_chk631 (v544 : IVec S16 32) : Prop :=
  (∀ a x, ((![v544] : Fin 1 → IVec S16 32) a x).toNat < S2048.size a) ∧
  (∀ a x, ((![v544] : Fin 1 → IVec S16 32) a x).toNat < S2048.size a)
theorem k0_idx834_inb : ∀ (v544 : IVec S16 32) (k0_hw631 : k0_chk631 v544), ∀ a x, ((![v544] : Fin 1 → IVec S16 32) a x).toNat < S2048.size a := fun v544 k0_hw631 => k0_hw631.1
theorem k0_idx835_inb : ∀ (v544 : IVec S16 32) (k0_hw631 : k0_chk631 v544), ∀ a x, ((![v544] : Fin 1 → IVec S16 32) a x).toNat < S2048.size a := fun v544 k0_hw631 => k0_hw631.2

def k0_chk632 (v726 : IVec S16 32) : Prop :=
  (∀ a x, ((![v726] : Fin 1 → IVec S16 32) a x).toNat < S32768.size a)
theorem k0_idx836_inb : ∀ (v726 : IVec S16 32) (k0_hw632 : k0_chk632 v726), ∀ a x, ((![v726] : Fin 1 → IVec S16 32) a x).toNat < S32768.size a := fun v726 k0_hw632 => k0_hw632

def k0_chk633 (v548 : IVec S16 32) : Prop :=
  (∀ a x, ((![v548] : Fin 1 → IVec S16 32) a x).toNat < S2048.size a) ∧
  (∀ a x, ((![v548] : Fin 1 → IVec S16 32) a x).toNat < S2048.size a)
theorem k0_idx837_inb : ∀ (v548 : IVec S16 32) (k0_hw633 : k0_chk633 v548), ∀ a x, ((![v548] : Fin 1 → IVec S16 32) a x).toNat < S2048.size a := fun v548 k0_hw633 => k0_hw633.1
theorem k0_idx838_inb : ∀ (v548 : IVec S16 32) (k0_hw633 : k0_chk633 v548), ∀ a x, ((![v548] : Fin 1 → IVec S16 32) a x).toNat < S2048.size a := fun v548 k0_hw633 => k0_hw633.2

def k0_chk634 (v732 : IVec S16 32) : Prop :=
  (∀ a x, ((![v732] : Fin 1 → IVec S16 32) a x).toNat < S32768.size a)
theorem k0_idx839_inb : ∀ (v732 : IVec S16 32) (k0_hw634 : k0_chk634 v732), ∀ a x, ((![v732] : Fin 1 → IVec S16 32) a x).toNat < S32768.size a := fun v732 k0_hw634 => k0_hw634

def k0_chk635 (v552 : IVec S16 32) : Prop :=
  (∀ a x, ((![v552] : Fin 1 → IVec S16 32) a x).toNat < S2048.size a) ∧
  (∀ a x, ((![v552] : Fin 1 → IVec S16 32) a x).toNat < S2048.size a)
theorem k0_idx840_inb : ∀ (v552 : IVec S16 32) (k0_hw635 : k0_chk635 v552), ∀ a x, ((![v552] : Fin 1 → IVec S16 32) a x).toNat < S2048.size a := fun v552 k0_hw635 => k0_hw635.1
theorem k0_idx841_inb : ∀ (v552 : IVec S16 32) (k0_hw635 : k0_chk635 v552), ∀ a x, ((![v552] : Fin 1 → IVec S16 32) a x).toNat < S2048.size a := fun v552 k0_hw635 => k0_hw635.2

def k0_chk636 (v738 : IVec S16 32) : Prop :=
  (∀ a x, ((![v738] : Fin 1 → IVec S16 32) a x).toNat < S32768.size a)
theorem k0_idx842_inb : ∀ (v738 : IVec S16 32) (k0_hw636 : k0_chk636 v738), ∀ a x, ((![v738] : Fin 1 → IVec S16 32) a x).toNat < S32768.size a := fun v738 k0_hw636 => k0_hw636

def k0_chk637 (v556 : IVec S16 32) : Prop :=
  (∀ a x, ((![v556] : Fin 1 → IVec S16 32) a x).toNat < S2048.size a) ∧
  (∀ a x, ((![v556] : Fin 1 → IVec S16 32) a x).toNat < S2048.size a)
theorem k0_idx843_inb : ∀ (v556 : IVec S16 32) (k0_hw637 : k0_chk637 v556), ∀ a x, ((![v556] : Fin 1 → IVec S16 32) a x).toNat < S2048.size a := fun v556 k0_hw637 => k0_hw637.1
theorem k0_idx844_inb : ∀ (v556 : IVec S16 32) (k0_hw637 : k0_chk637 v556), ∀ a x, ((![v556] : Fin 1 → IVec S16 32) a x).toNat < S2048.size a := fun v556 k0_hw637 => k0_hw637.2

def k0_chk638 (v744 : IVec S16 32) : Prop :=
  (∀ a x, ((![v744] : Fin 1 → IVec S16 32) a x).toNat < S32768.size a)
theorem k0_idx845_inb : ∀ (v744 : IVec S16 32) (k0_hw638 : k0_chk638 v744), ∀ a x, ((![v744] : Fin 1 → IVec S16 32) a x).toNat < S32768.size a := fun v744 k0_hw638 => k0_hw638

def k0_chk639 (v560 : IVec S16 32) : Prop :=
  (∀ a x, ((![v560] : Fin 1 → IVec S16 32) a x).toNat < S2048.size a) ∧
  (∀ a x, ((![v560] : Fin 1 → IVec S16 32) a x).toNat < S2048.size a)
theorem k0_idx846_inb : ∀ (v560 : IVec S16 32) (k0_hw639 : k0_chk639 v560), ∀ a x, ((![v560] : Fin 1 → IVec S16 32) a x).toNat < S2048.size a := fun v560 k0_hw639 => k0_hw639.1
theorem k0_idx847_inb : ∀ (v560 : IVec S16 32) (k0_hw639 : k0_chk639 v560), ∀ a x, ((![v560] : Fin 1 → IVec S16 32) a x).toNat < S2048.size a := fun v560 k0_hw639 => k0_hw639.2

def k0_chk640 (v750 : IVec S16 32) : Prop :=
  (∀ a x, ((![v750] : Fin 1 → IVec S16 32) a x).toNat < S32768.size a)
theorem k0_idx848_inb : ∀ (v750 : IVec S16 32) (k0_hw640 : k0_chk640 v750), ∀ a x, ((![v750] : Fin 1 → IVec S16 32) a x).toNat < S32768.size a := fun v750 k0_hw640 => k0_hw640

def k0_chk641 (v564 : IVec S16 32) : Prop :=
  (∀ a x, ((![v564] : Fin 1 → IVec S16 32) a x).toNat < S2048.size a) ∧
  (∀ a x, ((![v564] : Fin 1 → IVec S16 32) a x).toNat < S2048.size a)
theorem k0_idx849_inb : ∀ (v564 : IVec S16 32) (k0_hw641 : k0_chk641 v564), ∀ a x, ((![v564] : Fin 1 → IVec S16 32) a x).toNat < S2048.size a := fun v564 k0_hw641 => k0_hw641.1
theorem k0_idx850_inb : ∀ (v564 : IVec S16 32) (k0_hw641 : k0_chk641 v564), ∀ a x, ((![v564] : Fin 1 → IVec S16 32) a x).toNat < S2048.size a := fun v564 k0_hw641 => k0_hw641.2

def k0_chk642 (v756 : IVec S16 32) : Prop :=
  (∀ a x, ((![v756] : Fin 1 → IVec S16 32) a x).toNat < S32768.size a)
theorem k0_idx851_inb : ∀ (v756 : IVec S16 32) (k0_hw642 : k0_chk642 v756), ∀ a x, ((![v756] : Fin 1 → IVec S16 32) a x).toNat < S32768.size a := fun v756 k0_hw642 => k0_hw642

def k0_chk643 (v568 : IVec S16 32) : Prop :=
  (∀ a x, ((![v568] : Fin 1 → IVec S16 32) a x).toNat < S2048.size a) ∧
  (∀ a x, ((![v568] : Fin 1 → IVec S16 32) a x).toNat < S2048.size a)
theorem k0_idx852_inb : ∀ (v568 : IVec S16 32) (k0_hw643 : k0_chk643 v568), ∀ a x, ((![v568] : Fin 1 → IVec S16 32) a x).toNat < S2048.size a := fun v568 k0_hw643 => k0_hw643.1
theorem k0_idx853_inb : ∀ (v568 : IVec S16 32) (k0_hw643 : k0_chk643 v568), ∀ a x, ((![v568] : Fin 1 → IVec S16 32) a x).toNat < S2048.size a := fun v568 k0_hw643 => k0_hw643.2

def k0_chk644 (v762 : IVec S16 32) : Prop :=
  (∀ a x, ((![v762] : Fin 1 → IVec S16 32) a x).toNat < S32768.size a)
theorem k0_idx854_inb : ∀ (v762 : IVec S16 32) (k0_hw644 : k0_chk644 v762), ∀ a x, ((![v762] : Fin 1 → IVec S16 32) a x).toNat < S32768.size a := fun v762 k0_hw644 => k0_hw644

def k0_chk645 (v572 : IVec S16 32) : Prop :=
  (∀ a x, ((![v572] : Fin 1 → IVec S16 32) a x).toNat < S2048.size a) ∧
  (∀ a x, ((![v572] : Fin 1 → IVec S16 32) a x).toNat < S2048.size a)
theorem k0_idx855_inb : ∀ (v572 : IVec S16 32) (k0_hw645 : k0_chk645 v572), ∀ a x, ((![v572] : Fin 1 → IVec S16 32) a x).toNat < S2048.size a := fun v572 k0_hw645 => k0_hw645.1
theorem k0_idx856_inb : ∀ (v572 : IVec S16 32) (k0_hw645 : k0_chk645 v572), ∀ a x, ((![v572] : Fin 1 → IVec S16 32) a x).toNat < S2048.size a := fun v572 k0_hw645 => k0_hw645.2

def k0_chk646 (v768 : IVec S16 32) : Prop :=
  (∀ a x, ((![v768] : Fin 1 → IVec S16 32) a x).toNat < S32768.size a)
theorem k0_idx857_inb : ∀ (v768 : IVec S16 32) (k0_hw646 : k0_chk646 v768), ∀ a x, ((![v768] : Fin 1 → IVec S16 32) a x).toNat < S32768.size a := fun v768 k0_hw646 => k0_hw646

def k0_chk647 (v576 : IVec S16 32) : Prop :=
  (∀ a x, ((![v576] : Fin 1 → IVec S16 32) a x).toNat < S2048.size a) ∧
  (∀ a x, ((![v576] : Fin 1 → IVec S16 32) a x).toNat < S2048.size a)
theorem k0_idx858_inb : ∀ (v576 : IVec S16 32) (k0_hw647 : k0_chk647 v576), ∀ a x, ((![v576] : Fin 1 → IVec S16 32) a x).toNat < S2048.size a := fun v576 k0_hw647 => k0_hw647.1
theorem k0_idx859_inb : ∀ (v576 : IVec S16 32) (k0_hw647 : k0_chk647 v576), ∀ a x, ((![v576] : Fin 1 → IVec S16 32) a x).toNat < S2048.size a := fun v576 k0_hw647 => k0_hw647.2

def k0_chk648 (v774 : IVec S16 32) : Prop :=
  (∀ a x, ((![v774] : Fin 1 → IVec S16 32) a x).toNat < S32768.size a)
theorem k0_idx860_inb : ∀ (v774 : IVec S16 32) (k0_hw648 : k0_chk648 v774), ∀ a x, ((![v774] : Fin 1 → IVec S16 32) a x).toNat < S32768.size a := fun v774 k0_hw648 => k0_hw648

def k0_chk649 (v580 : IVec S16 32) : Prop :=
  (∀ a x, ((![v580] : Fin 1 → IVec S16 32) a x).toNat < S2048.size a) ∧
  (∀ a x, ((![v580] : Fin 1 → IVec S16 32) a x).toNat < S2048.size a)
theorem k0_idx861_inb : ∀ (v580 : IVec S16 32) (k0_hw649 : k0_chk649 v580), ∀ a x, ((![v580] : Fin 1 → IVec S16 32) a x).toNat < S2048.size a := fun v580 k0_hw649 => k0_hw649.1
theorem k0_idx862_inb : ∀ (v580 : IVec S16 32) (k0_hw649 : k0_chk649 v580), ∀ a x, ((![v580] : Fin 1 → IVec S16 32) a x).toNat < S2048.size a := fun v580 k0_hw649 => k0_hw649.2

def k0_chk650 (v780 : IVec S16 32) : Prop :=
  (∀ a x, ((![v780] : Fin 1 → IVec S16 32) a x).toNat < S32768.size a)
theorem k0_idx863_inb : ∀ (v780 : IVec S16 32) (k0_hw650 : k0_chk650 v780), ∀ a x, ((![v780] : Fin 1 → IVec S16 32) a x).toNat < S32768.size a := fun v780 k0_hw650 => k0_hw650

def k0_chk651 (v584 : IVec S16 32) : Prop :=
  (∀ a x, ((![v584] : Fin 1 → IVec S16 32) a x).toNat < S2048.size a) ∧
  (∀ a x, ((![v584] : Fin 1 → IVec S16 32) a x).toNat < S2048.size a)
theorem k0_idx864_inb : ∀ (v584 : IVec S16 32) (k0_hw651 : k0_chk651 v584), ∀ a x, ((![v584] : Fin 1 → IVec S16 32) a x).toNat < S2048.size a := fun v584 k0_hw651 => k0_hw651.1
theorem k0_idx865_inb : ∀ (v584 : IVec S16 32) (k0_hw651 : k0_chk651 v584), ∀ a x, ((![v584] : Fin 1 → IVec S16 32) a x).toNat < S2048.size a := fun v584 k0_hw651 => k0_hw651.2

def k0_chk652 (v786 : IVec S16 32) : Prop :=
  (∀ a x, ((![v786] : Fin 1 → IVec S16 32) a x).toNat < S32768.size a)
theorem k0_idx866_inb : ∀ (v786 : IVec S16 32) (k0_hw652 : k0_chk652 v786), ∀ a x, ((![v786] : Fin 1 → IVec S16 32) a x).toNat < S32768.size a := fun v786 k0_hw652 => k0_hw652

def k0_chk653 (v588 : IVec S16 32) : Prop :=
  (∀ a x, ((![v588] : Fin 1 → IVec S16 32) a x).toNat < S2048.size a) ∧
  (∀ a x, ((![v588] : Fin 1 → IVec S16 32) a x).toNat < S2048.size a)
theorem k0_idx867_inb : ∀ (v588 : IVec S16 32) (k0_hw653 : k0_chk653 v588), ∀ a x, ((![v588] : Fin 1 → IVec S16 32) a x).toNat < S2048.size a := fun v588 k0_hw653 => k0_hw653.1
theorem k0_idx868_inb : ∀ (v588 : IVec S16 32) (k0_hw653 : k0_chk653 v588), ∀ a x, ((![v588] : Fin 1 → IVec S16 32) a x).toNat < S2048.size a := fun v588 k0_hw653 => k0_hw653.2

def k0_chk654 (v792 : IVec S16 32) : Prop :=
  (∀ a x, ((![v792] : Fin 1 → IVec S16 32) a x).toNat < S32768.size a)
theorem k0_idx869_inb : ∀ (v792 : IVec S16 32) (k0_hw654 : k0_chk654 v792), ∀ a x, ((![v792] : Fin 1 → IVec S16 32) a x).toNat < S32768.size a := fun v792 k0_hw654 => k0_hw654

def k0_chk655 (v592 : IVec S16 32) : Prop :=
  (∀ a x, ((![v592] : Fin 1 → IVec S16 32) a x).toNat < S2048.size a) ∧
  (∀ a x, ((![v592] : Fin 1 → IVec S16 32) a x).toNat < S2048.size a)
theorem k0_idx870_inb : ∀ (v592 : IVec S16 32) (k0_hw655 : k0_chk655 v592), ∀ a x, ((![v592] : Fin 1 → IVec S16 32) a x).toNat < S2048.size a := fun v592 k0_hw655 => k0_hw655.1
theorem k0_idx871_inb : ∀ (v592 : IVec S16 32) (k0_hw655 : k0_chk655 v592), ∀ a x, ((![v592] : Fin 1 → IVec S16 32) a x).toNat < S2048.size a := fun v592 k0_hw655 => k0_hw655.2

def k0_chk656 (v798 : IVec S16 32) : Prop :=
  (∀ a x, ((![v798] : Fin 1 → IVec S16 32) a x).toNat < S32768.size a)
theorem k0_idx872_inb : ∀ (v798 : IVec S16 32) (k0_hw656 : k0_chk656 v798), ∀ a x, ((![v798] : Fin 1 → IVec S16 32) a x).toNat < S32768.size a := fun v798 k0_hw656 => k0_hw656

def k0_chk657 (v596 : IVec S16 32) : Prop :=
  (∀ a x, ((![v596] : Fin 1 → IVec S16 32) a x).toNat < S2048.size a) ∧
  (∀ a x, ((![v596] : Fin 1 → IVec S16 32) a x).toNat < S2048.size a)
theorem k0_idx873_inb : ∀ (v596 : IVec S16 32) (k0_hw657 : k0_chk657 v596), ∀ a x, ((![v596] : Fin 1 → IVec S16 32) a x).toNat < S2048.size a := fun v596 k0_hw657 => k0_hw657.1
theorem k0_idx874_inb : ∀ (v596 : IVec S16 32) (k0_hw657 : k0_chk657 v596), ∀ a x, ((![v596] : Fin 1 → IVec S16 32) a x).toNat < S2048.size a := fun v596 k0_hw657 => k0_hw657.2

def k0_chk658 (v804 : IVec S16 32) : Prop :=
  (∀ a x, ((![v804] : Fin 1 → IVec S16 32) a x).toNat < S32768.size a)
theorem k0_idx875_inb : ∀ (v804 : IVec S16 32) (k0_hw658 : k0_chk658 v804), ∀ a x, ((![v804] : Fin 1 → IVec S16 32) a x).toNat < S32768.size a := fun v804 k0_hw658 => k0_hw658

def k0_chk659 (v600 : IVec S16 32) : Prop :=
  (∀ a x, ((![v600] : Fin 1 → IVec S16 32) a x).toNat < S2048.size a) ∧
  (∀ a x, ((![v600] : Fin 1 → IVec S16 32) a x).toNat < S2048.size a)
theorem k0_idx876_inb : ∀ (v600 : IVec S16 32) (k0_hw659 : k0_chk659 v600), ∀ a x, ((![v600] : Fin 1 → IVec S16 32) a x).toNat < S2048.size a := fun v600 k0_hw659 => k0_hw659.1
theorem k0_idx877_inb : ∀ (v600 : IVec S16 32) (k0_hw659 : k0_chk659 v600), ∀ a x, ((![v600] : Fin 1 → IVec S16 32) a x).toNat < S2048.size a := fun v600 k0_hw659 => k0_hw659.2

def k0_chk660 (v810 : IVec S16 32) : Prop :=
  (∀ a x, ((![v810] : Fin 1 → IVec S16 32) a x).toNat < S32768.size a)
theorem k0_idx878_inb : ∀ (v810 : IVec S16 32) (k0_hw660 : k0_chk660 v810), ∀ a x, ((![v810] : Fin 1 → IVec S16 32) a x).toNat < S32768.size a := fun v810 k0_hw660 => k0_hw660

def k0_chk661 (v604 : IVec S16 32) : Prop :=
  (∀ a x, ((![v604] : Fin 1 → IVec S16 32) a x).toNat < S2048.size a) ∧
  (∀ a x, ((![v604] : Fin 1 → IVec S16 32) a x).toNat < S2048.size a)
theorem k0_idx879_inb : ∀ (v604 : IVec S16 32) (k0_hw661 : k0_chk661 v604), ∀ a x, ((![v604] : Fin 1 → IVec S16 32) a x).toNat < S2048.size a := fun v604 k0_hw661 => k0_hw661.1
theorem k0_idx880_inb : ∀ (v604 : IVec S16 32) (k0_hw661 : k0_chk661 v604), ∀ a x, ((![v604] : Fin 1 → IVec S16 32) a x).toNat < S2048.size a := fun v604 k0_hw661 => k0_hw661.2

def k0_chk662 (v816 : IVec S16 32) : Prop :=
  (∀ a x, ((![v816] : Fin 1 → IVec S16 32) a x).toNat < S32768.size a)
theorem k0_idx881_inb : ∀ (v816 : IVec S16 32) (k0_hw662 : k0_chk662 v816), ∀ a x, ((![v816] : Fin 1 → IVec S16 32) a x).toNat < S32768.size a := fun v816 k0_hw662 => k0_hw662

def k0_chk663 (v608 : IVec S16 32) : Prop :=
  (∀ a x, ((![v608] : Fin 1 → IVec S16 32) a x).toNat < S2048.size a) ∧
  (∀ a x, ((![v608] : Fin 1 → IVec S16 32) a x).toNat < S2048.size a)
theorem k0_idx882_inb : ∀ (v608 : IVec S16 32) (k0_hw663 : k0_chk663 v608), ∀ a x, ((![v608] : Fin 1 → IVec S16 32) a x).toNat < S2048.size a := fun v608 k0_hw663 => k0_hw663.1
theorem k0_idx883_inb : ∀ (v608 : IVec S16 32) (k0_hw663 : k0_chk663 v608), ∀ a x, ((![v608] : Fin 1 → IVec S16 32) a x).toNat < S2048.size a := fun v608 k0_hw663 => k0_hw663.2

def k0_chk664 (v822 : IVec S16 32) : Prop :=
  (∀ a x, ((![v822] : Fin 1 → IVec S16 32) a x).toNat < S32768.size a)
theorem k0_idx884_inb : ∀ (v822 : IVec S16 32) (k0_hw664 : k0_chk664 v822), ∀ a x, ((![v822] : Fin 1 → IVec S16 32) a x).toNat < S32768.size a := fun v822 k0_hw664 => k0_hw664

def k0_chk665 (v612 : IVec S16 32) : Prop :=
  (∀ a x, ((![v612] : Fin 1 → IVec S16 32) a x).toNat < S2048.size a) ∧
  (∀ a x, ((![v612] : Fin 1 → IVec S16 32) a x).toNat < S2048.size a)
theorem k0_idx885_inb : ∀ (v612 : IVec S16 32) (k0_hw665 : k0_chk665 v612), ∀ a x, ((![v612] : Fin 1 → IVec S16 32) a x).toNat < S2048.size a := fun v612 k0_hw665 => k0_hw665.1
theorem k0_idx886_inb : ∀ (v612 : IVec S16 32) (k0_hw665 : k0_chk665 v612), ∀ a x, ((![v612] : Fin 1 → IVec S16 32) a x).toNat < S2048.size a := fun v612 k0_hw665 => k0_hw665.2

def k0_chk666 (v828 : IVec S16 32) : Prop :=
  (∀ a x, ((![v828] : Fin 1 → IVec S16 32) a x).toNat < S32768.size a)
theorem k0_idx887_inb : ∀ (v828 : IVec S16 32) (k0_hw666 : k0_chk666 v828), ∀ a x, ((![v828] : Fin 1 → IVec S16 32) a x).toNat < S32768.size a := fun v828 k0_hw666 => k0_hw666

def k0_chk667 (v616 : IVec S16 32) : Prop :=
  (∀ a x, ((![v616] : Fin 1 → IVec S16 32) a x).toNat < S2048.size a) ∧
  (∀ a x, ((![v616] : Fin 1 → IVec S16 32) a x).toNat < S2048.size a)
theorem k0_idx888_inb : ∀ (v616 : IVec S16 32) (k0_hw667 : k0_chk667 v616), ∀ a x, ((![v616] : Fin 1 → IVec S16 32) a x).toNat < S2048.size a := fun v616 k0_hw667 => k0_hw667.1
theorem k0_idx889_inb : ∀ (v616 : IVec S16 32) (k0_hw667 : k0_chk667 v616), ∀ a x, ((![v616] : Fin 1 → IVec S16 32) a x).toNat < S2048.size a := fun v616 k0_hw667 => k0_hw667.2

def k0_chk668 (v834 : IVec S16 32) : Prop :=
  (∀ a x, ((![v834] : Fin 1 → IVec S16 32) a x).toNat < S32768.size a)
theorem k0_idx890_inb : ∀ (v834 : IVec S16 32) (k0_hw668 : k0_chk668 v834), ∀ a x, ((![v834] : Fin 1 → IVec S16 32) a x).toNat < S32768.size a := fun v834 k0_hw668 => k0_hw668

def k0_chk669 (v620 : IVec S16 32) : Prop :=
  (∀ a x, ((![v620] : Fin 1 → IVec S16 32) a x).toNat < S2048.size a) ∧
  (∀ a x, ((![v620] : Fin 1 → IVec S16 32) a x).toNat < S2048.size a)
theorem k0_idx891_inb : ∀ (v620 : IVec S16 32) (k0_hw669 : k0_chk669 v620), ∀ a x, ((![v620] : Fin 1 → IVec S16 32) a x).toNat < S2048.size a := fun v620 k0_hw669 => k0_hw669.1
theorem k0_idx892_inb : ∀ (v620 : IVec S16 32) (k0_hw669 : k0_chk669 v620), ∀ a x, ((![v620] : Fin 1 → IVec S16 32) a x).toNat < S2048.size a := fun v620 k0_hw669 => k0_hw669.2

def k0_chk670 (v840 : IVec S16 32) : Prop :=
  (∀ a x, ((![v840] : Fin 1 → IVec S16 32) a x).toNat < S32768.size a)
theorem k0_idx893_inb : ∀ (v840 : IVec S16 32) (k0_hw670 : k0_chk670 v840), ∀ a x, ((![v840] : Fin 1 → IVec S16 32) a x).toNat < S32768.size a := fun v840 k0_hw670 => k0_hw670

def k0_chk671 (v624 : IVec S16 32) : Prop :=
  (∀ a x, ((![v624] : Fin 1 → IVec S16 32) a x).toNat < S2048.size a) ∧
  (∀ a x, ((![v624] : Fin 1 → IVec S16 32) a x).toNat < S2048.size a)
theorem k0_idx894_inb : ∀ (v624 : IVec S16 32) (k0_hw671 : k0_chk671 v624), ∀ a x, ((![v624] : Fin 1 → IVec S16 32) a x).toNat < S2048.size a := fun v624 k0_hw671 => k0_hw671.1
theorem k0_idx895_inb : ∀ (v624 : IVec S16 32) (k0_hw671 : k0_chk671 v624), ∀ a x, ((![v624] : Fin 1 → IVec S16 32) a x).toNat < S2048.size a := fun v624 k0_hw671 => k0_hw671.2

def k0_chk672 (v846 : IVec S16 32) : Prop :=
  (∀ a x, ((![v846] : Fin 1 → IVec S16 32) a x).toNat < S32768.size a)
theorem k0_idx896_inb : ∀ (v846 : IVec S16 32) (k0_hw672 : k0_chk672 v846), ∀ a x, ((![v846] : Fin 1 → IVec S16 32) a x).toNat < S32768.size a := fun v846 k0_hw672 => k0_hw672

def k0_chk673 (v857 : IVec S16 32) : Prop :=
  (∀ a x, ((![v857] : Fin 1 → IVec S16 32) a x).toNat < S4096.size a)
theorem k0_idx897_inb : ∀ (v857 : IVec S16 32) (k0_hw673 : k0_chk673 v857), ∀ a x, ((![v857] : Fin 1 → IVec S16 32) a x).toNat < S4096.size a := fun v857 k0_hw673 => k0_hw673

def k0_chk674 (v866 : IVec S16 32) : Prop :=
  (∀ a x, ((![v866] : Fin 1 → IVec S16 32) a x).toNat < S4096.size a)
theorem k0_idx898_inb : ∀ (v866 : IVec S16 32) (k0_hw674 : k0_chk674 v866), ∀ a x, ((![v866] : Fin 1 → IVec S16 32) a x).toNat < S4096.size a := fun v866 k0_hw674 => k0_hw674

def k0_chk675 (v875 : IVec S16 32) : Prop :=
  (∀ a x, ((![v875] : Fin 1 → IVec S16 32) a x).toNat < S4096.size a)
theorem k0_idx899_inb : ∀ (v875 : IVec S16 32) (k0_hw675 : k0_chk675 v875), ∀ a x, ((![v875] : Fin 1 → IVec S16 32) a x).toNat < S4096.size a := fun v875 k0_hw675 => k0_hw675

def k0_chk676 (v884 : IVec S16 32) : Prop :=
  (∀ a x, ((![v884] : Fin 1 → IVec S16 32) a x).toNat < S4096.size a)
theorem k0_idx900_inb : ∀ (v884 : IVec S16 32) (k0_hw676 : k0_chk676 v884), ∀ a x, ((![v884] : Fin 1 → IVec S16 32) a x).toNat < S4096.size a := fun v884 k0_hw676 => k0_hw676

def k0_chk677 (v893 : IVec S16 32) : Prop :=
  (∀ a x, ((![v893] : Fin 1 → IVec S16 32) a x).toNat < S4096.size a)
theorem k0_idx901_inb : ∀ (v893 : IVec S16 32) (k0_hw677 : k0_chk677 v893), ∀ a x, ((![v893] : Fin 1 → IVec S16 32) a x).toNat < S4096.size a := fun v893 k0_hw677 => k0_hw677

def k0_chk678 (v902 : IVec S16 32) : Prop :=
  (∀ a x, ((![v902] : Fin 1 → IVec S16 32) a x).toNat < S4096.size a)
theorem k0_idx902_inb : ∀ (v902 : IVec S16 32) (k0_hw678 : k0_chk678 v902), ∀ a x, ((![v902] : Fin 1 → IVec S16 32) a x).toNat < S4096.size a := fun v902 k0_hw678 => k0_hw678

def k0_chk679 (v911 : IVec S16 32) : Prop :=
  (∀ a x, ((![v911] : Fin 1 → IVec S16 32) a x).toNat < S4096.size a)
theorem k0_idx903_inb : ∀ (v911 : IVec S16 32) (k0_hw679 : k0_chk679 v911), ∀ a x, ((![v911] : Fin 1 → IVec S16 32) a x).toNat < S4096.size a := fun v911 k0_hw679 => k0_hw679

def k0_chk680 (v920 : IVec S16 32) : Prop :=
  (∀ a x, ((![v920] : Fin 1 → IVec S16 32) a x).toNat < S4096.size a)
theorem k0_idx904_inb : ∀ (v920 : IVec S16 32) (k0_hw680 : k0_chk680 v920), ∀ a x, ((![v920] : Fin 1 → IVec S16 32) a x).toNat < S4096.size a := fun v920 k0_hw680 => k0_hw680

def k0_chk681 (v929 : IVec S16 32) : Prop :=
  (∀ a x, ((![v929] : Fin 1 → IVec S16 32) a x).toNat < S4096.size a)
theorem k0_idx905_inb : ∀ (v929 : IVec S16 32) (k0_hw681 : k0_chk681 v929), ∀ a x, ((![v929] : Fin 1 → IVec S16 32) a x).toNat < S4096.size a := fun v929 k0_hw681 => k0_hw681

def k0_chk682 (v938 : IVec S16 32) : Prop :=
  (∀ a x, ((![v938] : Fin 1 → IVec S16 32) a x).toNat < S4096.size a)
theorem k0_idx906_inb : ∀ (v938 : IVec S16 32) (k0_hw682 : k0_chk682 v938), ∀ a x, ((![v938] : Fin 1 → IVec S16 32) a x).toNat < S4096.size a := fun v938 k0_hw682 => k0_hw682

def k0_chk683 (v947 : IVec S16 32) : Prop :=
  (∀ a x, ((![v947] : Fin 1 → IVec S16 32) a x).toNat < S4096.size a)
theorem k0_idx907_inb : ∀ (v947 : IVec S16 32) (k0_hw683 : k0_chk683 v947), ∀ a x, ((![v947] : Fin 1 → IVec S16 32) a x).toNat < S4096.size a := fun v947 k0_hw683 => k0_hw683

def k0_chk684 (v956 : IVec S16 32) : Prop :=
  (∀ a x, ((![v956] : Fin 1 → IVec S16 32) a x).toNat < S4096.size a)
theorem k0_idx908_inb : ∀ (v956 : IVec S16 32) (k0_hw684 : k0_chk684 v956), ∀ a x, ((![v956] : Fin 1 → IVec S16 32) a x).toNat < S4096.size a := fun v956 k0_hw684 => k0_hw684

def k0_chk685 (v965 : IVec S16 32) : Prop :=
  (∀ a x, ((![v965] : Fin 1 → IVec S16 32) a x).toNat < S4096.size a)
theorem k0_idx909_inb : ∀ (v965 : IVec S16 32) (k0_hw685 : k0_chk685 v965), ∀ a x, ((![v965] : Fin 1 → IVec S16 32) a x).toNat < S4096.size a := fun v965 k0_hw685 => k0_hw685

def k0_chk686 (v974 : IVec S16 32) : Prop :=
  (∀ a x, ((![v974] : Fin 1 → IVec S16 32) a x).toNat < S4096.size a)
theorem k0_idx910_inb : ∀ (v974 : IVec S16 32) (k0_hw686 : k0_chk686 v974), ∀ a x, ((![v974] : Fin 1 → IVec S16 32) a x).toNat < S4096.size a := fun v974 k0_hw686 => k0_hw686

def k0_chk687 (v983 : IVec S16 32) : Prop :=
  (∀ a x, ((![v983] : Fin 1 → IVec S16 32) a x).toNat < S4096.size a)
theorem k0_idx911_inb : ∀ (v983 : IVec S16 32) (k0_hw687 : k0_chk687 v983), ∀ a x, ((![v983] : Fin 1 → IVec S16 32) a x).toNat < S4096.size a := fun v983 k0_hw687 => k0_hw687

def k0_chk688 (v992 : IVec S16 32) : Prop :=
  (∀ a x, ((![v992] : Fin 1 → IVec S16 32) a x).toNat < S4096.size a)
theorem k0_idx912_inb : ∀ (v992 : IVec S16 32) (k0_hw688 : k0_chk688 v992), ∀ a x, ((![v992] : Fin 1 → IVec S16 32) a x).toNat < S4096.size a := fun v992 k0_hw688 => k0_hw688

def k0_chk689 (v1001 : IVec S16 32) : Prop :=
  (∀ a x, ((![v1001] : Fin 1 → IVec S16 32) a x).toNat < S4096.size a)
theorem k0_idx913_inb : ∀ (v1001 : IVec S16 32) (k0_hw689 : k0_chk689 v1001), ∀ a x, ((![v1001] : Fin 1 → IVec S16 32) a x).toNat < S4096.size a := fun v1001 k0_hw689 => k0_hw689

def k0_chk690 (v1010 : IVec S16 32) : Prop :=
  (∀ a x, ((![v1010] : Fin 1 → IVec S16 32) a x).toNat < S4096.size a)
theorem k0_idx914_inb : ∀ (v1010 : IVec S16 32) (k0_hw690 : k0_chk690 v1010), ∀ a x, ((![v1010] : Fin 1 → IVec S16 32) a x).toNat < S4096.size a := fun v1010 k0_hw690 => k0_hw690

def k0_chk691 (v1019 : IVec S16 32) : Prop :=
  (∀ a x, ((![v1019] : Fin 1 → IVec S16 32) a x).toNat < S4096.size a)
theorem k0_idx915_inb : ∀ (v1019 : IVec S16 32) (k0_hw691 : k0_chk691 v1019), ∀ a x, ((![v1019] : Fin 1 → IVec S16 32) a x).toNat < S4096.size a := fun v1019 k0_hw691 => k0_hw691

def k0_chk692 (v1028 : IVec S16 32) : Prop :=
  (∀ a x, ((![v1028] : Fin 1 → IVec S16 32) a x).toNat < S4096.size a)
theorem k0_idx916_inb : ∀ (v1028 : IVec S16 32) (k0_hw692 : k0_chk692 v1028), ∀ a x, ((![v1028] : Fin 1 → IVec S16 32) a x).toNat < S4096.size a := fun v1028 k0_hw692 => k0_hw692

def k0_chk693 (v1037 : IVec S16 32) : Prop :=
  (∀ a x, ((![v1037] : Fin 1 → IVec S16 32) a x).toNat < S4096.size a)
theorem k0_idx917_inb : ∀ (v1037 : IVec S16 32) (k0_hw693 : k0_chk693 v1037), ∀ a x, ((![v1037] : Fin 1 → IVec S16 32) a x).toNat < S4096.size a := fun v1037 k0_hw693 => k0_hw693

def k0_chk694 (v1046 : IVec S16 32) : Prop :=
  (∀ a x, ((![v1046] : Fin 1 → IVec S16 32) a x).toNat < S4096.size a)
theorem k0_idx918_inb : ∀ (v1046 : IVec S16 32) (k0_hw694 : k0_chk694 v1046), ∀ a x, ((![v1046] : Fin 1 → IVec S16 32) a x).toNat < S4096.size a := fun v1046 k0_hw694 => k0_hw694

def k0_chk695 (v1055 : IVec S16 32) : Prop :=
  (∀ a x, ((![v1055] : Fin 1 → IVec S16 32) a x).toNat < S4096.size a)
theorem k0_idx919_inb : ∀ (v1055 : IVec S16 32) (k0_hw695 : k0_chk695 v1055), ∀ a x, ((![v1055] : Fin 1 → IVec S16 32) a x).toNat < S4096.size a := fun v1055 k0_hw695 => k0_hw695

def k0_chk696 (v1064 : IVec S16 32) : Prop :=
  (∀ a x, ((![v1064] : Fin 1 → IVec S16 32) a x).toNat < S4096.size a)
theorem k0_idx920_inb : ∀ (v1064 : IVec S16 32) (k0_hw696 : k0_chk696 v1064), ∀ a x, ((![v1064] : Fin 1 → IVec S16 32) a x).toNat < S4096.size a := fun v1064 k0_hw696 => k0_hw696

def k0_chk697 (v1073 : IVec S16 32) : Prop :=
  (∀ a x, ((![v1073] : Fin 1 → IVec S16 32) a x).toNat < S4096.size a)
theorem k0_idx921_inb : ∀ (v1073 : IVec S16 32) (k0_hw697 : k0_chk697 v1073), ∀ a x, ((![v1073] : Fin 1 → IVec S16 32) a x).toNat < S4096.size a := fun v1073 k0_hw697 => k0_hw697

def k0_chk698 (v1082 : IVec S16 32) : Prop :=
  (∀ a x, ((![v1082] : Fin 1 → IVec S16 32) a x).toNat < S4096.size a)
theorem k0_idx922_inb : ∀ (v1082 : IVec S16 32) (k0_hw698 : k0_chk698 v1082), ∀ a x, ((![v1082] : Fin 1 → IVec S16 32) a x).toNat < S4096.size a := fun v1082 k0_hw698 => k0_hw698

def k0_chk699 (v1091 : IVec S16 32) : Prop :=
  (∀ a x, ((![v1091] : Fin 1 → IVec S16 32) a x).toNat < S4096.size a)
theorem k0_idx923_inb : ∀ (v1091 : IVec S16 32) (k0_hw699 : k0_chk699 v1091), ∀ a x, ((![v1091] : Fin 1 → IVec S16 32) a x).toNat < S4096.size a := fun v1091 k0_hw699 => k0_hw699

def k0_chk700 (v1100 : IVec S16 32) : Prop :=
  (∀ a x, ((![v1100] : Fin 1 → IVec S16 32) a x).toNat < S4096.size a)
theorem k0_idx924_inb : ∀ (v1100 : IVec S16 32) (k0_hw700 : k0_chk700 v1100), ∀ a x, ((![v1100] : Fin 1 → IVec S16 32) a x).toNat < S4096.size a := fun v1100 k0_hw700 => k0_hw700

def k0_chk701 (v1109 : IVec S16 32) : Prop :=
  (∀ a x, ((![v1109] : Fin 1 → IVec S16 32) a x).toNat < S4096.size a)
theorem k0_idx925_inb : ∀ (v1109 : IVec S16 32) (k0_hw701 : k0_chk701 v1109), ∀ a x, ((![v1109] : Fin 1 → IVec S16 32) a x).toNat < S4096.size a := fun v1109 k0_hw701 => k0_hw701

def k0_chk702 (v1118 : IVec S16 32) : Prop :=
  (∀ a x, ((![v1118] : Fin 1 → IVec S16 32) a x).toNat < S4096.size a)
theorem k0_idx926_inb : ∀ (v1118 : IVec S16 32) (k0_hw702 : k0_chk702 v1118), ∀ a x, ((![v1118] : Fin 1 → IVec S16 32) a x).toNat < S4096.size a := fun v1118 k0_hw702 => k0_hw702

def k0_chk703 (v1127 : IVec S16 32) : Prop :=
  (∀ a x, ((![v1127] : Fin 1 → IVec S16 32) a x).toNat < S4096.size a)
theorem k0_idx927_inb : ∀ (v1127 : IVec S16 32) (k0_hw703 : k0_chk703 v1127), ∀ a x, ((![v1127] : Fin 1 → IVec S16 32) a x).toNat < S4096.size a := fun v1127 k0_hw703 => k0_hw703

def k0_chk704 (v1136 : IVec S16 32) : Prop :=
  (∀ a x, ((![v1136] : Fin 1 → IVec S16 32) a x).toNat < S4096.size a)
theorem k0_idx928_inb : ∀ (v1136 : IVec S16 32) (k0_hw704 : k0_chk704 v1136), ∀ a x, ((![v1136] : Fin 1 → IVec S16 32) a x).toNat < S4096.size a := fun v1136 k0_hw704 => k0_hw704
@[reducible] def k0_t35_loop : Scf.Loop 32 :=
  let c0_i32_196 : BitVec 32 := 0#32
  let c128_i32_197 : BitVec 32 := 128#32
  let v97 : BitVec 32 := Scalar.addi c0_i32_196 c128_i32_197
  let c1_i32_198 : BitVec 32 := 1#32
  ⟨c0_i32_196, v97, c1_i32_198⟩
def k0_off65 (k0_t35 : Fin k0_t35_loop.trips) : Fin 1 → Nat :=
  let c0_i32_196 : BitVec 32 := 0#32
  let c1_i32_198 : BitVec 32 := 1#32
  let arg15 : BitVec 32 := Scf.iv c0_i32_196 c1_i32_198 k0_t35
  let c16_i32_312 : BitVec 32 := 16#32
  let v146 : BitVec 32 := Scalar.muli arg15 c16_i32_312
  let v147 : Index := Scalar.indexCast v146
  ![v147.toNat]
def k0_off66 (k0_t35 : Fin k0_t35_loop.trips) : Fin 1 → Nat :=
  let c2048_i32 : BitVec 32 := 2048#32
  let c0_i32_196 : BitVec 32 := 0#32
  let c1_i32_198 : BitVec 32 := 1#32
  let arg15 : BitVec 32 := Scf.iv c0_i32_196 c1_i32_198 k0_t35
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off67 (k0_t35 : Fin k0_t35_loop.trips) : Fin 1 → Nat :=
  let c0_i32_196 : BitVec 32 := 0#32
  let c1_i32_198 : BitVec 32 := 1#32
  let arg15 : BitVec 32 := Scf.iv c0_i32_196 c1_i32_198 k0_t35
  let c16_i32 : BitVec 32 := 16#32
  let v145 : BitVec 32 := Scalar.muli arg15 c16_i32
  let v154 : Index := Scalar.indexCast v145
  ![v154.toNat]
@[reducible] def k0_t36_loop : Scf.Loop 32 :=
  let c0_i32_201 : BitVec 32 := 0#32
  let c128_i32_202 : BitVec 32 := 128#32
  let v98 : BitVec 32 := Scalar.addi c0_i32_201 c128_i32_202
  let c1_i32_203 : BitVec 32 := 1#32
  ⟨c0_i32_201, v98, c1_i32_203⟩
def k0_off68 (k0_t36 : Fin k0_t36_loop.trips) : Fin 1 → Nat :=
  let c0_i32_201 : BitVec 32 := 0#32
  let c1_i32_203 : BitVec 32 := 1#32
  let arg15 : BitVec 32 := Scf.iv c0_i32_201 c1_i32_203 k0_t36
  let c16_i32 : BitVec 32 := 16#32
  let v145 : BitVec 32 := Scalar.muli arg15 c16_i32
  let v146 : Index := Scalar.indexCast v145
  ![v146.toNat]
@[reducible] def k0_t37_loop : Scf.Loop 32 :=
  let c0_i32_206 : BitVec 32 := 0#32
  let c128_i32_207 : BitVec 32 := 128#32
  let v100 : BitVec 32 := Scalar.addi c0_i32_206 c128_i32_207
  let c1_i32_208 : BitVec 32 := 1#32
  ⟨c0_i32_206, v100, c1_i32_208⟩
def k0_off69 (k0_t37 : Fin k0_t37_loop.trips) : Fin 1 → Nat :=
  let c0_i32_206 : BitVec 32 := 0#32
  let c1_i32_208 : BitVec 32 := 1#32
  let arg15 : BitVec 32 := Scf.iv c0_i32_206 c1_i32_208 k0_t37
  let c16_i32 : BitVec 32 := 16#32
  let v145 : BitVec 32 := Scalar.muli arg15 c16_i32
  let v146 : Index := Scalar.indexCast v145
  ![v146.toNat]
def k0_off70 (k0_t37 : Fin k0_t37_loop.trips) : Fin 1 → Nat :=
  let c0_i32_206 : BitVec 32 := 0#32
  let c1_i32_208 : BitVec 32 := 1#32
  let arg15 : BitVec 32 := Scf.iv c0_i32_206 c1_i32_208 k0_t37
  let c16_i32_312 : BitVec 32 := 16#32
  let v150 : BitVec 32 := Scalar.muli arg15 c16_i32_312
  let v151 : Index := Scalar.indexCast v150
  ![v151.toNat]
def k0_off71 (k0_t37 : Fin k0_t37_loop.trips) : Fin 1 → Nat :=
  let c2048_i32 : BitVec 32 := 2048#32
  let c0_i32_206 : BitVec 32 := 0#32
  let c1_i32_208 : BitVec 32 := 1#32
  let arg15 : BitVec 32 := Scf.iv c0_i32_206 c1_i32_208 k0_t37
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t38_loop : Scf.Loop 32 :=
  let c0_i32_211 : BitVec 32 := 0#32
  let c64_i32_212 : BitVec 32 := 64#32
  let v101 : BitVec 32 := Scalar.addi c0_i32_211 c64_i32_212
  let c1_i32_213 : BitVec 32 := 1#32
  ⟨c0_i32_211, v101, c1_i32_213⟩
def k0_off72 (k0_t38 : Fin k0_t38_loop.trips) (c0_i32_312 : BitVec 32) (c0_i32_313 : BitVec 32) : Fin 1 → Nat :=
  let c0_i32_211 : BitVec 32 := 0#32
  let c1_i32_213 : BitVec 32 := 1#32
  let arg15 : BitVec 32 := Scf.iv c0_i32_211 c1_i32_213 k0_t38
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk705 (v340 : IVec S16 32) : Prop :=
  (∀ a x, ((![v340] : Fin 1 → IVec S16 32) a x).toNat < S2048.size a) ∧
  (∀ a x, ((![v340] : Fin 1 → IVec S16 32) a x).toNat < S2048.size a)
theorem k0_idx929_inb : ∀ (v340 : IVec S16 32) (k0_hw705 : k0_chk705 v340), ∀ a x, ((![v340] : Fin 1 → IVec S16 32) a x).toNat < S2048.size a := fun v340 k0_hw705 => k0_hw705.1
theorem k0_idx930_inb : ∀ (v340 : IVec S16 32) (k0_hw705 : k0_chk705 v340), ∀ a x, ((![v340] : Fin 1 → IVec S16 32) a x).toNat < S2048.size a := fun v340 k0_hw705 => k0_hw705.2

def k0_chk706 (v500 : IVec S16 32) : Prop :=
  (∀ a x, ((![v500] : Fin 1 → IVec S16 32) a x).toNat < S32768.size a)
theorem k0_idx931_inb : ∀ (v500 : IVec S16 32) (k0_hw706 : k0_chk706 v500), ∀ a x, ((![v500] : Fin 1 → IVec S16 32) a x).toNat < S32768.size a := fun v500 k0_hw706 => k0_hw706

def k0_chk707 (v344 : IVec S16 32) : Prop :=
  (∀ a x, ((![v344] : Fin 1 → IVec S16 32) a x).toNat < S2048.size a) ∧
  (∀ a x, ((![v344] : Fin 1 → IVec S16 32) a x).toNat < S2048.size a)
theorem k0_idx932_inb : ∀ (v344 : IVec S16 32) (k0_hw707 : k0_chk707 v344), ∀ a x, ((![v344] : Fin 1 → IVec S16 32) a x).toNat < S2048.size a := fun v344 k0_hw707 => k0_hw707.1
theorem k0_idx933_inb : ∀ (v344 : IVec S16 32) (k0_hw707 : k0_chk707 v344), ∀ a x, ((![v344] : Fin 1 → IVec S16 32) a x).toNat < S2048.size a := fun v344 k0_hw707 => k0_hw707.2

def k0_chk708 (v506 : IVec S16 32) : Prop :=
  (∀ a x, ((![v506] : Fin 1 → IVec S16 32) a x).toNat < S32768.size a)
theorem k0_idx934_inb : ∀ (v506 : IVec S16 32) (k0_hw708 : k0_chk708 v506), ∀ a x, ((![v506] : Fin 1 → IVec S16 32) a x).toNat < S32768.size a := fun v506 k0_hw708 => k0_hw708

def k0_chk709 (v348 : IVec S16 32) : Prop :=
  (∀ a x, ((![v348] : Fin 1 → IVec S16 32) a x).toNat < S2048.size a) ∧
  (∀ a x, ((![v348] : Fin 1 → IVec S16 32) a x).toNat < S2048.size a)
theorem k0_idx935_inb : ∀ (v348 : IVec S16 32) (k0_hw709 : k0_chk709 v348), ∀ a x, ((![v348] : Fin 1 → IVec S16 32) a x).toNat < S2048.size a := fun v348 k0_hw709 => k0_hw709.1
theorem k0_idx936_inb : ∀ (v348 : IVec S16 32) (k0_hw709 : k0_chk709 v348), ∀ a x, ((![v348] : Fin 1 → IVec S16 32) a x).toNat < S2048.size a := fun v348 k0_hw709 => k0_hw709.2

def k0_chk710 (v512 : IVec S16 32) : Prop :=
  (∀ a x, ((![v512] : Fin 1 → IVec S16 32) a x).toNat < S32768.size a)
theorem k0_idx937_inb : ∀ (v512 : IVec S16 32) (k0_hw710 : k0_chk710 v512), ∀ a x, ((![v512] : Fin 1 → IVec S16 32) a x).toNat < S32768.size a := fun v512 k0_hw710 => k0_hw710

def k0_chk711 (v352 : IVec S16 32) : Prop :=
  (∀ a x, ((![v352] : Fin 1 → IVec S16 32) a x).toNat < S2048.size a) ∧
  (∀ a x, ((![v352] : Fin 1 → IVec S16 32) a x).toNat < S2048.size a)
theorem k0_idx938_inb : ∀ (v352 : IVec S16 32) (k0_hw711 : k0_chk711 v352), ∀ a x, ((![v352] : Fin 1 → IVec S16 32) a x).toNat < S2048.size a := fun v352 k0_hw711 => k0_hw711.1
theorem k0_idx939_inb : ∀ (v352 : IVec S16 32) (k0_hw711 : k0_chk711 v352), ∀ a x, ((![v352] : Fin 1 → IVec S16 32) a x).toNat < S2048.size a := fun v352 k0_hw711 => k0_hw711.2

def k0_chk712 (v518 : IVec S16 32) : Prop :=
  (∀ a x, ((![v518] : Fin 1 → IVec S16 32) a x).toNat < S32768.size a)
theorem k0_idx940_inb : ∀ (v518 : IVec S16 32) (k0_hw712 : k0_chk712 v518), ∀ a x, ((![v518] : Fin 1 → IVec S16 32) a x).toNat < S32768.size a := fun v518 k0_hw712 => k0_hw712

def k0_chk713 (v356 : IVec S16 32) : Prop :=
  (∀ a x, ((![v356] : Fin 1 → IVec S16 32) a x).toNat < S2048.size a) ∧
  (∀ a x, ((![v356] : Fin 1 → IVec S16 32) a x).toNat < S2048.size a)
theorem k0_idx941_inb : ∀ (v356 : IVec S16 32) (k0_hw713 : k0_chk713 v356), ∀ a x, ((![v356] : Fin 1 → IVec S16 32) a x).toNat < S2048.size a := fun v356 k0_hw713 => k0_hw713.1
theorem k0_idx942_inb : ∀ (v356 : IVec S16 32) (k0_hw713 : k0_chk713 v356), ∀ a x, ((![v356] : Fin 1 → IVec S16 32) a x).toNat < S2048.size a := fun v356 k0_hw713 => k0_hw713.2

def k0_chk714 (v524 : IVec S16 32) : Prop :=
  (∀ a x, ((![v524] : Fin 1 → IVec S16 32) a x).toNat < S32768.size a)
theorem k0_idx943_inb : ∀ (v524 : IVec S16 32) (k0_hw714 : k0_chk714 v524), ∀ a x, ((![v524] : Fin 1 → IVec S16 32) a x).toNat < S32768.size a := fun v524 k0_hw714 => k0_hw714

def k0_chk715 (v360 : IVec S16 32) : Prop :=
  (∀ a x, ((![v360] : Fin 1 → IVec S16 32) a x).toNat < S2048.size a) ∧
  (∀ a x, ((![v360] : Fin 1 → IVec S16 32) a x).toNat < S2048.size a)
theorem k0_idx944_inb : ∀ (v360 : IVec S16 32) (k0_hw715 : k0_chk715 v360), ∀ a x, ((![v360] : Fin 1 → IVec S16 32) a x).toNat < S2048.size a := fun v360 k0_hw715 => k0_hw715.1
theorem k0_idx945_inb : ∀ (v360 : IVec S16 32) (k0_hw715 : k0_chk715 v360), ∀ a x, ((![v360] : Fin 1 → IVec S16 32) a x).toNat < S2048.size a := fun v360 k0_hw715 => k0_hw715.2

def k0_chk716 (v530 : IVec S16 32) : Prop :=
  (∀ a x, ((![v530] : Fin 1 → IVec S16 32) a x).toNat < S32768.size a)
theorem k0_idx946_inb : ∀ (v530 : IVec S16 32) (k0_hw716 : k0_chk716 v530), ∀ a x, ((![v530] : Fin 1 → IVec S16 32) a x).toNat < S32768.size a := fun v530 k0_hw716 => k0_hw716

def k0_chk717 (v364 : IVec S16 32) : Prop :=
  (∀ a x, ((![v364] : Fin 1 → IVec S16 32) a x).toNat < S2048.size a) ∧
  (∀ a x, ((![v364] : Fin 1 → IVec S16 32) a x).toNat < S2048.size a)
theorem k0_idx947_inb : ∀ (v364 : IVec S16 32) (k0_hw717 : k0_chk717 v364), ∀ a x, ((![v364] : Fin 1 → IVec S16 32) a x).toNat < S2048.size a := fun v364 k0_hw717 => k0_hw717.1
theorem k0_idx948_inb : ∀ (v364 : IVec S16 32) (k0_hw717 : k0_chk717 v364), ∀ a x, ((![v364] : Fin 1 → IVec S16 32) a x).toNat < S2048.size a := fun v364 k0_hw717 => k0_hw717.2

def k0_chk718 (v536 : IVec S16 32) : Prop :=
  (∀ a x, ((![v536] : Fin 1 → IVec S16 32) a x).toNat < S32768.size a)
theorem k0_idx949_inb : ∀ (v536 : IVec S16 32) (k0_hw718 : k0_chk718 v536), ∀ a x, ((![v536] : Fin 1 → IVec S16 32) a x).toNat < S32768.size a := fun v536 k0_hw718 => k0_hw718

def k0_chk719 (v368 : IVec S16 32) : Prop :=
  (∀ a x, ((![v368] : Fin 1 → IVec S16 32) a x).toNat < S2048.size a) ∧
  (∀ a x, ((![v368] : Fin 1 → IVec S16 32) a x).toNat < S2048.size a)
theorem k0_idx950_inb : ∀ (v368 : IVec S16 32) (k0_hw719 : k0_chk719 v368), ∀ a x, ((![v368] : Fin 1 → IVec S16 32) a x).toNat < S2048.size a := fun v368 k0_hw719 => k0_hw719.1
theorem k0_idx951_inb : ∀ (v368 : IVec S16 32) (k0_hw719 : k0_chk719 v368), ∀ a x, ((![v368] : Fin 1 → IVec S16 32) a x).toNat < S2048.size a := fun v368 k0_hw719 => k0_hw719.2

def k0_chk720 (v542 : IVec S16 32) : Prop :=
  (∀ a x, ((![v542] : Fin 1 → IVec S16 32) a x).toNat < S32768.size a)
theorem k0_idx952_inb : ∀ (v542 : IVec S16 32) (k0_hw720 : k0_chk720 v542), ∀ a x, ((![v542] : Fin 1 → IVec S16 32) a x).toNat < S32768.size a := fun v542 k0_hw720 => k0_hw720

def k0_chk721 (v372 : IVec S16 32) : Prop :=
  (∀ a x, ((![v372] : Fin 1 → IVec S16 32) a x).toNat < S2048.size a) ∧
  (∀ a x, ((![v372] : Fin 1 → IVec S16 32) a x).toNat < S2048.size a)
theorem k0_idx953_inb : ∀ (v372 : IVec S16 32) (k0_hw721 : k0_chk721 v372), ∀ a x, ((![v372] : Fin 1 → IVec S16 32) a x).toNat < S2048.size a := fun v372 k0_hw721 => k0_hw721.1
theorem k0_idx954_inb : ∀ (v372 : IVec S16 32) (k0_hw721 : k0_chk721 v372), ∀ a x, ((![v372] : Fin 1 → IVec S16 32) a x).toNat < S2048.size a := fun v372 k0_hw721 => k0_hw721.2

def k0_chk722 (v548 : IVec S16 32) : Prop :=
  (∀ a x, ((![v548] : Fin 1 → IVec S16 32) a x).toNat < S32768.size a)
theorem k0_idx955_inb : ∀ (v548 : IVec S16 32) (k0_hw722 : k0_chk722 v548), ∀ a x, ((![v548] : Fin 1 → IVec S16 32) a x).toNat < S32768.size a := fun v548 k0_hw722 => k0_hw722

def k0_chk723 (v376 : IVec S16 32) : Prop :=
  (∀ a x, ((![v376] : Fin 1 → IVec S16 32) a x).toNat < S2048.size a) ∧
  (∀ a x, ((![v376] : Fin 1 → IVec S16 32) a x).toNat < S2048.size a)
theorem k0_idx956_inb : ∀ (v376 : IVec S16 32) (k0_hw723 : k0_chk723 v376), ∀ a x, ((![v376] : Fin 1 → IVec S16 32) a x).toNat < S2048.size a := fun v376 k0_hw723 => k0_hw723.1
theorem k0_idx957_inb : ∀ (v376 : IVec S16 32) (k0_hw723 : k0_chk723 v376), ∀ a x, ((![v376] : Fin 1 → IVec S16 32) a x).toNat < S2048.size a := fun v376 k0_hw723 => k0_hw723.2

def k0_chk724 (v554 : IVec S16 32) : Prop :=
  (∀ a x, ((![v554] : Fin 1 → IVec S16 32) a x).toNat < S32768.size a)
theorem k0_idx958_inb : ∀ (v554 : IVec S16 32) (k0_hw724 : k0_chk724 v554), ∀ a x, ((![v554] : Fin 1 → IVec S16 32) a x).toNat < S32768.size a := fun v554 k0_hw724 => k0_hw724

def k0_chk725 (v380 : IVec S16 32) : Prop :=
  (∀ a x, ((![v380] : Fin 1 → IVec S16 32) a x).toNat < S2048.size a) ∧
  (∀ a x, ((![v380] : Fin 1 → IVec S16 32) a x).toNat < S2048.size a)
theorem k0_idx959_inb : ∀ (v380 : IVec S16 32) (k0_hw725 : k0_chk725 v380), ∀ a x, ((![v380] : Fin 1 → IVec S16 32) a x).toNat < S2048.size a := fun v380 k0_hw725 => k0_hw725.1
theorem k0_idx960_inb : ∀ (v380 : IVec S16 32) (k0_hw725 : k0_chk725 v380), ∀ a x, ((![v380] : Fin 1 → IVec S16 32) a x).toNat < S2048.size a := fun v380 k0_hw725 => k0_hw725.2

def k0_chk726 (v560 : IVec S16 32) : Prop :=
  (∀ a x, ((![v560] : Fin 1 → IVec S16 32) a x).toNat < S32768.size a)
theorem k0_idx961_inb : ∀ (v560 : IVec S16 32) (k0_hw726 : k0_chk726 v560), ∀ a x, ((![v560] : Fin 1 → IVec S16 32) a x).toNat < S32768.size a := fun v560 k0_hw726 => k0_hw726

def k0_chk727 (v384 : IVec S16 32) : Prop :=
  (∀ a x, ((![v384] : Fin 1 → IVec S16 32) a x).toNat < S2048.size a) ∧
  (∀ a x, ((![v384] : Fin 1 → IVec S16 32) a x).toNat < S2048.size a)
theorem k0_idx962_inb : ∀ (v384 : IVec S16 32) (k0_hw727 : k0_chk727 v384), ∀ a x, ((![v384] : Fin 1 → IVec S16 32) a x).toNat < S2048.size a := fun v384 k0_hw727 => k0_hw727.1
theorem k0_idx963_inb : ∀ (v384 : IVec S16 32) (k0_hw727 : k0_chk727 v384), ∀ a x, ((![v384] : Fin 1 → IVec S16 32) a x).toNat < S2048.size a := fun v384 k0_hw727 => k0_hw727.2

def k0_chk728 (v566 : IVec S16 32) : Prop :=
  (∀ a x, ((![v566] : Fin 1 → IVec S16 32) a x).toNat < S32768.size a)
theorem k0_idx964_inb : ∀ (v566 : IVec S16 32) (k0_hw728 : k0_chk728 v566), ∀ a x, ((![v566] : Fin 1 → IVec S16 32) a x).toNat < S32768.size a := fun v566 k0_hw728 => k0_hw728

def k0_chk729 (v388 : IVec S16 32) : Prop :=
  (∀ a x, ((![v388] : Fin 1 → IVec S16 32) a x).toNat < S2048.size a) ∧
  (∀ a x, ((![v388] : Fin 1 → IVec S16 32) a x).toNat < S2048.size a)
theorem k0_idx965_inb : ∀ (v388 : IVec S16 32) (k0_hw729 : k0_chk729 v388), ∀ a x, ((![v388] : Fin 1 → IVec S16 32) a x).toNat < S2048.size a := fun v388 k0_hw729 => k0_hw729.1
theorem k0_idx966_inb : ∀ (v388 : IVec S16 32) (k0_hw729 : k0_chk729 v388), ∀ a x, ((![v388] : Fin 1 → IVec S16 32) a x).toNat < S2048.size a := fun v388 k0_hw729 => k0_hw729.2

def k0_chk730 (v572 : IVec S16 32) : Prop :=
  (∀ a x, ((![v572] : Fin 1 → IVec S16 32) a x).toNat < S32768.size a)
theorem k0_idx967_inb : ∀ (v572 : IVec S16 32) (k0_hw730 : k0_chk730 v572), ∀ a x, ((![v572] : Fin 1 → IVec S16 32) a x).toNat < S32768.size a := fun v572 k0_hw730 => k0_hw730

def k0_chk731 (v392 : IVec S16 32) : Prop :=
  (∀ a x, ((![v392] : Fin 1 → IVec S16 32) a x).toNat < S2048.size a) ∧
  (∀ a x, ((![v392] : Fin 1 → IVec S16 32) a x).toNat < S2048.size a)
theorem k0_idx968_inb : ∀ (v392 : IVec S16 32) (k0_hw731 : k0_chk731 v392), ∀ a x, ((![v392] : Fin 1 → IVec S16 32) a x).toNat < S2048.size a := fun v392 k0_hw731 => k0_hw731.1
theorem k0_idx969_inb : ∀ (v392 : IVec S16 32) (k0_hw731 : k0_chk731 v392), ∀ a x, ((![v392] : Fin 1 → IVec S16 32) a x).toNat < S2048.size a := fun v392 k0_hw731 => k0_hw731.2

def k0_chk732 (v578 : IVec S16 32) : Prop :=
  (∀ a x, ((![v578] : Fin 1 → IVec S16 32) a x).toNat < S32768.size a)
theorem k0_idx970_inb : ∀ (v578 : IVec S16 32) (k0_hw732 : k0_chk732 v578), ∀ a x, ((![v578] : Fin 1 → IVec S16 32) a x).toNat < S32768.size a := fun v578 k0_hw732 => k0_hw732

def k0_chk733 (v396 : IVec S16 32) : Prop :=
  (∀ a x, ((![v396] : Fin 1 → IVec S16 32) a x).toNat < S2048.size a) ∧
  (∀ a x, ((![v396] : Fin 1 → IVec S16 32) a x).toNat < S2048.size a)
theorem k0_idx971_inb : ∀ (v396 : IVec S16 32) (k0_hw733 : k0_chk733 v396), ∀ a x, ((![v396] : Fin 1 → IVec S16 32) a x).toNat < S2048.size a := fun v396 k0_hw733 => k0_hw733.1
theorem k0_idx972_inb : ∀ (v396 : IVec S16 32) (k0_hw733 : k0_chk733 v396), ∀ a x, ((![v396] : Fin 1 → IVec S16 32) a x).toNat < S2048.size a := fun v396 k0_hw733 => k0_hw733.2

def k0_chk734 (v584 : IVec S16 32) : Prop :=
  (∀ a x, ((![v584] : Fin 1 → IVec S16 32) a x).toNat < S32768.size a)
theorem k0_idx973_inb : ∀ (v584 : IVec S16 32) (k0_hw734 : k0_chk734 v584), ∀ a x, ((![v584] : Fin 1 → IVec S16 32) a x).toNat < S32768.size a := fun v584 k0_hw734 => k0_hw734

def k0_chk735 (v400 : IVec S16 32) : Prop :=
  (∀ a x, ((![v400] : Fin 1 → IVec S16 32) a x).toNat < S2048.size a) ∧
  (∀ a x, ((![v400] : Fin 1 → IVec S16 32) a x).toNat < S2048.size a)
theorem k0_idx974_inb : ∀ (v400 : IVec S16 32) (k0_hw735 : k0_chk735 v400), ∀ a x, ((![v400] : Fin 1 → IVec S16 32) a x).toNat < S2048.size a := fun v400 k0_hw735 => k0_hw735.1
theorem k0_idx975_inb : ∀ (v400 : IVec S16 32) (k0_hw735 : k0_chk735 v400), ∀ a x, ((![v400] : Fin 1 → IVec S16 32) a x).toNat < S2048.size a := fun v400 k0_hw735 => k0_hw735.2

def k0_chk736 (v590 : IVec S16 32) : Prop :=
  (∀ a x, ((![v590] : Fin 1 → IVec S16 32) a x).toNat < S32768.size a)
theorem k0_idx976_inb : ∀ (v590 : IVec S16 32) (k0_hw736 : k0_chk736 v590), ∀ a x, ((![v590] : Fin 1 → IVec S16 32) a x).toNat < S32768.size a := fun v590 k0_hw736 => k0_hw736

def k0_chk737 (v404 : IVec S16 32) : Prop :=
  (∀ a x, ((![v404] : Fin 1 → IVec S16 32) a x).toNat < S2048.size a) ∧
  (∀ a x, ((![v404] : Fin 1 → IVec S16 32) a x).toNat < S2048.size a)
theorem k0_idx977_inb : ∀ (v404 : IVec S16 32) (k0_hw737 : k0_chk737 v404), ∀ a x, ((![v404] : Fin 1 → IVec S16 32) a x).toNat < S2048.size a := fun v404 k0_hw737 => k0_hw737.1
theorem k0_idx978_inb : ∀ (v404 : IVec S16 32) (k0_hw737 : k0_chk737 v404), ∀ a x, ((![v404] : Fin 1 → IVec S16 32) a x).toNat < S2048.size a := fun v404 k0_hw737 => k0_hw737.2

def k0_chk738 (v596 : IVec S16 32) : Prop :=
  (∀ a x, ((![v596] : Fin 1 → IVec S16 32) a x).toNat < S32768.size a)
theorem k0_idx979_inb : ∀ (v596 : IVec S16 32) (k0_hw738 : k0_chk738 v596), ∀ a x, ((![v596] : Fin 1 → IVec S16 32) a x).toNat < S32768.size a := fun v596 k0_hw738 => k0_hw738

def k0_chk739 (v408 : IVec S16 32) : Prop :=
  (∀ a x, ((![v408] : Fin 1 → IVec S16 32) a x).toNat < S2048.size a) ∧
  (∀ a x, ((![v408] : Fin 1 → IVec S16 32) a x).toNat < S2048.size a)
theorem k0_idx980_inb : ∀ (v408 : IVec S16 32) (k0_hw739 : k0_chk739 v408), ∀ a x, ((![v408] : Fin 1 → IVec S16 32) a x).toNat < S2048.size a := fun v408 k0_hw739 => k0_hw739.1
theorem k0_idx981_inb : ∀ (v408 : IVec S16 32) (k0_hw739 : k0_chk739 v408), ∀ a x, ((![v408] : Fin 1 → IVec S16 32) a x).toNat < S2048.size a := fun v408 k0_hw739 => k0_hw739.2

def k0_chk740 (v602 : IVec S16 32) : Prop :=
  (∀ a x, ((![v602] : Fin 1 → IVec S16 32) a x).toNat < S32768.size a)
theorem k0_idx982_inb : ∀ (v602 : IVec S16 32) (k0_hw740 : k0_chk740 v602), ∀ a x, ((![v602] : Fin 1 → IVec S16 32) a x).toNat < S32768.size a := fun v602 k0_hw740 => k0_hw740

def k0_chk741 (v412 : IVec S16 32) : Prop :=
  (∀ a x, ((![v412] : Fin 1 → IVec S16 32) a x).toNat < S2048.size a) ∧
  (∀ a x, ((![v412] : Fin 1 → IVec S16 32) a x).toNat < S2048.size a)
theorem k0_idx983_inb : ∀ (v412 : IVec S16 32) (k0_hw741 : k0_chk741 v412), ∀ a x, ((![v412] : Fin 1 → IVec S16 32) a x).toNat < S2048.size a := fun v412 k0_hw741 => k0_hw741.1
theorem k0_idx984_inb : ∀ (v412 : IVec S16 32) (k0_hw741 : k0_chk741 v412), ∀ a x, ((![v412] : Fin 1 → IVec S16 32) a x).toNat < S2048.size a := fun v412 k0_hw741 => k0_hw741.2

def k0_chk742 (v608 : IVec S16 32) : Prop :=
  (∀ a x, ((![v608] : Fin 1 → IVec S16 32) a x).toNat < S32768.size a)
theorem k0_idx985_inb : ∀ (v608 : IVec S16 32) (k0_hw742 : k0_chk742 v608), ∀ a x, ((![v608] : Fin 1 → IVec S16 32) a x).toNat < S32768.size a := fun v608 k0_hw742 => k0_hw742

def k0_chk743 (v416 : IVec S16 32) : Prop :=
  (∀ a x, ((![v416] : Fin 1 → IVec S16 32) a x).toNat < S2048.size a) ∧
  (∀ a x, ((![v416] : Fin 1 → IVec S16 32) a x).toNat < S2048.size a)
theorem k0_idx986_inb : ∀ (v416 : IVec S16 32) (k0_hw743 : k0_chk743 v416), ∀ a x, ((![v416] : Fin 1 → IVec S16 32) a x).toNat < S2048.size a := fun v416 k0_hw743 => k0_hw743.1
theorem k0_idx987_inb : ∀ (v416 : IVec S16 32) (k0_hw743 : k0_chk743 v416), ∀ a x, ((![v416] : Fin 1 → IVec S16 32) a x).toNat < S2048.size a := fun v416 k0_hw743 => k0_hw743.2

def k0_chk744 (v614 : IVec S16 32) : Prop :=
  (∀ a x, ((![v614] : Fin 1 → IVec S16 32) a x).toNat < S32768.size a)
theorem k0_idx988_inb : ∀ (v614 : IVec S16 32) (k0_hw744 : k0_chk744 v614), ∀ a x, ((![v614] : Fin 1 → IVec S16 32) a x).toNat < S32768.size a := fun v614 k0_hw744 => k0_hw744

def k0_chk745 (v420 : IVec S16 32) : Prop :=
  (∀ a x, ((![v420] : Fin 1 → IVec S16 32) a x).toNat < S2048.size a) ∧
  (∀ a x, ((![v420] : Fin 1 → IVec S16 32) a x).toNat < S2048.size a)
theorem k0_idx989_inb : ∀ (v420 : IVec S16 32) (k0_hw745 : k0_chk745 v420), ∀ a x, ((![v420] : Fin 1 → IVec S16 32) a x).toNat < S2048.size a := fun v420 k0_hw745 => k0_hw745.1
theorem k0_idx990_inb : ∀ (v420 : IVec S16 32) (k0_hw745 : k0_chk745 v420), ∀ a x, ((![v420] : Fin 1 → IVec S16 32) a x).toNat < S2048.size a := fun v420 k0_hw745 => k0_hw745.2

def k0_chk746 (v620 : IVec S16 32) : Prop :=
  (∀ a x, ((![v620] : Fin 1 → IVec S16 32) a x).toNat < S32768.size a)
theorem k0_idx991_inb : ∀ (v620 : IVec S16 32) (k0_hw746 : k0_chk746 v620), ∀ a x, ((![v620] : Fin 1 → IVec S16 32) a x).toNat < S32768.size a := fun v620 k0_hw746 => k0_hw746

def k0_chk747 (v424 : IVec S16 32) : Prop :=
  (∀ a x, ((![v424] : Fin 1 → IVec S16 32) a x).toNat < S2048.size a) ∧
  (∀ a x, ((![v424] : Fin 1 → IVec S16 32) a x).toNat < S2048.size a)
theorem k0_idx992_inb : ∀ (v424 : IVec S16 32) (k0_hw747 : k0_chk747 v424), ∀ a x, ((![v424] : Fin 1 → IVec S16 32) a x).toNat < S2048.size a := fun v424 k0_hw747 => k0_hw747.1
theorem k0_idx993_inb : ∀ (v424 : IVec S16 32) (k0_hw747 : k0_chk747 v424), ∀ a x, ((![v424] : Fin 1 → IVec S16 32) a x).toNat < S2048.size a := fun v424 k0_hw747 => k0_hw747.2

def k0_chk748 (v626 : IVec S16 32) : Prop :=
  (∀ a x, ((![v626] : Fin 1 → IVec S16 32) a x).toNat < S32768.size a)
theorem k0_idx994_inb : ∀ (v626 : IVec S16 32) (k0_hw748 : k0_chk748 v626), ∀ a x, ((![v626] : Fin 1 → IVec S16 32) a x).toNat < S32768.size a := fun v626 k0_hw748 => k0_hw748

def k0_chk749 (v428 : IVec S16 32) : Prop :=
  (∀ a x, ((![v428] : Fin 1 → IVec S16 32) a x).toNat < S2048.size a) ∧
  (∀ a x, ((![v428] : Fin 1 → IVec S16 32) a x).toNat < S2048.size a)
theorem k0_idx995_inb : ∀ (v428 : IVec S16 32) (k0_hw749 : k0_chk749 v428), ∀ a x, ((![v428] : Fin 1 → IVec S16 32) a x).toNat < S2048.size a := fun v428 k0_hw749 => k0_hw749.1
theorem k0_idx996_inb : ∀ (v428 : IVec S16 32) (k0_hw749 : k0_chk749 v428), ∀ a x, ((![v428] : Fin 1 → IVec S16 32) a x).toNat < S2048.size a := fun v428 k0_hw749 => k0_hw749.2

def k0_chk750 (v632 : IVec S16 32) : Prop :=
  (∀ a x, ((![v632] : Fin 1 → IVec S16 32) a x).toNat < S32768.size a)
theorem k0_idx997_inb : ∀ (v632 : IVec S16 32) (k0_hw750 : k0_chk750 v632), ∀ a x, ((![v632] : Fin 1 → IVec S16 32) a x).toNat < S32768.size a := fun v632 k0_hw750 => k0_hw750

def k0_chk751 (v432 : IVec S16 32) : Prop :=
  (∀ a x, ((![v432] : Fin 1 → IVec S16 32) a x).toNat < S2048.size a) ∧
  (∀ a x, ((![v432] : Fin 1 → IVec S16 32) a x).toNat < S2048.size a)
theorem k0_idx998_inb : ∀ (v432 : IVec S16 32) (k0_hw751 : k0_chk751 v432), ∀ a x, ((![v432] : Fin 1 → IVec S16 32) a x).toNat < S2048.size a := fun v432 k0_hw751 => k0_hw751.1
theorem k0_idx999_inb : ∀ (v432 : IVec S16 32) (k0_hw751 : k0_chk751 v432), ∀ a x, ((![v432] : Fin 1 → IVec S16 32) a x).toNat < S2048.size a := fun v432 k0_hw751 => k0_hw751.2

def k0_chk752 (v638 : IVec S16 32) : Prop :=
  (∀ a x, ((![v638] : Fin 1 → IVec S16 32) a x).toNat < S32768.size a)
theorem k0_idx1000_inb : ∀ (v638 : IVec S16 32) (k0_hw752 : k0_chk752 v638), ∀ a x, ((![v638] : Fin 1 → IVec S16 32) a x).toNat < S32768.size a := fun v638 k0_hw752 => k0_hw752

def k0_chk753 (v436 : IVec S16 32) : Prop :=
  (∀ a x, ((![v436] : Fin 1 → IVec S16 32) a x).toNat < S2048.size a) ∧
  (∀ a x, ((![v436] : Fin 1 → IVec S16 32) a x).toNat < S2048.size a)
theorem k0_idx1001_inb : ∀ (v436 : IVec S16 32) (k0_hw753 : k0_chk753 v436), ∀ a x, ((![v436] : Fin 1 → IVec S16 32) a x).toNat < S2048.size a := fun v436 k0_hw753 => k0_hw753.1
theorem k0_idx1002_inb : ∀ (v436 : IVec S16 32) (k0_hw753 : k0_chk753 v436), ∀ a x, ((![v436] : Fin 1 → IVec S16 32) a x).toNat < S2048.size a := fun v436 k0_hw753 => k0_hw753.2

def k0_chk754 (v644 : IVec S16 32) : Prop :=
  (∀ a x, ((![v644] : Fin 1 → IVec S16 32) a x).toNat < S32768.size a)
theorem k0_idx1003_inb : ∀ (v644 : IVec S16 32) (k0_hw754 : k0_chk754 v644), ∀ a x, ((![v644] : Fin 1 → IVec S16 32) a x).toNat < S32768.size a := fun v644 k0_hw754 => k0_hw754

def k0_chk755 (v440 : IVec S16 32) : Prop :=
  (∀ a x, ((![v440] : Fin 1 → IVec S16 32) a x).toNat < S2048.size a) ∧
  (∀ a x, ((![v440] : Fin 1 → IVec S16 32) a x).toNat < S2048.size a)
theorem k0_idx1004_inb : ∀ (v440 : IVec S16 32) (k0_hw755 : k0_chk755 v440), ∀ a x, ((![v440] : Fin 1 → IVec S16 32) a x).toNat < S2048.size a := fun v440 k0_hw755 => k0_hw755.1
theorem k0_idx1005_inb : ∀ (v440 : IVec S16 32) (k0_hw755 : k0_chk755 v440), ∀ a x, ((![v440] : Fin 1 → IVec S16 32) a x).toNat < S2048.size a := fun v440 k0_hw755 => k0_hw755.2

def k0_chk756 (v650 : IVec S16 32) : Prop :=
  (∀ a x, ((![v650] : Fin 1 → IVec S16 32) a x).toNat < S32768.size a)
theorem k0_idx1006_inb : ∀ (v650 : IVec S16 32) (k0_hw756 : k0_chk756 v650), ∀ a x, ((![v650] : Fin 1 → IVec S16 32) a x).toNat < S32768.size a := fun v650 k0_hw756 => k0_hw756

def k0_chk757 (v444 : IVec S16 32) : Prop :=
  (∀ a x, ((![v444] : Fin 1 → IVec S16 32) a x).toNat < S2048.size a) ∧
  (∀ a x, ((![v444] : Fin 1 → IVec S16 32) a x).toNat < S2048.size a)
theorem k0_idx1007_inb : ∀ (v444 : IVec S16 32) (k0_hw757 : k0_chk757 v444), ∀ a x, ((![v444] : Fin 1 → IVec S16 32) a x).toNat < S2048.size a := fun v444 k0_hw757 => k0_hw757.1
theorem k0_idx1008_inb : ∀ (v444 : IVec S16 32) (k0_hw757 : k0_chk757 v444), ∀ a x, ((![v444] : Fin 1 → IVec S16 32) a x).toNat < S2048.size a := fun v444 k0_hw757 => k0_hw757.2

def k0_chk758 (v656 : IVec S16 32) : Prop :=
  (∀ a x, ((![v656] : Fin 1 → IVec S16 32) a x).toNat < S32768.size a)
theorem k0_idx1009_inb : ∀ (v656 : IVec S16 32) (k0_hw758 : k0_chk758 v656), ∀ a x, ((![v656] : Fin 1 → IVec S16 32) a x).toNat < S32768.size a := fun v656 k0_hw758 => k0_hw758

def k0_chk759 (v448 : IVec S16 32) : Prop :=
  (∀ a x, ((![v448] : Fin 1 → IVec S16 32) a x).toNat < S2048.size a) ∧
  (∀ a x, ((![v448] : Fin 1 → IVec S16 32) a x).toNat < S2048.size a)
theorem k0_idx1010_inb : ∀ (v448 : IVec S16 32) (k0_hw759 : k0_chk759 v448), ∀ a x, ((![v448] : Fin 1 → IVec S16 32) a x).toNat < S2048.size a := fun v448 k0_hw759 => k0_hw759.1
theorem k0_idx1011_inb : ∀ (v448 : IVec S16 32) (k0_hw759 : k0_chk759 v448), ∀ a x, ((![v448] : Fin 1 → IVec S16 32) a x).toNat < S2048.size a := fun v448 k0_hw759 => k0_hw759.2

def k0_chk760 (v662 : IVec S16 32) : Prop :=
  (∀ a x, ((![v662] : Fin 1 → IVec S16 32) a x).toNat < S32768.size a)
theorem k0_idx1012_inb : ∀ (v662 : IVec S16 32) (k0_hw760 : k0_chk760 v662), ∀ a x, ((![v662] : Fin 1 → IVec S16 32) a x).toNat < S32768.size a := fun v662 k0_hw760 => k0_hw760

def k0_chk761 (v452 : IVec S16 32) : Prop :=
  (∀ a x, ((![v452] : Fin 1 → IVec S16 32) a x).toNat < S2048.size a) ∧
  (∀ a x, ((![v452] : Fin 1 → IVec S16 32) a x).toNat < S2048.size a)
theorem k0_idx1013_inb : ∀ (v452 : IVec S16 32) (k0_hw761 : k0_chk761 v452), ∀ a x, ((![v452] : Fin 1 → IVec S16 32) a x).toNat < S2048.size a := fun v452 k0_hw761 => k0_hw761.1
theorem k0_idx1014_inb : ∀ (v452 : IVec S16 32) (k0_hw761 : k0_chk761 v452), ∀ a x, ((![v452] : Fin 1 → IVec S16 32) a x).toNat < S2048.size a := fun v452 k0_hw761 => k0_hw761.2

def k0_chk762 (v668 : IVec S16 32) : Prop :=
  (∀ a x, ((![v668] : Fin 1 → IVec S16 32) a x).toNat < S32768.size a)
theorem k0_idx1015_inb : ∀ (v668 : IVec S16 32) (k0_hw762 : k0_chk762 v668), ∀ a x, ((![v668] : Fin 1 → IVec S16 32) a x).toNat < S32768.size a := fun v668 k0_hw762 => k0_hw762

def k0_chk763 (v456 : IVec S16 32) : Prop :=
  (∀ a x, ((![v456] : Fin 1 → IVec S16 32) a x).toNat < S2048.size a) ∧
  (∀ a x, ((![v456] : Fin 1 → IVec S16 32) a x).toNat < S2048.size a)
theorem k0_idx1016_inb : ∀ (v456 : IVec S16 32) (k0_hw763 : k0_chk763 v456), ∀ a x, ((![v456] : Fin 1 → IVec S16 32) a x).toNat < S2048.size a := fun v456 k0_hw763 => k0_hw763.1
theorem k0_idx1017_inb : ∀ (v456 : IVec S16 32) (k0_hw763 : k0_chk763 v456), ∀ a x, ((![v456] : Fin 1 → IVec S16 32) a x).toNat < S2048.size a := fun v456 k0_hw763 => k0_hw763.2

def k0_chk764 (v674 : IVec S16 32) : Prop :=
  (∀ a x, ((![v674] : Fin 1 → IVec S16 32) a x).toNat < S32768.size a)
theorem k0_idx1018_inb : ∀ (v674 : IVec S16 32) (k0_hw764 : k0_chk764 v674), ∀ a x, ((![v674] : Fin 1 → IVec S16 32) a x).toNat < S32768.size a := fun v674 k0_hw764 => k0_hw764

def k0_chk765 (v460 : IVec S16 32) : Prop :=
  (∀ a x, ((![v460] : Fin 1 → IVec S16 32) a x).toNat < S2048.size a) ∧
  (∀ a x, ((![v460] : Fin 1 → IVec S16 32) a x).toNat < S2048.size a)
theorem k0_idx1019_inb : ∀ (v460 : IVec S16 32) (k0_hw765 : k0_chk765 v460), ∀ a x, ((![v460] : Fin 1 → IVec S16 32) a x).toNat < S2048.size a := fun v460 k0_hw765 => k0_hw765.1
theorem k0_idx1020_inb : ∀ (v460 : IVec S16 32) (k0_hw765 : k0_chk765 v460), ∀ a x, ((![v460] : Fin 1 → IVec S16 32) a x).toNat < S2048.size a := fun v460 k0_hw765 => k0_hw765.2

def k0_chk766 (v680 : IVec S16 32) : Prop :=
  (∀ a x, ((![v680] : Fin 1 → IVec S16 32) a x).toNat < S32768.size a)
theorem k0_idx1021_inb : ∀ (v680 : IVec S16 32) (k0_hw766 : k0_chk766 v680), ∀ a x, ((![v680] : Fin 1 → IVec S16 32) a x).toNat < S32768.size a := fun v680 k0_hw766 => k0_hw766

def k0_chk767 (v464 : IVec S16 32) : Prop :=
  (∀ a x, ((![v464] : Fin 1 → IVec S16 32) a x).toNat < S2048.size a) ∧
  (∀ a x, ((![v464] : Fin 1 → IVec S16 32) a x).toNat < S2048.size a)
theorem k0_idx1022_inb : ∀ (v464 : IVec S16 32) (k0_hw767 : k0_chk767 v464), ∀ a x, ((![v464] : Fin 1 → IVec S16 32) a x).toNat < S2048.size a := fun v464 k0_hw767 => k0_hw767.1
theorem k0_idx1023_inb : ∀ (v464 : IVec S16 32) (k0_hw767 : k0_chk767 v464), ∀ a x, ((![v464] : Fin 1 → IVec S16 32) a x).toNat < S2048.size a := fun v464 k0_hw767 => k0_hw767.2

def k0_chk768 (v686 : IVec S16 32) : Prop :=
  (∀ a x, ((![v686] : Fin 1 → IVec S16 32) a x).toNat < S32768.size a)
theorem k0_idx1024_inb : ∀ (v686 : IVec S16 32) (k0_hw768 : k0_chk768 v686), ∀ a x, ((![v686] : Fin 1 → IVec S16 32) a x).toNat < S32768.size a := fun v686 k0_hw768 => k0_hw768

def k0_chk769 (v697 : IVec S16 32) : Prop :=
  (∀ a x, ((![v697] : Fin 1 → IVec S16 32) a x).toNat < S4096.size a)
theorem k0_idx1025_inb : ∀ (v697 : IVec S16 32) (k0_hw769 : k0_chk769 v697), ∀ a x, ((![v697] : Fin 1 → IVec S16 32) a x).toNat < S4096.size a := fun v697 k0_hw769 => k0_hw769

def k0_chk770 (v706 : IVec S16 32) : Prop :=
  (∀ a x, ((![v706] : Fin 1 → IVec S16 32) a x).toNat < S4096.size a)
theorem k0_idx1026_inb : ∀ (v706 : IVec S16 32) (k0_hw770 : k0_chk770 v706), ∀ a x, ((![v706] : Fin 1 → IVec S16 32) a x).toNat < S4096.size a := fun v706 k0_hw770 => k0_hw770

def k0_chk771 (v715 : IVec S16 32) : Prop :=
  (∀ a x, ((![v715] : Fin 1 → IVec S16 32) a x).toNat < S4096.size a)
theorem k0_idx1027_inb : ∀ (v715 : IVec S16 32) (k0_hw771 : k0_chk771 v715), ∀ a x, ((![v715] : Fin 1 → IVec S16 32) a x).toNat < S4096.size a := fun v715 k0_hw771 => k0_hw771

def k0_chk772 (v724 : IVec S16 32) : Prop :=
  (∀ a x, ((![v724] : Fin 1 → IVec S16 32) a x).toNat < S4096.size a)
theorem k0_idx1028_inb : ∀ (v724 : IVec S16 32) (k0_hw772 : k0_chk772 v724), ∀ a x, ((![v724] : Fin 1 → IVec S16 32) a x).toNat < S4096.size a := fun v724 k0_hw772 => k0_hw772

def k0_chk773 (v733 : IVec S16 32) : Prop :=
  (∀ a x, ((![v733] : Fin 1 → IVec S16 32) a x).toNat < S4096.size a)
theorem k0_idx1029_inb : ∀ (v733 : IVec S16 32) (k0_hw773 : k0_chk773 v733), ∀ a x, ((![v733] : Fin 1 → IVec S16 32) a x).toNat < S4096.size a := fun v733 k0_hw773 => k0_hw773

def k0_chk774 (v742 : IVec S16 32) : Prop :=
  (∀ a x, ((![v742] : Fin 1 → IVec S16 32) a x).toNat < S4096.size a)
theorem k0_idx1030_inb : ∀ (v742 : IVec S16 32) (k0_hw774 : k0_chk774 v742), ∀ a x, ((![v742] : Fin 1 → IVec S16 32) a x).toNat < S4096.size a := fun v742 k0_hw774 => k0_hw774

def k0_chk775 (v751 : IVec S16 32) : Prop :=
  (∀ a x, ((![v751] : Fin 1 → IVec S16 32) a x).toNat < S4096.size a)
theorem k0_idx1031_inb : ∀ (v751 : IVec S16 32) (k0_hw775 : k0_chk775 v751), ∀ a x, ((![v751] : Fin 1 → IVec S16 32) a x).toNat < S4096.size a := fun v751 k0_hw775 => k0_hw775

def k0_chk776 (v760 : IVec S16 32) : Prop :=
  (∀ a x, ((![v760] : Fin 1 → IVec S16 32) a x).toNat < S4096.size a)
theorem k0_idx1032_inb : ∀ (v760 : IVec S16 32) (k0_hw776 : k0_chk776 v760), ∀ a x, ((![v760] : Fin 1 → IVec S16 32) a x).toNat < S4096.size a := fun v760 k0_hw776 => k0_hw776

def k0_chk777 (v769 : IVec S16 32) : Prop :=
  (∀ a x, ((![v769] : Fin 1 → IVec S16 32) a x).toNat < S4096.size a)
theorem k0_idx1033_inb : ∀ (v769 : IVec S16 32) (k0_hw777 : k0_chk777 v769), ∀ a x, ((![v769] : Fin 1 → IVec S16 32) a x).toNat < S4096.size a := fun v769 k0_hw777 => k0_hw777

def k0_chk778 (v778 : IVec S16 32) : Prop :=
  (∀ a x, ((![v778] : Fin 1 → IVec S16 32) a x).toNat < S4096.size a)
theorem k0_idx1034_inb : ∀ (v778 : IVec S16 32) (k0_hw778 : k0_chk778 v778), ∀ a x, ((![v778] : Fin 1 → IVec S16 32) a x).toNat < S4096.size a := fun v778 k0_hw778 => k0_hw778

def k0_chk779 (v787 : IVec S16 32) : Prop :=
  (∀ a x, ((![v787] : Fin 1 → IVec S16 32) a x).toNat < S4096.size a)
theorem k0_idx1035_inb : ∀ (v787 : IVec S16 32) (k0_hw779 : k0_chk779 v787), ∀ a x, ((![v787] : Fin 1 → IVec S16 32) a x).toNat < S4096.size a := fun v787 k0_hw779 => k0_hw779

def k0_chk780 (v796 : IVec S16 32) : Prop :=
  (∀ a x, ((![v796] : Fin 1 → IVec S16 32) a x).toNat < S4096.size a)
theorem k0_idx1036_inb : ∀ (v796 : IVec S16 32) (k0_hw780 : k0_chk780 v796), ∀ a x, ((![v796] : Fin 1 → IVec S16 32) a x).toNat < S4096.size a := fun v796 k0_hw780 => k0_hw780

def k0_chk781 (v805 : IVec S16 32) : Prop :=
  (∀ a x, ((![v805] : Fin 1 → IVec S16 32) a x).toNat < S4096.size a)
theorem k0_idx1037_inb : ∀ (v805 : IVec S16 32) (k0_hw781 : k0_chk781 v805), ∀ a x, ((![v805] : Fin 1 → IVec S16 32) a x).toNat < S4096.size a := fun v805 k0_hw781 => k0_hw781

def k0_chk782 (v814 : IVec S16 32) : Prop :=
  (∀ a x, ((![v814] : Fin 1 → IVec S16 32) a x).toNat < S4096.size a)
theorem k0_idx1038_inb : ∀ (v814 : IVec S16 32) (k0_hw782 : k0_chk782 v814), ∀ a x, ((![v814] : Fin 1 → IVec S16 32) a x).toNat < S4096.size a := fun v814 k0_hw782 => k0_hw782

def k0_chk783 (v823 : IVec S16 32) : Prop :=
  (∀ a x, ((![v823] : Fin 1 → IVec S16 32) a x).toNat < S4096.size a)
theorem k0_idx1039_inb : ∀ (v823 : IVec S16 32) (k0_hw783 : k0_chk783 v823), ∀ a x, ((![v823] : Fin 1 → IVec S16 32) a x).toNat < S4096.size a := fun v823 k0_hw783 => k0_hw783

def k0_chk784 (v832 : IVec S16 32) : Prop :=
  (∀ a x, ((![v832] : Fin 1 → IVec S16 32) a x).toNat < S4096.size a)
theorem k0_idx1040_inb : ∀ (v832 : IVec S16 32) (k0_hw784 : k0_chk784 v832), ∀ a x, ((![v832] : Fin 1 → IVec S16 32) a x).toNat < S4096.size a := fun v832 k0_hw784 => k0_hw784

def k0_chk785 (v841 : IVec S16 32) : Prop :=
  (∀ a x, ((![v841] : Fin 1 → IVec S16 32) a x).toNat < S4096.size a)
theorem k0_idx1041_inb : ∀ (v841 : IVec S16 32) (k0_hw785 : k0_chk785 v841), ∀ a x, ((![v841] : Fin 1 → IVec S16 32) a x).toNat < S4096.size a := fun v841 k0_hw785 => k0_hw785

def k0_chk786 (v850 : IVec S16 32) : Prop :=
  (∀ a x, ((![v850] : Fin 1 → IVec S16 32) a x).toNat < S4096.size a)
theorem k0_idx1042_inb : ∀ (v850 : IVec S16 32) (k0_hw786 : k0_chk786 v850), ∀ a x, ((![v850] : Fin 1 → IVec S16 32) a x).toNat < S4096.size a := fun v850 k0_hw786 => k0_hw786

def k0_chk787 (v859 : IVec S16 32) : Prop :=
  (∀ a x, ((![v859] : Fin 1 → IVec S16 32) a x).toNat < S4096.size a)
theorem k0_idx1043_inb : ∀ (v859 : IVec S16 32) (k0_hw787 : k0_chk787 v859), ∀ a x, ((![v859] : Fin 1 → IVec S16 32) a x).toNat < S4096.size a := fun v859 k0_hw787 => k0_hw787

def k0_chk788 (v868 : IVec S16 32) : Prop :=
  (∀ a x, ((![v868] : Fin 1 → IVec S16 32) a x).toNat < S4096.size a)
theorem k0_idx1044_inb : ∀ (v868 : IVec S16 32) (k0_hw788 : k0_chk788 v868), ∀ a x, ((![v868] : Fin 1 → IVec S16 32) a x).toNat < S4096.size a := fun v868 k0_hw788 => k0_hw788

def k0_chk789 (v877 : IVec S16 32) : Prop :=
  (∀ a x, ((![v877] : Fin 1 → IVec S16 32) a x).toNat < S4096.size a)
theorem k0_idx1045_inb : ∀ (v877 : IVec S16 32) (k0_hw789 : k0_chk789 v877), ∀ a x, ((![v877] : Fin 1 → IVec S16 32) a x).toNat < S4096.size a := fun v877 k0_hw789 => k0_hw789

def k0_chk790 (v886 : IVec S16 32) : Prop :=
  (∀ a x, ((![v886] : Fin 1 → IVec S16 32) a x).toNat < S4096.size a)
theorem k0_idx1046_inb : ∀ (v886 : IVec S16 32) (k0_hw790 : k0_chk790 v886), ∀ a x, ((![v886] : Fin 1 → IVec S16 32) a x).toNat < S4096.size a := fun v886 k0_hw790 => k0_hw790

def k0_chk791 (v895 : IVec S16 32) : Prop :=
  (∀ a x, ((![v895] : Fin 1 → IVec S16 32) a x).toNat < S4096.size a)
theorem k0_idx1047_inb : ∀ (v895 : IVec S16 32) (k0_hw791 : k0_chk791 v895), ∀ a x, ((![v895] : Fin 1 → IVec S16 32) a x).toNat < S4096.size a := fun v895 k0_hw791 => k0_hw791

def k0_chk792 (v904 : IVec S16 32) : Prop :=
  (∀ a x, ((![v904] : Fin 1 → IVec S16 32) a x).toNat < S4096.size a)
theorem k0_idx1048_inb : ∀ (v904 : IVec S16 32) (k0_hw792 : k0_chk792 v904), ∀ a x, ((![v904] : Fin 1 → IVec S16 32) a x).toNat < S4096.size a := fun v904 k0_hw792 => k0_hw792

def k0_chk793 (v913 : IVec S16 32) : Prop :=
  (∀ a x, ((![v913] : Fin 1 → IVec S16 32) a x).toNat < S4096.size a)
theorem k0_idx1049_inb : ∀ (v913 : IVec S16 32) (k0_hw793 : k0_chk793 v913), ∀ a x, ((![v913] : Fin 1 → IVec S16 32) a x).toNat < S4096.size a := fun v913 k0_hw793 => k0_hw793

def k0_chk794 (v922 : IVec S16 32) : Prop :=
  (∀ a x, ((![v922] : Fin 1 → IVec S16 32) a x).toNat < S4096.size a)
theorem k0_idx1050_inb : ∀ (v922 : IVec S16 32) (k0_hw794 : k0_chk794 v922), ∀ a x, ((![v922] : Fin 1 → IVec S16 32) a x).toNat < S4096.size a := fun v922 k0_hw794 => k0_hw794

def k0_chk795 (v931 : IVec S16 32) : Prop :=
  (∀ a x, ((![v931] : Fin 1 → IVec S16 32) a x).toNat < S4096.size a)
theorem k0_idx1051_inb : ∀ (v931 : IVec S16 32) (k0_hw795 : k0_chk795 v931), ∀ a x, ((![v931] : Fin 1 → IVec S16 32) a x).toNat < S4096.size a := fun v931 k0_hw795 => k0_hw795

def k0_chk796 (v940 : IVec S16 32) : Prop :=
  (∀ a x, ((![v940] : Fin 1 → IVec S16 32) a x).toNat < S4096.size a)
theorem k0_idx1052_inb : ∀ (v940 : IVec S16 32) (k0_hw796 : k0_chk796 v940), ∀ a x, ((![v940] : Fin 1 → IVec S16 32) a x).toNat < S4096.size a := fun v940 k0_hw796 => k0_hw796

def k0_chk797 (v949 : IVec S16 32) : Prop :=
  (∀ a x, ((![v949] : Fin 1 → IVec S16 32) a x).toNat < S4096.size a)
theorem k0_idx1053_inb : ∀ (v949 : IVec S16 32) (k0_hw797 : k0_chk797 v949), ∀ a x, ((![v949] : Fin 1 → IVec S16 32) a x).toNat < S4096.size a := fun v949 k0_hw797 => k0_hw797

def k0_chk798 (v958 : IVec S16 32) : Prop :=
  (∀ a x, ((![v958] : Fin 1 → IVec S16 32) a x).toNat < S4096.size a)
theorem k0_idx1054_inb : ∀ (v958 : IVec S16 32) (k0_hw798 : k0_chk798 v958), ∀ a x, ((![v958] : Fin 1 → IVec S16 32) a x).toNat < S4096.size a := fun v958 k0_hw798 => k0_hw798

def k0_chk799 (v967 : IVec S16 32) : Prop :=
  (∀ a x, ((![v967] : Fin 1 → IVec S16 32) a x).toNat < S4096.size a)
theorem k0_idx1055_inb : ∀ (v967 : IVec S16 32) (k0_hw799 : k0_chk799 v967), ∀ a x, ((![v967] : Fin 1 → IVec S16 32) a x).toNat < S4096.size a := fun v967 k0_hw799 => k0_hw799

def k0_chk800 (v976 : IVec S16 32) : Prop :=
  (∀ a x, ((![v976] : Fin 1 → IVec S16 32) a x).toNat < S4096.size a)
theorem k0_idx1056_inb : ∀ (v976 : IVec S16 32) (k0_hw800 : k0_chk800 v976), ∀ a x, ((![v976] : Fin 1 → IVec S16 32) a x).toNat < S4096.size a := fun v976 k0_hw800 => k0_hw800
@[reducible] def k0_t39_loop : Scf.Loop 32 :=
  let c0_i32_216 : BitVec 32 := 0#32
  let c64_i32_217 : BitVec 32 := 64#32
  let v102 : BitVec 32 := Scalar.addi c0_i32_216 c64_i32_217
  let c1_i32_218 : BitVec 32 := 1#32
  ⟨c0_i32_216, v102, c1_i32_218⟩
def k0_off73 (k0_t39 : Fin k0_t39_loop.trips) : Fin 1 → Nat :=
  let c0_i32_216 : BitVec 32 := 0#32
  let c1_i32_218 : BitVec 32 := 1#32
  let arg15 : BitVec 32 := Scf.iv c0_i32_216 c1_i32_218 k0_t39
  let c16_i32_312 : BitVec 32 := 16#32
  let v146 : BitVec 32 := Scalar.muli arg15 c16_i32_312
  let v147 : Index := Scalar.indexCast v146
  ![v147.toNat]
def k0_off74 (k0_t39 : Fin k0_t39_loop.trips) : Fin 1 → Nat :=
  let c2048_i32 : BitVec 32 := 2048#32
  let c0_i32_216 : BitVec 32 := 0#32
  let c1_i32_218 : BitVec 32 := 1#32
  let arg15 : BitVec 32 := Scf.iv c0_i32_216 c1_i32_218 k0_t39
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off75 (k0_t39 : Fin k0_t39_loop.trips) : Fin 1 → Nat :=
  let c0_i32_216 : BitVec 32 := 0#32
  let c1_i32_218 : BitVec 32 := 1#32
  let arg15 : BitVec 32 := Scf.iv c0_i32_216 c1_i32_218 k0_t39
  let c16_i32 : BitVec 32 := 16#32
  let v145 : BitVec 32 := Scalar.muli arg15 c16_i32
  let v154 : Index := Scalar.indexCast v145
  ![v154.toNat]
@[reducible] def k0_t40_loop : Scf.Loop 32 :=
  let c0_i32_221 : BitVec 32 := 0#32
  let c64_i32_222 : BitVec 32 := 64#32
  let v103 : BitVec 32 := Scalar.addi c0_i32_221 c64_i32_222
  let c1_i32_223 : BitVec 32 := 1#32
  ⟨c0_i32_221, v103, c1_i32_223⟩
def k0_off76 (k0_t40 : Fin k0_t40_loop.trips) : Fin 1 → Nat :=
  let c0_i32_221 : BitVec 32 := 0#32
  let c1_i32_223 : BitVec 32 := 1#32
  let arg15 : BitVec 32 := Scf.iv c0_i32_221 c1_i32_223 k0_t40
  let c16_i32 : BitVec 32 := 16#32
  let v145 : BitVec 32 := Scalar.muli arg15 c16_i32
  let v146 : Index := Scalar.indexCast v145
  ![v146.toNat]
@[reducible] def k0_t41_loop : Scf.Loop 32 :=
  let c0_i32_226 : BitVec 32 := 0#32
  let c64_i32_227 : BitVec 32 := 64#32
  let v105 : BitVec 32 := Scalar.addi c0_i32_226 c64_i32_227
  let c1_i32_228 : BitVec 32 := 1#32
  ⟨c0_i32_226, v105, c1_i32_228⟩
def k0_off77 (k0_t41 : Fin k0_t41_loop.trips) : Fin 1 → Nat :=
  let c0_i32_226 : BitVec 32 := 0#32
  let c1_i32_228 : BitVec 32 := 1#32
  let arg15 : BitVec 32 := Scf.iv c0_i32_226 c1_i32_228 k0_t41
  let c16_i32 : BitVec 32 := 16#32
  let v145 : BitVec 32 := Scalar.muli arg15 c16_i32
  let v146 : Index := Scalar.indexCast v145
  ![v146.toNat]
def k0_off78 (k0_t41 : Fin k0_t41_loop.trips) : Fin 1 → Nat :=
  let c0_i32_226 : BitVec 32 := 0#32
  let c1_i32_228 : BitVec 32 := 1#32
  let arg15 : BitVec 32 := Scf.iv c0_i32_226 c1_i32_228 k0_t41
  let c16_i32_312 : BitVec 32 := 16#32
  let v150 : BitVec 32 := Scalar.muli arg15 c16_i32_312
  let v151 : Index := Scalar.indexCast v150
  ![v151.toNat]
def k0_off79 (k0_t41 : Fin k0_t41_loop.trips) : Fin 1 → Nat :=
  let c2048_i32 : BitVec 32 := 2048#32
  let c0_i32_226 : BitVec 32 := 0#32
  let c1_i32_228 : BitVec 32 := 1#32
  let arg15 : BitVec 32 := Scf.iv c0_i32_226 c1_i32_228 k0_t41
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t42_loop : Scf.Loop 32 :=
  let c0_i32_231 : BitVec 32 := 0#32
  let c64_i32_232 : BitVec 32 := 64#32
  let v106 : BitVec 32 := Scalar.addi c0_i32_231 c64_i32_232
  let c1_i32_233 : BitVec 32 := 1#32
  ⟨c0_i32_231, v106, c1_i32_233⟩
def k0_off80 (k0_t42 : Fin k0_t42_loop.trips) (c0_i32_312 : BitVec 32) (c0_i32_313 : BitVec 32) : Fin 1 → Nat :=
  let c0_i32_231 : BitVec 32 := 0#32
  let c1_i32_233 : BitVec 32 := 1#32
  let arg15 : BitVec 32 := Scf.iv c0_i32_231 c1_i32_233 k0_t42
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk801 (v340 : IVec S16 32) : Prop :=
  (∀ a x, ((![v340] : Fin 1 → IVec S16 32) a x).toNat < S2048.size a) ∧
  (∀ a x, ((![v340] : Fin 1 → IVec S16 32) a x).toNat < S2048.size a)
theorem k0_idx1057_inb : ∀ (v340 : IVec S16 32) (k0_hw801 : k0_chk801 v340), ∀ a x, ((![v340] : Fin 1 → IVec S16 32) a x).toNat < S2048.size a := fun v340 k0_hw801 => k0_hw801.1
theorem k0_idx1058_inb : ∀ (v340 : IVec S16 32) (k0_hw801 : k0_chk801 v340), ∀ a x, ((![v340] : Fin 1 → IVec S16 32) a x).toNat < S2048.size a := fun v340 k0_hw801 => k0_hw801.2

def k0_chk802 (v692 : IVec S16 32) : Prop :=
  (∀ a x, ((![v692] : Fin 1 → IVec S16 32) a x).toNat < S32768.size a)
theorem k0_idx1059_inb : ∀ (v692 : IVec S16 32) (k0_hw802 : k0_chk802 v692), ∀ a x, ((![v692] : Fin 1 → IVec S16 32) a x).toNat < S32768.size a := fun v692 k0_hw802 => k0_hw802

def k0_chk803 (v344 : IVec S16 32) : Prop :=
  (∀ a x, ((![v344] : Fin 1 → IVec S16 32) a x).toNat < S2048.size a) ∧
  (∀ a x, ((![v344] : Fin 1 → IVec S16 32) a x).toNat < S2048.size a)
theorem k0_idx1060_inb : ∀ (v344 : IVec S16 32) (k0_hw803 : k0_chk803 v344), ∀ a x, ((![v344] : Fin 1 → IVec S16 32) a x).toNat < S2048.size a := fun v344 k0_hw803 => k0_hw803.1
theorem k0_idx1061_inb : ∀ (v344 : IVec S16 32) (k0_hw803 : k0_chk803 v344), ∀ a x, ((![v344] : Fin 1 → IVec S16 32) a x).toNat < S2048.size a := fun v344 k0_hw803 => k0_hw803.2

def k0_chk804 (v698 : IVec S16 32) : Prop :=
  (∀ a x, ((![v698] : Fin 1 → IVec S16 32) a x).toNat < S32768.size a)
theorem k0_idx1062_inb : ∀ (v698 : IVec S16 32) (k0_hw804 : k0_chk804 v698), ∀ a x, ((![v698] : Fin 1 → IVec S16 32) a x).toNat < S32768.size a := fun v698 k0_hw804 => k0_hw804

def k0_chk805 (v348 : IVec S16 32) : Prop :=
  (∀ a x, ((![v348] : Fin 1 → IVec S16 32) a x).toNat < S2048.size a) ∧
  (∀ a x, ((![v348] : Fin 1 → IVec S16 32) a x).toNat < S2048.size a)
theorem k0_idx1063_inb : ∀ (v348 : IVec S16 32) (k0_hw805 : k0_chk805 v348), ∀ a x, ((![v348] : Fin 1 → IVec S16 32) a x).toNat < S2048.size a := fun v348 k0_hw805 => k0_hw805.1
theorem k0_idx1064_inb : ∀ (v348 : IVec S16 32) (k0_hw805 : k0_chk805 v348), ∀ a x, ((![v348] : Fin 1 → IVec S16 32) a x).toNat < S2048.size a := fun v348 k0_hw805 => k0_hw805.2

def k0_chk806 (v704 : IVec S16 32) : Prop :=
  (∀ a x, ((![v704] : Fin 1 → IVec S16 32) a x).toNat < S32768.size a)
theorem k0_idx1065_inb : ∀ (v704 : IVec S16 32) (k0_hw806 : k0_chk806 v704), ∀ a x, ((![v704] : Fin 1 → IVec S16 32) a x).toNat < S32768.size a := fun v704 k0_hw806 => k0_hw806

def k0_chk807 (v352 : IVec S16 32) : Prop :=
  (∀ a x, ((![v352] : Fin 1 → IVec S16 32) a x).toNat < S2048.size a) ∧
  (∀ a x, ((![v352] : Fin 1 → IVec S16 32) a x).toNat < S2048.size a)
theorem k0_idx1066_inb : ∀ (v352 : IVec S16 32) (k0_hw807 : k0_chk807 v352), ∀ a x, ((![v352] : Fin 1 → IVec S16 32) a x).toNat < S2048.size a := fun v352 k0_hw807 => k0_hw807.1
theorem k0_idx1067_inb : ∀ (v352 : IVec S16 32) (k0_hw807 : k0_chk807 v352), ∀ a x, ((![v352] : Fin 1 → IVec S16 32) a x).toNat < S2048.size a := fun v352 k0_hw807 => k0_hw807.2

def k0_chk808 (v710 : IVec S16 32) : Prop :=
  (∀ a x, ((![v710] : Fin 1 → IVec S16 32) a x).toNat < S32768.size a)
theorem k0_idx1068_inb : ∀ (v710 : IVec S16 32) (k0_hw808 : k0_chk808 v710), ∀ a x, ((![v710] : Fin 1 → IVec S16 32) a x).toNat < S32768.size a := fun v710 k0_hw808 => k0_hw808

def k0_chk809 (v356 : IVec S16 32) : Prop :=
  (∀ a x, ((![v356] : Fin 1 → IVec S16 32) a x).toNat < S2048.size a) ∧
  (∀ a x, ((![v356] : Fin 1 → IVec S16 32) a x).toNat < S2048.size a)
theorem k0_idx1069_inb : ∀ (v356 : IVec S16 32) (k0_hw809 : k0_chk809 v356), ∀ a x, ((![v356] : Fin 1 → IVec S16 32) a x).toNat < S2048.size a := fun v356 k0_hw809 => k0_hw809.1
theorem k0_idx1070_inb : ∀ (v356 : IVec S16 32) (k0_hw809 : k0_chk809 v356), ∀ a x, ((![v356] : Fin 1 → IVec S16 32) a x).toNat < S2048.size a := fun v356 k0_hw809 => k0_hw809.2

def k0_chk810 (v716 : IVec S16 32) : Prop :=
  (∀ a x, ((![v716] : Fin 1 → IVec S16 32) a x).toNat < S32768.size a)
theorem k0_idx1071_inb : ∀ (v716 : IVec S16 32) (k0_hw810 : k0_chk810 v716), ∀ a x, ((![v716] : Fin 1 → IVec S16 32) a x).toNat < S32768.size a := fun v716 k0_hw810 => k0_hw810

def k0_chk811 (v360 : IVec S16 32) : Prop :=
  (∀ a x, ((![v360] : Fin 1 → IVec S16 32) a x).toNat < S2048.size a) ∧
  (∀ a x, ((![v360] : Fin 1 → IVec S16 32) a x).toNat < S2048.size a)
theorem k0_idx1072_inb : ∀ (v360 : IVec S16 32) (k0_hw811 : k0_chk811 v360), ∀ a x, ((![v360] : Fin 1 → IVec S16 32) a x).toNat < S2048.size a := fun v360 k0_hw811 => k0_hw811.1
theorem k0_idx1073_inb : ∀ (v360 : IVec S16 32) (k0_hw811 : k0_chk811 v360), ∀ a x, ((![v360] : Fin 1 → IVec S16 32) a x).toNat < S2048.size a := fun v360 k0_hw811 => k0_hw811.2

def k0_chk812 (v722 : IVec S16 32) : Prop :=
  (∀ a x, ((![v722] : Fin 1 → IVec S16 32) a x).toNat < S32768.size a)
theorem k0_idx1074_inb : ∀ (v722 : IVec S16 32) (k0_hw812 : k0_chk812 v722), ∀ a x, ((![v722] : Fin 1 → IVec S16 32) a x).toNat < S32768.size a := fun v722 k0_hw812 => k0_hw812

def k0_chk813 (v364 : IVec S16 32) : Prop :=
  (∀ a x, ((![v364] : Fin 1 → IVec S16 32) a x).toNat < S2048.size a) ∧
  (∀ a x, ((![v364] : Fin 1 → IVec S16 32) a x).toNat < S2048.size a)
theorem k0_idx1075_inb : ∀ (v364 : IVec S16 32) (k0_hw813 : k0_chk813 v364), ∀ a x, ((![v364] : Fin 1 → IVec S16 32) a x).toNat < S2048.size a := fun v364 k0_hw813 => k0_hw813.1
theorem k0_idx1076_inb : ∀ (v364 : IVec S16 32) (k0_hw813 : k0_chk813 v364), ∀ a x, ((![v364] : Fin 1 → IVec S16 32) a x).toNat < S2048.size a := fun v364 k0_hw813 => k0_hw813.2

def k0_chk814 (v728 : IVec S16 32) : Prop :=
  (∀ a x, ((![v728] : Fin 1 → IVec S16 32) a x).toNat < S32768.size a)
theorem k0_idx1077_inb : ∀ (v728 : IVec S16 32) (k0_hw814 : k0_chk814 v728), ∀ a x, ((![v728] : Fin 1 → IVec S16 32) a x).toNat < S32768.size a := fun v728 k0_hw814 => k0_hw814

def k0_chk815 (v368 : IVec S16 32) : Prop :=
  (∀ a x, ((![v368] : Fin 1 → IVec S16 32) a x).toNat < S2048.size a) ∧
  (∀ a x, ((![v368] : Fin 1 → IVec S16 32) a x).toNat < S2048.size a)
theorem k0_idx1078_inb : ∀ (v368 : IVec S16 32) (k0_hw815 : k0_chk815 v368), ∀ a x, ((![v368] : Fin 1 → IVec S16 32) a x).toNat < S2048.size a := fun v368 k0_hw815 => k0_hw815.1
theorem k0_idx1079_inb : ∀ (v368 : IVec S16 32) (k0_hw815 : k0_chk815 v368), ∀ a x, ((![v368] : Fin 1 → IVec S16 32) a x).toNat < S2048.size a := fun v368 k0_hw815 => k0_hw815.2

def k0_chk816 (v734 : IVec S16 32) : Prop :=
  (∀ a x, ((![v734] : Fin 1 → IVec S16 32) a x).toNat < S32768.size a)
theorem k0_idx1080_inb : ∀ (v734 : IVec S16 32) (k0_hw816 : k0_chk816 v734), ∀ a x, ((![v734] : Fin 1 → IVec S16 32) a x).toNat < S32768.size a := fun v734 k0_hw816 => k0_hw816

def k0_chk817 (v372 : IVec S16 32) : Prop :=
  (∀ a x, ((![v372] : Fin 1 → IVec S16 32) a x).toNat < S2048.size a) ∧
  (∀ a x, ((![v372] : Fin 1 → IVec S16 32) a x).toNat < S2048.size a)
theorem k0_idx1081_inb : ∀ (v372 : IVec S16 32) (k0_hw817 : k0_chk817 v372), ∀ a x, ((![v372] : Fin 1 → IVec S16 32) a x).toNat < S2048.size a := fun v372 k0_hw817 => k0_hw817.1
theorem k0_idx1082_inb : ∀ (v372 : IVec S16 32) (k0_hw817 : k0_chk817 v372), ∀ a x, ((![v372] : Fin 1 → IVec S16 32) a x).toNat < S2048.size a := fun v372 k0_hw817 => k0_hw817.2

def k0_chk818 (v740 : IVec S16 32) : Prop :=
  (∀ a x, ((![v740] : Fin 1 → IVec S16 32) a x).toNat < S32768.size a)
theorem k0_idx1083_inb : ∀ (v740 : IVec S16 32) (k0_hw818 : k0_chk818 v740), ∀ a x, ((![v740] : Fin 1 → IVec S16 32) a x).toNat < S32768.size a := fun v740 k0_hw818 => k0_hw818

def k0_chk819 (v376 : IVec S16 32) : Prop :=
  (∀ a x, ((![v376] : Fin 1 → IVec S16 32) a x).toNat < S2048.size a) ∧
  (∀ a x, ((![v376] : Fin 1 → IVec S16 32) a x).toNat < S2048.size a)
theorem k0_idx1084_inb : ∀ (v376 : IVec S16 32) (k0_hw819 : k0_chk819 v376), ∀ a x, ((![v376] : Fin 1 → IVec S16 32) a x).toNat < S2048.size a := fun v376 k0_hw819 => k0_hw819.1
theorem k0_idx1085_inb : ∀ (v376 : IVec S16 32) (k0_hw819 : k0_chk819 v376), ∀ a x, ((![v376] : Fin 1 → IVec S16 32) a x).toNat < S2048.size a := fun v376 k0_hw819 => k0_hw819.2

def k0_chk820 (v746 : IVec S16 32) : Prop :=
  (∀ a x, ((![v746] : Fin 1 → IVec S16 32) a x).toNat < S32768.size a)
theorem k0_idx1086_inb : ∀ (v746 : IVec S16 32) (k0_hw820 : k0_chk820 v746), ∀ a x, ((![v746] : Fin 1 → IVec S16 32) a x).toNat < S32768.size a := fun v746 k0_hw820 => k0_hw820

def k0_chk821 (v380 : IVec S16 32) : Prop :=
  (∀ a x, ((![v380] : Fin 1 → IVec S16 32) a x).toNat < S2048.size a) ∧
  (∀ a x, ((![v380] : Fin 1 → IVec S16 32) a x).toNat < S2048.size a)
theorem k0_idx1087_inb : ∀ (v380 : IVec S16 32) (k0_hw821 : k0_chk821 v380), ∀ a x, ((![v380] : Fin 1 → IVec S16 32) a x).toNat < S2048.size a := fun v380 k0_hw821 => k0_hw821.1
theorem k0_idx1088_inb : ∀ (v380 : IVec S16 32) (k0_hw821 : k0_chk821 v380), ∀ a x, ((![v380] : Fin 1 → IVec S16 32) a x).toNat < S2048.size a := fun v380 k0_hw821 => k0_hw821.2

def k0_chk822 (v752 : IVec S16 32) : Prop :=
  (∀ a x, ((![v752] : Fin 1 → IVec S16 32) a x).toNat < S32768.size a)
theorem k0_idx1089_inb : ∀ (v752 : IVec S16 32) (k0_hw822 : k0_chk822 v752), ∀ a x, ((![v752] : Fin 1 → IVec S16 32) a x).toNat < S32768.size a := fun v752 k0_hw822 => k0_hw822

def k0_chk823 (v384 : IVec S16 32) : Prop :=
  (∀ a x, ((![v384] : Fin 1 → IVec S16 32) a x).toNat < S2048.size a) ∧
  (∀ a x, ((![v384] : Fin 1 → IVec S16 32) a x).toNat < S2048.size a)
theorem k0_idx1090_inb : ∀ (v384 : IVec S16 32) (k0_hw823 : k0_chk823 v384), ∀ a x, ((![v384] : Fin 1 → IVec S16 32) a x).toNat < S2048.size a := fun v384 k0_hw823 => k0_hw823.1
theorem k0_idx1091_inb : ∀ (v384 : IVec S16 32) (k0_hw823 : k0_chk823 v384), ∀ a x, ((![v384] : Fin 1 → IVec S16 32) a x).toNat < S2048.size a := fun v384 k0_hw823 => k0_hw823.2

def k0_chk824 (v758 : IVec S16 32) : Prop :=
  (∀ a x, ((![v758] : Fin 1 → IVec S16 32) a x).toNat < S32768.size a)
theorem k0_idx1092_inb : ∀ (v758 : IVec S16 32) (k0_hw824 : k0_chk824 v758), ∀ a x, ((![v758] : Fin 1 → IVec S16 32) a x).toNat < S32768.size a := fun v758 k0_hw824 => k0_hw824

def k0_chk825 (v388 : IVec S16 32) : Prop :=
  (∀ a x, ((![v388] : Fin 1 → IVec S16 32) a x).toNat < S2048.size a) ∧
  (∀ a x, ((![v388] : Fin 1 → IVec S16 32) a x).toNat < S2048.size a)
theorem k0_idx1093_inb : ∀ (v388 : IVec S16 32) (k0_hw825 : k0_chk825 v388), ∀ a x, ((![v388] : Fin 1 → IVec S16 32) a x).toNat < S2048.size a := fun v388 k0_hw825 => k0_hw825.1
theorem k0_idx1094_inb : ∀ (v388 : IVec S16 32) (k0_hw825 : k0_chk825 v388), ∀ a x, ((![v388] : Fin 1 → IVec S16 32) a x).toNat < S2048.size a := fun v388 k0_hw825 => k0_hw825.2

def k0_chk826 (v764 : IVec S16 32) : Prop :=
  (∀ a x, ((![v764] : Fin 1 → IVec S16 32) a x).toNat < S32768.size a)
theorem k0_idx1095_inb : ∀ (v764 : IVec S16 32) (k0_hw826 : k0_chk826 v764), ∀ a x, ((![v764] : Fin 1 → IVec S16 32) a x).toNat < S32768.size a := fun v764 k0_hw826 => k0_hw826

def k0_chk827 (v392 : IVec S16 32) : Prop :=
  (∀ a x, ((![v392] : Fin 1 → IVec S16 32) a x).toNat < S2048.size a) ∧
  (∀ a x, ((![v392] : Fin 1 → IVec S16 32) a x).toNat < S2048.size a)
theorem k0_idx1096_inb : ∀ (v392 : IVec S16 32) (k0_hw827 : k0_chk827 v392), ∀ a x, ((![v392] : Fin 1 → IVec S16 32) a x).toNat < S2048.size a := fun v392 k0_hw827 => k0_hw827.1
theorem k0_idx1097_inb : ∀ (v392 : IVec S16 32) (k0_hw827 : k0_chk827 v392), ∀ a x, ((![v392] : Fin 1 → IVec S16 32) a x).toNat < S2048.size a := fun v392 k0_hw827 => k0_hw827.2

def k0_chk828 (v770 : IVec S16 32) : Prop :=
  (∀ a x, ((![v770] : Fin 1 → IVec S16 32) a x).toNat < S32768.size a)
theorem k0_idx1098_inb : ∀ (v770 : IVec S16 32) (k0_hw828 : k0_chk828 v770), ∀ a x, ((![v770] : Fin 1 → IVec S16 32) a x).toNat < S32768.size a := fun v770 k0_hw828 => k0_hw828

def k0_chk829 (v396 : IVec S16 32) : Prop :=
  (∀ a x, ((![v396] : Fin 1 → IVec S16 32) a x).toNat < S2048.size a) ∧
  (∀ a x, ((![v396] : Fin 1 → IVec S16 32) a x).toNat < S2048.size a)
theorem k0_idx1099_inb : ∀ (v396 : IVec S16 32) (k0_hw829 : k0_chk829 v396), ∀ a x, ((![v396] : Fin 1 → IVec S16 32) a x).toNat < S2048.size a := fun v396 k0_hw829 => k0_hw829.1
theorem k0_idx1100_inb : ∀ (v396 : IVec S16 32) (k0_hw829 : k0_chk829 v396), ∀ a x, ((![v396] : Fin 1 → IVec S16 32) a x).toNat < S2048.size a := fun v396 k0_hw829 => k0_hw829.2

def k0_chk830 (v776 : IVec S16 32) : Prop :=
  (∀ a x, ((![v776] : Fin 1 → IVec S16 32) a x).toNat < S32768.size a)
theorem k0_idx1101_inb : ∀ (v776 : IVec S16 32) (k0_hw830 : k0_chk830 v776), ∀ a x, ((![v776] : Fin 1 → IVec S16 32) a x).toNat < S32768.size a := fun v776 k0_hw830 => k0_hw830

def k0_chk831 (v400 : IVec S16 32) : Prop :=
  (∀ a x, ((![v400] : Fin 1 → IVec S16 32) a x).toNat < S2048.size a) ∧
  (∀ a x, ((![v400] : Fin 1 → IVec S16 32) a x).toNat < S2048.size a)
theorem k0_idx1102_inb : ∀ (v400 : IVec S16 32) (k0_hw831 : k0_chk831 v400), ∀ a x, ((![v400] : Fin 1 → IVec S16 32) a x).toNat < S2048.size a := fun v400 k0_hw831 => k0_hw831.1
theorem k0_idx1103_inb : ∀ (v400 : IVec S16 32) (k0_hw831 : k0_chk831 v400), ∀ a x, ((![v400] : Fin 1 → IVec S16 32) a x).toNat < S2048.size a := fun v400 k0_hw831 => k0_hw831.2

def k0_chk832 (v782 : IVec S16 32) : Prop :=
  (∀ a x, ((![v782] : Fin 1 → IVec S16 32) a x).toNat < S32768.size a)
theorem k0_idx1104_inb : ∀ (v782 : IVec S16 32) (k0_hw832 : k0_chk832 v782), ∀ a x, ((![v782] : Fin 1 → IVec S16 32) a x).toNat < S32768.size a := fun v782 k0_hw832 => k0_hw832

def k0_chk833 (v404 : IVec S16 32) : Prop :=
  (∀ a x, ((![v404] : Fin 1 → IVec S16 32) a x).toNat < S2048.size a) ∧
  (∀ a x, ((![v404] : Fin 1 → IVec S16 32) a x).toNat < S2048.size a)
theorem k0_idx1105_inb : ∀ (v404 : IVec S16 32) (k0_hw833 : k0_chk833 v404), ∀ a x, ((![v404] : Fin 1 → IVec S16 32) a x).toNat < S2048.size a := fun v404 k0_hw833 => k0_hw833.1
theorem k0_idx1106_inb : ∀ (v404 : IVec S16 32) (k0_hw833 : k0_chk833 v404), ∀ a x, ((![v404] : Fin 1 → IVec S16 32) a x).toNat < S2048.size a := fun v404 k0_hw833 => k0_hw833.2

def k0_chk834 (v788 : IVec S16 32) : Prop :=
  (∀ a x, ((![v788] : Fin 1 → IVec S16 32) a x).toNat < S32768.size a)
theorem k0_idx1107_inb : ∀ (v788 : IVec S16 32) (k0_hw834 : k0_chk834 v788), ∀ a x, ((![v788] : Fin 1 → IVec S16 32) a x).toNat < S32768.size a := fun v788 k0_hw834 => k0_hw834

def k0_chk835 (v408 : IVec S16 32) : Prop :=
  (∀ a x, ((![v408] : Fin 1 → IVec S16 32) a x).toNat < S2048.size a) ∧
  (∀ a x, ((![v408] : Fin 1 → IVec S16 32) a x).toNat < S2048.size a)
theorem k0_idx1108_inb : ∀ (v408 : IVec S16 32) (k0_hw835 : k0_chk835 v408), ∀ a x, ((![v408] : Fin 1 → IVec S16 32) a x).toNat < S2048.size a := fun v408 k0_hw835 => k0_hw835.1
theorem k0_idx1109_inb : ∀ (v408 : IVec S16 32) (k0_hw835 : k0_chk835 v408), ∀ a x, ((![v408] : Fin 1 → IVec S16 32) a x).toNat < S2048.size a := fun v408 k0_hw835 => k0_hw835.2

def k0_chk836 (v794 : IVec S16 32) : Prop :=
  (∀ a x, ((![v794] : Fin 1 → IVec S16 32) a x).toNat < S32768.size a)
theorem k0_idx1110_inb : ∀ (v794 : IVec S16 32) (k0_hw836 : k0_chk836 v794), ∀ a x, ((![v794] : Fin 1 → IVec S16 32) a x).toNat < S32768.size a := fun v794 k0_hw836 => k0_hw836

def k0_chk837 (v412 : IVec S16 32) : Prop :=
  (∀ a x, ((![v412] : Fin 1 → IVec S16 32) a x).toNat < S2048.size a) ∧
  (∀ a x, ((![v412] : Fin 1 → IVec S16 32) a x).toNat < S2048.size a)
theorem k0_idx1111_inb : ∀ (v412 : IVec S16 32) (k0_hw837 : k0_chk837 v412), ∀ a x, ((![v412] : Fin 1 → IVec S16 32) a x).toNat < S2048.size a := fun v412 k0_hw837 => k0_hw837.1
theorem k0_idx1112_inb : ∀ (v412 : IVec S16 32) (k0_hw837 : k0_chk837 v412), ∀ a x, ((![v412] : Fin 1 → IVec S16 32) a x).toNat < S2048.size a := fun v412 k0_hw837 => k0_hw837.2

def k0_chk838 (v800 : IVec S16 32) : Prop :=
  (∀ a x, ((![v800] : Fin 1 → IVec S16 32) a x).toNat < S32768.size a)
theorem k0_idx1113_inb : ∀ (v800 : IVec S16 32) (k0_hw838 : k0_chk838 v800), ∀ a x, ((![v800] : Fin 1 → IVec S16 32) a x).toNat < S32768.size a := fun v800 k0_hw838 => k0_hw838

def k0_chk839 (v416 : IVec S16 32) : Prop :=
  (∀ a x, ((![v416] : Fin 1 → IVec S16 32) a x).toNat < S2048.size a) ∧
  (∀ a x, ((![v416] : Fin 1 → IVec S16 32) a x).toNat < S2048.size a)
theorem k0_idx1114_inb : ∀ (v416 : IVec S16 32) (k0_hw839 : k0_chk839 v416), ∀ a x, ((![v416] : Fin 1 → IVec S16 32) a x).toNat < S2048.size a := fun v416 k0_hw839 => k0_hw839.1
theorem k0_idx1115_inb : ∀ (v416 : IVec S16 32) (k0_hw839 : k0_chk839 v416), ∀ a x, ((![v416] : Fin 1 → IVec S16 32) a x).toNat < S2048.size a := fun v416 k0_hw839 => k0_hw839.2

def k0_chk840 (v806 : IVec S16 32) : Prop :=
  (∀ a x, ((![v806] : Fin 1 → IVec S16 32) a x).toNat < S32768.size a)
theorem k0_idx1116_inb : ∀ (v806 : IVec S16 32) (k0_hw840 : k0_chk840 v806), ∀ a x, ((![v806] : Fin 1 → IVec S16 32) a x).toNat < S32768.size a := fun v806 k0_hw840 => k0_hw840

def k0_chk841 (v420 : IVec S16 32) : Prop :=
  (∀ a x, ((![v420] : Fin 1 → IVec S16 32) a x).toNat < S2048.size a) ∧
  (∀ a x, ((![v420] : Fin 1 → IVec S16 32) a x).toNat < S2048.size a)
theorem k0_idx1117_inb : ∀ (v420 : IVec S16 32) (k0_hw841 : k0_chk841 v420), ∀ a x, ((![v420] : Fin 1 → IVec S16 32) a x).toNat < S2048.size a := fun v420 k0_hw841 => k0_hw841.1
theorem k0_idx1118_inb : ∀ (v420 : IVec S16 32) (k0_hw841 : k0_chk841 v420), ∀ a x, ((![v420] : Fin 1 → IVec S16 32) a x).toNat < S2048.size a := fun v420 k0_hw841 => k0_hw841.2

def k0_chk842 (v812 : IVec S16 32) : Prop :=
  (∀ a x, ((![v812] : Fin 1 → IVec S16 32) a x).toNat < S32768.size a)
theorem k0_idx1119_inb : ∀ (v812 : IVec S16 32) (k0_hw842 : k0_chk842 v812), ∀ a x, ((![v812] : Fin 1 → IVec S16 32) a x).toNat < S32768.size a := fun v812 k0_hw842 => k0_hw842

def k0_chk843 (v424 : IVec S16 32) : Prop :=
  (∀ a x, ((![v424] : Fin 1 → IVec S16 32) a x).toNat < S2048.size a) ∧
  (∀ a x, ((![v424] : Fin 1 → IVec S16 32) a x).toNat < S2048.size a)
theorem k0_idx1120_inb : ∀ (v424 : IVec S16 32) (k0_hw843 : k0_chk843 v424), ∀ a x, ((![v424] : Fin 1 → IVec S16 32) a x).toNat < S2048.size a := fun v424 k0_hw843 => k0_hw843.1
theorem k0_idx1121_inb : ∀ (v424 : IVec S16 32) (k0_hw843 : k0_chk843 v424), ∀ a x, ((![v424] : Fin 1 → IVec S16 32) a x).toNat < S2048.size a := fun v424 k0_hw843 => k0_hw843.2

def k0_chk844 (v818 : IVec S16 32) : Prop :=
  (∀ a x, ((![v818] : Fin 1 → IVec S16 32) a x).toNat < S32768.size a)
theorem k0_idx1122_inb : ∀ (v818 : IVec S16 32) (k0_hw844 : k0_chk844 v818), ∀ a x, ((![v818] : Fin 1 → IVec S16 32) a x).toNat < S32768.size a := fun v818 k0_hw844 => k0_hw844

def k0_chk845 (v428 : IVec S16 32) : Prop :=
  (∀ a x, ((![v428] : Fin 1 → IVec S16 32) a x).toNat < S2048.size a) ∧
  (∀ a x, ((![v428] : Fin 1 → IVec S16 32) a x).toNat < S2048.size a)
theorem k0_idx1123_inb : ∀ (v428 : IVec S16 32) (k0_hw845 : k0_chk845 v428), ∀ a x, ((![v428] : Fin 1 → IVec S16 32) a x).toNat < S2048.size a := fun v428 k0_hw845 => k0_hw845.1
theorem k0_idx1124_inb : ∀ (v428 : IVec S16 32) (k0_hw845 : k0_chk845 v428), ∀ a x, ((![v428] : Fin 1 → IVec S16 32) a x).toNat < S2048.size a := fun v428 k0_hw845 => k0_hw845.2

def k0_chk846 (v824 : IVec S16 32) : Prop :=
  (∀ a x, ((![v824] : Fin 1 → IVec S16 32) a x).toNat < S32768.size a)
theorem k0_idx1125_inb : ∀ (v824 : IVec S16 32) (k0_hw846 : k0_chk846 v824), ∀ a x, ((![v824] : Fin 1 → IVec S16 32) a x).toNat < S32768.size a := fun v824 k0_hw846 => k0_hw846

def k0_chk847 (v432 : IVec S16 32) : Prop :=
  (∀ a x, ((![v432] : Fin 1 → IVec S16 32) a x).toNat < S2048.size a) ∧
  (∀ a x, ((![v432] : Fin 1 → IVec S16 32) a x).toNat < S2048.size a)
theorem k0_idx1126_inb : ∀ (v432 : IVec S16 32) (k0_hw847 : k0_chk847 v432), ∀ a x, ((![v432] : Fin 1 → IVec S16 32) a x).toNat < S2048.size a := fun v432 k0_hw847 => k0_hw847.1
theorem k0_idx1127_inb : ∀ (v432 : IVec S16 32) (k0_hw847 : k0_chk847 v432), ∀ a x, ((![v432] : Fin 1 → IVec S16 32) a x).toNat < S2048.size a := fun v432 k0_hw847 => k0_hw847.2

def k0_chk848 (v830 : IVec S16 32) : Prop :=
  (∀ a x, ((![v830] : Fin 1 → IVec S16 32) a x).toNat < S32768.size a)
theorem k0_idx1128_inb : ∀ (v830 : IVec S16 32) (k0_hw848 : k0_chk848 v830), ∀ a x, ((![v830] : Fin 1 → IVec S16 32) a x).toNat < S32768.size a := fun v830 k0_hw848 => k0_hw848

def k0_chk849 (v436 : IVec S16 32) : Prop :=
  (∀ a x, ((![v436] : Fin 1 → IVec S16 32) a x).toNat < S2048.size a) ∧
  (∀ a x, ((![v436] : Fin 1 → IVec S16 32) a x).toNat < S2048.size a)
theorem k0_idx1129_inb : ∀ (v436 : IVec S16 32) (k0_hw849 : k0_chk849 v436), ∀ a x, ((![v436] : Fin 1 → IVec S16 32) a x).toNat < S2048.size a := fun v436 k0_hw849 => k0_hw849.1
theorem k0_idx1130_inb : ∀ (v436 : IVec S16 32) (k0_hw849 : k0_chk849 v436), ∀ a x, ((![v436] : Fin 1 → IVec S16 32) a x).toNat < S2048.size a := fun v436 k0_hw849 => k0_hw849.2

def k0_chk850 (v836 : IVec S16 32) : Prop :=
  (∀ a x, ((![v836] : Fin 1 → IVec S16 32) a x).toNat < S32768.size a)
theorem k0_idx1131_inb : ∀ (v836 : IVec S16 32) (k0_hw850 : k0_chk850 v836), ∀ a x, ((![v836] : Fin 1 → IVec S16 32) a x).toNat < S32768.size a := fun v836 k0_hw850 => k0_hw850

def k0_chk851 (v440 : IVec S16 32) : Prop :=
  (∀ a x, ((![v440] : Fin 1 → IVec S16 32) a x).toNat < S2048.size a) ∧
  (∀ a x, ((![v440] : Fin 1 → IVec S16 32) a x).toNat < S2048.size a)
theorem k0_idx1132_inb : ∀ (v440 : IVec S16 32) (k0_hw851 : k0_chk851 v440), ∀ a x, ((![v440] : Fin 1 → IVec S16 32) a x).toNat < S2048.size a := fun v440 k0_hw851 => k0_hw851.1
theorem k0_idx1133_inb : ∀ (v440 : IVec S16 32) (k0_hw851 : k0_chk851 v440), ∀ a x, ((![v440] : Fin 1 → IVec S16 32) a x).toNat < S2048.size a := fun v440 k0_hw851 => k0_hw851.2

def k0_chk852 (v842 : IVec S16 32) : Prop :=
  (∀ a x, ((![v842] : Fin 1 → IVec S16 32) a x).toNat < S32768.size a)
theorem k0_idx1134_inb : ∀ (v842 : IVec S16 32) (k0_hw852 : k0_chk852 v842), ∀ a x, ((![v842] : Fin 1 → IVec S16 32) a x).toNat < S32768.size a := fun v842 k0_hw852 => k0_hw852

def k0_chk853 (v444 : IVec S16 32) : Prop :=
  (∀ a x, ((![v444] : Fin 1 → IVec S16 32) a x).toNat < S2048.size a) ∧
  (∀ a x, ((![v444] : Fin 1 → IVec S16 32) a x).toNat < S2048.size a)
theorem k0_idx1135_inb : ∀ (v444 : IVec S16 32) (k0_hw853 : k0_chk853 v444), ∀ a x, ((![v444] : Fin 1 → IVec S16 32) a x).toNat < S2048.size a := fun v444 k0_hw853 => k0_hw853.1
theorem k0_idx1136_inb : ∀ (v444 : IVec S16 32) (k0_hw853 : k0_chk853 v444), ∀ a x, ((![v444] : Fin 1 → IVec S16 32) a x).toNat < S2048.size a := fun v444 k0_hw853 => k0_hw853.2

def k0_chk854 (v848 : IVec S16 32) : Prop :=
  (∀ a x, ((![v848] : Fin 1 → IVec S16 32) a x).toNat < S32768.size a)
theorem k0_idx1137_inb : ∀ (v848 : IVec S16 32) (k0_hw854 : k0_chk854 v848), ∀ a x, ((![v848] : Fin 1 → IVec S16 32) a x).toNat < S32768.size a := fun v848 k0_hw854 => k0_hw854

def k0_chk855 (v448 : IVec S16 32) : Prop :=
  (∀ a x, ((![v448] : Fin 1 → IVec S16 32) a x).toNat < S2048.size a) ∧
  (∀ a x, ((![v448] : Fin 1 → IVec S16 32) a x).toNat < S2048.size a)
theorem k0_idx1138_inb : ∀ (v448 : IVec S16 32) (k0_hw855 : k0_chk855 v448), ∀ a x, ((![v448] : Fin 1 → IVec S16 32) a x).toNat < S2048.size a := fun v448 k0_hw855 => k0_hw855.1
theorem k0_idx1139_inb : ∀ (v448 : IVec S16 32) (k0_hw855 : k0_chk855 v448), ∀ a x, ((![v448] : Fin 1 → IVec S16 32) a x).toNat < S2048.size a := fun v448 k0_hw855 => k0_hw855.2

def k0_chk856 (v854 : IVec S16 32) : Prop :=
  (∀ a x, ((![v854] : Fin 1 → IVec S16 32) a x).toNat < S32768.size a)
theorem k0_idx1140_inb : ∀ (v854 : IVec S16 32) (k0_hw856 : k0_chk856 v854), ∀ a x, ((![v854] : Fin 1 → IVec S16 32) a x).toNat < S32768.size a := fun v854 k0_hw856 => k0_hw856

def k0_chk857 (v452 : IVec S16 32) : Prop :=
  (∀ a x, ((![v452] : Fin 1 → IVec S16 32) a x).toNat < S2048.size a) ∧
  (∀ a x, ((![v452] : Fin 1 → IVec S16 32) a x).toNat < S2048.size a)
theorem k0_idx1141_inb : ∀ (v452 : IVec S16 32) (k0_hw857 : k0_chk857 v452), ∀ a x, ((![v452] : Fin 1 → IVec S16 32) a x).toNat < S2048.size a := fun v452 k0_hw857 => k0_hw857.1
theorem k0_idx1142_inb : ∀ (v452 : IVec S16 32) (k0_hw857 : k0_chk857 v452), ∀ a x, ((![v452] : Fin 1 → IVec S16 32) a x).toNat < S2048.size a := fun v452 k0_hw857 => k0_hw857.2

def k0_chk858 (v860 : IVec S16 32) : Prop :=
  (∀ a x, ((![v860] : Fin 1 → IVec S16 32) a x).toNat < S32768.size a)
theorem k0_idx1143_inb : ∀ (v860 : IVec S16 32) (k0_hw858 : k0_chk858 v860), ∀ a x, ((![v860] : Fin 1 → IVec S16 32) a x).toNat < S32768.size a := fun v860 k0_hw858 => k0_hw858

def k0_chk859 (v456 : IVec S16 32) : Prop :=
  (∀ a x, ((![v456] : Fin 1 → IVec S16 32) a x).toNat < S2048.size a) ∧
  (∀ a x, ((![v456] : Fin 1 → IVec S16 32) a x).toNat < S2048.size a)
theorem k0_idx1144_inb : ∀ (v456 : IVec S16 32) (k0_hw859 : k0_chk859 v456), ∀ a x, ((![v456] : Fin 1 → IVec S16 32) a x).toNat < S2048.size a := fun v456 k0_hw859 => k0_hw859.1
theorem k0_idx1145_inb : ∀ (v456 : IVec S16 32) (k0_hw859 : k0_chk859 v456), ∀ a x, ((![v456] : Fin 1 → IVec S16 32) a x).toNat < S2048.size a := fun v456 k0_hw859 => k0_hw859.2

def k0_chk860 (v866 : IVec S16 32) : Prop :=
  (∀ a x, ((![v866] : Fin 1 → IVec S16 32) a x).toNat < S32768.size a)
theorem k0_idx1146_inb : ∀ (v866 : IVec S16 32) (k0_hw860 : k0_chk860 v866), ∀ a x, ((![v866] : Fin 1 → IVec S16 32) a x).toNat < S32768.size a := fun v866 k0_hw860 => k0_hw860

def k0_chk861 (v460 : IVec S16 32) : Prop :=
  (∀ a x, ((![v460] : Fin 1 → IVec S16 32) a x).toNat < S2048.size a) ∧
  (∀ a x, ((![v460] : Fin 1 → IVec S16 32) a x).toNat < S2048.size a)
theorem k0_idx1147_inb : ∀ (v460 : IVec S16 32) (k0_hw861 : k0_chk861 v460), ∀ a x, ((![v460] : Fin 1 → IVec S16 32) a x).toNat < S2048.size a := fun v460 k0_hw861 => k0_hw861.1
theorem k0_idx1148_inb : ∀ (v460 : IVec S16 32) (k0_hw861 : k0_chk861 v460), ∀ a x, ((![v460] : Fin 1 → IVec S16 32) a x).toNat < S2048.size a := fun v460 k0_hw861 => k0_hw861.2

def k0_chk862 (v872 : IVec S16 32) : Prop :=
  (∀ a x, ((![v872] : Fin 1 → IVec S16 32) a x).toNat < S32768.size a)
theorem k0_idx1149_inb : ∀ (v872 : IVec S16 32) (k0_hw862 : k0_chk862 v872), ∀ a x, ((![v872] : Fin 1 → IVec S16 32) a x).toNat < S32768.size a := fun v872 k0_hw862 => k0_hw862

def k0_chk863 (v464 : IVec S16 32) : Prop :=
  (∀ a x, ((![v464] : Fin 1 → IVec S16 32) a x).toNat < S2048.size a) ∧
  (∀ a x, ((![v464] : Fin 1 → IVec S16 32) a x).toNat < S2048.size a)
theorem k0_idx1150_inb : ∀ (v464 : IVec S16 32) (k0_hw863 : k0_chk863 v464), ∀ a x, ((![v464] : Fin 1 → IVec S16 32) a x).toNat < S2048.size a := fun v464 k0_hw863 => k0_hw863.1
theorem k0_idx1151_inb : ∀ (v464 : IVec S16 32) (k0_hw863 : k0_chk863 v464), ∀ a x, ((![v464] : Fin 1 → IVec S16 32) a x).toNat < S2048.size a := fun v464 k0_hw863 => k0_hw863.2

def k0_chk864 (v878 : IVec S16 32) : Prop :=
  (∀ a x, ((![v878] : Fin 1 → IVec S16 32) a x).toNat < S32768.size a)
theorem k0_idx1152_inb : ∀ (v878 : IVec S16 32) (k0_hw864 : k0_chk864 v878), ∀ a x, ((![v878] : Fin 1 → IVec S16 32) a x).toNat < S32768.size a := fun v878 k0_hw864 => k0_hw864
@[reducible] def k0_t43_loop : Scf.Loop 32 :=
  let c0_i32_243 : BitVec 32 := 0#32
  let c64_i32_244 : BitVec 32 := 64#32
  let v120 : BitVec 32 := Scalar.addi c0_i32_243 c64_i32_244
  let c1_i32_245 : BitVec 32 := 1#32
  ⟨c0_i32_243, v120, c1_i32_245⟩
def k0_off81 (k0_t43 : Fin k0_t43_loop.trips) (c0_i32_312 : BitVec 32) (c0_i32_313 : BitVec 32) : Fin 1 → Nat :=
  let c0_i32_243 : BitVec 32 := 0#32
  let c1_i32_245 : BitVec 32 := 1#32
  let arg15 : BitVec 32 := Scf.iv c0_i32_243 c1_i32_245 k0_t43
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_314 : BitVec 32 := 16#32
  let v148 : BitVec 32 := Scalar.muli v147 c16_i32_314
  let v273 : Index := Scalar.indexCast v148
  ![v273.toNat]

def k0_chk865 (v658 : IVec S16 32) : Prop :=
  (∀ a x, ((![v658] : Fin 1 → IVec S16 32) a x).toNat < S4096.size a)
theorem k0_idx1153_inb : ∀ (v658 : IVec S16 32) (k0_hw865 : k0_chk865 v658), ∀ a x, ((![v658] : Fin 1 → IVec S16 32) a x).toNat < S4096.size a := fun v658 k0_hw865 => k0_hw865

def k0_chk866 (v660 : IVec S16 32) : Prop :=
  (∀ a x, ((![v660] : Fin 1 → IVec S16 32) a x).toNat < S4096.size a)
theorem k0_idx1154_inb : ∀ (v660 : IVec S16 32) (k0_hw866 : k0_chk866 v660), ∀ a x, ((![v660] : Fin 1 → IVec S16 32) a x).toNat < S4096.size a := fun v660 k0_hw866 => k0_hw866

def k0_chk867 (v662 : IVec S16 32) : Prop :=
  (∀ a x, ((![v662] : Fin 1 → IVec S16 32) a x).toNat < S4096.size a)
theorem k0_idx1155_inb : ∀ (v662 : IVec S16 32) (k0_hw867 : k0_chk867 v662), ∀ a x, ((![v662] : Fin 1 → IVec S16 32) a x).toNat < S4096.size a := fun v662 k0_hw867 => k0_hw867

def k0_chk868 (v664 : IVec S16 32) : Prop :=
  (∀ a x, ((![v664] : Fin 1 → IVec S16 32) a x).toNat < S4096.size a)
theorem k0_idx1156_inb : ∀ (v664 : IVec S16 32) (k0_hw868 : k0_chk868 v664), ∀ a x, ((![v664] : Fin 1 → IVec S16 32) a x).toNat < S4096.size a := fun v664 k0_hw868 => k0_hw868

def k0_chk869 (v666 : IVec S16 32) : Prop :=
  (∀ a x, ((![v666] : Fin 1 → IVec S16 32) a x).toNat < S4096.size a)
theorem k0_idx1157_inb : ∀ (v666 : IVec S16 32) (k0_hw869 : k0_chk869 v666), ∀ a x, ((![v666] : Fin 1 → IVec S16 32) a x).toNat < S4096.size a := fun v666 k0_hw869 => k0_hw869

def k0_chk870 (v668 : IVec S16 32) : Prop :=
  (∀ a x, ((![v668] : Fin 1 → IVec S16 32) a x).toNat < S4096.size a)
theorem k0_idx1158_inb : ∀ (v668 : IVec S16 32) (k0_hw870 : k0_chk870 v668), ∀ a x, ((![v668] : Fin 1 → IVec S16 32) a x).toNat < S4096.size a := fun v668 k0_hw870 => k0_hw870

def k0_chk871 (v670 : IVec S16 32) : Prop :=
  (∀ a x, ((![v670] : Fin 1 → IVec S16 32) a x).toNat < S4096.size a)
theorem k0_idx1159_inb : ∀ (v670 : IVec S16 32) (k0_hw871 : k0_chk871 v670), ∀ a x, ((![v670] : Fin 1 → IVec S16 32) a x).toNat < S4096.size a := fun v670 k0_hw871 => k0_hw871

def k0_chk872 (v672 : IVec S16 32) : Prop :=
  (∀ a x, ((![v672] : Fin 1 → IVec S16 32) a x).toNat < S4096.size a)
theorem k0_idx1160_inb : ∀ (v672 : IVec S16 32) (k0_hw872 : k0_chk872 v672), ∀ a x, ((![v672] : Fin 1 → IVec S16 32) a x).toNat < S4096.size a := fun v672 k0_hw872 => k0_hw872

def k0_chk873 (v674 : IVec S16 32) : Prop :=
  (∀ a x, ((![v674] : Fin 1 → IVec S16 32) a x).toNat < S4096.size a)
theorem k0_idx1161_inb : ∀ (v674 : IVec S16 32) (k0_hw873 : k0_chk873 v674), ∀ a x, ((![v674] : Fin 1 → IVec S16 32) a x).toNat < S4096.size a := fun v674 k0_hw873 => k0_hw873

def k0_chk874 (v676 : IVec S16 32) : Prop :=
  (∀ a x, ((![v676] : Fin 1 → IVec S16 32) a x).toNat < S4096.size a)
theorem k0_idx1162_inb : ∀ (v676 : IVec S16 32) (k0_hw874 : k0_chk874 v676), ∀ a x, ((![v676] : Fin 1 → IVec S16 32) a x).toNat < S4096.size a := fun v676 k0_hw874 => k0_hw874

def k0_chk875 (v678 : IVec S16 32) : Prop :=
  (∀ a x, ((![v678] : Fin 1 → IVec S16 32) a x).toNat < S4096.size a)
theorem k0_idx1163_inb : ∀ (v678 : IVec S16 32) (k0_hw875 : k0_chk875 v678), ∀ a x, ((![v678] : Fin 1 → IVec S16 32) a x).toNat < S4096.size a := fun v678 k0_hw875 => k0_hw875

def k0_chk876 (v680 : IVec S16 32) : Prop :=
  (∀ a x, ((![v680] : Fin 1 → IVec S16 32) a x).toNat < S4096.size a)
theorem k0_idx1164_inb : ∀ (v680 : IVec S16 32) (k0_hw876 : k0_chk876 v680), ∀ a x, ((![v680] : Fin 1 → IVec S16 32) a x).toNat < S4096.size a := fun v680 k0_hw876 => k0_hw876

def k0_chk877 (v682 : IVec S16 32) : Prop :=
  (∀ a x, ((![v682] : Fin 1 → IVec S16 32) a x).toNat < S4096.size a)
theorem k0_idx1165_inb : ∀ (v682 : IVec S16 32) (k0_hw877 : k0_chk877 v682), ∀ a x, ((![v682] : Fin 1 → IVec S16 32) a x).toNat < S4096.size a := fun v682 k0_hw877 => k0_hw877

def k0_chk878 (v684 : IVec S16 32) : Prop :=
  (∀ a x, ((![v684] : Fin 1 → IVec S16 32) a x).toNat < S4096.size a)
theorem k0_idx1166_inb : ∀ (v684 : IVec S16 32) (k0_hw878 : k0_chk878 v684), ∀ a x, ((![v684] : Fin 1 → IVec S16 32) a x).toNat < S4096.size a := fun v684 k0_hw878 => k0_hw878

def k0_chk879 (v686 : IVec S16 32) : Prop :=
  (∀ a x, ((![v686] : Fin 1 → IVec S16 32) a x).toNat < S4096.size a)
theorem k0_idx1167_inb : ∀ (v686 : IVec S16 32) (k0_hw879 : k0_chk879 v686), ∀ a x, ((![v686] : Fin 1 → IVec S16 32) a x).toNat < S4096.size a := fun v686 k0_hw879 => k0_hw879

def k0_chk880 (v688 : IVec S16 32) : Prop :=
  (∀ a x, ((![v688] : Fin 1 → IVec S16 32) a x).toNat < S4096.size a)
theorem k0_idx1168_inb : ∀ (v688 : IVec S16 32) (k0_hw880 : k0_chk880 v688), ∀ a x, ((![v688] : Fin 1 → IVec S16 32) a x).toNat < S4096.size a := fun v688 k0_hw880 => k0_hw880

def k0_chk881 (v690 : IVec S16 32) : Prop :=
  (∀ a x, ((![v690] : Fin 1 → IVec S16 32) a x).toNat < S4096.size a)
theorem k0_idx1169_inb : ∀ (v690 : IVec S16 32) (k0_hw881 : k0_chk881 v690), ∀ a x, ((![v690] : Fin 1 → IVec S16 32) a x).toNat < S4096.size a := fun v690 k0_hw881 => k0_hw881

def k0_chk882 (v692 : IVec S16 32) : Prop :=
  (∀ a x, ((![v692] : Fin 1 → IVec S16 32) a x).toNat < S4096.size a)
theorem k0_idx1170_inb : ∀ (v692 : IVec S16 32) (k0_hw882 : k0_chk882 v692), ∀ a x, ((![v692] : Fin 1 → IVec S16 32) a x).toNat < S4096.size a := fun v692 k0_hw882 => k0_hw882

def k0_chk883 (v694 : IVec S16 32) : Prop :=
  (∀ a x, ((![v694] : Fin 1 → IVec S16 32) a x).toNat < S4096.size a)
theorem k0_idx1171_inb : ∀ (v694 : IVec S16 32) (k0_hw883 : k0_chk883 v694), ∀ a x, ((![v694] : Fin 1 → IVec S16 32) a x).toNat < S4096.size a := fun v694 k0_hw883 => k0_hw883

def k0_chk884 (v696 : IVec S16 32) : Prop :=
  (∀ a x, ((![v696] : Fin 1 → IVec S16 32) a x).toNat < S4096.size a)
theorem k0_idx1172_inb : ∀ (v696 : IVec S16 32) (k0_hw884 : k0_chk884 v696), ∀ a x, ((![v696] : Fin 1 → IVec S16 32) a x).toNat < S4096.size a := fun v696 k0_hw884 => k0_hw884

def k0_chk885 (v698 : IVec S16 32) : Prop :=
  (∀ a x, ((![v698] : Fin 1 → IVec S16 32) a x).toNat < S4096.size a)
theorem k0_idx1173_inb : ∀ (v698 : IVec S16 32) (k0_hw885 : k0_chk885 v698), ∀ a x, ((![v698] : Fin 1 → IVec S16 32) a x).toNat < S4096.size a := fun v698 k0_hw885 => k0_hw885

def k0_chk886 (v700 : IVec S16 32) : Prop :=
  (∀ a x, ((![v700] : Fin 1 → IVec S16 32) a x).toNat < S4096.size a)
theorem k0_idx1174_inb : ∀ (v700 : IVec S16 32) (k0_hw886 : k0_chk886 v700), ∀ a x, ((![v700] : Fin 1 → IVec S16 32) a x).toNat < S4096.size a := fun v700 k0_hw886 => k0_hw886

def k0_chk887 (v702 : IVec S16 32) : Prop :=
  (∀ a x, ((![v702] : Fin 1 → IVec S16 32) a x).toNat < S4096.size a)
theorem k0_idx1175_inb : ∀ (v702 : IVec S16 32) (k0_hw887 : k0_chk887 v702), ∀ a x, ((![v702] : Fin 1 → IVec S16 32) a x).toNat < S4096.size a := fun v702 k0_hw887 => k0_hw887

def k0_chk888 (v704 : IVec S16 32) : Prop :=
  (∀ a x, ((![v704] : Fin 1 → IVec S16 32) a x).toNat < S4096.size a)
theorem k0_idx1176_inb : ∀ (v704 : IVec S16 32) (k0_hw888 : k0_chk888 v704), ∀ a x, ((![v704] : Fin 1 → IVec S16 32) a x).toNat < S4096.size a := fun v704 k0_hw888 => k0_hw888

def k0_chk889 (v706 : IVec S16 32) : Prop :=
  (∀ a x, ((![v706] : Fin 1 → IVec S16 32) a x).toNat < S4096.size a)
theorem k0_idx1177_inb : ∀ (v706 : IVec S16 32) (k0_hw889 : k0_chk889 v706), ∀ a x, ((![v706] : Fin 1 → IVec S16 32) a x).toNat < S4096.size a := fun v706 k0_hw889 => k0_hw889

def k0_chk890 (v708 : IVec S16 32) : Prop :=
  (∀ a x, ((![v708] : Fin 1 → IVec S16 32) a x).toNat < S4096.size a)
theorem k0_idx1178_inb : ∀ (v708 : IVec S16 32) (k0_hw890 : k0_chk890 v708), ∀ a x, ((![v708] : Fin 1 → IVec S16 32) a x).toNat < S4096.size a := fun v708 k0_hw890 => k0_hw890

def k0_chk891 (v710 : IVec S16 32) : Prop :=
  (∀ a x, ((![v710] : Fin 1 → IVec S16 32) a x).toNat < S4096.size a)
theorem k0_idx1179_inb : ∀ (v710 : IVec S16 32) (k0_hw891 : k0_chk891 v710), ∀ a x, ((![v710] : Fin 1 → IVec S16 32) a x).toNat < S4096.size a := fun v710 k0_hw891 => k0_hw891

def k0_chk892 (v712 : IVec S16 32) : Prop :=
  (∀ a x, ((![v712] : Fin 1 → IVec S16 32) a x).toNat < S4096.size a)
theorem k0_idx1180_inb : ∀ (v712 : IVec S16 32) (k0_hw892 : k0_chk892 v712), ∀ a x, ((![v712] : Fin 1 → IVec S16 32) a x).toNat < S4096.size a := fun v712 k0_hw892 => k0_hw892

def k0_chk893 (v714 : IVec S16 32) : Prop :=
  (∀ a x, ((![v714] : Fin 1 → IVec S16 32) a x).toNat < S4096.size a)
theorem k0_idx1181_inb : ∀ (v714 : IVec S16 32) (k0_hw893 : k0_chk893 v714), ∀ a x, ((![v714] : Fin 1 → IVec S16 32) a x).toNat < S4096.size a := fun v714 k0_hw893 => k0_hw893

def k0_chk894 (v716 : IVec S16 32) : Prop :=
  (∀ a x, ((![v716] : Fin 1 → IVec S16 32) a x).toNat < S4096.size a)
theorem k0_idx1182_inb : ∀ (v716 : IVec S16 32) (k0_hw894 : k0_chk894 v716), ∀ a x, ((![v716] : Fin 1 → IVec S16 32) a x).toNat < S4096.size a := fun v716 k0_hw894 => k0_hw894

def k0_chk895 (v718 : IVec S16 32) : Prop :=
  (∀ a x, ((![v718] : Fin 1 → IVec S16 32) a x).toNat < S4096.size a)
theorem k0_idx1183_inb : ∀ (v718 : IVec S16 32) (k0_hw895 : k0_chk895 v718), ∀ a x, ((![v718] : Fin 1 → IVec S16 32) a x).toNat < S4096.size a := fun v718 k0_hw895 => k0_hw895

def k0_chk896 (v720 : IVec S16 32) : Prop :=
  (∀ a x, ((![v720] : Fin 1 → IVec S16 32) a x).toNat < S4096.size a)
theorem k0_idx1184_inb : ∀ (v720 : IVec S16 32) (k0_hw896 : k0_chk896 v720), ∀ a x, ((![v720] : Fin 1 → IVec S16 32) a x).toNat < S4096.size a := fun v720 k0_hw896 => k0_hw896
@[reducible] def k0_t44_loop : Scf.Loop 32 :=
  let c0_i32_248 : BitVec 32 := 0#32
  let c128_i32_249 : BitVec 32 := 128#32
  let v121 : BitVec 32 := Scalar.addi c0_i32_248 c128_i32_249
  let c1_i32_250 : BitVec 32 := 1#32
  ⟨c0_i32_248, v121, c1_i32_250⟩
def k0_off82 (k0_t44 : Fin k0_t44_loop.trips) : Fin 1 → Nat :=
  let c0_i32_248 : BitVec 32 := 0#32
  let c1_i32_250 : BitVec 32 := 1#32
  let arg15 : BitVec 32 := Scf.iv c0_i32_248 c1_i32_250 k0_t44
  let c16_i32_312 : BitVec 32 := 16#32
  let v146 : BitVec 32 := Scalar.muli arg15 c16_i32_312
  let v147 : Index := Scalar.indexCast v146
  ![v147.toNat]
def k0_off83 (k0_t44 : Fin k0_t44_loop.trips) : Fin 1 → Nat :=
  let c2048_i32 : BitVec 32 := 2048#32
  let c0_i32_248 : BitVec 32 := 0#32
  let c1_i32_250 : BitVec 32 := 1#32
  let arg15 : BitVec 32 := Scf.iv c0_i32_248 c1_i32_250 k0_t44
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off84 (k0_t44 : Fin k0_t44_loop.trips) : Fin 1 → Nat :=
  let c0_i32_248 : BitVec 32 := 0#32
  let c1_i32_250 : BitVec 32 := 1#32
  let arg15 : BitVec 32 := Scf.iv c0_i32_248 c1_i32_250 k0_t44
  let c16_i32 : BitVec 32 := 16#32
  let v145 : BitVec 32 := Scalar.muli arg15 c16_i32
  let v154 : Index := Scalar.indexCast v145
  ![v154.toNat]
@[reducible] def k0_t45_loop : Scf.Loop 32 :=
  let c0_i32_253 : BitVec 32 := 0#32
  let c128_i32_254 : BitVec 32 := 128#32
  let v122 : BitVec 32 := Scalar.addi c0_i32_253 c128_i32_254
  let c1_i32_255 : BitVec 32 := 1#32
  ⟨c0_i32_253, v122, c1_i32_255⟩
def k0_off85 (k0_t45 : Fin k0_t45_loop.trips) : Fin 1 → Nat :=
  let c0_i32_253 : BitVec 32 := 0#32
  let c1_i32_255 : BitVec 32 := 1#32
  let arg15 : BitVec 32 := Scf.iv c0_i32_253 c1_i32_255 k0_t45
  let c16_i32 : BitVec 32 := 16#32
  let v145 : BitVec 32 := Scalar.muli arg15 c16_i32
  let v146 : Index := Scalar.indexCast v145
  ![v146.toNat]
@[reducible] def k0_t46_loop : Scf.Loop 32 :=
  let c0_i32_258 : BitVec 32 := 0#32
  let c128_i32_259 : BitVec 32 := 128#32
  let v124 : BitVec 32 := Scalar.addi c0_i32_258 c128_i32_259
  let c1_i32_260 : BitVec 32 := 1#32
  ⟨c0_i32_258, v124, c1_i32_260⟩
def k0_off86 (k0_t46 : Fin k0_t46_loop.trips) : Fin 1 → Nat :=
  let c0_i32_258 : BitVec 32 := 0#32
  let c1_i32_260 : BitVec 32 := 1#32
  let arg15 : BitVec 32 := Scf.iv c0_i32_258 c1_i32_260 k0_t46
  let c16_i32 : BitVec 32 := 16#32
  let v145 : BitVec 32 := Scalar.muli arg15 c16_i32
  let v146 : Index := Scalar.indexCast v145
  ![v146.toNat]
def k0_off87 (k0_t46 : Fin k0_t46_loop.trips) : Fin 1 → Nat :=
  let c0_i32_258 : BitVec 32 := 0#32
  let c1_i32_260 : BitVec 32 := 1#32
  let arg15 : BitVec 32 := Scf.iv c0_i32_258 c1_i32_260 k0_t46
  let c16_i32_312 : BitVec 32 := 16#32
  let v150 : BitVec 32 := Scalar.muli arg15 c16_i32_312
  let v151 : Index := Scalar.indexCast v150
  ![v151.toNat]
def k0_off88 (k0_t46 : Fin k0_t46_loop.trips) : Fin 1 → Nat :=
  let c2048_i32 : BitVec 32 := 2048#32
  let c0_i32_258 : BitVec 32 := 0#32
  let c1_i32_260 : BitVec 32 := 1#32
  let arg15 : BitVec 32 := Scf.iv c0_i32_258 c1_i32_260 k0_t46
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t47_loop : Scf.Loop 32 :=
  let c0_i32_263 : BitVec 32 := 0#32
  let c64_i32_264 : BitVec 32 := 64#32
  let v125 : BitVec 32 := Scalar.addi c0_i32_263 c64_i32_264
  let c1_i32_265 : BitVec 32 := 1#32
  ⟨c0_i32_263, v125, c1_i32_265⟩
def k0_off89 (k0_t47 : Fin k0_t47_loop.trips) (c0_i32_312 : BitVec 32) (c0_i32_313 : BitVec 32) : Fin 1 → Nat :=
  let c0_i32_263 : BitVec 32 := 0#32
  let c1_i32_265 : BitVec 32 := 1#32
  let arg15 : BitVec 32 := Scf.iv c0_i32_263 c1_i32_265 k0_t47
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk897 (v500 : IVec S16 32) : Prop :=
  (∀ a x, ((![v500] : Fin 1 → IVec S16 32) a x).toNat < S2048.size a) ∧
  (∀ a x, ((![v500] : Fin 1 → IVec S16 32) a x).toNat < S2048.size a)
theorem k0_idx1185_inb : ∀ (v500 : IVec S16 32) (k0_hw897 : k0_chk897 v500), ∀ a x, ((![v500] : Fin 1 → IVec S16 32) a x).toNat < S2048.size a := fun v500 k0_hw897 => k0_hw897.1
theorem k0_idx1186_inb : ∀ (v500 : IVec S16 32) (k0_hw897 : k0_chk897 v500), ∀ a x, ((![v500] : Fin 1 → IVec S16 32) a x).toNat < S2048.size a := fun v500 k0_hw897 => k0_hw897.2

def k0_chk898 (v660 : IVec S16 32) : Prop :=
  (∀ a x, ((![v660] : Fin 1 → IVec S16 32) a x).toNat < S32768.size a)
theorem k0_idx1187_inb : ∀ (v660 : IVec S16 32) (k0_hw898 : k0_chk898 v660), ∀ a x, ((![v660] : Fin 1 → IVec S16 32) a x).toNat < S32768.size a := fun v660 k0_hw898 => k0_hw898

def k0_chk899 (v504 : IVec S16 32) : Prop :=
  (∀ a x, ((![v504] : Fin 1 → IVec S16 32) a x).toNat < S2048.size a) ∧
  (∀ a x, ((![v504] : Fin 1 → IVec S16 32) a x).toNat < S2048.size a)
theorem k0_idx1188_inb : ∀ (v504 : IVec S16 32) (k0_hw899 : k0_chk899 v504), ∀ a x, ((![v504] : Fin 1 → IVec S16 32) a x).toNat < S2048.size a := fun v504 k0_hw899 => k0_hw899.1
theorem k0_idx1189_inb : ∀ (v504 : IVec S16 32) (k0_hw899 : k0_chk899 v504), ∀ a x, ((![v504] : Fin 1 → IVec S16 32) a x).toNat < S2048.size a := fun v504 k0_hw899 => k0_hw899.2

def k0_chk900 (v666 : IVec S16 32) : Prop :=
  (∀ a x, ((![v666] : Fin 1 → IVec S16 32) a x).toNat < S32768.size a)
theorem k0_idx1190_inb : ∀ (v666 : IVec S16 32) (k0_hw900 : k0_chk900 v666), ∀ a x, ((![v666] : Fin 1 → IVec S16 32) a x).toNat < S32768.size a := fun v666 k0_hw900 => k0_hw900

def k0_chk901 (v508 : IVec S16 32) : Prop :=
  (∀ a x, ((![v508] : Fin 1 → IVec S16 32) a x).toNat < S2048.size a) ∧
  (∀ a x, ((![v508] : Fin 1 → IVec S16 32) a x).toNat < S2048.size a)
theorem k0_idx1191_inb : ∀ (v508 : IVec S16 32) (k0_hw901 : k0_chk901 v508), ∀ a x, ((![v508] : Fin 1 → IVec S16 32) a x).toNat < S2048.size a := fun v508 k0_hw901 => k0_hw901.1
theorem k0_idx1192_inb : ∀ (v508 : IVec S16 32) (k0_hw901 : k0_chk901 v508), ∀ a x, ((![v508] : Fin 1 → IVec S16 32) a x).toNat < S2048.size a := fun v508 k0_hw901 => k0_hw901.2

def k0_chk902 (v672 : IVec S16 32) : Prop :=
  (∀ a x, ((![v672] : Fin 1 → IVec S16 32) a x).toNat < S32768.size a)
theorem k0_idx1193_inb : ∀ (v672 : IVec S16 32) (k0_hw902 : k0_chk902 v672), ∀ a x, ((![v672] : Fin 1 → IVec S16 32) a x).toNat < S32768.size a := fun v672 k0_hw902 => k0_hw902

def k0_chk903 (v512 : IVec S16 32) : Prop :=
  (∀ a x, ((![v512] : Fin 1 → IVec S16 32) a x).toNat < S2048.size a) ∧
  (∀ a x, ((![v512] : Fin 1 → IVec S16 32) a x).toNat < S2048.size a)
theorem k0_idx1194_inb : ∀ (v512 : IVec S16 32) (k0_hw903 : k0_chk903 v512), ∀ a x, ((![v512] : Fin 1 → IVec S16 32) a x).toNat < S2048.size a := fun v512 k0_hw903 => k0_hw903.1
theorem k0_idx1195_inb : ∀ (v512 : IVec S16 32) (k0_hw903 : k0_chk903 v512), ∀ a x, ((![v512] : Fin 1 → IVec S16 32) a x).toNat < S2048.size a := fun v512 k0_hw903 => k0_hw903.2

def k0_chk904 (v678 : IVec S16 32) : Prop :=
  (∀ a x, ((![v678] : Fin 1 → IVec S16 32) a x).toNat < S32768.size a)
theorem k0_idx1196_inb : ∀ (v678 : IVec S16 32) (k0_hw904 : k0_chk904 v678), ∀ a x, ((![v678] : Fin 1 → IVec S16 32) a x).toNat < S32768.size a := fun v678 k0_hw904 => k0_hw904

def k0_chk905 (v516 : IVec S16 32) : Prop :=
  (∀ a x, ((![v516] : Fin 1 → IVec S16 32) a x).toNat < S2048.size a) ∧
  (∀ a x, ((![v516] : Fin 1 → IVec S16 32) a x).toNat < S2048.size a)
theorem k0_idx1197_inb : ∀ (v516 : IVec S16 32) (k0_hw905 : k0_chk905 v516), ∀ a x, ((![v516] : Fin 1 → IVec S16 32) a x).toNat < S2048.size a := fun v516 k0_hw905 => k0_hw905.1
theorem k0_idx1198_inb : ∀ (v516 : IVec S16 32) (k0_hw905 : k0_chk905 v516), ∀ a x, ((![v516] : Fin 1 → IVec S16 32) a x).toNat < S2048.size a := fun v516 k0_hw905 => k0_hw905.2

def k0_chk906 (v684 : IVec S16 32) : Prop :=
  (∀ a x, ((![v684] : Fin 1 → IVec S16 32) a x).toNat < S32768.size a)
theorem k0_idx1199_inb : ∀ (v684 : IVec S16 32) (k0_hw906 : k0_chk906 v684), ∀ a x, ((![v684] : Fin 1 → IVec S16 32) a x).toNat < S32768.size a := fun v684 k0_hw906 => k0_hw906

def k0_chk907 (v520 : IVec S16 32) : Prop :=
  (∀ a x, ((![v520] : Fin 1 → IVec S16 32) a x).toNat < S2048.size a) ∧
  (∀ a x, ((![v520] : Fin 1 → IVec S16 32) a x).toNat < S2048.size a)
theorem k0_idx1200_inb : ∀ (v520 : IVec S16 32) (k0_hw907 : k0_chk907 v520), ∀ a x, ((![v520] : Fin 1 → IVec S16 32) a x).toNat < S2048.size a := fun v520 k0_hw907 => k0_hw907.1
theorem k0_idx1201_inb : ∀ (v520 : IVec S16 32) (k0_hw907 : k0_chk907 v520), ∀ a x, ((![v520] : Fin 1 → IVec S16 32) a x).toNat < S2048.size a := fun v520 k0_hw907 => k0_hw907.2

def k0_chk908 (v690 : IVec S16 32) : Prop :=
  (∀ a x, ((![v690] : Fin 1 → IVec S16 32) a x).toNat < S32768.size a)
theorem k0_idx1202_inb : ∀ (v690 : IVec S16 32) (k0_hw908 : k0_chk908 v690), ∀ a x, ((![v690] : Fin 1 → IVec S16 32) a x).toNat < S32768.size a := fun v690 k0_hw908 => k0_hw908

def k0_chk909 (v524 : IVec S16 32) : Prop :=
  (∀ a x, ((![v524] : Fin 1 → IVec S16 32) a x).toNat < S2048.size a) ∧
  (∀ a x, ((![v524] : Fin 1 → IVec S16 32) a x).toNat < S2048.size a)
theorem k0_idx1203_inb : ∀ (v524 : IVec S16 32) (k0_hw909 : k0_chk909 v524), ∀ a x, ((![v524] : Fin 1 → IVec S16 32) a x).toNat < S2048.size a := fun v524 k0_hw909 => k0_hw909.1
theorem k0_idx1204_inb : ∀ (v524 : IVec S16 32) (k0_hw909 : k0_chk909 v524), ∀ a x, ((![v524] : Fin 1 → IVec S16 32) a x).toNat < S2048.size a := fun v524 k0_hw909 => k0_hw909.2

def k0_chk910 (v696 : IVec S16 32) : Prop :=
  (∀ a x, ((![v696] : Fin 1 → IVec S16 32) a x).toNat < S32768.size a)
theorem k0_idx1205_inb : ∀ (v696 : IVec S16 32) (k0_hw910 : k0_chk910 v696), ∀ a x, ((![v696] : Fin 1 → IVec S16 32) a x).toNat < S32768.size a := fun v696 k0_hw910 => k0_hw910

def k0_chk911 (v528 : IVec S16 32) : Prop :=
  (∀ a x, ((![v528] : Fin 1 → IVec S16 32) a x).toNat < S2048.size a) ∧
  (∀ a x, ((![v528] : Fin 1 → IVec S16 32) a x).toNat < S2048.size a)
theorem k0_idx1206_inb : ∀ (v528 : IVec S16 32) (k0_hw911 : k0_chk911 v528), ∀ a x, ((![v528] : Fin 1 → IVec S16 32) a x).toNat < S2048.size a := fun v528 k0_hw911 => k0_hw911.1
theorem k0_idx1207_inb : ∀ (v528 : IVec S16 32) (k0_hw911 : k0_chk911 v528), ∀ a x, ((![v528] : Fin 1 → IVec S16 32) a x).toNat < S2048.size a := fun v528 k0_hw911 => k0_hw911.2

def k0_chk912 (v702 : IVec S16 32) : Prop :=
  (∀ a x, ((![v702] : Fin 1 → IVec S16 32) a x).toNat < S32768.size a)
theorem k0_idx1208_inb : ∀ (v702 : IVec S16 32) (k0_hw912 : k0_chk912 v702), ∀ a x, ((![v702] : Fin 1 → IVec S16 32) a x).toNat < S32768.size a := fun v702 k0_hw912 => k0_hw912

def k0_chk913 (v532 : IVec S16 32) : Prop :=
  (∀ a x, ((![v532] : Fin 1 → IVec S16 32) a x).toNat < S2048.size a) ∧
  (∀ a x, ((![v532] : Fin 1 → IVec S16 32) a x).toNat < S2048.size a)
theorem k0_idx1209_inb : ∀ (v532 : IVec S16 32) (k0_hw913 : k0_chk913 v532), ∀ a x, ((![v532] : Fin 1 → IVec S16 32) a x).toNat < S2048.size a := fun v532 k0_hw913 => k0_hw913.1
theorem k0_idx1210_inb : ∀ (v532 : IVec S16 32) (k0_hw913 : k0_chk913 v532), ∀ a x, ((![v532] : Fin 1 → IVec S16 32) a x).toNat < S2048.size a := fun v532 k0_hw913 => k0_hw913.2

def k0_chk914 (v708 : IVec S16 32) : Prop :=
  (∀ a x, ((![v708] : Fin 1 → IVec S16 32) a x).toNat < S32768.size a)
theorem k0_idx1211_inb : ∀ (v708 : IVec S16 32) (k0_hw914 : k0_chk914 v708), ∀ a x, ((![v708] : Fin 1 → IVec S16 32) a x).toNat < S32768.size a := fun v708 k0_hw914 => k0_hw914

def k0_chk915 (v536 : IVec S16 32) : Prop :=
  (∀ a x, ((![v536] : Fin 1 → IVec S16 32) a x).toNat < S2048.size a) ∧
  (∀ a x, ((![v536] : Fin 1 → IVec S16 32) a x).toNat < S2048.size a)
theorem k0_idx1212_inb : ∀ (v536 : IVec S16 32) (k0_hw915 : k0_chk915 v536), ∀ a x, ((![v536] : Fin 1 → IVec S16 32) a x).toNat < S2048.size a := fun v536 k0_hw915 => k0_hw915.1
theorem k0_idx1213_inb : ∀ (v536 : IVec S16 32) (k0_hw915 : k0_chk915 v536), ∀ a x, ((![v536] : Fin 1 → IVec S16 32) a x).toNat < S2048.size a := fun v536 k0_hw915 => k0_hw915.2

def k0_chk916 (v714 : IVec S16 32) : Prop :=
  (∀ a x, ((![v714] : Fin 1 → IVec S16 32) a x).toNat < S32768.size a)
theorem k0_idx1214_inb : ∀ (v714 : IVec S16 32) (k0_hw916 : k0_chk916 v714), ∀ a x, ((![v714] : Fin 1 → IVec S16 32) a x).toNat < S32768.size a := fun v714 k0_hw916 => k0_hw916

def k0_chk917 (v540 : IVec S16 32) : Prop :=
  (∀ a x, ((![v540] : Fin 1 → IVec S16 32) a x).toNat < S2048.size a) ∧
  (∀ a x, ((![v540] : Fin 1 → IVec S16 32) a x).toNat < S2048.size a)
theorem k0_idx1215_inb : ∀ (v540 : IVec S16 32) (k0_hw917 : k0_chk917 v540), ∀ a x, ((![v540] : Fin 1 → IVec S16 32) a x).toNat < S2048.size a := fun v540 k0_hw917 => k0_hw917.1
theorem k0_idx1216_inb : ∀ (v540 : IVec S16 32) (k0_hw917 : k0_chk917 v540), ∀ a x, ((![v540] : Fin 1 → IVec S16 32) a x).toNat < S2048.size a := fun v540 k0_hw917 => k0_hw917.2

def k0_chk918 (v720 : IVec S16 32) : Prop :=
  (∀ a x, ((![v720] : Fin 1 → IVec S16 32) a x).toNat < S32768.size a)
theorem k0_idx1217_inb : ∀ (v720 : IVec S16 32) (k0_hw918 : k0_chk918 v720), ∀ a x, ((![v720] : Fin 1 → IVec S16 32) a x).toNat < S32768.size a := fun v720 k0_hw918 => k0_hw918

def k0_chk919 (v544 : IVec S16 32) : Prop :=
  (∀ a x, ((![v544] : Fin 1 → IVec S16 32) a x).toNat < S2048.size a) ∧
  (∀ a x, ((![v544] : Fin 1 → IVec S16 32) a x).toNat < S2048.size a)
theorem k0_idx1218_inb : ∀ (v544 : IVec S16 32) (k0_hw919 : k0_chk919 v544), ∀ a x, ((![v544] : Fin 1 → IVec S16 32) a x).toNat < S2048.size a := fun v544 k0_hw919 => k0_hw919.1
theorem k0_idx1219_inb : ∀ (v544 : IVec S16 32) (k0_hw919 : k0_chk919 v544), ∀ a x, ((![v544] : Fin 1 → IVec S16 32) a x).toNat < S2048.size a := fun v544 k0_hw919 => k0_hw919.2

def k0_chk920 (v726 : IVec S16 32) : Prop :=
  (∀ a x, ((![v726] : Fin 1 → IVec S16 32) a x).toNat < S32768.size a)
theorem k0_idx1220_inb : ∀ (v726 : IVec S16 32) (k0_hw920 : k0_chk920 v726), ∀ a x, ((![v726] : Fin 1 → IVec S16 32) a x).toNat < S32768.size a := fun v726 k0_hw920 => k0_hw920

def k0_chk921 (v548 : IVec S16 32) : Prop :=
  (∀ a x, ((![v548] : Fin 1 → IVec S16 32) a x).toNat < S2048.size a) ∧
  (∀ a x, ((![v548] : Fin 1 → IVec S16 32) a x).toNat < S2048.size a)
theorem k0_idx1221_inb : ∀ (v548 : IVec S16 32) (k0_hw921 : k0_chk921 v548), ∀ a x, ((![v548] : Fin 1 → IVec S16 32) a x).toNat < S2048.size a := fun v548 k0_hw921 => k0_hw921.1
theorem k0_idx1222_inb : ∀ (v548 : IVec S16 32) (k0_hw921 : k0_chk921 v548), ∀ a x, ((![v548] : Fin 1 → IVec S16 32) a x).toNat < S2048.size a := fun v548 k0_hw921 => k0_hw921.2

def k0_chk922 (v732 : IVec S16 32) : Prop :=
  (∀ a x, ((![v732] : Fin 1 → IVec S16 32) a x).toNat < S32768.size a)
theorem k0_idx1223_inb : ∀ (v732 : IVec S16 32) (k0_hw922 : k0_chk922 v732), ∀ a x, ((![v732] : Fin 1 → IVec S16 32) a x).toNat < S32768.size a := fun v732 k0_hw922 => k0_hw922

def k0_chk923 (v552 : IVec S16 32) : Prop :=
  (∀ a x, ((![v552] : Fin 1 → IVec S16 32) a x).toNat < S2048.size a) ∧
  (∀ a x, ((![v552] : Fin 1 → IVec S16 32) a x).toNat < S2048.size a)
theorem k0_idx1224_inb : ∀ (v552 : IVec S16 32) (k0_hw923 : k0_chk923 v552), ∀ a x, ((![v552] : Fin 1 → IVec S16 32) a x).toNat < S2048.size a := fun v552 k0_hw923 => k0_hw923.1
theorem k0_idx1225_inb : ∀ (v552 : IVec S16 32) (k0_hw923 : k0_chk923 v552), ∀ a x, ((![v552] : Fin 1 → IVec S16 32) a x).toNat < S2048.size a := fun v552 k0_hw923 => k0_hw923.2

def k0_chk924 (v738 : IVec S16 32) : Prop :=
  (∀ a x, ((![v738] : Fin 1 → IVec S16 32) a x).toNat < S32768.size a)
theorem k0_idx1226_inb : ∀ (v738 : IVec S16 32) (k0_hw924 : k0_chk924 v738), ∀ a x, ((![v738] : Fin 1 → IVec S16 32) a x).toNat < S32768.size a := fun v738 k0_hw924 => k0_hw924

def k0_chk925 (v556 : IVec S16 32) : Prop :=
  (∀ a x, ((![v556] : Fin 1 → IVec S16 32) a x).toNat < S2048.size a) ∧
  (∀ a x, ((![v556] : Fin 1 → IVec S16 32) a x).toNat < S2048.size a)
theorem k0_idx1227_inb : ∀ (v556 : IVec S16 32) (k0_hw925 : k0_chk925 v556), ∀ a x, ((![v556] : Fin 1 → IVec S16 32) a x).toNat < S2048.size a := fun v556 k0_hw925 => k0_hw925.1
theorem k0_idx1228_inb : ∀ (v556 : IVec S16 32) (k0_hw925 : k0_chk925 v556), ∀ a x, ((![v556] : Fin 1 → IVec S16 32) a x).toNat < S2048.size a := fun v556 k0_hw925 => k0_hw925.2

def k0_chk926 (v744 : IVec S16 32) : Prop :=
  (∀ a x, ((![v744] : Fin 1 → IVec S16 32) a x).toNat < S32768.size a)
theorem k0_idx1229_inb : ∀ (v744 : IVec S16 32) (k0_hw926 : k0_chk926 v744), ∀ a x, ((![v744] : Fin 1 → IVec S16 32) a x).toNat < S32768.size a := fun v744 k0_hw926 => k0_hw926

def k0_chk927 (v560 : IVec S16 32) : Prop :=
  (∀ a x, ((![v560] : Fin 1 → IVec S16 32) a x).toNat < S2048.size a) ∧
  (∀ a x, ((![v560] : Fin 1 → IVec S16 32) a x).toNat < S2048.size a)
theorem k0_idx1230_inb : ∀ (v560 : IVec S16 32) (k0_hw927 : k0_chk927 v560), ∀ a x, ((![v560] : Fin 1 → IVec S16 32) a x).toNat < S2048.size a := fun v560 k0_hw927 => k0_hw927.1
theorem k0_idx1231_inb : ∀ (v560 : IVec S16 32) (k0_hw927 : k0_chk927 v560), ∀ a x, ((![v560] : Fin 1 → IVec S16 32) a x).toNat < S2048.size a := fun v560 k0_hw927 => k0_hw927.2

def k0_chk928 (v750 : IVec S16 32) : Prop :=
  (∀ a x, ((![v750] : Fin 1 → IVec S16 32) a x).toNat < S32768.size a)
theorem k0_idx1232_inb : ∀ (v750 : IVec S16 32) (k0_hw928 : k0_chk928 v750), ∀ a x, ((![v750] : Fin 1 → IVec S16 32) a x).toNat < S32768.size a := fun v750 k0_hw928 => k0_hw928

def k0_chk929 (v564 : IVec S16 32) : Prop :=
  (∀ a x, ((![v564] : Fin 1 → IVec S16 32) a x).toNat < S2048.size a) ∧
  (∀ a x, ((![v564] : Fin 1 → IVec S16 32) a x).toNat < S2048.size a)
theorem k0_idx1233_inb : ∀ (v564 : IVec S16 32) (k0_hw929 : k0_chk929 v564), ∀ a x, ((![v564] : Fin 1 → IVec S16 32) a x).toNat < S2048.size a := fun v564 k0_hw929 => k0_hw929.1
theorem k0_idx1234_inb : ∀ (v564 : IVec S16 32) (k0_hw929 : k0_chk929 v564), ∀ a x, ((![v564] : Fin 1 → IVec S16 32) a x).toNat < S2048.size a := fun v564 k0_hw929 => k0_hw929.2

def k0_chk930 (v756 : IVec S16 32) : Prop :=
  (∀ a x, ((![v756] : Fin 1 → IVec S16 32) a x).toNat < S32768.size a)
theorem k0_idx1235_inb : ∀ (v756 : IVec S16 32) (k0_hw930 : k0_chk930 v756), ∀ a x, ((![v756] : Fin 1 → IVec S16 32) a x).toNat < S32768.size a := fun v756 k0_hw930 => k0_hw930

def k0_chk931 (v568 : IVec S16 32) : Prop :=
  (∀ a x, ((![v568] : Fin 1 → IVec S16 32) a x).toNat < S2048.size a) ∧
  (∀ a x, ((![v568] : Fin 1 → IVec S16 32) a x).toNat < S2048.size a)
theorem k0_idx1236_inb : ∀ (v568 : IVec S16 32) (k0_hw931 : k0_chk931 v568), ∀ a x, ((![v568] : Fin 1 → IVec S16 32) a x).toNat < S2048.size a := fun v568 k0_hw931 => k0_hw931.1
theorem k0_idx1237_inb : ∀ (v568 : IVec S16 32) (k0_hw931 : k0_chk931 v568), ∀ a x, ((![v568] : Fin 1 → IVec S16 32) a x).toNat < S2048.size a := fun v568 k0_hw931 => k0_hw931.2

def k0_chk932 (v762 : IVec S16 32) : Prop :=
  (∀ a x, ((![v762] : Fin 1 → IVec S16 32) a x).toNat < S32768.size a)
theorem k0_idx1238_inb : ∀ (v762 : IVec S16 32) (k0_hw932 : k0_chk932 v762), ∀ a x, ((![v762] : Fin 1 → IVec S16 32) a x).toNat < S32768.size a := fun v762 k0_hw932 => k0_hw932

def k0_chk933 (v572 : IVec S16 32) : Prop :=
  (∀ a x, ((![v572] : Fin 1 → IVec S16 32) a x).toNat < S2048.size a) ∧
  (∀ a x, ((![v572] : Fin 1 → IVec S16 32) a x).toNat < S2048.size a)
theorem k0_idx1239_inb : ∀ (v572 : IVec S16 32) (k0_hw933 : k0_chk933 v572), ∀ a x, ((![v572] : Fin 1 → IVec S16 32) a x).toNat < S2048.size a := fun v572 k0_hw933 => k0_hw933.1
theorem k0_idx1240_inb : ∀ (v572 : IVec S16 32) (k0_hw933 : k0_chk933 v572), ∀ a x, ((![v572] : Fin 1 → IVec S16 32) a x).toNat < S2048.size a := fun v572 k0_hw933 => k0_hw933.2

def k0_chk934 (v768 : IVec S16 32) : Prop :=
  (∀ a x, ((![v768] : Fin 1 → IVec S16 32) a x).toNat < S32768.size a)
theorem k0_idx1241_inb : ∀ (v768 : IVec S16 32) (k0_hw934 : k0_chk934 v768), ∀ a x, ((![v768] : Fin 1 → IVec S16 32) a x).toNat < S32768.size a := fun v768 k0_hw934 => k0_hw934

def k0_chk935 (v576 : IVec S16 32) : Prop :=
  (∀ a x, ((![v576] : Fin 1 → IVec S16 32) a x).toNat < S2048.size a) ∧
  (∀ a x, ((![v576] : Fin 1 → IVec S16 32) a x).toNat < S2048.size a)
theorem k0_idx1242_inb : ∀ (v576 : IVec S16 32) (k0_hw935 : k0_chk935 v576), ∀ a x, ((![v576] : Fin 1 → IVec S16 32) a x).toNat < S2048.size a := fun v576 k0_hw935 => k0_hw935.1
theorem k0_idx1243_inb : ∀ (v576 : IVec S16 32) (k0_hw935 : k0_chk935 v576), ∀ a x, ((![v576] : Fin 1 → IVec S16 32) a x).toNat < S2048.size a := fun v576 k0_hw935 => k0_hw935.2

def k0_chk936 (v774 : IVec S16 32) : Prop :=
  (∀ a x, ((![v774] : Fin 1 → IVec S16 32) a x).toNat < S32768.size a)
theorem k0_idx1244_inb : ∀ (v774 : IVec S16 32) (k0_hw936 : k0_chk936 v774), ∀ a x, ((![v774] : Fin 1 → IVec S16 32) a x).toNat < S32768.size a := fun v774 k0_hw936 => k0_hw936

def k0_chk937 (v580 : IVec S16 32) : Prop :=
  (∀ a x, ((![v580] : Fin 1 → IVec S16 32) a x).toNat < S2048.size a) ∧
  (∀ a x, ((![v580] : Fin 1 → IVec S16 32) a x).toNat < S2048.size a)
theorem k0_idx1245_inb : ∀ (v580 : IVec S16 32) (k0_hw937 : k0_chk937 v580), ∀ a x, ((![v580] : Fin 1 → IVec S16 32) a x).toNat < S2048.size a := fun v580 k0_hw937 => k0_hw937.1
theorem k0_idx1246_inb : ∀ (v580 : IVec S16 32) (k0_hw937 : k0_chk937 v580), ∀ a x, ((![v580] : Fin 1 → IVec S16 32) a x).toNat < S2048.size a := fun v580 k0_hw937 => k0_hw937.2

def k0_chk938 (v780 : IVec S16 32) : Prop :=
  (∀ a x, ((![v780] : Fin 1 → IVec S16 32) a x).toNat < S32768.size a)
theorem k0_idx1247_inb : ∀ (v780 : IVec S16 32) (k0_hw938 : k0_chk938 v780), ∀ a x, ((![v780] : Fin 1 → IVec S16 32) a x).toNat < S32768.size a := fun v780 k0_hw938 => k0_hw938

def k0_chk939 (v584 : IVec S16 32) : Prop :=
  (∀ a x, ((![v584] : Fin 1 → IVec S16 32) a x).toNat < S2048.size a) ∧
  (∀ a x, ((![v584] : Fin 1 → IVec S16 32) a x).toNat < S2048.size a)
theorem k0_idx1248_inb : ∀ (v584 : IVec S16 32) (k0_hw939 : k0_chk939 v584), ∀ a x, ((![v584] : Fin 1 → IVec S16 32) a x).toNat < S2048.size a := fun v584 k0_hw939 => k0_hw939.1
theorem k0_idx1249_inb : ∀ (v584 : IVec S16 32) (k0_hw939 : k0_chk939 v584), ∀ a x, ((![v584] : Fin 1 → IVec S16 32) a x).toNat < S2048.size a := fun v584 k0_hw939 => k0_hw939.2

def k0_chk940 (v786 : IVec S16 32) : Prop :=
  (∀ a x, ((![v786] : Fin 1 → IVec S16 32) a x).toNat < S32768.size a)
theorem k0_idx1250_inb : ∀ (v786 : IVec S16 32) (k0_hw940 : k0_chk940 v786), ∀ a x, ((![v786] : Fin 1 → IVec S16 32) a x).toNat < S32768.size a := fun v786 k0_hw940 => k0_hw940

def k0_chk941 (v588 : IVec S16 32) : Prop :=
  (∀ a x, ((![v588] : Fin 1 → IVec S16 32) a x).toNat < S2048.size a) ∧
  (∀ a x, ((![v588] : Fin 1 → IVec S16 32) a x).toNat < S2048.size a)
theorem k0_idx1251_inb : ∀ (v588 : IVec S16 32) (k0_hw941 : k0_chk941 v588), ∀ a x, ((![v588] : Fin 1 → IVec S16 32) a x).toNat < S2048.size a := fun v588 k0_hw941 => k0_hw941.1
theorem k0_idx1252_inb : ∀ (v588 : IVec S16 32) (k0_hw941 : k0_chk941 v588), ∀ a x, ((![v588] : Fin 1 → IVec S16 32) a x).toNat < S2048.size a := fun v588 k0_hw941 => k0_hw941.2

def k0_chk942 (v792 : IVec S16 32) : Prop :=
  (∀ a x, ((![v792] : Fin 1 → IVec S16 32) a x).toNat < S32768.size a)
theorem k0_idx1253_inb : ∀ (v792 : IVec S16 32) (k0_hw942 : k0_chk942 v792), ∀ a x, ((![v792] : Fin 1 → IVec S16 32) a x).toNat < S32768.size a := fun v792 k0_hw942 => k0_hw942

def k0_chk943 (v592 : IVec S16 32) : Prop :=
  (∀ a x, ((![v592] : Fin 1 → IVec S16 32) a x).toNat < S2048.size a) ∧
  (∀ a x, ((![v592] : Fin 1 → IVec S16 32) a x).toNat < S2048.size a)
theorem k0_idx1254_inb : ∀ (v592 : IVec S16 32) (k0_hw943 : k0_chk943 v592), ∀ a x, ((![v592] : Fin 1 → IVec S16 32) a x).toNat < S2048.size a := fun v592 k0_hw943 => k0_hw943.1
theorem k0_idx1255_inb : ∀ (v592 : IVec S16 32) (k0_hw943 : k0_chk943 v592), ∀ a x, ((![v592] : Fin 1 → IVec S16 32) a x).toNat < S2048.size a := fun v592 k0_hw943 => k0_hw943.2

def k0_chk944 (v798 : IVec S16 32) : Prop :=
  (∀ a x, ((![v798] : Fin 1 → IVec S16 32) a x).toNat < S32768.size a)
theorem k0_idx1256_inb : ∀ (v798 : IVec S16 32) (k0_hw944 : k0_chk944 v798), ∀ a x, ((![v798] : Fin 1 → IVec S16 32) a x).toNat < S32768.size a := fun v798 k0_hw944 => k0_hw944

def k0_chk945 (v596 : IVec S16 32) : Prop :=
  (∀ a x, ((![v596] : Fin 1 → IVec S16 32) a x).toNat < S2048.size a) ∧
  (∀ a x, ((![v596] : Fin 1 → IVec S16 32) a x).toNat < S2048.size a)
theorem k0_idx1257_inb : ∀ (v596 : IVec S16 32) (k0_hw945 : k0_chk945 v596), ∀ a x, ((![v596] : Fin 1 → IVec S16 32) a x).toNat < S2048.size a := fun v596 k0_hw945 => k0_hw945.1
theorem k0_idx1258_inb : ∀ (v596 : IVec S16 32) (k0_hw945 : k0_chk945 v596), ∀ a x, ((![v596] : Fin 1 → IVec S16 32) a x).toNat < S2048.size a := fun v596 k0_hw945 => k0_hw945.2

def k0_chk946 (v804 : IVec S16 32) : Prop :=
  (∀ a x, ((![v804] : Fin 1 → IVec S16 32) a x).toNat < S32768.size a)
theorem k0_idx1259_inb : ∀ (v804 : IVec S16 32) (k0_hw946 : k0_chk946 v804), ∀ a x, ((![v804] : Fin 1 → IVec S16 32) a x).toNat < S32768.size a := fun v804 k0_hw946 => k0_hw946

def k0_chk947 (v600 : IVec S16 32) : Prop :=
  (∀ a x, ((![v600] : Fin 1 → IVec S16 32) a x).toNat < S2048.size a) ∧
  (∀ a x, ((![v600] : Fin 1 → IVec S16 32) a x).toNat < S2048.size a)
theorem k0_idx1260_inb : ∀ (v600 : IVec S16 32) (k0_hw947 : k0_chk947 v600), ∀ a x, ((![v600] : Fin 1 → IVec S16 32) a x).toNat < S2048.size a := fun v600 k0_hw947 => k0_hw947.1
theorem k0_idx1261_inb : ∀ (v600 : IVec S16 32) (k0_hw947 : k0_chk947 v600), ∀ a x, ((![v600] : Fin 1 → IVec S16 32) a x).toNat < S2048.size a := fun v600 k0_hw947 => k0_hw947.2

def k0_chk948 (v810 : IVec S16 32) : Prop :=
  (∀ a x, ((![v810] : Fin 1 → IVec S16 32) a x).toNat < S32768.size a)
theorem k0_idx1262_inb : ∀ (v810 : IVec S16 32) (k0_hw948 : k0_chk948 v810), ∀ a x, ((![v810] : Fin 1 → IVec S16 32) a x).toNat < S32768.size a := fun v810 k0_hw948 => k0_hw948

def k0_chk949 (v604 : IVec S16 32) : Prop :=
  (∀ a x, ((![v604] : Fin 1 → IVec S16 32) a x).toNat < S2048.size a) ∧
  (∀ a x, ((![v604] : Fin 1 → IVec S16 32) a x).toNat < S2048.size a)
theorem k0_idx1263_inb : ∀ (v604 : IVec S16 32) (k0_hw949 : k0_chk949 v604), ∀ a x, ((![v604] : Fin 1 → IVec S16 32) a x).toNat < S2048.size a := fun v604 k0_hw949 => k0_hw949.1
theorem k0_idx1264_inb : ∀ (v604 : IVec S16 32) (k0_hw949 : k0_chk949 v604), ∀ a x, ((![v604] : Fin 1 → IVec S16 32) a x).toNat < S2048.size a := fun v604 k0_hw949 => k0_hw949.2

def k0_chk950 (v816 : IVec S16 32) : Prop :=
  (∀ a x, ((![v816] : Fin 1 → IVec S16 32) a x).toNat < S32768.size a)
theorem k0_idx1265_inb : ∀ (v816 : IVec S16 32) (k0_hw950 : k0_chk950 v816), ∀ a x, ((![v816] : Fin 1 → IVec S16 32) a x).toNat < S32768.size a := fun v816 k0_hw950 => k0_hw950

def k0_chk951 (v608 : IVec S16 32) : Prop :=
  (∀ a x, ((![v608] : Fin 1 → IVec S16 32) a x).toNat < S2048.size a) ∧
  (∀ a x, ((![v608] : Fin 1 → IVec S16 32) a x).toNat < S2048.size a)
theorem k0_idx1266_inb : ∀ (v608 : IVec S16 32) (k0_hw951 : k0_chk951 v608), ∀ a x, ((![v608] : Fin 1 → IVec S16 32) a x).toNat < S2048.size a := fun v608 k0_hw951 => k0_hw951.1
theorem k0_idx1267_inb : ∀ (v608 : IVec S16 32) (k0_hw951 : k0_chk951 v608), ∀ a x, ((![v608] : Fin 1 → IVec S16 32) a x).toNat < S2048.size a := fun v608 k0_hw951 => k0_hw951.2

def k0_chk952 (v822 : IVec S16 32) : Prop :=
  (∀ a x, ((![v822] : Fin 1 → IVec S16 32) a x).toNat < S32768.size a)
theorem k0_idx1268_inb : ∀ (v822 : IVec S16 32) (k0_hw952 : k0_chk952 v822), ∀ a x, ((![v822] : Fin 1 → IVec S16 32) a x).toNat < S32768.size a := fun v822 k0_hw952 => k0_hw952

def k0_chk953 (v612 : IVec S16 32) : Prop :=
  (∀ a x, ((![v612] : Fin 1 → IVec S16 32) a x).toNat < S2048.size a) ∧
  (∀ a x, ((![v612] : Fin 1 → IVec S16 32) a x).toNat < S2048.size a)
theorem k0_idx1269_inb : ∀ (v612 : IVec S16 32) (k0_hw953 : k0_chk953 v612), ∀ a x, ((![v612] : Fin 1 → IVec S16 32) a x).toNat < S2048.size a := fun v612 k0_hw953 => k0_hw953.1
theorem k0_idx1270_inb : ∀ (v612 : IVec S16 32) (k0_hw953 : k0_chk953 v612), ∀ a x, ((![v612] : Fin 1 → IVec S16 32) a x).toNat < S2048.size a := fun v612 k0_hw953 => k0_hw953.2

def k0_chk954 (v828 : IVec S16 32) : Prop :=
  (∀ a x, ((![v828] : Fin 1 → IVec S16 32) a x).toNat < S32768.size a)
theorem k0_idx1271_inb : ∀ (v828 : IVec S16 32) (k0_hw954 : k0_chk954 v828), ∀ a x, ((![v828] : Fin 1 → IVec S16 32) a x).toNat < S32768.size a := fun v828 k0_hw954 => k0_hw954

def k0_chk955 (v616 : IVec S16 32) : Prop :=
  (∀ a x, ((![v616] : Fin 1 → IVec S16 32) a x).toNat < S2048.size a) ∧
  (∀ a x, ((![v616] : Fin 1 → IVec S16 32) a x).toNat < S2048.size a)
theorem k0_idx1272_inb : ∀ (v616 : IVec S16 32) (k0_hw955 : k0_chk955 v616), ∀ a x, ((![v616] : Fin 1 → IVec S16 32) a x).toNat < S2048.size a := fun v616 k0_hw955 => k0_hw955.1
theorem k0_idx1273_inb : ∀ (v616 : IVec S16 32) (k0_hw955 : k0_chk955 v616), ∀ a x, ((![v616] : Fin 1 → IVec S16 32) a x).toNat < S2048.size a := fun v616 k0_hw955 => k0_hw955.2

def k0_chk956 (v834 : IVec S16 32) : Prop :=
  (∀ a x, ((![v834] : Fin 1 → IVec S16 32) a x).toNat < S32768.size a)
theorem k0_idx1274_inb : ∀ (v834 : IVec S16 32) (k0_hw956 : k0_chk956 v834), ∀ a x, ((![v834] : Fin 1 → IVec S16 32) a x).toNat < S32768.size a := fun v834 k0_hw956 => k0_hw956

def k0_chk957 (v620 : IVec S16 32) : Prop :=
  (∀ a x, ((![v620] : Fin 1 → IVec S16 32) a x).toNat < S2048.size a) ∧
  (∀ a x, ((![v620] : Fin 1 → IVec S16 32) a x).toNat < S2048.size a)
theorem k0_idx1275_inb : ∀ (v620 : IVec S16 32) (k0_hw957 : k0_chk957 v620), ∀ a x, ((![v620] : Fin 1 → IVec S16 32) a x).toNat < S2048.size a := fun v620 k0_hw957 => k0_hw957.1
theorem k0_idx1276_inb : ∀ (v620 : IVec S16 32) (k0_hw957 : k0_chk957 v620), ∀ a x, ((![v620] : Fin 1 → IVec S16 32) a x).toNat < S2048.size a := fun v620 k0_hw957 => k0_hw957.2

def k0_chk958 (v840 : IVec S16 32) : Prop :=
  (∀ a x, ((![v840] : Fin 1 → IVec S16 32) a x).toNat < S32768.size a)
theorem k0_idx1277_inb : ∀ (v840 : IVec S16 32) (k0_hw958 : k0_chk958 v840), ∀ a x, ((![v840] : Fin 1 → IVec S16 32) a x).toNat < S32768.size a := fun v840 k0_hw958 => k0_hw958

def k0_chk959 (v624 : IVec S16 32) : Prop :=
  (∀ a x, ((![v624] : Fin 1 → IVec S16 32) a x).toNat < S2048.size a) ∧
  (∀ a x, ((![v624] : Fin 1 → IVec S16 32) a x).toNat < S2048.size a)
theorem k0_idx1278_inb : ∀ (v624 : IVec S16 32) (k0_hw959 : k0_chk959 v624), ∀ a x, ((![v624] : Fin 1 → IVec S16 32) a x).toNat < S2048.size a := fun v624 k0_hw959 => k0_hw959.1
theorem k0_idx1279_inb : ∀ (v624 : IVec S16 32) (k0_hw959 : k0_chk959 v624), ∀ a x, ((![v624] : Fin 1 → IVec S16 32) a x).toNat < S2048.size a := fun v624 k0_hw959 => k0_hw959.2

def k0_chk960 (v846 : IVec S16 32) : Prop :=
  (∀ a x, ((![v846] : Fin 1 → IVec S16 32) a x).toNat < S32768.size a)
theorem k0_idx1280_inb : ∀ (v846 : IVec S16 32) (k0_hw960 : k0_chk960 v846), ∀ a x, ((![v846] : Fin 1 → IVec S16 32) a x).toNat < S32768.size a := fun v846 k0_hw960 => k0_hw960

def k0_chk961 (v857 : IVec S16 32) : Prop :=
  (∀ a x, ((![v857] : Fin 1 → IVec S16 32) a x).toNat < S4096.size a)
theorem k0_idx1281_inb : ∀ (v857 : IVec S16 32) (k0_hw961 : k0_chk961 v857), ∀ a x, ((![v857] : Fin 1 → IVec S16 32) a x).toNat < S4096.size a := fun v857 k0_hw961 => k0_hw961

def k0_chk962 (v866 : IVec S16 32) : Prop :=
  (∀ a x, ((![v866] : Fin 1 → IVec S16 32) a x).toNat < S4096.size a)
theorem k0_idx1282_inb : ∀ (v866 : IVec S16 32) (k0_hw962 : k0_chk962 v866), ∀ a x, ((![v866] : Fin 1 → IVec S16 32) a x).toNat < S4096.size a := fun v866 k0_hw962 => k0_hw962

def k0_chk963 (v875 : IVec S16 32) : Prop :=
  (∀ a x, ((![v875] : Fin 1 → IVec S16 32) a x).toNat < S4096.size a)
theorem k0_idx1283_inb : ∀ (v875 : IVec S16 32) (k0_hw963 : k0_chk963 v875), ∀ a x, ((![v875] : Fin 1 → IVec S16 32) a x).toNat < S4096.size a := fun v875 k0_hw963 => k0_hw963

def k0_chk964 (v884 : IVec S16 32) : Prop :=
  (∀ a x, ((![v884] : Fin 1 → IVec S16 32) a x).toNat < S4096.size a)
theorem k0_idx1284_inb : ∀ (v884 : IVec S16 32) (k0_hw964 : k0_chk964 v884), ∀ a x, ((![v884] : Fin 1 → IVec S16 32) a x).toNat < S4096.size a := fun v884 k0_hw964 => k0_hw964

def k0_chk965 (v893 : IVec S16 32) : Prop :=
  (∀ a x, ((![v893] : Fin 1 → IVec S16 32) a x).toNat < S4096.size a)
theorem k0_idx1285_inb : ∀ (v893 : IVec S16 32) (k0_hw965 : k0_chk965 v893), ∀ a x, ((![v893] : Fin 1 → IVec S16 32) a x).toNat < S4096.size a := fun v893 k0_hw965 => k0_hw965

def k0_chk966 (v902 : IVec S16 32) : Prop :=
  (∀ a x, ((![v902] : Fin 1 → IVec S16 32) a x).toNat < S4096.size a)
theorem k0_idx1286_inb : ∀ (v902 : IVec S16 32) (k0_hw966 : k0_chk966 v902), ∀ a x, ((![v902] : Fin 1 → IVec S16 32) a x).toNat < S4096.size a := fun v902 k0_hw966 => k0_hw966

def k0_chk967 (v911 : IVec S16 32) : Prop :=
  (∀ a x, ((![v911] : Fin 1 → IVec S16 32) a x).toNat < S4096.size a)
theorem k0_idx1287_inb : ∀ (v911 : IVec S16 32) (k0_hw967 : k0_chk967 v911), ∀ a x, ((![v911] : Fin 1 → IVec S16 32) a x).toNat < S4096.size a := fun v911 k0_hw967 => k0_hw967

def k0_chk968 (v920 : IVec S16 32) : Prop :=
  (∀ a x, ((![v920] : Fin 1 → IVec S16 32) a x).toNat < S4096.size a)
theorem k0_idx1288_inb : ∀ (v920 : IVec S16 32) (k0_hw968 : k0_chk968 v920), ∀ a x, ((![v920] : Fin 1 → IVec S16 32) a x).toNat < S4096.size a := fun v920 k0_hw968 => k0_hw968

def k0_chk969 (v929 : IVec S16 32) : Prop :=
  (∀ a x, ((![v929] : Fin 1 → IVec S16 32) a x).toNat < S4096.size a)
theorem k0_idx1289_inb : ∀ (v929 : IVec S16 32) (k0_hw969 : k0_chk969 v929), ∀ a x, ((![v929] : Fin 1 → IVec S16 32) a x).toNat < S4096.size a := fun v929 k0_hw969 => k0_hw969

def k0_chk970 (v938 : IVec S16 32) : Prop :=
  (∀ a x, ((![v938] : Fin 1 → IVec S16 32) a x).toNat < S4096.size a)
theorem k0_idx1290_inb : ∀ (v938 : IVec S16 32) (k0_hw970 : k0_chk970 v938), ∀ a x, ((![v938] : Fin 1 → IVec S16 32) a x).toNat < S4096.size a := fun v938 k0_hw970 => k0_hw970

def k0_chk971 (v947 : IVec S16 32) : Prop :=
  (∀ a x, ((![v947] : Fin 1 → IVec S16 32) a x).toNat < S4096.size a)
theorem k0_idx1291_inb : ∀ (v947 : IVec S16 32) (k0_hw971 : k0_chk971 v947), ∀ a x, ((![v947] : Fin 1 → IVec S16 32) a x).toNat < S4096.size a := fun v947 k0_hw971 => k0_hw971

def k0_chk972 (v956 : IVec S16 32) : Prop :=
  (∀ a x, ((![v956] : Fin 1 → IVec S16 32) a x).toNat < S4096.size a)
theorem k0_idx1292_inb : ∀ (v956 : IVec S16 32) (k0_hw972 : k0_chk972 v956), ∀ a x, ((![v956] : Fin 1 → IVec S16 32) a x).toNat < S4096.size a := fun v956 k0_hw972 => k0_hw972

def k0_chk973 (v965 : IVec S16 32) : Prop :=
  (∀ a x, ((![v965] : Fin 1 → IVec S16 32) a x).toNat < S4096.size a)
theorem k0_idx1293_inb : ∀ (v965 : IVec S16 32) (k0_hw973 : k0_chk973 v965), ∀ a x, ((![v965] : Fin 1 → IVec S16 32) a x).toNat < S4096.size a := fun v965 k0_hw973 => k0_hw973

def k0_chk974 (v974 : IVec S16 32) : Prop :=
  (∀ a x, ((![v974] : Fin 1 → IVec S16 32) a x).toNat < S4096.size a)
theorem k0_idx1294_inb : ∀ (v974 : IVec S16 32) (k0_hw974 : k0_chk974 v974), ∀ a x, ((![v974] : Fin 1 → IVec S16 32) a x).toNat < S4096.size a := fun v974 k0_hw974 => k0_hw974

def k0_chk975 (v983 : IVec S16 32) : Prop :=
  (∀ a x, ((![v983] : Fin 1 → IVec S16 32) a x).toNat < S4096.size a)
theorem k0_idx1295_inb : ∀ (v983 : IVec S16 32) (k0_hw975 : k0_chk975 v983), ∀ a x, ((![v983] : Fin 1 → IVec S16 32) a x).toNat < S4096.size a := fun v983 k0_hw975 => k0_hw975

def k0_chk976 (v992 : IVec S16 32) : Prop :=
  (∀ a x, ((![v992] : Fin 1 → IVec S16 32) a x).toNat < S4096.size a)
theorem k0_idx1296_inb : ∀ (v992 : IVec S16 32) (k0_hw976 : k0_chk976 v992), ∀ a x, ((![v992] : Fin 1 → IVec S16 32) a x).toNat < S4096.size a := fun v992 k0_hw976 => k0_hw976

def k0_chk977 (v1001 : IVec S16 32) : Prop :=
  (∀ a x, ((![v1001] : Fin 1 → IVec S16 32) a x).toNat < S4096.size a)
theorem k0_idx1297_inb : ∀ (v1001 : IVec S16 32) (k0_hw977 : k0_chk977 v1001), ∀ a x, ((![v1001] : Fin 1 → IVec S16 32) a x).toNat < S4096.size a := fun v1001 k0_hw977 => k0_hw977

def k0_chk978 (v1010 : IVec S16 32) : Prop :=
  (∀ a x, ((![v1010] : Fin 1 → IVec S16 32) a x).toNat < S4096.size a)
theorem k0_idx1298_inb : ∀ (v1010 : IVec S16 32) (k0_hw978 : k0_chk978 v1010), ∀ a x, ((![v1010] : Fin 1 → IVec S16 32) a x).toNat < S4096.size a := fun v1010 k0_hw978 => k0_hw978

def k0_chk979 (v1019 : IVec S16 32) : Prop :=
  (∀ a x, ((![v1019] : Fin 1 → IVec S16 32) a x).toNat < S4096.size a)
theorem k0_idx1299_inb : ∀ (v1019 : IVec S16 32) (k0_hw979 : k0_chk979 v1019), ∀ a x, ((![v1019] : Fin 1 → IVec S16 32) a x).toNat < S4096.size a := fun v1019 k0_hw979 => k0_hw979

def k0_chk980 (v1028 : IVec S16 32) : Prop :=
  (∀ a x, ((![v1028] : Fin 1 → IVec S16 32) a x).toNat < S4096.size a)
theorem k0_idx1300_inb : ∀ (v1028 : IVec S16 32) (k0_hw980 : k0_chk980 v1028), ∀ a x, ((![v1028] : Fin 1 → IVec S16 32) a x).toNat < S4096.size a := fun v1028 k0_hw980 => k0_hw980

def k0_chk981 (v1037 : IVec S16 32) : Prop :=
  (∀ a x, ((![v1037] : Fin 1 → IVec S16 32) a x).toNat < S4096.size a)
theorem k0_idx1301_inb : ∀ (v1037 : IVec S16 32) (k0_hw981 : k0_chk981 v1037), ∀ a x, ((![v1037] : Fin 1 → IVec S16 32) a x).toNat < S4096.size a := fun v1037 k0_hw981 => k0_hw981

def k0_chk982 (v1046 : IVec S16 32) : Prop :=
  (∀ a x, ((![v1046] : Fin 1 → IVec S16 32) a x).toNat < S4096.size a)
theorem k0_idx1302_inb : ∀ (v1046 : IVec S16 32) (k0_hw982 : k0_chk982 v1046), ∀ a x, ((![v1046] : Fin 1 → IVec S16 32) a x).toNat < S4096.size a := fun v1046 k0_hw982 => k0_hw982

def k0_chk983 (v1055 : IVec S16 32) : Prop :=
  (∀ a x, ((![v1055] : Fin 1 → IVec S16 32) a x).toNat < S4096.size a)
theorem k0_idx1303_inb : ∀ (v1055 : IVec S16 32) (k0_hw983 : k0_chk983 v1055), ∀ a x, ((![v1055] : Fin 1 → IVec S16 32) a x).toNat < S4096.size a := fun v1055 k0_hw983 => k0_hw983

def k0_chk984 (v1064 : IVec S16 32) : Prop :=
  (∀ a x, ((![v1064] : Fin 1 → IVec S16 32) a x).toNat < S4096.size a)
theorem k0_idx1304_inb : ∀ (v1064 : IVec S16 32) (k0_hw984 : k0_chk984 v1064), ∀ a x, ((![v1064] : Fin 1 → IVec S16 32) a x).toNat < S4096.size a := fun v1064 k0_hw984 => k0_hw984

def k0_chk985 (v1073 : IVec S16 32) : Prop :=
  (∀ a x, ((![v1073] : Fin 1 → IVec S16 32) a x).toNat < S4096.size a)
theorem k0_idx1305_inb : ∀ (v1073 : IVec S16 32) (k0_hw985 : k0_chk985 v1073), ∀ a x, ((![v1073] : Fin 1 → IVec S16 32) a x).toNat < S4096.size a := fun v1073 k0_hw985 => k0_hw985

def k0_chk986 (v1082 : IVec S16 32) : Prop :=
  (∀ a x, ((![v1082] : Fin 1 → IVec S16 32) a x).toNat < S4096.size a)
theorem k0_idx1306_inb : ∀ (v1082 : IVec S16 32) (k0_hw986 : k0_chk986 v1082), ∀ a x, ((![v1082] : Fin 1 → IVec S16 32) a x).toNat < S4096.size a := fun v1082 k0_hw986 => k0_hw986

def k0_chk987 (v1091 : IVec S16 32) : Prop :=
  (∀ a x, ((![v1091] : Fin 1 → IVec S16 32) a x).toNat < S4096.size a)
theorem k0_idx1307_inb : ∀ (v1091 : IVec S16 32) (k0_hw987 : k0_chk987 v1091), ∀ a x, ((![v1091] : Fin 1 → IVec S16 32) a x).toNat < S4096.size a := fun v1091 k0_hw987 => k0_hw987

def k0_chk988 (v1100 : IVec S16 32) : Prop :=
  (∀ a x, ((![v1100] : Fin 1 → IVec S16 32) a x).toNat < S4096.size a)
theorem k0_idx1308_inb : ∀ (v1100 : IVec S16 32) (k0_hw988 : k0_chk988 v1100), ∀ a x, ((![v1100] : Fin 1 → IVec S16 32) a x).toNat < S4096.size a := fun v1100 k0_hw988 => k0_hw988

def k0_chk989 (v1109 : IVec S16 32) : Prop :=
  (∀ a x, ((![v1109] : Fin 1 → IVec S16 32) a x).toNat < S4096.size a)
theorem k0_idx1309_inb : ∀ (v1109 : IVec S16 32) (k0_hw989 : k0_chk989 v1109), ∀ a x, ((![v1109] : Fin 1 → IVec S16 32) a x).toNat < S4096.size a := fun v1109 k0_hw989 => k0_hw989

def k0_chk990 (v1118 : IVec S16 32) : Prop :=
  (∀ a x, ((![v1118] : Fin 1 → IVec S16 32) a x).toNat < S4096.size a)
theorem k0_idx1310_inb : ∀ (v1118 : IVec S16 32) (k0_hw990 : k0_chk990 v1118), ∀ a x, ((![v1118] : Fin 1 → IVec S16 32) a x).toNat < S4096.size a := fun v1118 k0_hw990 => k0_hw990

def k0_chk991 (v1127 : IVec S16 32) : Prop :=
  (∀ a x, ((![v1127] : Fin 1 → IVec S16 32) a x).toNat < S4096.size a)
theorem k0_idx1311_inb : ∀ (v1127 : IVec S16 32) (k0_hw991 : k0_chk991 v1127), ∀ a x, ((![v1127] : Fin 1 → IVec S16 32) a x).toNat < S4096.size a := fun v1127 k0_hw991 => k0_hw991

def k0_chk992 (v1136 : IVec S16 32) : Prop :=
  (∀ a x, ((![v1136] : Fin 1 → IVec S16 32) a x).toNat < S4096.size a)
theorem k0_idx1312_inb : ∀ (v1136 : IVec S16 32) (k0_hw992 : k0_chk992 v1136), ∀ a x, ((![v1136] : Fin 1 → IVec S16 32) a x).toNat < S4096.size a := fun v1136 k0_hw992 => k0_hw992
@[reducible] def k0_t48_loop : Scf.Loop 32 :=
  let c0_i32_268 : BitVec 32 := 0#32
  let c128_i32_269 : BitVec 32 := 128#32
  let v126 : BitVec 32 := Scalar.addi c0_i32_268 c128_i32_269
  let c1_i32_270 : BitVec 32 := 1#32
  ⟨c0_i32_268, v126, c1_i32_270⟩
def k0_off90 (k0_t48 : Fin k0_t48_loop.trips) : Fin 1 → Nat :=
  let c0_i32_268 : BitVec 32 := 0#32
  let c1_i32_270 : BitVec 32 := 1#32
  let arg15 : BitVec 32 := Scf.iv c0_i32_268 c1_i32_270 k0_t48
  let c16_i32_312 : BitVec 32 := 16#32
  let v146 : BitVec 32 := Scalar.muli arg15 c16_i32_312
  let v147 : Index := Scalar.indexCast v146
  ![v147.toNat]
def k0_off91 (k0_t48 : Fin k0_t48_loop.trips) : Fin 1 → Nat :=
  let c2048_i32 : BitVec 32 := 2048#32
  let c0_i32_268 : BitVec 32 := 0#32
  let c1_i32_270 : BitVec 32 := 1#32
  let arg15 : BitVec 32 := Scf.iv c0_i32_268 c1_i32_270 k0_t48
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off92 (k0_t48 : Fin k0_t48_loop.trips) : Fin 1 → Nat :=
  let c0_i32_268 : BitVec 32 := 0#32
  let c1_i32_270 : BitVec 32 := 1#32
  let arg15 : BitVec 32 := Scf.iv c0_i32_268 c1_i32_270 k0_t48
  let c16_i32 : BitVec 32 := 16#32
  let v145 : BitVec 32 := Scalar.muli arg15 c16_i32
  let v154 : Index := Scalar.indexCast v145
  ![v154.toNat]
@[reducible] def k0_t49_loop : Scf.Loop 32 :=
  let c0_i32_273 : BitVec 32 := 0#32
  let c128_i32_274 : BitVec 32 := 128#32
  let v127 : BitVec 32 := Scalar.addi c0_i32_273 c128_i32_274
  let c1_i32_275 : BitVec 32 := 1#32
  ⟨c0_i32_273, v127, c1_i32_275⟩
def k0_off93 (k0_t49 : Fin k0_t49_loop.trips) : Fin 1 → Nat :=
  let c0_i32_273 : BitVec 32 := 0#32
  let c1_i32_275 : BitVec 32 := 1#32
  let arg15 : BitVec 32 := Scf.iv c0_i32_273 c1_i32_275 k0_t49
  let c16_i32 : BitVec 32 := 16#32
  let v145 : BitVec 32 := Scalar.muli arg15 c16_i32
  let v146 : Index := Scalar.indexCast v145
  ![v146.toNat]
@[reducible] def k0_t50_loop : Scf.Loop 32 :=
  let c0_i32_278 : BitVec 32 := 0#32
  let c128_i32_279 : BitVec 32 := 128#32
  let v129 : BitVec 32 := Scalar.addi c0_i32_278 c128_i32_279
  let c1_i32_280 : BitVec 32 := 1#32
  ⟨c0_i32_278, v129, c1_i32_280⟩
def k0_off94 (k0_t50 : Fin k0_t50_loop.trips) : Fin 1 → Nat :=
  let c0_i32_278 : BitVec 32 := 0#32
  let c1_i32_280 : BitVec 32 := 1#32
  let arg15 : BitVec 32 := Scf.iv c0_i32_278 c1_i32_280 k0_t50
  let c16_i32 : BitVec 32 := 16#32
  let v145 : BitVec 32 := Scalar.muli arg15 c16_i32
  let v146 : Index := Scalar.indexCast v145
  ![v146.toNat]
def k0_off95 (k0_t50 : Fin k0_t50_loop.trips) : Fin 1 → Nat :=
  let c0_i32_278 : BitVec 32 := 0#32
  let c1_i32_280 : BitVec 32 := 1#32
  let arg15 : BitVec 32 := Scf.iv c0_i32_278 c1_i32_280 k0_t50
  let c16_i32_312 : BitVec 32 := 16#32
  let v150 : BitVec 32 := Scalar.muli arg15 c16_i32_312
  let v151 : Index := Scalar.indexCast v150
  ![v151.toNat]
def k0_off96 (k0_t50 : Fin k0_t50_loop.trips) : Fin 1 → Nat :=
  let c2048_i32 : BitVec 32 := 2048#32
  let c0_i32_278 : BitVec 32 := 0#32
  let c1_i32_280 : BitVec 32 := 1#32
  let arg15 : BitVec 32 := Scf.iv c0_i32_278 c1_i32_280 k0_t50
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t51_loop : Scf.Loop 32 :=
  let c0_i32_283 : BitVec 32 := 0#32
  let c64_i32_284 : BitVec 32 := 64#32
  let v130 : BitVec 32 := Scalar.addi c0_i32_283 c64_i32_284
  let c1_i32_285 : BitVec 32 := 1#32
  ⟨c0_i32_283, v130, c1_i32_285⟩
def k0_off97 (k0_t51 : Fin k0_t51_loop.trips) (c0_i32_312 : BitVec 32) (c0_i32_313 : BitVec 32) : Fin 1 → Nat :=
  let c0_i32_283 : BitVec 32 := 0#32
  let c1_i32_285 : BitVec 32 := 1#32
  let arg15 : BitVec 32 := Scf.iv c0_i32_283 c1_i32_285 k0_t51
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk993 (v340 : IVec S16 32) : Prop :=
  (∀ a x, ((![v340] : Fin 1 → IVec S16 32) a x).toNat < S2048.size a) ∧
  (∀ a x, ((![v340] : Fin 1 → IVec S16 32) a x).toNat < S2048.size a)
theorem k0_idx1313_inb : ∀ (v340 : IVec S16 32) (k0_hw993 : k0_chk993 v340), ∀ a x, ((![v340] : Fin 1 → IVec S16 32) a x).toNat < S2048.size a := fun v340 k0_hw993 => k0_hw993.1
theorem k0_idx1314_inb : ∀ (v340 : IVec S16 32) (k0_hw993 : k0_chk993 v340), ∀ a x, ((![v340] : Fin 1 → IVec S16 32) a x).toNat < S2048.size a := fun v340 k0_hw993 => k0_hw993.2

def k0_chk994 (v500 : IVec S16 32) : Prop :=
  (∀ a x, ((![v500] : Fin 1 → IVec S16 32) a x).toNat < S32768.size a)
theorem k0_idx1315_inb : ∀ (v500 : IVec S16 32) (k0_hw994 : k0_chk994 v500), ∀ a x, ((![v500] : Fin 1 → IVec S16 32) a x).toNat < S32768.size a := fun v500 k0_hw994 => k0_hw994

def k0_chk995 (v344 : IVec S16 32) : Prop :=
  (∀ a x, ((![v344] : Fin 1 → IVec S16 32) a x).toNat < S2048.size a) ∧
  (∀ a x, ((![v344] : Fin 1 → IVec S16 32) a x).toNat < S2048.size a)
theorem k0_idx1316_inb : ∀ (v344 : IVec S16 32) (k0_hw995 : k0_chk995 v344), ∀ a x, ((![v344] : Fin 1 → IVec S16 32) a x).toNat < S2048.size a := fun v344 k0_hw995 => k0_hw995.1
theorem k0_idx1317_inb : ∀ (v344 : IVec S16 32) (k0_hw995 : k0_chk995 v344), ∀ a x, ((![v344] : Fin 1 → IVec S16 32) a x).toNat < S2048.size a := fun v344 k0_hw995 => k0_hw995.2

def k0_chk996 (v506 : IVec S16 32) : Prop :=
  (∀ a x, ((![v506] : Fin 1 → IVec S16 32) a x).toNat < S32768.size a)
theorem k0_idx1318_inb : ∀ (v506 : IVec S16 32) (k0_hw996 : k0_chk996 v506), ∀ a x, ((![v506] : Fin 1 → IVec S16 32) a x).toNat < S32768.size a := fun v506 k0_hw996 => k0_hw996

def k0_chk997 (v348 : IVec S16 32) : Prop :=
  (∀ a x, ((![v348] : Fin 1 → IVec S16 32) a x).toNat < S2048.size a) ∧
  (∀ a x, ((![v348] : Fin 1 → IVec S16 32) a x).toNat < S2048.size a)
theorem k0_idx1319_inb : ∀ (v348 : IVec S16 32) (k0_hw997 : k0_chk997 v348), ∀ a x, ((![v348] : Fin 1 → IVec S16 32) a x).toNat < S2048.size a := fun v348 k0_hw997 => k0_hw997.1
theorem k0_idx1320_inb : ∀ (v348 : IVec S16 32) (k0_hw997 : k0_chk997 v348), ∀ a x, ((![v348] : Fin 1 → IVec S16 32) a x).toNat < S2048.size a := fun v348 k0_hw997 => k0_hw997.2

def k0_chk998 (v512 : IVec S16 32) : Prop :=
  (∀ a x, ((![v512] : Fin 1 → IVec S16 32) a x).toNat < S32768.size a)
theorem k0_idx1321_inb : ∀ (v512 : IVec S16 32) (k0_hw998 : k0_chk998 v512), ∀ a x, ((![v512] : Fin 1 → IVec S16 32) a x).toNat < S32768.size a := fun v512 k0_hw998 => k0_hw998

def k0_chk999 (v352 : IVec S16 32) : Prop :=
  (∀ a x, ((![v352] : Fin 1 → IVec S16 32) a x).toNat < S2048.size a) ∧
  (∀ a x, ((![v352] : Fin 1 → IVec S16 32) a x).toNat < S2048.size a)
theorem k0_idx1322_inb : ∀ (v352 : IVec S16 32) (k0_hw999 : k0_chk999 v352), ∀ a x, ((![v352] : Fin 1 → IVec S16 32) a x).toNat < S2048.size a := fun v352 k0_hw999 => k0_hw999.1
theorem k0_idx1323_inb : ∀ (v352 : IVec S16 32) (k0_hw999 : k0_chk999 v352), ∀ a x, ((![v352] : Fin 1 → IVec S16 32) a x).toNat < S2048.size a := fun v352 k0_hw999 => k0_hw999.2

def k0_chk1000 (v518 : IVec S16 32) : Prop :=
  (∀ a x, ((![v518] : Fin 1 → IVec S16 32) a x).toNat < S32768.size a)
theorem k0_idx1324_inb : ∀ (v518 : IVec S16 32) (k0_hw1000 : k0_chk1000 v518), ∀ a x, ((![v518] : Fin 1 → IVec S16 32) a x).toNat < S32768.size a := fun v518 k0_hw1000 => k0_hw1000

def k0_chk1001 (v356 : IVec S16 32) : Prop :=
  (∀ a x, ((![v356] : Fin 1 → IVec S16 32) a x).toNat < S2048.size a) ∧
  (∀ a x, ((![v356] : Fin 1 → IVec S16 32) a x).toNat < S2048.size a)
theorem k0_idx1325_inb : ∀ (v356 : IVec S16 32) (k0_hw1001 : k0_chk1001 v356), ∀ a x, ((![v356] : Fin 1 → IVec S16 32) a x).toNat < S2048.size a := fun v356 k0_hw1001 => k0_hw1001.1
theorem k0_idx1326_inb : ∀ (v356 : IVec S16 32) (k0_hw1001 : k0_chk1001 v356), ∀ a x, ((![v356] : Fin 1 → IVec S16 32) a x).toNat < S2048.size a := fun v356 k0_hw1001 => k0_hw1001.2

def k0_chk1002 (v524 : IVec S16 32) : Prop :=
  (∀ a x, ((![v524] : Fin 1 → IVec S16 32) a x).toNat < S32768.size a)
theorem k0_idx1327_inb : ∀ (v524 : IVec S16 32) (k0_hw1002 : k0_chk1002 v524), ∀ a x, ((![v524] : Fin 1 → IVec S16 32) a x).toNat < S32768.size a := fun v524 k0_hw1002 => k0_hw1002

def k0_chk1003 (v360 : IVec S16 32) : Prop :=
  (∀ a x, ((![v360] : Fin 1 → IVec S16 32) a x).toNat < S2048.size a) ∧
  (∀ a x, ((![v360] : Fin 1 → IVec S16 32) a x).toNat < S2048.size a)
theorem k0_idx1328_inb : ∀ (v360 : IVec S16 32) (k0_hw1003 : k0_chk1003 v360), ∀ a x, ((![v360] : Fin 1 → IVec S16 32) a x).toNat < S2048.size a := fun v360 k0_hw1003 => k0_hw1003.1
theorem k0_idx1329_inb : ∀ (v360 : IVec S16 32) (k0_hw1003 : k0_chk1003 v360), ∀ a x, ((![v360] : Fin 1 → IVec S16 32) a x).toNat < S2048.size a := fun v360 k0_hw1003 => k0_hw1003.2

def k0_chk1004 (v530 : IVec S16 32) : Prop :=
  (∀ a x, ((![v530] : Fin 1 → IVec S16 32) a x).toNat < S32768.size a)
theorem k0_idx1330_inb : ∀ (v530 : IVec S16 32) (k0_hw1004 : k0_chk1004 v530), ∀ a x, ((![v530] : Fin 1 → IVec S16 32) a x).toNat < S32768.size a := fun v530 k0_hw1004 => k0_hw1004

def k0_chk1005 (v364 : IVec S16 32) : Prop :=
  (∀ a x, ((![v364] : Fin 1 → IVec S16 32) a x).toNat < S2048.size a) ∧
  (∀ a x, ((![v364] : Fin 1 → IVec S16 32) a x).toNat < S2048.size a)
theorem k0_idx1331_inb : ∀ (v364 : IVec S16 32) (k0_hw1005 : k0_chk1005 v364), ∀ a x, ((![v364] : Fin 1 → IVec S16 32) a x).toNat < S2048.size a := fun v364 k0_hw1005 => k0_hw1005.1
theorem k0_idx1332_inb : ∀ (v364 : IVec S16 32) (k0_hw1005 : k0_chk1005 v364), ∀ a x, ((![v364] : Fin 1 → IVec S16 32) a x).toNat < S2048.size a := fun v364 k0_hw1005 => k0_hw1005.2

def k0_chk1006 (v536 : IVec S16 32) : Prop :=
  (∀ a x, ((![v536] : Fin 1 → IVec S16 32) a x).toNat < S32768.size a)
theorem k0_idx1333_inb : ∀ (v536 : IVec S16 32) (k0_hw1006 : k0_chk1006 v536), ∀ a x, ((![v536] : Fin 1 → IVec S16 32) a x).toNat < S32768.size a := fun v536 k0_hw1006 => k0_hw1006

def k0_chk1007 (v368 : IVec S16 32) : Prop :=
  (∀ a x, ((![v368] : Fin 1 → IVec S16 32) a x).toNat < S2048.size a) ∧
  (∀ a x, ((![v368] : Fin 1 → IVec S16 32) a x).toNat < S2048.size a)
theorem k0_idx1334_inb : ∀ (v368 : IVec S16 32) (k0_hw1007 : k0_chk1007 v368), ∀ a x, ((![v368] : Fin 1 → IVec S16 32) a x).toNat < S2048.size a := fun v368 k0_hw1007 => k0_hw1007.1
theorem k0_idx1335_inb : ∀ (v368 : IVec S16 32) (k0_hw1007 : k0_chk1007 v368), ∀ a x, ((![v368] : Fin 1 → IVec S16 32) a x).toNat < S2048.size a := fun v368 k0_hw1007 => k0_hw1007.2

def k0_chk1008 (v542 : IVec S16 32) : Prop :=
  (∀ a x, ((![v542] : Fin 1 → IVec S16 32) a x).toNat < S32768.size a)
theorem k0_idx1336_inb : ∀ (v542 : IVec S16 32) (k0_hw1008 : k0_chk1008 v542), ∀ a x, ((![v542] : Fin 1 → IVec S16 32) a x).toNat < S32768.size a := fun v542 k0_hw1008 => k0_hw1008

def k0_chk1009 (v372 : IVec S16 32) : Prop :=
  (∀ a x, ((![v372] : Fin 1 → IVec S16 32) a x).toNat < S2048.size a) ∧
  (∀ a x, ((![v372] : Fin 1 → IVec S16 32) a x).toNat < S2048.size a)
theorem k0_idx1337_inb : ∀ (v372 : IVec S16 32) (k0_hw1009 : k0_chk1009 v372), ∀ a x, ((![v372] : Fin 1 → IVec S16 32) a x).toNat < S2048.size a := fun v372 k0_hw1009 => k0_hw1009.1
theorem k0_idx1338_inb : ∀ (v372 : IVec S16 32) (k0_hw1009 : k0_chk1009 v372), ∀ a x, ((![v372] : Fin 1 → IVec S16 32) a x).toNat < S2048.size a := fun v372 k0_hw1009 => k0_hw1009.2

def k0_chk1010 (v548 : IVec S16 32) : Prop :=
  (∀ a x, ((![v548] : Fin 1 → IVec S16 32) a x).toNat < S32768.size a)
theorem k0_idx1339_inb : ∀ (v548 : IVec S16 32) (k0_hw1010 : k0_chk1010 v548), ∀ a x, ((![v548] : Fin 1 → IVec S16 32) a x).toNat < S32768.size a := fun v548 k0_hw1010 => k0_hw1010

def k0_chk1011 (v376 : IVec S16 32) : Prop :=
  (∀ a x, ((![v376] : Fin 1 → IVec S16 32) a x).toNat < S2048.size a) ∧
  (∀ a x, ((![v376] : Fin 1 → IVec S16 32) a x).toNat < S2048.size a)
theorem k0_idx1340_inb : ∀ (v376 : IVec S16 32) (k0_hw1011 : k0_chk1011 v376), ∀ a x, ((![v376] : Fin 1 → IVec S16 32) a x).toNat < S2048.size a := fun v376 k0_hw1011 => k0_hw1011.1
theorem k0_idx1341_inb : ∀ (v376 : IVec S16 32) (k0_hw1011 : k0_chk1011 v376), ∀ a x, ((![v376] : Fin 1 → IVec S16 32) a x).toNat < S2048.size a := fun v376 k0_hw1011 => k0_hw1011.2

def k0_chk1012 (v554 : IVec S16 32) : Prop :=
  (∀ a x, ((![v554] : Fin 1 → IVec S16 32) a x).toNat < S32768.size a)
theorem k0_idx1342_inb : ∀ (v554 : IVec S16 32) (k0_hw1012 : k0_chk1012 v554), ∀ a x, ((![v554] : Fin 1 → IVec S16 32) a x).toNat < S32768.size a := fun v554 k0_hw1012 => k0_hw1012

def k0_chk1013 (v380 : IVec S16 32) : Prop :=
  (∀ a x, ((![v380] : Fin 1 → IVec S16 32) a x).toNat < S2048.size a) ∧
  (∀ a x, ((![v380] : Fin 1 → IVec S16 32) a x).toNat < S2048.size a)
theorem k0_idx1343_inb : ∀ (v380 : IVec S16 32) (k0_hw1013 : k0_chk1013 v380), ∀ a x, ((![v380] : Fin 1 → IVec S16 32) a x).toNat < S2048.size a := fun v380 k0_hw1013 => k0_hw1013.1
theorem k0_idx1344_inb : ∀ (v380 : IVec S16 32) (k0_hw1013 : k0_chk1013 v380), ∀ a x, ((![v380] : Fin 1 → IVec S16 32) a x).toNat < S2048.size a := fun v380 k0_hw1013 => k0_hw1013.2

def k0_chk1014 (v560 : IVec S16 32) : Prop :=
  (∀ a x, ((![v560] : Fin 1 → IVec S16 32) a x).toNat < S32768.size a)
theorem k0_idx1345_inb : ∀ (v560 : IVec S16 32) (k0_hw1014 : k0_chk1014 v560), ∀ a x, ((![v560] : Fin 1 → IVec S16 32) a x).toNat < S32768.size a := fun v560 k0_hw1014 => k0_hw1014

def k0_chk1015 (v384 : IVec S16 32) : Prop :=
  (∀ a x, ((![v384] : Fin 1 → IVec S16 32) a x).toNat < S2048.size a) ∧
  (∀ a x, ((![v384] : Fin 1 → IVec S16 32) a x).toNat < S2048.size a)
theorem k0_idx1346_inb : ∀ (v384 : IVec S16 32) (k0_hw1015 : k0_chk1015 v384), ∀ a x, ((![v384] : Fin 1 → IVec S16 32) a x).toNat < S2048.size a := fun v384 k0_hw1015 => k0_hw1015.1
theorem k0_idx1347_inb : ∀ (v384 : IVec S16 32) (k0_hw1015 : k0_chk1015 v384), ∀ a x, ((![v384] : Fin 1 → IVec S16 32) a x).toNat < S2048.size a := fun v384 k0_hw1015 => k0_hw1015.2

def k0_chk1016 (v566 : IVec S16 32) : Prop :=
  (∀ a x, ((![v566] : Fin 1 → IVec S16 32) a x).toNat < S32768.size a)
theorem k0_idx1348_inb : ∀ (v566 : IVec S16 32) (k0_hw1016 : k0_chk1016 v566), ∀ a x, ((![v566] : Fin 1 → IVec S16 32) a x).toNat < S32768.size a := fun v566 k0_hw1016 => k0_hw1016

def k0_chk1017 (v388 : IVec S16 32) : Prop :=
  (∀ a x, ((![v388] : Fin 1 → IVec S16 32) a x).toNat < S2048.size a) ∧
  (∀ a x, ((![v388] : Fin 1 → IVec S16 32) a x).toNat < S2048.size a)
theorem k0_idx1349_inb : ∀ (v388 : IVec S16 32) (k0_hw1017 : k0_chk1017 v388), ∀ a x, ((![v388] : Fin 1 → IVec S16 32) a x).toNat < S2048.size a := fun v388 k0_hw1017 => k0_hw1017.1
theorem k0_idx1350_inb : ∀ (v388 : IVec S16 32) (k0_hw1017 : k0_chk1017 v388), ∀ a x, ((![v388] : Fin 1 → IVec S16 32) a x).toNat < S2048.size a := fun v388 k0_hw1017 => k0_hw1017.2

def k0_chk1018 (v572 : IVec S16 32) : Prop :=
  (∀ a x, ((![v572] : Fin 1 → IVec S16 32) a x).toNat < S32768.size a)
theorem k0_idx1351_inb : ∀ (v572 : IVec S16 32) (k0_hw1018 : k0_chk1018 v572), ∀ a x, ((![v572] : Fin 1 → IVec S16 32) a x).toNat < S32768.size a := fun v572 k0_hw1018 => k0_hw1018

def k0_chk1019 (v392 : IVec S16 32) : Prop :=
  (∀ a x, ((![v392] : Fin 1 → IVec S16 32) a x).toNat < S2048.size a) ∧
  (∀ a x, ((![v392] : Fin 1 → IVec S16 32) a x).toNat < S2048.size a)
theorem k0_idx1352_inb : ∀ (v392 : IVec S16 32) (k0_hw1019 : k0_chk1019 v392), ∀ a x, ((![v392] : Fin 1 → IVec S16 32) a x).toNat < S2048.size a := fun v392 k0_hw1019 => k0_hw1019.1
theorem k0_idx1353_inb : ∀ (v392 : IVec S16 32) (k0_hw1019 : k0_chk1019 v392), ∀ a x, ((![v392] : Fin 1 → IVec S16 32) a x).toNat < S2048.size a := fun v392 k0_hw1019 => k0_hw1019.2

def k0_chk1020 (v578 : IVec S16 32) : Prop :=
  (∀ a x, ((![v578] : Fin 1 → IVec S16 32) a x).toNat < S32768.size a)
theorem k0_idx1354_inb : ∀ (v578 : IVec S16 32) (k0_hw1020 : k0_chk1020 v578), ∀ a x, ((![v578] : Fin 1 → IVec S16 32) a x).toNat < S32768.size a := fun v578 k0_hw1020 => k0_hw1020

def k0_chk1021 (v396 : IVec S16 32) : Prop :=
  (∀ a x, ((![v396] : Fin 1 → IVec S16 32) a x).toNat < S2048.size a) ∧
  (∀ a x, ((![v396] : Fin 1 → IVec S16 32) a x).toNat < S2048.size a)
theorem k0_idx1355_inb : ∀ (v396 : IVec S16 32) (k0_hw1021 : k0_chk1021 v396), ∀ a x, ((![v396] : Fin 1 → IVec S16 32) a x).toNat < S2048.size a := fun v396 k0_hw1021 => k0_hw1021.1
theorem k0_idx1356_inb : ∀ (v396 : IVec S16 32) (k0_hw1021 : k0_chk1021 v396), ∀ a x, ((![v396] : Fin 1 → IVec S16 32) a x).toNat < S2048.size a := fun v396 k0_hw1021 => k0_hw1021.2

def k0_chk1022 (v584 : IVec S16 32) : Prop :=
  (∀ a x, ((![v584] : Fin 1 → IVec S16 32) a x).toNat < S32768.size a)
theorem k0_idx1357_inb : ∀ (v584 : IVec S16 32) (k0_hw1022 : k0_chk1022 v584), ∀ a x, ((![v584] : Fin 1 → IVec S16 32) a x).toNat < S32768.size a := fun v584 k0_hw1022 => k0_hw1022

def k0_chk1023 (v400 : IVec S16 32) : Prop :=
  (∀ a x, ((![v400] : Fin 1 → IVec S16 32) a x).toNat < S2048.size a) ∧
  (∀ a x, ((![v400] : Fin 1 → IVec S16 32) a x).toNat < S2048.size a)
theorem k0_idx1358_inb : ∀ (v400 : IVec S16 32) (k0_hw1023 : k0_chk1023 v400), ∀ a x, ((![v400] : Fin 1 → IVec S16 32) a x).toNat < S2048.size a := fun v400 k0_hw1023 => k0_hw1023.1
theorem k0_idx1359_inb : ∀ (v400 : IVec S16 32) (k0_hw1023 : k0_chk1023 v400), ∀ a x, ((![v400] : Fin 1 → IVec S16 32) a x).toNat < S2048.size a := fun v400 k0_hw1023 => k0_hw1023.2

def k0_chk1024 (v590 : IVec S16 32) : Prop :=
  (∀ a x, ((![v590] : Fin 1 → IVec S16 32) a x).toNat < S32768.size a)
theorem k0_idx1360_inb : ∀ (v590 : IVec S16 32) (k0_hw1024 : k0_chk1024 v590), ∀ a x, ((![v590] : Fin 1 → IVec S16 32) a x).toNat < S32768.size a := fun v590 k0_hw1024 => k0_hw1024

def k0_chk1025 (v404 : IVec S16 32) : Prop :=
  (∀ a x, ((![v404] : Fin 1 → IVec S16 32) a x).toNat < S2048.size a) ∧
  (∀ a x, ((![v404] : Fin 1 → IVec S16 32) a x).toNat < S2048.size a)
theorem k0_idx1361_inb : ∀ (v404 : IVec S16 32) (k0_hw1025 : k0_chk1025 v404), ∀ a x, ((![v404] : Fin 1 → IVec S16 32) a x).toNat < S2048.size a := fun v404 k0_hw1025 => k0_hw1025.1
theorem k0_idx1362_inb : ∀ (v404 : IVec S16 32) (k0_hw1025 : k0_chk1025 v404), ∀ a x, ((![v404] : Fin 1 → IVec S16 32) a x).toNat < S2048.size a := fun v404 k0_hw1025 => k0_hw1025.2

def k0_chk1026 (v596 : IVec S16 32) : Prop :=
  (∀ a x, ((![v596] : Fin 1 → IVec S16 32) a x).toNat < S32768.size a)
theorem k0_idx1363_inb : ∀ (v596 : IVec S16 32) (k0_hw1026 : k0_chk1026 v596), ∀ a x, ((![v596] : Fin 1 → IVec S16 32) a x).toNat < S32768.size a := fun v596 k0_hw1026 => k0_hw1026

def k0_chk1027 (v408 : IVec S16 32) : Prop :=
  (∀ a x, ((![v408] : Fin 1 → IVec S16 32) a x).toNat < S2048.size a) ∧
  (∀ a x, ((![v408] : Fin 1 → IVec S16 32) a x).toNat < S2048.size a)
theorem k0_idx1364_inb : ∀ (v408 : IVec S16 32) (k0_hw1027 : k0_chk1027 v408), ∀ a x, ((![v408] : Fin 1 → IVec S16 32) a x).toNat < S2048.size a := fun v408 k0_hw1027 => k0_hw1027.1
theorem k0_idx1365_inb : ∀ (v408 : IVec S16 32) (k0_hw1027 : k0_chk1027 v408), ∀ a x, ((![v408] : Fin 1 → IVec S16 32) a x).toNat < S2048.size a := fun v408 k0_hw1027 => k0_hw1027.2

def k0_chk1028 (v602 : IVec S16 32) : Prop :=
  (∀ a x, ((![v602] : Fin 1 → IVec S16 32) a x).toNat < S32768.size a)
theorem k0_idx1366_inb : ∀ (v602 : IVec S16 32) (k0_hw1028 : k0_chk1028 v602), ∀ a x, ((![v602] : Fin 1 → IVec S16 32) a x).toNat < S32768.size a := fun v602 k0_hw1028 => k0_hw1028

def k0_chk1029 (v412 : IVec S16 32) : Prop :=
  (∀ a x, ((![v412] : Fin 1 → IVec S16 32) a x).toNat < S2048.size a) ∧
  (∀ a x, ((![v412] : Fin 1 → IVec S16 32) a x).toNat < S2048.size a)
theorem k0_idx1367_inb : ∀ (v412 : IVec S16 32) (k0_hw1029 : k0_chk1029 v412), ∀ a x, ((![v412] : Fin 1 → IVec S16 32) a x).toNat < S2048.size a := fun v412 k0_hw1029 => k0_hw1029.1
theorem k0_idx1368_inb : ∀ (v412 : IVec S16 32) (k0_hw1029 : k0_chk1029 v412), ∀ a x, ((![v412] : Fin 1 → IVec S16 32) a x).toNat < S2048.size a := fun v412 k0_hw1029 => k0_hw1029.2

def k0_chk1030 (v608 : IVec S16 32) : Prop :=
  (∀ a x, ((![v608] : Fin 1 → IVec S16 32) a x).toNat < S32768.size a)
theorem k0_idx1369_inb : ∀ (v608 : IVec S16 32) (k0_hw1030 : k0_chk1030 v608), ∀ a x, ((![v608] : Fin 1 → IVec S16 32) a x).toNat < S32768.size a := fun v608 k0_hw1030 => k0_hw1030

def k0_chk1031 (v416 : IVec S16 32) : Prop :=
  (∀ a x, ((![v416] : Fin 1 → IVec S16 32) a x).toNat < S2048.size a) ∧
  (∀ a x, ((![v416] : Fin 1 → IVec S16 32) a x).toNat < S2048.size a)
theorem k0_idx1370_inb : ∀ (v416 : IVec S16 32) (k0_hw1031 : k0_chk1031 v416), ∀ a x, ((![v416] : Fin 1 → IVec S16 32) a x).toNat < S2048.size a := fun v416 k0_hw1031 => k0_hw1031.1
theorem k0_idx1371_inb : ∀ (v416 : IVec S16 32) (k0_hw1031 : k0_chk1031 v416), ∀ a x, ((![v416] : Fin 1 → IVec S16 32) a x).toNat < S2048.size a := fun v416 k0_hw1031 => k0_hw1031.2

def k0_chk1032 (v614 : IVec S16 32) : Prop :=
  (∀ a x, ((![v614] : Fin 1 → IVec S16 32) a x).toNat < S32768.size a)
theorem k0_idx1372_inb : ∀ (v614 : IVec S16 32) (k0_hw1032 : k0_chk1032 v614), ∀ a x, ((![v614] : Fin 1 → IVec S16 32) a x).toNat < S32768.size a := fun v614 k0_hw1032 => k0_hw1032

def k0_chk1033 (v420 : IVec S16 32) : Prop :=
  (∀ a x, ((![v420] : Fin 1 → IVec S16 32) a x).toNat < S2048.size a) ∧
  (∀ a x, ((![v420] : Fin 1 → IVec S16 32) a x).toNat < S2048.size a)
theorem k0_idx1373_inb : ∀ (v420 : IVec S16 32) (k0_hw1033 : k0_chk1033 v420), ∀ a x, ((![v420] : Fin 1 → IVec S16 32) a x).toNat < S2048.size a := fun v420 k0_hw1033 => k0_hw1033.1
theorem k0_idx1374_inb : ∀ (v420 : IVec S16 32) (k0_hw1033 : k0_chk1033 v420), ∀ a x, ((![v420] : Fin 1 → IVec S16 32) a x).toNat < S2048.size a := fun v420 k0_hw1033 => k0_hw1033.2

def k0_chk1034 (v620 : IVec S16 32) : Prop :=
  (∀ a x, ((![v620] : Fin 1 → IVec S16 32) a x).toNat < S32768.size a)
theorem k0_idx1375_inb : ∀ (v620 : IVec S16 32) (k0_hw1034 : k0_chk1034 v620), ∀ a x, ((![v620] : Fin 1 → IVec S16 32) a x).toNat < S32768.size a := fun v620 k0_hw1034 => k0_hw1034

def k0_chk1035 (v424 : IVec S16 32) : Prop :=
  (∀ a x, ((![v424] : Fin 1 → IVec S16 32) a x).toNat < S2048.size a) ∧
  (∀ a x, ((![v424] : Fin 1 → IVec S16 32) a x).toNat < S2048.size a)
theorem k0_idx1376_inb : ∀ (v424 : IVec S16 32) (k0_hw1035 : k0_chk1035 v424), ∀ a x, ((![v424] : Fin 1 → IVec S16 32) a x).toNat < S2048.size a := fun v424 k0_hw1035 => k0_hw1035.1
theorem k0_idx1377_inb : ∀ (v424 : IVec S16 32) (k0_hw1035 : k0_chk1035 v424), ∀ a x, ((![v424] : Fin 1 → IVec S16 32) a x).toNat < S2048.size a := fun v424 k0_hw1035 => k0_hw1035.2

def k0_chk1036 (v626 : IVec S16 32) : Prop :=
  (∀ a x, ((![v626] : Fin 1 → IVec S16 32) a x).toNat < S32768.size a)
theorem k0_idx1378_inb : ∀ (v626 : IVec S16 32) (k0_hw1036 : k0_chk1036 v626), ∀ a x, ((![v626] : Fin 1 → IVec S16 32) a x).toNat < S32768.size a := fun v626 k0_hw1036 => k0_hw1036

def k0_chk1037 (v428 : IVec S16 32) : Prop :=
  (∀ a x, ((![v428] : Fin 1 → IVec S16 32) a x).toNat < S2048.size a) ∧
  (∀ a x, ((![v428] : Fin 1 → IVec S16 32) a x).toNat < S2048.size a)
theorem k0_idx1379_inb : ∀ (v428 : IVec S16 32) (k0_hw1037 : k0_chk1037 v428), ∀ a x, ((![v428] : Fin 1 → IVec S16 32) a x).toNat < S2048.size a := fun v428 k0_hw1037 => k0_hw1037.1
theorem k0_idx1380_inb : ∀ (v428 : IVec S16 32) (k0_hw1037 : k0_chk1037 v428), ∀ a x, ((![v428] : Fin 1 → IVec S16 32) a x).toNat < S2048.size a := fun v428 k0_hw1037 => k0_hw1037.2

def k0_chk1038 (v632 : IVec S16 32) : Prop :=
  (∀ a x, ((![v632] : Fin 1 → IVec S16 32) a x).toNat < S32768.size a)
theorem k0_idx1381_inb : ∀ (v632 : IVec S16 32) (k0_hw1038 : k0_chk1038 v632), ∀ a x, ((![v632] : Fin 1 → IVec S16 32) a x).toNat < S32768.size a := fun v632 k0_hw1038 => k0_hw1038

def k0_chk1039 (v432 : IVec S16 32) : Prop :=
  (∀ a x, ((![v432] : Fin 1 → IVec S16 32) a x).toNat < S2048.size a) ∧
  (∀ a x, ((![v432] : Fin 1 → IVec S16 32) a x).toNat < S2048.size a)
theorem k0_idx1382_inb : ∀ (v432 : IVec S16 32) (k0_hw1039 : k0_chk1039 v432), ∀ a x, ((![v432] : Fin 1 → IVec S16 32) a x).toNat < S2048.size a := fun v432 k0_hw1039 => k0_hw1039.1
theorem k0_idx1383_inb : ∀ (v432 : IVec S16 32) (k0_hw1039 : k0_chk1039 v432), ∀ a x, ((![v432] : Fin 1 → IVec S16 32) a x).toNat < S2048.size a := fun v432 k0_hw1039 => k0_hw1039.2

def k0_chk1040 (v638 : IVec S16 32) : Prop :=
  (∀ a x, ((![v638] : Fin 1 → IVec S16 32) a x).toNat < S32768.size a)
theorem k0_idx1384_inb : ∀ (v638 : IVec S16 32) (k0_hw1040 : k0_chk1040 v638), ∀ a x, ((![v638] : Fin 1 → IVec S16 32) a x).toNat < S32768.size a := fun v638 k0_hw1040 => k0_hw1040

def k0_chk1041 (v436 : IVec S16 32) : Prop :=
  (∀ a x, ((![v436] : Fin 1 → IVec S16 32) a x).toNat < S2048.size a) ∧
  (∀ a x, ((![v436] : Fin 1 → IVec S16 32) a x).toNat < S2048.size a)
theorem k0_idx1385_inb : ∀ (v436 : IVec S16 32) (k0_hw1041 : k0_chk1041 v436), ∀ a x, ((![v436] : Fin 1 → IVec S16 32) a x).toNat < S2048.size a := fun v436 k0_hw1041 => k0_hw1041.1
theorem k0_idx1386_inb : ∀ (v436 : IVec S16 32) (k0_hw1041 : k0_chk1041 v436), ∀ a x, ((![v436] : Fin 1 → IVec S16 32) a x).toNat < S2048.size a := fun v436 k0_hw1041 => k0_hw1041.2

def k0_chk1042 (v644 : IVec S16 32) : Prop :=
  (∀ a x, ((![v644] : Fin 1 → IVec S16 32) a x).toNat < S32768.size a)
theorem k0_idx1387_inb : ∀ (v644 : IVec S16 32) (k0_hw1042 : k0_chk1042 v644), ∀ a x, ((![v644] : Fin 1 → IVec S16 32) a x).toNat < S32768.size a := fun v644 k0_hw1042 => k0_hw1042

def k0_chk1043 (v440 : IVec S16 32) : Prop :=
  (∀ a x, ((![v440] : Fin 1 → IVec S16 32) a x).toNat < S2048.size a) ∧
  (∀ a x, ((![v440] : Fin 1 → IVec S16 32) a x).toNat < S2048.size a)
theorem k0_idx1388_inb : ∀ (v440 : IVec S16 32) (k0_hw1043 : k0_chk1043 v440), ∀ a x, ((![v440] : Fin 1 → IVec S16 32) a x).toNat < S2048.size a := fun v440 k0_hw1043 => k0_hw1043.1
theorem k0_idx1389_inb : ∀ (v440 : IVec S16 32) (k0_hw1043 : k0_chk1043 v440), ∀ a x, ((![v440] : Fin 1 → IVec S16 32) a x).toNat < S2048.size a := fun v440 k0_hw1043 => k0_hw1043.2

def k0_chk1044 (v650 : IVec S16 32) : Prop :=
  (∀ a x, ((![v650] : Fin 1 → IVec S16 32) a x).toNat < S32768.size a)
theorem k0_idx1390_inb : ∀ (v650 : IVec S16 32) (k0_hw1044 : k0_chk1044 v650), ∀ a x, ((![v650] : Fin 1 → IVec S16 32) a x).toNat < S32768.size a := fun v650 k0_hw1044 => k0_hw1044

def k0_chk1045 (v444 : IVec S16 32) : Prop :=
  (∀ a x, ((![v444] : Fin 1 → IVec S16 32) a x).toNat < S2048.size a) ∧
  (∀ a x, ((![v444] : Fin 1 → IVec S16 32) a x).toNat < S2048.size a)
theorem k0_idx1391_inb : ∀ (v444 : IVec S16 32) (k0_hw1045 : k0_chk1045 v444), ∀ a x, ((![v444] : Fin 1 → IVec S16 32) a x).toNat < S2048.size a := fun v444 k0_hw1045 => k0_hw1045.1
theorem k0_idx1392_inb : ∀ (v444 : IVec S16 32) (k0_hw1045 : k0_chk1045 v444), ∀ a x, ((![v444] : Fin 1 → IVec S16 32) a x).toNat < S2048.size a := fun v444 k0_hw1045 => k0_hw1045.2

def k0_chk1046 (v656 : IVec S16 32) : Prop :=
  (∀ a x, ((![v656] : Fin 1 → IVec S16 32) a x).toNat < S32768.size a)
theorem k0_idx1393_inb : ∀ (v656 : IVec S16 32) (k0_hw1046 : k0_chk1046 v656), ∀ a x, ((![v656] : Fin 1 → IVec S16 32) a x).toNat < S32768.size a := fun v656 k0_hw1046 => k0_hw1046

def k0_chk1047 (v448 : IVec S16 32) : Prop :=
  (∀ a x, ((![v448] : Fin 1 → IVec S16 32) a x).toNat < S2048.size a) ∧
  (∀ a x, ((![v448] : Fin 1 → IVec S16 32) a x).toNat < S2048.size a)
theorem k0_idx1394_inb : ∀ (v448 : IVec S16 32) (k0_hw1047 : k0_chk1047 v448), ∀ a x, ((![v448] : Fin 1 → IVec S16 32) a x).toNat < S2048.size a := fun v448 k0_hw1047 => k0_hw1047.1
theorem k0_idx1395_inb : ∀ (v448 : IVec S16 32) (k0_hw1047 : k0_chk1047 v448), ∀ a x, ((![v448] : Fin 1 → IVec S16 32) a x).toNat < S2048.size a := fun v448 k0_hw1047 => k0_hw1047.2

def k0_chk1048 (v662 : IVec S16 32) : Prop :=
  (∀ a x, ((![v662] : Fin 1 → IVec S16 32) a x).toNat < S32768.size a)
theorem k0_idx1396_inb : ∀ (v662 : IVec S16 32) (k0_hw1048 : k0_chk1048 v662), ∀ a x, ((![v662] : Fin 1 → IVec S16 32) a x).toNat < S32768.size a := fun v662 k0_hw1048 => k0_hw1048

def k0_chk1049 (v452 : IVec S16 32) : Prop :=
  (∀ a x, ((![v452] : Fin 1 → IVec S16 32) a x).toNat < S2048.size a) ∧
  (∀ a x, ((![v452] : Fin 1 → IVec S16 32) a x).toNat < S2048.size a)
theorem k0_idx1397_inb : ∀ (v452 : IVec S16 32) (k0_hw1049 : k0_chk1049 v452), ∀ a x, ((![v452] : Fin 1 → IVec S16 32) a x).toNat < S2048.size a := fun v452 k0_hw1049 => k0_hw1049.1
theorem k0_idx1398_inb : ∀ (v452 : IVec S16 32) (k0_hw1049 : k0_chk1049 v452), ∀ a x, ((![v452] : Fin 1 → IVec S16 32) a x).toNat < S2048.size a := fun v452 k0_hw1049 => k0_hw1049.2

def k0_chk1050 (v668 : IVec S16 32) : Prop :=
  (∀ a x, ((![v668] : Fin 1 → IVec S16 32) a x).toNat < S32768.size a)
theorem k0_idx1399_inb : ∀ (v668 : IVec S16 32) (k0_hw1050 : k0_chk1050 v668), ∀ a x, ((![v668] : Fin 1 → IVec S16 32) a x).toNat < S32768.size a := fun v668 k0_hw1050 => k0_hw1050

def k0_chk1051 (v456 : IVec S16 32) : Prop :=
  (∀ a x, ((![v456] : Fin 1 → IVec S16 32) a x).toNat < S2048.size a) ∧
  (∀ a x, ((![v456] : Fin 1 → IVec S16 32) a x).toNat < S2048.size a)
theorem k0_idx1400_inb : ∀ (v456 : IVec S16 32) (k0_hw1051 : k0_chk1051 v456), ∀ a x, ((![v456] : Fin 1 → IVec S16 32) a x).toNat < S2048.size a := fun v456 k0_hw1051 => k0_hw1051.1
theorem k0_idx1401_inb : ∀ (v456 : IVec S16 32) (k0_hw1051 : k0_chk1051 v456), ∀ a x, ((![v456] : Fin 1 → IVec S16 32) a x).toNat < S2048.size a := fun v456 k0_hw1051 => k0_hw1051.2

def k0_chk1052 (v674 : IVec S16 32) : Prop :=
  (∀ a x, ((![v674] : Fin 1 → IVec S16 32) a x).toNat < S32768.size a)
theorem k0_idx1402_inb : ∀ (v674 : IVec S16 32) (k0_hw1052 : k0_chk1052 v674), ∀ a x, ((![v674] : Fin 1 → IVec S16 32) a x).toNat < S32768.size a := fun v674 k0_hw1052 => k0_hw1052

def k0_chk1053 (v460 : IVec S16 32) : Prop :=
  (∀ a x, ((![v460] : Fin 1 → IVec S16 32) a x).toNat < S2048.size a) ∧
  (∀ a x, ((![v460] : Fin 1 → IVec S16 32) a x).toNat < S2048.size a)
theorem k0_idx1403_inb : ∀ (v460 : IVec S16 32) (k0_hw1053 : k0_chk1053 v460), ∀ a x, ((![v460] : Fin 1 → IVec S16 32) a x).toNat < S2048.size a := fun v460 k0_hw1053 => k0_hw1053.1
theorem k0_idx1404_inb : ∀ (v460 : IVec S16 32) (k0_hw1053 : k0_chk1053 v460), ∀ a x, ((![v460] : Fin 1 → IVec S16 32) a x).toNat < S2048.size a := fun v460 k0_hw1053 => k0_hw1053.2

def k0_chk1054 (v680 : IVec S16 32) : Prop :=
  (∀ a x, ((![v680] : Fin 1 → IVec S16 32) a x).toNat < S32768.size a)
theorem k0_idx1405_inb : ∀ (v680 : IVec S16 32) (k0_hw1054 : k0_chk1054 v680), ∀ a x, ((![v680] : Fin 1 → IVec S16 32) a x).toNat < S32768.size a := fun v680 k0_hw1054 => k0_hw1054

def k0_chk1055 (v464 : IVec S16 32) : Prop :=
  (∀ a x, ((![v464] : Fin 1 → IVec S16 32) a x).toNat < S2048.size a) ∧
  (∀ a x, ((![v464] : Fin 1 → IVec S16 32) a x).toNat < S2048.size a)
theorem k0_idx1406_inb : ∀ (v464 : IVec S16 32) (k0_hw1055 : k0_chk1055 v464), ∀ a x, ((![v464] : Fin 1 → IVec S16 32) a x).toNat < S2048.size a := fun v464 k0_hw1055 => k0_hw1055.1
theorem k0_idx1407_inb : ∀ (v464 : IVec S16 32) (k0_hw1055 : k0_chk1055 v464), ∀ a x, ((![v464] : Fin 1 → IVec S16 32) a x).toNat < S2048.size a := fun v464 k0_hw1055 => k0_hw1055.2

def k0_chk1056 (v686 : IVec S16 32) : Prop :=
  (∀ a x, ((![v686] : Fin 1 → IVec S16 32) a x).toNat < S32768.size a)
theorem k0_idx1408_inb : ∀ (v686 : IVec S16 32) (k0_hw1056 : k0_chk1056 v686), ∀ a x, ((![v686] : Fin 1 → IVec S16 32) a x).toNat < S32768.size a := fun v686 k0_hw1056 => k0_hw1056

def k0_chk1057 (v697 : IVec S16 32) : Prop :=
  (∀ a x, ((![v697] : Fin 1 → IVec S16 32) a x).toNat < S4096.size a)
theorem k0_idx1409_inb : ∀ (v697 : IVec S16 32) (k0_hw1057 : k0_chk1057 v697), ∀ a x, ((![v697] : Fin 1 → IVec S16 32) a x).toNat < S4096.size a := fun v697 k0_hw1057 => k0_hw1057

def k0_chk1058 (v706 : IVec S16 32) : Prop :=
  (∀ a x, ((![v706] : Fin 1 → IVec S16 32) a x).toNat < S4096.size a)
theorem k0_idx1410_inb : ∀ (v706 : IVec S16 32) (k0_hw1058 : k0_chk1058 v706), ∀ a x, ((![v706] : Fin 1 → IVec S16 32) a x).toNat < S4096.size a := fun v706 k0_hw1058 => k0_hw1058

def k0_chk1059 (v715 : IVec S16 32) : Prop :=
  (∀ a x, ((![v715] : Fin 1 → IVec S16 32) a x).toNat < S4096.size a)
theorem k0_idx1411_inb : ∀ (v715 : IVec S16 32) (k0_hw1059 : k0_chk1059 v715), ∀ a x, ((![v715] : Fin 1 → IVec S16 32) a x).toNat < S4096.size a := fun v715 k0_hw1059 => k0_hw1059

def k0_chk1060 (v724 : IVec S16 32) : Prop :=
  (∀ a x, ((![v724] : Fin 1 → IVec S16 32) a x).toNat < S4096.size a)
theorem k0_idx1412_inb : ∀ (v724 : IVec S16 32) (k0_hw1060 : k0_chk1060 v724), ∀ a x, ((![v724] : Fin 1 → IVec S16 32) a x).toNat < S4096.size a := fun v724 k0_hw1060 => k0_hw1060

def k0_chk1061 (v733 : IVec S16 32) : Prop :=
  (∀ a x, ((![v733] : Fin 1 → IVec S16 32) a x).toNat < S4096.size a)
theorem k0_idx1413_inb : ∀ (v733 : IVec S16 32) (k0_hw1061 : k0_chk1061 v733), ∀ a x, ((![v733] : Fin 1 → IVec S16 32) a x).toNat < S4096.size a := fun v733 k0_hw1061 => k0_hw1061

def k0_chk1062 (v742 : IVec S16 32) : Prop :=
  (∀ a x, ((![v742] : Fin 1 → IVec S16 32) a x).toNat < S4096.size a)
theorem k0_idx1414_inb : ∀ (v742 : IVec S16 32) (k0_hw1062 : k0_chk1062 v742), ∀ a x, ((![v742] : Fin 1 → IVec S16 32) a x).toNat < S4096.size a := fun v742 k0_hw1062 => k0_hw1062

def k0_chk1063 (v751 : IVec S16 32) : Prop :=
  (∀ a x, ((![v751] : Fin 1 → IVec S16 32) a x).toNat < S4096.size a)
theorem k0_idx1415_inb : ∀ (v751 : IVec S16 32) (k0_hw1063 : k0_chk1063 v751), ∀ a x, ((![v751] : Fin 1 → IVec S16 32) a x).toNat < S4096.size a := fun v751 k0_hw1063 => k0_hw1063

def k0_chk1064 (v760 : IVec S16 32) : Prop :=
  (∀ a x, ((![v760] : Fin 1 → IVec S16 32) a x).toNat < S4096.size a)
theorem k0_idx1416_inb : ∀ (v760 : IVec S16 32) (k0_hw1064 : k0_chk1064 v760), ∀ a x, ((![v760] : Fin 1 → IVec S16 32) a x).toNat < S4096.size a := fun v760 k0_hw1064 => k0_hw1064

def k0_chk1065 (v769 : IVec S16 32) : Prop :=
  (∀ a x, ((![v769] : Fin 1 → IVec S16 32) a x).toNat < S4096.size a)
theorem k0_idx1417_inb : ∀ (v769 : IVec S16 32) (k0_hw1065 : k0_chk1065 v769), ∀ a x, ((![v769] : Fin 1 → IVec S16 32) a x).toNat < S4096.size a := fun v769 k0_hw1065 => k0_hw1065

def k0_chk1066 (v778 : IVec S16 32) : Prop :=
  (∀ a x, ((![v778] : Fin 1 → IVec S16 32) a x).toNat < S4096.size a)
theorem k0_idx1418_inb : ∀ (v778 : IVec S16 32) (k0_hw1066 : k0_chk1066 v778), ∀ a x, ((![v778] : Fin 1 → IVec S16 32) a x).toNat < S4096.size a := fun v778 k0_hw1066 => k0_hw1066

def k0_chk1067 (v787 : IVec S16 32) : Prop :=
  (∀ a x, ((![v787] : Fin 1 → IVec S16 32) a x).toNat < S4096.size a)
theorem k0_idx1419_inb : ∀ (v787 : IVec S16 32) (k0_hw1067 : k0_chk1067 v787), ∀ a x, ((![v787] : Fin 1 → IVec S16 32) a x).toNat < S4096.size a := fun v787 k0_hw1067 => k0_hw1067

def k0_chk1068 (v796 : IVec S16 32) : Prop :=
  (∀ a x, ((![v796] : Fin 1 → IVec S16 32) a x).toNat < S4096.size a)
theorem k0_idx1420_inb : ∀ (v796 : IVec S16 32) (k0_hw1068 : k0_chk1068 v796), ∀ a x, ((![v796] : Fin 1 → IVec S16 32) a x).toNat < S4096.size a := fun v796 k0_hw1068 => k0_hw1068

def k0_chk1069 (v805 : IVec S16 32) : Prop :=
  (∀ a x, ((![v805] : Fin 1 → IVec S16 32) a x).toNat < S4096.size a)
theorem k0_idx1421_inb : ∀ (v805 : IVec S16 32) (k0_hw1069 : k0_chk1069 v805), ∀ a x, ((![v805] : Fin 1 → IVec S16 32) a x).toNat < S4096.size a := fun v805 k0_hw1069 => k0_hw1069

def k0_chk1070 (v814 : IVec S16 32) : Prop :=
  (∀ a x, ((![v814] : Fin 1 → IVec S16 32) a x).toNat < S4096.size a)
theorem k0_idx1422_inb : ∀ (v814 : IVec S16 32) (k0_hw1070 : k0_chk1070 v814), ∀ a x, ((![v814] : Fin 1 → IVec S16 32) a x).toNat < S4096.size a := fun v814 k0_hw1070 => k0_hw1070

def k0_chk1071 (v823 : IVec S16 32) : Prop :=
  (∀ a x, ((![v823] : Fin 1 → IVec S16 32) a x).toNat < S4096.size a)
theorem k0_idx1423_inb : ∀ (v823 : IVec S16 32) (k0_hw1071 : k0_chk1071 v823), ∀ a x, ((![v823] : Fin 1 → IVec S16 32) a x).toNat < S4096.size a := fun v823 k0_hw1071 => k0_hw1071

def k0_chk1072 (v832 : IVec S16 32) : Prop :=
  (∀ a x, ((![v832] : Fin 1 → IVec S16 32) a x).toNat < S4096.size a)
theorem k0_idx1424_inb : ∀ (v832 : IVec S16 32) (k0_hw1072 : k0_chk1072 v832), ∀ a x, ((![v832] : Fin 1 → IVec S16 32) a x).toNat < S4096.size a := fun v832 k0_hw1072 => k0_hw1072

def k0_chk1073 (v841 : IVec S16 32) : Prop :=
  (∀ a x, ((![v841] : Fin 1 → IVec S16 32) a x).toNat < S4096.size a)
theorem k0_idx1425_inb : ∀ (v841 : IVec S16 32) (k0_hw1073 : k0_chk1073 v841), ∀ a x, ((![v841] : Fin 1 → IVec S16 32) a x).toNat < S4096.size a := fun v841 k0_hw1073 => k0_hw1073

def k0_chk1074 (v850 : IVec S16 32) : Prop :=
  (∀ a x, ((![v850] : Fin 1 → IVec S16 32) a x).toNat < S4096.size a)
theorem k0_idx1426_inb : ∀ (v850 : IVec S16 32) (k0_hw1074 : k0_chk1074 v850), ∀ a x, ((![v850] : Fin 1 → IVec S16 32) a x).toNat < S4096.size a := fun v850 k0_hw1074 => k0_hw1074

def k0_chk1075 (v859 : IVec S16 32) : Prop :=
  (∀ a x, ((![v859] : Fin 1 → IVec S16 32) a x).toNat < S4096.size a)
theorem k0_idx1427_inb : ∀ (v859 : IVec S16 32) (k0_hw1075 : k0_chk1075 v859), ∀ a x, ((![v859] : Fin 1 → IVec S16 32) a x).toNat < S4096.size a := fun v859 k0_hw1075 => k0_hw1075

def k0_chk1076 (v868 : IVec S16 32) : Prop :=
  (∀ a x, ((![v868] : Fin 1 → IVec S16 32) a x).toNat < S4096.size a)
theorem k0_idx1428_inb : ∀ (v868 : IVec S16 32) (k0_hw1076 : k0_chk1076 v868), ∀ a x, ((![v868] : Fin 1 → IVec S16 32) a x).toNat < S4096.size a := fun v868 k0_hw1076 => k0_hw1076

def k0_chk1077 (v877 : IVec S16 32) : Prop :=
  (∀ a x, ((![v877] : Fin 1 → IVec S16 32) a x).toNat < S4096.size a)
theorem k0_idx1429_inb : ∀ (v877 : IVec S16 32) (k0_hw1077 : k0_chk1077 v877), ∀ a x, ((![v877] : Fin 1 → IVec S16 32) a x).toNat < S4096.size a := fun v877 k0_hw1077 => k0_hw1077

def k0_chk1078 (v886 : IVec S16 32) : Prop :=
  (∀ a x, ((![v886] : Fin 1 → IVec S16 32) a x).toNat < S4096.size a)
theorem k0_idx1430_inb : ∀ (v886 : IVec S16 32) (k0_hw1078 : k0_chk1078 v886), ∀ a x, ((![v886] : Fin 1 → IVec S16 32) a x).toNat < S4096.size a := fun v886 k0_hw1078 => k0_hw1078

def k0_chk1079 (v895 : IVec S16 32) : Prop :=
  (∀ a x, ((![v895] : Fin 1 → IVec S16 32) a x).toNat < S4096.size a)
theorem k0_idx1431_inb : ∀ (v895 : IVec S16 32) (k0_hw1079 : k0_chk1079 v895), ∀ a x, ((![v895] : Fin 1 → IVec S16 32) a x).toNat < S4096.size a := fun v895 k0_hw1079 => k0_hw1079

def k0_chk1080 (v904 : IVec S16 32) : Prop :=
  (∀ a x, ((![v904] : Fin 1 → IVec S16 32) a x).toNat < S4096.size a)
theorem k0_idx1432_inb : ∀ (v904 : IVec S16 32) (k0_hw1080 : k0_chk1080 v904), ∀ a x, ((![v904] : Fin 1 → IVec S16 32) a x).toNat < S4096.size a := fun v904 k0_hw1080 => k0_hw1080

def k0_chk1081 (v913 : IVec S16 32) : Prop :=
  (∀ a x, ((![v913] : Fin 1 → IVec S16 32) a x).toNat < S4096.size a)
theorem k0_idx1433_inb : ∀ (v913 : IVec S16 32) (k0_hw1081 : k0_chk1081 v913), ∀ a x, ((![v913] : Fin 1 → IVec S16 32) a x).toNat < S4096.size a := fun v913 k0_hw1081 => k0_hw1081

def k0_chk1082 (v922 : IVec S16 32) : Prop :=
  (∀ a x, ((![v922] : Fin 1 → IVec S16 32) a x).toNat < S4096.size a)
theorem k0_idx1434_inb : ∀ (v922 : IVec S16 32) (k0_hw1082 : k0_chk1082 v922), ∀ a x, ((![v922] : Fin 1 → IVec S16 32) a x).toNat < S4096.size a := fun v922 k0_hw1082 => k0_hw1082

def k0_chk1083 (v931 : IVec S16 32) : Prop :=
  (∀ a x, ((![v931] : Fin 1 → IVec S16 32) a x).toNat < S4096.size a)
theorem k0_idx1435_inb : ∀ (v931 : IVec S16 32) (k0_hw1083 : k0_chk1083 v931), ∀ a x, ((![v931] : Fin 1 → IVec S16 32) a x).toNat < S4096.size a := fun v931 k0_hw1083 => k0_hw1083

def k0_chk1084 (v940 : IVec S16 32) : Prop :=
  (∀ a x, ((![v940] : Fin 1 → IVec S16 32) a x).toNat < S4096.size a)
theorem k0_idx1436_inb : ∀ (v940 : IVec S16 32) (k0_hw1084 : k0_chk1084 v940), ∀ a x, ((![v940] : Fin 1 → IVec S16 32) a x).toNat < S4096.size a := fun v940 k0_hw1084 => k0_hw1084

def k0_chk1085 (v949 : IVec S16 32) : Prop :=
  (∀ a x, ((![v949] : Fin 1 → IVec S16 32) a x).toNat < S4096.size a)
theorem k0_idx1437_inb : ∀ (v949 : IVec S16 32) (k0_hw1085 : k0_chk1085 v949), ∀ a x, ((![v949] : Fin 1 → IVec S16 32) a x).toNat < S4096.size a := fun v949 k0_hw1085 => k0_hw1085

def k0_chk1086 (v958 : IVec S16 32) : Prop :=
  (∀ a x, ((![v958] : Fin 1 → IVec S16 32) a x).toNat < S4096.size a)
theorem k0_idx1438_inb : ∀ (v958 : IVec S16 32) (k0_hw1086 : k0_chk1086 v958), ∀ a x, ((![v958] : Fin 1 → IVec S16 32) a x).toNat < S4096.size a := fun v958 k0_hw1086 => k0_hw1086

def k0_chk1087 (v967 : IVec S16 32) : Prop :=
  (∀ a x, ((![v967] : Fin 1 → IVec S16 32) a x).toNat < S4096.size a)
theorem k0_idx1439_inb : ∀ (v967 : IVec S16 32) (k0_hw1087 : k0_chk1087 v967), ∀ a x, ((![v967] : Fin 1 → IVec S16 32) a x).toNat < S4096.size a := fun v967 k0_hw1087 => k0_hw1087

def k0_chk1088 (v976 : IVec S16 32) : Prop :=
  (∀ a x, ((![v976] : Fin 1 → IVec S16 32) a x).toNat < S4096.size a)
theorem k0_idx1440_inb : ∀ (v976 : IVec S16 32) (k0_hw1088 : k0_chk1088 v976), ∀ a x, ((![v976] : Fin 1 → IVec S16 32) a x).toNat < S4096.size a := fun v976 k0_hw1088 => k0_hw1088
@[reducible] def k0_t52_loop : Scf.Loop 32 :=
  let c0_i32_288 : BitVec 32 := 0#32
  let c64_i32_289 : BitVec 32 := 64#32
  let v131 : BitVec 32 := Scalar.addi c0_i32_288 c64_i32_289
  let c1_i32_290 : BitVec 32 := 1#32
  ⟨c0_i32_288, v131, c1_i32_290⟩
def k0_off98 (k0_t52 : Fin k0_t52_loop.trips) : Fin 1 → Nat :=
  let c0_i32_288 : BitVec 32 := 0#32
  let c1_i32_290 : BitVec 32 := 1#32
  let arg15 : BitVec 32 := Scf.iv c0_i32_288 c1_i32_290 k0_t52
  let c16_i32_312 : BitVec 32 := 16#32
  let v146 : BitVec 32 := Scalar.muli arg15 c16_i32_312
  let v147 : Index := Scalar.indexCast v146
  ![v147.toNat]
def k0_off99 (k0_t52 : Fin k0_t52_loop.trips) : Fin 1 → Nat :=
  let c2048_i32 : BitVec 32 := 2048#32
  let c0_i32_288 : BitVec 32 := 0#32
  let c1_i32_290 : BitVec 32 := 1#32
  let arg15 : BitVec 32 := Scf.iv c0_i32_288 c1_i32_290 k0_t52
  let c16_i32_313 : BitVec 32 := 16#32
  let v149 : BitVec 32 := Scalar.muli arg15 c16_i32_313
  let v150 : BitVec 32 := Scalar.addi c2048_i32 v149
  let v151 : Index := Scalar.indexCast v150
  ![v151.toNat]
def k0_off100 (k0_t52 : Fin k0_t52_loop.trips) : Fin 1 → Nat :=
  let c0_i32_288 : BitVec 32 := 0#32
  let c1_i32_290 : BitVec 32 := 1#32
  let arg15 : BitVec 32 := Scf.iv c0_i32_288 c1_i32_290 k0_t52
  let c16_i32 : BitVec 32 := 16#32
  let v145 : BitVec 32 := Scalar.muli arg15 c16_i32
  let v154 : Index := Scalar.indexCast v145
  ![v154.toNat]
@[reducible] def k0_t53_loop : Scf.Loop 32 :=
  let c0_i32_293 : BitVec 32 := 0#32
  let c64_i32_294 : BitVec 32 := 64#32
  let v132 : BitVec 32 := Scalar.addi c0_i32_293 c64_i32_294
  let c1_i32_295 : BitVec 32 := 1#32
  ⟨c0_i32_293, v132, c1_i32_295⟩
def k0_off101 (k0_t53 : Fin k0_t53_loop.trips) : Fin 1 → Nat :=
  let c0_i32_293 : BitVec 32 := 0#32
  let c1_i32_295 : BitVec 32 := 1#32
  let arg15 : BitVec 32 := Scf.iv c0_i32_293 c1_i32_295 k0_t53
  let c16_i32 : BitVec 32 := 16#32
  let v145 : BitVec 32 := Scalar.muli arg15 c16_i32
  let v146 : Index := Scalar.indexCast v145
  ![v146.toNat]
@[reducible] def k0_t54_loop : Scf.Loop 32 :=
  let c0_i32_298 : BitVec 32 := 0#32
  let c64_i32_299 : BitVec 32 := 64#32
  let v134 : BitVec 32 := Scalar.addi c0_i32_298 c64_i32_299
  let c1_i32_300 : BitVec 32 := 1#32
  ⟨c0_i32_298, v134, c1_i32_300⟩
def k0_off102 (k0_t54 : Fin k0_t54_loop.trips) : Fin 1 → Nat :=
  let c0_i32_298 : BitVec 32 := 0#32
  let c1_i32_300 : BitVec 32 := 1#32
  let arg15 : BitVec 32 := Scf.iv c0_i32_298 c1_i32_300 k0_t54
  let c16_i32 : BitVec 32 := 16#32
  let v145 : BitVec 32 := Scalar.muli arg15 c16_i32
  let v146 : Index := Scalar.indexCast v145
  ![v146.toNat]
def k0_off103 (k0_t54 : Fin k0_t54_loop.trips) : Fin 1 → Nat :=
  let c0_i32_298 : BitVec 32 := 0#32
  let c1_i32_300 : BitVec 32 := 1#32
  let arg15 : BitVec 32 := Scf.iv c0_i32_298 c1_i32_300 k0_t54
  let c16_i32_312 : BitVec 32 := 16#32
  let v150 : BitVec 32 := Scalar.muli arg15 c16_i32_312
  let v151 : Index := Scalar.indexCast v150
  ![v151.toNat]
def k0_off104 (k0_t54 : Fin k0_t54_loop.trips) : Fin 1 → Nat :=
  let c2048_i32 : BitVec 32 := 2048#32
  let c0_i32_298 : BitVec 32 := 0#32
  let c1_i32_300 : BitVec 32 := 1#32
  let arg15 : BitVec 32 := Scf.iv c0_i32_298 c1_i32_300 k0_t54
  let c16_i32_314 : BitVec 32 := 16#32
  let v159 : BitVec 32 := Scalar.muli arg15 c16_i32_314
  let v160 : BitVec 32 := Scalar.addi c2048_i32 v159
  let v161 : Index := Scalar.indexCast v160
  ![v161.toNat]
@[reducible] def k0_t55_loop : Scf.Loop 32 :=
  let c0_i32_303 : BitVec 32 := 0#32
  let c64_i32_304 : BitVec 32 := 64#32
  let v135 : BitVec 32 := Scalar.addi c0_i32_303 c64_i32_304
  let c1_i32_305 : BitVec 32 := 1#32
  ⟨c0_i32_303, v135, c1_i32_305⟩
def k0_off105 (k0_t55 : Fin k0_t55_loop.trips) (c0_i32_312 : BitVec 32) (c0_i32_313 : BitVec 32) : Fin 1 → Nat :=
  let c0_i32_303 : BitVec 32 := 0#32
  let c1_i32_305 : BitVec 32 := 1#32
  let arg15 : BitVec 32 := Scf.iv c0_i32_303 c1_i32_305 k0_t55
  let c16_i32 : BitVec 32 := 16#32
  let v145 : BitVec 32 := Scalar.muli arg15 c16_i32
  let v146 : BitVec 32 := Scalar.addi c0_i32_312 v145
  let v147 : BitVec 32 := Scalar.addi v146 c0_i32_313
  let c16_i32_395 : BitVec 32 := 16#32
  let v241 : BitVec 32 := Scalar.muli v147 c16_i32_395
  let v242 : Index := Scalar.indexCast v241
  ![v242.toNat]

def k0_chk1089 (v340 : IVec S16 32) : Prop :=
  (∀ a x, ((![v340] : Fin 1 → IVec S16 32) a x).toNat < S2048.size a) ∧
  (∀ a x, ((![v340] : Fin 1 → IVec S16 32) a x).toNat < S2048.size a)
theorem k0_idx1441_inb : ∀ (v340 : IVec S16 32) (k0_hw1089 : k0_chk1089 v340), ∀ a x, ((![v340] : Fin 1 → IVec S16 32) a x).toNat < S2048.size a := fun v340 k0_hw1089 => k0_hw1089.1
theorem k0_idx1442_inb : ∀ (v340 : IVec S16 32) (k0_hw1089 : k0_chk1089 v340), ∀ a x, ((![v340] : Fin 1 → IVec S16 32) a x).toNat < S2048.size a := fun v340 k0_hw1089 => k0_hw1089.2

def k0_chk1090 (v692 : IVec S16 32) : Prop :=
  (∀ a x, ((![v692] : Fin 1 → IVec S16 32) a x).toNat < S32768.size a)
theorem k0_idx1443_inb : ∀ (v692 : IVec S16 32) (k0_hw1090 : k0_chk1090 v692), ∀ a x, ((![v692] : Fin 1 → IVec S16 32) a x).toNat < S32768.size a := fun v692 k0_hw1090 => k0_hw1090

def k0_chk1091 (v344 : IVec S16 32) : Prop :=
  (∀ a x, ((![v344] : Fin 1 → IVec S16 32) a x).toNat < S2048.size a) ∧
  (∀ a x, ((![v344] : Fin 1 → IVec S16 32) a x).toNat < S2048.size a)
theorem k0_idx1444_inb : ∀ (v344 : IVec S16 32) (k0_hw1091 : k0_chk1091 v344), ∀ a x, ((![v344] : Fin 1 → IVec S16 32) a x).toNat < S2048.size a := fun v344 k0_hw1091 => k0_hw1091.1
theorem k0_idx1445_inb : ∀ (v344 : IVec S16 32) (k0_hw1091 : k0_chk1091 v344), ∀ a x, ((![v344] : Fin 1 → IVec S16 32) a x).toNat < S2048.size a := fun v344 k0_hw1091 => k0_hw1091.2

def k0_chk1092 (v698 : IVec S16 32) : Prop :=
  (∀ a x, ((![v698] : Fin 1 → IVec S16 32) a x).toNat < S32768.size a)
theorem k0_idx1446_inb : ∀ (v698 : IVec S16 32) (k0_hw1092 : k0_chk1092 v698), ∀ a x, ((![v698] : Fin 1 → IVec S16 32) a x).toNat < S32768.size a := fun v698 k0_hw1092 => k0_hw1092

def k0_chk1093 (v348 : IVec S16 32) : Prop :=
  (∀ a x, ((![v348] : Fin 1 → IVec S16 32) a x).toNat < S2048.size a) ∧
  (∀ a x, ((![v348] : Fin 1 → IVec S16 32) a x).toNat < S2048.size a)
theorem k0_idx1447_inb : ∀ (v348 : IVec S16 32) (k0_hw1093 : k0_chk1093 v348), ∀ a x, ((![v348] : Fin 1 → IVec S16 32) a x).toNat < S2048.size a := fun v348 k0_hw1093 => k0_hw1093.1
theorem k0_idx1448_inb : ∀ (v348 : IVec S16 32) (k0_hw1093 : k0_chk1093 v348), ∀ a x, ((![v348] : Fin 1 → IVec S16 32) a x).toNat < S2048.size a := fun v348 k0_hw1093 => k0_hw1093.2

def k0_chk1094 (v704 : IVec S16 32) : Prop :=
  (∀ a x, ((![v704] : Fin 1 → IVec S16 32) a x).toNat < S32768.size a)
theorem k0_idx1449_inb : ∀ (v704 : IVec S16 32) (k0_hw1094 : k0_chk1094 v704), ∀ a x, ((![v704] : Fin 1 → IVec S16 32) a x).toNat < S32768.size a := fun v704 k0_hw1094 => k0_hw1094

def k0_chk1095 (v352 : IVec S16 32) : Prop :=
  (∀ a x, ((![v352] : Fin 1 → IVec S16 32) a x).toNat < S2048.size a) ∧
  (∀ a x, ((![v352] : Fin 1 → IVec S16 32) a x).toNat < S2048.size a)
theorem k0_idx1450_inb : ∀ (v352 : IVec S16 32) (k0_hw1095 : k0_chk1095 v352), ∀ a x, ((![v352] : Fin 1 → IVec S16 32) a x).toNat < S2048.size a := fun v352 k0_hw1095 => k0_hw1095.1
theorem k0_idx1451_inb : ∀ (v352 : IVec S16 32) (k0_hw1095 : k0_chk1095 v352), ∀ a x, ((![v352] : Fin 1 → IVec S16 32) a x).toNat < S2048.size a := fun v352 k0_hw1095 => k0_hw1095.2

def k0_chk1096 (v710 : IVec S16 32) : Prop :=
  (∀ a x, ((![v710] : Fin 1 → IVec S16 32) a x).toNat < S32768.size a)
theorem k0_idx1452_inb : ∀ (v710 : IVec S16 32) (k0_hw1096 : k0_chk1096 v710), ∀ a x, ((![v710] : Fin 1 → IVec S16 32) a x).toNat < S32768.size a := fun v710 k0_hw1096 => k0_hw1096

def k0_chk1097 (v356 : IVec S16 32) : Prop :=
  (∀ a x, ((![v356] : Fin 1 → IVec S16 32) a x).toNat < S2048.size a) ∧
  (∀ a x, ((![v356] : Fin 1 → IVec S16 32) a x).toNat < S2048.size a)
theorem k0_idx1453_inb : ∀ (v356 : IVec S16 32) (k0_hw1097 : k0_chk1097 v356), ∀ a x, ((![v356] : Fin 1 → IVec S16 32) a x).toNat < S2048.size a := fun v356 k0_hw1097 => k0_hw1097.1
theorem k0_idx1454_inb : ∀ (v356 : IVec S16 32) (k0_hw1097 : k0_chk1097 v356), ∀ a x, ((![v356] : Fin 1 → IVec S16 32) a x).toNat < S2048.size a := fun v356 k0_hw1097 => k0_hw1097.2

def k0_chk1098 (v716 : IVec S16 32) : Prop :=
  (∀ a x, ((![v716] : Fin 1 → IVec S16 32) a x).toNat < S32768.size a)
theorem k0_idx1455_inb : ∀ (v716 : IVec S16 32) (k0_hw1098 : k0_chk1098 v716), ∀ a x, ((![v716] : Fin 1 → IVec S16 32) a x).toNat < S32768.size a := fun v716 k0_hw1098 => k0_hw1098

def k0_chk1099 (v360 : IVec S16 32) : Prop :=
  (∀ a x, ((![v360] : Fin 1 → IVec S16 32) a x).toNat < S2048.size a) ∧
  (∀ a x, ((![v360] : Fin 1 → IVec S16 32) a x).toNat < S2048.size a)
theorem k0_idx1456_inb : ∀ (v360 : IVec S16 32) (k0_hw1099 : k0_chk1099 v360), ∀ a x, ((![v360] : Fin 1 → IVec S16 32) a x).toNat < S2048.size a := fun v360 k0_hw1099 => k0_hw1099.1
theorem k0_idx1457_inb : ∀ (v360 : IVec S16 32) (k0_hw1099 : k0_chk1099 v360), ∀ a x, ((![v360] : Fin 1 → IVec S16 32) a x).toNat < S2048.size a := fun v360 k0_hw1099 => k0_hw1099.2

def k0_chk1100 (v722 : IVec S16 32) : Prop :=
  (∀ a x, ((![v722] : Fin 1 → IVec S16 32) a x).toNat < S32768.size a)
theorem k0_idx1458_inb : ∀ (v722 : IVec S16 32) (k0_hw1100 : k0_chk1100 v722), ∀ a x, ((![v722] : Fin 1 → IVec S16 32) a x).toNat < S32768.size a := fun v722 k0_hw1100 => k0_hw1100

def k0_chk1101 (v364 : IVec S16 32) : Prop :=
  (∀ a x, ((![v364] : Fin 1 → IVec S16 32) a x).toNat < S2048.size a) ∧
  (∀ a x, ((![v364] : Fin 1 → IVec S16 32) a x).toNat < S2048.size a)
theorem k0_idx1459_inb : ∀ (v364 : IVec S16 32) (k0_hw1101 : k0_chk1101 v364), ∀ a x, ((![v364] : Fin 1 → IVec S16 32) a x).toNat < S2048.size a := fun v364 k0_hw1101 => k0_hw1101.1
theorem k0_idx1460_inb : ∀ (v364 : IVec S16 32) (k0_hw1101 : k0_chk1101 v364), ∀ a x, ((![v364] : Fin 1 → IVec S16 32) a x).toNat < S2048.size a := fun v364 k0_hw1101 => k0_hw1101.2

def k0_chk1102 (v728 : IVec S16 32) : Prop :=
  (∀ a x, ((![v728] : Fin 1 → IVec S16 32) a x).toNat < S32768.size a)
theorem k0_idx1461_inb : ∀ (v728 : IVec S16 32) (k0_hw1102 : k0_chk1102 v728), ∀ a x, ((![v728] : Fin 1 → IVec S16 32) a x).toNat < S32768.size a := fun v728 k0_hw1102 => k0_hw1102

def k0_chk1103 (v368 : IVec S16 32) : Prop :=
  (∀ a x, ((![v368] : Fin 1 → IVec S16 32) a x).toNat < S2048.size a) ∧
  (∀ a x, ((![v368] : Fin 1 → IVec S16 32) a x).toNat < S2048.size a)
theorem k0_idx1462_inb : ∀ (v368 : IVec S16 32) (k0_hw1103 : k0_chk1103 v368), ∀ a x, ((![v368] : Fin 1 → IVec S16 32) a x).toNat < S2048.size a := fun v368 k0_hw1103 => k0_hw1103.1
theorem k0_idx1463_inb : ∀ (v368 : IVec S16 32) (k0_hw1103 : k0_chk1103 v368), ∀ a x, ((![v368] : Fin 1 → IVec S16 32) a x).toNat < S2048.size a := fun v368 k0_hw1103 => k0_hw1103.2

def k0_chk1104 (v734 : IVec S16 32) : Prop :=
  (∀ a x, ((![v734] : Fin 1 → IVec S16 32) a x).toNat < S32768.size a)
theorem k0_idx1464_inb : ∀ (v734 : IVec S16 32) (k0_hw1104 : k0_chk1104 v734), ∀ a x, ((![v734] : Fin 1 → IVec S16 32) a x).toNat < S32768.size a := fun v734 k0_hw1104 => k0_hw1104

def k0_chk1105 (v372 : IVec S16 32) : Prop :=
  (∀ a x, ((![v372] : Fin 1 → IVec S16 32) a x).toNat < S2048.size a) ∧
  (∀ a x, ((![v372] : Fin 1 → IVec S16 32) a x).toNat < S2048.size a)
theorem k0_idx1465_inb : ∀ (v372 : IVec S16 32) (k0_hw1105 : k0_chk1105 v372), ∀ a x, ((![v372] : Fin 1 → IVec S16 32) a x).toNat < S2048.size a := fun v372 k0_hw1105 => k0_hw1105.1
theorem k0_idx1466_inb : ∀ (v372 : IVec S16 32) (k0_hw1105 : k0_chk1105 v372), ∀ a x, ((![v372] : Fin 1 → IVec S16 32) a x).toNat < S2048.size a := fun v372 k0_hw1105 => k0_hw1105.2

def k0_chk1106 (v740 : IVec S16 32) : Prop :=
  (∀ a x, ((![v740] : Fin 1 → IVec S16 32) a x).toNat < S32768.size a)
theorem k0_idx1467_inb : ∀ (v740 : IVec S16 32) (k0_hw1106 : k0_chk1106 v740), ∀ a x, ((![v740] : Fin 1 → IVec S16 32) a x).toNat < S32768.size a := fun v740 k0_hw1106 => k0_hw1106

def k0_chk1107 (v376 : IVec S16 32) : Prop :=
  (∀ a x, ((![v376] : Fin 1 → IVec S16 32) a x).toNat < S2048.size a) ∧
  (∀ a x, ((![v376] : Fin 1 → IVec S16 32) a x).toNat < S2048.size a)
theorem k0_idx1468_inb : ∀ (v376 : IVec S16 32) (k0_hw1107 : k0_chk1107 v376), ∀ a x, ((![v376] : Fin 1 → IVec S16 32) a x).toNat < S2048.size a := fun v376 k0_hw1107 => k0_hw1107.1
theorem k0_idx1469_inb : ∀ (v376 : IVec S16 32) (k0_hw1107 : k0_chk1107 v376), ∀ a x, ((![v376] : Fin 1 → IVec S16 32) a x).toNat < S2048.size a := fun v376 k0_hw1107 => k0_hw1107.2

def k0_chk1108 (v746 : IVec S16 32) : Prop :=
  (∀ a x, ((![v746] : Fin 1 → IVec S16 32) a x).toNat < S32768.size a)
theorem k0_idx1470_inb : ∀ (v746 : IVec S16 32) (k0_hw1108 : k0_chk1108 v746), ∀ a x, ((![v746] : Fin 1 → IVec S16 32) a x).toNat < S32768.size a := fun v746 k0_hw1108 => k0_hw1108

def k0_chk1109 (v380 : IVec S16 32) : Prop :=
  (∀ a x, ((![v380] : Fin 1 → IVec S16 32) a x).toNat < S2048.size a) ∧
  (∀ a x, ((![v380] : Fin 1 → IVec S16 32) a x).toNat < S2048.size a)
theorem k0_idx1471_inb : ∀ (v380 : IVec S16 32) (k0_hw1109 : k0_chk1109 v380), ∀ a x, ((![v380] : Fin 1 → IVec S16 32) a x).toNat < S2048.size a := fun v380 k0_hw1109 => k0_hw1109.1
theorem k0_idx1472_inb : ∀ (v380 : IVec S16 32) (k0_hw1109 : k0_chk1109 v380), ∀ a x, ((![v380] : Fin 1 → IVec S16 32) a x).toNat < S2048.size a := fun v380 k0_hw1109 => k0_hw1109.2

def k0_chk1110 (v752 : IVec S16 32) : Prop :=
  (∀ a x, ((![v752] : Fin 1 → IVec S16 32) a x).toNat < S32768.size a)
theorem k0_idx1473_inb : ∀ (v752 : IVec S16 32) (k0_hw1110 : k0_chk1110 v752), ∀ a x, ((![v752] : Fin 1 → IVec S16 32) a x).toNat < S32768.size a := fun v752 k0_hw1110 => k0_hw1110

def k0_chk1111 (v384 : IVec S16 32) : Prop :=
  (∀ a x, ((![v384] : Fin 1 → IVec S16 32) a x).toNat < S2048.size a) ∧
  (∀ a x, ((![v384] : Fin 1 → IVec S16 32) a x).toNat < S2048.size a)
theorem k0_idx1474_inb : ∀ (v384 : IVec S16 32) (k0_hw1111 : k0_chk1111 v384), ∀ a x, ((![v384] : Fin 1 → IVec S16 32) a x).toNat < S2048.size a := fun v384 k0_hw1111 => k0_hw1111.1
theorem k0_idx1475_inb : ∀ (v384 : IVec S16 32) (k0_hw1111 : k0_chk1111 v384), ∀ a x, ((![v384] : Fin 1 → IVec S16 32) a x).toNat < S2048.size a := fun v384 k0_hw1111 => k0_hw1111.2

def k0_chk1112 (v758 : IVec S16 32) : Prop :=
  (∀ a x, ((![v758] : Fin 1 → IVec S16 32) a x).toNat < S32768.size a)
theorem k0_idx1476_inb : ∀ (v758 : IVec S16 32) (k0_hw1112 : k0_chk1112 v758), ∀ a x, ((![v758] : Fin 1 → IVec S16 32) a x).toNat < S32768.size a := fun v758 k0_hw1112 => k0_hw1112

def k0_chk1113 (v388 : IVec S16 32) : Prop :=
  (∀ a x, ((![v388] : Fin 1 → IVec S16 32) a x).toNat < S2048.size a) ∧
  (∀ a x, ((![v388] : Fin 1 → IVec S16 32) a x).toNat < S2048.size a)
theorem k0_idx1477_inb : ∀ (v388 : IVec S16 32) (k0_hw1113 : k0_chk1113 v388), ∀ a x, ((![v388] : Fin 1 → IVec S16 32) a x).toNat < S2048.size a := fun v388 k0_hw1113 => k0_hw1113.1
theorem k0_idx1478_inb : ∀ (v388 : IVec S16 32) (k0_hw1113 : k0_chk1113 v388), ∀ a x, ((![v388] : Fin 1 → IVec S16 32) a x).toNat < S2048.size a := fun v388 k0_hw1113 => k0_hw1113.2

def k0_chk1114 (v764 : IVec S16 32) : Prop :=
  (∀ a x, ((![v764] : Fin 1 → IVec S16 32) a x).toNat < S32768.size a)
theorem k0_idx1479_inb : ∀ (v764 : IVec S16 32) (k0_hw1114 : k0_chk1114 v764), ∀ a x, ((![v764] : Fin 1 → IVec S16 32) a x).toNat < S32768.size a := fun v764 k0_hw1114 => k0_hw1114

def k0_chk1115 (v392 : IVec S16 32) : Prop :=
  (∀ a x, ((![v392] : Fin 1 → IVec S16 32) a x).toNat < S2048.size a) ∧
  (∀ a x, ((![v392] : Fin 1 → IVec S16 32) a x).toNat < S2048.size a)
theorem k0_idx1480_inb : ∀ (v392 : IVec S16 32) (k0_hw1115 : k0_chk1115 v392), ∀ a x, ((![v392] : Fin 1 → IVec S16 32) a x).toNat < S2048.size a := fun v392 k0_hw1115 => k0_hw1115.1
theorem k0_idx1481_inb : ∀ (v392 : IVec S16 32) (k0_hw1115 : k0_chk1115 v392), ∀ a x, ((![v392] : Fin 1 → IVec S16 32) a x).toNat < S2048.size a := fun v392 k0_hw1115 => k0_hw1115.2

def k0_chk1116 (v770 : IVec S16 32) : Prop :=
  (∀ a x, ((![v770] : Fin 1 → IVec S16 32) a x).toNat < S32768.size a)
theorem k0_idx1482_inb : ∀ (v770 : IVec S16 32) (k0_hw1116 : k0_chk1116 v770), ∀ a x, ((![v770] : Fin 1 → IVec S16 32) a x).toNat < S32768.size a := fun v770 k0_hw1116 => k0_hw1116

def k0_chk1117 (v396 : IVec S16 32) : Prop :=
  (∀ a x, ((![v396] : Fin 1 → IVec S16 32) a x).toNat < S2048.size a) ∧
  (∀ a x, ((![v396] : Fin 1 → IVec S16 32) a x).toNat < S2048.size a)
theorem k0_idx1483_inb : ∀ (v396 : IVec S16 32) (k0_hw1117 : k0_chk1117 v396), ∀ a x, ((![v396] : Fin 1 → IVec S16 32) a x).toNat < S2048.size a := fun v396 k0_hw1117 => k0_hw1117.1
theorem k0_idx1484_inb : ∀ (v396 : IVec S16 32) (k0_hw1117 : k0_chk1117 v396), ∀ a x, ((![v396] : Fin 1 → IVec S16 32) a x).toNat < S2048.size a := fun v396 k0_hw1117 => k0_hw1117.2

def k0_chk1118 (v776 : IVec S16 32) : Prop :=
  (∀ a x, ((![v776] : Fin 1 → IVec S16 32) a x).toNat < S32768.size a)
theorem k0_idx1485_inb : ∀ (v776 : IVec S16 32) (k0_hw1118 : k0_chk1118 v776), ∀ a x, ((![v776] : Fin 1 → IVec S16 32) a x).toNat < S32768.size a := fun v776 k0_hw1118 => k0_hw1118

def k0_chk1119 (v400 : IVec S16 32) : Prop :=
  (∀ a x, ((![v400] : Fin 1 → IVec S16 32) a x).toNat < S2048.size a) ∧
  (∀ a x, ((![v400] : Fin 1 → IVec S16 32) a x).toNat < S2048.size a)
theorem k0_idx1486_inb : ∀ (v400 : IVec S16 32) (k0_hw1119 : k0_chk1119 v400), ∀ a x, ((![v400] : Fin 1 → IVec S16 32) a x).toNat < S2048.size a := fun v400 k0_hw1119 => k0_hw1119.1
theorem k0_idx1487_inb : ∀ (v400 : IVec S16 32) (k0_hw1119 : k0_chk1119 v400), ∀ a x, ((![v400] : Fin 1 → IVec S16 32) a x).toNat < S2048.size a := fun v400 k0_hw1119 => k0_hw1119.2

def k0_chk1120 (v782 : IVec S16 32) : Prop :=
  (∀ a x, ((![v782] : Fin 1 → IVec S16 32) a x).toNat < S32768.size a)
theorem k0_idx1488_inb : ∀ (v782 : IVec S16 32) (k0_hw1120 : k0_chk1120 v782), ∀ a x, ((![v782] : Fin 1 → IVec S16 32) a x).toNat < S32768.size a := fun v782 k0_hw1120 => k0_hw1120

def k0_chk1121 (v404 : IVec S16 32) : Prop :=
  (∀ a x, ((![v404] : Fin 1 → IVec S16 32) a x).toNat < S2048.size a) ∧
  (∀ a x, ((![v404] : Fin 1 → IVec S16 32) a x).toNat < S2048.size a)
theorem k0_idx1489_inb : ∀ (v404 : IVec S16 32) (k0_hw1121 : k0_chk1121 v404), ∀ a x, ((![v404] : Fin 1 → IVec S16 32) a x).toNat < S2048.size a := fun v404 k0_hw1121 => k0_hw1121.1
theorem k0_idx1490_inb : ∀ (v404 : IVec S16 32) (k0_hw1121 : k0_chk1121 v404), ∀ a x, ((![v404] : Fin 1 → IVec S16 32) a x).toNat < S2048.size a := fun v404 k0_hw1121 => k0_hw1121.2

def k0_chk1122 (v788 : IVec S16 32) : Prop :=
  (∀ a x, ((![v788] : Fin 1 → IVec S16 32) a x).toNat < S32768.size a)
theorem k0_idx1491_inb : ∀ (v788 : IVec S16 32) (k0_hw1122 : k0_chk1122 v788), ∀ a x, ((![v788] : Fin 1 → IVec S16 32) a x).toNat < S32768.size a := fun v788 k0_hw1122 => k0_hw1122

def k0_chk1123 (v408 : IVec S16 32) : Prop :=
  (∀ a x, ((![v408] : Fin 1 → IVec S16 32) a x).toNat < S2048.size a) ∧
  (∀ a x, ((![v408] : Fin 1 → IVec S16 32) a x).toNat < S2048.size a)
theorem k0_idx1492_inb : ∀ (v408 : IVec S16 32) (k0_hw1123 : k0_chk1123 v408), ∀ a x, ((![v408] : Fin 1 → IVec S16 32) a x).toNat < S2048.size a := fun v408 k0_hw1123 => k0_hw1123.1
theorem k0_idx1493_inb : ∀ (v408 : IVec S16 32) (k0_hw1123 : k0_chk1123 v408), ∀ a x, ((![v408] : Fin 1 → IVec S16 32) a x).toNat < S2048.size a := fun v408 k0_hw1123 => k0_hw1123.2

def k0_chk1124 (v794 : IVec S16 32) : Prop :=
  (∀ a x, ((![v794] : Fin 1 → IVec S16 32) a x).toNat < S32768.size a)
theorem k0_idx1494_inb : ∀ (v794 : IVec S16 32) (k0_hw1124 : k0_chk1124 v794), ∀ a x, ((![v794] : Fin 1 → IVec S16 32) a x).toNat < S32768.size a := fun v794 k0_hw1124 => k0_hw1124

def k0_chk1125 (v412 : IVec S16 32) : Prop :=
  (∀ a x, ((![v412] : Fin 1 → IVec S16 32) a x).toNat < S2048.size a) ∧
  (∀ a x, ((![v412] : Fin 1 → IVec S16 32) a x).toNat < S2048.size a)
theorem k0_idx1495_inb : ∀ (v412 : IVec S16 32) (k0_hw1125 : k0_chk1125 v412), ∀ a x, ((![v412] : Fin 1 → IVec S16 32) a x).toNat < S2048.size a := fun v412 k0_hw1125 => k0_hw1125.1
theorem k0_idx1496_inb : ∀ (v412 : IVec S16 32) (k0_hw1125 : k0_chk1125 v412), ∀ a x, ((![v412] : Fin 1 → IVec S16 32) a x).toNat < S2048.size a := fun v412 k0_hw1125 => k0_hw1125.2

def k0_chk1126 (v800 : IVec S16 32) : Prop :=
  (∀ a x, ((![v800] : Fin 1 → IVec S16 32) a x).toNat < S32768.size a)
theorem k0_idx1497_inb : ∀ (v800 : IVec S16 32) (k0_hw1126 : k0_chk1126 v800), ∀ a x, ((![v800] : Fin 1 → IVec S16 32) a x).toNat < S32768.size a := fun v800 k0_hw1126 => k0_hw1126

def k0_chk1127 (v416 : IVec S16 32) : Prop :=
  (∀ a x, ((![v416] : Fin 1 → IVec S16 32) a x).toNat < S2048.size a) ∧
  (∀ a x, ((![v416] : Fin 1 → IVec S16 32) a x).toNat < S2048.size a)
theorem k0_idx1498_inb : ∀ (v416 : IVec S16 32) (k0_hw1127 : k0_chk1127 v416), ∀ a x, ((![v416] : Fin 1 → IVec S16 32) a x).toNat < S2048.size a := fun v416 k0_hw1127 => k0_hw1127.1
theorem k0_idx1499_inb : ∀ (v416 : IVec S16 32) (k0_hw1127 : k0_chk1127 v416), ∀ a x, ((![v416] : Fin 1 → IVec S16 32) a x).toNat < S2048.size a := fun v416 k0_hw1127 => k0_hw1127.2

def k0_chk1128 (v806 : IVec S16 32) : Prop :=
  (∀ a x, ((![v806] : Fin 1 → IVec S16 32) a x).toNat < S32768.size a)
theorem k0_idx1500_inb : ∀ (v806 : IVec S16 32) (k0_hw1128 : k0_chk1128 v806), ∀ a x, ((![v806] : Fin 1 → IVec S16 32) a x).toNat < S32768.size a := fun v806 k0_hw1128 => k0_hw1128

def k0_chk1129 (v420 : IVec S16 32) : Prop :=
  (∀ a x, ((![v420] : Fin 1 → IVec S16 32) a x).toNat < S2048.size a) ∧
  (∀ a x, ((![v420] : Fin 1 → IVec S16 32) a x).toNat < S2048.size a)
theorem k0_idx1501_inb : ∀ (v420 : IVec S16 32) (k0_hw1129 : k0_chk1129 v420), ∀ a x, ((![v420] : Fin 1 → IVec S16 32) a x).toNat < S2048.size a := fun v420 k0_hw1129 => k0_hw1129.1
theorem k0_idx1502_inb : ∀ (v420 : IVec S16 32) (k0_hw1129 : k0_chk1129 v420), ∀ a x, ((![v420] : Fin 1 → IVec S16 32) a x).toNat < S2048.size a := fun v420 k0_hw1129 => k0_hw1129.2

def k0_chk1130 (v812 : IVec S16 32) : Prop :=
  (∀ a x, ((![v812] : Fin 1 → IVec S16 32) a x).toNat < S32768.size a)
theorem k0_idx1503_inb : ∀ (v812 : IVec S16 32) (k0_hw1130 : k0_chk1130 v812), ∀ a x, ((![v812] : Fin 1 → IVec S16 32) a x).toNat < S32768.size a := fun v812 k0_hw1130 => k0_hw1130

def k0_chk1131 (v424 : IVec S16 32) : Prop :=
  (∀ a x, ((![v424] : Fin 1 → IVec S16 32) a x).toNat < S2048.size a) ∧
  (∀ a x, ((![v424] : Fin 1 → IVec S16 32) a x).toNat < S2048.size a)
theorem k0_idx1504_inb : ∀ (v424 : IVec S16 32) (k0_hw1131 : k0_chk1131 v424), ∀ a x, ((![v424] : Fin 1 → IVec S16 32) a x).toNat < S2048.size a := fun v424 k0_hw1131 => k0_hw1131.1
theorem k0_idx1505_inb : ∀ (v424 : IVec S16 32) (k0_hw1131 : k0_chk1131 v424), ∀ a x, ((![v424] : Fin 1 → IVec S16 32) a x).toNat < S2048.size a := fun v424 k0_hw1131 => k0_hw1131.2

def k0_chk1132 (v818 : IVec S16 32) : Prop :=
  (∀ a x, ((![v818] : Fin 1 → IVec S16 32) a x).toNat < S32768.size a)
theorem k0_idx1506_inb : ∀ (v818 : IVec S16 32) (k0_hw1132 : k0_chk1132 v818), ∀ a x, ((![v818] : Fin 1 → IVec S16 32) a x).toNat < S32768.size a := fun v818 k0_hw1132 => k0_hw1132

def k0_chk1133 (v428 : IVec S16 32) : Prop :=
  (∀ a x, ((![v428] : Fin 1 → IVec S16 32) a x).toNat < S2048.size a) ∧
  (∀ a x, ((![v428] : Fin 1 → IVec S16 32) a x).toNat < S2048.size a)
theorem k0_idx1507_inb : ∀ (v428 : IVec S16 32) (k0_hw1133 : k0_chk1133 v428), ∀ a x, ((![v428] : Fin 1 → IVec S16 32) a x).toNat < S2048.size a := fun v428 k0_hw1133 => k0_hw1133.1
theorem k0_idx1508_inb : ∀ (v428 : IVec S16 32) (k0_hw1133 : k0_chk1133 v428), ∀ a x, ((![v428] : Fin 1 → IVec S16 32) a x).toNat < S2048.size a := fun v428 k0_hw1133 => k0_hw1133.2

def k0_chk1134 (v824 : IVec S16 32) : Prop :=
  (∀ a x, ((![v824] : Fin 1 → IVec S16 32) a x).toNat < S32768.size a)
theorem k0_idx1509_inb : ∀ (v824 : IVec S16 32) (k0_hw1134 : k0_chk1134 v824), ∀ a x, ((![v824] : Fin 1 → IVec S16 32) a x).toNat < S32768.size a := fun v824 k0_hw1134 => k0_hw1134

def k0_chk1135 (v432 : IVec S16 32) : Prop :=
  (∀ a x, ((![v432] : Fin 1 → IVec S16 32) a x).toNat < S2048.size a) ∧
  (∀ a x, ((![v432] : Fin 1 → IVec S16 32) a x).toNat < S2048.size a)
theorem k0_idx1510_inb : ∀ (v432 : IVec S16 32) (k0_hw1135 : k0_chk1135 v432), ∀ a x, ((![v432] : Fin 1 → IVec S16 32) a x).toNat < S2048.size a := fun v432 k0_hw1135 => k0_hw1135.1
theorem k0_idx1511_inb : ∀ (v432 : IVec S16 32) (k0_hw1135 : k0_chk1135 v432), ∀ a x, ((![v432] : Fin 1 → IVec S16 32) a x).toNat < S2048.size a := fun v432 k0_hw1135 => k0_hw1135.2

def k0_chk1136 (v830 : IVec S16 32) : Prop :=
  (∀ a x, ((![v830] : Fin 1 → IVec S16 32) a x).toNat < S32768.size a)
theorem k0_idx1512_inb : ∀ (v830 : IVec S16 32) (k0_hw1136 : k0_chk1136 v830), ∀ a x, ((![v830] : Fin 1 → IVec S16 32) a x).toNat < S32768.size a := fun v830 k0_hw1136 => k0_hw1136

def k0_chk1137 (v436 : IVec S16 32) : Prop :=
  (∀ a x, ((![v436] : Fin 1 → IVec S16 32) a x).toNat < S2048.size a) ∧
  (∀ a x, ((![v436] : Fin 1 → IVec S16 32) a x).toNat < S2048.size a)
theorem k0_idx1513_inb : ∀ (v436 : IVec S16 32) (k0_hw1137 : k0_chk1137 v436), ∀ a x, ((![v436] : Fin 1 → IVec S16 32) a x).toNat < S2048.size a := fun v436 k0_hw1137 => k0_hw1137.1
theorem k0_idx1514_inb : ∀ (v436 : IVec S16 32) (k0_hw1137 : k0_chk1137 v436), ∀ a x, ((![v436] : Fin 1 → IVec S16 32) a x).toNat < S2048.size a := fun v436 k0_hw1137 => k0_hw1137.2

def k0_chk1138 (v836 : IVec S16 32) : Prop :=
  (∀ a x, ((![v836] : Fin 1 → IVec S16 32) a x).toNat < S32768.size a)
theorem k0_idx1515_inb : ∀ (v836 : IVec S16 32) (k0_hw1138 : k0_chk1138 v836), ∀ a x, ((![v836] : Fin 1 → IVec S16 32) a x).toNat < S32768.size a := fun v836 k0_hw1138 => k0_hw1138

def k0_chk1139 (v440 : IVec S16 32) : Prop :=
  (∀ a x, ((![v440] : Fin 1 → IVec S16 32) a x).toNat < S2048.size a) ∧
  (∀ a x, ((![v440] : Fin 1 → IVec S16 32) a x).toNat < S2048.size a)
theorem k0_idx1516_inb : ∀ (v440 : IVec S16 32) (k0_hw1139 : k0_chk1139 v440), ∀ a x, ((![v440] : Fin 1 → IVec S16 32) a x).toNat < S2048.size a := fun v440 k0_hw1139 => k0_hw1139.1
theorem k0_idx1517_inb : ∀ (v440 : IVec S16 32) (k0_hw1139 : k0_chk1139 v440), ∀ a x, ((![v440] : Fin 1 → IVec S16 32) a x).toNat < S2048.size a := fun v440 k0_hw1139 => k0_hw1139.2

def k0_chk1140 (v842 : IVec S16 32) : Prop :=
  (∀ a x, ((![v842] : Fin 1 → IVec S16 32) a x).toNat < S32768.size a)
theorem k0_idx1518_inb : ∀ (v842 : IVec S16 32) (k0_hw1140 : k0_chk1140 v842), ∀ a x, ((![v842] : Fin 1 → IVec S16 32) a x).toNat < S32768.size a := fun v842 k0_hw1140 => k0_hw1140

def k0_chk1141 (v444 : IVec S16 32) : Prop :=
  (∀ a x, ((![v444] : Fin 1 → IVec S16 32) a x).toNat < S2048.size a) ∧
  (∀ a x, ((![v444] : Fin 1 → IVec S16 32) a x).toNat < S2048.size a)
theorem k0_idx1519_inb : ∀ (v444 : IVec S16 32) (k0_hw1141 : k0_chk1141 v444), ∀ a x, ((![v444] : Fin 1 → IVec S16 32) a x).toNat < S2048.size a := fun v444 k0_hw1141 => k0_hw1141.1
theorem k0_idx1520_inb : ∀ (v444 : IVec S16 32) (k0_hw1141 : k0_chk1141 v444), ∀ a x, ((![v444] : Fin 1 → IVec S16 32) a x).toNat < S2048.size a := fun v444 k0_hw1141 => k0_hw1141.2

def k0_chk1142 (v848 : IVec S16 32) : Prop :=
  (∀ a x, ((![v848] : Fin 1 → IVec S16 32) a x).toNat < S32768.size a)
theorem k0_idx1521_inb : ∀ (v848 : IVec S16 32) (k0_hw1142 : k0_chk1142 v848), ∀ a x, ((![v848] : Fin 1 → IVec S16 32) a x).toNat < S32768.size a := fun v848 k0_hw1142 => k0_hw1142

def k0_chk1143 (v448 : IVec S16 32) : Prop :=
  (∀ a x, ((![v448] : Fin 1 → IVec S16 32) a x).toNat < S2048.size a) ∧
  (∀ a x, ((![v448] : Fin 1 → IVec S16 32) a x).toNat < S2048.size a)
theorem k0_idx1522_inb : ∀ (v448 : IVec S16 32) (k0_hw1143 : k0_chk1143 v448), ∀ a x, ((![v448] : Fin 1 → IVec S16 32) a x).toNat < S2048.size a := fun v448 k0_hw1143 => k0_hw1143.1
theorem k0_idx1523_inb : ∀ (v448 : IVec S16 32) (k0_hw1143 : k0_chk1143 v448), ∀ a x, ((![v448] : Fin 1 → IVec S16 32) a x).toNat < S2048.size a := fun v448 k0_hw1143 => k0_hw1143.2

def k0_chk1144 (v854 : IVec S16 32) : Prop :=
  (∀ a x, ((![v854] : Fin 1 → IVec S16 32) a x).toNat < S32768.size a)
theorem k0_idx1524_inb : ∀ (v854 : IVec S16 32) (k0_hw1144 : k0_chk1144 v854), ∀ a x, ((![v854] : Fin 1 → IVec S16 32) a x).toNat < S32768.size a := fun v854 k0_hw1144 => k0_hw1144

def k0_chk1145 (v452 : IVec S16 32) : Prop :=
  (∀ a x, ((![v452] : Fin 1 → IVec S16 32) a x).toNat < S2048.size a) ∧
  (∀ a x, ((![v452] : Fin 1 → IVec S16 32) a x).toNat < S2048.size a)
theorem k0_idx1525_inb : ∀ (v452 : IVec S16 32) (k0_hw1145 : k0_chk1145 v452), ∀ a x, ((![v452] : Fin 1 → IVec S16 32) a x).toNat < S2048.size a := fun v452 k0_hw1145 => k0_hw1145.1
theorem k0_idx1526_inb : ∀ (v452 : IVec S16 32) (k0_hw1145 : k0_chk1145 v452), ∀ a x, ((![v452] : Fin 1 → IVec S16 32) a x).toNat < S2048.size a := fun v452 k0_hw1145 => k0_hw1145.2

def k0_chk1146 (v860 : IVec S16 32) : Prop :=
  (∀ a x, ((![v860] : Fin 1 → IVec S16 32) a x).toNat < S32768.size a)
theorem k0_idx1527_inb : ∀ (v860 : IVec S16 32) (k0_hw1146 : k0_chk1146 v860), ∀ a x, ((![v860] : Fin 1 → IVec S16 32) a x).toNat < S32768.size a := fun v860 k0_hw1146 => k0_hw1146

def k0_chk1147 (v456 : IVec S16 32) : Prop :=
  (∀ a x, ((![v456] : Fin 1 → IVec S16 32) a x).toNat < S2048.size a) ∧
  (∀ a x, ((![v456] : Fin 1 → IVec S16 32) a x).toNat < S2048.size a)
theorem k0_idx1528_inb : ∀ (v456 : IVec S16 32) (k0_hw1147 : k0_chk1147 v456), ∀ a x, ((![v456] : Fin 1 → IVec S16 32) a x).toNat < S2048.size a := fun v456 k0_hw1147 => k0_hw1147.1
theorem k0_idx1529_inb : ∀ (v456 : IVec S16 32) (k0_hw1147 : k0_chk1147 v456), ∀ a x, ((![v456] : Fin 1 → IVec S16 32) a x).toNat < S2048.size a := fun v456 k0_hw1147 => k0_hw1147.2

def k0_chk1148 (v866 : IVec S16 32) : Prop :=
  (∀ a x, ((![v866] : Fin 1 → IVec S16 32) a x).toNat < S32768.size a)
theorem k0_idx1530_inb : ∀ (v866 : IVec S16 32) (k0_hw1148 : k0_chk1148 v866), ∀ a x, ((![v866] : Fin 1 → IVec S16 32) a x).toNat < S32768.size a := fun v866 k0_hw1148 => k0_hw1148

def k0_chk1149 (v460 : IVec S16 32) : Prop :=
  (∀ a x, ((![v460] : Fin 1 → IVec S16 32) a x).toNat < S2048.size a) ∧
  (∀ a x, ((![v460] : Fin 1 → IVec S16 32) a x).toNat < S2048.size a)
theorem k0_idx1531_inb : ∀ (v460 : IVec S16 32) (k0_hw1149 : k0_chk1149 v460), ∀ a x, ((![v460] : Fin 1 → IVec S16 32) a x).toNat < S2048.size a := fun v460 k0_hw1149 => k0_hw1149.1
theorem k0_idx1532_inb : ∀ (v460 : IVec S16 32) (k0_hw1149 : k0_chk1149 v460), ∀ a x, ((![v460] : Fin 1 → IVec S16 32) a x).toNat < S2048.size a := fun v460 k0_hw1149 => k0_hw1149.2

def k0_chk1150 (v872 : IVec S16 32) : Prop :=
  (∀ a x, ((![v872] : Fin 1 → IVec S16 32) a x).toNat < S32768.size a)
theorem k0_idx1533_inb : ∀ (v872 : IVec S16 32) (k0_hw1150 : k0_chk1150 v872), ∀ a x, ((![v872] : Fin 1 → IVec S16 32) a x).toNat < S32768.size a := fun v872 k0_hw1150 => k0_hw1150

def k0_chk1151 (v464 : IVec S16 32) : Prop :=
  (∀ a x, ((![v464] : Fin 1 → IVec S16 32) a x).toNat < S2048.size a) ∧
  (∀ a x, ((![v464] : Fin 1 → IVec S16 32) a x).toNat < S2048.size a)
theorem k0_idx1534_inb : ∀ (v464 : IVec S16 32) (k0_hw1151 : k0_chk1151 v464), ∀ a x, ((![v464] : Fin 1 → IVec S16 32) a x).toNat < S2048.size a := fun v464 k0_hw1151 => k0_hw1151.1
theorem k0_idx1535_inb : ∀ (v464 : IVec S16 32) (k0_hw1151 : k0_chk1151 v464), ∀ a x, ((![v464] : Fin 1 → IVec S16 32) a x).toNat < S2048.size a := fun v464 k0_hw1151 => k0_hw1151.2

def k0_chk1152 (v878 : IVec S16 32) : Prop :=
  (∀ a x, ((![v878] : Fin 1 → IVec S16 32) a x).toNat < S32768.size a)
theorem k0_idx1536_inb : ∀ (v878 : IVec S16 32) (k0_hw1152 : k0_chk1152 v878), ∀ a x, ((![v878] : Fin 1 → IVec S16 32) a x).toNat < S32768.size a := fun v878 k0_hw1152 => k0_hw1152
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S128x32768 : Shape := ⟨2, ![128, 32768]⟩

abbrev nBuf : Space → Nat
  | .hbm => 2
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Body.lean ====
module

public import proofs.«01_k».proof.Proof.Gen.Kernel

/-! The tile's program, written once: every loop of the printed kernel is one of six regions, at a choice of
buffers and of digit; each printed part is the sequence of these, by definitional unfolding. -/

@[expose] public section
set_option synthInstance.maxSize 4096
noncomputable section

namespace Cert.Kernel.Radix
open Cert.Kernel Cert.Kernel.Gen
open Idealize.ShloMosaic Idealize.SL.Sem

variable {F : FTy → Type} [BitOps F]

/-! ## The loops' ranges and the rectangles -/

/-- A sweep's 64 trips. -/
@[reducible] def L64 : Scf.Loop 32 := ⟨0#32, Scalar.addi 0#32 64#32, 1#32⟩

/-- A table loop's trips: 64 (`b`) where the digit has 10 bits, 128 where it has 11. -/
@[reducible] def LB (b : Bool) : Scf.Loop 32 := ⟨0#32, Scalar.addi 0#32 (cond b 64#32 128#32), 1#32⟩

/-- The clearing loop's 256 trips. -/
@[reducible] def L256 : Scf.Loop 32 := ⟨0#32, Scalar.addi 0#32 256#32, 1#32⟩

/-- The sweep's loop runs its stated trips. -/
theorem L64_ok : L64.OK := k0_t4_ok
/-- A table loop runs its stated trips. -/
theorem LB_ok (b : Bool) : (LB b).OK := by
  cases b
  · exact k0_t5_ok
  · exact k0_t13_ok
/-- The clearing loop runs its stated trips. -/
theorem L256_ok : L256.OK := k0_t1_ok

/-- Where a slot's sixteen elements begin. -/
def slotOff (t : Fin L64.trips) (c j : BitVec 32) : Fin 1 → Nat :=
  ![(Scalar.indexCast (Scalar.muli (Scalar.addi (Scalar.addi c (Scalar.muli (Scf.iv 0#32 1#32 t) 16#32)) j) 16#32) : Index).toNat]

/-- A slot's sixteen begin at the half, plus 256 a trip, plus 16 a slot. -/
theorem slotOff_eq (t : Fin L64.trips) (c : Fin 2) (j : Fin 16) :
    slotOff t (BitVec.ofNat 32 (1024 * c.val)) (BitVec.ofNat 32 j.val) = ![16384 * c.val + 256 * t.val + 16 * j.val] :=
  k0_off6_eq t c j

/-- A slot's sixteen lie in the row. -/
theorem slotInb (t : Fin L64.trips) (c : Fin 2) (j : Fin 16) :
    ∀ a, slotOff t (BitVec.ofNat 32 (1024 * c.val)) (BitVec.ofNat 32 j.val) a + S16.size a ≤ S32768.size a :=
  k0_off6_inb t c j

/-- The sixteen table entries of trip `t`. -/
def offA (L : Scf.Loop 32) (t : Fin L.trips) : Fin 1 → Nat :=
  ![(Scalar.indexCast (Scalar.muli (Scf.iv 0#32 1#32 t) 16#32) : Index).toNat]

/-- The same sixteen entries in the second half of a histogram. -/
def offB (L : Scf.Loop 32) (t : Fin L.trips) : Fin 1 → Nat :=
  ![(Scalar.indexCast (Scalar.addi 2048#32 (Scalar.muli (Scf.iv 0#32 1#32 t) 16#32)) : Index).toNat]

/-- Trip `t` of a table loop begins at entry `16 t`. -/
theorem offA_eq (b : Bool) (t : Fin (LB b).trips) : offA (LB b) t = ![16 * t.val] := by
  cases b
  · exact k0_off7_eq t
  · exact k0_off23_eq t
/-- In a histogram's second half it begins at entry `16 t + 2048`. -/
theorem offB_eq (b : Bool) (t : Fin (LB b).trips) : offB (LB b) t = ![16 * t.val + 2048] := by
  cases b
  · exact k0_off8_eq t
  · exact k0_off24_eq t
/-- Trip `t` of the clearing loop begins at entry `16 t`. -/
theorem offZ_eq (t : Fin L256.trips) : offA L256 t = ![16 * t.val] := k0_off1_eq t
/-- A table trip's sixteen lie in the histogram. -/
theorem offA_inb (b : Bool) (t : Fin (LB b).trips) : ∀ a, offA (LB b) t a + S16.size a ≤ S4096.size a := by
  cases b
  · exact k0_off7_inb t
  · exact k0_off23_inb t
/-- Its sixteen in the second half lie in the histogram. -/
theorem offB_inb (b : Bool) (t : Fin (LB b).trips) : ∀ a, offB (LB b) t a + S16.size a ≤ S4096.size a := by
  cases b
  · exact k0_off8_inb t
  · exact k0_off24_inb t
/-- A table trip's sixteen lie in a digit table. -/
theorem offG_inb (b : Bool) (t : Fin (LB b).trips) : ∀ a, offA (LB b) t a + S16.size a ≤ S2048.size a := by
  cases b
  · exact k0_off9_inb t
  · exact k0_off25_inb t
/-- A clearing trip's sixteen lie in the histogram. -/
theorem offZ_inb (t : Fin L256.trips) : ∀ a, offA L256 t a + S16.size a ≤ S4096.size a := k0_off1_inb t

/-! ## The checks a scatter or gather is made under -/

/-- A vector of sixteen words. -/
abbrev V16 := IVec S16 32

/-- Every lane inside a digit table (said for the load and for the store). -/
def chkP (v : V16) : Prop :=
  (∀ a x, ((![v] : Fin 1 → V16) a x).toNat < S2048.size a) ∧ (∀ a x, ((![v] : Fin 1 → V16) a x).toNat < S2048.size a)
/-- Being inside a digit table is decidable. -/
instance chkP.dec (v) : Decidable (chkP v) := decidable_of_iff' _ (Iff.of_eq (chkP.eq_1 v))
/-- Every lane inside a row. -/
def chkB (v : V16) : Prop := ∀ a x, ((![v] : Fin 1 → V16) a x).toNat < S32768.size a
/-- Being inside a row is decidable. -/
instance chkB.dec (v) : Decidable (chkB v) := decidable_of_iff' _ (Iff.of_eq (chkB.eq_1 v))
/-- Every lane inside a histogram. -/
def chkH (v : V16) : Prop := ∀ a x, ((![v] : Fin 1 → V16) a x).toNat < S4096.size a
/-- Being inside a histogram is decidable. -/
instance chkH.dec (v) : Decidable (chkH v) := decidable_of_iff' _ (Iff.of_eq (chkH.eq_1 v))

/-- A vector that passes the digit-table test names only its entries. -/
theorem chkP.inb {v : V16} (h : chkP v) : ∀ a x, ((![v] : Fin 1 → V16) a x).toNat < S2048.size a := h.1
/-- A vector that passes the row test names only its elements. -/
theorem chkB.inb {v : V16} (h : chkB v) : ∀ a x, ((![v] : Fin 1 → V16) a x).toNat < S32768.size a := h
/-- A vector that passes the histogram test names only its entries. -/
theorem chkH.inb {v : V16} (h : chkH v) : ∀ a x, ((![v] : Fin 1 → V16) a x).toNat < S4096.size a := h

/-! ## Lane arithmetic -/

/-- Every lane enabled. -/
abbrev ones : IVec S16 1 := broadcast S16 1#1

/-- The order-preserving image of a float's bits. -/
def toKey (v : V16) : V16 := xori v (ori (shrsi v (broadcast S16 31#32)) (broadcast S16 2147483648#32))

/-- Its inverse. -/
def fromKey (v : V16) : V16 :=
  xori v (ori (xori (shrsi v (broadcast S16 31#32)) (constantI S16 32 4294967295#32)) (broadcast S16 2147483648#32))

/-- The digit of each lane. -/
def digV (sh mk : BitVec 32) (v : V16) : V16 := andi (shrui v (broadcast S16 sh)) (broadcast S16 mk)

/-- The histogram entry of a key bound for position `off`. -/
def idxV (sh mk : BitVec 32) (key off : V16) : V16 :=
  ori (shli (shrui off (broadcast S16 14#32)) (broadcast S16 11#32)) (digV sh mk key)

/-! ## A sweep's stages, over a list of slots -/

structure Slot where
  c : Fin 2
  key : V16
structure DSlot where
  c : Fin 2
  key : V16
  dig : V16
  ok : chkP dig
structure HSlot where
  idx : V16
  ok : chkH idx
structure OSlot where
  key : V16
  off : V16

/-- The slots in the order of the code: the two halves of the row alternate. -/
def slots : List (Fin 2 × Fin 16) :=
  [(0,0),(1,0),(0,1),(1,1),(0,2),(1,2),(0,3),(1,3),(0,4),(1,4),(0,5),(1,5),(0,6),(1,6),(0,7),(1,7),
   (0,8),(1,8),(0,9),(1,9),(0,10),(1,10),(0,11),(1,11),(0,12),(1,12),(0,13),(1,13),(0,14),(1,14),(0,15),(1,15)]

section Stages
variable {α : Type} {x : Fin τ.nSC} {y : Fin τ.nSub}

/-- Load each slot's sixteen elements. -/
def loadSlots (src : Memref sig .scVector .vmem S32768 .i32) (t : Fin L64.trips) (kf : V16 → V16) :
    List (Fin 2 × Fin 16) → (List Slot → Prog (TpuEff nD τ sig (Elt F) Λ₀ (.scVector x y)) α) → Prog (TpuEff nD τ sig (Elt F) Λ₀ (.scVector x y)) α
  | [], k => k []
  | s :: ss, k => .op (.load (Val := Elt F) (e := .i32) src (Rect.unit (s := S32768) (slotOff t (BitVec.ofNat 32 (1024 * s.1.val)) (BitVec.ofNat 32 s.2.val)) S16.size (slotInb t s.1 s.2)).toLoadRect (View.loadsAt_vmem h_S16))
      fun (v : Vec F S16 .i32) => loadSlots src t kf ss fun xs => k (⟨s.1, kf v⟩ :: xs)

/-- Each slot's digits, checked. -/
def digSlots (sh mk : BitVec 32) :
    List Slot → (List DSlot → Prog (TpuEff nD τ sig (Elt F) Λ₀ (.scVector x y)) α) → Prog (TpuEff nD τ sig (Elt F) Λ₀ (.scVector x y)) α
  | [], k => k []
  | s :: ss, k => .op (.assume (chkP (digV sh mk s.key)) (chkP.dec _)) fun h => digSlots sh mk ss fun ds => k (⟨s.c, s.key, digV sh mk s.key, h.down⟩ :: ds)

/-- Read each slot's pointers, advance them, and scatter its keys to where they point. -/
def permSlots (lo hi : Memref sig .scVector .vmem S2048 .i32) (dst : Memref sig .scVector .vmem S32768 .i32) (vf : V16 → V16) :
    List DSlot → (List OSlot → Prog (TpuEff nD τ sig (Elt F) Λ₀ (.scVector x y)) α) → Prog (TpuEff nD τ sig (Elt F) Λ₀ (.scVector x y)) α
  | [], k => k []
  | s :: ss, k =>
    SparseCore.vectorLoadIdx (F := F) (if s.c.val = 0 then lo else hi) ![s.dig] s.ok.inb (View.loads_vmem h_S2048) >>= fun b =>
    SparseCore.vectorStoreIdx (F := F) (e := .i32) (if s.c.val = 0 then lo else hi) ![s.dig] (addi b (scanCount ones s.dig).2) (scanCount ones s.dig).1 false s.ok.inb (View.stores_vmem_bits_univ h_S2048 rfl) >>= fun _ =>
    .op (.assume (chkB (subi (addi b (scanCount ones s.dig).2) (broadcast S16 1#32))) (chkB.dec _)) fun h =>
    SparseCore.vectorStoreIdx (F := F) (e := .i32) dst ![subi (addi b (scanCount ones s.dig).2) (broadcast S16 1#32)] (vf s.key) (fun _ => 1#1) false h.down.inb (View.stores_vmem_bits_univ h_S32768 rfl) >>= fun _ =>
    permSlots lo hi dst vf ss fun os => k (⟨s.key, subi (addi b (scanCount ones s.dig).2) (broadcast S16 1#32)⟩ :: os)

/-- Each slot's entries of the next histogram, checked. -/
def idxSlots (sh mk : BitVec 32) :
    List OSlot → (List HSlot → Prog (TpuEff nD τ sig (Elt F) Λ₀ (.scVector x y)) α) → Prog (TpuEff nD τ sig (Elt F) Λ₀ (.scVector x y)) α
  | [], k => k []
  | s :: ss, k => .op (.assume (chkH (idxV sh mk s.key s.off)) (chkH.dec _)) fun h => idxSlots sh mk ss fun ds => k (⟨idxV sh mk s.key s.off, h.down⟩ :: ds)

/-- Count each slot into the next histogram. -/
def histSlots (hist : Memref sig .scVector .vmem S4096 .i32) :
    List HSlot → Prog (TpuEff nD τ sig (Elt F) Λ₀ (.scVector x y)) Unit
  | [] => .ret ⟨⟩
  | s :: ss =>
    SparseCore.vectorStoreIdx (F := F) (e := .i32) hist ![s.idx] (scanCount ones s.idx).2 (scanCount ones s.idx).1 true s.ok.inb (View.stores_vmem_bits_univ h_S4096 rfl) >>= fun _ =>
    histSlots hist ss

/-- Count each slot's digits into the first histogram. -/
def hist0Slots (hist : Memref sig .scVector .vmem S4096 .i32) (sh mk : BitVec 32) :
    List Slot → Prog (TpuEff nD τ sig (Elt F) Λ₀ (.scVector x y)) Unit
  | [] => .ret ⟨⟩
  | s :: ss => .op (.assume (chkH (addi (digV sh mk s.key) (broadcast S16 (BitVec.ofNat 32 (2048 * s.c.val))))) (chkH.dec _)) fun h =>
    SparseCore.vectorStoreIdx (F := F) (e := .i32) hist ![addi (digV sh mk s.key) (broadcast S16 (BitVec.ofNat 32 (2048 * s.c.val)))] (scanCount ones (digV sh mk s.key)).2 (scanCount ones (digV sh mk s.key)).1 true h.down.inb (View.stores_vmem_bits_univ h_S4096 rfl) >>= fun _ =>
    hist0Slots hist sh mk ss

/-! ## The regions -/

/-- A permuting trip that also counts for the next pass. -/
def sweepMid (src dst : Memref sig .scVector .vmem S32768 .i32) (lo hi : Memref sig .scVector .vmem S2048 .i32)
    (hist : Memref sig .scVector .vmem S4096 .i32) (kf vf : V16 → V16) (sh mk sh' mk' : BitVec 32) (t : Fin L64.trips) :
    Prog (TpuEff nD τ sig (Elt F) Λ₀ (.scVector x y)) Unit :=
  loadSlots src t kf slots fun xs => digSlots sh mk xs fun ds => permSlots lo hi dst vf ds fun os =>
    idxSlots sh' mk' os fun hs => histSlots hist hs

/-- The last pass's permuting trip. -/
def sweepLast (src dst : Memref sig .scVector .vmem S32768 .i32) (lo hi : Memref sig .scVector .vmem S2048 .i32)
    (kf vf : V16 → V16) (sh mk : BitVec 32) (t : Fin L64.trips) :
    Prog (TpuEff nD τ sig (Elt F) Λ₀ (.scVector x y)) Unit :=
  loadSlots src t kf slots fun xs => digSlots sh mk xs fun ds => permSlots lo hi dst vf ds fun _ => .ret ⟨⟩

/-- The counting trip before the first pass. -/
def sweepHist (src : Memref sig .scVector .vmem S32768 .i32) (hist : Memref sig .scVector .vmem S4096 .i32) (kf : V16 → V16) (sh mk : BitVec 32)
    (t : Fin L64.trips) : Prog (TpuEff nD τ sig (Elt F) Λ₀ (.scVector x y)) Unit :=
  loadSlots src t kf slots fun xs => hist0Slots hist sh mk xs

/-- One trip of clearing a histogram. -/
def zeroTrip (h : Memref sig .scVector .vmem S4096 .i32) (t : Fin L256.trips) : Prog (TpuEff nD τ sig (Elt F) Λ₀ (.scVector x y)) Unit := do
  let _ : Vec F S16 .i32 ← Prog.lift (.load h (Rect.unit (s := S4096) (offA L256 t) S16.size (offZ_inb t)).toLoadRect (View.loadsAt_vmem h_S16))
  Prog.lift (.store h (Rect.unit (s := S4096) (offA L256 t) S16.size (offZ_inb t)) (broadcast S16 0#32 : V16) Finset.univ (View.stores_vmem_bits_univ h_S16 rfl) (.inl rfl))
  pure ⟨⟩

/-- One trip of adding the two halves of a histogram. -/
def totalTrip (b : Bool) (h : Memref sig .scVector .vmem S4096 .i32) (g : Memref sig .scVector .vmem S2048 .i32) (t : Fin (LB b).trips) :
    Prog (TpuEff nD τ sig (Elt F) Λ₀ (.scVector x y)) Unit := do
  let v : Vec F S16 .i32 ← Prog.lift (.load h (Rect.unit (s := S4096) (offA (LB b) t) S16.size (offA_inb b t)).toLoadRect (View.loadsAt_vmem h_S16))
  let w : Vec F S16 .i32 ← Prog.lift (.load h (Rect.unit (s := S4096) (offB (LB b) t) S16.size (offB_inb b t)).toLoadRect (View.loadsAt_vmem h_S16))
  let _ : Vec F S16 .i32 ← Prog.lift (.load g (Rect.unit (s := S2048) (offA (LB b) t) S16.size (offG_inb b t)).toLoadRect (View.loadsAt_vmem h_S16))
  Prog.lift (.store g (Rect.unit (s := S2048) (offA (LB b) t) S16.size (offG_inb b t)) (addi v w : V16) Finset.univ (View.stores_vmem_bits_univ h_S16 rfl) (.inl rfl))
  pure ⟨⟩

/-- The carry out of sixteen running sums. -/
def carryV (v : V16) : BitVec 32 := extractAt ![15] (xori (scan .max (xori (scan .sum v) (broadcast S16 2147483648#32))) (broadcast S16 2147483648#32)) inpos_S16_p15

/-- One trip of the exclusive prefix sum. -/
def exclTrip (b : Bool) (g : Memref sig .scVector .vmem S2048 .i32) (t : Fin (LB b).trips) (a : BitVec 32) :
    Prog (TpuEff nD τ sig (Elt F) Λ₀ (.scVector x y)) (BitVec 32) := do
  let v : Vec F S16 .i32 ← Prog.lift (.load g (Rect.unit (s := S2048) (offA (LB b) t) S16.size (offG_inb b t)).toLoadRect (View.loadsAt_vmem h_S16))
  let _ : Vec F S16 .i32 ← Prog.lift (.load g (Rect.unit (s := S2048) (offA (LB b) t) S16.size (offG_inb b t)).toLoadRect (View.loadsAt_vmem h_S16))
  Prog.lift (.store g (Rect.unit (s := S2048) (offA (LB b) t) S16.size (offG_inb b t)) (addi (subi (scan .sum v) v) (broadcast S16 a) : V16) Finset.univ (View.stores_vmem_bits_univ h_S16 rfl) (.inl rfl))
  pure (Scalar.addi a (carryV v))

/-- One trip of setting the pointers and clearing the histogram. -/
def baseTrip (b : Bool) (h : Memref sig .scVector .vmem S4096 .i32) (g lo hi : Memref sig .scVector .vmem S2048 .i32) (t : Fin (LB b).trips) :
    Prog (TpuEff nD τ sig (Elt F) Λ₀ (.scVector x y)) Unit := do
  let v : Vec F S16 .i32 ← Prog.lift (.load g (Rect.unit (s := S2048) (offA (LB b) t) S16.size (offG_inb b t)).toLoadRect (View.loadsAt_vmem h_S16))
  let _ : Vec F S16 .i32 ← Prog.lift (.load lo (Rect.unit (s := S2048) (offA (LB b) t) S16.size (offG_inb b t)).toLoadRect (View.loadsAt_vmem h_S16))
  Prog.lift (.store lo (Rect.unit (s := S2048) (offA (LB b) t) S16.size (offG_inb b t)) (v : V16) Finset.univ (View.stores_vmem_bits_univ h_S16 rfl) (.inl rfl))
  let w : Vec F S16 .i32 ← Prog.lift (.load h (Rect.unit (s := S4096) (offA (LB b) t) S16.size (offA_inb b t)).toLoadRect (View.loadsAt_vmem h_S16))
  let _ : Vec F S16 .i32 ← Prog.lift (.load hi (Rect.unit (s := S2048) (offA (LB b) t) S16.size (offG_inb b t)).toLoadRect (View.loadsAt_vmem h_S16))
  Prog.lift (.store hi (Rect.unit (s := S2048) (offA (LB b) t) S16.size (offG_inb b t)) (addi v w : V16) Finset.univ (View.stores_vmem_bits_univ h_S16 rfl) (.inl rfl))
  let _ : Vec F S16 .i32 ← Prog.lift (.load h (Rect.unit (s := S4096) (offA (LB b) t) S16.size (offA_inb b t)).toLoadRect (View.loadsAt_vmem h_S16))
  Prog.lift (.store h (Rect.unit (s := S4096) (offA (LB b) t) S16.size (offA_inb b t)) (broadcast S16 0#32 : V16) Finset.univ (View.stores_vmem_bits_univ h_S16 rfl) (.inl rfl))
  let _ : Vec F S16 .i32 ← Prog.lift (.load h (Rect.unit (s := S4096) (offB (LB b) t) S16.size (offB_inb b t)).toLoadRect (View.loadsAt_vmem h_S16))
  Prog.lift (.store h (Rect.unit (s := S4096) (offB (LB b) t) S16.size (offB_inb b t)) (broadcast S16 0#32 : V16) Finset.univ (View.stores_vmem_bits_univ h_S16 rfl) (.inl rfl))
  pure ⟨⟩

/-- The pointers of a pass, from its histogram, before `k`. -/
def bases (b : Bool) (h : Memref sig .scVector .vmem S4096 .i32) (g lo hi : Memref sig .scVector .vmem S2048 .i32)
    (k : Prog (TpuEff nD τ sig (Elt F) Λ₀ (.scVector x y)) α) : Prog (TpuEff nD τ sig (Elt F) Λ₀ (.scVector x y)) α := do
  Scf.Loop.for (LB b) (LB_ok b) (⟨⟩ : Unit) fun t _ => totalTrip b h g t
  let _ ← Scf.Loop.for (LB b) (LB_ok b) 0#32 fun t a => exclTrip b g t a
  Scf.Loop.for (LB b) (LB_ok b) (⟨⟩ : Unit) fun t _ => baseTrip b h g lo hi t
  k

/-- The first pass of a row, to the pointers of the second, before `k`. -/
def rowA (src pong : Memref sig .scVector .vmem S32768 .i32) (h0 h1 : Memref sig .scVector .vmem S4096 .i32) (g lo hi : Memref sig .scVector .vmem S2048 .i32)
    (k : Prog (TpuEff nD τ sig (Elt F) Λ₀ (.scVector x y)) α) : Prog (TpuEff nD τ sig (Elt F) Λ₀ (.scVector x y)) α := do
  Scf.Loop.for L64 L64_ok (⟨⟩ : Unit) fun t _ => sweepHist src h0 toKey 0#32 2047#32 t
  bases false h0 g lo hi do
  Scf.Loop.for L64 L64_ok (⟨⟩ : Unit) fun t _ => sweepMid src pong lo hi h1 toKey id 0#32 2047#32 11#32 2047#32 t
  bases false h1 g lo hi k

/-- The second and third passes of a row, before `k`. -/
def rowB (src pong : Memref sig .scVector .vmem S32768 .i32) (h2 : Memref sig .scVector .vmem S4096 .i32) (g lo hi : Memref sig .scVector .vmem S2048 .i32)
    (k : Prog (TpuEff nD τ sig (Elt F) Λ₀ (.scVector x y)) α) : Prog (TpuEff nD τ sig (Elt F) Λ₀ (.scVector x y)) α := do
  Scf.Loop.for L64 L64_ok (⟨⟩ : Unit) fun t _ => sweepMid pong src lo hi h2 id id 11#32 2047#32 22#32 1023#32 t
  bases true h2 g lo hi do
  Scf.Loop.for L64 L64_ok (⟨⟩ : Unit) fun t _ => sweepLast src pong lo hi id fromKey 22#32 1023#32 t
  k

end Stages

end Cert.Kernel.Radix
-- ==== Proof.Rank.lean ====
module

public import proofs.«01_k».proof.Proof.Body

/-! Counting sort's arithmetic: how many elements of a range have a digit, where an element goes, and that sorting
by one digit after another sorts by the number they make. -/

@[expose] public section

namespace Cert.Kernel.Radix

/-- How many `e` in `[a, b)` have `d e = x`. -/
def cnt (d : ℕ → ℕ) (x a b : ℕ) : ℕ := ((Finset.Ico a b).filter fun e => d e = x).card

/-- A row's length. -/
abbrev N : ℕ := 32768

/-- How many elements of the row have a smaller digit. -/
def start (d : ℕ → ℕ) (x : ℕ) : ℕ := ((Finset.range N).filter fun e => d e < x).card

/-- Where element `e` goes. -/
def pos (d : ℕ → ℕ) (e : ℕ) : ℕ := start d (d e) + cnt d (d e) 0 e

/-- No element lies in an empty stretch. -/
theorem cnt_self (d : ℕ → ℕ) (x a : ℕ) : cnt d x a a = 0 := by simp [cnt]

/-- A stretch counts at most its length. -/
theorem cnt_le (d : ℕ → ℕ) (x a b : ℕ) : cnt d x a b ≤ b - a := by
  have := Finset.card_filter_le (Finset.Ico a b) (fun e => d e = x)
  rwa [Nat.card_Ico] at this

/-- The counts of two adjoining stretches add up. -/
theorem cnt_add (d : ℕ → ℕ) (x : ℕ) {a b c : ℕ} (h : a ≤ b) (h' : b ≤ c) : cnt d x a b + cnt d x b c = cnt d x a c := by
  unfold cnt
  rw [← Finset.Ico_union_Ico_eq_Ico h h', Finset.filter_union, Finset.card_union_of_disjoint]
  exact Finset.disjoint_filter_filter (Finset.Ico_disjoint_Ico_consecutive a b c)

/-- A stretch without the digit counts none. -/
theorem cnt_eq_zero (d : ℕ → ℕ) (x a b : ℕ) (h : ∀ e, a ≤ e → e < b → d e ≠ x) : cnt d x a b = 0 := by
  unfold cnt
  rw [Finset.card_eq_zero, Finset.filter_eq_empty_iff]
  intro e he
  rw [Finset.mem_Ico] at he
  exact h e he.1 he.2

/-- An element alone counts one of its own digit. -/
theorem cnt_one (d : ℕ → ℕ) (e : ℕ) : cnt d (d e) e (e + 1) = 1 := by
  unfold cnt
  rw [Nat.Ico_succ_singleton, Finset.filter_singleton, if_pos rfl, Finset.card_singleton]

/-- Counts agree where the two conditions counted agree. -/
theorem cnt_congr {d d' : ℕ → ℕ} {x x' a b : ℕ} (h : ∀ e, a ≤ e → e < b → (d e = x ↔ d' e = x')) : cnt d x a b = cnt d' x' a b := by
  unfold cnt
  refine congrArg Finset.card (Finset.filter_congr ?_)
  intro e he
  rw [Finset.mem_Ico] at he
  exact h e he.1 he.2

/-- No element has a digit below zero. -/
theorem start_zero (d : ℕ → ℕ) : start d 0 = 0 := by simp [start]

/-- The next digit starts after all the elements of this one. -/
theorem start_succ (d : ℕ → ℕ) (x : ℕ) : start d (x + 1) = start d x + cnt d x 0 N := by
  unfold start cnt
  rw [← Finset.range_eq_Ico, ← Finset.card_union_of_disjoint]
  · refine congrArg Finset.card (Finset.ext fun e => ?_)
    simp only [Finset.mem_filter, Finset.mem_union, Finset.mem_range]
    constructor
    · rintro ⟨h, h'⟩
      rcases Nat.lt_or_ge (d e) x with h'' | h''
      · exact Or.inl ⟨h, h''⟩
      · exact Or.inr ⟨h, by omega⟩
    · rintro (⟨h, h'⟩ | ⟨h, h'⟩)
      · exact ⟨h, by omega⟩
      · exact ⟨h, by omega⟩
  · rw [Finset.disjoint_filter]
    intro e _ h h'
    omega

/-- A start is at most the row's length. -/
theorem start_le (d : ℕ → ℕ) (x : ℕ) : start d x ≤ N := by
  have := Finset.card_filter_le (Finset.range N) (fun e => d e < x)
  rwa [Finset.card_range] at this

/-- The elements ordered before `e`. -/
def before (d : ℕ → ℕ) (e : ℕ) : Finset ℕ := (Finset.range N).filter fun e' => d e' < d e ∨ (d e' = d e ∧ e' < e)

/-- An element goes to the place numbered by how many are ordered before it. -/
theorem pos_eq_card (d : ℕ → ℕ) {e : ℕ} (he : e < N) : pos d e = (before d e).card := by
  unfold pos start cnt before
  rw [← Finset.card_union_of_disjoint]
  · refine congrArg Finset.card (Finset.ext fun e' => ?_)
    simp only [Finset.mem_filter, Finset.mem_union, Finset.mem_range, Finset.mem_Ico]
    constructor
    · rintro (⟨h, h'⟩ | ⟨h, h'⟩)
      · exact ⟨h, Or.inl h'⟩
      · exact ⟨by omega, Or.inr ⟨h', h.2⟩⟩
    · rintro ⟨h, h' | h'⟩
      · exact Or.inl ⟨h, h'⟩
      · exact Or.inr ⟨⟨Nat.zero_le _, h'.2⟩, h'.1⟩
  · rw [Finset.disjoint_left]
    intro e' h h'
    simp only [Finset.mem_filter] at h h'
    omega

/-- An element ordered before another goes before it. -/
theorem pos_lt_pos (d : ℕ → ℕ) {e e' : ℕ} (he : e < N) (he' : e' < N) (h : d e < d e' ∨ (d e = d e' ∧ e < e')) : pos d e < pos d e' := by
  rw [pos_eq_card d he, pos_eq_card d he']
  apply Finset.card_lt_card
  rw [Finset.ssubset_iff_of_subset]
  · refine ⟨e, ?_, ?_⟩
    · simp only [before, Finset.mem_filter, Finset.mem_range]; exact ⟨he, h⟩
    · simp only [before, Finset.mem_filter, Finset.mem_range]; omega
  · intro x hx
    simp only [before, Finset.mem_filter, Finset.mem_range] at hx ⊢
    omega

/-- Every element goes to a place in the row. -/
theorem pos_lt (d : ℕ → ℕ) {e : ℕ} (he : e < N) : pos d e < N := by
  rw [pos_eq_card d he]
  have : (before d e).card < (Finset.range N).card := by
    apply Finset.card_lt_card
    rw [Finset.ssubset_iff_of_subset (by unfold before; exact Finset.filter_subset _ _)]
    refine ⟨e, Finset.mem_range.2 he, ?_⟩
    simp only [before, Finset.mem_filter]; omega
  rwa [Finset.card_range] at this

/-- Different elements go to different places. -/
theorem pos_inj (d : ℕ → ℕ) {e e' : ℕ} (he : e < N) (he' : e' < N) (h : pos d e = pos d e') : e = e' := by
  rcases Nat.lt_trichotomy (d e) (d e') with h1 | h1 | h1
  · have := pos_lt_pos d he he' (Or.inl h1); omega
  · rcases Nat.lt_trichotomy e e' with h2 | h2 | h2
    · have := pos_lt_pos d he he' (Or.inr ⟨h1, h2⟩); omega
    · exact h2
    · have := pos_lt_pos d he' he (Or.inr ⟨h1.symm, h2⟩); omega
  · have := pos_lt_pos d he' he (Or.inl h1); omega

/-- Where each element goes, as a permutation of the row's positions. -/
noncomputable def posEquiv (d : ℕ → ℕ) : Equiv.Perm (Fin N) :=
  Equiv.ofBijective (fun e => ⟨pos d e.val, pos_lt d e.isLt⟩)
    ((Finite.injective_iff_bijective).1 fun e e' h => Fin.ext (pos_inj d e.isLt e'.isLt (congrArg Fin.val h)))

/-- The permutation of the places is `pos`. -/
theorem posEquiv_val (d : ℕ → ℕ) (e : Fin N) : (posEquiv d e).val = pos d e.val := rfl

/-- Counting by what lies at the new position is counting by where each element goes. -/
theorem cnt_pos (d : ℕ → ℕ) (h h' : ℕ → ℕ) (hh : ∀ e, e < N → h' (pos d e) = h e) (y : ℕ) : cnt h' y 0 N = cnt h y 0 N := by
  unfold cnt
  symm
  apply Finset.card_bij (fun e _ => pos d e)
  · intro e he
    simp only [Finset.mem_filter, Finset.mem_Ico] at he ⊢
    exact ⟨⟨Nat.zero_le _, pos_lt d he.1.2⟩, by rw [hh e he.1.2]; exact he.2⟩
  · intro e he e' he' hp
    simp only [Finset.mem_filter, Finset.mem_Ico] at he he'
    exact pos_inj d he.1.2 he'.1.2 hp
  · intro i hi
    simp only [Finset.mem_filter, Finset.mem_Ico] at hi
    obtain ⟨e, he⟩ := (posEquiv d).surjective ⟨i, hi.1.2⟩
    have hp : pos d e.val = i := congrArg Fin.val he
    refine ⟨e.val, ?_, hp⟩
    simp only [Finset.mem_filter, Finset.mem_Ico]
    exact ⟨⟨Nat.zero_le _, e.isLt⟩, by rw [← hh e.val e.isLt, hp]; exact hi.2⟩

/-! ## Passes -/

/-- `A'` is `A` with its element `e` moved to `pos d e`. -/
def Moved {β : Type} (d : ℕ → ℕ) (A A' : ℕ → β) : Prop := ∀ e, e < N → A' (pos d e) = A e

/-- `A'` is a rearrangement of `A`. -/
def Rearr {β : Type} (A A' : ℕ → β) : Prop := ∃ p : Equiv.Perm (Fin N), ∀ e : Fin N, A' (p e).val = A e.val

/-- A row whose elements were moved is a rearrangement. -/
theorem Moved.rearr {β : Type} {d : ℕ → ℕ} {A A' : ℕ → β} (h : Moved d A A') : Rearr A A' := ⟨posEquiv d, fun e => h e.val e.isLt⟩

/-- A rearrangement of a rearrangement is a rearrangement. -/
theorem Rearr.trans {β : Type} {A B C : ℕ → β} : Rearr A B → Rearr B C → Rearr A C :=
  fun ⟨p, hp⟩ ⟨q, hq⟩ => ⟨p.trans q, fun e => by rw [Equiv.trans_apply, hq, hp]⟩

/-- In order by the number modulo `m`. -/
def SortedMod (m : ℕ) (A : ℕ → ℕ) : Prop := ∀ i j, i < j → j < N → A i % m ≤ A j % m

/-- A stable pass by the digit above `m` takes the order modulo `m` to the order modulo `m * b`. -/
theorem SortedMod.pass {m b : ℕ} {A A' : ℕ → ℕ} (hs : SortedMod m A) (hm : Moved (fun e => A e / m % b) A A') : SortedMod (m * b) A' := by
  intro i j hij hj
  obtain ⟨e, he⟩ := (posEquiv (fun e => A e / m % b)).surjective ⟨i, by omega⟩
  obtain ⟨e', he'⟩ := (posEquiv (fun e => A e / m % b)).surjective ⟨j, hj⟩
  have hp : pos (fun e => A e / m % b) e.val = i := congrArg Fin.val he
  have hp' : pos (fun e => A e / m % b) e'.val = j := congrArg Fin.val he'
  rw [← hp, ← hp', hm _ e.isLt, hm _ e'.isLt, Nat.mod_mul, Nat.mod_mul]
  rcases Nat.lt_trichotomy (A e.val / m % b) (A e'.val / m % b) with h | h | h
  · rcases Nat.eq_zero_or_pos m with rfl | hmp
    · simp at h
    · have h1 := Nat.mod_lt (A e.val) hmp
      have h2 : m * (A e.val / m % b + 1) ≤ m * (A e'.val / m % b) := Nat.mul_le_mul_left _ h
      rw [Nat.mul_add, Nat.mul_one] at h2
      omega
  · rcases Nat.lt_trichotomy e.val e'.val with h' | h' | h'
    · have := hs _ _ h' e'.isLt
      rw [h]; omega
    · rw [h']
    · have := pos_lt_pos (fun e => A e / m % b) e'.isLt e.isLt (Or.inr ⟨h.symm, h'⟩); omega
  · have := pos_lt_pos (fun e => A e / m % b) e'.isLt e.isLt (Or.inl h); omega

/-- Every row is in order modulo one. -/
theorem SortedMod.one (A : ℕ → ℕ) : SortedMod 1 A := fun i j _ _ => by simp [Nat.mod_one]

end Cert.Kernel.Radix
-- ==== Proof.Lanes.lean ====
module

public import proofs.«01_k».proof.Proof.Rank

/-! What the vector operations do lane by lane, at words that stand for natural numbers. -/

@[expose] public section

namespace Cert.Kernel.Radix
open Cert.Kernel
open Idealize.ShloMosaic

variable {F : FTy → Type} [BitOps F]

/-- Lane `l` of a vector. -/
abbrev ln (l : Fin 16) : S16.Idx := Shape.ofLane (d := ![16]) l

/-- Lane `l`'s coordinate is `l`. -/
theorem ln_val (l : Fin 16) : (ln l 0).val = l.val := rfl

/-- Every index of a vector is a lane. -/
theorem eq_ln (x : S16.Idx) : x = ln (x 0) := by
  funext a
  obtain rfl : a = 0 := Subsingleton.elim a 0
  rfl

/-! ## Scatters -/

section Scatter
variable {n : ℕ}

variable (f : Vec F ⟨1, ![n]⟩ .i32) (idx v : V16) (mask : IVec S16 1) (add : Bool)
  (h : ∀ a x, ((![idx] : Fin 1 → V16) a x).toNat < (⟨1, ![n]⟩ : Shape).size a)

/-- One lane's store. -/
def laneStep (g : Vec F ⟨1, ![n]⟩ .i32) (k : Fin 16) : Vec F ⟨1, ![n]⟩ .i32 :=
  if mask (ln k) = 1 then fun j => if (j 0).val = (idx (ln k)).toNat then (if add then (g (idxAt ![idx] h (ln k)) : BitVec 32) + v (ln k) else v (ln k)) else g j
  else g

/-- An indexed store writes its lanes one after another. -/
theorem storeIdx_eq : storeIdx f ![idx] v mask add h = (List.finRange 16).foldl (laneStep idx v mask add h) f := by
  unfold storeIdx
  show List.foldl _ f (List.finRange 16) = _
  congr 1
  funext g k
  unfold laneStep
  show (if mask (ln k) = 1 then _ else _) = _
  split
  · funext j
    have : (∀ a, (j a).val = (idxAt ![idx] h (ln k) a).val) ↔ (j 0).val = (idx (ln k)).toNat := by
      constructor
      · intro H; exact H 0
      · intro H a
        obtain rfl : a = 0 := Subsingleton.elim a 0
        exact H
    by_cases hj : (j 0).val = (idx (ln k)).toNat
    · rw [if_pos hj, if_pos (this.2 hj)]; rfl
    · rw [if_neg hj, if_neg (fun H => hj (this.1 H))]
  · rfl

/-- An entry that no writing lane names keeps what it held. -/
theorem foldl_laneStep_miss (L : List (Fin 16)) (j : (⟨1, ![n]⟩ : Shape).Idx)
    (hL : ∀ k ∈ L, mask (ln k) = 1 → (j 0).val ≠ (idx (ln k)).toNat) (g : Vec F ⟨1, ![n]⟩ .i32) :
    L.foldl (laneStep idx v mask add h) g j = g j := by
  induction L generalizing g with
  | nil => rfl
  | cons k L ih =>
    rw [List.foldl_cons, ih (fun k' hk' => hL k' (List.mem_cons_of_mem _ hk'))]
    unfold laneStep
    split
    · rename_i hm
      exact if_neg (hL k List.mem_cons_self hm)
    · rfl

/-- An element no enabled lane names stays. -/
theorem storeIdx_miss (j : (⟨1, ![n]⟩ : Shape).Idx) (hj : ∀ k : Fin 16, mask (ln k) = 1 → (j 0).val ≠ (idx (ln k)).toNat) :
    storeIdx f ![idx] v mask add h j = f j := by
  rw [storeIdx_eq]
  exact foldl_laneStep_miss idx v mask add h _ j (fun k _ => hj k) f

/-- An element exactly one enabled lane names takes that lane's value. -/
theorem storeIdx_hit (j : (⟨1, ![n]⟩ : Shape).Idx) (k : Fin 16) (hm : mask (ln k) = 1) (hk : (j 0).val = (idx (ln k)).toNat)
    (hu : ∀ k' : Fin 16, mask (ln k') = 1 → (j 0).val = (idx (ln k')).toNat → k' = k) :
    storeIdx f ![idx] v mask add h j = (if add then (f j : BitVec 32) + v (ln k) else v (ln k) : BitVec 32) := by
  rw [storeIdx_eq]
  obtain ⟨L₁, L₂, hL⟩ := List.append_of_mem (List.mem_finRange k)
  have hnd := List.nodup_finRange 16
  rw [hL] at hnd ⊢
  have h₁ : k ∉ L₁ := fun hk' => by
    have := (List.nodup_append.1 hnd).2.2 k hk' k List.mem_cons_self
    exact this rfl
  have h₂ : k ∉ L₂ := (List.nodup_cons.1 (List.nodup_append.1 hnd).2.1).1
  rw [List.foldl_append, List.foldl_cons, foldl_laneStep_miss idx v mask add h L₂ j (fun k' hk' hm' he => h₂ (hu k' hm' he ▸ hk'))]
  rw [show ∀ g : Vec F ⟨1, ![n]⟩ .i32, laneStep idx v mask add h g k j = (if add then (g j : BitVec 32) + v (ln k) else v (ln k) : BitVec 32) from fun g => by
    unfold laneStep
    rw [if_pos hm]
    show (if (j 0).val = (idx (ln k)).toNat then _ else _) = _
    rw [if_pos hk, show idxAt ![idx] h (ln k) = j from funext fun a => by
      obtain rfl : a = 0 := Subsingleton.elim a 0
      exact Fin.ext hk.symm]]
  rw [foldl_laneStep_miss idx v mask add h L₁ j (fun k' hk' hm' he => h₁ (hu k' hm' he ▸ hk'))]

end Scatter

/-! ## Running counts -/

/-- The first result of the duplicate count is set exactly at the last lane of each value. -/
theorem scanCount_one {v : V16} {d : ℕ → ℕ} {e : ℕ} (hv : ∀ k : Fin 16, (v (ln k)).toNat = d (e + k.val)) (k : Fin 16) :
    (scanCount ones v).1 (ln k) = 1 ↔ ∀ k' : Fin 16, k.val < k'.val → d (e + k'.val) ≠ d (e + k.val) := by
  unfold scanCount
  simp only [Shape.rowMajor_val_one]
  constructor
  · intro h
    split at h
    · rename_i hc
      intro k' hk' he
      exact hc.2 (ln k') hk' ⟨rfl, BitVec.eq_of_toNat_eq (by rw [hv, hv, he])⟩
    · exact absurd h (by decide)
  · intro h
    rw [if_pos]
    refine ⟨rfl, fun j hj hc => ?_⟩
    rw [eq_ln j] at hc
    refine h (j 0) hj ?_
    have h1 := hv (j 0)
    rw [hc.2, hv k] at h1
    exact h1.symm

/-- The second is how many lanes up to this one, itself included, have its value. -/
theorem scanCount_two {v : V16} {d : ℕ → ℕ} {e : ℕ} (hv : ∀ k : Fin 16, (v (ln k)).toNat = d (e + k.val)) (k : Fin 16) :
    (scanCount ones v).2 (ln k) = BitVec.ofNat 32 (cnt d (d (e + k.val)) e (e + k.val + 1)) := by
  unfold scanCount
  simp only [Shape.rowMajor_val_one]
  refine (if_pos (show ones (ln k) = 1 from rfl)).trans ?_
  congr 1
  unfold cnt
  apply Finset.card_bij (fun (j : S16.Idx) _ => e + (j 0).val)
  · intro j hj
    simp only [Finset.mem_filter, Finset.mem_univ, true_and] at hj
    simp only [Finset.mem_filter, Finset.mem_Ico]
    have h1 : (j 0).val ≤ k.val := hj.1
    refine ⟨⟨by omega, by omega⟩, ?_⟩
    have h2 := hj.2.2
    rw [eq_ln j] at h2
    have h3 := hv (j 0)
    rw [h2, hv k] at h3
    exact h3.symm
  · intro j _ j' _ hjj
    rw [eq_ln j, eq_ln j']
    congr 1
    apply Fin.ext
    have : e + (j 0).val = e + (j' 0).val := hjj
    omega
  · intro i hi
    simp only [Finset.mem_filter, Finset.mem_Ico] at hi
    have hlt : i - e < 16 := by have := k.isLt; omega
    refine ⟨ln ⟨i - e, hlt⟩, ?_, ?_⟩
    · simp only [Finset.mem_filter, Finset.mem_univ, true_and]
      refine ⟨?_, rfl, BitVec.eq_of_toNat_eq ?_⟩
      · show i - e ≤ k.val; omega
      · rw [hv, hv]
        show d (e + (i - e)) = _
        rw [show e + (i - e) = i from by omega, hi.2]
    · show e + (i - e) = i; omega

/-! ## Running sums -/

/-- The lanes a running operation folds over. -/
def upTo (l : ℕ) : List (Fin 16) := (List.finRange 16).filter fun k : Fin 16 => decide (0 < k.val ∧ k.val ≤ l)

/-- The lanes up to the next are those up to this one, and the next. -/
theorem upTo_succ : ∀ l : Fin 15, upTo (l.val + 1) = upTo l.val ++ [⟨l.val + 1, Nat.succ_lt_succ l.isLt⟩] := by decide

/-- A running operation at a lane folds over the lanes up to it. -/
theorem scan_eq (kind : ScanKind) (v : V16) (l : Fin 16) :
    scan kind v (ln l) = (upTo l.val).foldl (fun r k => kind.step r (v (ln k))) (v (ln 0)) := rfl

/-- At the first lane a running operation gives that lane. -/
theorem scan_zero (kind : ScanKind) (v : V16) : scan kind v (ln 0) = v (ln 0) := by
  rw [scan_eq, show upTo (0 : Fin 16).val = [] from by decide]
  rfl

/-- At the next lane it takes one more step. -/
theorem scan_succ (kind : ScanKind) (v : V16) (l : ℕ) (hl : l + 1 < 16) :
    scan kind v (ln ⟨l + 1, hl⟩) = kind.step (scan kind v (ln ⟨l, by omega⟩)) (v (ln ⟨l + 1, hl⟩)) := by
  rw [scan_eq, scan_eq]
  show (upTo (l + 1)).foldl _ _ = _
  rw [upTo_succ ⟨l, by omega⟩, List.foldl_append]
  rfl

/-- A running sum at a lane is the sum of the numbers up to it. -/
theorem scan_sum {v : V16} {m : ℕ → ℕ} (hv : ∀ k : Fin 16, v (ln k) = BitVec.ofNat 32 (m k.val)) (l : ℕ) (hl : l < 16) :
    scan .sum v (ln ⟨l, hl⟩) = BitVec.ofNat 32 (∑ i ∈ Finset.range (l + 1), m i) := by
  induction l with
  | zero =>
    rw [Finset.sum_range_one]
    exact (scan_zero .sum v).trans (hv 0)
  | succ l ih =>
    rw [scan_succ, ih (by omega), hv, Finset.sum_range_succ _ (l + 1), BitVec.ofNat_add]
    rfl

/-- The running maximum of lanes that never fall is the lanes themselves. -/
theorem scan_max {v : V16} {m : ℕ → ℕ} (hv : ∀ k : Fin 16, (v (ln k)).toNat = m k.val) (hm : ∀ i j, i ≤ j → m i ≤ m j) (l : ℕ) (hl : l < 16) :
    scan .max v (ln ⟨l, hl⟩) = v (ln ⟨l, hl⟩) := by
  induction l with
  | zero => exact scan_zero .max v
  | succ l ih =>
    rw [scan_succ, ih (by omega)]
    show IntOp.maxui _ _ = _
    have h1 := hv ⟨l, by omega⟩
    have h2 := hv ⟨l + 1, hl⟩
    have h3 := hm l (l + 1) (by omega)
    simp only [] at h1 h2
    unfold IntOp.maxui
    split
    · rename_i hc
      simp only [BitVec.ult, decide_eq_true_eq] at hc
      omega
    · rfl

end Cert.Kernel.Radix
-- ==== Proof.Steps.lean ====
module

public import proofs.«01_k».proof.Proof.Lanes

/-! One slot of sixteen elements, at what the tables stand for. -/

@[expose] public section

namespace Cert.Kernel.Radix
open Cert.Kernel
open Idealize.ShloMosaic

variable {F : FTy → Type} [BitOps F]

/-- The contents of a row. -/
abbrev Row := S32768.Idx → BitVec 32

/-- Element `e` of a row. -/
def nth (g : Row) (e : ℕ) : BitVec 32 := if h : e < N then g (Shape.ofLane (d := ![32768]) ⟨e, h⟩) else 0

/-- An index's element is the one at its coordinate. -/
theorem nth_idx (g : Row) (x : S32768.Idx) : nth g (x 0).val = g x := by
  unfold nth
  rw [dif_pos (show (x 0).val < N from (x 0).isLt)]
  congr 1
  funext a
  obtain rfl : a = 0 := Subsingleton.elim a 0
  rfl

/-- A pointer table after the elements before `E` have been placed. -/
def PtrAt (nb : ℕ) (d : ℕ → ℕ) (E : ℕ) (f : S2048.Idx → BitVec 32) : Prop :=
  ∀ x : S2048.Idx, (x 0).val < nb → f x = BitVec.ofNat 32 (start d (x 0).val + cnt d (x 0).val 0 E)

/-- A histogram of counts `C`. -/
def HistAt (C : ℕ → ℕ) (f : S4096.Idx → BitVec 32) : Prop := ∀ y : S4096.Idx, f y = BitVec.ofNat 32 (C (y 0).val)

/-- The rows placed: the elements before `E₀`, and those from the row's middle before `E₁`. -/
def DstAt (d : ℕ → ℕ) (vals : ℕ → BitVec 32) (E₀ E₁ : ℕ) (f : Row) : Prop :=
  ∀ e, (e < E₀ ∨ 16384 ≤ e ∧ e < E₁) → nth f (pos d e) = vals e

/-- The last lane of a sixteen with a given image. -/
theorem exists_last (d : ℕ → ℕ) (E x : ℕ) (h : ∃ k : Fin 16, d (E + k.val) = x) :
    ∃ k : Fin 16, d (E + k.val) = x ∧ ∀ k' : Fin 16, k.val < k'.val → d (E + k'.val) ≠ x := by
  classical
  obtain ⟨k, hk, hmax⟩ := (Finset.univ.filter fun k : Fin 16 => d (E + k.val) = x).exists_max_image id
    (by obtain ⟨k, hk⟩ := h; exact ⟨k, by simpa using hk⟩)
  simp only [Finset.mem_filter, Finset.mem_univ, true_and, id] at hk hmax
  exact ⟨k, hk, fun k' hlt he => absurd (hmax k' he) (by rw [Fin.le_def]; omega)⟩

section Ptr
variable {nb : ℕ} {d : ℕ → ℕ} {E : ℕ} {f : S2048.Idx → BitVec 32} {dig : V16}
  {h : ∀ a x, ((![dig] : Fin 1 → V16) a x).toNat < S2048.size a}

/-- The advanced pointers of a slot. -/
theorem nxt_eq (hp : PtrAt nb d E f) (hd : ∀ k : Fin 16, (dig (ln k)).toNat = d (E + k.val)) (hnb : ∀ e, d e < nb) (k : Fin 16) :
    addi (loadIdx (F := F) (e := .i32) f ![dig] h) (scanCount ones dig).2 (ln k)
      = BitVec.ofNat 32 (start d (d (E + k.val)) + cnt d (d (E + k.val)) 0 (E + k.val + 1)) := by
  show f (idxAt ![dig] h (ln k)) + (scanCount ones dig).2 (ln k) = _
  have hi : ((idxAt (s := S2048) ![dig] h (ln k)) 0).val = d (E + k.val) := hd k
  rw [scanCount_two hd, hp (idxAt (s := S2048) ![dig] h (ln k)) (by rw [hi]; exact hnb _), hi, ← BitVec.ofNat_add, Nat.add_assoc, cnt_add d _ (Nat.zero_le _) (by omega)]

/-- Where a slot's elements go. -/
theorem off_eq (hp : PtrAt nb d E f) (hd : ∀ k : Fin 16, (dig (ln k)).toNat = d (E + k.val)) (hnb : ∀ e, d e < nb) (k : Fin 16) :
    subi (addi (loadIdx (F := F) (e := .i32) f ![dig] h) (scanCount ones dig).2) (broadcast S16 1#32) (ln k) = BitVec.ofNat 32 (pos d (E + k.val)) := by
  show addi (loadIdx (F := F) (e := .i32) f ![dig] h) (scanCount ones dig).2 (ln k) - 1#32 = _
  rw [nxt_eq hp hd hnb, ← cnt_add d (d (E + k.val)) (Nat.zero_le (E + k.val)) (Nat.le_succ _), cnt_one, ← Nat.add_assoc, BitVec.ofNat_add]
  unfold pos
  exact BitVec.add_sub_cancel _ _

/-- The advanced table. -/
theorem ptr_step (hp : PtrAt nb d E f) (hd : ∀ k : Fin 16, (dig (ln k)).toNat = d (E + k.val)) (hnb : ∀ e, d e < nb) :
    PtrAt nb d (E + 16) (storeIdx (F := F) (e := .i32) f ![dig] (addi (loadIdx (F := F) (e := .i32) f ![dig] h) (scanCount ones dig).2) (scanCount ones dig).1 false h) := by
  intro x hx
  by_cases hex : ∃ k : Fin 16, d (E + k.val) = (x 0).val
  · obtain ⟨k, hk, hl⟩ := exists_last d E _ hex
    rw [storeIdx_hit f dig _ _ false h x k ((scanCount_one hd k).2 fun k' hk' => by rw [hk]; exact hl k' hk') (by rw [hd, hk])
      (fun k' hm' he => by
        rw [hd] at he
        rcases Nat.lt_trichotomy k.val k'.val with h1 | h1 | h1
        · exact absurd he.symm (hl k' h1)
        · exact Fin.ext h1.symm
        · exact absurd (hk.trans he) ((scanCount_one hd k').1 hm' k h1))]
    rw [if_neg (by decide), nxt_eq hp hd hnb, hk]
    have h1 := cnt_add d (x 0).val (Nat.zero_le (E + k.val + 1)) (show E + k.val + 1 ≤ E + 16 by have := k.isLt; omega)
    rw [cnt_eq_zero d (x 0).val (E + k.val + 1) (E + 16) (fun e h1 h2 => by
      have := hl ⟨e - E, by omega⟩ (show k.val < e - E by omega)
      rwa [show E + (e - E) = e from by omega] at this), Nat.add_zero] at h1
    rw [h1]
  · rw [storeIdx_miss f dig _ _ false h x (fun k _ he => hex ⟨k, by rw [he, hd]⟩), hp x hx, ← cnt_add d (x 0).val (Nat.zero_le E) (Nat.le_add_right E 16),
      cnt_eq_zero d (x 0).val E (E + 16) ?_, Nat.add_zero]
    intro e h1 h2 he
    exact hex ⟨⟨e - E, by omega⟩, by rw [show E + (e - E) = e from by omega]; exact he⟩

end Ptr

section Dst
variable {d : ℕ → ℕ} {E : ℕ} {f : Row} {off w : V16} {h : ∀ a x, ((![off] : Fin 1 → V16) a x).toNat < S32768.size a}

/-- A place in the row fits a word. -/
theorem off_toNat {e : ℕ} (he : e < N) : (BitVec.ofNat 32 (pos d e)).toNat = pos d e := by
  have hlt : pos d e < 32768 := pos_lt d he
  rw [BitVec.toNat_ofNat]
  exact Nat.mod_eq_of_lt (by omega)

/-- After sixteen are stored at their places, each place holds its lane. -/
theorem dst_hit (ho : ∀ k : Fin 16, off (ln k) = BitVec.ofNat 32 (pos d (E + k.val))) (hE : E + 16 ≤ N) (k : Fin 16) :
    nth (storeIdx (F := F) (e := .i32) f ![off] w (fun _ => 1#1) false h) (pos d (E + k.val)) = w (ln k) := by
  have hlt := pos_lt d (show E + k.val < N by have := k.isLt; omega)
  unfold nth
  rw [dif_pos hlt]
  rw [storeIdx_hit f off w (fun _ => 1#1) false h _ k rfl]
  · rfl
  · rw [ho, off_toNat (by have := k.isLt; omega)]; rfl
  · intro k' _ he
    rw [ho, off_toNat (by have := k'.isLt; omega)] at he
    have he' : pos d (E + k.val) = pos d (E + k'.val) := he
    have := pos_inj d (by have := k.isLt; omega) (by have := k'.isLt; omega) he'
    exact Fin.ext (by omega)

/-- The places of all the other elements keep what they held. -/
theorem dst_miss (ho : ∀ k : Fin 16, off (ln k) = BitVec.ofNat 32 (pos d (E + k.val))) (hE : E + 16 ≤ N) {e : ℕ} (he : e < N)
    (hout : e < E ∨ E + 16 ≤ e) :
    nth (storeIdx (F := F) (e := .i32) f ![off] w (fun _ => 1#1) false h) (pos d e) = nth f (pos d e) := by
  have hlt := pos_lt d he
  unfold nth
  rw [dif_pos hlt, dif_pos hlt]
  rw [storeIdx_miss f off w (fun _ => 1#1) false h]
  intro k _ hk
  rw [ho, off_toNat (by have := k.isLt; omega)] at hk
  have hk' : pos d e = pos d (E + k.val) := hk
  have := pos_inj d he (by have := k.isLt; omega) hk'
  have := k.isLt
  omega

/-- Sixteen more elements of the first half placed. -/
theorem dst_step₀ {vals : ℕ → BitVec 32} {E₁ : ℕ} (hf : DstAt d vals E E₁ f) (ho : ∀ k : Fin 16, off (ln k) = BitVec.ofNat 32 (pos d (E + k.val)))
    (hw : ∀ k : Fin 16, w (ln k) = vals (E + k.val)) (hE : E + 16 ≤ 16384) (hE₁ : E₁ ≤ N) :
    DstAt d vals (E + 16) E₁ (storeIdx (F := F) (e := .i32) f ![off] w (fun _ => 1#1) false h) := by
  have hN : N = 32768 := rfl
  intro e he
  by_cases hin : E ≤ e ∧ e < E + 16
  · have := dst_hit (F := F) (f := f) (w := w) (h := h) ho (by omega) ⟨e - E, by omega⟩
    rw [hw] at this
    rwa [show E + (e - E) = e from by omega] at this
  · rw [dst_miss ho (by omega) (by omega) (by omega)]
    exact hf e (by omega)

/-- Sixteen more elements of the second half placed. -/
theorem dst_step₁ {vals : ℕ → BitVec 32} {E₀ : ℕ} (hf : DstAt d vals E₀ E f) (ho : ∀ k : Fin 16, off (ln k) = BitVec.ofNat 32 (pos d (E + k.val)))
    (hw : ∀ k : Fin 16, w (ln k) = vals (E + k.val)) (hE₀ : E₀ ≤ 16384) (hE : 16384 ≤ E) (hE₁ : E + 16 ≤ N) :
    DstAt d vals E₀ (E + 16) (storeIdx (F := F) (e := .i32) f ![off] w (fun _ => 1#1) false h) := by
  have hN : N = 32768 := rfl
  intro e he
  by_cases hin : E ≤ e ∧ e < E + 16
  · have := dst_hit (F := F) (f := f) (w := w) (h := h) ho (by omega) ⟨e - E, by omega⟩
    rw [hw] at this
    rwa [show E + (e - E) = e from by omega] at this
  · rw [dst_miss ho (by omega) (by omega) (by omega)]
    exact hf e (by omega)

end Dst

/-- The histogram after a slot is counted. -/
theorem hist_step {C : ℕ → ℕ} {E : ℕ} {f : S4096.Idx → BitVec 32} {idx v : V16} {hx dv : ℕ → ℕ}
    {h : ∀ a x, ((![idx] : Fin 1 → V16) a x).toNat < S4096.size a} (hf : HistAt C f)
    (hi : ∀ k : Fin 16, (idx (ln k)).toNat = hx (E + k.val)) (hv : ∀ k : Fin 16, (v (ln k)).toNat = dv (E + k.val))
    (hd : ∀ k k' : Fin 16, dv (E + k.val) = dv (E + k'.val) ↔ hx (E + k.val) = hx (E + k'.val)) :
    HistAt (fun y => C y + cnt hx y E (E + 16)) (storeIdx (F := F) (e := .i32) f ![idx] (scanCount ones v).2 (scanCount ones v).1 true h) := by
  intro y
  show _ = BitVec.ofNat 32 (C (y 0).val + cnt hx (y 0).val E (E + 16))
  by_cases hex : ∃ k : Fin 16, hx (E + k.val) = (y 0).val
  · obtain ⟨k, hk, hl⟩ := exists_last hx E _ hex
    rw [storeIdx_hit f idx _ _ true h y k ((scanCount_one hv k).2 fun k' hk' => by rw [Ne, hd, hk]; exact hl k' hk') (by rw [hi, hk])
      (fun k' hm' he => by
        rw [hi] at he
        rcases Nat.lt_trichotomy k.val k'.val with h1 | h1 | h1
        · exact absurd he.symm (hl k' h1)
        · exact Fin.ext h1.symm
        · exact absurd ((hd k k').2 (hk.trans he)) ((scanCount_one hv k').1 hm' k h1))]
    rw [if_pos rfl, scanCount_two hv, hf y, ← BitVec.ofNat_add]
    congr 2
    rw [← cnt_add hx (y 0).val (show E ≤ E + k.val + 1 by omega) (show E + k.val + 1 ≤ E + 16 by have := k.isLt; omega),
      cnt_eq_zero hx (y 0).val (E + k.val + 1) (E + 16) ?_, Nat.add_zero]
    · apply cnt_congr
      intro e h1 h2
      have := hd ⟨e - E, by have := k.isLt; omega⟩ k
      simp only [show E + (e - E) = e from by omega] at this
      rw [this, hk]
    · intro e h1 h2
      have := hl ⟨e - E, by omega⟩ (show k.val < e - E by omega)
      rwa [show E + (e - E) = e from by omega] at this
  · rw [storeIdx_miss f idx _ _ true h y (fun k _ he => hex ⟨k, by rw [he, hi]⟩), hf y, cnt_eq_zero hx (y 0).val E (E + 16) ?_, Nat.add_zero]
    intro e h1 h2 he
    exact hex ⟨⟨e - E, by omega⟩, by rw [show E + (e - E) = e from by omega]; exact he⟩

end Cert.Kernel.Radix
-- ==== Proof.Rules.lean ====
module

public import proofs.«01_k».proof.Proof.Body
public import Idealize.ShloMosaic.Lib.SparseCore.Quiescent
public import Idealize.ShloMosaic.Lib.SparseCore.Ops
public import Idealize.ShloMosaic.Lib.Tactic

/-! Buffers by what they read: `Holds c m g` owns the whole of a memref, at contents it reads as `g`; and the
loads, stores, gathers and scatters by it. -/

@[expose] public section
noncomputable section

namespace Cert.Kernel.Radix
open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [BitOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {sp : Space} {s : Shape} {e : EltTy} {α : Type} {Q : α → sProp (MT nD τ sig Ix (Elt F) Name U Lvl)}

local notation "𝕄" => MT nD τ sig Ix (Elt F) Name U Lvl

/-- The whole memref owned, reading `g`. -/
def Holds (m : Memref sig c.2.kind sp s e) (g : s.Idx → Elt F e) : sProp 𝕄 :=
  iprop(∃ f : Buf (Elt F) (m.view.loc c), ⌜m.view.read (Elt F) f = g⌝ ∗ m.view.loc c ↦[m.view.set]{fullShare} f)

/-- Owned at some contents: it reads something. -/
theorem Holds.intro (m : Memref sig c.2.kind sp s e) (f : Buf (Elt F) (m.view.loc c)) :
    (m.view.loc c ↦[m.view.set]{fullShare} f) ⊢ (Holds c m (m.view.read (Elt F) f) : sProp 𝕄) := by
  iintro H
  unfold Holds
  iexists f
  isplitr
  · ipureintro; rfl
  · iexact H

/-- What a buffer reads after a rectangle of it is overwritten. -/
def stored (r : Rect s) (w : r.shape.Idx → Elt F e) (g : s.Idx → Elt F e) : s.Idx → Elt F e :=
  open Classical in fun y => if h : ∃ l, r.emb l = y then w h.choose else g y

/-- Inside the rectangle, the new contents are read. -/
theorem stored_emb (r : Rect s) (w : r.shape.Idx → Elt F e) (g : s.Idx → Elt F e) (l : r.shape.Idx) : stored r w g (r.emb l) = w l := by
  have h : ∃ l', r.emb l' = r.emb l := ⟨l, rfl⟩
  unfold stored
  rw [dif_pos h, r.emb.injective h.choose_spec]

/-- Outside it, the old. -/
theorem stored_miss (r : Rect s) (w : r.shape.Idx → Elt F e) (g : s.Idx → Elt F e) (y : s.Idx) (h : ∀ l, r.emb l ≠ y) : stored r w g y = g y := by
  unfold stored
  rw [dif_neg (fun ⟨l, hl⟩ => h l hl)]

/-- A load reads the rectangle's elements. -/
theorem wp_ld {m : Memref sig c.2.kind .vmem s e} {r : Rect s} {hl : m.view.LoadsAt r} {k : (r.shape.Idx → Elt F e) → Prog (TpuEff nD τ sig (Elt F) Λ c.2) α}
    (g : s.Idx → Elt F e) :
    Holds c m g ⊢ iprop((Holds c m g -∗ wp frame (wpE defs 𝒱 c bd) E (k fun l => g (r.emb l)) Q)
      -∗ wp frame (wpE defs 𝒱 c bd) E (.op (.load m r hl) k) Q) := by
  unfold Holds
  iintro ⟨%f, %hf, H⟩ Hk
  iapply (wp_load_rect (defs := defs) 𝒱 c bd E (Q := Q) (m := m) (r := r) (hl := hl) (k := k) (S := m.view.set) (q := fullShare) (f := f)
    (View.set_slice_subset m.view r)) $$ H
  iintro H
  rw [show (m.access r).read (Elt F) f = fun l => g (r.emb l) from by rw [← hf]; rfl]
  iapply Hk
  iexists f
  isplitr
  · ipureintro; exact hf
  · iexact H

/-- A store overwrites the rectangle's elements. -/
theorem wp_st {m : Memref sig c.2.kind .vmem s e} {r : Rect s} {w : r.shape.Idx → Elt F e} {hx : (m.access r).Stores Finset.univ}
    {hm : Finset.univ = Finset.univ ∨ ∀ a, r.stride a = 1} {k : PUnit → Prog (TpuEff nD τ sig (Elt F) Λ c.2) α} (g : s.Idx → Elt F e) :
    Holds c m g ⊢ iprop((Holds c m (stored r w g) -∗ wp frame (wpE defs 𝒱 c bd) E (k ⟨⟩) Q)
      -∗ wp frame (wpE defs 𝒱 c bd) E (.op (.store m r w Finset.univ hx hm) k) Q) := by
  unfold Holds
  iintro ⟨%f, %hf, H⟩ Hk
  iapply (wp_store (defs := defs) 𝒱 c bd E (Q := Q) (m := m) (r := r) (w := w) (Mk := Finset.univ) (hx := hx) (hm := hm) (k := k) (S := m.view.set) (f := f)
    (View.set_slice_subset m.view r)) $$ H
  iintro H
  iapply Hk
  iexists ((m.access r).write (Elt F) f w Finset.univ)
  isplitr
  · ipureintro
    funext y
    by_cases h : ∃ l, r.emb l = y
    · obtain ⟨l, rfl⟩ := h
      rw [stored_emb]
      exact View.read_slice_write_emb (v := m.view) (Val := Elt F) r f w (Finset.mem_univ l)
    · rw [stored_miss r w g y (fun l hl => h ⟨l, hl⟩), ← hf]
      exact View.read_slice_write_of_not_mem (v := m.view) (Val := Elt F) r f w _ (fun hm => by
        obtain ⟨l, -, hl⟩ := Finset.mem_map.1 hm
        exact h ⟨l, hl⟩)
  · iexact H

/-- A whole buffer overwritten reads the new contents. -/
theorem stored_whole (w : (Rect.whole s).shape.Idx → Elt F e) (g : s.Idx → Elt F e) : stored (Rect.whole s) w g = w := by
  funext y
  have h := stored_emb (Rect.whole s) w g y
  rwa [Rect.emb_whole_apply] at h

/-- A gather reads the elements the index vectors name. -/
theorem wp_gather {m : Memref sig c.2.kind .vmem s e} {t : Shape} {idxs : Fin s.rank → IVec t 32} {h : ∀ a x, (idxs a x).toNat < s.size a} {hl : m.view.Loads}
    {k : Vec F t e → Prog (TpuEff nD τ sig (Elt F) Λ c.2) α} (g : s.Idx → Elt F e) :
    Holds c m g ⊢ iprop((Holds c m g -∗ wp frame (wpE defs 𝒱 c bd) E (k (loadIdx g idxs h)) Q)
      -∗ wp frame (wpE defs 𝒱 c bd) E (SparseCore.vectorLoadIdx m idxs h hl >>= k) Q) := by
  rw [SparseCore.vectorLoadIdx_bind]
  iintro H Hk
  iapply (wp_ld (defs := defs) 𝒱 c bd E (Q := Q) (m := m) (r := Rect.whole s) (hl := View.loadsAt_whole hl) (k := fun f => k (loadIdx f idxs h)) g) $$ H
  rw [show (fun l : (Rect.whole s).shape.Idx => g ((Rect.whole s).emb l)) = g from funext fun l => by rw [Rect.emb_whole_apply]]
  iexact Hk

/-- A scatter leaves `storeIdx`. -/
theorem wp_scatter {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} (g : s.Idx → Elt F e) :
    Holds c m g ⊢ iprop((Holds c m (storeIdx g idxs v mask add h) -∗ wp frame (wpE defs 𝒱 c bd) E (k ⟨⟩) Q)
      -∗ wp frame (wpE defs 𝒱 c bd) E (SparseCore.vectorStoreIdx m idxs v mask add h hs >>= k) Q) := by
  rw [SparseCore.vectorStoreIdx_bind]
  iintro H Hk
  iapply (wp_ld (defs := defs) 𝒱 c bd E (Q := Q) (m := m) (r := Rect.whole s) (hl := View.loadsAt_rect hs.loads)
    (k := fun f' => .op (.store m (.whole s) (storeIdx f' idxs v mask add h) Finset.univ hs (.inl rfl)) k) g) $$ H
  rw [show (fun l : (Rect.whole s).shape.Idx => g ((Rect.whole s).emb l)) = g from funext fun l => by rw [Rect.emb_whole_apply]]
  iintro H
  iapply (wp_st (defs := defs) 𝒱 c bd E (Q := Q) (m := m) (r := Rect.whole s) (w := storeIdx g idxs v mask add h) (hx := hs) (hm := .inl rfl) (k := k) g) $$ H
  rw [stored_whole]
  iexact Hk

end Cert.Kernel.Radix
-- ==== Proof.Sweep.lean ====
module

public import proofs.«01_k».proof.Proof.Steps
public import proofs.«01_k».proof.Proof.Rules

/-! A sweep's stages run: what each list of slots stands for, and what the tables hold after it. -/

@[expose] public section
noncomputable section

namespace Cert.Kernel.Radix
open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

/-! ## Slots in turn -/

/-- The next slot's start in the half it lies in. -/
def cur (c : Fin 2) (E : ℕ × ℕ) : ℕ := if c.val = 0 then E.1 else E.2

/-- The two halves' starts after a slot. -/
def adv (c : Fin 2) (E : ℕ × ℕ) : ℕ × ℕ := if c.val = 0 then (E.1 + 16, E.2) else (E.1, E.2 + 16)

/-- After a list of slots. -/
def advs : List (Fin 2) → ℕ × ℕ → ℕ × ℕ
  | [], E => E
  | c :: cs, E => advs cs (adv c E)

/-- Each slot's data stand for the sixteen elements at its start. -/
def Chain {β : Type} (P : Fin 2 → ℕ → β → Prop) : List (Fin 2) → ℕ × ℕ → List β → Prop
  | [], _, [] => True
  | c :: cs, E, b :: bs => P c (cur c E) b ∧ Chain P cs (adv c E) bs
  | _, _, _ => False

/-- The sixteen lie in their half. -/
def InH (c : Fin 2) (E : ℕ) : Prop := 16384 * c.val ≤ E ∧ E + 16 ≤ 16384 * c.val + 16384

/-- The slot begins at this element. -/
def PC (t : ℕ) (c : Fin 2) (E : ℕ) (s : Fin 2 × Fin 16) : Prop := s.1 = c ∧ E = 16384 * c.val + 256 * t + 16 * s.2.val
/-- The slot's vector holds the keys of its sixteen elements. -/
def PS (key : ℕ → BitVec 32) (c : Fin 2) (E : ℕ) (s : Slot) : Prop := s.c = c ∧ InH c E ∧ ∀ k : Fin 16, s.key (ln k) = key (E + k.val)
/-- It holds their keys and their digits. -/
def PD (key : ℕ → BitVec 32) (d : ℕ → ℕ) (c : Fin 2) (E : ℕ) (s : DSlot) : Prop :=
  s.c = c ∧ InH c E ∧ (∀ k : Fin 16, s.key (ln k) = key (E + k.val)) ∧ ∀ k : Fin 16, (s.dig (ln k)).toNat = d (E + k.val)
/-- It holds their keys and the places they go to. -/
def PO (key : ℕ → BitVec 32) (d : ℕ → ℕ) (c : Fin 2) (E : ℕ) (s : OSlot) : Prop :=
  InH c E ∧ (∀ k : Fin 16, s.key (ln k) = key (E + k.val)) ∧ ∀ k : Fin 16, s.off (ln k) = BitVec.ofNat 32 (pos d (E + k.val))
/-- It holds the histogram entries they are counted at. -/
def PH (hx : ℕ → ℕ) (c : Fin 2) (E : ℕ) (s : HSlot) : Prop := InH c E ∧ ∀ k : Fin 16, (s.idx (ln k)).toNat = hx (E + k.val)

/-- The order of the halves. -/
def halves : List (Fin 2) := slots.map Prod.fst

/-- A trip's slots go through 256 elements of each half in turn. -/
theorem slots_chain (t : ℕ) : Chain (PC t) halves (256 * t, 16384 + 256 * t) slots := by
  simp [Chain, halves, slots, PC, cur, adv]

/-- A trip moves both halves on by 256. -/
theorem advs_halves (E : ℕ × ℕ) : advs halves E = (E.1 + 256, E.2 + 256) := by
  simp [advs, halves, slots, adv]

/-! ## The digit of a word, and the histogram entry -/

/-- A digit: a shift and a mask, which divide and take a remainder. -/
structure Digit (sh mk : BitVec 32) (m b : ℕ) : Prop where
  le : b ≤ 2048
  val : ∀ (v : V16) (k : Fin 16), (digV sh mk v (ln k)).toNat = (v (ln k)).toNat / m % b
  pos : 0 < b

/-- A digit names an entry of a digit table. -/
theorem Digit.lt {sh mk : BitVec 32} {m b : ℕ} (h : Digit sh mk m b) (v : V16) (k : Fin 16) : (digV sh mk v (ln k)).toNat < 2048 := by
  rw [h.val]
  exact lt_of_lt_of_le (Nat.mod_lt _ h.pos) h.le

/-- A lane's digit is the word shifted and masked. -/
theorem digV_apply (sh mk : BitVec 32) (v : V16) (k : Fin 16) (hs : sh.toNat < 32) : digV sh mk v (ln k) = (v (ln k) >>> sh.toNat) &&& mk := by
  show IntOp.shrui .vector (v (ln k)) sh &&& mk = _
  unfold IntOp.shrui
  rw [if_pos hs]
  rfl

/-- A shift by `n` and a mask of `p` ones is the digit above `2 ^ n` of base `2 ^ p`. -/
theorem digit_of (sh mk : BitVec 32) (n p : ℕ) (hs : sh.toNat = n) (hn : n < 32) (hm : mk.toNat = 2 ^ p - 1) (hp : p ≤ 11) : Digit sh mk (2 ^ n) (2 ^ p) where
  le := (Nat.pow_le_pow_right (by decide) hp).trans (by decide)
  pos := Nat.two_pow_pos p
  val := fun v k => by
    rw [digV_apply sh mk v k (by omega), BitVec.toNat_and, BitVec.toNat_ushiftRight, hm, Nat.and_two_pow_sub_one_eq_mod, hs, Nat.shiftRight_eq_div_pow]

/-- The first pass's digit: the low eleven bits. -/
theorem digit0 : Digit 0#32 2047#32 1 2048 := digit_of 0#32 2047#32 0 11 rfl (by decide) (by decide) (by decide)
/-- The second pass's digit: the next eleven bits. -/
theorem digit1 : Digit 11#32 2047#32 2048 2048 := digit_of 11#32 2047#32 11 11 (by decide) (by decide) (by decide) (by decide)
/-- The third pass's digit: the top ten bits. -/
theorem digit2 : Digit 22#32 1023#32 (2048 * 2048) 1024 := digit_of 22#32 1023#32 22 10 (by decide) (by decide) (by decide) (by decide)

/-- The histogram entry is the half an element goes to, then its next digit. -/
theorem idxV_toNat {sh mk : BitVec 32} {m b : ℕ} (h : Digit sh mk m b) (key off : V16) (k : Fin 16) (ho : (off (ln k)).toNat < 32768) :
    (idxV sh mk key off (ln k)).toNat = (off (ln k)).toNat / 16384 * 2048 + (key (ln k)).toNat / m % b := by
  have hd := h.lt key k
  rw [← h.val key k]
  show (IntOp.shli .vector (IntOp.shrui .vector (off (ln k)) 14#32) 11#32 ||| digV sh mk key (ln k)).toNat = _
  unfold IntOp.shrui IntOp.shli
  rw [if_pos (by decide), if_pos (by decide), BitVec.toNat_or, BitVec.shiftLeft_eq', BitVec.toNat_shiftLeft, BitVec.ushiftRight_eq', BitVec.toNat_ushiftRight]
  show ((off (ln k)).toNat >>> 14 <<< 11) % 2 ^ 32 ||| _ = _
  rw [Nat.mod_eq_of_lt (by rw [Nat.shiftRight_eq_div_pow, Nat.shiftLeft_eq]; omega), ← Nat.shiftLeft_add_eq_or_of_lt (by simpa using hd),
    Nat.shiftLeft_eq, Nat.shiftRight_eq_div_pow]

/-- The counts of a histogram while the next pass's counting is under way. -/
def HC (hx : ℕ → ℕ) (E : ℕ × ℕ) (y : ℕ) : ℕ := cnt hx y 0 E.1 + cnt hx y 16384 E.2

/-- Counting sixteen more elements of a half moves that half's start on. -/
theorem HC_adv (hx : ℕ → ℕ) (E : ℕ × ℕ) (c : Fin 2) (hE : InH c (cur c E)) (y : ℕ) :
    HC hx E y + cnt hx y (cur c E) (cur c E + 16) = HC hx (adv c E) y := by
  unfold HC adv cur InH at *
  by_cases h : c.val = 0
  · simp only [h, if_true] at hE ⊢
    have := cnt_add hx y (Nat.zero_le E.1) (Nat.le_add_right E.1 16)
    omega
  · simp only [h, if_false] at hE ⊢
    have := cnt_add hx y (show 16384 ≤ E.2 by omega) (Nat.le_add_right E.2 16)
    omega

/-- A vector whose lanes are all below `n` names entries of a table of `n`. -/
theorem inb_of {n : ℕ} (v : V16) (h : ∀ k : Fin 16, (v (ln k)).toNat < n) : ∀ a z, ((![v] : Fin 1 → V16) a z).toNat < (⟨1, ![n]⟩ : Shape).size a := by
  intro a z
  obtain rfl : a = 0 := Subsingleton.elim a 0
  have := h (z 0)
  rw [← eq_ln z] at this
  exact this

/-! ## The stages -/

variable {F : FTy → Type} [BitOps F] {Ix : Type} [DecidableEq Ix] {Name : Type} [DecidableEq Name] {U : Type} [URA U] {Lvl : Type} [Preorder Lvl]
variable {defs : Defs nD τ sig (Elt F) Λ₀} (𝒱 : Variants) (dd : Dev nD) {x : Fin τ.nSC} {y : Fin τ.nSub} (bd : Option 𝒱.V) (E : Set Name)
variable {α : Type} {Q : α → sProp (MT nD τ sig Ix (Elt F) Name U Lvl)}

/-- A tile's thread. -/
abbrev thr (dd : Dev nD) (x : Fin τ.nSC) (y : Fin τ.nSub) : Thread nD τ := (dd, .scVector x y)

/-- A row's buffer. -/
abbrev MR := Memref sig .scVector .vmem S32768 .i32
/-- A digit table. -/
abbrev MP := Memref sig .scVector .vmem S2048 .i32
/-- A histogram. -/
abbrev MH := Memref sig .scVector .vmem S4096 .i32

/-- What a slot's load stands for. -/
theorem load_slot {t : Fin L64.trips} {kf : V16 → V16} {kb : BitVec 32 → BitVec 32} (hkf : ∀ v k, kf v (ln k) = kb (v (ln k)))
    (g : Row) {c : Fin 2} {E₀ : ℕ} {s : Fin 2 × Fin 16} (h : PC t.val c E₀ s) :
    PS (fun e => kb (nth g e)) c E₀ ⟨s.1, kf fun l => g ((Rect.unit (s := S32768) (slotOff t (BitVec.ofNat 32 (1024 * s.1.val)) (BitVec.ofNat 32 s.2.val)) S16.size (slotInb t s.1 s.2)).emb l)⟩ := by
  obtain ⟨hc, hE⟩ := h
  refine ⟨hc, ?_, fun k => ?_⟩
  · have h1 : t.val < 64 := t.isLt
    have h2 := s.2.isLt
    unfold InH; omega
  · show kf _ (ln k) = _
    rw [hkf]
    show kb (g _) = kb _
    rw [← nth_idx g, Rect.emb_apply]
    congr 2
    show slotOff t _ _ 0 + 1 * k.val = _
    rw [slotOff_eq, hE, hc]
    show 16384 * c.val + 256 * t.val + 16 * s.2.val + 1 * k.val = _
    omega

/-- The loads of a trip give the keys of its elements. -/
theorem wp_loadSlots {src : MR} {t : Fin L64.trips} {kf : V16 → V16} {kb : BitVec 32 → BitVec 32} (hkf : ∀ v k, kf v (ln k) = kb (v (ln k)))
    (g : Row) (cs : List (Fin 2)) (ss : List (Fin 2 × Fin 16)) (E₀ : ℕ × ℕ) (hss : Chain (PC t.val) cs E₀ ss)
    (k : List Slot → Prog (TpuEff nD τ sig (Elt F) Λ₀ (.scVector x y)) α) :
    Holds (thr dd x y) src g ⊢ iprop((∀ xs, ⌜Chain (PS fun e => kb (nth g e)) cs E₀ xs⌝ -∗ Holds (thr dd x y) src g -∗ wp frame (wpE defs 𝒱 (thr dd x y) bd) E (k xs) Q) -∗ wp frame (wpE defs 𝒱 (thr dd x y) bd) E (loadSlots src t kf ss k) Q) := by
  induction ss generalizing cs E₀ k with
  | nil =>
    cases cs with
    | nil =>
      iintro H Hk
      unfold loadSlots
      iapply Hk $$ %([] : List Slot) %(show Chain _ [] E₀ [] from trivial) H
    | cons c cs => exact hss.elim
  | cons s ss ih =>
    cases cs with
    | nil => exact hss.elim
    | cons c cs =>
      obtain ⟨hs, hss⟩ := hss
      have hP := load_slot hkf g hs
      iintro H Hk
      unfold loadSlots
      iapply (wp_ld (defs := defs) 𝒱 (thr dd x y) bd E (Q := Q) (m := src) g) $$ H
      iintro H
      iapply (ih cs (adv c E₀) hss _) $$ H
      iintro %xs %hxs H
      iapply Hk $$ %(_ :: xs) %⟨hP, hxs⟩ H

/-- The digits of a trip's keys are those of its elements, and name table entries. -/
theorem wp_digSlots {sh mk : BitVec 32} {m b : ℕ} (hd : Digit sh mk m b) (key : ℕ → BitVec 32)
    (cs : List (Fin 2)) (xs : List Slot) (E₀ : ℕ × ℕ) (hxs : Chain (PS key) cs E₀ xs)
    (k : List DSlot → Prog (TpuEff nD τ sig (Elt F) Λ₀ (.scVector x y)) α) :
    iprop(∀ ds, ⌜Chain (PD key fun e => (key e).toNat / m % b) cs E₀ ds⌝ -∗ wp frame (wpE defs 𝒱 (thr dd x y) bd) E (k ds) Q) ⊢ wp frame (wpE defs 𝒱 (thr dd x y) bd) E (digSlots sh mk xs k) Q := by
  induction xs generalizing cs E₀ k with
  | nil =>
    cases cs with
    | nil =>
      iintro Hk
      unfold digSlots
      iapply Hk $$ %([] : List DSlot) %(show Chain _ [] E₀ [] from trivial)
    | cons c cs => exact hxs.elim
  | cons s xs ih =>
    cases cs with
    | nil => exact hxs.elim
    | cons c cs =>
      obtain ⟨⟨hc, hE, hk⟩, hxs⟩ := hxs
      iintro Hk
      unfold digSlots
      have hlt : ∀ a z, ((![digV sh mk s.key] : Fin 1 → V16) a z).toNat < S2048.size a := inb_of _ (hd.lt s.key)
      iapply (wp_assume 𝒱 (thr dd x y) bd E (h := (⟨hlt, hlt⟩ : chkP _)))
      iapply (ih cs (adv c E₀) hxs _)
      iintro %ds %hds
      iapply Hk $$ %(_ :: ds) %⟨⟨hc, hE, hk, fun k => (hd.val s.key k).trans (by rw [hk])⟩, hds⟩

/-- The tables and the destination while a permuting sweep is under way. -/
structure PermInv (nb : ℕ) (d : ℕ → ℕ) (vals : ℕ → BitVec 32) (E : ℕ × ℕ) (fl fh : S2048.Idx → BitVec 32) (fd : Row) : Prop where
  lo : PtrAt nb d E.1 fl
  hi : PtrAt nb d E.2 fh
  dst : DstAt d vals E.1 E.2 fd
  mid : E.1 ≤ 16384
  mid' : 16384 ≤ E.2
  top : E.2 ≤ N

/-- One slot's gather, its two scatters. -/
theorem wp_permOne {m m' : MP} (hm : m' = m) {dst : MR} {w : V16} {nb : ℕ} {d : ℕ → ℕ} {dig : V16} {h : chkP dig} {E₀ : ℕ}
    {hl : m'.view.Loads} {hs : (m'.access (.whole S2048)).Stores Finset.univ} {hs' : (dst.access (.whole S32768)).Stores Finset.univ}
    {f : S2048.Idx → BitVec 32} {fd : Row} (hp : PtrAt nb d E₀ f) (hd : ∀ k : Fin 16, (dig (ln k)).toNat = d (E₀ + k.val))
    (hnb : ∀ e, d e < nb) (hE : E₀ + 16 ≤ N) (k : V16 → Prog (TpuEff nD τ sig (Elt F) Λ₀ (.scVector x y)) α) :
    Holds (thr dd x y) m f ⊢ iprop(Holds (thr dd x y) dst fd -∗
      (∀ off : V16, ∀ ho : chkB off, ⌜∀ k : Fin 16, off (ln k) = BitVec.ofNat 32 (pos d (E₀ + k.val))⌝
        -∗ Holds (thr dd x y) m (storeIdx (F := F) (e := .i32) f ![dig] (addi (loadIdx (F := F) (e := .i32) f ![dig] h.inb) (scanCount ones dig).2) (scanCount ones dig).1 false h.inb)
        -∗ Holds (thr dd x y) dst (storeIdx (F := F) (e := .i32) fd ![off] w (fun _ => 1#1) false ho.inb)
        -∗ wp frame (wpE defs 𝒱 (thr dd x y) bd) E (k off) Q)
      -∗ wp frame (wpE defs 𝒱 (thr dd x y) bd) E
        (SparseCore.vectorLoadIdx (F := F) m' ![dig] h.inb hl >>= fun b =>
          SparseCore.vectorStoreIdx (F := F) (e := .i32) m' ![dig] (addi b (scanCount ones dig).2) (scanCount ones dig).1 false h.inb hs >>= fun _ =>
          .op (.assume (chkB (subi (addi b (scanCount ones dig).2) (broadcast S16 1#32))) (chkB.dec _)) fun h' =>
          SparseCore.vectorStoreIdx (F := F) (e := .i32) dst ![subi (addi b (scanCount ones dig).2) (broadcast S16 1#32)] w (fun _ => 1#1) false h'.down.inb hs' >>= fun _ =>
          k (subi (addi b (scanCount ones dig).2) (broadcast S16 1#32))) Q) := by
  subst hm
  have hoff := fun k => off_eq (F := F) (h := h.inb) hp hd hnb k
  have hchk : chkB (subi (addi (loadIdx (F := F) (e := .i32) f ![dig] h.inb) (scanCount ones dig).2) (broadcast S16 1#32)) := by
    refine inb_of (n := 32768) _ fun k => ?_
    have hk := k.isLt
    rw [hoff, off_toNat (by omega)]
    exact pos_lt d (by omega)
  iintro H Hd Hk
  iapply (wp_gather (defs := defs) 𝒱 (thr dd x y) bd E (Q := Q) (m := m') f) $$ H
  iintro H
  iapply (wp_scatter (defs := defs) 𝒱 (thr dd x y) bd E (Q := Q) (m := m') f) $$ H
  iintro H
  iapply (wp_assume 𝒱 (thr dd x y) bd E (h := hchk))
  iapply (wp_scatter (defs := defs) 𝒱 (thr dd x y) bd E (Q := Q) (m := dst) fd) $$ Hd
  iintro Hd
  iapply Hk $$ %_ %hchk %hoff H Hd

/-- Placing a trip's elements puts each at its place, with the pointers moved on. -/
theorem wp_permSlots {lo hi : MP} {dst : MR} {vf : V16 → V16} {vb : BitVec 32 → BitVec 32} (hvf : ∀ v k, vf v (ln k) = vb (v (ln k)))
    {nb : ℕ} {d : ℕ → ℕ} (hnb : ∀ e, d e < nb) (key : ℕ → BitVec 32)
    (cs : List (Fin 2)) (ds : List DSlot) (E₀ : ℕ × ℕ) (hds : Chain (PD key d) cs E₀ ds)
    (fl fh : S2048.Idx → BitVec 32) (fd : Row) (hI : PermInv nb d (fun e => vb (key e)) E₀ fl fh fd)
    (k : List OSlot → Prog (TpuEff nD τ sig (Elt F) Λ₀ (.scVector x y)) α) :
    Holds (thr dd x y) lo fl ⊢ iprop(Holds (thr dd x y) hi fh -∗ Holds (thr dd x y) dst fd -∗
      (∀ os fl' fh' fd', ⌜Chain (PO key d) cs E₀ os ∧ PermInv nb d (fun e => vb (key e)) (advs cs E₀) fl' fh' fd'⌝
        -∗ Holds (thr dd x y) lo fl' -∗ Holds (thr dd x y) hi fh' -∗ Holds (thr dd x y) dst fd' -∗ wp frame (wpE defs 𝒱 (thr dd x y) bd) E (k os) Q)
      -∗ wp frame (wpE defs 𝒱 (thr dd x y) bd) E (permSlots lo hi dst vf ds k) Q) := by
  induction ds generalizing cs E₀ k fl fh fd with
  | nil =>
    cases cs with
    | nil =>
      iintro H H' Hd Hk
      unfold permSlots
      iapply Hk $$ %([] : List OSlot) %fl %fh %fd %⟨trivial, hI⟩ H H' Hd
    | cons c cs => exact hds.elim
  | cons s ds ih =>
    cases cs with
    | nil => exact hds.elim
    | cons c cs =>
      obtain ⟨⟨hc, hE, hk, hdig⟩, hds⟩ := hds
      obtain ⟨h1, h2, h3, h4, h5, h6⟩ := hI
      have hN : N = 32768 := rfl
      unfold permSlots
      by_cases hc0 : c.val = 0
      · have hcs : s.c.val = 0 := by rw [hc]; exact hc0
        have hcur : cur c E₀ = E₀.1 := if_pos hc0
        have hadv : adv c E₀ = (E₀.1 + 16, E₀.2) := if_pos hc0
        rw [hcur] at hE hk hdig
        unfold InH at hE
        iintro H H' Hd Hk
        iapply (wp_permOne 𝒱 dd bd E (Q := Q) (m := lo) (if_pos hcs) (dst := dst) (h := s.ok) (f := fl) (fd := fd) (w := vf s.key) h1 hdig hnb (by omega)
          (fun off => permSlots lo hi dst vf ds fun os => k (⟨s.key, off⟩ :: os))) $$ H Hd
        iintro %off %ho %hoff H Hd
        iapply (ih cs (adv c E₀) hds _ fh _ (by
          rw [hadv]
          exact ⟨ptr_step h1 hdig hnb, h2, dst_step₀ h3 hoff (fun k => by rw [hvf, hk]) (by omega) h6, by simp only []; omega, h5, h6⟩) _) $$ H H' Hd
        iintro %os %fl' %fh' %fd' %hos H H' Hd
        iapply Hk $$ %(_ :: os) %fl' %fh' %fd' %⟨⟨⟨by rw [hcur]; unfold InH; exact hE, by rw [hcur]; exact hk, by rw [hcur]; exact hoff⟩, hos.1⟩, hos.2⟩ H H' Hd
      · have hcs : ¬ s.c.val = 0 := by rw [hc]; exact hc0
        have hc1 : c.val = 1 := by omega
        have hcur : cur c E₀ = E₀.2 := if_neg hc0
        have hadv : adv c E₀ = (E₀.1, E₀.2 + 16) := if_neg hc0
        rw [hcur] at hE hk hdig
        unfold InH at hE
        iintro H H' Hd Hk
        iapply (wp_permOne 𝒱 dd bd E (Q := Q) (m := hi) (if_neg hcs) (dst := dst) (h := s.ok) (f := fh) (fd := fd) (w := vf s.key) h2 hdig hnb (by omega)
          (fun off => permSlots lo hi dst vf ds fun os => k (⟨s.key, off⟩ :: os))) $$ H' Hd
        iintro %off %ho %hoff H' Hd
        iapply (ih cs (adv c E₀) hds fl _ _ (by
          rw [hadv]
          exact ⟨h1, ptr_step h2 hdig hnb, dst_step₁ h3 hoff (fun k => by rw [hvf, hk]) h4 h5 (by omega), h4, by simp only []; omega, by simp only []; omega⟩) _) $$ H H' Hd
        iintro %os %fl' %fh' %fd' %hos H H' Hd
        iapply Hk $$ %(_ :: os) %fl' %fh' %fd' %⟨⟨⟨by rw [hcur]; unfold InH; exact hE, by rw [hcur]; exact hk, by rw [hcur]; exact hoff⟩, hos.1⟩, hos.2⟩ H H' Hd

/-- The entry of the next histogram an element is counted at. -/
def midX (key : ℕ → BitVec 32) (d : ℕ → ℕ) (m b : ℕ) (e : ℕ) : ℕ := pos d e / 16384 * 2048 + (key e).toNat / m % b

/-- The entry of the first histogram an element is counted at. -/
def firstX (key : ℕ → BitVec 32) (m b : ℕ) (e : ℕ) : ℕ := e / 16384 * 2048 + (key e).toNat / m % b

/-- The histogram entries computed of a trip's elements are those of the next pass. -/
theorem wp_idxSlots {sh mk : BitVec 32} {m b : ℕ} (hd : Digit sh mk m b) (key : ℕ → BitVec 32) (d : ℕ → ℕ)
    (cs : List (Fin 2)) (os : List OSlot) (E₀ : ℕ × ℕ) (hos : Chain (PO key d) cs E₀ os)
    (k : List HSlot → Prog (TpuEff nD τ sig (Elt F) Λ₀ (.scVector x y)) α) :
    iprop(∀ hs, ⌜Chain (PH (midX key d m b)) cs E₀ hs⌝ -∗ wp frame (wpE defs 𝒱 (thr dd x y) bd) E (k hs) Q)
      ⊢ wp frame (wpE defs 𝒱 (thr dd x y) bd) E (idxSlots sh mk os k) Q := by
  induction os generalizing cs E₀ k with
  | nil =>
    cases cs with
    | nil =>
      iintro Hk
      unfold idxSlots
      iapply Hk $$ %([] : List HSlot) %(show Chain _ [] E₀ [] from trivial)
    | cons c cs => exact hos.elim
  | cons s os ih =>
    cases cs with
    | nil => exact hos.elim
    | cons c cs =>
      obtain ⟨⟨hE, hk, ho⟩, hos⟩ := hos
      have hN : N = 32768 := rfl
      have hE' := hE
      unfold InH at hE'
      have hcl := c.isLt
      have hlt : ∀ k : Fin 16, cur c E₀ + k.val < N := fun k => by have := k.isLt; omega
      have hx : ∀ k : Fin 16, (idxV sh mk s.key s.off (ln k)).toNat = midX key d m b (cur c E₀ + k.val) := fun k => by
        have hp : pos d (cur c E₀ + k.val) < 32768 := pos_lt d (hlt k)
        rw [idxV_toNat hd s.key s.off k (by rw [ho, off_toNat (hlt k)]; exact hp), ho, off_toNat (hlt k), hk]
        rfl
      have hchk : chkH (idxV sh mk s.key s.off) := by
        refine inb_of (n := 4096) _ fun k => ?_
        rw [hx]
        have hp : pos d (cur c E₀ + k.val) < 32768 := pos_lt d (hlt k)
        have hm : (key (cur c E₀ + k.val)).toNat / m % b < b := Nat.mod_lt _ hd.pos
        have := hd.le
        unfold midX
        omega
      iintro Hk
      unfold idxSlots
      iapply (wp_assume 𝒱 (thr dd x y) bd E (h := hchk))
      iapply (ih cs (adv c E₀) hos _)
      iintro %hs %hhs
      iapply Hk $$ %(_ :: hs) %⟨⟨hE, hx⟩, hhs⟩

/-- Counting a trip's elements for the next pass brings the histogram up to them. -/
theorem wp_histSlots {hist : MH} (hx : ℕ → ℕ) (cs : List (Fin 2)) (hs : List HSlot) (E₀ : ℕ × ℕ) (hhs : Chain (PH hx) cs E₀ hs)
    (f : S4096.Idx → BitVec 32) (hf : HistAt (HC hx E₀) f) {Q : Unit → sProp (MT nD τ sig Ix (Elt F) Name U Lvl)} :
    Holds (thr dd x y) hist f ⊢ iprop((∀ f', ⌜HistAt (HC hx (advs cs E₀)) f'⌝ -∗ Holds (thr dd x y) hist f' -∗ Q ⟨⟩)
      -∗ wp frame (wpE defs 𝒱 (thr dd x y) bd) E (histSlots hist hs) Q) := by
  induction hs generalizing cs E₀ f with
  | nil =>
    cases cs with
    | nil =>
      iintro H Hk
      unfold histSlots
      rw [wp_ret]
      imodintro
      iapply Hk $$ %f %hf H
    | cons c cs => exact hhs.elim
  | cons s hs ih =>
    cases cs with
    | nil => exact hhs.elim
    | cons c cs =>
      obtain ⟨⟨hE, hi⟩, hhs⟩ := hhs
      iintro H Hk
      unfold histSlots
      iapply (wp_scatter (defs := defs) 𝒱 (thr dd x y) bd E (Q := Q) (m := hist) f) $$ H
      iintro H
      iapply (ih cs (adv c E₀) hhs _ (fun z => by
        have := hist_step (F := F) (h := s.ok.inb) hf hi hi (fun _ _ => Iff.rfl) z
        exact this.trans (congrArg (BitVec.ofNat 32) (HC_adv hx E₀ c hE _)))) $$ H
      iexact Hk

/-- Counting a trip's elements for the first pass brings the histogram up to them. -/
theorem wp_hist0Slots {hist : MH} {sh mk : BitVec 32} {m b : ℕ} (hd : Digit sh mk m b) (key : ℕ → BitVec 32)
    (cs : List (Fin 2)) (xs : List Slot) (E₀ : ℕ × ℕ) (hxs : Chain (PS key) cs E₀ xs)
    (f : S4096.Idx → BitVec 32) (hf : HistAt (HC (firstX key m b) E₀) f) {Q : Unit → sProp (MT nD τ sig Ix (Elt F) Name U Lvl)} :
    Holds (thr dd x y) hist f ⊢ iprop((∀ f', ⌜HistAt (HC (firstX key m b) (advs cs E₀)) f'⌝ -∗ Holds (thr dd x y) hist f' -∗ Q ⟨⟩)
      -∗ wp frame (wpE defs 𝒱 (thr dd x y) bd) E (hist0Slots hist sh mk xs) Q) := by
  induction xs generalizing cs E₀ f with
  | nil =>
    cases cs with
    | nil =>
      iintro H Hk
      unfold hist0Slots
      rw [wp_ret]
      imodintro
      iapply Hk $$ %f %hf H
    | cons c cs => exact hxs.elim
  | cons s xs ih =>
    cases cs with
    | nil => exact hxs.elim
    | cons c cs =>
      obtain ⟨⟨hc, hE, hk⟩, hxs⟩ := hxs
      have hE' := hE
      unfold InH at hE'
      have hcl := c.isLt
      have hdig : ∀ k : Fin 16, (digV sh mk s.key (ln k)).toNat = (fun e => (key e).toNat / m % b) (cur c E₀ + k.val) :=
        fun k => (hd.val s.key k).trans (by rw [hk])
      have hq : ∀ k : Fin 16, (cur c E₀ + k.val) / 16384 = c.val := fun k => by have := k.isLt; omega
      have hidx : ∀ k : Fin 16, (addi (digV sh mk s.key) (broadcast S16 (BitVec.ofNat 32 (2048 * s.c.val))) (ln k)).toNat = firstX key m b (cur c E₀ + k.val) := fun k => by
        have h1 := hd.lt s.key k
        show (digV sh mk s.key (ln k) + BitVec.ofNat 32 (2048 * s.c.val)).toNat = _
        unfold firstX
        rw [BitVec.toNat_add, BitVec.toNat_ofNat, hc, hq, ← hk, ← hd.val s.key k]
        omega
      have hchk : chkH (addi (digV sh mk s.key) (broadcast S16 (BitVec.ofNat 32 (2048 * s.c.val)))) := by
        refine inb_of (n := 4096) _ fun k => ?_
        rw [hidx]
        unfold firstX
        have h1 := hd.lt s.key k
        have h2 := hdig k
        have h3 := hq k
        simp only [] at h2
        rw [h3, ← h2]
        omega
      iintro H Hk
      unfold hist0Slots
      iapply (wp_assume 𝒱 (thr dd x y) bd E (h := hchk))
      iapply (wp_scatter (defs := defs) 𝒱 (thr dd x y) bd E (Q := Q) (m := hist) f) $$ H
      iintro H
      iapply (ih cs (adv c E₀) hxs _ (fun z => by
        have := hist_step (F := F) (dv := fun e => (key e).toNat / m % b) (h := hchk.inb) hf hidx hdig (fun k k' => by
          simp only [firstX]
          rw [hq, hq]
          omega) z
        exact this.trans (congrArg (BitVec.ofNat 32) (HC_adv _ E₀ c hE _)))) $$ H
      iexact Hk

end Cert.Kernel.Radix
-- ==== Proof.Tables.lean ====
module

public import proofs.«01_k».proof.Proof.Sweep

/-! The table loops: clearing, adding the halves of a histogram, the prefix sum, and the pointers' start. -/

@[expose] public section
noncomputable section

namespace Cert.Kernel.Radix
open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

/-! ## Sixteen entries of a table -/

section Sixteen
variable {F : FTy → Type} [BitOps F] {n : ℕ} {off : Fin 1 → ℕ} {o : ℕ} {inb : ∀ a, off a + S16.size a ≤ (⟨1, ![n]⟩ : Shape).size a}

/-- Lane `k` of sixteen entries is entry `o + k`. -/
theorem emb_at (ho : off = ![o]) (k : Fin 16) : (((Rect.unit (s := ⟨1, ![n]⟩) off S16.size inb).emb (ln k)) 0).val = o + k.val := by
  subst ho
  rw [Rect.emb_apply]
  show o + 1 * k.val = _
  omega

/-- One of sixteen entries overwritten reads its lane. -/
theorem stored_in (ho : off = ![o]) (w : V16) (g : (⟨1, ![n]⟩ : Shape).Idx → BitVec 32) (j : (⟨1, ![n]⟩ : Shape).Idx) (k : Fin 16) (hj : (j 0).val = o + k.val) :
    stored (F := F) (e := .i32) (Rect.unit (s := ⟨1, ![n]⟩) off S16.size inb) w g j = w (ln k) := by
  have : j = (Rect.unit (s := ⟨1, ![n]⟩) off S16.size inb).emb (ln k) := by
    funext a
    obtain rfl : a = 0 := Subsingleton.elim a 0
    exact Fin.ext (hj.trans (emb_at ho k).symm)
  rw [this]
  exact stored_emb (F := F) (e := .i32) (Rect.unit (s := ⟨1, ![n]⟩) off S16.size inb) w g (ln k)

/-- The other entries read what they held. -/
theorem stored_out (ho : off = ![o]) (w : V16) (g : (⟨1, ![n]⟩ : Shape).Idx → BitVec 32) (j : (⟨1, ![n]⟩ : Shape).Idx) (hj : (j 0).val < o ∨ o + 16 ≤ (j 0).val) :
    stored (F := F) (e := .i32) (Rect.unit (s := ⟨1, ![n]⟩) off S16.size inb) w g j = g j := by
  refine stored_miss (F := F) (e := .i32) (Rect.unit (s := ⟨1, ![n]⟩) off S16.size inb) w g j fun l hl => ?_
  have hl' : l = ln (l 0) := eq_ln l
  have h1 := emb_at (inb := inb) ho (l 0)
  rw [← hl', hl] at h1
  have : (l 0).val < 16 := (l 0).isLt
  omega

end Sixteen

/-! ## Counts by half -/

/-- The entry of a histogram: the half of the row, then the digit. -/
def halfX (d : ℕ → ℕ) (e : ℕ) : ℕ := e / 16384 * 2048 + d e

/-- A histogram's first half counts the row's first half. -/
theorem cnt_lo {d : ℕ → ℕ} (hd : ∀ e, d e < 2048) {x : ℕ} (hx : x < 2048) : cnt (halfX d) x 0 N = cnt d x 0 16384 := by
  have hN : N = 32768 := rfl
  rw [← cnt_add (halfX d) x (Nat.zero_le 16384) (show 16384 ≤ N by omega), cnt_eq_zero (halfX d) x 16384 N (fun e h1 h2 => by
    have := hd e; unfold halfX; omega), Nat.add_zero]
  exact cnt_congr fun e h1 h2 => by unfold halfX; omega

/-- Its second half counts the row's second half. -/
theorem cnt_hi {d : ℕ → ℕ} (hd : ∀ e, d e < 2048) {x : ℕ} (hx : x < 2048) : cnt (halfX d) (2048 + x) 0 N = cnt d x 16384 N := by
  have hN : N = 32768 := rfl
  rw [← cnt_add (halfX d) (2048 + x) (Nat.zero_le 16384) (show 16384 ≤ N by omega), cnt_eq_zero (halfX d) (2048 + x) 0 16384 (fun e h1 h2 => by
    have := hd e; unfold halfX; omega), Nat.zero_add]
  exact cnt_congr fun e h1 h2 => by unfold halfX; omega

/-- The two halves' counts add up to the row's. -/
theorem cnt_both {d : ℕ → ℕ} (hd : ∀ e, d e < 2048) {x : ℕ} (hx : x < 2048) : cnt (halfX d) x 0 N + cnt (halfX d) (2048 + x) 0 N = cnt d x 0 N := by
  have hN : N = 32768 := rfl
  rw [cnt_lo hd hx, cnt_hi hd hx, cnt_add d x (Nat.zero_le 16384) (by omega)]

/-- An entry no digit names counts nothing. -/
theorem cnt_none {d : ℕ → ℕ} {nb : ℕ} (hd : ∀ e, d e < nb) (hnb : nb ≤ 2048) {z : ℕ} (hz : nb ≤ z % 2048) : cnt (halfX d) z 0 N = 0 :=
  cnt_eq_zero _ _ _ _ fun e _ _ => by have := hd e; unfold halfX; omega

/-- A start and the counts of the digits from it on give a later start. -/
theorem start_sum (d : ℕ → ℕ) (x l : ℕ) : start d x + ∑ i ∈ Finset.range l, cnt d (x + i) 0 N = start d (x + l) := by
  induction l with
  | zero => simp
  | succ l ih => rw [Finset.sum_range_succ, ← Nat.add_assoc, ih, ← Nat.add_assoc, start_succ]

/-! ## The prefix sum's lanes -/

/-- The running sum without the lane itself, plus the carry, is the digit's start. -/
theorem excl_lane {d : ℕ → ℕ} {X : ℕ} {v : V16} {a : BitVec 32} (hv : ∀ k : Fin 16, v (ln k) = BitVec.ofNat 32 (cnt d (X + k.val) 0 N))
    (ha : a = BitVec.ofNat 32 (start d X)) (k : Fin 16) :
    addi (subi (scan .sum v) v) (broadcast S16 a) (ln k) = BitVec.ofNat 32 (start d (X + k.val)) := by
  show scan .sum v (ln k) - v (ln k) + a = _
  have h := scan_sum (m := fun i => cnt d (X + i) 0 N) hv k.val k.isLt
  rw [show scan .sum v (ln k) = _ from h, hv, ha, Finset.sum_range_succ, BitVec.ofNat_add]
  rw [← start_sum, BitVec.ofNat_add, BitVec.add_sub_cancel, BitVec.add_comm]

/-- Flipping the sign bit of a small number adds `2 ^ 31`. -/
theorem xor_min {s : ℕ} (hs : s < 2 ^ 31) : (BitVec.ofNat 32 s ^^^ 2147483648#32).toNat = 2 ^ 31 + s := by
  rw [BitVec.toNat_xor, BitVec.toNat_ofNat, Nat.mod_eq_of_lt (by omega)]
  have h := Nat.two_pow_add_eq_or_of_lt hs 1
  rw [Nat.mul_one] at h
  rw [h]
  show s ^^^ 2 ^ 31 = _
  refine Nat.eq_of_testBit_eq fun j => ?_
  rw [Nat.testBit_xor, Nat.testBit_or, Nat.testBit_two_pow]
  by_cases hj : 31 = j
  · subst hj
    rw [Nat.testBit_lt_two_pow hs]
    rfl
  · simp [hj]

/-- The carry is the sum of the sixteen counts. -/
theorem carry_eq {d : ℕ → ℕ} {X : ℕ} {v : V16} (hv : ∀ k : Fin 16, v (ln k) = BitVec.ofNat 32 (cnt d (X + k.val) 0 N)) :
    carryV v = BitVec.ofNat 32 (∑ i ∈ Finset.range 16, cnt d (X + i) 0 N) := by
  have hs := scan_sum (m := fun i => cnt d (X + i) 0 N) hv
  have hle : ∀ l, ∑ i ∈ Finset.range l, cnt d (X + i) 0 N < 2 ^ 31 := fun l => by
    have h1 := start_sum d X l
    have h2 : start d (X + l) ≤ 32768 := start_le d (X + l)
    omega
  have hx : ∀ k : Fin 16, (xori (scan .sum v) (broadcast S16 2147483648#32) (ln k)).toNat = (fun l => 2 ^ 31 + ∑ i ∈ Finset.range (l + 1), cnt d (X + i) 0 N) k.val := fun k => by
    show (scan .sum v (ln k) ^^^ 2147483648#32).toNat = _
    rw [show scan .sum v (ln k) = _ from hs k.val k.isLt, xor_min (hle _)]
  have hm := scan_max (m := fun l => 2 ^ 31 + ∑ i ∈ Finset.range (l + 1), cnt d (X + i) 0 N) hx (fun i j hij => Nat.add_le_add_left (Finset.sum_le_sum_of_subset (Finset.range_subset_range.2 (by omega))) _) 15 (by decide)
  show scan .max (xori (scan .sum v) (broadcast S16 2147483648#32)) (ln ⟨15, by decide⟩) ^^^ 2147483648#32 = _
  rw [hm]
  show scan .sum v (ln ⟨15, by decide⟩) ^^^ 2147483648#32 ^^^ 2147483648#32 = _
  rw [BitVec.xor_assoc, BitVec.xor_self, BitVec.xor_zero]
  exact hs 15 (by decide)

end Cert.Kernel.Radix
-- ==== Proof.Loops.lean ====
module

public import proofs.«01_k».proof.Proof.Tables

/-! The loops run: each by an invariant over its trips. -/

@[expose] public section
noncomputable section

namespace Cert.Kernel.Radix
open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [BitOps F] {Ix : Type} [DecidableEq Ix] {Name : Type} [DecidableEq Name] {U : Type} [URA U] {Lvl : Type} [Preorder Lvl]
variable {defs : Defs nD τ sig (Elt F) Λ₀} (𝒱 : Variants) (dd : Dev nD) {x : Fin τ.nSC} {y : Fin τ.nSub} (bd : Option 𝒱.V) (E : Set Name)
variable {α : Type} {Q : α → sProp (MT nD τ sig Ix (Elt F) Name U Lvl)}

/-- The trip counts: 256, 64, and a table's sixteenth. -/
theorem L64_trips : L64.trips = 64 := rfl
/-- The clearing loop has 256 trips. -/
theorem L256_trips : L256.trips = 256 := rfl

/-- The digits of a table loop. -/
def nbOf (b : Bool) : ℕ := cond b 1024 2048

/-- A table loop handles at most 2048 digits. -/
theorem nbOf_le (b : Bool) : nbOf b ≤ 2048 := by cases b <;> decide
/-- A table loop's trips, sixteen digits each, handle all the digits. -/
theorem LB_trips (b : Bool) : 16 * Scf.trips (LB b).lb (LB b).ub (LB b).st = nbOf b := by cases b <;> rfl

/-- A program that is done. -/
theorem wp_ret_of (a : α) : Q a ⊢ wp frame (wpE defs 𝒱 (thr dd x y) bd) E (.ret a) Q := by
  rw [wp_ret]
  iintro H
  imodintro
  iexact H

/-! ## Clearing -/

/-- The clearing loop leaves the histogram all zero. -/
theorem wp_zeroLoop {h : MH} (f : S4096.Idx → BitVec 32) (k : Unit → Prog (TpuEff nD τ sig (Elt F) Λ₀ (.scVector x y)) α) :
    Holds (thr dd x y) h f ⊢ iprop((∀ f', ⌜HistAt (fun _ => 0) f'⌝ -∗ Holds (thr dd x y) h f' -∗ wp frame (wpE defs 𝒱 (thr dd x y) bd) E (k ⟨⟩) Q)
      -∗ wp frame (wpE defs 𝒱 (thr dd x y) bd) E (Scf.Loop.for L256 L256_ok (⟨⟩ : Unit) (fun t _ => zeroTrip h t) >>= k) Q) := by
  iintro H Hk
  iapply (Scf.wp_for_bind frame (wpE defs 𝒱 (thr dd x y) bd) E L256.lb L256.ub L256.st L256_ok (⟨⟩ : Unit) (fun t _ => zeroTrip h t)
    (fun t _ => iprop(∃ g : S4096.Idx → BitVec 32, ⌜∀ j, (j 0).val < 16 * t → g j = 0#32⌝ ∗ Holds (thr dd x y) h g)) (by
    intro t _
    iintro ⟨%g, %hg, H⟩
    iapply (wp_ld (defs := defs) 𝒱 (thr dd x y) bd E (m := h) g) $$ H
    iintro H
    iapply (wp_st (defs := defs) 𝒱 (thr dd x y) bd E (m := h) g) $$ H
    iintro H
    iapply (wp_ret_of 𝒱 dd bd E)
    iexists _
    isplitr
    swap
    · iexact H
    · ipureintro
      intro j hj
      by_cases hj' : (j 0).val < 16 * t.val
      · rw [stored_out (offZ_eq t) _ _ j (Or.inl hj')]
        exact hg j hj'
      · rw [stored_in (offZ_eq t) _ _ j ⟨(j 0).val - 16 * t.val, by omega⟩ (by simp only []; omega)]
        rfl)) $$ [H]
  · iexists f
    isplitr
    · ipureintro; intro j hj; omega
    · iexact H
  · iintro %_ ⟨%g, %hg, H⟩
    iapply Hk $$ %g %(fun j => hg j (j 0).isLt) H

/-! ## From a histogram to pointers -/

/-- The totals' loop leaves, at each digit, how many elements of the row have it. -/
theorem wp_totalLoop (b : Bool) {h : MH} {g : MP} {d : ℕ → ℕ} (hd : ∀ e, d e < nbOf b) (f : S4096.Idx → BitVec 32) (hf : HistAt (fun z => cnt (halfX d) z 0 N) f)
    (fg : S2048.Idx → BitVec 32) (k : Unit → Prog (TpuEff nD τ sig (Elt F) Λ₀ (.scVector x y)) α) :
    Holds (thr dd x y) h f ⊢ iprop(Holds (thr dd x y) g fg
      -∗ (∀ fg', ⌜∀ j, (j 0).val < nbOf b → fg' j = BitVec.ofNat 32 (cnt d (j 0).val 0 N)⌝ -∗ Holds (thr dd x y) h f -∗ Holds (thr dd x y) g fg' -∗ wp frame (wpE defs 𝒱 (thr dd x y) bd) E (k ⟨⟩) Q)
      -∗ wp frame (wpE defs 𝒱 (thr dd x y) bd) E (Scf.Loop.for (LB b) (LB_ok b) (⟨⟩ : Unit) (fun t _ => totalTrip b h g t) >>= k) Q) := by
  have hnb := nbOf_le b
  have htr := LB_trips b
  iintro H Hg Hk
  iapply (Scf.wp_for_bind frame (wpE defs 𝒱 (thr dd x y) bd) E (LB b).lb (LB b).ub (LB b).st (LB_ok b) (⟨⟩ : Unit) (fun t _ => totalTrip b h g t)
    (fun t _ => iprop(Holds (thr dd x y) h f ∗ ∃ fg' : S2048.Idx → BitVec 32, ⌜∀ j, (j 0).val < 16 * t → fg' j = BitVec.ofNat 32 (cnt d (j 0).val 0 N)⌝ ∗ Holds (thr dd x y) g fg')) (by
    intro t _
    have ht : t.val < Scf.trips (LB b).lb (LB b).ub (LB b).st := t.isLt
    iintro ⟨H, %fg', %hg, Hg⟩
    iapply (wp_ld (defs := defs) 𝒱 (thr dd x y) bd E (m := h) f) $$ H
    iintro H
    iapply (wp_ld (defs := defs) 𝒱 (thr dd x y) bd E (m := h) f) $$ H
    iintro H
    iapply (wp_ld (defs := defs) 𝒱 (thr dd x y) bd E (m := g) fg') $$ Hg
    iintro Hg
    iapply (wp_st (defs := defs) 𝒱 (thr dd x y) bd E (m := g) fg') $$ Hg
    iintro Hg
    iapply (wp_ret_of 𝒱 dd bd E)
    isplitl [H]
    · iexact H
    iexists _
    isplitr
    swap
    · iexact Hg
    · ipureintro
      intro j hj
      by_cases hj' : (j 0).val < 16 * t.val
      · rw [stored_out (offA_eq b t) _ _ j (Or.inl hj')]
        exact hg j hj'
      · rw [stored_in (offA_eq b t) _ _ j ⟨(j 0).val - 16 * t.val, by omega⟩ (by simp only []; omega)]
        show f _ + f _ = _
        rw [hf, hf, emb_at (offA_eq b t), emb_at (offB_eq b t), ← BitVec.ofNat_add, ← cnt_both (fun e => lt_of_lt_of_le (hd e) hnb) (x := (j 0).val) (by omega)]
        congr 3 <;> simp only [] <;> omega)) $$ [H Hg]
  · isplitl [H]
    · iexact H
    iexists fg
    isplitr
    · ipureintro; intro j hj; omega
    · iexact Hg
  · iintro %_ ⟨H, %fg', %hg, Hg⟩
    iapply Hk $$ %fg' %(fun j hj => hg j (by omega)) H Hg

/-- The prefix-sum loop leaves, at each digit, how many elements have a smaller one. -/
theorem wp_exclLoop (b : Bool) {g : MP} {d : ℕ → ℕ} (fg : S2048.Idx → BitVec 32) (hg : ∀ j, (j 0).val < nbOf b → fg j = BitVec.ofNat 32 (cnt d (j 0).val 0 N))
    (k : BitVec 32 → Prog (TpuEff nD τ sig (Elt F) Λ₀ (.scVector x y)) α) :
    Holds (thr dd x y) g fg ⊢ iprop((∀ a fg', ⌜∀ j, (j 0).val < nbOf b → fg' j = BitVec.ofNat 32 (start d (j 0).val)⌝ -∗ Holds (thr dd x y) g fg' -∗ wp frame (wpE defs 𝒱 (thr dd x y) bd) E (k a) Q)
      -∗ wp frame (wpE defs 𝒱 (thr dd x y) bd) E (Scf.Loop.for (LB b) (LB_ok b) 0#32 (fun t a => exclTrip b g t a) >>= k) Q) := by
  have htr := LB_trips b
  iintro H Hk
  iapply (Scf.wp_for_bind frame (wpE defs 𝒱 (thr dd x y) bd) E (LB b).lb (LB b).ub (LB b).st (LB_ok b) 0#32 (fun t a => exclTrip b g t a)
    (fun t a => iprop(∃ fg' : S2048.Idx → BitVec 32, ⌜a = BitVec.ofNat 32 (start d (16 * t)) ∧ ∀ j, (j 0).val < nbOf b →
      fg' j = BitVec.ofNat 32 (if (j 0).val < 16 * t then start d (j 0).val else cnt d (j 0).val 0 N)⌝ ∗ Holds (thr dd x y) g fg')) (by
    intro t a
    have ht : t.val < Scf.trips (LB b).lb (LB b).ub (LB b).st := t.isLt
    iintro ⟨%fg', %hfg, H⟩
    obtain ⟨ha, hfg⟩ := hfg
    have hv : ∀ k : Fin 16, fg' ((Rect.unit (s := S2048) (offA (LB b) t) S16.size (offG_inb b t)).emb (ln k)) = BitVec.ofNat 32 (cnt d (16 * t.val + k.val) 0 N) := fun k => by
      have h1 := k.isLt
      have h2 := emb_at (inb := offG_inb b t) (offA_eq b t) k
      have h3 : 16 * t.val + k.val < nbOf b := by omega
      refine (hfg _ (lt_of_eq_of_lt h2 h3)).trans ?_
      rw [h2, if_neg (by omega)]
    iapply (wp_ld (defs := defs) 𝒱 (thr dd x y) bd E (m := g) fg') $$ H
    iintro H
    iapply (wp_ld (defs := defs) 𝒱 (thr dd x y) bd E (m := g) fg') $$ H
    iintro H
    iapply (wp_st (defs := defs) 𝒱 (thr dd x y) bd E (m := g) fg') $$ H
    iintro H
    iapply (wp_ret_of 𝒱 dd bd E)
    iexists _
    isplitr
    swap
    · iexact H
    · ipureintro
      refine ⟨?_, fun j hj => ?_⟩
      · show a + carryV _ = _
        rw [carry_eq hv, ha, ← BitVec.ofNat_add, start_sum, Nat.mul_add]
      · by_cases hj' : (j 0).val < 16 * t.val
        · rw [stored_out (offA_eq b t) _ _ j (Or.inl hj'), hfg j hj, if_pos hj', if_pos (by omega)]
        · by_cases hj'' : (j 0).val < 16 * t.val + 16
          · rw [stored_in (offA_eq b t) _ _ j ⟨(j 0).val - 16 * t.val, by omega⟩ (by simp only []; omega), excl_lane hv ha, if_pos (by omega)]
            congr 2; simp only []; omega
          · rw [stored_out (offA_eq b t) _ _ j (Or.inr (by omega)), hfg j hj, if_neg hj', if_neg (by omega)])) $$ [H]
  · iexists fg
    isplitr
    · ipureintro
      refine ⟨by rw [Nat.mul_zero, start_zero], fun j hj => ?_⟩
      rw [if_neg (by omega)]
      exact hg j hj
    · iexact H
  · iintro %a ⟨%fg', %hfg, H⟩
    iapply Hk $$ %a %fg' %(fun j hj => (hfg.2 j hj).trans (by rw [if_pos (by omega)])) H

/-- One trip of the pointers' start, at any contents. -/
theorem wp_baseTrip (b : Bool) {h : MH} {g lo hi : MP} (f : S4096.Idx → BitVec 32) (fg fl fh : S2048.Idx → BitVec 32) (t : Fin (LB b).trips)
    {Q : Unit → sProp (MT nD τ sig Ix (Elt F) Name U Lvl)} :
    Holds (thr dd x y) h f ⊢ iprop(Holds (thr dd x y) g fg -∗ Holds (thr dd x y) lo fl -∗ Holds (thr dd x y) hi fh
      -∗ (∀ f' fl' fh', Holds (thr dd x y) h f' -∗ Holds (thr dd x y) g fg -∗ Holds (thr dd x y) lo fl' -∗ Holds (thr dd x y) hi fh'
        -∗ ⌜(∀ j, f' j = if (16 * t.val ≤ (j 0).val ∧ (j 0).val < 16 * t.val + 16) ∨ (16 * t.val + 2048 ≤ (j 0).val ∧ (j 0).val < 16 * t.val + 2064) then 0#32 else f j)
          ∧ (∀ j, fl' j = if 16 * t.val ≤ (j 0).val ∧ (j 0).val < 16 * t.val + 16 then fg j else fl j)
          ∧ (∀ j : S2048.Idx, ∀ i : S4096.Idx, (i 0).val = (j 0).val → fh' j = if 16 * t.val ≤ (j 0).val ∧ (j 0).val < 16 * t.val + 16 then fg j + f i else fh j)⌝ -∗ Q ⟨⟩)
      -∗ wp frame (wpE defs 𝒱 (thr dd x y) bd) E (baseTrip b h g lo hi t) Q) := by
  iintro H Hg Hl Hh Hk
  iapply (wp_ld (defs := defs) 𝒱 (thr dd x y) bd E (m := g) fg) $$ Hg
  iintro Hg
  iapply (wp_ld (defs := defs) 𝒱 (thr dd x y) bd E (m := lo) fl) $$ Hl
  iintro Hl
  iapply (wp_st (defs := defs) 𝒱 (thr dd x y) bd E (m := lo) fl) $$ Hl
  iintro Hl
  iapply (wp_ld (defs := defs) 𝒱 (thr dd x y) bd E (m := h) f) $$ H
  iintro H
  iapply (wp_ld (defs := defs) 𝒱 (thr dd x y) bd E (m := hi) fh) $$ Hh
  iintro Hh
  iapply (wp_st (defs := defs) 𝒱 (thr dd x y) bd E (m := hi) fh) $$ Hh
  iintro Hh
  iapply (wp_ld (defs := defs) 𝒱 (thr dd x y) bd E (m := h) f) $$ H
  iintro H
  iapply (wp_st (defs := defs) 𝒱 (thr dd x y) bd E (m := h) f) $$ H
  iintro H
  iapply (wp_ld (defs := defs) 𝒱 (thr dd x y) bd E (m := h) _) $$ H
  iintro H
  iapply (wp_st (defs := defs) 𝒱 (thr dd x y) bd E (m := h) _) $$ H
  iintro H
  iapply (wp_ret_of 𝒱 dd bd E)
  iapply Hk $$ %_ %_ %_ H Hg Hl Hh []
  · ipureintro
    refine ⟨fun j => ?_, fun j => ?_, fun j i hij => ?_⟩
    · by_cases h2 : 16 * t.val + 2048 ≤ (j 0).val ∧ (j 0).val < 16 * t.val + 2064
      · rw [stored_in (offB_eq b t) _ _ j ⟨(j 0).val - (16 * t.val + 2048), by omega⟩ (by simp only []; omega), if_pos (Or.inr h2)]
        rfl
      · rw [stored_out (offB_eq b t) _ _ j (by omega)]
        by_cases h1 : 16 * t.val ≤ (j 0).val ∧ (j 0).val < 16 * t.val + 16
        · rw [stored_in (offA_eq b t) _ _ j ⟨(j 0).val - 16 * t.val, by omega⟩ (by simp only []; omega), if_pos (Or.inl h1)]
          rfl
        · rw [stored_out (offA_eq b t) _ _ j (by omega), if_neg (by omega)]
    · by_cases h1 : 16 * t.val ≤ (j 0).val ∧ (j 0).val < 16 * t.val + 16
      · rw [stored_in (offA_eq b t) _ _ j ⟨(j 0).val - 16 * t.val, by omega⟩ (by simp only []; omega), if_pos h1]
        congr 1
        funext a
        obtain rfl : a = 0 := Subsingleton.elim a 0
        exact Fin.ext ((emb_at (offA_eq b t) _).trans (by simp only []; omega))
      · rw [stored_out (offA_eq b t) _ _ j (by omega), if_neg h1]
    · by_cases h1 : 16 * t.val ≤ (j 0).val ∧ (j 0).val < 16 * t.val + 16
      · rw [stored_in (offA_eq b t) _ _ j ⟨(j 0).val - 16 * t.val, by omega⟩ (by simp only []; omega), if_pos h1]
        show fg _ + f _ = _
        congr 2
        · funext a
          obtain rfl : a = 0 := Subsingleton.elim a 0
          exact Fin.ext ((emb_at (offA_eq b t) _).trans (by simp only []; omega))
        · funext a
          obtain rfl : a = 0 := Subsingleton.elim a 0
          exact Fin.ext ((emb_at (offA_eq b t) _).trans (by simp only []; omega))
      · rw [stored_out (offA_eq b t) _ _ j (by omega), if_neg h1]

end Cert.Kernel.Radix
-- ==== Proof.Passes.lean ====
module

public import proofs.«01_k».proof.Proof.Loops

/-! The pointers of a pass, its sweeps, and the two halves of a row's program. -/

@[expose] public section
noncomputable section

namespace Cert.Kernel.Radix
open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [BitOps F] {Ix : Type} [DecidableEq Ix] {Name : Type} [DecidableEq Name] {U : Type} [URA U] {Lvl : Type} [Preorder Lvl]
variable {defs : Defs nD τ sig (Elt F) Λ₀} (𝒱 : Variants) (dd : Dev nD) {x : Fin τ.nSC} {y : Fin τ.nSub} (bd : Option 𝒱.V) (E : Set Name)
variable {α : Type} {Q : α → sProp (MT nD τ sig Ix (Elt F) Name U Lvl)}

/-- A memref owned, whatever it reads. -/
def Any {s : Shape} {e : EltTy} (c : Thread nD τ) {sp : Space} (m : Memref sig c.2.kind sp s e) : sProp (MT nD τ sig Ix (Elt F) Name U Lvl) :=
  iprop(∃ g : s.Idx → Elt F e, Holds c m g)

/-- A histogram owned, all zero. -/
def Zero (h : MH) : sProp (MT nD τ sig Ix (Elt F) Name U Lvl) :=
  iprop(∃ f : S4096.Idx → BitVec 32, ⌜HistAt (fun _ => 0) f⌝ ∗ Holds (thr dd x y) h f)

/-- What the pointers' loop leaves: the histogram clear, the pointers at the halves' starts. -/
theorem wp_baseLoop (b : Bool) {h : MH} {g lo hi : MP} {d : ℕ → ℕ} (hd : ∀ e, d e < nbOf b) (f : S4096.Idx → BitVec 32) (hf : HistAt (fun z => cnt (halfX d) z 0 N) f)
    (fg fl fh : S2048.Idx → BitVec 32) (hg : ∀ j, (j 0).val < nbOf b → fg j = BitVec.ofNat 32 (start d (j 0).val))
    (k : Unit → Prog (TpuEff nD τ sig (Elt F) Λ₀ (.scVector x y)) α) :
    Holds (thr dd x y) h f ⊢ iprop(Holds (thr dd x y) g fg -∗ Holds (thr dd x y) lo fl -∗ Holds (thr dd x y) hi fh
      -∗ (∀ f' fl' fh', ⌜HistAt (fun _ => 0) f' ∧ PtrAt (nbOf b) d 0 fl' ∧ PtrAt (nbOf b) d 16384 fh'⌝
        -∗ Holds (thr dd x y) h f' -∗ Holds (thr dd x y) g fg -∗ Holds (thr dd x y) lo fl' -∗ Holds (thr dd x y) hi fh' -∗ wp frame (wpE defs 𝒱 (thr dd x y) bd) E (k ⟨⟩) Q)
      -∗ wp frame (wpE defs 𝒱 (thr dd x y) bd) E (Scf.Loop.for (LB b) (LB_ok b) (⟨⟩ : Unit) (fun t _ => baseTrip b h g lo hi t) >>= k) Q) := by
  have htr := LB_trips b
  have hnb := nbOf_le b
  iintro H Hg Hl Hh Hk
  iapply (Scf.wp_for_bind frame (wpE defs 𝒱 (thr dd x y) bd) E (LB b).lb (LB b).ub (LB b).st (LB_ok b) (⟨⟩ : Unit) (fun t _ => baseTrip b h g lo hi t)
    (fun t _ => iprop(Holds (thr dd x y) g fg ∗ ∃ (f' : S4096.Idx → BitVec 32) (fl' fh' : S2048.Idx → BitVec 32),
      ⌜(∀ j, f' j = if (j 0).val % 2048 < 16 * t then 0#32 else f j) ∧ (∀ j, (j 0).val < 16 * t → fl' j = fg j)
        ∧ (∀ j : S2048.Idx, ∀ i : S4096.Idx, (i 0).val = (j 0).val → (j 0).val < 16 * t → fh' j = fg j + f i)⌝
        ∗ Holds (thr dd x y) h f' ∗ Holds (thr dd x y) lo fl' ∗ Holds (thr dd x y) hi fh')) (by
    intro t _
    have ht : t.val < Scf.trips (LB b).lb (LB b).ub (LB b).st := t.isLt
    iintro ⟨Hg, %f', %fl', %fh', %hI, H, Hl, Hh⟩
    obtain ⟨h1, h2, h3⟩ := hI
    iapply (wp_baseTrip 𝒱 dd bd E b f' fg fl' fh' t) $$ H Hg Hl Hh
    iintro %f'' %fl'' %fh'' H Hg Hl Hh %hT
    obtain ⟨t1, t2, t3⟩ := hT
    isplitl [Hg]
    · iexact Hg
    iexists f'', fl'', fh''
    isplitr
    · ipureintro
      refine ⟨fun j => ?_, fun j hj => ?_, fun j i hij hj => ?_⟩
      · have hj : (j 0).val < 4096 := (j 0).isLt
        rw [t1, h1]
        by_cases c1 : (j 0).val % 2048 < 16 * (t.val + 1)
        · rw [if_pos c1]
          by_cases c2 : (j 0).val % 2048 < 16 * t.val
          · rw [if_pos c2]; simp
          · rw [if_pos (by omega)]
        · rw [if_neg c1, if_neg (by omega), if_neg (by omega)]
      · rw [t2]
        by_cases c2 : (j 0).val < 16 * t.val
        · rw [if_neg (by omega)]; exact h2 j c2
        · rw [if_pos (by omega)]
      · rw [t3 j i hij]
        by_cases c2 : (j 0).val < 16 * t.val
        · rw [if_neg (by omega)]; exact h3 j i hij c2
        · have hj' : (j 0).val < 2048 := (j 0).isLt
          rw [if_pos (by omega), h1, if_neg (by omega)]
    · isplitl [H]
      · iexact H
      isplitl [Hl]
      · iexact Hl
      iexact Hh)) $$ [H Hg Hl Hh]
  · isplitl [Hg]
    · iexact Hg
    iexists f, fl, fh
    isplitr
    · ipureintro
      exact ⟨fun j => by rw [if_neg (by omega)], fun j hj => by omega, fun j i _ hj => by omega⟩
    · isplitl [H]
      · iexact H
      isplitl [Hl]
      · iexact Hl
      iexact Hh
  · iintro %_ ⟨Hg, %f', %fl', %fh', %hI, H, Hl, Hh⟩
    obtain ⟨h1, h2, h3⟩ := hI
    rw [htr] at h1 h2 h3
    iapply Hk $$ %f' %fl' %fh' %⟨fun j => by
        rw [h1]
        by_cases c : (j 0).val % 2048 < nbOf b
        · rw [if_pos c]
        · rw [if_neg c, hf]; exact congrArg (BitVec.ofNat 32) (cnt_none hd hnb (by omega)), fun j hj => by rw [h2 j hj, hg j hj, cnt_self, Nat.add_zero],
      fun j hj => by
        have hj' : (j 0).val < 2048 := (j 0).isLt
        rw [h3 j (Shape.ofLane (d := ![4096]) ⟨(j 0).val, by simp only [Matrix.cons_val_fin_one]; omega⟩) rfl hj, hg j hj, hf, BitVec.ofNat_add]
        rw [← cnt_lo (fun e => lt_of_lt_of_le (hd e) hnb) hj']
        rfl⟩ H Hg Hl Hh

/-- The tables' loops turn a full histogram into the two halves' pointer tables, and clear it. -/
theorem wp_bases (b : Bool) {h : MH} {g lo hi : MP} {d : ℕ → ℕ} (hd : ∀ e, d e < nbOf b) (f : S4096.Idx → BitVec 32) (hf : HistAt (fun z => cnt (halfX d) z 0 N) f)
    (k : Prog (TpuEff nD τ sig (Elt F) Λ₀ (.scVector x y)) α) :
    Holds (thr dd x y) h f ⊢ iprop(Any (thr dd x y) g -∗ Any (thr dd x y) lo -∗ Any (thr dd x y) hi
      -∗ (∀ fl' fh', ⌜PtrAt (nbOf b) d 0 fl' ∧ PtrAt (nbOf b) d 16384 fh'⌝
        -∗ Zero dd (x := x) (y := y) h -∗ Any (thr dd x y) g -∗ Holds (thr dd x y) lo fl' -∗ Holds (thr dd x y) hi fh' -∗ wp frame (wpE defs 𝒱 (thr dd x y) bd) E k Q)
      -∗ wp frame (wpE defs 𝒱 (thr dd x y) bd) E (bases b h g lo hi k) Q) := by
  unfold Any Zero bases
  iintro H ⟨%fg, Hg⟩ ⟨%fl, Hl⟩ ⟨%fh, Hh⟩ Hk
  iapply (wp_totalLoop 𝒱 dd bd E b hd f hf fg _) $$ H Hg
  iintro %fg %hfg H Hg
  iapply (wp_exclLoop 𝒱 dd bd E b fg hfg _) $$ Hg
  iintro %a %fg' %hfg' Hg
  iapply (wp_baseLoop 𝒱 dd bd E b hd f hf fg' fl fh hfg' _) $$ H Hg Hl Hh
  iintro %f' %fl' %fh' %hI H Hg Hl Hh
  iapply Hk $$ %fl' %fh' %hI.2 [H] [Hg] Hl Hh
  · iexists f'
    isplitr
    · ipureintro; exact hI.1
    · iexact H
  · iexists fg'
    iexact Hg

/-! ## The sweeps -/

/-- The digit of a word at `m`, of `b` values. -/
def dg (m b : ℕ) (w : BitVec 32) : ℕ := w.toNat / m % b

/-- The first sweep fills a clear histogram with the counts of the row's digits in each half. -/
theorem wp_histLoop {src : MR} {hist : MH} {kf : V16 → V16} {kb : BitVec 32 → BitVec 32} (hkf : ∀ v k, kf v (ln k) = kb (v (ln k)))
    {sh mk : BitVec 32} {m b : ℕ} (hd : Digit sh mk m b) (a : Row) (k : Unit → Prog (TpuEff nD τ sig (Elt F) Λ₀ (.scVector x y)) α) :
    Holds (thr dd x y) src a ⊢ iprop(Zero dd (x := x) (y := y) hist
      -∗ (∀ f, ⌜HistAt (fun z => cnt (halfX fun e => dg m b (kb (nth a e))) z 0 N) f⌝ -∗ Holds (thr dd x y) src a -∗ Holds (thr dd x y) hist f -∗ wp frame (wpE defs 𝒱 (thr dd x y) bd) E (k ⟨⟩) Q)
      -∗ wp frame (wpE defs 𝒱 (thr dd x y) bd) E (Scf.Loop.for L64 L64_ok (⟨⟩ : Unit) (fun t _ => sweepHist src hist kf sh mk t) >>= k) Q) := by
  unfold Zero
  iintro Ha ⟨%f, %hf, H⟩ Hk
  iapply (Scf.wp_for_bind frame (wpE defs 𝒱 (thr dd x y) bd) E L64.lb L64.ub L64.st L64_ok (⟨⟩ : Unit) (fun t _ => sweepHist src hist kf sh mk t)
    (fun t _ => iprop(Holds (thr dd x y) src a ∗ ∃ f : S4096.Idx → BitVec 32, ⌜HistAt (HC (firstX (fun e => kb (nth a e)) m b) (256 * t, 16384 + 256 * t)) f⌝ ∗ Holds (thr dd x y) hist f)) (by
    intro t _
    iintro ⟨Ha, %f, %hf, H⟩
    unfold sweepHist
    iapply (wp_loadSlots 𝒱 dd bd E hkf a halves slots (256 * t.val, 16384 + 256 * t.val) (slots_chain t.val) _) $$ Ha
    iintro %xs %hxs Ha
    iapply (wp_hist0Slots 𝒱 dd bd E hd _ halves xs _ hxs f hf) $$ H
    iintro %f' %hf' H
    isplitl [Ha]
    · iexact Ha
    iexists f'
    isplitr
    · ipureintro
      rw [advs_halves] at hf'
      exact hf'
    · iexact H)) $$ [Ha H]
  · isplitl [Ha]
    · iexact Ha
    iexists f
    isplitr
    · ipureintro
      intro z
      rw [hf z]
      simp [HC, cnt_self]
    · iexact H
  · iintro %_ ⟨Ha, %f, %hf, H⟩
    iapply Hk $$ %f %(fun z => (hf z).trans (congrArg (BitVec.ofNat 32) (cnt_add _ _ (Nat.zero_le 16384) (show 16384 ≤ N by decide)))) Ha H

/-- A permuting sweep that counts: every element at its place, and the next histogram whole. -/
theorem wp_midLoop {src dst : MR} {lo hi : MP} {hist : MH} {kf vf : V16 → V16} {kb vb : BitVec 32 → BitVec 32}
    (hkf : ∀ v k, kf v (ln k) = kb (v (ln k))) (hvf : ∀ v k, vf v (ln k) = vb (v (ln k)))
    {sh mk sh' mk' : BitVec 32} {m b m' b' : ℕ} (hd : Digit sh mk m b) (hd' : Digit sh' mk' m' b') (a : Row)
    (fl fh : S2048.Idx → BitVec 32) (hl : PtrAt b (fun e => dg m b (kb (nth a e))) 0 fl) (hh : PtrAt b (fun e => dg m b (kb (nth a e))) 16384 fh)
    (k : Unit → Prog (TpuEff nD τ sig (Elt F) Λ₀ (.scVector x y)) α) :
    Holds (thr dd x y) src a ⊢ iprop(Any (thr dd x y) dst -∗ Holds (thr dd x y) lo fl -∗ Holds (thr dd x y) hi fh -∗ Zero dd (x := x) (y := y) hist
      -∗ (∀ a' f, ⌜Moved (fun e => dg m b (kb (nth a e))) (fun e => vb (kb (nth a e))) (nth a')
            ∧ HistAt (fun z => cnt (midX (fun e => kb (nth a e)) (fun e => dg m b (kb (nth a e))) m' b') z 0 N) f⌝
          -∗ Holds (thr dd x y) src a -∗ Holds (thr dd x y) dst a' -∗ Any (thr dd x y) lo -∗ Any (thr dd x y) hi -∗ Holds (thr dd x y) hist f
          -∗ wp frame (wpE defs 𝒱 (thr dd x y) bd) E (k ⟨⟩) Q)
      -∗ wp frame (wpE defs 𝒱 (thr dd x y) bd) E (Scf.Loop.for L64 L64_ok (⟨⟩ : Unit) (fun t _ => sweepMid src dst lo hi hist kf vf sh mk sh' mk' t) >>= k) Q) := by
  have hN : N = 32768 := rfl
  unfold Zero Any
  iintro Ha ⟨%fd, Hd⟩ Hl Hh ⟨%f, %hf, H⟩ Hk
  iapply (Scf.wp_for_bind frame (wpE defs 𝒱 (thr dd x y) bd) E L64.lb L64.ub L64.st L64_ok (⟨⟩ : Unit) (fun t _ => sweepMid src dst lo hi hist kf vf sh mk sh' mk' t)
    (fun t _ => iprop(Holds (thr dd x y) src a ∗ ∃ (fl fh : S2048.Idx → BitVec 32) (fd : Row) (f : S4096.Idx → BitVec 32),
      ⌜PermInv b (fun e => dg m b (kb (nth a e))) (fun e => vb (kb (nth a e))) (256 * t, 16384 + 256 * t) fl fh fd
        ∧ HistAt (HC (midX (fun e => kb (nth a e)) (fun e => dg m b (kb (nth a e))) m' b') (256 * t, 16384 + 256 * t)) f⌝
      ∗ Holds (thr dd x y) lo fl ∗ Holds (thr dd x y) hi fh ∗ Holds (thr dd x y) dst fd ∗ Holds (thr dd x y) hist f)) (by
    intro t _
    iintro ⟨Ha, %fl, %fh, %fd, %f, %hI, Hl, Hh, Hd, H⟩
    unfold sweepMid
    iapply (wp_loadSlots 𝒱 dd bd E hkf a halves slots (256 * t.val, 16384 + 256 * t.val) (slots_chain t.val) _) $$ Ha
    iintro %xs %hxs Ha
    iapply (wp_digSlots 𝒱 dd bd E hd _ halves xs _ hxs _)
    iintro %ds %hds
    iapply (wp_permSlots 𝒱 dd bd E hvf (nb := b) (fun e => Nat.mod_lt _ hd.pos) _ halves ds _ hds fl fh fd hI.1 _) $$ Hl Hh Hd
    iintro %os %fl' %fh' %fd' %hos Hl Hh Hd
    iapply (wp_idxSlots 𝒱 dd bd E hd' _ _ halves os _ hos.1 _)
    iintro %hs %hhs
    iapply (wp_histSlots 𝒱 dd bd E _ halves hs _ hhs f hI.2) $$ H
    iintro %f' %hf' H
    isplitl [Ha]
    · iexact Ha
    iexists fl', fh', fd', f'
    isplitr
    · ipureintro
      rw [advs_halves] at hf' hos
      exact ⟨hos.2, hf'⟩
    · isplitl [Hl]
      · iexact Hl
      isplitl [Hh]
      · iexact Hh
      isplitl [Hd]
      · iexact Hd
      iexact H)) $$ [Ha Hl Hh Hd H]
  · isplitl [Ha]
    · iexact Ha
    iexists fl, fh, fd, f
    isplitr
    · ipureintro
      refine ⟨⟨hl, hh, fun e he => by simp only [] at he; omega, by decide, by decide, by decide⟩, fun z => ?_⟩
      rw [hf z]
      simp [HC, cnt_self]
    · isplitl [Hl]
      · iexact Hl
      isplitl [Hh]
      · iexact Hh
      isplitl [Hd]
      · iexact Hd
      iexact H
  · iintro %_ ⟨Ha, %fl, %fh, %fd, %f, %hI, Hl, Hh, Hd, H⟩
    iapply Hk $$ %fd %f %⟨fun e he => hI.1.dst e (by
        show e < 256 * 64 ∨ 16384 ≤ e ∧ e < 16384 + 256 * 64
        omega), fun z => (hI.2 z).trans (congrArg (BitVec.ofNat 32) (cnt_add _ _ (Nat.zero_le 16384) (show 16384 ≤ N by decide)))⟩ Ha Hd [Hl] [Hh] H
    · iexists fl; iexact Hl
    · iexists fh; iexact Hh

/-- The last permuting sweep. -/
theorem wp_lastLoop {src dst : MR} {lo hi : MP} {kf vf : V16 → V16} {kb vb : BitVec 32 → BitVec 32}
    (hkf : ∀ v k, kf v (ln k) = kb (v (ln k))) (hvf : ∀ v k, vf v (ln k) = vb (v (ln k)))
    {sh mk : BitVec 32} {m b : ℕ} (hd : Digit sh mk m b) (a : Row)
    (fl fh : S2048.Idx → BitVec 32) (hl : PtrAt b (fun e => dg m b (kb (nth a e))) 0 fl) (hh : PtrAt b (fun e => dg m b (kb (nth a e))) 16384 fh)
    (k : Unit → Prog (TpuEff nD τ sig (Elt F) Λ₀ (.scVector x y)) α) :
    Holds (thr dd x y) src a ⊢ iprop(Any (thr dd x y) dst -∗ Holds (thr dd x y) lo fl -∗ Holds (thr dd x y) hi fh
      -∗ (∀ a', ⌜Moved (fun e => dg m b (kb (nth a e))) (fun e => vb (kb (nth a e))) (nth a')⌝
          -∗ Holds (thr dd x y) src a -∗ Holds (thr dd x y) dst a' -∗ Any (thr dd x y) lo -∗ Any (thr dd x y) hi
          -∗ wp frame (wpE defs 𝒱 (thr dd x y) bd) E (k ⟨⟩) Q)
      -∗ wp frame (wpE defs 𝒱 (thr dd x y) bd) E (Scf.Loop.for L64 L64_ok (⟨⟩ : Unit) (fun t _ => sweepLast src dst lo hi kf vf sh mk t) >>= k) Q) := by
  have hN : N = 32768 := rfl
  unfold Any
  iintro Ha ⟨%fd, Hd⟩ Hl Hh Hk
  iapply (Scf.wp_for_bind frame (wpE defs 𝒱 (thr dd x y) bd) E L64.lb L64.ub L64.st L64_ok (⟨⟩ : Unit) (fun t _ => sweepLast src dst lo hi kf vf sh mk t)
    (fun t _ => iprop(Holds (thr dd x y) src a ∗ ∃ (fl fh : S2048.Idx → BitVec 32) (fd : Row),
      ⌜PermInv b (fun e => dg m b (kb (nth a e))) (fun e => vb (kb (nth a e))) (256 * t, 16384 + 256 * t) fl fh fd⌝
      ∗ Holds (thr dd x y) lo fl ∗ Holds (thr dd x y) hi fh ∗ Holds (thr dd x y) dst fd)) (by
    intro t _
    iintro ⟨Ha, %fl, %fh, %fd, %hI, Hl, Hh, Hd⟩
    unfold sweepLast
    iapply (wp_loadSlots 𝒱 dd bd E hkf a halves slots (256 * t.val, 16384 + 256 * t.val) (slots_chain t.val) _) $$ Ha
    iintro %xs %hxs Ha
    iapply (wp_digSlots 𝒱 dd bd E hd _ halves xs _ hxs _)
    iintro %ds %hds
    iapply (wp_permSlots 𝒱 dd bd E hvf (nb := b) (fun e => Nat.mod_lt _ hd.pos) _ halves ds _ hds fl fh fd hI _) $$ Hl Hh Hd
    iintro %os %fl' %fh' %fd' %hos Hl Hh Hd
    iapply (wp_ret_of 𝒱 dd bd E)
    isplitl [Ha]
    · iexact Ha
    iexists fl', fh', fd'
    isplitr
    · ipureintro
      rw [advs_halves] at hos
      exact hos.2
    · isplitl [Hl]
      · iexact Hl
      isplitl [Hh]
      · iexact Hh
      iexact Hd)) $$ [Ha Hl Hh Hd]
  · isplitl [Ha]
    · iexact Ha
    iexists fl, fh, fd
    isplitr
    · ipureintro
      exact ⟨hl, hh, fun e he => by simp only [] at he; omega, by decide, by decide, by decide⟩
    · isplitl [Hl]
      · iexact Hl
      isplitl [Hh]
      · iexact Hh
      iexact Hd
  · iintro %_ ⟨Ha, %fl, %fh, %fd, %hI, Hl, Hh, Hd⟩
    iapply Hk $$ %fd %(fun e he => hI.dst e (by
        show e < 256 * 64 ∨ 16384 ≤ e ∧ e < 16384 + 256 * 64
        omega)) Ha Hd [Hl] [Hh]
    · iexists fl; iexact Hl
    · iexists fh; iexact Hh

end Cert.Kernel.Radix
-- ==== Proof.Rows.lean ====
module

public import proofs.«01_k».proof.Proof.Passes
public import Idealize.ShloMosaic.Lib.SortKey

/-! A row's program sorts the row by the order-preserving image of its words. -/

@[expose] public section
noncomputable section

namespace Cert.Kernel.Radix
open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

/-! ## The key of a word -/

/-- The unsigned key of a float's bits. -/
def kB (w : BitVec 32) : BitVec 32 := w ^^^ (w.sshiftRight 31 ||| 2147483648#32)

/-- Its inverse. -/
def unB (w : BitVec 32) : BitVec 32 := w ^^^ ((w.sshiftRight 31 ^^^ 4294967295#32) ||| 2147483648#32)

/-- The key of a vector is taken lane by lane. -/
theorem toKey_lane (v : V16) (k : Fin 16) : toKey v (ln k) = kB (v (ln k)) := by
  simp only [toKey, kB, xori, ori, shrsi, broadcast, IntOp.xori, IntOp.ori, IntOp.shrsi]
  rfl

/-- So is the word of a key. -/
theorem fromKey_lane (v : V16) (k : Fin 16) : fromKey v (ln k) = unB (v (ln k)) := by
  simp only [fromKey, unB, xori, ori, shrsi, broadcast, IntOp.xori, IntOp.ori, IntOp.shrsi]
  rfl

/-- The sign, spread over the word, is all ones or all zeros. -/
theorem sshr_cases (w : BitVec 32) : w.sshiftRight 31 = if w.msb then 4294967295#32 else 0#32 := by
  apply BitVec.eq_of_getLsbD_eq
  intro i hi
  rw [BitVec.getLsbD_sshiftRight]
  have h1 : ¬ 32 ≤ i := by omega
  cases hm : w.msb
  · by_cases h : 31 + i < 32
    · have hi0 : i = 0 := by omega
      subst hi0
      simpa [BitVec.msb_eq_getLsbD_last] using hm
    · simp [h, hm]
  · by_cases h : 31 + i < 32
    · have hi0 : i = 0 := by omega
      subst hi0
      simpa [BitVec.msb_eq_getLsbD_last] using hm
    · simp only [h, if_true, if_false, h1, decide_false, Bool.not_false, Bool.true_and]
      rw [show (4294967295#32 : BitVec 32) = BitVec.allOnes 32 by decide, BitVec.getLsbD_allOnes]
      simp [hi]

/-- The key flips every bit of a negative word, and only the sign of another. -/
theorem kB_cases (w : BitVec 32) : kB w = w ^^^ if w.msb then 4294967295#32 else 2147483648#32 := by
  unfold kB
  rw [sshr_cases]
  cases w.msb <;> rfl

/-- The word of a key flips the sign of a key with the top bit, and every bit of another. -/
theorem unB_cases (w : BitVec 32) : unB w = w ^^^ if w.msb then 2147483648#32 else 4294967295#32 := by
  unfold unB
  rw [sshr_cases]
  cases w.msb <;> rfl

/-- The word of a word's key is the word. -/
theorem unB_kB (w : BitVec 32) : unB (kB w) = w := by
  rw [unB_cases, kB_cases]
  cases h : w.msb <;> simp [BitVec.msb_xor, h, BitVec.xor_assoc, show (2147483648#32).msb = true from rfl, show (4294967295#32).msb = true from rfl]

/-- The key of a key's word is the key. -/
theorem kB_unB (w : BitVec 32) : kB (unB w) = w := by
  rw [kB_cases, unB_cases]
  cases h : w.msb <;> simp [BitVec.msb_xor, h, BitVec.xor_assoc, show (2147483648#32).msb = true from rfl, show (4294967295#32).msb = true from rfl]

/-! ## Three passes sort -/

/-- `a'` is `a` rearranged in the order of the keys. -/
def Sorted (a a' : Row) : Prop :=
  Rearr (nth a) (nth a') ∧ ∀ i j, i < j → j < N → (kB (nth a' i)).toNat ≤ (kB (nth a' j)).toNat

/-- Words moved are their numbers moved. -/
theorem Moved.nat {d : ℕ → ℕ} {A A' : ℕ → BitVec 32} (h : Moved d A A') : Moved d (fun e => (A e).toNat) (fun e => (A' e).toNat) :=
  fun e he => congrArg BitVec.toNat (h e he)

/-- The three passes together rearrange the row into the order of the keys. -/
theorem sorted_of_passes {a a1 a2 a3 : Row}
    (h1 : Moved (fun e => dg 1 2048 (kB (nth a e))) (fun e => kB (nth a e)) (nth a1))
    (h2 : Moved (fun e => dg 2048 2048 (nth a1 e)) (nth a1) (nth a2))
    (h3 : Moved (fun e => dg (2048 * 2048) 1024 (nth a2 e)) (fun e => unB (nth a2 e)) (nth a3)) : Sorted a a3 := by
  have h3' : Moved (fun e => dg (2048 * 2048) 1024 (nth a2 e)) (nth a2) (fun e => kB (nth a3 e)) := fun e he => by
    show kB (nth a3 _) = _
    rw [h3 e he, kB_unB]
  have s1 := (SortedMod.one fun e => (kB (nth a e)).toNat).pass (b := 2048) h1.nat
  have s2 := s1.pass (b := 2048) (show Moved (fun e => (nth a1 e).toNat / (1 * 2048) % 2048) _ _ from by rw [Nat.one_mul]; exact h2.nat)
  have s3 := s2.pass (b := 1024) (show Moved (fun e => (nth a2 e).toNat / (1 * 2048 * 2048) % 1024) _ _ from by rw [Nat.one_mul]; exact h3'.nat)
  refine ⟨?_, fun i j hij hj => ?_⟩
  · obtain ⟨p, hp⟩ := (h1.rearr.trans h2.rearr).trans h3'.rearr
    exact ⟨p, fun e => by rw [← unB_kB (nth a3 (p e).val), show kB (nth a3 (p e).val) = _ from hp e, unB_kB]⟩
  · have := s3 i j hij hj
    rwa [Nat.mod_eq_of_lt (BitVec.isLt _), Nat.mod_eq_of_lt (BitVec.isLt _)] at this

/-! ## The row's program -/

variable {F : FTy → Type} [BitOps F] {Ix : Type} [DecidableEq Ix] {Name : Type} [DecidableEq Name] {U : Type} [URA U] {Lvl : Type} [Preorder Lvl]
variable {defs : Defs nD τ sig (Elt F) Λ₀} (𝒱 : Variants) (dd : Dev nD) {x : Fin τ.nSC} {y : Fin τ.nSub} (bd : Option 𝒱.V) (E : Set Name)
variable {α : Type} {Q : α → sProp (MT nD τ sig Ix (Elt F) Name U Lvl)}

/-- A histogram taken in the old order by new position is the new array's. -/
theorem midX_hist {d : ℕ → ℕ} {key : ℕ → BitVec 32} {a' : ℕ → BitVec 32} (hm : Moved d key a') (m b : ℕ) {f : S4096.Idx → BitVec 32}
    (hf : HistAt (fun z => cnt (midX key d m b) z 0 N) f) : HistAt (fun z => cnt (halfX fun e => dg m b (a' e)) z 0 N) f := fun z =>
  (hf z).trans (congrArg (BitVec.ofNat 32) (cnt_pos d _ _ (fun e he => by
    show pos d e / 16384 * 2048 + (a' (pos d e)).toNat / m % b = _
    rw [hm e he]
    rfl) _).symm)

/-- A row's first half of work: the first pass done into the other buffer, the second pass's pointers ready, its histograms clear again. -/
theorem wp_rowA {src pong : MR} {h0 h1 : MH} {g lo hi : MP} (a : Row) (k : Prog (TpuEff nD τ sig (Elt F) Λ₀ (.scVector x y)) α) :
    Holds (thr dd x y) src a ⊢ iprop(Any (thr dd x y) pong -∗ Zero dd (x := x) (y := y) h0 -∗ Zero dd (x := x) (y := y) h1
      -∗ Any (thr dd x y) g -∗ Any (thr dd x y) lo -∗ Any (thr dd x y) hi
      -∗ (∀ a1 fl fh, ⌜Moved (fun e => dg 1 2048 (kB (nth a e))) (fun e => kB (nth a e)) (nth a1)
            ∧ PtrAt 2048 (fun e => dg 2048 2048 (nth a1 e)) 0 fl ∧ PtrAt 2048 (fun e => dg 2048 2048 (nth a1 e)) 16384 fh⌝
          -∗ Holds (thr dd x y) src a -∗ Holds (thr dd x y) pong a1 -∗ Zero dd (x := x) (y := y) h0 -∗ Zero dd (x := x) (y := y) h1
          -∗ Any (thr dd x y) g -∗ Holds (thr dd x y) lo fl -∗ Holds (thr dd x y) hi fh
          -∗ wp frame (wpE defs 𝒱 (thr dd x y) bd) E k Q)
      -∗ wp frame (wpE defs 𝒱 (thr dd x y) bd) E (rowA src pong h0 h1 g lo hi k) Q) := by
  unfold rowA
  iintro Ha Hp Z0 Z1 Hg Hl Hh Hk
  iapply (wp_histLoop 𝒱 dd bd E toKey_lane digit0 a _) $$ Ha Z0
  iintro %f0 %hf0 Ha Z0
  iapply (wp_bases 𝒱 dd bd E false (d := fun e => dg 1 2048 (kB (nth a e))) (fun e => Nat.mod_lt _ (by decide)) f0 hf0 _) $$ Z0 Hg Hl Hh
  iintro %fl %fh %hp Z0 Hg Hl Hh
  iapply (wp_midLoop 𝒱 dd bd E toKey_lane (vb := id) (fun _ _ => rfl) digit0 digit1 a fl fh hp.1 hp.2 _) $$ Ha Hp Hl Hh Z1
  iintro %a1 %f1 %hm Ha Hp Hl Hh Z1
  iapply (wp_bases 𝒱 dd bd E false (d := fun e => dg 2048 2048 (nth a1 e)) (fun e => Nat.mod_lt _ (by decide)) f1 (midX_hist hm.1 _ _ hm.2) _) $$ Z1 Hg Hl Hh
  iintro %fl1 %fh1 %hp1 Z1 Hg Hl Hh
  iapply Hk $$ %a1 %fl1 %fh1 %⟨hm.1, hp1.1, hp1.2⟩ Ha Hp Z0 Z1 Hg Hl Hh

/-- A row's second half of work: the second pass done into the first buffer, and the third back into the other, as words. -/
theorem wp_rowB {src pong : MR} {h2 : MH} {g lo hi : MP} (a1 : Row) (fl fh : S2048.Idx → BitVec 32)
    (hl : PtrAt 2048 (fun e => dg 2048 2048 (nth a1 e)) 0 fl) (hh : PtrAt 2048 (fun e => dg 2048 2048 (nth a1 e)) 16384 fh)
    (k : Prog (TpuEff nD τ sig (Elt F) Λ₀ (.scVector x y)) α) :
    Holds (thr dd x y) pong a1 ⊢ iprop(Any (thr dd x y) src -∗ Zero dd (x := x) (y := y) h2
      -∗ Any (thr dd x y) g -∗ Holds (thr dd x y) lo fl -∗ Holds (thr dd x y) hi fh
      -∗ (∀ a2 a3, ⌜Moved (fun e => dg 2048 2048 (nth a1 e)) (nth a1) (nth a2)
            ∧ Moved (fun e => dg (2048 * 2048) 1024 (nth a2 e)) (fun e => unB (nth a2 e)) (nth a3)⌝
          -∗ Any (thr dd x y) src -∗ Holds (thr dd x y) pong a3 -∗ Zero dd (x := x) (y := y) h2
          -∗ Any (thr dd x y) g -∗ Any (thr dd x y) lo -∗ Any (thr dd x y) hi
          -∗ wp frame (wpE defs 𝒱 (thr dd x y) bd) E k Q)
      -∗ wp frame (wpE defs 𝒱 (thr dd x y) bd) E (rowB src pong h2 g lo hi k) Q) := by
  unfold rowB
  iintro Hp Hs Z2 Hg Hl Hh Hk
  iapply (wp_midLoop 𝒱 dd bd E (kb := id) (fun _ _ => rfl) (vb := id) (fun _ _ => rfl) digit1 digit2 a1 fl fh hl hh _) $$ Hp Hs Hl Hh Z2
  iintro %a2 %f2 %hm Hp Hs Hl Hh Z2
  iapply (wp_bases 𝒱 dd bd E true (d := fun e => dg (2048 * 2048) 1024 (nth a2 e)) (fun e => Nat.mod_lt _ (by decide)) f2 (midX_hist hm.1 _ _ hm.2) _) $$ Z2 Hg Hl Hh
  iintro %fl2 %fh2 %hp2 Z2 Hg Hl Hh
  ihave Hp' := (show Holds (F := F) (thr dd x y) pong a1 ⊢ Any (thr dd x y) pong from by unfold Any; iintro H; iexists a1; iexact H) $$ Hp
  iapply (wp_lastLoop 𝒱 dd bd E (kb := id) (fun _ _ => rfl) fromKey_lane digit2 a2 fl2 fh2 hp2.1 hp2.2 _) $$ Hs Hp' Hl Hh
  iintro %a3 %hm3 Hs Hp Hl Hh
  iapply Hk $$ %a2 %a3 %⟨hm.1, hm3⟩ [Hs] Hp Z2 Hg Hl Hh
  unfold Any
  iexists a2
  iexact Hs

end Cert.Kernel.Radix
-- ==== Proof.Parts.lean ====
module

public import proofs.«01_k».proof.Proof.Body

/-! Each printed part of the tile's program is a sequence of the regions and of row transfers. -/

@[expose] public section
set_option synthInstance.maxSize 4096
noncomputable section

namespace Cert.Kernel.Radix
open Cert.Kernel Cert.Kernel.Gen
open Idealize.ShloMosaic Idealize.SL.Sem

variable {F : FTy → Type} [BitOps F]
variable (i : grid0.Coords)

/-- The tile's program type. -/
abbrev TP (F : FTy → Type) (i : grid0.Coords) (α : Type) : Type 1 := Prog (TpuEff nD τ sig (Elt F) Λ₀ (.scVector ((i 0).castLE hcore0) ((i 1).castLE hsub0))) α

/-- The tile's row `r` of an array. -/
abbrev rowM (m : Memref sig .scVector .hbm S128x32768 .i32) (r : Fin 4) : Memref sig .scVector .hbm S32768 .i32 :=
  (m.slice (Rect.unit (s := S128x32768) (k0_off5 i (BitVec.ofNat 32 r.val)) S1x32768.size (k0_off5_inb i r)) (fun _ => rfl)).squeeze S32768 squeezes_S1x32768_S32768

/-- The tile's first row, its offset printed without an addend. -/
abbrev rowM0 (m : Memref sig .scVector .hbm S128x32768 .i32) : Memref sig .scVector .hbm S32768 .i32 :=
  (m.slice (Rect.unit (s := S128x32768) (k0_off4 i) S1x32768.size (k0_off4_inb i)) (fun _ => rfl)).squeeze S32768 squeezes_S1x32768_S32768

section DMA
variable {i}

/-- Start fetching a row. -/
abbrev fetch (s : DmaSems sig S_) (row : Memref sig .scVector .hbm S32768 .i32) (hr : row.view.WordExact) (b : Memref sig .scVector .vmem S32768 .i32) (hb : b.IsWhole) :
    TP F i PUnit :=
  Prog.lift (.enqueueDma row (.here b) (.dma s.sem) hr hb.wordExact ⟨Or.inl rfl, trivial⟩)

/-- Wait for a fetched row. -/
abbrev fetched (s : DmaSems sig S_) (row : Memref sig .scVector .hbm S32768 .i32) (hr : row.view.WordExact) (b : Memref sig .scVector .vmem S32768 .i32) (hb : b.IsWhole) :
    TP F i PUnit :=
  Prog.lift (.waitDma2 s.sem row b hr hb.wordExact)

/-- Start writing a row back. -/
abbrev put (s : DmaSems sig S_) (row : Memref sig .scVector .hbm S32768 .i32) (hr : row.view.WordExact) (b : Memref sig .scVector .vmem S32768 .i32) (hb : b.IsWhole) :
    TP F i PUnit :=
  Prog.lift (.enqueueDma b (.here row) (.dma s.sem) hb.wordExact hr ⟨Or.inl rfl, trivial⟩)

/-- Wait for a row written back. -/
abbrev putDone (s : DmaSems sig S_) (row : Memref sig .scVector .hbm S32768 .i32) (hr : row.view.WordExact) (b : Memref sig .scVector .vmem S32768 .i32) (hb : b.IsWhole) :
    TP F i PUnit :=
  Prog.lift (.waitDma2 s.sem b row hb.wordExact hr)
end DMA

/-- A row of an array is made of whole words. -/
theorem rowM_we (m : Memref sig .scVector .hbm S128x32768 .i32) (r : Fin 4) : (rowM i m r).view.WordExact := (View.wordExact_bits rfl).reshape _ _
/-- So is the first row, as the program spells it. -/
theorem rowM0_we (m : Memref sig .scVector .hbm S128x32768 .i32) : (rowM0 i m).view.WordExact := (View.wordExact_bits rfl).reshape _ _

variable (arg2 : Memref sig .scVector .hbm S128x32768 .i32) (harg2 : arg2.IsWhole) (arg3 : Memref sig .scVector .hbm S128x32768 .i32) (harg3 : arg3.IsWhole) (arg4 : Memref sig .scVector .vmem S32768 .i32) (harg4 : arg4.IsWhole) (arg5 : Memref sig .scVector .vmem S32768 .i32) (harg5 : arg5.IsWhole) (arg6 : Memref sig .scVector .vmem S32768 .i32) (harg6 : arg6.IsWhole) (arg7 : Memref sig .scVector .vmem S4096 .i32) (harg7 : arg7.IsWhole) (arg8 : Memref sig .scVector .vmem S4096 .i32) (harg8 : arg8.IsWhole) (arg9 : Memref sig .scVector .vmem S4096 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : DmaSems sig S_) (arg14 : DmaSems sig S_)

/-- The three histograms cleared, the first row fetched and the second on its way, before `k`. -/
def prog389 {α : Type} (k : TP F i α) : TP F i α := do
  Scf.Loop.for L256 L256_ok (⟨⟩ : Unit) fun t _ => zeroTrip arg7 t
  Scf.Loop.for L256 L256_ok (⟨⟩ : Unit) fun t _ => zeroTrip arg8 t
  Scf.Loop.for L256 L256_ok (⟨⟩ : Unit) fun t _ => zeroTrip arg9 t
  fetch arg13 (rowM0 i arg2) (rowM0_we i arg2) arg4 harg4
  fetched arg13 (rowM0 i arg2) (rowM0_we i arg2) arg4 harg4
  fetch arg13 (rowM i arg2 1) (rowM_we i arg2 1) arg6 harg6
  k

/-- A row's second half of work, then its result put, the next row awaited, the result awaited. -/
def progB (src pong : Memref sig .scVector .vmem S32768 .i32) (hp : pong.IsWhole)
    (nxt : Memref sig .scVector .vmem S32768 .i32) (hn : nxt.IsWhole) (r r' : Fin 4) {α : Type} (k : TP F i α) : TP F i α :=
  rowB src pong arg9 arg10 arg11 arg12 do
  put arg14 (rowM i arg3 r) (rowM_we i arg3 r) pong hp
  fetched arg13 (rowM i arg2 r') (rowM_we i arg2 r') nxt hn
  putDone arg14 (rowM i arg3 r) (rowM_we i arg3 r) pong hp
  k

/-- A row's first half of work. -/
def progA (src pong : Memref sig .scVector .vmem S32768 .i32) {α : Type} (k : TP F i α) : TP F i α :=
  rowA src pong arg7 arg8 arg10 arg11 arg12 k

/-- The last row's second half of work, then its result put and awaited. -/
def progL (src pong : Memref sig .scVector .vmem S32768 .i32) (hp : pong.IsWhole) : TP F i PUnit :=
  rowB src pong arg9 arg10 arg11 arg12 do
  put arg14 (rowM i arg3 3) (rowM_we i arg3 3) pong hp
  putDone arg14 (rowM i arg3 3) (rowM_we i arg3 3) pong hp
  pure ⟨⟩

/-- The tile's whole program. -/
def prog : TP F i PUnit :=
  prog389 i arg2 arg4 harg4 arg6 harg6 arg7 arg8 arg9 arg13 <|
  progA i arg7 arg8 arg10 arg11 arg12 arg4 arg5 <|
  progB i arg2 arg3 arg9 arg10 arg11 arg12 arg13 arg14 arg4 arg5 harg5 arg6 harg6 0 1 do
  fetch arg13 (rowM i arg2 2) (rowM_we i arg2 2) arg5 harg5
  progA i arg7 arg8 arg10 arg11 arg12 arg6 arg4 <|
  progB i arg2 arg3 arg9 arg10 arg11 arg12 arg13 arg14 arg6 arg4 harg4 arg5 harg5 1 2 do
  fetch arg13 (rowM i arg2 3) (rowM_we i arg2 3) arg4 harg4
  progA i arg7 arg8 arg10 arg11 arg12 arg5 arg6 <|
  progB i arg2 arg3 arg9 arg10 arg11 arg12 arg13 arg14 arg5 arg6 harg6 arg4 harg4 2 3 <|
  progA i arg7 arg8 arg10 arg11 arg12 arg4 arg5 <|
  progL i arg3 arg9 arg10 arg11 arg12 arg14 arg4 arg5 harg5

/-- Continuing after the tables' loops is continuing inside them. -/
theorem bases_bind {x : Fin τ.nSC} {y : Fin τ.nSub} {α β : Type} (b : Bool) (h : Memref sig .scVector .vmem S4096 .i32) (g lo hi : Memref sig .scVector .vmem S2048 .i32)
    (k : Prog (TpuEff nD τ sig (Elt F) Λ₀ (.scVector x y)) α) (f : α → Prog (TpuEff nD τ sig (Elt F) Λ₀ (.scVector x y)) β) :
    bases b h g lo hi k >>= f = bases b h g lo hi (k >>= f) := by
  simp only [bases, bind_assoc]

/-- Continuing after the opening is continuing inside it. -/
theorem prog389_bind {α β : Type} (k : TP F i α) (f : α → TP F i β) :
    prog389 i arg2 arg4 harg4 arg6 harg6 arg7 arg8 arg9 arg13 k >>= f = prog389 i arg2 arg4 harg4 arg6 harg6 arg7 arg8 arg9 arg13 (k >>= f) := by
  simp only [prog389, bind_assoc]

/-- Continuing after a row's first half is continuing inside it. -/
theorem progA_bind (src pong : Memref sig .scVector .vmem S32768 .i32) {α β : Type} (k : TP F i α) (f : α → TP F i β) :
    progA i arg7 arg8 arg10 arg11 arg12 src pong k >>= f = progA i arg7 arg8 arg10 arg11 arg12 src pong (k >>= f) := by
  simp only [progA, rowA, bases_bind, bind_assoc]

/-- Continuing after a row's second half is continuing inside it. -/
theorem progB_bind (src pong : Memref sig .scVector .vmem S32768 .i32) (hp : pong.IsWhole)
    (nxt : Memref sig .scVector .vmem S32768 .i32) (hn : nxt.IsWhole) (r r' : Fin 4) {α β : Type} (k : TP F i α) (f : α → TP F i β) :
    progB i arg2 arg3 arg9 arg10 arg11 arg12 arg13 arg14 src pong hp nxt hn r r' k >>= f = progB i arg2 arg3 arg9 arg10 arg11 arg12 arg13 arg14 src pong hp nxt hn r r' (k >>= f) := by
  simp only [progB, rowB, bases_bind, bind_assoc]

set_option maxRecDepth 65536 in
set_option maxHeartbeats 4000000 in
/-- The first printed part is the opening. -/
theorem part389_eq : k0_part389 (F := F) i arg2 harg2 arg3 harg3 arg4 harg4 arg5 harg5 arg6 harg6 arg7 harg7 arg8 harg8 arg9 harg9 arg10 harg10 arg11 harg11 arg12 harg12 arg13 arg14 =
    prog389 i arg2 arg4 harg4 arg6 harg6 arg7 arg8 arg9 arg13 (pure ⟨Scalar.muli (Scalar.addi (Scalar.muli (BitVec.ofNat 32 (i 1).val) 2#32) (BitVec.ofNat 32 (i 0).val)) 4#32, broadcast S16 0#32⟩) := rfl

set_option maxRecDepth 65536 in
set_option maxHeartbeats 4000000 in
/-- The second is the first half of row 0. -/
theorem part390_eq : k0_part390 (F := F) i arg2 harg2 arg3 harg3 arg4 harg4 arg5 harg5 arg6 harg6 arg7 harg7 arg8 harg8 arg9 harg9 arg10 harg10 arg11 harg11 arg12 harg12 arg13 arg14 (broadcast S16 0#32) =
    progA i arg7 arg8 arg10 arg11 arg12 arg4 arg5 (pure ⟨0#32, 1#32⟩) := rfl

set_option maxRecDepth 65536 in
set_option maxHeartbeats 4000000 in
/-- The third is the second half of row 0, awaiting row 1. -/
theorem part391_eq (v : BitVec 32) : k0_part391 (F := F) i arg2 harg2 arg3 harg3 arg4 harg4 arg5 harg5 arg6 harg6 arg7 harg7 arg8 harg8 arg9 harg9 arg10 harg10 arg11 harg11 arg12 harg12 arg13 arg14 v (broadcast S16 0#32) 0#32 1#32 =
    progB i arg2 arg3 arg9 arg10 arg11 arg12 arg13 arg14 arg4 arg5 harg5 arg6 harg6 0 1 (pure ⟨⟩) := rfl

set_option maxRecDepth 65536 in
set_option maxHeartbeats 4000000 in
/-- The fourth asks for row 2 and does the first half of row 1. -/
theorem part392_eq : k0_part392 (F := F) i arg2 harg2 arg3 harg3 arg4 harg4 arg5 harg5 arg6 harg6 arg7 harg7 arg8 harg8 arg9 harg9 arg10 harg10 arg11 harg11 arg12 harg12 arg13 arg14 (broadcast S16 0#32) =
    (fetch arg13 (rowM i arg2 2) (rowM_we i arg2 2) arg5 harg5 >>= fun _ => progA i arg7 arg8 arg10 arg11 arg12 arg6 arg4 (pure 0#32)) := rfl

set_option maxRecDepth 65536 in
set_option maxHeartbeats 4000000 in
/-- The fifth is the second half of row 1, awaiting row 2. -/
theorem part393_eq (v : BitVec 32) : k0_part393 (F := F) i arg2 harg2 arg3 harg3 arg4 harg4 arg5 harg5 arg6 harg6 arg7 harg7 arg8 harg8 arg9 harg9 arg10 harg10 arg11 harg11 arg12 harg12 arg13 arg14 v (broadcast S16 0#32) 0#32 =
    progB i arg2 arg3 arg9 arg10 arg11 arg12 arg13 arg14 arg6 arg4 harg4 arg5 harg5 1 2 (pure ⟨⟩) := rfl

set_option maxRecDepth 65536 in
set_option maxHeartbeats 4000000 in
/-- The sixth asks for row 3 and does the first half of row 2. -/
theorem part394_eq : k0_part394 (F := F) i arg2 harg2 arg3 harg3 arg4 harg4 arg5 harg5 arg6 harg6 arg7 harg7 arg8 harg8 arg9 harg9 arg10 harg10 arg11 harg11 arg12 harg12 arg13 arg14 (broadcast S16 0#32) =
    (fetch arg13 (rowM i arg2 3) (rowM_we i arg2 3) arg4 harg4 >>= fun _ => progA i arg7 arg8 arg10 arg11 arg12 arg5 arg6 (pure ⟨⟩)) := rfl

set_option maxRecDepth 65536 in
set_option maxHeartbeats 4000000 in
/-- The seventh is the second half of row 2, awaiting row 3. -/
theorem part395_eq (v : BitVec 32) : k0_part395 (F := F) i arg2 harg2 arg3 harg3 arg4 harg4 arg5 harg5 arg6 harg6 arg7 harg7 arg8 harg8 arg9 harg9 arg10 harg10 arg11 harg11 arg12 harg12 arg13 arg14 v (broadcast S16 0#32) =
    progB i arg2 arg3 arg9 arg10 arg11 arg12 arg13 arg14 arg5 arg6 harg6 arg4 harg4 2 3 (pure ⟨⟩) := rfl

set_option maxRecDepth 65536 in
set_option maxHeartbeats 4000000 in
/-- The eighth is the first half of row 3. -/
theorem part396_eq : k0_part396 (F := F) i arg2 harg2 arg3 harg3 arg4 harg4 arg5 harg5 arg6 harg6 arg7 harg7 arg8 harg8 arg9 harg9 arg10 harg10 arg11 harg11 arg12 harg12 arg13 arg14 (broadcast S16 0#32) =
    progA i arg7 arg8 arg10 arg11 arg12 arg4 arg5 (pure ⟨0#32, 1#32⟩) := rfl

set_option maxRecDepth 65536 in
set_option maxHeartbeats 4000000 in
/-- The printed body is the tile's program. -/
theorem body_eq : cc0__body (F := F) i arg2 harg2 arg3 harg3 arg4 harg4 arg5 harg5 arg6 harg6 arg7 harg7 arg8 harg8 arg9 harg9 arg10 harg10 arg11 harg11 arg12 harg12 arg13 arg14 = prog i arg2 arg3 arg4 harg4 arg5 harg5 arg6 harg6 arg7 arg8 arg9 arg10 arg11 arg12 arg13 arg14 := by
  unfold cc0__body prog
  simp only [part389_eq, part390_eq, part391_eq, part392_eq, part393_eq, part394_eq, part395_eq, part396_eq, prog389_bind, progA_bind, progB_bind,
    bind_assoc, pure_bind]
  rfl

end Cert.Kernel.Radix
-- ==== Proof.Tile.lean ====
module

public import proofs.«01_k».proof.Proof.Rows
public import proofs.«01_k».proof.Proof.Parts
public import Idealize.ShloMosaic.Lib.SparseCore.Quiescent
public import Idealize.ShloMosaic.Lib.SparseCore.Ops
public import Idealize.ShloMosaic.Lib.Transfers
public import Idealize.ShloMosaic.Lib.Tactic

/-! The tile's program: its four rows fetched, sorted and put back, the transfers overlapping the sorts. -/

@[expose] public section
noncomputable section

namespace Cert.Kernel.Radix
open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- The launch's rounds and the transfers' counters. -/
abbrev UH : Type := URounds (GSem nD τ sig) ℕ
/-- The ghost state: the handshakes', and the transfers'. -/
abbrev UU : Type := UH × Counters

variable {F : FTy → Type} [BitOps F]

local notation "𝕄" => MT nD τ sig (HIx 1) (Elt F) ℕ UU ℕ

section Copy
variable {defs : Defs nD τ sig (Elt F) Λ₀} (𝒱 : Variants) (c : Thread nD τ) (bd : Option 𝒱.V)
variable {α : Type} {Q : α → sProp (MT nD τ sig (HIx 1) (Elt F) ℕ UU ℕ)} {sp sp' : Space} {s : Shape} {e : EltTy}

/-- A copy of `src`, reading `a`, on its way to `dst`. -/
def Flying (sm : DmaSem sig) (src : Memref sig c.2.kind sp s e) (dst : Memref sig c.2.kind sp' s e) (a : s.Idx → Elt F e) : sProp 𝕄 :=
  Transfers.Flight countersEmb c (.dma sm) (default : HIx 1) dst.view.dmaCredit iprop(Holds c dst a ∗ Holds c src a)

/-- What the thread owes, and waits it has recorded, all at the launch's own index or before it. -/
def Owe (O : CellTallies nD τ sig (HIx 1)) (W : Waits sig (HIx 1)) : sProp 𝕄 :=
  iprop(∃ W', ⌜∀ p ∈ W', p ∈ W ∨ p.2 = none⌝ ∗ owes c O W')

/-- Starting a transfer gives up both sides and the semaphore until it is done. -/
theorem wp_start {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ₀ c.2) α} (hs : 0 < s.numel) (a : s.Idx → Elt F e) :
    Holds c src a ⊢ iprop(Any c dst -∗ semVal (c, .dma sm) 0
      -∗ (Flying c sm src dst a -∗ wp frame (wpE defs 𝒱 c bd) Set.univ (k ⟨⟩) Q)
      -∗ wp frame (wpE defs 𝒱 c bd) Set.univ (.op (.enqueueDma src (.here dst) (.dma sm) hsrc hdst hsem) k) Q) := by
  unfold Any Holds Flying
  iintro ⟨%fs, %hfs, Hs⟩ ⟨%g, %fd, %_, Hd⟩ Hv Hk
  iapply (Transfers.wp_dmaLocal countersEmb 𝒱 c bd (q := fullShare) (fs := fs) (fd := fd) (default : HIx 1) dst.view.dmaCredit rfl
    (View.dmaCredit_pos _ hs) (Finset.Subset.refl dst.view.set)) $$ [Hs Hd Hv]
  · isplitl [Hs]
    · iexact Hs
    isplitl [Hd]
    · iexact Hd
    iexact Hv
  iintro Hf
  iapply Hk
  iapply (Transfers.Flight_mono countersEmb c (D := _) (D' := iprop(Holds c dst a ∗ Holds c src a)) (by
    unfold Holds
    iintro ⟨Hd, Hs⟩
    isplitl [Hd]
    · iexists _
      isplitr
      swap
      · iexact Hd
      · ipureintro
        rw [View.read_write_univ]
        exact hfs
    · iexists fs
      isplitr
      · ipureintro; exact hfs
      · iexact Hs)) $$ Hf

/-- Awaiting it gives them back, the target holding what the source holds. -/
theorem wp_done {src : Memref sig c.2.kind sp s e} {dst : Memref sig c.2.kind sp' s e} {sm : DmaSem sig}
    {hsrc : src.view.WordExact} {hdst : dst.view.WordExact}
    {k : PUnit → Prog (TpuEff nD τ sig (Elt F) Λ₀ c.2) α} {O : CellTallies nD τ sig (HIx 1)} {W : Waits sig (HIx 1)} (a : s.Idx → Elt F e) :
    iprop(Transfers.MayWaits c (default : HIx 1) O) ⊢ iprop(Flying c sm src dst a -∗ Owe c O W
      -∗ (Holds c dst a -∗ Holds c src a -∗ semVal (c, .dma sm) 0 -∗ Owe c O W -∗ wp frame (wpE defs 𝒱 c bd) Set.univ (k ⟨⟩) Q)
      -∗ wp frame (wpE defs 𝒱 c bd) Set.univ (.op (.waitDma2 sm src dst hsrc hdst) k) Q) := by
  unfold Flying Owe
  iintro Hmw Hf ⟨%W', %hW, HO⟩ Hk
  iapply (Transfers.wp_waitLocalO countersEmb 𝒱 c bd (default : HIx 1) (rfl : dst.view.dmaCredit = _)) $$ [Hf HO Hmw]
  · isplitl [Hf]
    · iexact Hf
    isplitl [HO]
    · iexact HO
    iapply (Transfers.MayWaits.elim (SemLoc.dma sm)) $$ Hmw
  iintro ⟨⟨Hd, Hs⟩, Hv, HO⟩
  iapply Hk $$ Hd Hs Hv
  iexists _
  isplitr
  swap
  · iexact HO
  · ipureintro
    intro p hp
    rcases Finset.mem_insert.1 hp with hp | hp
    · exact Or.inr (hp ▸ rfl)
    · exact hW p hp

end Copy

/-! ## A row -/

section Row
variable {defs : Defs nD τ sig (Elt F) Λ₀} (𝒱 : Variants) (dd : Dev nD) {x : Fin τ.nSC} {y : Fin τ.nSub} (bd : Option 𝒱.V)
variable {α : Type} {Q : α → sProp (MT nD τ sig (HIx 1) (Elt F) ℕ UU ℕ)}

/-- The tables between two rows: the histograms clear, the pointers whatever they are. -/
def Scr (h0 h1 h2 : MH) (g lo hi : MP) : sProp 𝕄 :=
  iprop(Zero dd (x := x) (y := y) h0 ∗ Zero dd (x := x) (y := y) h1 ∗ Zero dd (x := x) (y := y) h2
    ∗ Any (thr dd x y) g ∗ Any (thr dd x y) lo ∗ Any (thr dd x y) hi)

/-- A row's whole work leaves the row sorted in the other buffer, and the tables as they were needed. -/
theorem wp_row {src pong : MR} {h0 h1 h2 : MH} {g lo hi : MP} (a : Row) (k : Prog (TpuEff nD τ sig (Elt F) Λ₀ (.scVector x y)) α) :
    Holds (thr dd x y) src a ⊢ iprop(Any (thr dd x y) pong -∗ Scr dd (x := x) (y := y) h0 h1 h2 g lo hi
      -∗ (∀ a3, ⌜Sorted a a3⌝ -∗ Any (thr dd x y) src -∗ Holds (thr dd x y) pong a3 -∗ Scr dd (x := x) (y := y) h0 h1 h2 g lo hi
          -∗ wp frame (wpE defs 𝒱 (thr dd x y) bd) Set.univ k Q)
      -∗ wp frame (wpE defs 𝒱 (thr dd x y) bd) Set.univ (rowA src pong h0 h1 g lo hi (rowB src pong h2 g lo hi k)) Q) := by
  unfold Scr
  iintro Ha Hp ⟨Z0, Z1, Z2, Hg, Hl, Hh⟩ Hk
  iapply (wp_rowA 𝒱 dd bd Set.univ a _) $$ Ha Hp Z0 Z1 Hg Hl Hh
  iintro %a1 %fl %fh %h1 Ha Hp Z0 Z1 Hg Hl Hh
  ihave Ha' := (show Holds (F := F) (thr dd x y) src a ⊢ Any (thr dd x y) src from by unfold Any; iintro H; iexists a; iexact H) $$ Ha
  iapply (wp_rowB 𝒱 dd bd Set.univ a1 fl fh h1.2.1 h1.2.2 _) $$ Hp Ha' Z2 Hg Hl Hh
  iintro %a2 %a3 %h2 Hs Hp Z2 Hg Hl Hh
  iapply Hk $$ %a3 %(sorted_of_passes h1.1 h2.1 h2.2) Hs Hp
  isplitl [Z0]
  · iexact Z0
  isplitl [Z1]
  · iexact Z1
  isplitl [Z2]
  · iexact Z2
  isplitl [Hg]
  · iexact Hg
  isplitl [Hl]
  · iexact Hl
  iexact Hh

end Row

/-! ## The tile -/

section Tile
variable {defs : Defs nD τ sig (Elt F) Λ₀} (𝒱 : Variants) (dd : Dev nD) (i : grid0.Coords) (bd : Option 𝒱.V)
variable {α : Type} {Q : α → sProp (MT nD τ sig (HIx 1) (Elt F) ℕ UU ℕ)}

/-- The tile's thread. -/
abbrev thrT (i : grid0.Coords) : Thread nD τ := thr dd ((i 0).castLE hcore0) ((i 1).castLE hsub0)

/-- The first row, as the program spells it, is row 0. -/
theorem rowM0_eq (m : Memref sig .scVector .hbm S128x32768 .i32) : rowM0 i m = rowM i m 0 := by
  have h : k0_off4 i = k0_off5 i (BitVec.ofNat 32 (0 : Fin 4).val) := by rw [k0_off4_eq, k0_off5_eq]; rfl
  have e : ∀ (o o' : Fin 2 → ℕ) (_ : o = o') (p : ∀ a, o a + S1x32768.size a ≤ S128x32768.size a) (p' : ∀ a, o' a + S1x32768.size a ≤ S128x32768.size a),
      (m.slice (Rect.unit (s := S128x32768) o S1x32768.size p) (fun _ => rfl)).squeeze S32768 squeezes_S1x32768_S32768
        = (m.slice (Rect.unit (s := S128x32768) o' S1x32768.size p') (fun _ => rfl)).squeeze S32768 squeezes_S1x32768_S32768 := by
    rintro o _ rfl p p'; rfl
  exact e _ _ h _ _

/-- Holding the one is holding the other. -/
theorem rowM0_holds (m : Memref sig .scVector .hbm S128x32768 .i32) (a : Row) :
    (Holds (thrT dd i) (rowM0 i m) a : sProp 𝕄) = Holds (thrT dd i) (rowM i m 0) a := by
  rw [rowM0_eq]

variable (arg2 arg3 : Memref sig .scVector .hbm S128x32768 .i32) (arg13 arg14 : DmaSems sig S_)
variable (h0 h1 h2 : MH) (g lo hi : MP)

/-- A row sorted and put back while the next one arrives. -/
theorem wp_step {src pong : MR} (hp : pong.IsWhole) {nxt : MR} (hn : nxt.IsWhole) (r r' : Fin 4) (a b : Row)
    {O : CellTallies nD τ sig (HIx 1)} {W : Waits sig (HIx 1)} (k : TP F i α) :
    iprop(Transfers.MayWaits (thrT dd i) (default : HIx 1) O) ⊢ iprop(Holds (thrT dd i) src a -∗ Any (thrT dd i) pong
      -∗ Scr dd (x := (i 0).castLE hcore0) (y := (i 1).castLE hsub0) h0 h1 h2 g lo hi
      -∗ Any (thrT dd i) (rowM i arg3 r) -∗ semVal (thrT dd i, .dma arg14.sem) 0
      -∗ Flying (thrT dd i) arg13.sem (rowM i arg2 r') nxt b -∗ Owe (thrT dd i) O W
      -∗ (∀ a3, ⌜Sorted a a3⌝ -∗ Any (thrT dd i) src -∗ Any (thrT dd i) pong
          -∗ Scr dd (x := (i 0).castLE hcore0) (y := (i 1).castLE hsub0) h0 h1 h2 g lo hi
          -∗ Holds (thrT dd i) (rowM i arg3 r) a3 -∗ semVal (thrT dd i, .dma arg14.sem) 0
          -∗ Holds (thrT dd i) nxt b -∗ Holds (thrT dd i) (rowM i arg2 r') b -∗ semVal (thrT dd i, .dma arg13.sem) 0
          -∗ Owe (thrT dd i) O W -∗ wp frame (wpE defs 𝒱 (thrT dd i) bd) Set.univ k Q)
      -∗ wp frame (wpE defs 𝒱 (thrT dd i) bd) Set.univ
          (progA i h0 h1 g lo hi src pong (progB i arg2 arg3 h2 g lo hi arg13 arg14 src pong hp nxt hn r r' k)) Q) := by
  unfold progA progB
  iintro #Hmw Ha Hp Hs Ho V14 Hf HO Hk
  iapply (wp_row 𝒱 dd bd a _) $$ Ha Hp Hs
  iintro %a3 %ha Ha Hp Hs
  iapply (wp_start 𝒱 (thrT dd i) bd (by decide) a3) $$ Hp Ho V14
  iintro Hf'
  iapply (wp_done 𝒱 (thrT dd i) bd b) $$ Hmw Hf HO
  iintro Hn Hr V13 HO
  iapply (wp_done 𝒱 (thrT dd i) bd a3) $$ Hmw Hf' HO
  iintro Ho Hp V14 HO
  ihave Hp' := (show Holds (F := F) (thrT dd i) pong a3 ⊢ Any (thrT dd i) pong from by unfold Any; iintro H; iexists a3; iexact H) $$ Hp
  iapply Hk $$ %a3 %ha Ha Hp' Hs Ho V14 Hn Hr V13 HO

variable (arg4 arg5 arg6 : MR) (hw4 : arg4.IsWhole) (hw5 : arg5.IsWhole) (hw6 : arg6.IsWhole)

/-- The tile's four rows of an array, each holding a row of `ρ`. -/
def Four (m : Memref sig .scVector .hbm S128x32768 .i32) (ρ : Fin 4 → Row) : sProp 𝕄 :=
  iprop(Holds (thrT dd i) (rowM i m 0) (ρ 0) ∗ Holds (thrT dd i) (rowM i m 1) (ρ 1) ∗ Holds (thrT dd i) (rowM i m 2) (ρ 2) ∗ Holds (thrT dd i) (rowM i m 3) (ρ 3))

/-- What the tile works in. -/
def Work : sProp 𝕄 :=
  iprop(Any (thrT dd i) arg4 ∗ Any (thrT dd i) arg5 ∗ Any (thrT dd i) arg6 ∗ Any (thrT dd i) h0 ∗ Any (thrT dd i) h1 ∗ Any (thrT dd i) h2
    ∗ Any (thrT dd i) g ∗ Any (thrT dd i) lo ∗ Any (thrT dd i) hi)

/-- Clearing a histogram of any contents leaves it all zero. -/
theorem wp_clear {h : MH} {β : Type} {R : β → sProp 𝕄} (k : Unit → TP F i β) :
    Any (thrT dd i) h ⊢ iprop((Zero dd (x := (i 0).castLE hcore0) (y := (i 1).castLE hsub0) h -∗ wp frame (wpE defs 𝒱 (thrT dd i) bd) Set.univ (k ⟨⟩) R)
      -∗ wp frame (wpE defs 𝒱 (thrT dd i) bd) Set.univ (Scf.Loop.for L256 L256_ok (⟨⟩ : Unit) (fun t _ => zeroTrip h t) >>= k) R) := by
  unfold Any Zero
  iintro ⟨%f, H⟩ Hk
  iapply (wp_zeroLoop 𝒱 dd bd Set.univ f k) $$ H
  iintro %f' %hf' H
  iapply Hk
  iexists f'
  isplitr
  · ipureintro; exact hf'
  · iexact H

/-- An array held at known contents is held at some. -/
theorem anyOf {c : Thread nD τ} {sp : Space} {s : Shape} {e : EltTy} (m : Memref sig c.2.kind sp s e) (a : s.Idx → Elt F e) : (Holds c m a : sProp 𝕄) ⊢ Any c m := by
  unfold Any; iintro H; iexists a; iexact H

/-- So is a clear histogram. -/
theorem anyZ {x : Fin τ.nSC} {y : Fin τ.nSub} (h : MH) : (Zero dd (x := x) (y := y) h : sProp 𝕄) ⊢ Any (thr dd x y) h := by
  unfold Any Zero; iintro ⟨%f, %_, H⟩; iexists f; iexact H

/-- The tile's program leaves its four rows of the result sorted, its input as it was, and its semaphores at zero. -/
theorem wp_prog (ρ ρ' : Fin 4 → Row) {O : CellTallies nD τ sig (HIx 1)} {W : Waits sig (HIx 1)} :
    iprop(Transfers.MayWaits (thrT dd i) (default : HIx 1) O) ⊢ iprop(Four dd i arg2 ρ -∗ Four dd i arg3 ρ'
      -∗ Work dd i h0 h1 h2 g lo hi arg4 arg5 arg6
      -∗ semVal (thrT dd i, .dma arg13.sem) 0 -∗ semVal (thrT dd i, .dma arg14.sem) 0 -∗ Owe (thrT dd i) O W
      -∗ wp frame (wpE defs 𝒱 (thrT dd i) bd) Set.univ (prog i arg2 arg3 arg4 hw4 arg5 hw5 arg6 hw6 h0 h1 h2 g lo hi arg13 arg14)
          fun _ => iprop(Four dd i arg2 ρ ∗ (∃ out, ⌜∀ r, Sorted (ρ r) (out r)⌝ ∗ Four dd i arg3 out)
            ∗ Work dd i h0 h1 h2 g lo hi arg4 arg5 arg6
            ∗ semVal (thrT dd i, .dma arg13.sem) 0 ∗ semVal (thrT dd i, .dma arg14.sem) 0 ∗ Owe (thrT dd i) O W)) := by
  unfold Work Four prog prog389
  iintro #Hmw ⟨I0, I1, I2, I3⟩ ⟨O0, O1, O2, O3⟩ ⟨B4, B5, B6, Z0, Z1, Z2, Hg, Hl, Hh⟩ V13 V14 HO
  ihave O0 := (anyOf _ _) $$ O0
  ihave O1 := (anyOf _ _) $$ O1
  ihave O2 := (anyOf _ _) $$ O2
  ihave O3 := (anyOf _ _) $$ O3
  iapply (wp_clear 𝒱 dd i bd _) $$ Z0
  iintro Z0
  iapply (wp_clear 𝒱 dd i bd _) $$ Z1
  iintro Z1
  iapply (wp_clear 𝒱 dd i bd _) $$ Z2
  iintro Z2
  ihave I0 := (Entails.of_eq (rowM0_holds dd i arg2 (ρ 0)).symm) $$ I0
  iapply (wp_start 𝒱 (thrT dd i) bd (by decide) (ρ 0)) $$ I0 B4 V13
  iintro Hf
  iapply (wp_done 𝒱 (thrT dd i) bd (ρ 0)) $$ Hmw Hf HO
  iintro B4 I0 V13 HO
  ihave I0 := (Entails.of_eq (rowM0_holds dd i arg2 (ρ 0))) $$ I0
  iapply (wp_start 𝒱 (thrT dd i) bd (by decide) (ρ 1)) $$ I1 B6 V13
  iintro Hf
  ihave Hs := (show (iprop(Zero (F := F) dd (x := (i 0).castLE hcore0) (y := (i 1).castLE hsub0) h0 ∗ Zero dd (x := (i 0).castLE hcore0) (y := (i 1).castLE hsub0) h1 ∗ Zero dd (x := (i 0).castLE hcore0) (y := (i 1).castLE hsub0) h2
      ∗ Any (thrT dd i) g ∗ Any (thrT dd i) lo ∗ Any (thrT dd i) hi) : sProp 𝕄) ⊢ Scr dd (x := (i 0).castLE hcore0) (y := (i 1).castLE hsub0) h0 h1 h2 g lo hi from by
    unfold Scr; iintro H; iexact H) $$ [Z0 Z1 Z2 Hg Hl Hh]
  · isplitl [Z0]
    · iexact Z0
    isplitl [Z1]
    · iexact Z1
    isplitl [Z2]
    · iexact Z2
    isplitl [Hg]
    · iexact Hg
    isplitl [Hl]
    · iexact Hl
    iexact Hh
  iapply (wp_step 𝒱 dd i bd arg2 arg3 arg13 arg14 h0 h1 h2 g lo hi hw5 hw6 0 1 (ρ 0) (ρ 1) _) $$ Hmw B4 B5 Hs O0 V14 Hf HO
  iintro %o0 %s0 B4 B5 Hs O0 V14 B6 I1 V13 HO
  iapply (wp_start 𝒱 (thrT dd i) bd (by decide) (ρ 2)) $$ I2 B5 V13
  iintro Hf
  iapply (wp_step 𝒱 dd i bd arg2 arg3 arg13 arg14 h0 h1 h2 g lo hi hw4 hw5 1 2 (ρ 1) (ρ 2) _) $$ Hmw B6 B4 Hs O1 V14 Hf HO
  iintro %o1 %s1 B6 B4 Hs O1 V14 B5 I2 V13 HO
  iapply (wp_start 𝒱 (thrT dd i) bd (by decide) (ρ 3)) $$ I3 B4 V13
  iintro Hf
  iapply (wp_step 𝒱 dd i bd arg2 arg3 arg13 arg14 h0 h1 h2 g lo hi hw6 hw4 2 3 (ρ 2) (ρ 3) _) $$ Hmw B5 B6 Hs O2 V14 Hf HO
  iintro %o2 %s2 B5 B6 Hs O2 V14 B4 I3 V13 HO
  unfold progA progL
  iapply (wp_row 𝒱 dd bd (ρ 3) _) $$ B4 B5 Hs
  iintro %o3 %s3 B4 B5 Hs
  iapply (wp_start 𝒱 (thrT dd i) bd (by decide) o3) $$ B5 O3 V14
  iintro Hf
  iapply (wp_done 𝒱 (thrT dd i) bd o3) $$ Hmw Hf HO
  iintro O3 B5 V14 HO
  ihave B5 := (anyOf _ _) $$ B5
  iapply (wp_ret_of 𝒱 dd bd Set.univ)
  isplitl [I0 I1 I2 I3]
  · isplitl [I0]
    · iexact I0
    isplitl [I1]
    · iexact I1
    isplitl [I2]
    · iexact I2
    iexact I3
  isplitl [O0 O1 O2 O3]
  · iexists ![o0, o1, o2, o3]
    isplitr
    · ipureintro
      intro r
      match r with
      | 0 => exact s0
      | 1 => exact s1
      | 2 => exact s2
      | 3 => exact s3
    · isplitl [O0]
      · iexact O0
      isplitl [O1]
      · iexact O1
      isplitl [O2]
      · iexact O2
      iexact O3
  isplitl [B4 B5 B6 Hs]
  · isplitl [B4]
    · iexact B4
    isplitl [B5]
    · iexact B5
    isplitl [B6]
    · iexact B6
    unfold Scr
    icases Hs with ⟨Z0, Z1, Z2, Hg, Hl, Hh⟩
    isplitl [Z0]
    · iapply (anyZ dd h0) $$ Z0
    isplitl [Z1]
    · iapply (anyZ dd h1) $$ Z1
    isplitl [Z2]
    · iapply (anyZ dd h2) $$ Z2
    isplitl [Hg]
    · iexact Hg
    isplitl [Hl]
    · iexact Hl
    iexact Hh
  isplitl [V13]
  · iexact V13
  isplitl [V14]
  · iexact V14
  iexact HO

end Tile

end Cert.Kernel.Radix
-- ==== Proof.Split.lean ====
module

public import proofs.«01_k».proof.Proof.Tile

/-! The launch's arrays split into the tiles' rows, and joined again. -/

@[expose] public section
noncomputable section

namespace Cert.Kernel.Radix
open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Element `k` of row `n` of an array. -/
def cell (n : Fin 128) (k : Fin 32768) : S128x32768.Idx := fun | 0 => n | 1 => k

/-- Row `n`'s elements. -/
def rowSet (n : Fin 128) : Finset S128x32768.Idx := Finset.univ.filter fun j => (j 0).val = n.val

/-- An element is in a row when its first coordinate is the row's number. -/
theorem mem_rowSet {n : Fin 128} {j : S128x32768.Idx} : j ∈ rowSet n ↔ (j 0).val = n.val := by simp [rowSet]

/-- Row `n` of an array. -/
def rowOf (a : S128x32768.Idx → BitVec 32) (n : Fin 128) : Row := fun x => a (cell n (x 0))

/-- An element is the cell at its own coordinates. -/
theorem cell_self (j : S128x32768.Idx) : cell (j 0) (j 1) = j := by
  funext a
  match a with
  | 0 => rfl
  | 1 => rfl

/-- A row's cells are in the row. -/
theorem cell_mem (n : Fin 128) (k : Fin 32768) : cell n k ∈ rowSet n := mem_rowSet.2 rfl

/-- Different rows share no element. -/
theorem rowSet_disjoint : ∀ n ∈ (Finset.univ : Finset (Fin 128)), ∀ n' ∈ (Finset.univ : Finset (Fin 128)), n ≠ n' → Disjoint (rowSet n) (rowSet n') := by
  intro n _ n' _ h
  rw [Finset.disjoint_left]
  intro j hj hj'
  exact h (Fin.ext ((mem_rowSet.1 hj).symm.trans (mem_rowSet.1 hj')))

/-- The rows together are the whole array. -/
theorem rowSet_cover : (Finset.univ : Finset (Fin 128)).biUnion rowSet = Finset.univ := by
  ext j
  simp only [Finset.mem_biUnion, Finset.mem_univ, true_and, iff_true]
  exact ⟨⟨(j 0).val, (j 0).isLt⟩, mem_rowSet.2 rfl⟩

/-- The row of the array that is tile `i`'s row `r`. -/
def rowN (i : grid0.Coords) (r : Fin 4) : Fin 128 :=
  ⟨8 * (i 1).val + 4 * (i 0).val + r.val, by
    have h1 : (i 1).val < 16 := (i 1).isLt
    have h0 : (i 0).val < 2 := (i 0).isLt
    omega⟩

/-- The rectangle of a tile's row `r` is that row of the array. -/
theorem row_emb (i : grid0.Coords) (r : Fin 4) (y : S32768.Idx) :
    (Rect.unit (s := S128x32768) (k0_off5 i (BitVec.ofNat 32 r.val)) S1x32768.size (k0_off5_inb i r)).emb
      (Shape.reshapeEquiv squeezes_S1x32768_S32768.numel_eq y) = cell (rowN i r) (y 0) := by
  have e : Shape.reshapeEquiv squeezes_S1x32768_S32768.numel_eq y = (Fin.cons ⟨0, Nat.one_pos⟩ y : S1x32768.Idx) := Shape.reshapeEquiv_cons_one _ y
  rw [e]
  funext a
  apply Fin.ext
  have h := congrFun (k0_off5_eq i r) a
  match a with
  | 0 =>
    have h : k0_off5 i (BitVec.ofNat 32 r.val) 0 = 8 * (i 1).val + 4 * (i 0).val + r.val := h
    show k0_off5 i (BitVec.ofNat 32 r.val) 0 + 1 * 0 = 8 * (i 1).val + 4 * (i 0).val + r.val
    omega
  | 1 =>
    have h : k0_off5 i (BitVec.ofNat 32 r.val) 1 = 0 := h
    show k0_off5 i (BitVec.ofNat 32 r.val) 1 + 1 * (y 0).val = (y 0).val
    omega

section Arrays
variable (i : grid0.Coords) (r : Fin 4)

/-- The words' array, as a tile sees it. -/
abbrev v0M : Memref sig .scVector .hbm S128x32768 .i32 := Memref.whole main_v0_scv
/-- The array the call writes, as a tile sees it. -/
abbrev v1M : Memref sig .scVector .hbm S128x32768 .i32 := Memref.whole main_v1_scv

/-- What runs through a row's cells covers the row. -/
theorem row_set_of (e : S32768.Idx ↪ S128x32768.Idx) (h : ∀ y, e y = cell (rowN i r) (y 0)) : Finset.univ.map e = rowSet (rowN i r) := by
  ext j
  simp only [Finset.mem_map, Finset.mem_univ, true_and]
  constructor
  · rintro ⟨y, rfl⟩
    rw [h y]; exact cell_mem _ _
  · intro hj
    refine ⟨fun | 0 => j 1, ?_⟩
    rw [h, show rowN i r = j 0 from Fin.ext (mem_rowSet.1 hj).symm]
    exact cell_self j

/-- A tile's row of the words covers that row. -/
theorem set_row0 : (rowM i v0M r).view.set = rowSet (rowN i r) := row_set_of i r _ fun y => row_emb i r y
/-- A tile's row of the result covers that row. -/
theorem set_row1 : (rowM i v1M r).view.set = rowSet (rowN i r) := row_set_of i r _ fun y => row_emb i r y

/-- Where the argument is. -/
abbrev xLoc (d : Dev nD) : Loc nD τ sig := (SparseCore.T d).loc main_arg0
/-- Where the words are. -/
abbrev iLoc (d : Dev nD) : Loc nD τ sig := (SparseCore.T d).loc main_v0
/-- Where the call writes. -/
abbrev oLoc (d : Dev nD) : Loc nD τ sig := (SparseCore.T d).loc main_v1
/-- Where the result is. -/
abbrev rLoc (d : Dev nD) : Loc nD τ sig := (SparseCore.T d).loc main_v2

/-- Reading a tile's row of the words gives that row of the array. -/
theorem read_row0 (d : Dev nD) (f : Buf (Elt F) (iLoc d)) : (rowM i v0M r).view.read (Elt F) f = rowOf f (rowN i r) := by
  funext y
  exact congrArg f (row_emb i r y)
/-- Reading a tile's row of the result gives that row of the array. -/
theorem read_row1 (d : Dev nD) (f : Buf (Elt F) (oLoc d)) : (rowM i v1M r).view.read (Elt F) f = rowOf f (rowN i r) := by
  funext y
  exact congrArg f (row_emb i r y)

/-- Owning a row's elements of the words is holding the row. -/
theorem holds_row0 (d : Dev nD) (f : Buf (Elt F) (iLoc d)) :
    (iLoc d ↦[rowSet (rowN i r)]{fullShare} f : sProp 𝕄) ⊢ Holds (thrT d i) (rowM i v0M r) (rowOf f (rowN i r)) := by
  rw [← set_row0]
  unfold Holds
  iintro H
  iexists f
  isplitr
  · ipureintro; exact read_row0 i r d f
  · iexact H
/-- Owning a row's elements of the result is holding the row. -/
theorem holds_row1 (d : Dev nD) (f : Buf (Elt F) (oLoc d)) :
    (oLoc d ↦[rowSet (rowN i r)]{fullShare} f : sProp 𝕄) ⊢ Holds (thrT d i) (rowM i v1M r) (rowOf f (rowN i r)) := by
  rw [← set_row1]
  unfold Holds
  iintro H
  iexists f
  isplitr
  · ipureintro; exact read_row1 i r d f
  · iexact H
/-- Holding a row of the result is owning its elements at some contents with that row. -/
theorem row1_holds (d : Dev nD) (g : Row) :
    (Holds (thrT d i) (rowM i v1M r) g : sProp 𝕄) ⊢ iprop(∃ f : Buf (Elt F) (oLoc d), ⌜rowOf f (rowN i r) = g⌝ ∗ oLoc d ↦[rowSet (rowN i r)]{fullShare} f) := by
  unfold Holds
  rw [← set_row1]
  iintro ⟨%f, %h, H⟩
  iexists f
  isplitr
  · ipureintro; exact (read_row1 i r d f).symm.trans h
  · iexact H
end Arrays

/-! ## Every tile's rows are the array's -/

/-- The coordinates of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The rows by SparseCore, subcore and number. -/
def rowsEquiv : Fin 2 × Fin 16 × Fin 4 ≃ Fin 128 where
  toFun p := rowN (coordsV p.1 p.2.1) p.2.2
  invFun n := (⟨n.val / 4 % 2, by omega⟩, ⟨n.val / 8, by omega⟩, ⟨n.val % 4, by omega⟩)
  left_inv := by
    rintro ⟨c, s, r⟩
    have hc := c.isLt
    have hs := s.isLt
    have hr := r.isLt
    refine Prod.ext (Fin.ext ?_) (Prod.ext (Fin.ext ?_) (Fin.ext ?_))
    · show (8 * s.val + 4 * c.val + r.val) / 4 % 2 = c.val; omega
    · show (8 * s.val + 4 * c.val + r.val) / 8 = s.val; omega
    · show (8 * s.val + 4 * c.val + r.val) % 4 = r.val; omega
  right_inv n := by
    apply Fin.ext
    show 8 * (n.val / 8) + 4 * (n.val / 4 % 2) + n.val % 4 = n.val
    omega

/-- Something of each of the 128 rows is something of each of four rows of every tile of every core. -/
theorem bigSep_rows (Φ : Fin 128 → sProp 𝕄) :
    bigSep Finset.univ Φ = bigSep Finset.univ fun c : Fin 2 => bigSep Finset.univ fun s : Fin 16 => bigSep Finset.univ fun r : Fin 4 => Φ (rowN (coordsV c s) r) := by
  rw [bigSep_univ_equiv rowsEquiv Φ, bigSep_univ_prod]
  refine bigSep_congr fun c _ => ?_
  rw [bigSep_univ_prod]
  rfl

/-- Something of each of four, listed. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

section
variable (d : Dev nD)

/-- What a tile is given: its rows of the words, and of the result at whatever they are. -/
def Go (a : S128x32768.Idx → BitVec 32) (i : grid0.Coords) : sProp 𝕄 :=
  iprop(Four d i v0M (fun r => rowOf a (rowN i r)) ∗ ∃ ρ', Four d i v1M ρ')

/-- What it hands back: its rows of the result, sorted. -/
def Td (a : S128x32768.Idx → BitVec 32) (i : grid0.Coords) : sProp 𝕄 :=
  iprop(∃ out, ⌜∀ r, Sorted (rowOf a (rowN i r)) (out r)⌝ ∗ Four d i v1M out)

/-- A tile's four rows, as one conjunction. -/
theorem four_eq (i : grid0.Coords) (M : Memref sig .scVector .hbm S128x32768 .i32) (ρ : Fin 4 → Row) :
    (Four d i M ρ : sProp 𝕄) = bigSep Finset.univ fun r => Holds (thrT d i) (rowM i M r) (ρ r) := by
  rw [bigSep_four]
  rfl

/-- Four rows' elements of both arrays are what a tile is given. -/
theorem go_of_rows (i : grid0.Coords) (f : Buf (Elt F) (iLoc d)) (f' : Buf (Elt F) (oLoc d)) :
    iprop((bigSep Finset.univ fun r : Fin 4 => iLoc d ↦[rowSet (rowN i r)]{fullShare} f)
      ∗ bigSep Finset.univ fun r : Fin 4 => oLoc d ↦[rowSet (rowN i r)]{fullShare} f') ⊢ (Go d f i : sProp 𝕄) := by
  unfold Go
  have h : (bigSep Finset.univ fun r : Fin 4 => iLoc d ↦[rowSet (rowN i r)]{fullShare} f : sProp 𝕄) ⊢ Four d i v0M fun r => rowOf f (rowN i r) := by
    rw [four_eq]
    exact bigSep_mono fun r _ => holds_row0 i r d f
  have h' : (bigSep Finset.univ fun r : Fin 4 => oLoc d ↦[rowSet (rowN i r)]{fullShare} f' : sProp 𝕄) ⊢ Four d i v1M fun r => rowOf f' (rowN i r) := by
    rw [four_eq]
    exact bigSep_mono fun r _ => holds_row1 i r d f'
  iintro ⟨H, H'⟩
  isplitl [H]
  · iapply h $$ H
  · iexists fun r => rowOf f' (rowN i r)
    iapply h' $$ H'

/-- Row `n` of the result, sorted. -/
abbrev DoneRow (a : S128x32768.Idx → BitVec 32) (n : Fin 128) (f : Buf (Elt F) (oLoc d)) : sProp 𝕄 :=
  iprop(⌜Sorted (rowOf a n) (rowOf f n)⌝ ∗ oLoc d ↦[rowSet n]{fullShare} f)

/-- What a tile hands back is its four rows' elements, each row sorted. -/
theorem rows_of_td (a : S128x32768.Idx → BitVec 32) (i : grid0.Coords) :
    (Td d a i : sProp 𝕄) ⊢ bigSep Finset.univ fun r : Fin 4 => iprop(∃ f, DoneRow d a (rowN i r) f) := by
  have h (out : Fin 4 → Row) (hs : ∀ r, Sorted (rowOf a (rowN i r)) (out r)) :
      (Four d i v1M out : sProp 𝕄) ⊢ bigSep Finset.univ fun r : Fin 4 => iprop(∃ f, DoneRow d a (rowN i r) f) := by
    rw [four_eq]
    refine bigSep_mono fun r _ => (row1_holds i r d (out r)).trans ?_
    iintro ⟨%f, %hf, H⟩
    iexists f
    isplitr
    · ipureintro; rw [hf]; exact hs r
    · iexact H
  unfold Td
  iintro ⟨%out, %hs, H⟩
  iapply (h out hs) $$ H

/-- The words and the result, whole, are every tile's rows. -/
theorem go_all (f : Buf (Elt F) (iLoc d)) (f' : Buf (Elt F) (oLoc d)) :
    iprop((iLoc d ↦{fullShare} f) ∗ oLoc d ↦{fullShare} f')
      ⊢ (bigSep Finset.univ fun c : Fin 2 => bigSep Finset.univ fun s : Fin 16 => Go d f (coordsV c s) : sProp 𝕄) := by
  rw [← rowSet_cover, pointsTo_biUnion Finset.univ (ℓ := iLoc d) rowSet rowSet_disjoint, pointsTo_biUnion Finset.univ (ℓ := oLoc d) rowSet rowSet_disjoint,
    bigSep_rows, bigSep_rows (fun n => (oLoc d ↦[rowSet n]{fullShare} f' : sProp 𝕄)), ← bigSep_sep']
  refine bigSep_mono fun c _ => ?_
  rw [← bigSep_sep']
  exact bigSep_mono fun s _ => go_of_rows d (coordsV c s) f f'

/-- Every tile's rows of the result are the result, each row sorted. -/
theorem td_all (a : S128x32768.Idx → BitVec 32) :
    (bigSep Finset.univ fun c : Fin 2 => bigSep Finset.univ fun s : Fin 16 => Td d a (coordsV c s) : sProp 𝕄)
      ⊢ iprop(∃ f : Buf (Elt F) (oLoc d), ⌜∀ n, Sorted (rowOf a n) (rowOf f n)⌝ ∗ oLoc d ↦{fullShare} f) := by
  have h : (bigSep Finset.univ fun c : Fin 2 => bigSep Finset.univ fun s : Fin 16 => Td d a (coordsV c s) : sProp 𝕄)
      ⊢ bigSep Finset.univ fun n : Fin 128 => iprop(∃ f, DoneRow (F := F) d a n f) := by
    rw [bigSep_rows]
    exact bigSep_mono fun c _ => bigSep_mono fun s _ => rows_of_td d a (coordsV c s)
  have : Nonempty (Buf (Elt F) (oLoc d)) := ⟨fun _ => (0 : BitVec 32)⟩
  refine h.trans ((bigSep_exists_pi Finset.univ (fun n (f : Buf (Elt F) (oLoc d)) => DoneRow d a n f)).trans ?_)
  iintro ⟨%fs, H⟩
  ihave H := (bigSep_pure_sep (Finset.univ : Finset (Fin 128)) (fun n => Sorted (rowOf a n) (rowOf (fs n) n)) (fun n => (oLoc d ↦[rowSet n]{fullShare} fs n : sProp 𝕄))) $$ H
  icases H with ⟨%hs, H⟩
  ihave H := (pointsTo_biUnion_join (ℓ := oLoc d) (q := fullShare) (Val := Elt F) Finset.univ rowSet fs (fs 0) rowSet_disjoint) $$ H
  icases H with ⟨%g, %hg, H⟩
  iexists g
  isplitr
  · ipureintro
    intro n
    have e : rowOf g n = rowOf (fs n) n := funext fun x => hg n (Finset.mem_univ n) _ (cell_mem n (x 0))
    rw [e]
    exact hs n (Finset.mem_univ n)
  · rw [rowSet_cover]
    iexact H
end

end Cert.Kernel.Radix
-- ==== Proof.Launch.lean ====
module

public import proofs.«01_k».proof.Proof.Split
public import proofs.«01_k».proof.Defs
public import Idealize.ShloMosaic.Lib.StableHlo.Run
public import Idealize.ShloMosaic.Lib.Pipeline.Kit

/-! The program's run: the words taken from the floats, the tiles' sorts, the floats taken back. -/

@[expose] public section
noncomputable section

namespace Cert.Kernel.Radix
open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program with its pipelines (there are none). -/
abbrev ΛP : Labels := Pipeline.Sig Λ₀ (Fin 0) fun p => (pcfgs (F := F) p).Adm
/-- The program's one SparseCore call. -/
abbrev K : SparseCore.Cfg τ sig (ΛP (F := F)) 1 := sc (F := F)
/-- What the program's labels run. -/
abbrev D [BitOps F] : Defs nD τ sig (Elt F) (ΛP (F := F)) := Pipeline.defs pcfgs defs₀
/-- No recursion measure is needed. -/
abbrev 𝒱₀ : Variants := Variants.none
/-- The same, for the program with its pipelines. -/
abbrev 𝒱 : Variants := 𝒱₀.lift
/-- The measure every thread starts at. -/
abbrev v₀ : 𝒱.V := Sum.inl none

/-- The call's semaphores are distinct and its own, and its tiles share no buffer with the scalar core. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' part of the ghost state. -/
abbrev EH : Emb UH (MT nD τ sig (HIx 1) (Elt F) ℕ UU ℕ) := embL

/-! ## A tile's own buffers and semaphores -/

section Own
variable (d : Dev nD) (c : Fin τ.nSC) (s : Fin τ.nSub)

/-- The tile's scratch arrays. -/
abbrev scratch : Finset (Ref sig .scVector) :=
  {cc0_scratch0, cc0_scratch1, cc0_scratch2, cc0_scratch3, cc0_scratch4, cc0_scratch5, cc0_scratch6, cc0_scratch7, cc0_scratch8}

omit d c s in
/-- Something of each scratch array, listed. -/
theorem bigSep_scratch (Φ : Ref sig .scVector → sProp 𝕄) :
    bigSep scratch Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8) := by
  unfold scratch
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Some contents of a tile's array. -/
abbrev Some' (b : Ref sig .scVector) : sProp 𝕄 := iprop(∃ f, (V d c s).loc b ↦{fullShare} f)

/-- The tile's arrays that are no scratch of the program's. -/
def restBufs : sProp 𝕄 :=
  bigSep (ownRefs (τ := τ) (.scVector c s) \ scratch.image ((Proc.scVector c s).devRef)) fun b => iprop(∃ f, ((d, b) : Loc nD τ sig) ↦{fullShare} f)

/-- A tile's arrays are its nine scratch arrays and the rest. -/
theorem ownBufs_V :
    (ownBufs (V d c s) : sProp 𝕄)
      = iprop((Some' d c s cc0_scratch0 ∗ Some' d c s cc0_scratch1 ∗ Some' d c s cc0_scratch2 ∗ Some' d c s cc0_scratch3 ∗ Some' d c s cc0_scratch4
          ∗ Some' d c s cc0_scratch5 ∗ Some' d c s cc0_scratch6 ∗ Some' d c s cc0_scratch7 ∗ Some' d c s cc0_scratch8) ∗ restBufs d c s) := by
  unfold ownBufs restBufs
  have hsub : scratch.image ((Proc.scVector c s).devRef) ⊆ ownRefs (τ := τ) (.scVector c s) := by
    intro x hx
    obtain ⟨b, hb, rfl⟩ := Finset.mem_image.1 hx
    apply SparseCore.Cfg.mem_ownRefs_of_owner
    simp only [Finset.mem_insert, Finset.mem_singleton] at hb
    rcases hb with rfl | rfl | rfl | rfl | rfl | rfl | rfl | rfl | rfl <;> rfl
  refine (bigSep_sdiff_split hsub).trans ?_
  rw [bigSep_image_of_injOn (Proc.devRef_injective _).injOn]
  rw [bigSep_scratch]
  rfl

/-- The semaphore of the rows brought in. -/
abbrev inCell : GSem nD τ sig := (V d c s, .dma cc0_scratch9.sem)
/-- The semaphore of the rows put out. -/
abbrev outCell : GSem nD τ sig := (V d c s, .dma cc0_scratch10.sem)

/-- The tile's semaphores that the program does not use. -/
def restSems : sProp 𝕄 := bigSep (((ownCells (V d c s)).erase (inCell d c s)).erase (outCell d c s)) fun g => semVal g 0

/-- A tile's semaphores at zero are those two and the rest. -/
theorem ownSems0_V : (ownSems0 (V d c s) : sProp 𝕄) = iprop(semVal (inCell d c s) 0 ∗ semVal (outCell d c s) 0 ∗ restSems d c s) := by
  unfold ownSems0 restSems
  rw [SparseCore.bigSep_erase' ((mem_ownCells (g := inCell d c s)).mpr ⟨rfl, by
      show (SemLoc.dma cc0_scratch9.sem : SemLoc sig).isScoped .scVector = true; decide⟩),
    SparseCore.bigSep_erase' (Finset.mem_erase.mpr ⟨by simp [inCell, outCell]; decide, (mem_ownCells (g := outCell d c s)).mpr ⟨rfl, by
      show (SemLoc.dma cc0_scratch10.sem : SemLoc sig).isScoped .scVector = true; decide⟩⟩)]

end Own

section Tile
variable [BitOps F] (d : Dev nD) (i : grid0.Coords)

/-- The SparseCore of a grid point. -/
abbrev cV (i : grid0.Coords) : Fin τ.nSC := (i 0).castLE hcore0
/-- The tile of a grid point. -/
abbrev jV (i : grid0.Coords) : Fin τ.nSub := (i 1).castLE hsub0

/-- A scratch array owned at any contents is one the tile's program may use. -/
theorem any_of_some (b : Ref sig .scVector) : (Some' d (cV i) (jV i) b : sProp 𝕄) ⊢ Any (thrT d i) (Memref.whole b) := by
  unfold Any Holds
  iintro ⟨%f, H⟩
  iexists _, f
  isplitr
  · ipureintro; rfl
  · rw [show (Memref.whole b).view.set = Finset.univ from View.set_whole _]
    iexact H

/-- And the other way round. -/
theorem some_of_any (b : Ref sig .scVector) : (Any (thrT d i) (Memref.whole b) : sProp 𝕄) ⊢ Some' d (cV i) (jV i) b := by
  unfold Any Holds
  iintro ⟨%g, %f, %_, H⟩
  iexists f
  rw [show (Memref.whole b).view.set = Finset.univ from View.set_whole _]
  iexact H

/-- What the tile works in, at its own scratch arrays. -/
abbrev WorkV : sProp 𝕄 :=
  Work d i (Memref.whole cc0_scratch3) (Memref.whole cc0_scratch4) (Memref.whole cc0_scratch5) (Memref.whole cc0_scratch6) (Memref.whole cc0_scratch7)
    (Memref.whole cc0_scratch8) (Memref.whole cc0_scratch0) (Memref.whole cc0_scratch1) (Memref.whole cc0_scratch2)

/-- It is every scratch array, owned at any contents. -/
theorem work_eq : (WorkV d i : sProp 𝕄) = bigSep scratch fun b => Any (thrT d i) (Memref.whole b) := by
  rw [bigSep_scratch]
  rfl

/-- The tile's scratch arrays are what its program works in, -/
theorem work_of_bufs : (ownBufs (V d (cV i) (jV i)) : sProp 𝕄) ⊢ iprop(WorkV d i ∗ restBufs d (cV i) (jV i)) := by
  rw [ownBufs_V, ← bigSep_scratch (F := F) (Some' d (cV i) (jV i)), work_eq]
  exact BI.sep_mono (bigSep_mono fun b _ => any_of_some d i b) (BI.Entails.refl _)

/-- and back. -/
theorem bufs_of_work : iprop(WorkV d i ∗ restBufs d (cV i) (jV i)) ⊢ (ownBufs (V d (cV i) (jV i)) : sProp 𝕄) := by
  rw [ownBufs_V, ← bigSep_scratch (F := F) (Some' d (cV i) (jV i)), work_eq]
  exact BI.sep_mono (bigSep_mono fun b _ => some_of_any d i b) (BI.Entails.refl _)

/-- The tile's body, from its rows of the words and of the result: the result's rows sorted, everything else as it was. -/
theorem tile_body (a : S128x32768.Idx → BitVec 32) (hF : (K (F := F)).Facts) (O : CellTallies nD τ sig (HIx 1)) (W : Waits sig (HIx 1)) (hO : ∀ g, O g none = 0) :
    iprop(levAts (K (F := F)).L (K (F := F)).lev ∗ emp ∗ Go d a i
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__body i v0M (Memref.isWhole_whole _) v1M (Memref.isWhole_whole _) (Memref.whole cc0_scratch0) (Memref.isWhole_whole _)
            (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) cc0_scratch9 cc0_scratch10)
          fun _ => iprop(Td d a i ∗ scopedBufs (V d (cV i) (jV i)) ∗ scopedSems0 (V d (cV i) (jV i))
            ∗ ∃ W', ⌜∀ p ∈ W', p ∈ W ∨ p.2 = none⌝ ∗ owes (V d (cV i) (jV i)) O W') := by
  rw [body_eq, (K (F := F)).scopedBufs_V hF d (cV i) (jV i), SparseCore.Cfg.scopedSems0_V (Val := Elt F) d (cV i) (jV i), ownSems0_V]
  unfold Go
  iintro ⟨#Hlv, -, ⟨H2, %ρ', H3⟩, Hb, ⟨V9, V10, Hr⟩, HO⟩
  ihave #Hmw := (show levAts (K (F := F)).L (K (F := F)).lev ⊢ Transfers.MayWaits (V d (cV i) (jV i)) (default : HIx 1) O from
    (K (F := F)).mayWaits_none (thr := V d (cV i) (jV i)) hO) $$ Hlv
  ihave Hb := (work_of_bufs (F := F) d i) $$ Hb
  icases Hb with ⟨Hw, Hrb⟩
  ihave HO := (show (owes (V d (cV i) (jV i)) O W : sProp 𝕄) ⊢ Owe (thrT d i) O W from by
    unfold Owe
    iintro H
    iexists W
    isplitr
    · ipureintro; exact fun p hp => Or.inl hp
    · iexact H) $$ HO
  ihave H := (wp_prog (F := F) (defs := defs₀) 𝒱₀ d i none v0M v1M cc0_scratch9 cc0_scratch10 (Memref.whole cc0_scratch3) (Memref.whole cc0_scratch4) (Memref.whole cc0_scratch5)
    (Memref.whole cc0_scratch6) (Memref.whole cc0_scratch7) (Memref.whole cc0_scratch8) (Memref.whole cc0_scratch0) (Memref.whole cc0_scratch1) (Memref.whole cc0_scratch2)
    (Memref.isWhole_whole _) (Memref.isWhole_whole _) (Memref.isWhole_whole _) (fun r => rowOf a (rowN i r)) ρ' (O := O) (W := W)) $$ Hmw H2 H3 Hw V9 V10 HO
  iapply (Idealize.SL.Sem.wp_wand frame _ Set.univ) $$ H
  iintro %_ ⟨-, Ht, Hw, V9, V10, HO⟩
  isplitl [Ht]
  · unfold Td
    iexact Ht
  isplitl [Hw Hrb]
  · iapply (bufs_of_work (F := F) d i)
    isplitl [Hw]
    · iexact Hw
    iexact Hrb
  isplitl [V9 V10 Hr]
  · isplitl [V9]
    · iexact V9
    isplitl [V10]
    · iexact V10
    iexact Hr
  unfold Owe
  iexact HO

/-- A tile runs the printed body at its grid point. -/
theorem defs₀_vector (c : Fin τ.nSC) (s : Fin τ.nSub) :
    defs₀ (F := F) (.scVector c s) 0 ()
      = SparseCore.onTile hcore0 hsub0 (fun c s => cc0__body (coordsV c s) v0M (Memref.isWhole_whole _) v1M (Memref.isWhole_whole _)
            (Memref.whole cc0_scratch0) (Memref.isWhole_whole _)
            (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) cc0_scratch9 cc0_scratch10) ⟨⟩ c s := rfl
end Tile

/-! ## What the handshakes carry -/

variable [BitOps F] (m : (ℓ : Loc nD τ sig) → Buf (Elt F) ℓ) (ρ : Dev nD → PrngReg)

/-- The words of the launch's floats. -/
abbrev words (d : Dev nD) : S128x32768.Idx → BitVec 32 :=
  (bitcastToInt : (⟨S128x32768, .f32⟩ : BufTy).Contents (Elt F) → (⟨S128x32768, .i32⟩ : BufTy).Contents (Elt F)) (m (xLoc d))

/-- A SparseCore takes its tiles' rows of the words and of the result, and brings back the result's, sorted. -/
def P : (K (F := F)).Pay (nD := nD) (Val := Elt F) (Name := ℕ) (U := UU) where
  st := fun q d c => match q with | 0 => bigSep Finset.univ fun s : Fin 16 => Go d (words m d) (coordsV ⟨c.val, c.isLt⟩ s)
  dn := fun q d c => match q with | 0 => bigSep Finset.univ fun s : Fin 16 => Td d (words m d) (coordsV ⟨c.val, c.isLt⟩ s)
  go := fun q d c s => match q with | 0 => Go d (words m d) (coordsV ⟨c.val, c.isLt⟩ ⟨s.val, s.isLt⟩)
  td := fun q d c s => match q with | 0 => Td d (words m d) (coordsV ⟨c.val, c.isLt⟩ ⟨s.val, s.isLt⟩)
  x := fun _ _ => iprop(emp)

/-- Holding an array's contents may be passed in a handshake. -/
instance holds_storable {sp : Space} {sh : Shape} {e : EltTy} (c : Thread nD τ) (M : Memref sig c.2.kind sp sh e) (g : sh.Idx → Elt F e) :
    BI.Storable (upEmb : UEmb _ 𝕄) (Holds c M g) := by
  unfold Holds; infer_instance
/-- So may holding four rows. -/
instance four_storable (d : Dev nD) (i : grid0.Coords) (M : Memref sig .scVector .hbm S128x32768 .i32) (ρ : Fin 4 → Row) :
    BI.Storable (upEmb : UEmb _ 𝕄) (Four d i M ρ) := by
  unfold Four; infer_instance
/-- So may what a tile is given. -/
instance go_storable (d : Dev nD) (a : S128x32768.Idx → BitVec 32) (i : grid0.Coords) : BI.Storable (upEmb : UEmb _ 𝕄) (Go d a i) := by
  unfold Go; infer_instance
/-- So may what a tile hands back. -/
instance td_storable (d : Dev nD) (a : S128x32768.Idx → BitVec 32) (i : grid0.Coords) : BI.Storable (upEmb : UEmb _ 𝕄) (Td d a i) := by
  unfold Td; infer_instance

/-- So may sixteen of what may be passed. -/
theorem bigSep_storable (Φ : Fin 16 → sProp 𝕄) (h : ∀ s, BI.Storable (upEmb : UEmb _ 𝕄) (Φ s)) : BI.Storable (upEmb : UEmb _ 𝕄) (bigSep Finset.univ Φ) := by
  infer_instance

/-- All that the call passes may be passed. -/
instance P_storable : (P (F := F) m).IsStorable where
  st q d c := match q with
    | 0 => bigSep_storable _ fun s : Fin 16 => go_storable d (words m d) (coordsV ⟨c.val, c.isLt⟩ s)
  dn q d c := match q with
    | 0 => bigSep_storable _ fun s : Fin 16 => td_storable d (words m d) (coordsV ⟨c.val, c.isLt⟩ s)
  go q d c s := match q with
    | 0 => go_storable d (words m d) (coordsV ⟨c.val, c.isLt⟩ ⟨s.val, s.isLt⟩)
  td q d c s := match q with
    | 0 => td_storable d (words m d) (coordsV ⟨c.val, c.isLt⟩ ⟨s.val, s.isLt⟩)

/-- Waits that are old or of no call are old, of no call, or of this call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, given its rows, ends with its rows of the result sorted. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (words m d) hF O W hO).trans (wp_mono frame _ _ fun _ => obl_post)

/-- What a SparseCore takes is its tiles' shares, and their results are what it brings back. -/
theorem vecSplit : (K (F := F)).VecSplit' (P m) 0 := by
  intro d c
  show (bigSep Finset.univ fun s : Fin 16 => Go d (words m d) (coordsV ⟨c.val, c.isLt⟩ s) : sProp 𝕄) ⊢ |={Set.univ}=> iprop(
      (bigSep Finset.univ fun s : Fin 16 => Go d (words m d) (coordsV ⟨c.val, c.isLt⟩ s))
      ∗ ((bigSep Finset.univ fun s : Fin 16 => Td d (words m d) (coordsV ⟨c.val, c.isLt⟩ s))
          -∗ bigSep Finset.univ fun s : Fin 16 => Td d (words m d) (coordsV ⟨c.val, c.isLt⟩ s)))
  iintro H; imodintro
  isplitl [H]; · iexact H
  iintro H
  iexact H

/-! ## The launch's own state -/

/-- The ghost state at the start: the handshakes' tokens, and no transfer. -/
def u₀ : UU := (initOf (K (F := F)).hsCells (K (F := F)).hsToks, 1)

/-- The starting ghost state gives the handshakes theirs; nothing else is needed. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have he {I : Type} (s : Finset I) : (bigSep s fun _ => iprop(emp)) = (iprop(emp) : sProp 𝕄) := bigSep_emp_const s
  isplitr; · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## The host's program -/

/-- The argument's array. -/
abbrev x' : DevRef τ sig := Proc.devRef .tc (main_arg0 : Ref sig .tc)
/-- The words' array, which the call reads. -/
abbrev i' : DevRef τ sig := Proc.devRef .tc (main_v0 : Ref sig .tc)
/-- The array the call writes. -/
abbrev o' : DevRef τ sig := Proc.devRef .tc (main_v1 : Ref sig .tc)
/-- The result's array. -/
abbrev r' : DevRef τ sig := Proc.devRef .tc (main_v2 : Ref sig .tc)

/-- The host's first operation: the argument's floats read as words. -/
abbrev opIn : HloOp τ sig (Elt F) :=
  StableHlo.unary main_arg0 main_v0 (bitcastToInt : (⟨S128x32768, .f32⟩ : BufTy).Contents (Elt F) → (⟨S128x32768, .i32⟩ : BufTy).Contents (Elt F))
/-- The host's last operation: the sorted words read as floats. -/
abbrev opOut : HloOp τ sig (Elt F) :=
  StableHlo.unary main_v1 main_v2 (bitcastToFloat .f32 : (⟨S128x32768, .i32⟩ : BufTy).Contents (Elt F) → (⟨S128x32768, .f32⟩ : BufTy).Contents (Elt F))

/-- Holding two arrays is holding each. -/
theorem held_pair (d : Dev nD) (a b : DevRef τ sig) (h : a ∉ ({b} : Finset (DevRef τ sig))) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' h, bigSep_singleton]

/-- The host's arrays are the argument, the words, what the call writes, and the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (iLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- A host operation from one array to another. -/
theorem wp_unary (m : (ℓ : Loc nD τ sig) → Buf (Elt F) ℓ) (d : Dev nD) (x y : Ref sig .tc) (f : x.ty.Contents (Elt F) → y.ty.Contents (Elt F)) (hx hy)
    (hxy : Proc.devRef .tc x ∉ ({Proc.devRef .tc y} : Finset (DevRef τ sig)))
    (a : Buf (Elt F) ((SparseCore.T d).loc x)) (b : Buf (Elt F) ((SparseCore.T d).loc y)) {Q : PUnit → sProp 𝕄} :
    iprop(boundary (SparseCore.T d) ∗ ((SparseCore.T d).loc x ↦{fullShare} a) ∗ (SparseCore.T d).loc y ↦{fullShare} b) ⊢ iprop(
      ((boundary (SparseCore.T d) ∗ ((SparseCore.T d).loc x ↦{fullShare} a) ∗ ((SparseCore.T d).loc y ↦{fullShare} f a)) -∗ Q ⟨⟩)
      -∗ wp frame (wpE ((K (F := F)).defs (D (F := F))) 𝒱 (SparseCore.T d) none) Set.univ (hlo rfl (StableHlo.unary x y f hx hy) fun _ => .ret ⟨⟩) Q) := by
  have hne : (Proc.devRef .tc x : DevRef τ sig) ≠ Proc.devRef .tc y := fun e => hxy (Finset.mem_singleton.2 e)
  let W : Valuation τ sig (Elt F) := Function.update (Function.update (fun z => m (d, z)) (Proc.devRef .tc x) a) (Proc.devRef .tc y) b
  have hWx : W (Proc.devRef .tc x) = a := (Function.update_of_ne hne _ _).trans (Function.update_self _ _ _)
  have hWy : W (Proc.devRef .tc y) = b := Function.update_self _ _ _
  have h0 : (held (SparseCore.T d) {Proc.devRef .tc x, Proc.devRef .tc y} W : sProp 𝕄) = iprop(((SparseCore.T d).loc x ↦{fullShare} a) ∗ (SparseCore.T d).loc y ↦{fullShare} b) := by
    rw [held_pair d _ _ hxy, hWx, hWy]
  have h1 : (held (SparseCore.T d) {Proc.devRef .tc x, Proc.devRef .tc y} ((StableHlo.unary x y f hx hy : HloOp τ sig (Elt F)).result W) : sProp 𝕄)
      = iprop(((SparseCore.T d).loc x ↦{fullShare} a) ∗ (SparseCore.T d).loc y ↦{fullShare} f a) := by
    rw [held_pair d _ _ hxy, StableHlo.unary_result, (StableHlo.unary x y f hx hy : HloOp τ sig (Elt F)).result_of_not_mem W (b := Proc.devRef .tc x) hxy, hWx]
  rw [← h0, ← h1]
  iintro H Hk
  iapply (wp_hlo_within 𝒱 (SparseCore.T d) none Set.univ (op := StableHlo.unary x y f hx hy) (S := {Proc.devRef .tc x, Proc.devRef .tc y}) (Finset.Subset.refl _) (V := W) rfl) $$ H
  iintro H
  rw [wp_ret]
  imodintro
  iapply Hk
  iexact H

/-- What the host's program leaves the claim: the floats as they were, and the result, the floats of sorted rows. -/
abbrev FIN (d : Dev nD) : sProp 𝕄 :=
  iprop((xLoc d ↦{fullShare} m (xLoc d)) ∗ ∃ f : Buf (Elt F) (oLoc d), ⌜∀ n, Sorted (rowOf (words m d) n) (rowOf f n)⌝
    ∗ rLoc d ↦{fullShare} (bitcastToFloat .f32 : (⟨S128x32768, .i32⟩ : BufTy).Contents (Elt F) → (⟨S128x32768, .f32⟩ : BufTy).Contents (Elt F)) f)

/-- What the call takes is every tile's share. -/
theorem st_eq (d : Dev nD) : (bigSep Finset.univ fun c : Fin ((K (F := F)).nCore 0) => (P m).st 0 d c)
    = bigSep Finset.univ fun c : Fin 2 => bigSep Finset.univ fun s : Fin 16 => Go d (words m d) (coordsV c s) := rfl
/-- What the call brings back is every tile's result. -/
theorem dn_eq (d : Dev nD) : (bigSep Finset.univ fun c : Fin ((K (F := F)).nCore 0) => (P m).dn 0 d c)
    = bigSep Finset.univ fun c : Fin 2 => bigSep Finset.univ fun s : Fin 16 => Td d (words m d) (coordsV c s) := rfl

/-- The host's program: the floats' words, the call, the words' floats. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho, Hr⟩, Hts, -⟩, -⟩
  iapply (wp_unary m d main_arg0 main_v0 bitcastToInt _ _ (by decide) (m (xLoc d)) (m (iLoc d))) $$ [Hb Hx Hi]
  · isplitl [Hb]; · iexact Hb
    isplitl [Hx]; · iexact Hx
    iexact Hi
  iintro ⟨Hb, Hx, Hi⟩
  iapply ((K (F := F)).wp_run (D (F := F)) 𝒱 (EH := EH) (P := P m) κ d 0) $$ [Hst Hx Hi Ho Hb Hr Hts]
  isplitr; · iexact Hctx
  isplitl [Hst]; · iexact Hst
  isplitl [Hi Ho]
  · rw [st_eq]
    iapply (go_all d (words m d) (m (oLoc d)))
    isplitl [Hi]; · iexact Hi
    iexact Ho
  iintro ⟨Hst, Hdn⟩
  ihave Hdn := (Entails.of_eq (dn_eq m d)) $$ Hdn
  ihave Hdn := (td_all d (words m d)) $$ Hdn
  icases Hdn with ⟨%f, %hf, Ho⟩
  iapply (wp_unary m d main_v1 main_v2 (bitcastToFloat .f32) _ _ (by decide) f (m (rLoc d))) $$ [Hb Ho Hr]
  · isplitl [Hb]; · iexact Hb
    isplitl [Ho]; · iexact Ho
    iexact Hr
  iintro ⟨Hb, -, Hr⟩
  imodintro
  isplitl [Hst]; · iexact Hst
  isplitl [Hx Hr]
  · isplitl [Hx]; · iexact Hx
    iexists f
    isplitr
    · ipureintro; exact hf
    · iexact Hr
  isplitl [Hb] <;> iassumption

/-- The floats are as they were and the result's rows are the floats of the words' rows, sorted. -/
def fq (d : Dev nD) (s' : Phys nD τ sig (Elt F)) : Prop :=
  s'.mem.mem (xLoc d) = m (xLoc d) ∧ ∃ f : S128x32768.Idx → BitVec 32, (∀ n, Sorted (rowOf (words m d) n) (rowOf f n))
    ∧ s'.mem.mem (rLoc d) = (bitcastToFloat .f32 : (⟨S128x32768, .i32⟩ : BufTy).Contents (Elt F) → (⟨S128x32768, .f32⟩ : BufTy).Contents (Elt F)) f

set_option maxRecDepth 16384 in
/-- What the host owns at the end says what memory holds: the argument unchanged, every row of the result sorted. -/
theorem hfin (d : Dev nD) (s' : Phys nD τ sig (Elt F)) : iprop(FIN m d ∗ SI s') ⊢ (⌜fq m d s'⌝ : sProp 𝕄) := by
  iintro ⟨⟨Hx, %f, %hf, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare)) $$ [HSI Hr]
  · isplitl [HSI] <;> iassumption
  icases H with %h2
  ipureintro
  exact ⟨funext fun i => h1 i (Finset.mem_univ i), f, hf, funext fun i => h2 i (Finset.mem_univ i)⟩

/-! ## The program's run -/

/-- The argument unchanged, every row of the result sorted, and every semaphore at zero. -/
def QC : PUnit × MemSt nD τ sig (Elt F) → Prop := fun r =>
  (∀ c : Dev nD, r.2.mem (xLoc c) = m (xLoc c) ∧ ∃ f : S128x32768.Idx → BitVec 32, (∀ n, Sorted (rowOf (words m c) n) (rowOf f n))
    ∧ r.2.mem (rLoc c) = (bitcastToFloat .f32 : (⟨S128x32768, .i32⟩ : BufTy).Contents (Elt F) → (⟨S128x32768, .f32⟩ : BufTy).Contents (Elt F)) f)
  ∧ r.2.sem = fun _ => 0

/-- Every execution ends, nothing faulting, with the floats as they were, every row of the result sorted, and every semaphore at zero. -/
theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- Every execution of the program ends, nothing faulting, its argument unchanged and every semaphore at zero. -/
theorem frame : Cert.quiescent_Kernel := fun m ρ _ =>
  (θ_run Cert.Kernel.defs _ _).mono (fun _ h => ⟨fun c => (h.1 c).1, h.2⟩) (run_main (F := Bits) m ρ)

end Cert.Kernel.Radix
-- ==== Proof.Value.lean ====
module

public import proofs.«01_k».proof.Proof.Launch
public import proofs.«01_k».proof.Proof.Gen.Reference.Run
public import proofs.«01_k».proof.Proof.Gen.Pre_plus_zero_normal_or_inf
public import Idealize.ShloMosaic.Lib.SortKey
public import Idealize.ShloMosaic.Lib.SortFacts
public import Mathlib.Data.List.FinRange

/-! A row sorted by the kernel's keys is the row sorted by the reference. -/

@[expose] public section
noncomputable section

namespace Cert.Kernel.Radix
open Cert.Kernel Cert.Kernel.Gen
open Idealize.ShloMosaic Idealize.ShloMosaic.TcCoe
open Idealize.SL.Sem

/-! ## The reference's order -/

/-- The kernel's key is the key of the order of all float words. -/
theorem kB_eq (w : BitVec 32) : kB w = totalOrderKey w := by
  rw [totalOrderKey_eq_sortableKey_xor, kB_cases]
  cases h : w.msb
  · rw [sortableKey_of_msb_false w h]; rfl
  · rw [sortableKey_of_msb_true w h, BitVec.xor_assoc]; rfl

/-- Comparing the kernel's keys as naturals is comparing the sort keys as integers. -/
theorem kB_lt (a b : BitVec 32) : (kB a).toNat < (kB b).toNat ↔ (sortableKey a).toInt < (sortableKey b).toInt := by
  have ha := totalOrderKey_toNat_eq_sortableKey_toInt a
  have hb := totalOrderKey_toNat_eq_sortableKey_toInt b
  rw [kB_eq, kB_eq]
  omega

/-- Words with the same key are the same. -/
theorem kB_inj {a b : BitVec 32} (h : (kB a).toNat = (kB b).toNat) : a = b := by
  rw [← unB_kB a, ← unB_kB b, BitVec.eq_of_toNat_eq h]

/-- The zero word is a plain word. -/
theorem plain_zero : PlusZeroNormalOrInf 0#32 := by decide

/-- What the reference's comparison does to an operand leaves +0, a normal number and an infinity as they are. -/
theorem canon {a : Bits .f32} (ha : PlusZeroNormalOrInf a) (c : Bits .f32) :
    Scalar.select (FloatOps.cmpf (F := Bits) .une a a) c (Scalar.select (FloatOps.cmpf (F := Bits) .oeq a (0#32 : BitVec 32)) (0#32 : BitVec 32) a) = a := by
  have h1 : FloatOps.cmpf (F := Bits) .une a a = 0#1 := by
    show Bits.cmpf32 .une a a = 0#1
    rw [cmpf32_une_eq ha ha]
    simp [IntOp.cmpi]
  rw [h1]
  show Scalar.select (Bits.cmpf32 .oeq a (0#32 : BitVec 32)) (0#32 : BitVec 32) a = a
  by_cases h : a = (0#32 : BitVec 32)
  · rw [h]; unfold Scalar.select; split <;> rfl
  · have h2 : ¬ Bits.cmpf32 .oeq a (0#32 : BitVec 32) = 1#1 := fun e => h ((cmpf32_oeq_iff ha plain_zero).1 e)
    unfold Scalar.select
    exact if_neg h2

/-- The reference's comparison of two such words is the comparison of their keys. -/
theorem before_iff {a b : Bits .f32} (ha : PlusZeroNormalOrInf a) (hb : PlusZeroNormalOrInf b) :
    Cert.Reference.comparator_f32_d1 (F := Bits) a b = 1#1 ↔ (kB a).toNat < (kB b).toNat := by
  have h : Cert.Reference.comparator_f32_d1 (F := Bits) a b = FloatOps.cmpfTotal (F := Bits) .lt a b := by
    unfold Cert.Reference.comparator_f32_d1
    exact congrArg₂ (FloatOps.cmpfTotal (F := Bits) .lt) (canon ha _) (canon hb _)
  rw [h, cmpfTotal_f32_eq_cmpi_sortableKey, kB_lt]
  show BitVec.ofBool (decide ((sortableKey a).toInt < (sortableKey b).toInt)) = 1#1 ↔ _
  by_cases h' : (sortableKey a).toInt < (sortableKey b).toInt <;> simp [h']

/-! ## Sorting has one outcome -/

/-- Two rearrangements of the same numbers, both in order, are the same. -/
theorem mono_unique {n : ℕ} {g : Fin n → ℕ} {σ τ : Fin n → Fin n} (bs : σ.Bijective) (bt : τ.Bijective)
    (hs : Monotone (g ∘ σ)) (ht : Monotone (g ∘ τ)) : g ∘ σ = g ∘ τ := by
  have hl : ∀ {u : Fin n → ℕ}, Monotone u → (List.ofFn u).Pairwise (· ≤ ·) := fun h => List.pairwise_ofFn.2 fun _ _ hij => h hij.le
  exact List.ofFn_injective (List.Perm.eq_of_pairwise (fun a b _ _ h h' => Nat.le_antisymm h h') (hl hs) (hl ht)
    ((Equiv.Perm.ofFn_comp_perm (Equiv.ofBijective σ bs) g).trans (Equiv.Perm.ofFn_comp_perm (Equiv.ofBijective τ bt) g).symm))

/-- The reference's sort of one row, as the source positions of its elements, leaves no later element with a smaller key. -/
theorem sortedFrom_mono {n : ℕ} (g : Fin n → BitVec 32) (hg : ∀ k, PlusZeroNormalOrInf (g k)) :
    Monotone ((fun k => (kB (g k)).toNat) ∘ sortedFrom fun k k' => Cert.Reference.comparator_f32_d1 (F := Bits) (g k) (g k') == 1#1) := by
  have hB : ∀ k k', (Cert.Reference.comparator_f32_d1 (F := Bits) (g k) (g k') == 1#1) = decide ((kB (g k)).toNat < (kB (g k')).toNat) := fun k k' => by
    rw [Bool.eq_iff_iff, beq_iff_eq, decide_eq_true_eq]
    exact before_iff (hg k) (hg k')
  intro i j hij
  rcases hij.lt_or_eq with h | h
  · have h' := sortedFrom_noInversion (fun k k' => decide ((kB (g k)).toNat < (kB (g k')).toNat))
      (fun k k' => Cert.Reference.comparator_f32_d1 (F := Bits) (g k) (g k') == 1#1)
      (fun a b e => by rw [hB, decide_eq_true_eq] at e; simp; omega)
      (fun a b e => by rw [hB]; exact e)
      (fun a b c e e' => by simp at e e' ⊢; omega) i j h
    simp only [decide_eq_false_iff_not, not_lt] at h'
    exact h'
  · rw [h]

/-- Element `e` of row `n`. -/
theorem nth_row (b : S128x32768.Idx → BitVec 32) (n : Fin 128) (e : Fin 32768) : nth (rowOf b n) e.val = b (cell n e) := by
  unfold nth
  rw [dif_pos (show e.val < N from e.isLt)]
  rfl

/-- A row rearranged in the order of its keys is the row as the reference sorts it. -/
theorem sorted_unique (a : S128x32768.Idx → BitVec 32) (f : S128x32768.Idx → BitVec 32) (n : Fin 128) (hs : Sorted (rowOf a n) (rowOf f n))
    (hp : ∀ k, PlusZeroNormalOrInf (a (cell n k))) (k : Fin 32768) :
    f (cell n k) = a (cell n (sortedFrom (fun k k' => Cert.Reference.comparator_f32_d1 (F := Bits) (a (cell n k)) (a (cell n k')) == 1#1) k)) := by
  obtain ⟨⟨p, hp'⟩, hm⟩ := hs
  have e1 : ∀ e : Fin 32768, f (cell n e) = a (cell n (p.symm e)) := fun e => by
    have h := hp' (p.symm e)
    rw [Equiv.apply_symm_apply] at h
    exact (nth_row f n e).symm.trans (h.trans (nth_row a n _))
  have h2 : Monotone ((fun k => (kB (a (cell n k))).toNat) ∘ p.symm) := by
    intro i j hij
    show (kB (a (cell n (p.symm i)))).toNat ≤ (kB (a (cell n (p.symm j)))).toNat
    rw [← e1, ← e1, ← nth_row f n, ← nth_row f n]
    rcases hij.lt_or_eq with h | h
    · exact hm i.val j.val h j.isLt
    · rw [h]
  rw [e1]
  exact kB_inj (congrFun (mono_unique p.symm.bijective ⟨sortedFrom_injective _, sortedFrom_surjective _⟩ h2
    (sortedFrom_mono (fun k => a (cell n k)) hp)) k)

/-! ## The result -/

/-- Under the precondition every word is +0, a normal number or an infinity. -/
theorem plain_of_pre (x : S128x32768.Idx → BitVec 32) (h : Cert.Pre_plus_zero_normal_or_inf.fn (F := Bits) x = fun _ => 1#1) (j : S128x32768.Idx) :
    PlusZeroNormalOrInf (x j) :=
  (plusZeroNormalOrInfMask_eq_one_iff .host (x j)).1 (congrFun h j)

/-- If every row of `f` is the row of `x` sorted by the kernel's keys, `f` is the reference's sort of `x`. -/
theorem sort_eq (x f : S128x32768.Idx → BitVec 32) (h : Cert.Pre_plus_zero_normal_or_inf.fn (F := Bits) x = fun _ => 1#1)
    (hf : ∀ n, Sorted (rowOf x n) (rowOf f n)) :
    f = Host.sort S128x32768 1 (Cert.Reference.comparator_f32_d1 (F := Bits)) x := by
  funext j
  have ha : ∀ k : Fin 32768, j.along (1 : Fin S128x32768.rank) k = cell (j 0) k := fun k => by
    funext a
    match a with
    | 0 => rfl
    | 1 => rfl
  have hk := sorted_unique x f (j 0) (hf _) (fun k => plain_of_pre x h _) (j 1)
  rw [← show (fun k => j.along (1 : Fin S128x32768.rank) k) = cell (j 0) from funext ha] at hk
  exact (congrArg f (cell_self j).symm).trans ((congrArg f (ha (j 1)).symm).trans hk)

/-! ## The claims -/

/-- The program's frame under the precondition. -/
theorem frame_pre : Cert.quiescent_Kernel_pre_plus_zero_normal_or_inf := fun m ρ _ =>
  (θ_run Cert.Kernel.defs _ _).mono (fun _ h => ⟨fun c => (h.1 c).1, h.2⟩) (run_main (F := Bits) m ρ)

/-- The reference runs, its argument unchanged; it has no semaphores. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's frame under the precondition. -/
theorem frame_ref_pre : Cert.quiescent_Reference_pre_plus_zero_normal_or_inf := fun m ρ _ => frame_ref m ρ trivial

/-- The program's result is the reference's, word for word. -/
theorem bitexact : Cert.bitexact_Kernel_Reference_pre_plus_zero_normal_or_inf := by
  intro m ρ m' ρ' hpre hagree
  refine ⟨fun c => Host.sort S128x32768 1 (Cert.Reference.comparator_f32_d1 (F := Bits)) (m (xLoc c)),
    (θ_run Cert.Kernel.defs _ _).mono (fun r h c => ⟨?_, (h.1 c).1⟩) (run_main (F := Bits) m ρ),
    (θ_run Cert.Reference.defs _ _).mono (fun r h c => ⟨(h c).1.trans ?_, (h c).2⟩) (Cert.Reference.Value.run (F := Bits) m' ρ')⟩
  · obtain ⟨f, hf, hr⟩ := (h.1 c).2
    exact hr.trans (sort_eq (m (xLoc c)) f (hpre c) hf)
  · rw [hagree c]

end Cert.Kernel.Radix
-- ==== Proof.lean ====
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Gen.Pre_plus_zero_normal_or_inf
public import proofs.«01_k».proof.Proof.Value
public import Idealize.ShloMosaic.Adequacy
public import Idealize.ShloMosaic.Init

@[expose] public section

noncomputable section

namespace Cert.Proof

open Cert.Kernel

/-- Everything the certificate claims. -/
theorem claim : Cert.Claim :=
  ⟨Cert.Kernel.Gen.facts, Cert.Reference.Gen.facts, Cert.Pre_plus_zero_normal_or_inf.Gen.facts,
    Radix.frame, Radix.frame_pre, Radix.frame_ref, Radix.frame_ref_pre, Radix.bitexact⟩

end Cert.Proof

end
